-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11))).2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11))).2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11))).2.2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11))).2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11))).2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11))).2.2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 [hPre_core13 : Cert.Pre_core13.Facts] (m : (ℓ : Loc Cert.Kernel13.nD Cert.Kernel13.τ Cert.Kernel13.sig) → Buf (Elt Bits) ℓ) : Prop :=
  ∀ c : Dev Cert.Kernel13.nD,
    (Cert.Pre_core13.fn (F := Bits) (m ((c.tc : Thread Cert.Kernel13.nD Cert.Kernel13.τ).loc Cert.Kernel13.main_arg0)) (m ((c.tc : Thread Cert.Kernel13.nD Cert.Kernel13.τ).loc Cert.Kernel13.main_arg1)) (m ((c.tc : Thread Cert.Kernel13.nD Cert.Kernel13.τ).loc Cert.Kernel13.main_arg2)) (m ((c.tc : Thread Cert.Kernel13.nD Cert.Kernel13.τ).loc Cert.Kernel13.main_arg3)) (m ((c.tc : Thread Cert.Kernel13.nD Cert.Kernel13.τ).loc Cert.Kernel13.main_arg4)) (m ((c.tc : Thread Cert.Kernel13.nD Cert.Kernel13.τ).loc Cert.Kernel13.main_arg5)) (m ((c.tc : Thread Cert.Kernel13.nD Cert.Kernel13.τ).loc Cert.Kernel13.main_arg6))) = (fun _ => 1#1)

def Pre_Kernel13Ideal [hPre_core13 : Cert.Pre_core13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_core13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_core13 [hPre_core13 : Cert.Pre_core13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_core13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7))
      ∧ r.2.sem = fun _ => 0)

def quiescent_Kernel13 [hKernel13 : Cert.Kernel13.Facts] [hPre_core13 : Cert.Pre_core13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6))
      ∧ r.2.sem = fun _ => 0)

def quiescent_Kernel13Ideal [hKernel13Ideal : Cert.Kernel13Ideal.Facts] [hPre_core13 : Cert.Pre_core13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Reference13Ideal_pre_core13 [hReference13Ideal : Cert.Reference13Ideal.Facts] [hPre_core13 : Cert.Pre_core13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_core13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_v93) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)) (v2 : (c : Dev Cert.Kernel3Ideal.nD) → Buf (Elt Ideal) ((c.tc : Thread Cert.Kernel3Ideal.nD Cert.Kernel3Ideal.τ).loc Cert.Kernel3Ideal.main_v11_2)) (v3 : (c : Dev Cert.Kernel3Ideal.nD) → Buf (Elt Ideal) ((c.tc : Thread Cert.Kernel3Ideal.nD Cert.Kernel3Ideal.τ).loc Cert.Kernel3Ideal.main_v11_3)) (v4 : (c : Dev Cert.Kernel3Ideal.nD) → Buf (Elt Ideal) ((c.tc : Thread Cert.Kernel3Ideal.nD Cert.Kernel3Ideal.τ).loc Cert.Kernel3Ideal.main_v11_4)) (v5 : (c : Dev Cert.Kernel3Ideal.nD) → Buf (Elt Ideal) ((c.tc : Thread Cert.Kernel3Ideal.nD Cert.Kernel3Ideal.τ).loc Cert.Kernel3Ideal.main_v11_5)) (v6 : (c : Dev Cert.Kernel3Ideal.nD) → Buf (Elt Ideal) ((c.tc : Thread Cert.Kernel3Ideal.nD Cert.Kernel3Ideal.τ).loc Cert.Kernel3Ideal.main_v11_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_v11_2) = v2 c
          ∧ r.2.mem ((c.tc : Thread Cert.Kernel3Ideal.nD Cert.Kernel3Ideal.τ).loc Cert.Kernel3Ideal.main_v11_3) = v3 c
          ∧ r.2.mem ((c.tc : Thread Cert.Kernel3Ideal.nD Cert.Kernel3Ideal.τ).loc Cert.Kernel3Ideal.main_v11_4) = v4 c
          ∧ r.2.mem ((c.tc : Thread Cert.Kernel3Ideal.nD Cert.Kernel3Ideal.τ).loc Cert.Kernel3Ideal.main_v11_5) = v5 c
          ∧ r.2.mem ((c.tc : Thread Cert.Kernel3Ideal.nD Cert.Kernel3Ideal.τ).loc Cert.Kernel3Ideal.main_v11_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v93) = v0 c
          ∧ r.2.mem ((c.tc : Thread Cert.Reference3Ideal.nD Cert.Reference3Ideal.τ).loc Cert.Reference3Ideal.main_v97) = v1 c
          ∧ r.2.mem ((c.tc : Thread Cert.Reference3Ideal.nD Cert.Reference3Ideal.τ).loc Cert.Reference3Ideal.main_v101) = v2 c
          ∧ r.2.mem ((c.tc : Thread Cert.Reference3Ideal.nD Cert.Reference3Ideal.τ).loc Cert.Reference3Ideal.main_v90) = v3 c
          ∧ r.2.mem ((c.tc : Thread Cert.Reference3Ideal.nD Cert.Reference3Ideal.τ).loc Cert.Reference3Ideal.main_v102) = v4 c
          ∧ r.2.mem ((c.tc : Thread Cert.Reference3Ideal.nD Cert.Reference3Ideal.τ).loc Cert.Reference3Ideal.main_v103) = v5 c
          ∧ r.2.mem ((c.tc : Thread Cert.Reference3Ideal.nD Cert.Reference3Ideal.τ).loc Cert.Reference3Ideal.main_v104) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v63_0)) (v1 : (c : Dev Cert.Kernel4Ideal.nD) → Buf (Elt Ideal) ((c.tc : Thread Cert.Kernel4Ideal.nD Cert.Kernel4Ideal.τ).loc Cert.Kernel4Ideal.main_v63_1)) (v2 : (c : Dev Cert.Kernel4Ideal.nD) → Buf (Elt Ideal) ((c.tc : Thread Cert.Kernel4Ideal.nD Cert.Kernel4Ideal.τ).loc Cert.Kernel4Ideal.main_v63_2)) (v3 : (c : Dev Cert.Kernel4Ideal.nD) → Buf (Elt Ideal) ((c.tc : Thread Cert.Kernel4Ideal.nD Cert.Kernel4Ideal.τ).loc Cert.Kernel4Ideal.main_v63_3)) (v4 : (c : Dev Cert.Kernel4Ideal.nD) → Buf (Elt Ideal) ((c.tc : Thread Cert.Kernel4Ideal.nD Cert.Kernel4Ideal.τ).loc Cert.Kernel4Ideal.main_v63_4)) (v5 : (c : Dev Cert.Kernel4Ideal.nD) → Buf (Elt Ideal) ((c.tc : Thread Cert.Kernel4Ideal.nD Cert.Kernel4Ideal.τ).loc Cert.Kernel4Ideal.main_v63_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v63_0) = v0 c
          ∧ r.2.mem ((c.tc : Thread Cert.Kernel4Ideal.nD Cert.Kernel4Ideal.τ).loc Cert.Kernel4Ideal.main_v63_1) = v1 c
          ∧ r.2.mem ((c.tc : Thread Cert.Kernel4Ideal.nD Cert.Kernel4Ideal.τ).loc Cert.Kernel4Ideal.main_v63_2) = v2 c
          ∧ r.2.mem ((c.tc : Thread Cert.Kernel4Ideal.nD Cert.Kernel4Ideal.τ).loc Cert.Kernel4Ideal.main_v63_3) = v3 c
          ∧ r.2.mem ((c.tc : Thread Cert.Kernel4Ideal.nD Cert.Kernel4Ideal.τ).loc Cert.Kernel4Ideal.main_v63_4) = v4 c
          ∧ r.2.mem ((c.tc : Thread Cert.Kernel4Ideal.nD Cert.Kernel4Ideal.τ).loc Cert.Kernel4Ideal.main_v63_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v138) = v0 c
          ∧ r.2.mem ((c.tc : Thread Cert.Reference4Ideal.nD Cert.Reference4Ideal.τ).loc Cert.Reference4Ideal.main_v141) = v1 c
          ∧ r.2.mem ((c.tc : Thread Cert.Reference4Ideal.nD Cert.Reference4Ideal.τ).loc Cert.Reference4Ideal.main_v90) = v2 c
          ∧ r.2.mem ((c.tc : Thread Cert.Reference4Ideal.nD Cert.Reference4Ideal.τ).loc Cert.Reference4Ideal.main_v142) = v3 c
          ∧ r.2.mem ((c.tc : Thread Cert.Reference4Ideal.nD Cert.Reference4Ideal.τ).loc Cert.Reference4Ideal.main_v143) = v4 c
          ∧ r.2.mem ((c.tc : Thread Cert.Reference4Ideal.nD Cert.Reference4Ideal.τ).loc Cert.Reference4Ideal.main_v144) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v21_0)) (v1 : (c : Dev Cert.Kernel5Ideal.nD) → Buf (Elt Ideal) ((c.tc : Thread Cert.Kernel5Ideal.nD Cert.Kernel5Ideal.τ).loc Cert.Kernel5Ideal.main_v21_1)) (v2 : (c : Dev Cert.Kernel5Ideal.nD) → Buf (Elt Ideal) ((c.tc : Thread Cert.Kernel5Ideal.nD Cert.Kernel5Ideal.τ).loc Cert.Kernel5Ideal.main_v21_2)) (v3 : (c : Dev Cert.Kernel5Ideal.nD) → Buf (Elt Ideal) ((c.tc : Thread Cert.Kernel5Ideal.nD Cert.Kernel5Ideal.τ).loc Cert.Kernel5Ideal.main_v21_3)) (v4 : (c : Dev Cert.Kernel5Ideal.nD) → Buf (Elt Ideal) ((c.tc : Thread Cert.Kernel5Ideal.nD Cert.Kernel5Ideal.τ).loc Cert.Kernel5Ideal.main_v21_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v21_0) = v0 c
          ∧ r.2.mem ((c.tc : Thread Cert.Kernel5Ideal.nD Cert.Kernel5Ideal.τ).loc Cert.Kernel5Ideal.main_v21_1) = v1 c
          ∧ r.2.mem ((c.tc : Thread Cert.Kernel5Ideal.nD Cert.Kernel5Ideal.τ).loc Cert.Kernel5Ideal.main_v21_2) = v2 c
          ∧ r.2.mem ((c.tc : Thread Cert.Kernel5Ideal.nD Cert.Kernel5Ideal.τ).loc Cert.Kernel5Ideal.main_v21_3) = v3 c
          ∧ r.2.mem ((c.tc : Thread Cert.Kernel5Ideal.nD Cert.Kernel5Ideal.τ).loc Cert.Kernel5Ideal.main_v21_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v603) = v0 c
          ∧ r.2.mem ((c.tc : Thread Cert.Reference5Ideal.nD Cert.Reference5Ideal.τ).loc Cert.Reference5Ideal.main_v606) = v1 c
          ∧ r.2.mem ((c.tc : Thread Cert.Reference5Ideal.nD Cert.Reference5Ideal.τ).loc Cert.Reference5Ideal.main_v607) = v2 c
          ∧ r.2.mem ((c.tc : Thread Cert.Reference5Ideal.nD Cert.Reference5Ideal.τ).loc Cert.Reference5Ideal.main_v608) = v3 c
          ∧ r.2.mem ((c.tc : Thread Cert.Reference5Ideal.nD Cert.Reference5Ideal.τ).loc Cert.Reference5Ideal.main_v609) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  IdealRules.named_const.Statement Cert.Kernel6Ideal.κ "slope_0" .f32 0x3F3504F3#32 (((Real.sqrt 2)⁻¹ : ℝ) : EReal)
  ∧ IdealRules.named_const.Statement Cert.Kernel6Ideal.κ "masked" .f32 0xF149F2CA#32 ⊥
  ∧ IdealRules.named_const.Statement Cert.Kernel6Ideal.κ "slope_1" .f32 0x3EB504F3#32 (((Real.sqrt 8)⁻¹ : ℝ) : EReal)
  ∧ IdealRules.named_const.Statement Cert.Kernel6Ideal.κ "slope_2" .f32 0x3E3504F3#32 (((Real.sqrt 32)⁻¹ : ℝ) : EReal)
  ∧ IdealRules.named_const.Statement Cert.Kernel6Ideal.κ "slope_3" .f32 0x3DB504F3#32 (((Real.sqrt 128)⁻¹ : ℝ) : EReal)
  ∧ IdealRules.named_const.Statement Cert.Kernel6Ideal.κ "slope_4" .f32 0x3D3504F3#32 (((Real.sqrt 512)⁻¹ : ℝ) : EReal)
  ∧ IdealRules.named_const.Statement Cert.Kernel6Ideal.κ "slope_5" .f32 0x3CB504F3#32 (((Real.sqrt 2048)⁻¹ : ℝ) : EReal)
  ∧ IdealRules.named_const.Statement Cert.Kernel6Ideal.κ "slope_6" .f32 0x3C3504F3#32 (((Real.sqrt 8192)⁻¹ : ℝ) : EReal)
  ∧ IdealRules.named_const.Statement Cert.Kernel6Ideal.κ "slope_7" .f32 0x3BB504F3#32 (((Real.sqrt 32768)⁻¹ : ℝ) : EReal)

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)) →
    ∃ (v0 : (c : Dev Cert.Kernel6Ideal.nD) → Buf (Elt Ideal) ((c.tc : Thread Cert.Kernel6Ideal.nD Cert.Kernel6Ideal.τ).loc Cert.Kernel6Ideal.main_v11_0)) (v1 : (c : Dev Cert.Kernel6Ideal.nD) → Buf (Elt Ideal) ((c.tc : Thread Cert.Kernel6Ideal.nD Cert.Kernel6Ideal.τ).loc Cert.Kernel6Ideal.main_v11_1)) (v2 : (c : Dev Cert.Kernel6Ideal.nD) → Buf (Elt Ideal) ((c.tc : Thread Cert.Kernel6Ideal.nD Cert.Kernel6Ideal.τ).loc Cert.Kernel6Ideal.main_v11_2)) (v3 : (c : Dev Cert.Kernel6Ideal.nD) → Buf (Elt Ideal) ((c.tc : Thread Cert.Kernel6Ideal.nD Cert.Kernel6Ideal.τ).loc Cert.Kernel6Ideal.main_v11_3)) (v4 : (c : Dev Cert.Kernel6Ideal.nD) → Buf (Elt Ideal) ((c.tc : Thread Cert.Kernel6Ideal.nD Cert.Kernel6Ideal.τ).loc Cert.Kernel6Ideal.main_v11_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11_0) = v0 c
          ∧ r.2.mem ((c.tc : Thread Cert.Kernel6Ideal.nD Cert.Kernel6Ideal.τ).loc Cert.Kernel6Ideal.main_v11_1) = v1 c
          ∧ r.2.mem ((c.tc : Thread Cert.Kernel6Ideal.nD Cert.Kernel6Ideal.τ).loc Cert.Kernel6Ideal.main_v11_2) = v2 c
          ∧ r.2.mem ((c.tc : Thread Cert.Kernel6Ideal.nD Cert.Kernel6Ideal.τ).loc Cert.Kernel6Ideal.main_v11_3) = v3 c
          ∧ r.2.mem ((c.tc : Thread Cert.Kernel6Ideal.nD Cert.Kernel6Ideal.τ).loc Cert.Kernel6Ideal.main_v11_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v110) = v0 c
          ∧ r.2.mem ((c.tc : Thread Cert.Reference6Ideal.nD Cert.Reference6Ideal.τ).loc Cert.Reference6Ideal.main_v112) = v1 c
          ∧ r.2.mem ((c.tc : Thread Cert.Reference6Ideal.nD Cert.Reference6Ideal.τ).loc Cert.Reference6Ideal.main_v114) = v2 c
          ∧ r.2.mem ((c.tc : Thread Cert.Reference6Ideal.nD Cert.Reference6Ideal.τ).loc Cert.Reference6Ideal.main_v108) = v3 c
          ∧ r.2.mem ((c.tc : Thread Cert.Reference6Ideal.nD Cert.Reference6Ideal.τ).loc Cert.Reference6Ideal.main_v138) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v11_0)) (v1 : (c : Dev Cert.Kernel7Ideal.nD) → Buf (Elt Ideal) ((c.tc : Thread Cert.Kernel7Ideal.nD Cert.Kernel7Ideal.τ).loc Cert.Kernel7Ideal.main_v11_1)) (v2 : (c : Dev Cert.Kernel7Ideal.nD) → Buf (Elt Ideal) ((c.tc : Thread Cert.Kernel7Ideal.nD Cert.Kernel7Ideal.τ).loc Cert.Kernel7Ideal.main_v11_2)) (v3 : (c : Dev Cert.Kernel7Ideal.nD) → Buf (Elt Ideal) ((c.tc : Thread Cert.Kernel7Ideal.nD Cert.Kernel7Ideal.τ).loc Cert.Kernel7Ideal.main_v11_3)) (v4 : (c : Dev Cert.Kernel7Ideal.nD) → Buf (Elt Ideal) ((c.tc : Thread Cert.Kernel7Ideal.nD Cert.Kernel7Ideal.τ).loc Cert.Kernel7Ideal.main_v11_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v11_0) = v0 c
          ∧ r.2.mem ((c.tc : Thread Cert.Kernel7Ideal.nD Cert.Kernel7Ideal.τ).loc Cert.Kernel7Ideal.main_v11_1) = v1 c
          ∧ r.2.mem ((c.tc : Thread Cert.Kernel7Ideal.nD Cert.Kernel7Ideal.τ).loc Cert.Kernel7Ideal.main_v11_2) = v2 c
          ∧ r.2.mem ((c.tc : Thread Cert.Kernel7Ideal.nD Cert.Kernel7Ideal.τ).loc Cert.Kernel7Ideal.main_v11_3) = v3 c
          ∧ r.2.mem ((c.tc : Thread Cert.Kernel7Ideal.nD Cert.Kernel7Ideal.τ).loc Cert.Kernel7Ideal.main_v11_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v16) = v0 c
          ∧ r.2.mem ((c.tc : Thread Cert.Reference7Ideal.nD Cert.Reference7Ideal.τ).loc Cert.Reference7Ideal.main_v20) = v1 c
          ∧ r.2.mem ((c.tc : Thread Cert.Reference7Ideal.nD Cert.Reference7Ideal.τ).loc Cert.Reference7Ideal.main_v24) = v2 c
          ∧ r.2.mem ((c.tc : Thread Cert.Reference7Ideal.nD Cert.Reference7Ideal.τ).loc Cert.Reference7Ideal.main_v13) = v3 c
          ∧ r.2.mem ((c.tc : Thread Cert.Reference7Ideal.nD Cert.Reference7Ideal.τ).loc Cert.Reference7Ideal.main_v48) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)) (v2 : (c : Dev Cert.Kernel8Ideal.nD) → Buf (Elt Ideal) ((c.tc : Thread Cert.Kernel8Ideal.nD Cert.Kernel8Ideal.τ).loc Cert.Kernel8Ideal.main_v4_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_v4_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_v7) = v1 c
          ∧ r.2.mem ((c.tc : Thread Cert.Reference8Ideal.nD Cert.Reference8Ideal.τ).loc Cert.Reference8Ideal.main_v14) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)) →
    ∃ (v0 : (c : Dev Cert.Kernel9Ideal.nD) → Buf (Elt Ideal) ((c.tc : Thread Cert.Kernel9Ideal.nD Cert.Kernel9Ideal.τ).loc Cert.Kernel9Ideal.main_v23_0)) (v1 : (c : Dev Cert.Kernel9Ideal.nD) → Buf (Elt Ideal) ((c.tc : Thread Cert.Kernel9Ideal.nD Cert.Kernel9Ideal.τ).loc Cert.Kernel9Ideal.main_v23_1)) (v2 : (c : Dev Cert.Kernel9Ideal.nD) → Buf (Elt Ideal) ((c.tc : Thread Cert.Kernel9Ideal.nD Cert.Kernel9Ideal.τ).loc Cert.Kernel9Ideal.main_v23_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v23_0) = v0 c
          ∧ r.2.mem ((c.tc : Thread Cert.Kernel9Ideal.nD Cert.Kernel9Ideal.τ).loc Cert.Kernel9Ideal.main_v23_1) = v1 c
          ∧ r.2.mem ((c.tc : Thread Cert.Kernel9Ideal.nD Cert.Kernel9Ideal.τ).loc Cert.Kernel9Ideal.main_v23_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v235) = v0 c
          ∧ r.2.mem ((c.tc : Thread Cert.Reference9Ideal.nD Cert.Reference9Ideal.τ).loc Cert.Reference9Ideal.main_v267) = v1 c
          ∧ r.2.mem ((c.tc : Thread Cert.Reference9Ideal.nD Cert.Reference9Ideal.τ).loc Cert.Reference9Ideal.main_v291) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)) (v4 : (c : Dev Cert.Kernel12Ideal.nD) → Buf (Elt Ideal) ((c.tc : Thread Cert.Kernel12Ideal.nD Cert.Kernel12Ideal.τ).loc Cert.Kernel12Ideal.main_v0_4)) (v5 : (c : Dev Cert.Kernel12Ideal.nD) → Buf (Elt Ideal) ((c.tc : Thread Cert.Kernel12Ideal.nD Cert.Kernel12Ideal.τ).loc Cert.Kernel12Ideal.main_v0_5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_v0_4) = v4 c
          ∧ r.2.mem ((c.tc : Thread Cert.Kernel12Ideal.nD Cert.Kernel12Ideal.τ).loc Cert.Kernel12Ideal.main_v0_5) = v5 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_v47) = v3 c
          ∧ r.2.mem ((c.tc : Thread Cert.Reference12Ideal.nD Cert.Reference12Ideal.τ).loc Cert.Reference12Ideal.main_v28) = v4 c
          ∧ r.2.mem ((c.tc : Thread Cert.Reference12Ideal.nD Cert.Reference12Ideal.τ).loc Cert.Reference12Ideal.main_v34) = v5 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7))

def preserves_Kernel13_Kernel13Ideal : Prop :=
  True

def algebraic_Kernel13Ideal_Reference13Ideal [hKernel13Ideal : Cert.Kernel13Ideal.Facts] [hReference13Ideal : Cert.Reference13Ideal.Facts] [hPre_core13 : Cert.Pre_core13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_v15) = v1 c
          ∧ r.2.mem ((c.tc : Thread Cert.Reference13Ideal.nD Cert.Reference13Ideal.τ).loc Cert.Reference13Ideal.main_v23) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite3 : Cert.Pre_finite3.Facts) (hPre_finite4 : Cert.Pre_finite4.Facts) (hPre_finite6 : Cert.Pre_finite6.Facts) (hPre_finite7 : Cert.Pre_finite7.Facts) (hPre_core13 : Cert.Pre_core13.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13) (hPre_core13 := hPre_core13)
    ∧ quiescent_Kernel13Ideal (hKernel13Ideal := hKernel13Ideal) (hPre_core13 := hPre_core13)
    ∧ quiescent_Reference13Ideal (hReference13Ideal := hReference13Ideal)
    ∧ quiescent_Reference13Ideal_pre_core13 (hReference13Ideal := hReference13Ideal) (hPre_core13 := hPre_core13)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal) (hPre_core13 := hPre_core13)
-- ==== Pre_core13.lean ====
abbrev S1 : Shape := ⟨1, ![1]⟩
abbrev S4x2x512x704 : Shape := ⟨4, ![4, 2, 512, 704]⟩
abbrev S4x2x352x1024 : Shape := ⟨4, ![4, 2, 352, 1024]⟩
abbrev S4x512x704 : Shape := ⟨3, ![4, 512, 704]⟩
abbrev S4x352x1024 : Shape := ⟨3, ![4, 352, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x2x512x704 .f32) (main_arg2 : FVec F S4x2x512x704 .f32) (main_arg3 : FVec F S4x2x352x1024 .f32) (main_arg4 : FVec F S4x512x704 .f32) (main_arg5 : FVec F S4x512x704 .f32) (main_arg6 : FVec F S4x352x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 1#32
  let main_v2 : IVec S1 32 := broadcastInDim S1 ![] bcast_S_S1 main_c_0
  let main_v3 : IVec S1 1 := cmpi .sle main_arg0 main_v2
  let main_v4 : IVec S1 1 := andi main_v1 main_v3
  main_v4
-- ==== Pre_finite.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩

class Facts : Prop where
  bcast_S_S1024 : S_.BroadcastsInDim S1024 (![] : Fin 0 → Fin S1024.rank)
  bcast_S_S1024x1024 : S_.BroadcastsInDim S1024x1024 (![] : Fin 0 → Fin S1024x1024.rank)
  bcast_S_S16384x1024 : S_.BroadcastsInDim S16384x1024 (![] : Fin 0 → Fin S16384x1024.rank)

variable [Facts]

def fn {F : FTy → Type} [FloatOps F] (main_arg0 : FVec F S16384x1024 .f32) (main_arg1 : FVec F S1024 .f32) (main_arg2 : FVec F S1024 .f32) (main_arg3 : FVec F S1024x1024 .f32) (main_arg4 : FVec F S16384x1024 .f32) : IVec S1024 1 × IVec S1024x1024 1 × IVec S16384x1024 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x1024 .f32 := Host.absf main_arg3
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S16384x1024 .f32 := Host.absf main_arg4
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  (main_v2, main_v5, main_v8)
-- ==== Pre_finite3.lean ====
abbrev S16384x1024 : Shape := ⟨2, ![16384, 1024]⟩
abbrev S2x1024x2816 : Shape := ⟨3, ![2, 1024, 2816]⟩
abbrev S2x2816x1024 : Shape := ⟨3, ![2, 2816, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  bcast_S_S2x1024x2816 : S_.BroadcastsInDim S2x1024x2816 (![] : Fin 0 → Fin S2x1024x2816.rank)
  bcast_S_S1024 : S_.BroadcastsInDim S1024 (![] : Fin 0 → Fin S1024.rank)

variable [Facts]

def fn {F : FTy → Type} [FloatOps F] (main_arg0 : FVec F S16384x1024 .f32) (main_arg1 : FVec F S2x1024x2816 .f32) (main_arg2 : FVec F S2x1024x2816 .f32) (main_arg3 : FVec F S2x2816x1024 .f32) (main_arg4 : FVec F S1024 .f32) (main_arg5 : FVec F S1024 .f32) (main_arg6 : FVec F S16384x1024 .f32) : IVec S16384x1024 1 × IVec S2x1024x2816 1 × IVec S1024 1 × IVec S1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S2x1024x2816 .f32 := Host.absf main_arg2
  let main_cst_0 : FVec F S_ .f32 := constant S_ .f32 0x7F800000#32
  let main_v4 : FVec F S2x1024x2816 .f32 := broadcastInDim S2x1024x2816 ![] bcast_S_S2x1024x2816 main_cst_0
  let main_v5 : IVec S2x1024x2816 1 := cmpf .olt main_v3 main_v4
  let main_v6 : FVec F S1024 .f32 := Host.absf main_arg4
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg5
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S16384x1024 .f32 := Host.absf main_arg6
  let main_cst_3 : FVec F S_ .f32 := constant S_ .f32 0x7F800000#32
  let main_v13 : FVec F S16384x1024 .f32 := broadcastInDim S16384x1024 ![] bcast_S_S16384x1024 main_cst_3
  let main_v14 : IVec S16384x1024 1 := cmpf .olt main_v12 main_v13
  (main_v2, main_v5, main_v8, main_v11, main_v14)
-- ==== Pre_finite4.lean ====
abbrev S16384x1024 : Shape := ⟨2, ![16384, 1024]⟩
abbrev S1024 : Shape := ⟨1, ![1024]⟩
abbrev S2x1024x2816 : Shape := ⟨3, ![2, 1024, 2816]⟩
abbrev S2x2816x1024 : Shape := ⟨3, ![2, 2816, 1024]⟩
abbrev S_ : Shape := ⟨0, ![]⟩

class Facts : Prop where
  bcast_S_S1024 : S_.BroadcastsInDim S1024 (![] : Fin 0 → Fin S1024.rank)
  bcast_S_S2x1024x2816 : S_.BroadcastsInDim S2x1024x2816 (![] : Fin 0 → Fin S2x1024x2816.rank)
  bcast_S_S2x2816x1024 : S_.BroadcastsInDim S2x2816x1024 (![] : Fin 0 → Fin S2x2816x1024.rank)
  bcast_S_S16384x1024 : S_.BroadcastsInDim S16384x1024 (![] : Fin 0 → Fin S16384x1024.rank)

variable [Facts]

def fn {F : FTy → Type} [FloatOps F] (main_arg0 : FVec F S16384x1024 .f32) (main_arg1 : FVec F S1024 .f32) (main_arg2 : FVec F S1024 .f32) (main_arg3 : FVec F S1024 .f32) (main_arg4 : FVec F S2x1024x2816 .f32) (main_arg5 : FVec F S2x1024x2816 .f32) (main_arg6 : FVec F S2x2816x1024 .f32) (main_arg7 : FVec F S16384x1024 .f32) : IVec S1024 1 × IVec S1024 1 × IVec S2x1024x2816 1 × IVec S2x1024x2816 1 × IVec S2x2816x1024 1 × IVec S16384x1024 1 :=
  let main_v0 : FVec F S1024 .f32 := Host.absf main_arg2
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024 .f32 := Host.absf main_arg3
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S2x1024x2816 .f32 := Host.absf main_arg4
  let main_cst_1 : FVec F S_ .f32 := constant S_ .f32 0x7F800000#32
  let main_v7 : FVec F S2x1024x2816 .f32 := broadcastInDim S2x1024x2816 ![] bcast_S_S2x1024x2816 main_cst_1
  let main_v8 : IVec S2x1024x2816 1 := cmpf .olt main_v6 main_v7
  let main_v9 : FVec F S2x1024x2816 .f32 := Host.absf main_arg5
  let main_cst_2 : FVec F S_ .f32 := constant S_ .f32 0x7F800000#32
  let main_v10 : FVec F S2x1024x2816 .f32 := broadcastInDim S2x1024x2816 ![] bcast_S_S2x1024x2816 main_cst_2
  let main_v11 : IVec S2x1024x2816 1 := cmpf .olt main_v9 main_v10
  let main_v12 : FVec F S2x2816x1024 .f32 := Host.absf main_arg6
  let main_cst_3 : FVec F S_ .f32 := constant S_ .f32 0x7F800000#32
  let main_v13 : FVec F S2x2816x1024 .f32 := broadcastInDim S2x2816x1024 ![] bcast_S_S2x2816x1024 main_cst_3
  let main_v14 : IVec S2x2816x1024 1 := cmpf .olt main_v12 main_v13
  let main_v15 : FVec F S16384x1024 .f32 := Host.absf main_arg7
  let main_cst_4 : FVec F S_ .f32 := constant S_ .f32 0x7F800000#32
  let main_v16 : FVec F S16384x1024 .f32 := broadcastInDim S16384x1024 ![] bcast_S_S16384x1024 main_cst_4
  let main_v17 : IVec S16384x1024 1 := cmpf .olt main_v15 main_v16
  (main_v2, main_v5, main_v8, main_v11, main_v14, main_v17)
-- ==== Pre_finite6.lean ====
abbrev S16384x1024 : Shape := ⟨2, ![16384, 1024]⟩
abbrev S1024x128 : Shape := ⟨2, ![1024, 128]⟩
abbrev S128 : Shape := ⟨1, ![128]⟩
abbrev S1024x1024 : Shape := ⟨2, ![1024, 1024]⟩
abbrev S1024 : Shape := ⟨1, ![1024]⟩
abbrev S16 : Shape := ⟨1, ![16]⟩
abbrev S_ : Shape := ⟨0, ![]⟩

class Facts : Prop where
  bcast_S_S16384x1024 : S_.BroadcastsInDim S16384x1024 (![] : Fin 0 → Fin S16384x1024.rank)
  bcast_S_S1024x128 : S_.BroadcastsInDim S1024x128 (![] : Fin 0 → Fin S1024x128.rank)
  bcast_S_S128 : S_.BroadcastsInDim S128 (![] : Fin 0 → Fin S128.rank)
  bcast_S_S1024x1024 : S_.BroadcastsInDim S1024x1024 (![] : Fin 0 → Fin S1024x1024.rank)
  bcast_S_S1024 : S_.BroadcastsInDim S1024 (![] : Fin 0 → Fin S1024.rank)
  bcast_S_S16 : S_.BroadcastsInDim S16 (![] : Fin 0 → Fin S16.rank)

variable [Facts]

def fn {F : FTy → Type} [FloatOps F] (main_arg0 : FVec F S16384x1024 .f32) (main_arg1 : FVec F S1024x128 .f32) (main_arg2 : FVec F S128 .f32) (main_arg3 : FVec F S1024x128 .f32) (main_arg4 : FVec F S128 .f32) (main_arg5 : FVec F S1024x1024 .f32) (main_arg6 : FVec F S1024 .f32) (main_arg7 : FVec F S16 .f32) (main_arg8 : FVec F S1024x1024 .f32) (main_arg9 : FVec F S1024 .f32) (main_arg10 : FVec F S1024 .f32) (main_arg11 : FVec F S1024 .f32) : IVec S16384x1024 1 × IVec S1024x128 1 × IVec S128 1 × IVec S1024x1024 1 × IVec S1024 1 × IVec S16 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024x128 .f32 := Host.absf main_arg1
  let main_cst_0 : FVec F S_ .f32 := constant S_ .f32 0x7F800000#32
  let main_v4 : FVec F S1024x128 .f32 := broadcastInDim S1024x128 ![] bcast_S_S1024x128 main_cst_0
  let main_v5 : IVec S1024x128 1 := cmpf .olt main_v3 main_v4
  let main_v6 : FVec F S128 .f32 := Host.absf main_arg2
  let main_cst_1 : FVec F S_ .f32 := constant S_ .f32 0x7F800000#32
  let main_v7 : FVec F S128 .f32 := broadcastInDim S128 ![] bcast_S_S128 main_cst_1
  let main_v8 : IVec S128 1 := cmpf .olt main_v6 main_v7
  let main_v9 : FVec F S1024x1024 .f32 := Host.absf main_arg5
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S1024 .f32 := Host.absf main_arg6
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S16 .f32 := Host.absf main_arg7
  let main_cst_4 : FVec F S_ .f32 := constant S_ .f32 0x7F800000#32
  let main_v16 : FVec F S16 .f32 := broadcastInDim S16 ![] bcast_S_S16 main_cst_4
  let main_v17 : IVec S16 1 := cmpf .olt main_v15 main_v16
  (main_v2, main_v5, main_v8, main_v11, main_v14, main_v17)
-- ==== Pre_finite7.lean ====
abbrev S16384x1024 : Shape := ⟨2, ![16384, 1024]⟩
abbrev S2x1024x2816 : Shape := ⟨3, ![2, 1024, 2816]⟩
abbrev S2x2816x1024 : Shape := ⟨3, ![2, 2816, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  bcast_S_S2x1024x2816 : S_.BroadcastsInDim S2x1024x2816 (![] : Fin 0 → Fin S2x1024x2816.rank)

variable [Facts]

def fn {F : FTy → Type} [FloatOps F] (main_arg0 : FVec F S16384x1024 .f32) (main_arg1 : FVec F S2x1024x2816 .f32) (main_arg2 : FVec F S2x1024x2816 .f32) (main_arg3 : FVec F S2x2816x1024 .f32) (main_arg4 : FVec F S1024 .f32) (main_arg5 : FVec F S1024 .f32) : IVec S16384x1024 1 × IVec S2x1024x2816 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S2x1024x2816 .f32 := Host.absf main_arg2
  let main_cst_0 : FVec F S_ .f32 := constant S_ .f32 0x7F800000#32
  let main_v4 : FVec F S2x1024x2816 .f32 := broadcastInDim S2x1024x2816 ![] bcast_S_S2x1024x2816 main_cst_0
  let main_v5 : IVec S2x1024x2816 1 := cmpf .olt main_v3 main_v4
  (main_v2, main_v5)
-- ==== Kernel.lean ====
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S64x8x1024 : Shape := ⟨3, ![64, 8, 1024]⟩

abbrev nBuf : Space → Nat
  | .hbm => 12
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S16384x1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S16384x1024, .bf16⟩
  | .hbm, ⟨9, _⟩ => ⟨S16384x1024, .f32⟩
  | .hbm, ⟨10, _⟩ => ⟨S1x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S8x1024, .f32⟩
  | .local _ .vmem, ⟨14, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v80 : BitVec 1 := Scalar.cmpi .eq arg0 c31_i32
  let v81 : BitVec 32 := Scalar.extui v80
  let c0_i32_37 : BitVec 32 := 0#32
  let v82 : BitVec 1 := Scalar.cmpi .ne v81 c0_i32_37
  v82

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 145
  | .vmem => 0
  | .smem => 0
  | _ => 0

abbrev hbmTy0_0 (i : Nat) : BufTy := match i % 128 with
  | 0 => ⟨S16384x1024, .f32⟩
  | 1 => ⟨S1024, .f32⟩
  | 2 => ⟨S1024, .f32⟩
  | 3 => ⟨S1024x1024, .f32⟩
  | 4 => ⟨S16384x1024, .f32⟩
  | 5 => ⟨S_, .f32⟩
  | 6 => ⟨S16384, .f32⟩
  | 7 => ⟨S16384x1, .f32⟩
  | 8 => ⟨S_, .f32⟩
  | 9 => ⟨S16384x1, .f32⟩
  | 10 => ⟨S16384x1, .f32⟩
  | 11 => ⟨S16384x1024, .f32⟩
  | 12 => ⟨S16384x1024, .f32⟩
  | 13 => ⟨S16384x1024, .f32⟩
  | 14 => ⟨S_, .f32⟩
  | 15 => ⟨S16384x1024, .f32⟩
  | 16 => ⟨S16384x1024, .f32⟩
  | 17 => ⟨S_, .f32⟩
  | 18 => ⟨S16384, .f32⟩
  | 19 => ⟨S16384x1, .f32⟩
  | 20 => ⟨S_, .f32⟩
  | 21 => ⟨S16384x1, .f32⟩
  | 22 => ⟨S16384x1, .f32⟩
  | 23 => ⟨S16384x1024, .f32⟩
  | 24 => ⟨S16384x1024, .f32⟩
  | 25 => ⟨S_, .f32⟩
  | 26 => ⟨S16384x1, .f32⟩
  | 27 => ⟨S16384x1, .f32⟩
  | 28 => ⟨S16384x1, .f32⟩
  | 29 => ⟨S16384x1, .f32⟩
  | 30 => ⟨S_, .f32⟩
  | 31 => ⟨S16384x1, .f32⟩
  | 32 => ⟨S16384x1, .f32⟩
  | 33 => ⟨S16384x1024, .f32⟩
  | 34 => ⟨S16384x1024, .f32⟩
  | 35 => ⟨S1x1024, .f32⟩
  | 36 => ⟨S16384x1024, .f32⟩
  | 37 => ⟨S16384x1024, .f32⟩
  | 38 => ⟨S1x1024, .f32⟩
  | 39 => ⟨S16384x1024, .f32⟩
  | 40 => ⟨S16384x1024, .f32⟩
  | 41 => ⟨S16384x1024, .f32⟩
  | 42 => ⟨S16384x1024, .f32⟩
  | 43 => ⟨S_, .f32⟩
  | 44 => ⟨S16384x1024, .f32⟩
  | 45 => ⟨S16384x1024, .f32⟩
  | 46 => ⟨S_, .f32⟩
  | 47 => ⟨S16384x1024, .f32⟩
  | 48 => ⟨S16384x1024, .f32⟩
  | 49 => ⟨S_, .f32⟩
  | 50 => ⟨S16384x1024, .f32⟩
  | 51 => ⟨S16384x1024, .f32⟩
  | 52 => ⟨S16384x1024, .f32⟩
  | 53 => ⟨S16384x1024, .f32⟩
  | 54 => ⟨S16384x1024, .f32⟩
  | 55 => ⟨S16384x1024, .f32⟩
  | 56 => ⟨S16384x1024, .f32⟩
  | 57 => ⟨S16384x1024, .f32⟩
  | 58 => ⟨S16384x1024, .f32⟩
  | 59 => ⟨S16384x1024, .f32⟩
  | 60 => ⟨S_, .f32⟩
  | 61 => ⟨S1024, .f32⟩
  | 62 => ⟨S1x1024, .f32⟩
  | 63 => ⟨S_, .f32⟩
  | 64 => ⟨S1024, .f32⟩
  | 65 => ⟨S16384x1024, .f32⟩
  | 66 => ⟨S_, .f32⟩
  | 67 => ⟨S1024, .f32⟩
  | 68 => ⟨S1x1024, .f32⟩
  | 69 => ⟨S16384x1024, .f32⟩
  | 70 => ⟨S16384x1024, .f32⟩
  | 71 => ⟨S_, .f32⟩
  | 72 => ⟨S1024, .f32⟩
  | 73 => ⟨S16384x1024, .f32⟩
  | 74 => ⟨S_, .f32⟩
  | 75 => ⟨S16384, .f32⟩
  | 76 => ⟨S16384x1, .f32⟩
  | 77 => ⟨S16384x1024, .f32⟩
  | 78 => ⟨S16384x1024, .f32⟩
  | 79 => ⟨S16384x1, .f32⟩
  | 80 => ⟨S16384x1024, .f32⟩
  | 81 => ⟨S_, .f32⟩
  | 82 => ⟨S16384, .f32⟩
  | 83 => ⟨S16384x1, .f32⟩
  | 84 => ⟨S_, .f32⟩
  | 85 => ⟨S16384x1, .f32⟩
  | 86 => ⟨S16384x1, .f32⟩
  | 87 => ⟨S_, .f32⟩
  | 88 => ⟨S16384, .f32⟩
  | 89 => ⟨S16384x1024, .f32⟩
  | 90 => ⟨S16384x1024, .f32⟩
  | 91 => ⟨S16384x1024, .f32⟩
  | 92 => ⟨S_, .f32⟩
  | 93 => ⟨S16384, .f32⟩
  | 94 => ⟨S16384x1, .f32⟩
  | 95 => ⟨S16384x1024, .f32⟩
  | 96 => ⟨S16384x1, .f32⟩
  | 97 => ⟨S_, .f32⟩
  | 98 => ⟨S16384x1, .f32⟩
  | 99 => ⟨S16384x1, .f32⟩
  | 100 => ⟨S_, .f32⟩
  | 101 => ⟨S16384, .f32⟩
  | 102 => ⟨S16384x1024, .f32⟩
  | 103 => ⟨S16384x1024, .f32⟩
  | 104 => ⟨S_, .f32⟩
  | 105 => ⟨S16384, .f32⟩
  | 106 => ⟨S16384x1, .f32⟩
  | 107 => ⟨S_, .f32⟩
  | 108 => ⟨S16384x1, .f32⟩
  | 109 => ⟨S16384x1, .f32⟩
  | 110 => ⟨S16384x1024, .f32⟩
  | 111 => ⟨S16384x1024, .f32⟩
  | 112 => ⟨S16384x1024, .f32⟩
  | 113 => ⟨S_, .f32⟩
  | 114 => ⟨S16384, .f32⟩
  | 115 => ⟨S16384x1, .f32⟩
  | 116 => ⟨S_, .f32⟩
  | 117 => ⟨S16384x1, .f32⟩
  | 118 => ⟨S16384x1, .f32⟩
  | 119 => ⟨S16384x1024, .f32⟩
  | 120 => ⟨S16384x1024, .f32⟩
  | 121 => ⟨S_, .f32⟩
  | 122 => ⟨S16384x1, .f32⟩
  | 123 => ⟨S16384x1, .f32⟩
  | 124 => ⟨S16384x1, .f32⟩
  | 125 => ⟨S16384x1024, .f32⟩
  | 126 => ⟨S16384x1024, .f32⟩
  | 127 => ⟨S1x1024, .f32⟩
  | _ => ⟨S16384x1024, .f32⟩

abbrev hbmTy0_1 (i : Nat) : BufTy := match i % 128 with
  | 0 => ⟨S16384x1024, .f32⟩
  | 1 => ⟨S16384x1024, .f32⟩
  | 2 => ⟨S1x1024, .f32⟩
  | 3 => ⟨S16384x1024, .f32⟩
  | 4 => ⟨S16384x1024, .f32⟩
  | 5 => ⟨S16384x1024, .f32⟩
  | 6 => ⟨S16384x1024, .f32⟩
  | 7 => ⟨S_, .f32⟩
  | 8 => ⟨S16384x1024, .f32⟩
  | 9 => ⟨S16384x1024, .f32⟩
  | 10 => ⟨S_, .f32⟩
  | 11 => ⟨S16384x1024, .f32⟩
  | 12 => ⟨S16384x1024, .f32⟩
  | 13 => ⟨S16384x1024, .f32⟩
  | 14 => ⟨S16384x1024, .bf16⟩
  | 15 => ⟨S1x1024, .f32⟩
  | 16 => ⟨S1x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v29_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v29_1 : Ref sig .tc := ⟨.hbm, 52, rfl⟩
abbrev main_v29_0 : Ref sig .tc := ⟨.hbm, 53, rfl⟩
abbrev main_v30 : Ref sig .tc := ⟨.hbm, 54, rfl⟩
abbrev main_v31 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v32 : Ref sig .tc := ⟨.hbm, 59, rfl⟩
abbrev main_cst_6 : Ref sig .tc := ⟨.hbm, 60, rfl⟩
abbrev main_v33 : Ref sig .tc := ⟨.hbm, 61, rfl⟩
abbrev main_v34 : Ref sig .tc := ⟨.hbm, 62, rfl⟩
abbrev main_cst_7 : Ref sig .tc := ⟨.hbm, 63, rfl⟩
abbrev main_v35 : Ref sig .tc := ⟨.hbm, 64, rfl⟩
abbrev main_v36 : Ref sig .tc := ⟨.hbm, 65, rfl⟩
abbrev main_cst_8 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_9 : Ref sig .tc := ⟨.hbm, 71, rfl⟩
abbrev main_v41 : Ref sig .tc := ⟨.hbm, 72, rfl⟩
abbrev main_v42 : Ref sig .tc := ⟨.hbm, 73, rfl⟩
abbrev main_cst_10 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_11 : Ref sig .tc := ⟨.hbm, 81, rfl⟩
abbrev main_v49 : Ref sig .tc := ⟨.hbm, 82, rfl⟩
abbrev main_v50 : Ref sig .tc := ⟨.hbm, 83, rfl⟩
abbrev main_cst_12 : Ref sig .tc := ⟨.hbm, 84, rfl⟩
abbrev main_v51 : Ref sig .tc := ⟨.hbm, 85, rfl⟩
abbrev main_v52 : Ref sig .tc := ⟨.hbm, 86, rfl⟩
abbrev main_cst_13 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_14 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_15 : Ref sig .tc := ⟨.hbm, 97, rfl⟩
abbrev main_v61 : Ref sig .tc := ⟨.hbm, 98, rfl⟩
abbrev main_v62 : Ref sig .tc := ⟨.hbm, 99, rfl⟩
abbrev main_cst_16 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_17 : Ref sig .tc := ⟨.hbm, 104, rfl⟩
abbrev main_v66 : Ref sig .tc := ⟨.hbm, 105, rfl⟩
abbrev main_v67 : Ref sig .tc := ⟨.hbm, 106, rfl⟩
abbrev main_cst_18 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_19 : Ref sig .tc := ⟨.hbm, 113, rfl⟩
abbrev main_v73 : Ref sig .tc := ⟨.hbm, 114, rfl⟩
abbrev main_v74 : Ref sig .tc := ⟨.hbm, 115, rfl⟩
abbrev main_cst_20 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_cst_21 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_call2_v0 : Ref sig .tc := ⟨.hbm, 133, rfl⟩
abbrev main_call2_v1 : Ref sig .tc := ⟨.hbm, 134, rfl⟩
abbrev main_call2_cst : Ref sig .tc := ⟨.hbm, 135, rfl⟩
abbrev main_call2_v2 : Ref sig .tc := ⟨.hbm, 136, rfl⟩
abbrev main_call2_v3 : Ref sig .tc := ⟨.hbm, 137, rfl⟩
abbrev main_call2_cst_0 : Ref sig .tc := ⟨.hbm, 138, rfl⟩
abbrev main_call2_v4 : Ref sig .tc := ⟨.hbm, 139, rfl⟩
abbrev main_call2_v5 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩

abbrev nD : Nat := 1
abbrev τ : Topo := Topo.v7x

variable {F : FTy → Type} [FloatOps F]
-- ==== Kernel3.lean ====
abbrev S16384x1024 : Shape := ⟨2, ![16384, 1024]⟩
abbrev S2x1024x2816 : Shape := ⟨3, ![2, 1024, 2816]⟩
abbrev S2x2816x1024 : Shape := ⟨3, ![2, 2816, 1024]⟩
abbrev S1024 : Shape := ⟨1, ![1024]⟩
abbrev S2x1024x4x704 : Shape := ⟨4, ![2, 1024, 4, 704]⟩
abbrev S4x2x1024x704 : Shape := ⟨4, ![4, 2, 1024, 704]⟩
abbrev S2x4x704x1024 : Shape := ⟨4, ![2, 4, 704, 1024]⟩
abbrev S4x2x704x1024 : Shape := ⟨4, ![4, 2, 704, 1024]⟩
abbrev S1x1024 : Shape := ⟨2, ![1, 1024]⟩
abbrev S4x16384x704 : Shape := ⟨3, ![4, 16384, 704]⟩
abbrev S1x1 : Shape := ⟨2, ![1, 1]⟩
abbrev S512x1024 : Shape := ⟨2, ![512, 1024]⟩
abbrev S4x1x1024x704 : Shape := ⟨4, ![4, 1, 1024, 704]⟩
abbrev S4x1x704x1024 : Shape := ⟨4, ![4, 1, 704, 1024]⟩
abbrev S4x512x704 : Shape := ⟨3, ![4, 512, 704]⟩
abbrev S8x1024 : Shape := ⟨2, ![8, 1024]⟩
abbrev S1x1x1024x704 : Shape := ⟨4, ![1, 1, 1024, 704]⟩
abbrev S1024x704 : Shape := ⟨2, ![1024, 704]⟩
abbrev S512x704 : Shape := ⟨2, ![512, 704]⟩
abbrev S1x512x704 : Shape := ⟨3, ![1, 512, 704]⟩
abbrev S1x1x704x1024 : Shape := ⟨4, ![1, 1, 704, 1024]⟩
abbrev S704x1024 : Shape := ⟨2, ![704, 1024]⟩
abbrev S512 : Shape := ⟨1, ![512]⟩
abbrev S512x1 : Shape := ⟨2, ![512, 1]⟩
abbrev S64x8x1024 : Shape := ⟨3, ![64, 8, 1024]⟩
abbrev S1x8x1024 : Shape := ⟨3, ![1, 8, 1024]⟩
abbrev S1 : Shape := ⟨1, ![1]⟩
abbrev S1x1x1 : Shape := ⟨3, ![1, 1, 1]⟩

abbrev nBuf : Space → Nat
  | .hbm => 25
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S2x1024x2816, .f32⟩
  | .hbm, ⟨2, _⟩ => ⟨S2x1024x2816, .f32⟩
  | .hbm, ⟨3, _⟩ => ⟨S2x2816x1024, .f32⟩
  | .hbm, ⟨4, _⟩ => ⟨S1024, .f32⟩
  | .hbm, ⟨5, _⟩ => ⟨S1024, .f32⟩
  | .hbm, ⟨6, _⟩ => ⟨S16384x1024, .f32⟩
  | .hbm, ⟨7, _⟩ => ⟨S2x1024x2816, .bf16⟩
  | .hbm, ⟨8, _⟩ => ⟨S2x1024x4x704, .bf16⟩
  | .hbm, ⟨9, _⟩ => ⟨S4x2x1024x704, .bf16⟩
  | .hbm, ⟨10, _⟩ => ⟨S2x1024x2816, .bf16⟩
  | .hbm, ⟨11, _⟩ => ⟨S2x1024x4x704, .bf16⟩
  | .hbm, ⟨12, _⟩ => ⟨S4x2x1024x704, .bf16⟩
  | .hbm, ⟨13, _⟩ => ⟨S2x2816x1024, .bf16⟩
  | .hbm, ⟨14, _⟩ => ⟨S2x4x704x1024, .bf16⟩
  | .hbm, ⟨15, _⟩ => ⟨S4x2x704x1024, .bf16⟩
  | .hbm, ⟨16, _⟩ => ⟨S1x1024, .f32⟩
  | .hbm, ⟨17, _⟩ => ⟨S1x1024, .f32⟩
  | .hbm, ⟨18, _⟩ => ⟨S4x16384x704, .bf16⟩
  | .hbm, ⟨19, _⟩ => ⟨S4x16384x704, .bf16⟩
  | .hbm, ⟨20, _⟩ => ⟨S4x16384x704, .bf16⟩
  | .hbm, ⟨21, _⟩ => ⟨S16384x1024, .f32⟩
  | .hbm, ⟨22, _⟩ => ⟨S1x1024, .f32⟩
  | .hbm, ⟨23, _⟩ => ⟨S1x1024, .f32⟩
  | .hbm, ⟨24, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S4x1x1024x704, .bf16⟩
  | .local _ .vmem, ⟨3, _⟩ => ⟨S4x1x1024x704, .bf16⟩
  | .local _ .vmem, ⟨4, _⟩ => ⟨S4x1x704x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S4x512x704, .bf16⟩
  | .local _ .vmem, ⟨10, _⟩ => ⟨S4x512x704, .bf16⟩
  | .local _ .vmem, ⟨11, _⟩ => ⟨S4x512x704, .bf16⟩
  | .local _ .vmem, ⟨12, _⟩ => ⟨S4x512x704, .bf16⟩
  | .local _ .vmem, ⟨13, _⟩ => ⟨S4x512x704, .bf16⟩
  | .local _ .vmem, ⟨14, _⟩ => ⟨S4x512x704, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S1x1024, .f32⟩
  | .local _ .vmem, ⟨19, _⟩ => ⟨S1x1, .f32⟩
  | .local _ .vmem, ⟨20, _⟩ => ⟨S8x1024, .f32⟩
  | .local _ .vmem, ⟨21, _⟩ => ⟨S8x1024, .f32⟩
  | .local _ .vmem, ⟨22, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev main_v11_5 : Ref sig .tc := ⟨.hbm, 23, rfl⟩
abbrev main_v11_6 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v207 : BitVec 1 := Scalar.cmpi .eq arg0 c31_i32
  let v208 : BitVec 32 := Scalar.extui v207
  let c0_i32_137 : BitVec 32 := 0#32
  let v209 : BitVec 1 := Scalar.cmpi .ne v208 c0_i32_137
  v209

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference3Ideal.lean ====
abbrev S16384x1024 : Shape := ⟨2, ![16384, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024x2816 : Shape := ⟨3, ![1, 1024, 2816]⟩
abbrev S1024x2816 : Shape := ⟨2, ![1024, 2816]⟩
abbrev S16384x2816 : Shape := ⟨2, ![16384, 2816]⟩
abbrev S_ : Shape := ⟨0, ![]⟩
abbrev S1x2816x1024 : Shape := ⟨3, ![1, 2816, 1024]⟩
abbrev S2816x1024 : Shape := ⟨2, ![2816, 1024]⟩
abbrev S16384 : Shape := ⟨1, ![16384]⟩
abbrev S16384x1 : Shape := ⟨2, ![16384, 1]⟩
abbrev S1x1024 : Shape := ⟨2, ![1, 1024]⟩
abbrev S16384x4x704 : Shape := ⟨3, ![16384, 4, 704]⟩
abbrev S4x16384x704 : Shape := ⟨3, ![4, 16384, 704]⟩
abbrev S1x1 : Shape := ⟨2, ![1, 1]⟩

abbrev nBuf : Space → Nat
  | .hbm => 154
  | .vmem => 0
  | .smem => 0
  | _ => 0

abbrev hbmTy0_0 (i : Nat) : BufTy := match i % 128 with
  | 0 => ⟨S16384x1024, .f32⟩
  | 1 => ⟨S2x1024x2816, .f32⟩
  | 2 => ⟨S2x1024x2816, .f32⟩
  | 3 => ⟨S2x2816x1024, .f32⟩
  | 4 => ⟨S1024, .f32⟩
  | 5 => ⟨S1024, .f32⟩
  | 6 => ⟨S16384x1024, .f32⟩
  | 7 => ⟨S1x1024x2816, .f32⟩
  | 8 => ⟨S1024x2816, .f32⟩
  | 9 => ⟨S16384x2816, .f32⟩
  | 10 => ⟨S1x1024x2816, .f32⟩
  | 11 => ⟨S1024x2816, .f32⟩
  | 12 => ⟨S16384x2816, .f32⟩
  | 13 => ⟨S16384x2816, .f32⟩
  | 14 => ⟨S16384x2816, .f32⟩
  | 15 => ⟨S_, .f32⟩
  | 16 => ⟨S16384x2816, .f32⟩
  | 17 => ⟨S16384x2816, .f32⟩
  | 18 => ⟨S_, .f32⟩
  | 19 => ⟨S16384x2816, .f32⟩
  | 20 => ⟨S16384x2816, .f32⟩
  | 21 => ⟨S_, .f32⟩
  | 22 => ⟨S16384x2816, .f32⟩
  | 23 => ⟨S16384x2816, .f32⟩
  | 24 => ⟨S16384x2816, .f32⟩
  | 25 => ⟨S16384x2816, .f32⟩
  | 26 => ⟨S_, .f32⟩
  | 27 => ⟨S16384x1024, .f32⟩
  | 28 => ⟨S16384x1024, .f32⟩
  | 29 => ⟨S16384x2816, .f32⟩
  | 30 => ⟨S1x2816x1024, .f32⟩
  | 31 => ⟨S2816x1024, .f32⟩
  | 32 => ⟨S16384x1024, .f32⟩
  | 33 => ⟨S16384x1024, .f32⟩
  | 34 => ⟨S_, .f32⟩
  | 35 => ⟨S16384, .f32⟩
  | 36 => ⟨S16384x1, .f32⟩
  | 37 => ⟨S_, .f32⟩
  | 38 => ⟨S16384x1, .f32⟩
  | 39 => ⟨S16384x1, .f32⟩
  | 40 => ⟨S16384x1024, .f32⟩
  | 41 => ⟨S16384x1024, .f32⟩
  | 42 => ⟨S16384x1024, .f32⟩
  | 43 => ⟨S_, .f32⟩
  | 44 => ⟨S16384x1024, .f32⟩
  | 45 => ⟨S16384x1024, .f32⟩
  | 46 => ⟨S_, .f32⟩
  | 47 => ⟨S16384, .f32⟩
  | 48 => ⟨S16384x1, .f32⟩
  | 49 => ⟨S_, .f32⟩
  | 50 => ⟨S16384x1, .f32⟩
  | 51 => ⟨S16384x1, .f32⟩
  | 52 => ⟨S16384x1024, .f32⟩
  | 53 => ⟨S16384x1024, .f32⟩
  | 54 => ⟨S_, .f32⟩
  | 55 => ⟨S16384x1, .f32⟩
  | 56 => ⟨S16384x1, .f32⟩
  | 57 => ⟨S16384x1, .f32⟩
  | 58 => ⟨S16384x1, .f32⟩
  | 59 => ⟨S_, .f32⟩
  | 60 => ⟨S16384x1, .f32⟩
  | 61 => ⟨S16384x1, .f32⟩
  | 62 => ⟨S16384x1024, .f32⟩
  | 63 => ⟨S16384x1024, .f32⟩
  | 64 => ⟨S1x1024, .f32⟩
  | 65 => ⟨S16384x1024, .f32⟩
  | 66 => ⟨S16384x1024, .f32⟩
  | 67 => ⟨S1x1024, .f32⟩
  | 68 => ⟨S16384x1024, .f32⟩
  | 69 => ⟨S16384x1024, .f32⟩
  | 70 => ⟨S16384x1024, .f32⟩
  | 71 => ⟨S16384x1024, .f32⟩
  | 72 => ⟨S_, .f32⟩
  | 73 => ⟨S16384x1024, .f32⟩
  | 74 => ⟨S16384x1024, .f32⟩
  | 75 => ⟨S_, .f32⟩
  | 76 => ⟨S16384, .f32⟩
  | 77 => ⟨S_, .f32⟩
  | 78 => ⟨S16384, .f32⟩
  | 79 => ⟨S16384, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S16384, .f32⟩
  | 88 => ⟨S_, .f32⟩
  | 89 => ⟨S16384, .f32⟩
  | 90 => ⟨S16384, .f32⟩
  | 91 => ⟨S16384x1024, .f32⟩
  | 92 => ⟨S16384x1024, .f32⟩
  | 93 => ⟨S_, .f32⟩
  | 94 => ⟨S1024, .f32⟩
  | 95 => ⟨S1x1024, .f32⟩
  | 96 => ⟨S_, .f32⟩
  | 97 => ⟨S1024, .f32⟩
  | 98 => ⟨S16384x1024, .f32⟩
  | 99 => ⟨S_, .f32⟩
  | 100 => ⟨S1024, .f32⟩
  | 101 => ⟨S1x1024, .f32⟩
  | 102 => ⟨S16384x1024, .f32⟩
  | 103 => ⟨S16384x1024, .f32⟩
  | 104 => ⟨S_, .f32⟩
  | 105 => ⟨S1024, .f32⟩
  | 106 => ⟨S16384x1024, .f32⟩
  | 107 => ⟨S_, .f32⟩
  | 108 => ⟨S16384, .f32⟩
  | 109 => ⟨S16384x1, .f32⟩
  | 110 => ⟨S16384x1024, .f32⟩
  | 111 => ⟨S16384x1024, .f32⟩
  | 112 => ⟨S16384x1, .f32⟩
  | 113 => ⟨S16384x1024, .f32⟩
  | 114 => ⟨S_, .f32⟩
  | 115 => ⟨S16384, .f32⟩
  | 116 => ⟨S16384x1, .f32⟩
  | 117 => ⟨S_, .f32⟩
  | 118 => ⟨S16384x1, .f32⟩
  | 119 => ⟨S16384x1, .f32⟩
  | 120 => ⟨S_, .f32⟩
  | 121 => ⟨S16384, .f32⟩
  | 122 => ⟨S16384x1024, .f32⟩
  | 123 => ⟨S16384x1024, .f32⟩
  | 124 => ⟨S16384x1024, .f32⟩
  | 125 => ⟨S_, .f32⟩
  | 126 => ⟨S16384, .f32⟩
  | 127 => ⟨S16384x1, .f32⟩
  | _ => ⟨S16384x1024, .f32⟩

abbrev hbmTy0_1 (i : Nat) : BufTy := match i % 128 with
  | 0 => ⟨S16384x1024, .f32⟩
  | 1 => ⟨S16384x1, .f32⟩
  | 2 => ⟨S_, .f32⟩
  | 3 => ⟨S16384x1, .f32⟩
  | 4 => ⟨S16384x1, .f32⟩
  | 5 => ⟨S_, .f32⟩
  | 6 => ⟨S16384, .f32⟩
  | 7 => ⟨S16384x1024, .f32⟩
  | 8 => ⟨S16384x1024, .f32⟩
  | 9 => ⟨S16384x4x704, .f32⟩
  | 10 => ⟨S4x16384x704, .f32⟩
  | 11 => ⟨S4x16384x704, .bf16⟩
  | 12 => ⟨S16384x2816, .f32⟩
  | 13 => ⟨S16384x2816, .f32⟩
  | 14 => ⟨S16384x2816, .f32⟩
  | 15 => ⟨S16384x2816, .f32⟩
  | 16 => ⟨S16384x4x704, .f32⟩
  | 17 => ⟨S4x16384x704, .f32⟩
  | 18 => ⟨S4x16384x704, .bf16⟩
  | 19 => ⟨S16384x2816, .f32⟩
  | 20 => ⟨S16384x4x704, .f32⟩
  | 21 => ⟨S4x16384x704, .f32⟩
  | 22 => ⟨S4x16384x704, .bf16⟩
  | 23 => ⟨S1x1024, .f32⟩
  | 24 => ⟨S1x1024, .f32⟩
  | 25 => ⟨S1x1, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_v6_2 : Ref sig .tc := ⟨.hbm, 20, rfl⟩
abbrev main_call0_cst_1 : Ref sig .tc := ⟨.hbm, 21, rfl⟩
abbrev main_call0_v6 : Ref sig .tc := ⟨.hbm, 22, rfl⟩
abbrev main_call0_v7 : Ref sig .tc := ⟨.hbm, 23, rfl⟩
abbrev main_v6_1 : Ref sig .tc := ⟨.hbm, 24, rfl⟩
abbrev main_v6_0 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_0 : Ref sig .tc := ⟨.hbm, 34, rfl⟩
abbrev main_v14 : Ref sig .tc := ⟨.hbm, 35, rfl⟩
abbrev main_v15 : Ref sig .tc := ⟨.hbm, 36, rfl⟩
abbrev main_cst_1 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_2 : Ref sig .tc := ⟨.hbm, 43, rfl⟩
abbrev main_v21 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_v24 : Ref sig .tc := ⟨.hbm, 48, rfl⟩
abbrev main_cst_4 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_5 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_6 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_7 : Ref sig .tc := ⟨.hbm, 72, rfl⟩
abbrev main_v45 : Ref sig .tc := ⟨.hbm, 73, rfl⟩
abbrev main_v46 : Ref sig .tc := ⟨.hbm, 74, rfl⟩
abbrev main_cst_8 : Ref sig .tc := ⟨.hbm, 75, rfl⟩
abbrev main_v47 : Ref sig .tc := ⟨.hbm, 76, rfl⟩
abbrev main_cst_9 : Ref sig .tc := ⟨.hbm, 77, rfl⟩
abbrev main_v48 : Ref sig .tc := ⟨.hbm, 78, rfl⟩
abbrev main_v49 : Ref sig .tc := ⟨.hbm, 79, rfl⟩
abbrev main_cst_10 : Ref sig .tc := ⟨.hbm, 80, rfl⟩
abbrev main_v50 : Ref sig .tc := ⟨.hbm, 81, rfl⟩
abbrev main_cst_11 : Ref sig .tc := ⟨.hbm, 82, rfl⟩
abbrev main_v51 : Ref sig .tc := ⟨.hbm, 83, rfl⟩
abbrev main_cst_12 : Ref sig .tc := ⟨.hbm, 84, rfl⟩
abbrev main_cst_13 : Ref sig .tc := ⟨.hbm, 85, rfl⟩
abbrev main_v52 : Ref sig .tc := ⟨.hbm, 86, rfl⟩
abbrev main_v53 : Ref sig .tc := ⟨.hbm, 87, rfl⟩
abbrev main_cst_14 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_15 : Ref sig .tc := ⟨.hbm, 93, rfl⟩
abbrev main_v58 : Ref sig .tc := ⟨.hbm, 94, rfl⟩
abbrev main_v59 : Ref sig .tc := ⟨.hbm, 95, rfl⟩
abbrev main_cst_16 : Ref sig .tc := ⟨.hbm, 96, rfl⟩
abbrev main_v60 : Ref sig .tc := ⟨.hbm, 97, rfl⟩
abbrev main_v61 : Ref sig .tc := ⟨.hbm, 98, rfl⟩
abbrev main_cst_17 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_18 : Ref sig .tc := ⟨.hbm, 104, rfl⟩
abbrev main_v66 : Ref sig .tc := ⟨.hbm, 105, rfl⟩
abbrev main_v67 : Ref sig .tc := ⟨.hbm, 106, rfl⟩
abbrev main_cst_19 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_20 : Ref sig .tc := ⟨.hbm, 114, rfl⟩
abbrev main_v74 : Ref sig .tc := ⟨.hbm, 115, rfl⟩
abbrev main_v75 : Ref sig .tc := ⟨.hbm, 116, rfl⟩
abbrev main_cst_21 : Ref sig .tc := ⟨.hbm, 117, rfl⟩
abbrev main_v76 : Ref sig .tc := ⟨.hbm, 118, rfl⟩
abbrev main_v77 : Ref sig .tc := ⟨.hbm, 119, rfl⟩
abbrev main_cst_22 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_cst_23 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_cst_24 : Ref sig .tc := ⟨.hbm, 130, rfl⟩
abbrev main_v86 : Ref sig .tc := ⟨.hbm, 131, rfl⟩
abbrev main_v87 : Ref sig .tc := ⟨.hbm, 132, rfl⟩
abbrev main_cst_25 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_call1_v0 : Ref sig .tc := ⟨.hbm, 140, rfl⟩
abbrev main_call1_v1 : Ref sig .tc := ⟨.hbm, 141, rfl⟩
abbrev main_call1_v2 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x2816 : Shape := ⟨3, ![1, 1024, 2816]⟩
abbrev S1024x2816 : Shape := ⟨2, ![1024, 2816]⟩
abbrev S16384x2816 : Shape := ⟨2, ![16384, 2816]⟩
abbrev S16384x4x704 : Shape := ⟨3, ![16384, 4, 704]⟩
abbrev S4x16384x704 : Shape := ⟨3, ![4, 16384, 704]⟩
abbrev S2x1024x4x704 : Shape := ⟨4, ![2, 1024, 4, 704]⟩
abbrev S4x2x1024x704 : Shape := ⟨4, ![4, 2, 1024, 704]⟩
abbrev S2x4x704x1024 : Shape := ⟨4, ![2, 4, 704, 1024]⟩
abbrev S4x2x704x1024 : Shape := ⟨4, ![4, 2, 704, 1024]⟩
abbrev S512x1024 : Shape := ⟨2, ![512, 1024]⟩
abbrev S4x512x704 : Shape := ⟨3, ![4, 512, 704]⟩
abbrev S4x1x1024x704 : Shape := ⟨4, ![4, 1, 1024, 704]⟩
abbrev S4x1x704x1024 : Shape := ⟨4, ![4, 1, 704, 1024]⟩
abbrev S8x1024 : Shape := ⟨2, ![8, 1024]⟩
abbrev S1x1x704x1024 : Shape := ⟨4, ![1, 1, 704, 1024]⟩
abbrev S704x1024 : Shape := ⟨2, ![704, 1024]⟩
abbrev S512x704 : Shape := ⟨2, ![512, 704]⟩
abbrev S1x512x704 : Shape := ⟨3, ![1, 512, 704]⟩
abbrev S1x1x1024x704 : Shape := ⟨4, ![1, 1, 1024, 704]⟩
abbrev S1024x704 : Shape := ⟨2, ![1024, 704]⟩
abbrev S512 : Shape := ⟨1, ![512]⟩
abbrev S512x1 : Shape := ⟨2, ![512, 1]⟩
abbrev S64x8x1024 : Shape := ⟨3, ![64, 8, 1024]⟩

abbrev nBuf : Space → Nat
  | .hbm => 86
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S2x1024x2816, .f32⟩
  | .hbm, ⟨5, _⟩ => ⟨S2x1024x2816, .f32⟩
  | .hbm, ⟨6, _⟩ => ⟨S2x2816x1024, .f32⟩
  | .hbm, ⟨7, _⟩ => ⟨S16384x1024, .f32⟩
  | .hbm, ⟨8, _⟩ => ⟨S1x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S1x1024x2816, .f32⟩
  | .hbm, ⟨41, _⟩ => ⟨S1024x2816, .f32⟩
  | .hbm, ⟨42, _⟩ => ⟨S16384x2816, .f32⟩
  | .hbm, ⟨43, _⟩ => ⟨S1x1024x2816, .f32⟩
  | .hbm, ⟨44, _⟩ => ⟨S1024x2816, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S_, .f32⟩
  | .hbm, ⟨49, _⟩ => ⟨S16384x2816, .f32⟩
  | .hbm, ⟨50, _⟩ => ⟨S16384x2816, .f32⟩
  | .hbm, ⟨51, _⟩ => ⟨S_, .f32⟩
  | .hbm, ⟨52, _⟩ => ⟨S16384x2816, .f32⟩
  | .hbm, ⟨53, _⟩ => ⟨S16384x2816, .f32⟩
  | .hbm, ⟨54, _⟩ => ⟨S16384x2816, .f32⟩
  | .hbm, ⟨55, _⟩ => ⟨S16384x2816, .bf16⟩
  | .hbm, ⟨56, _⟩ => ⟨S16384x4x704, .bf16⟩
  | .hbm, ⟨57, _⟩ => ⟨S4x16384x704, .bf16⟩
  | .hbm, ⟨58, _⟩ => ⟨S_, .f32⟩
  | .hbm, ⟨59, _⟩ => ⟨S16384x2816, .f32⟩
  | .hbm, ⟨60, _⟩ => ⟨S16384x2816, .f32⟩
  | .hbm, ⟨61, _⟩ => ⟨S16384x2816, .f32⟩
  | .hbm, ⟨62, _⟩ => ⟨S_, .f32⟩
  | .hbm, ⟨63, _⟩ => ⟨S16384x2816, .f32⟩
  | .hbm, ⟨64, _⟩ => ⟨S16384x2816, .f32⟩
  | .hbm, ⟨65, _⟩ => ⟨S16384x2816, .f32⟩
  | .hbm, ⟨66, _⟩ => ⟨S16384x2816, .f32⟩
  | .hbm, ⟨67, _⟩ => ⟨S16384x2816, .bf16⟩
  | .hbm, ⟨68, _⟩ => ⟨S16384x4x704, .bf16⟩
  | .hbm, ⟨69, _⟩ => ⟨S4x16384x704, .bf16⟩
  | .hbm, ⟨70, _⟩ => ⟨S2x1024x2816, .bf16⟩
  | .hbm, ⟨71, _⟩ => ⟨S2x1024x4x704, .bf16⟩
  | .hbm, ⟨72, _⟩ => ⟨S4x2x1024x704, .bf16⟩
  | .hbm, ⟨73, _⟩ => ⟨S2x1024x2816, .bf16⟩
  | .hbm, ⟨74, _⟩ => ⟨S2x1024x4x704, .bf16⟩
  | .hbm, ⟨75, _⟩ => ⟨S4x2x1024x704, .bf16⟩
  | .hbm, ⟨76, _⟩ => ⟨S2x2816x1024, .bf16⟩
  | .hbm, ⟨77, _⟩ => ⟨S2x4x704x1024, .bf16⟩
  | .hbm, ⟨78, _⟩ => ⟨S4x2x704x1024, .bf16⟩
  | .hbm, ⟨79, _⟩ => ⟨S1x1024, .f32⟩
  | .hbm, ⟨80, _⟩ => ⟨S4x16384x704, .bf16⟩
  | .hbm, ⟨81, _⟩ => ⟨S4x16384x704, .bf16⟩
  | .hbm, ⟨82, _⟩ => ⟨S16384x1024, .f32⟩
  | .hbm, ⟨83, _⟩ => ⟨S1x1024, .f32⟩
  | .hbm, ⟨84, _⟩ => ⟨S1x1024, .f32⟩
  | .hbm, ⟨85, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S4x512x704, .bf16⟩
  | .local _ .vmem, ⟨3, _⟩ => ⟨S4x512x704, .bf16⟩
  | .local _ .vmem, ⟨4, _⟩ => ⟨S4x512x704, .bf16⟩
  | .local _ .vmem, ⟨5, _⟩ => ⟨S4x512x704, .bf16⟩
  | .local _ .vmem, ⟨6, _⟩ => ⟨S4x1x1024x704, .bf16⟩
  | .local _ .vmem, ⟨7, _⟩ => ⟨S4x1x1024x704, .bf16⟩
  | .local _ .vmem, ⟨8, _⟩ => ⟨S4x1x704x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S4x512x704, .bf16⟩
  | .local _ .vmem, ⟨13, _⟩ => ⟨S4x512x704, .bf16⟩
  | .local _ .vmem, ⟨14, _⟩ => ⟨S4x512x704, .bf16⟩
  | .local _ .vmem, ⟨15, _⟩ => ⟨S4x512x704, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S8x1024, .f32⟩
  | .local _ .vmem, ⟨22, _⟩ => ⟨S8x1024, .f32⟩
  | .local _ .vmem, ⟨23, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63_0 : Ref sig .tc := ⟨.hbm, 80, rfl⟩
abbrev main_v63_1 : Ref sig .tc := ⟨.hbm, 81, rfl⟩
abbrev main_v63_2 : Ref sig .tc := ⟨.hbm, 82, rfl⟩
abbrev main_v63_3 : Ref sig .tc := ⟨.hbm, 83, rfl⟩
abbrev main_v63_4 : Ref sig .tc := ⟨.hbm, 84, rfl⟩
abbrev main_v63_5 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v176 : BitVec 1 := Scalar.cmpi .eq arg0 c31_i32
  let v177 : BitVec 32 := Scalar.extui v176
  let c0_i32_137 : BitVec 32 := 0#32
  let v178 : BitVec 1 := Scalar.cmpi .ne v177 c0_i32_137
  v178

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1x1024x704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1x1024x704 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference4Ideal.lean ====
abbrev S16384x1024 : Shape := ⟨2, ![16384, 1024]⟩
abbrev S1024 : Shape := ⟨1, ![1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x2816 : Shape := ⟨3, ![1, 1024, 2816]⟩
abbrev S1024x2816 : Shape := ⟨2, ![1024, 2816]⟩
abbrev S16384x2816 : Shape := ⟨2, ![16384, 2816]⟩
abbrev S1x2816x1024 : Shape := ⟨3, ![1, 2816, 1024]⟩
abbrev S2816x1024 : Shape := ⟨2, ![2816, 1024]⟩
abbrev S16384x4x704 : Shape := ⟨3, ![16384, 4, 704]⟩
abbrev S4x16384x704 : Shape := ⟨3, ![4, 16384, 704]⟩

abbrev nBuf : Space → Nat
  | .hbm => 210
  | .vmem => 0
  | .smem => 0
  | _ => 0

abbrev hbmTy0_0 (i : Nat) : BufTy := match i % 128 with
  | 0 => ⟨S16384x1024, .f32⟩
  | 1 => ⟨S1024, .f32⟩
  | 2 => ⟨S1024, .f32⟩
  | 3 => ⟨S1024, .f32⟩
  | 4 => ⟨S2x1024x2816, .f32⟩
  | 5 => ⟨S2x1024x2816, .f32⟩
  | 6 => ⟨S2x2816x1024, .f32⟩
  | 7 => ⟨S16384x1024, .f32⟩
  | 8 => ⟨S1x1024, .f32⟩
  | 9 => ⟨S16384x1024, .f32⟩
  | 10 => ⟨S16384x1024, .f32⟩
  | 11 => ⟨S_, .f32⟩
  | 12 => ⟨S16384, .f32⟩
  | 13 => ⟨S16384x1, .f32⟩
  | 14 => ⟨S_, .f32⟩
  | 15 => ⟨S16384x1, .f32⟩
  | 16 => ⟨S16384x1, .f32⟩
  | 17 => ⟨S16384x1024, .f32⟩
  | 18 => ⟨S16384x1024, .f32⟩
  | 19 => ⟨S16384x1024, .f32⟩
  | 20 => ⟨S_, .f32⟩
  | 21 => ⟨S16384x1024, .f32⟩
  | 22 => ⟨S16384x1024, .f32⟩
  | 23 => ⟨S_, .f32⟩
  | 24 => ⟨S16384, .f32⟩
  | 25 => ⟨S16384x1, .f32⟩
  | 26 => ⟨S_, .f32⟩
  | 27 => ⟨S16384x1, .f32⟩
  | 28 => ⟨S16384x1, .f32⟩
  | 29 => ⟨S16384x1024, .f32⟩
  | 30 => ⟨S16384x1024, .f32⟩
  | 31 => ⟨S_, .f32⟩
  | 32 => ⟨S16384x1, .f32⟩
  | 33 => ⟨S16384x1, .f32⟩
  | 34 => ⟨S16384x1, .f32⟩
  | 35 => ⟨S16384x1, .f32⟩
  | 36 => ⟨S_, .f32⟩
  | 37 => ⟨S16384x1, .f32⟩
  | 38 => ⟨S16384x1, .f32⟩
  | 39 => ⟨S16384x1024, .f32⟩
  | 40 => ⟨S16384x1024, .f32⟩
  | 41 => ⟨S1x1024, .f32⟩
  | 42 => ⟨S16384x1024, .f32⟩
  | 43 => ⟨S16384x1024, .f32⟩
  | 44 => ⟨S1x1024, .f32⟩
  | 45 => ⟨S16384x1024, .f32⟩
  | 46 => ⟨S16384x1024, .f32⟩
  | 47 => ⟨S_, .f32⟩
  | 48 => ⟨S16384x1024, .f32⟩
  | 49 => ⟨S16384x1024, .f32⟩
  | 50 => ⟨S1x1024x2816, .f32⟩
  | 51 => ⟨S1024x2816, .f32⟩
  | 52 => ⟨S16384x2816, .f32⟩
  | 53 => ⟨S1x1024x2816, .f32⟩
  | 54 => ⟨S1024x2816, .f32⟩
  | 55 => ⟨S16384x2816, .f32⟩
  | 56 => ⟨S16384x2816, .f32⟩
  | 57 => ⟨S16384x2816, .f32⟩
  | 58 => ⟨S_, .f32⟩
  | 59 => ⟨S16384x2816, .f32⟩
  | 60 => ⟨S16384x2816, .f32⟩
  | 61 => ⟨S_, .f32⟩
  | 62 => ⟨S16384x2816, .f32⟩
  | 63 => ⟨S16384x2816, .f32⟩
  | 64 => ⟨S_, .f32⟩
  | 65 => ⟨S16384x2816, .f32⟩
  | 66 => ⟨S16384x2816, .f32⟩
  | 67 => ⟨S16384x2816, .f32⟩
  | 68 => ⟨S16384x2816, .f32⟩
  | 69 => ⟨S16384x2816, .f32⟩
  | 70 => ⟨S1x2816x1024, .f32⟩
  | 71 => ⟨S2816x1024, .f32⟩
  | 72 => ⟨S16384x1024, .f32⟩
  | 73 => ⟨S16384x1024, .f32⟩
  | 74 => ⟨S16384x1024, .f32⟩
  | 75 => ⟨S16384x1024, .f32⟩
  | 76 => ⟨S16384x2816, .f32⟩
  | 77 => ⟨S16384x2816, .f32⟩
  | 78 => ⟨S16384x2816, .f32⟩
  | 79 => ⟨S16384x2816, .f32⟩
  | 80 => ⟨S16384x2816, .f32⟩
  | 81 => ⟨S16384x2816, .f32⟩
  | 82 => ⟨S16384x2816, .f32⟩
  | 83 => ⟨S16384x1024, .f32⟩
  | 84 => ⟨S16384x1024, .f32⟩
  | 85 => ⟨S16384x1024, .f32⟩
  | 86 => ⟨S_, .f32⟩
  | 87 => ⟨S16384x1024, .f32⟩
  | 88 => ⟨S16384x1024, .f32⟩
  | 89 => ⟨S16384x1024, .f32⟩
  | 90 => ⟨S_, .f32⟩
  | 91 => ⟨S1024, .f32⟩
  | 92 => ⟨S1x1024, .f32⟩
  | 93 => ⟨S_, .f32⟩
  | 94 => ⟨S1024, .f32⟩
  | 95 => ⟨S16384x1024, .f32⟩
  | 96 => ⟨S_, .f32⟩
  | 97 => ⟨S1024, .f32⟩
  | 98 => ⟨S1x1024, .f32⟩
  | 99 => ⟨S16384x1024, .f32⟩
  | 100 => ⟨S16384x1024, .f32⟩
  | 101 => ⟨S_, .f32⟩
  | 102 => ⟨S1024, .f32⟩
  | 103 => ⟨S16384x1024, .f32⟩
  | 104 => ⟨S_, .f32⟩
  | 105 => ⟨S16384, .f32⟩
  | 106 => ⟨S16384x1, .f32⟩
  | 107 => ⟨S16384x1024, .f32⟩
  | 108 => ⟨S16384x1024, .f32⟩
  | 109 => ⟨S16384x1, .f32⟩
  | 110 => ⟨S16384x1024, .f32⟩
  | 111 => ⟨S_, .f32⟩
  | 112 => ⟨S16384, .f32⟩
  | 113 => ⟨S16384x1, .f32⟩
  | 114 => ⟨S_, .f32⟩
  | 115 => ⟨S16384x1, .f32⟩
  | 116 => ⟨S16384x1, .f32⟩
  | 117 => ⟨S_, .f32⟩
  | 118 => ⟨S16384, .f32⟩
  | 119 => ⟨S16384x1024, .f32⟩
  | 120 => ⟨S16384x1024, .f32⟩
  | 121 => ⟨S16384x1024, .f32⟩
  | 122 => ⟨S_, .f32⟩
  | 123 => ⟨S16384, .f32⟩
  | 124 => ⟨S16384x1, .f32⟩
  | 125 => ⟨S16384x1024, .f32⟩
  | 126 => ⟨S16384x1, .f32⟩
  | 127 => ⟨S_, .f32⟩
  | _ => ⟨S16384x1024, .f32⟩

abbrev hbmTy0_1 (i : Nat) : BufTy := match i % 128 with
  | 0 => ⟨S16384x1, .f32⟩
  | 1 => ⟨S16384x1, .f32⟩
  | 2 => ⟨S_, .f32⟩
  | 3 => ⟨S16384, .f32⟩
  | 4 => ⟨S16384x1024, .f32⟩
  | 5 => ⟨S16384x1024, .f32⟩
  | 6 => ⟨S_, .f32⟩
  | 7 => ⟨S1024, .f32⟩
  | 8 => ⟨S1x1024, .f32⟩
  | 9 => ⟨S_, .f32⟩
  | 10 => ⟨S1024, .f32⟩
  | 11 => ⟨S1x1024, .f32⟩
  | 12 => ⟨S16384x1024, .f32⟩
  | 13 => ⟨S16384x1024, .f32⟩
  | 14 => ⟨S_, .f32⟩
  | 15 => ⟨S16384, .f32⟩
  | 16 => ⟨S16384x1, .f32⟩
  | 17 => ⟨S_, .f32⟩
  | 18 => ⟨S16384x1, .f32⟩
  | 19 => ⟨S16384x1, .f32⟩
  | 20 => ⟨S16384x1024, .f32⟩
  | 21 => ⟨S16384x1024, .f32⟩
  | 22 => ⟨S16384x1024, .f32⟩
  | 23 => ⟨S_, .f32⟩
  | 24 => ⟨S16384, .f32⟩
  | 25 => ⟨S16384x1, .f32⟩
  | 26 => ⟨S_, .f32⟩
  | 27 => ⟨S16384x1, .f32⟩
  | 28 => ⟨S16384x1, .f32⟩
  | 29 => ⟨S16384x1024, .f32⟩
  | 30 => ⟨S16384x1024, .f32⟩
  | 31 => ⟨S_, .f32⟩
  | 32 => ⟨S16384x1, .f32⟩
  | 33 => ⟨S16384x1, .f32⟩
  | 34 => ⟨S16384x1, .f32⟩
  | 35 => ⟨S16384x1024, .f32⟩
  | 36 => ⟨S16384x1024, .f32⟩
  | 37 => ⟨S1x1024, .f32⟩
  | 38 => ⟨S16384x1024, .f32⟩
  | 39 => ⟨S16384x1024, .f32⟩
  | 40 => ⟨S1x1024, .f32⟩
  | 41 => ⟨S16384x1024, .f32⟩
  | 42 => ⟨S16384x1024, .f32⟩
  | 43 => ⟨S1x1024x2816, .f32⟩
  | 44 => ⟨S1024x2816, .f32⟩
  | 45 => ⟨S16384x2816, .f32⟩
  | 46 => ⟨S1x1024x2816, .f32⟩
  | 47 => ⟨S1024x2816, .f32⟩
  | 48 => ⟨S16384x2816, .f32⟩
  | 49 => ⟨S16384x2816, .f32⟩
  | 50 => ⟨S16384x2816, .f32⟩
  | 51 => ⟨S_, .f32⟩
  | 52 => ⟨S16384x2816, .f32⟩
  | 53 => ⟨S16384x2816, .f32⟩
  | 54 => ⟨S_, .f32⟩
  | 55 => ⟨S16384x2816, .f32⟩
  | 56 => ⟨S16384x2816, .f32⟩
  | 57 => ⟨S_, .f32⟩
  | 58 => ⟨S16384x2816, .f32⟩
  | 59 => ⟨S16384x2816, .f32⟩
  | 60 => ⟨S16384x2816, .f32⟩
  | 61 => ⟨S16384x2816, .f32⟩
  | 62 => ⟨S16384x2816, .f32⟩
  | 63 => ⟨S1x2816x1024, .f32⟩
  | 64 => ⟨S2816x1024, .f32⟩
  | 65 => ⟨S16384x1024, .f32⟩
  | 66 => ⟨S16384x2816, .f32⟩
  | 67 => ⟨S16384x2816, .f32⟩
  | 68 => ⟨S16384x2816, .f32⟩
  | 69 => ⟨S16384x2816, .f32⟩
  | 70 => ⟨S16384x2816, .f32⟩
  | 71 => ⟨S16384x2816, .f32⟩
  | 72 => ⟨S16384x2816, .f32⟩
  | 73 => ⟨S16384x4x704, .f32⟩
  | 74 => ⟨S4x16384x704, .f32⟩
  | 75 => ⟨S4x16384x704, .bf16⟩
  | 76 => ⟨S16384x4x704, .f32⟩
  | 77 => ⟨S4x16384x704, .f32⟩
  | 78 => ⟨S4x16384x704, .bf16⟩
  | 79 => ⟨S1x1024, .f32⟩
  | 80 => ⟨S1x1024, .f32⟩
  | 81 => ⟨S1x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_v40_2 : Ref sig .tc := ⟨.hbm, 63, rfl⟩
abbrev main_call0_cst_1 : Ref sig .tc := ⟨.hbm, 64, rfl⟩
abbrev main_call0_v6 : Ref sig .tc := ⟨.hbm, 65, rfl⟩
abbrev main_call0_v7 : Ref sig .tc := ⟨.hbm, 66, rfl⟩
abbrev main_v40_1 : Ref sig .tc := ⟨.hbm, 67, rfl⟩
abbrev main_v40_0 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_7 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_8 : Ref sig .tc := ⟨.hbm, 90, rfl⟩
abbrev main_v58 : Ref sig .tc := ⟨.hbm, 91, rfl⟩
abbrev main_v59 : Ref sig .tc := ⟨.hbm, 92, rfl⟩
abbrev main_cst_9 : Ref sig .tc := ⟨.hbm, 93, rfl⟩
abbrev main_v60 : Ref sig .tc := ⟨.hbm, 94, rfl⟩
abbrev main_v61 : Ref sig .tc := ⟨.hbm, 95, rfl⟩
abbrev main_cst_10 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_11 : Ref sig .tc := ⟨.hbm, 101, rfl⟩
abbrev main_v66 : Ref sig .tc := ⟨.hbm, 102, rfl⟩
abbrev main_v67 : Ref sig .tc := ⟨.hbm, 103, rfl⟩
abbrev main_cst_12 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_13 : Ref sig .tc := ⟨.hbm, 111, rfl⟩
abbrev main_v74 : Ref sig .tc := ⟨.hbm, 112, rfl⟩
abbrev main_v75 : Ref sig .tc := ⟨.hbm, 113, rfl⟩
abbrev main_cst_14 : Ref sig .tc := ⟨.hbm, 114, rfl⟩
abbrev main_v76 : Ref sig .tc := ⟨.hbm, 115, rfl⟩
abbrev main_v77 : Ref sig .tc := ⟨.hbm, 116, rfl⟩
abbrev main_cst_15 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_16 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_17 : Ref sig .tc := ⟨.hbm, 127, rfl⟩
abbrev main_v86 : Ref sig .tc := ⟨.hbm, 128, rfl⟩
abbrev main_v87 : Ref sig .tc := ⟨.hbm, 129, rfl⟩
abbrev main_cst_18 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_cst_19 : Ref sig .tc := ⟨.hbm, 134, rfl⟩
abbrev main_v91 : Ref sig .tc := ⟨.hbm, 135, rfl⟩
abbrev main_v92 : Ref sig .tc := ⟨.hbm, 136, rfl⟩
abbrev main_cst_20 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_cst_21 : Ref sig .tc := ⟨.hbm, 142, rfl⟩
abbrev main_v97 : Ref sig .tc := ⟨.hbm, 143, rfl⟩
abbrev main_v98 : Ref sig .tc := ⟨.hbm, 144, rfl⟩
abbrev main_cst_22 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_cst_23 : Ref sig .tc := ⟨.hbm, 151, rfl⟩
abbrev main_v104 : Ref sig .tc := ⟨.hbm, 152, rfl⟩
abbrev main_v105 : Ref sig .tc := ⟨.hbm, 153, rfl⟩
abbrev main_cst_24 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_25 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_call2_v0 : Ref sig .tc := ⟨.hbm, 177, rfl⟩
abbrev main_call2_v1 : Ref sig .tc := ⟨.hbm, 178, rfl⟩
abbrev main_call2_cst : Ref sig .tc := ⟨.hbm, 179, rfl⟩
abbrev main_call2_v2 : Ref sig .tc := ⟨.hbm, 180, rfl⟩
abbrev main_call2_v3 : Ref sig .tc := ⟨.hbm, 181, rfl⟩
abbrev main_call2_cst_0 : Ref sig .tc := ⟨.hbm, 182, rfl⟩
abbrev main_call2_v4 : Ref sig .tc := ⟨.hbm, 183, rfl⟩
abbrev main_v127_2 : Ref sig .tc := ⟨.hbm, 184, rfl⟩
abbrev main_call2_cst_1 : Ref sig .tc := ⟨.hbm, 185, rfl⟩
abbrev main_call2_v6 : Ref sig .tc := ⟨.hbm, 186, rfl⟩
abbrev main_call2_v7 : Ref sig .tc := ⟨.hbm, 187, rfl⟩
abbrev main_v127_1 : Ref sig .tc := ⟨.hbm, 188, rfl⟩
abbrev main_v127_0 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_call3_v0 : Ref sig .tc := ⟨.hbm, 197, rfl⟩
abbrev main_call3_v1 : Ref sig .tc := ⟨.hbm, 198, rfl⟩
abbrev main_call3_v2 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩

abbrev nD : Nat := 1
abbrev τ : Topo := Topo.v7x

variable {F : FTy → Type} [FloatOps F]
-- ==== Kernel5.lean ====
abbrev S16384x1024 : Shape := ⟨2, ![16384, 1024]⟩
abbrev S1024x2048 : Shape := ⟨2, ![1024, 2048]⟩
abbrev S2048 : Shape := ⟨1, ![2048]⟩
abbrev S31x1024 : Shape := ⟨2, ![31, 1024]⟩
abbrev S1024 : Shape := ⟨1, ![1024]⟩
abbrev S16384x2048 : Shape := ⟨2, ![16384, 2048]⟩
abbrev S1x2048 : Shape := ⟨2, ![1, 2048]⟩
abbrev S_ : Shape := ⟨0, ![]⟩
abbrev S32x1024 : Shape := ⟨2, ![32, 1024]⟩
abbrev S32x1x1024 : Shape := ⟨3, ![32, 1, 1024]⟩
abbrev S32x8x1024 : Shape := ⟨3, ![32, 8, 1024]⟩
abbrev S1024x4x512 : Shape := ⟨3, ![1024, 4, 512]⟩
abbrev S4x1024x512 : Shape := ⟨3, ![4, 1024, 512]⟩
abbrev S4x16384x512 : Shape := ⟨3, ![4, 16384, 512]⟩
abbrev S1x1024 : Shape := ⟨2, ![1, 1024]⟩
abbrev S512x1024 : Shape := ⟨2, ![512, 1024]⟩
abbrev S4x512x512 : Shape := ⟨3, ![4, 512, 512]⟩
abbrev S552x1024 : Shape := ⟨2, ![552, 1024]⟩
abbrev S7x544x1024 : Shape := ⟨3, ![7, 544, 1024]⟩
abbrev S8x2048 : Shape := ⟨2, ![8, 2048]⟩
abbrev S8x1024 : Shape := ⟨2, ![8, 1024]⟩
abbrev S64x8x1024 : Shape := ⟨3, ![64, 8, 1024]⟩
abbrev S544x1024 : Shape := ⟨2, ![544, 1024]⟩
abbrev S1x544x1024 : Shape := ⟨3, ![1, 544, 1024]⟩
abbrev S8x8x256 : Shape := ⟨3, ![8, 8, 256]⟩
abbrev S1x64x256 : Shape := ⟨3, ![1, 64, 256]⟩
abbrev S64x256 : Shape := ⟨2, ![64, 256]⟩
abbrev S1x8x256 : Shape := ⟨3, ![1, 8, 256]⟩
abbrev S8x256 : Shape := ⟨2, ![8, 256]⟩
abbrev S512x512 : Shape := ⟨2, ![512, 512]⟩
abbrev S1x512x512 : Shape := ⟨3, ![1, 512, 512]⟩
abbrev S1x1024x512 : Shape := ⟨3, ![1, 1024, 512]⟩
abbrev S1024x512 : Shape := ⟨2, ![1024, 512]⟩

abbrev nBuf : Space → Nat
  | .hbm => 37
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S2048, .f32⟩
  | .hbm, ⟨3, _⟩ => ⟨S31x1024, .f32⟩
  | .hbm, ⟨4, _⟩ => ⟨S1024, .f32⟩
  | .hbm, ⟨5, _⟩ => ⟨S16384x1024, .f32⟩
  | .hbm, ⟨6, _⟩ => ⟨S16384x1024, .f32⟩
  | .hbm, ⟨7, _⟩ => ⟨S16384x2048, .f32⟩
  | .hbm, ⟨8, _⟩ => ⟨S1x2048, .f32⟩
  | .hbm, ⟨9, _⟩ => ⟨S16384x2048, .f32⟩
  | .hbm, ⟨10, _⟩ => ⟨S16384x2048, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .i32⟩
  | .hbm, ⟨23, _⟩ => ⟨S_, .f32⟩
  | .hbm, ⟨24, _⟩ => ⟨S32x1024, .f32⟩
  | .hbm, ⟨25, _⟩ => ⟨S32x1x1024, .f32⟩
  | .hbm, ⟨26, _⟩ => ⟨S32x8x1024, .f32⟩
  | .hbm, ⟨27, _⟩ => ⟨S1024x2048, .bf16⟩
  | .hbm, ⟨28, _⟩ => ⟨S1024x4x512, .bf16⟩
  | .hbm, ⟨29, _⟩ => ⟨S4x1024x512, .bf16⟩
  | .hbm, ⟨30, _⟩ => ⟨S16384x1024, .bf16⟩
  | .hbm, ⟨31, _⟩ => ⟨S16384x1024, .bf16⟩
  | .hbm, ⟨32, _⟩ => ⟨S16384x1024, .f32⟩
  | .hbm, ⟨33, _⟩ => ⟨S4x16384x512, .bf16⟩
  | .hbm, ⟨34, _⟩ => ⟨S1x2048, .f32⟩
  | .hbm, ⟨35, _⟩ => ⟨S1x1024, .f32⟩
  | .hbm, ⟨36, _⟩ => ⟨S32x1024, .f32⟩
  | .local _ .vmem, ⟨0, _⟩ => ⟨S512x1024, .f32⟩
  | .local _ .vmem, ⟨1, _⟩ => ⟨S512x1024, .f32⟩
  | .local _ .vmem, ⟨2, _⟩ => ⟨S32x1024, .f32⟩
  | .local _ .vmem, ⟨3, _⟩ => ⟨S32x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S32x8x1024, .f32⟩
  | .local _ .vmem, ⟨13, _⟩ => ⟨S4x1024x512, .bf16⟩
  | .local _ .vmem, ⟨14, _⟩ => ⟨S512x1024, .f32⟩
  | .local _ .vmem, ⟨15, _⟩ => ⟨S512x1024, .f32⟩
  | .local _ .vmem, ⟨16, _⟩ => ⟨S4x512x512, .bf16⟩
  | .local _ .vmem, ⟨17, _⟩ => ⟨S4x512x512, .bf16⟩
  | .local _ .vmem, ⟨18, _⟩ => ⟨S1x2048, .f32⟩
  | .local _ .vmem, ⟨19, _⟩ => ⟨S1x1024, .f32⟩
  | .local _ .vmem, ⟨20, _⟩ => ⟨S32x1024, .f32⟩
  | .local _ .vmem, ⟨21, _⟩ => ⟨S552x1024, .f32⟩
  | .local _ .vmem, ⟨22, _⟩ => ⟨S7x544x1024, .f32⟩
  | .local _ .vmem, ⟨23, _⟩ => ⟨S512x1024, .f32⟩
  | .local _ .vmem, ⟨24, _⟩ => ⟨S8x2048, .f32⟩
  | .local _ .vmem, ⟨25, _⟩ => ⟨S8x1024, .f32⟩
  | .local _ .vmem, ⟨26, _⟩ => ⟨S32x8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev main_v21_2 : Ref sig .tc := ⟨.hbm, 34, rfl⟩
abbrev main_v21_3 : Ref sig .tc := ⟨.hbm, 35, rfl⟩
abbrev main_v21_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_42 : BitVec 32 := 0#32
  let c8_i32 : BitVec 32 := 8#32
  let v53 : BitVec 32 := Scalar.addi c0_i32_42 c8_i32
  let c1_i32 : BitVec 32 := 1#32
  ⟨c0_i32_42, v53, c1_i32⟩
def k0_mult1 (k0_t1 : Fin k0_t1_loop.trips) : BitVec 32 :=
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  v126
def k0_off1 (k0_t1 : Fin k0_t1_loop.trips) (c24_i32 : BitVec 32) : Fin 3 → Nat :=
  let c5_100 : Index := 5#32
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v129 : BitVec 32 := Scalar.addi v127 c24_i32
  let v130 : Index := Scalar.indexCast v129
  let c0_101 : Index := 0#32
  ![5, v130.toNat, 0]
def k0_off2 (k0_t1 : Fin k0_t1_loop.trips) (c24_i32_105 : BitVec 32) : Fin 3 → Nat :=
  let c4_106 : Index := 4#32
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v140 : BitVec 32 := Scalar.addi v127 c24_i32_105
  let v141 : Index := Scalar.indexCast v140
  let c0_107 : Index := 0#32
  ![4, v141.toNat, 0]
def k0_off3 (k0_t1 : Fin k0_t1_loop.trips) (c24_i32_111 : BitVec 32) : Fin 3 → Nat :=
  let c3_112 : Index := 3#32
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v151 : BitVec 32 := Scalar.addi v127 c24_i32_111
  let v152 : Index := Scalar.indexCast v151
  let c0_113 : Index := 0#32
  ![3, v152.toNat, 0]
def k0_off4 (k0_t1 : Fin k0_t1_loop.trips) (c24_i32_117 : BitVec 32) : Fin 3 → Nat :=
  let c2_118 : Index := 2#32
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v162 : BitVec 32 := Scalar.addi v127 c24_i32_117
  let v163 : Index := Scalar.indexCast v162
  let c0_119 : Index := 0#32
  ![2, v163.toNat, 0]
def k0_off5 (k0_t1 : Fin k0_t1_loop.trips) (c24_i32_123 : BitVec 32) : Fin 3 → Nat :=
  let c1_124 : Index := 1#32
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v173 : BitVec 32 := Scalar.addi v127 c24_i32_123
  let v174 : Index := Scalar.indexCast v173
  let c0_125 : Index := 0#32
  ![1, v174.toNat, 0]
def k0_off6 (k0_t1 : Fin k0_t1_loop.trips) (c24_i32_129 : BitVec 32) : Fin 3 → Nat :=
  let c0_130 : Index := 0#32
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v184 : BitVec 32 := Scalar.addi v127 c24_i32_129
  let v185 : Index := Scalar.indexCast v184
  let c0_131 : Index := 0#32
  ![0, v185.toNat, 0]
def k0_off7 (k0_t1 : Fin k0_t1_loop.trips) (c24_i32_135 : BitVec 32) : Fin 2 → Nat :=
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v195 : BitVec 32 := Scalar.addi v127 c24_i32_135
  let v196 : Index := Scalar.indexCast v195
  let c0_136 : Index := 0#32
  ![v196.toNat, 0]
def k0_off8 (k0_t1 : Fin k0_t1_loop.trips) (c16_i32 : BitVec 32) : Fin 3 → Nat :=
  let c6_140 : Index := 6#32
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v205 : BitVec 32 := Scalar.addi v127 c16_i32
  let v206 : Index := Scalar.indexCast v205
  let c0_141 : Index := 0#32
  ![6, v206.toNat, 0]
def k0_off9 (k0_t1 : Fin k0_t1_loop.trips) : Fin 2 → Nat :=
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v467 : Index := Scalar.indexCast v127
  let c0_257 : Index := 0#32
  ![v467.toNat, 0]
def k0_off10 (k0_t1 : Fin k0_t1_loop.trips) (c24_i32_259 : BitVec 32) : Fin 3 → Nat :=
  let c5_260 : Index := 5#32
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v472 : BitVec 32 := Scalar.addi v127 c24_i32_259
  let v473 : Index := Scalar.indexCast v472
  let c256 : Index := 256#32
  ![5, v473.toNat, 256]
def k0_off11 (k0_t1 : Fin k0_t1_loop.trips) (c24_i32_264 : BitVec 32) : Fin 3 → Nat :=
  let c4_265 : Index := 4#32
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v483 : BitVec 32 := Scalar.addi v127 c24_i32_264
  let v484 : Index := Scalar.indexCast v483
  let c256_266 : Index := 256#32
  ![4, v484.toNat, 256]
def k0_off12 (k0_t1 : Fin k0_t1_loop.trips) (c24_i32_270 : BitVec 32) : Fin 3 → Nat :=
  let c3_271 : Index := 3#32
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v494 : BitVec 32 := Scalar.addi v127 c24_i32_270
  let v495 : Index := Scalar.indexCast v494
  let c256_272 : Index := 256#32
  ![3, v495.toNat, 256]
def k0_off13 (k0_t1 : Fin k0_t1_loop.trips) (c24_i32_276 : BitVec 32) : Fin 3 → Nat :=
  let c2_277 : Index := 2#32
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v505 : BitVec 32 := Scalar.addi v127 c24_i32_276
  let v506 : Index := Scalar.indexCast v505
  let c256_278 : Index := 256#32
  ![2, v506.toNat, 256]
def k0_off14 (k0_t1 : Fin k0_t1_loop.trips) (c24_i32_282 : BitVec 32) : Fin 3 → Nat :=
  let c1_283 : Index := 1#32
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v516 : BitVec 32 := Scalar.addi v127 c24_i32_282
  let v517 : Index := Scalar.indexCast v516
  let c256_284 : Index := 256#32
  ![1, v517.toNat, 256]
def k0_off15 (k0_t1 : Fin k0_t1_loop.trips) (c24_i32_288 : BitVec 32) : Fin 3 → Nat :=
  let c0_289 : Index := 0#32
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v527 : BitVec 32 := Scalar.addi v127 c24_i32_288
  let v528 : Index := Scalar.indexCast v527
  let c256_290 : Index := 256#32
  ![0, v528.toNat, 256]
def k0_off16 (k0_t1 : Fin k0_t1_loop.trips) (c24_i32_294 : BitVec 32) : Fin 2 → Nat :=
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v538 : BitVec 32 := Scalar.addi v127 c24_i32_294
  let v539 : Index := Scalar.indexCast v538
  let c256_295 : Index := 256#32
  ![v539.toNat, 256]
def k0_off17 (k0_t1 : Fin k0_t1_loop.trips) (c16_i32_299 : BitVec 32) : Fin 3 → Nat :=
  let c6_300 : Index := 6#32
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v548 : BitVec 32 := Scalar.addi v127 c16_i32_299
  let v549 : Index := Scalar.indexCast v548
  let c256_301 : Index := 256#32
  ![6, v549.toNat, 256]
def k0_off18 (k0_t1 : Fin k0_t1_loop.trips) : Fin 2 → Nat :=
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v810 : Index := Scalar.indexCast v127
  let c256_440 : Index := 256#32
  ![v810.toNat, 256]
def k0_off19 (k0_t1 : Fin k0_t1_loop.trips) (c24_i32_442 : BitVec 32) : Fin 3 → Nat :=
  let c5_443 : Index := 5#32
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v815 : BitVec 32 := Scalar.addi v127 c24_i32_442
  let v816 : Index := Scalar.indexCast v815
  let c512_444 : Index := 512#32
  ![5, v816.toNat, 512]
def k0_off20 (k0_t1 : Fin k0_t1_loop.trips) (c24_i32_448 : BitVec 32) : Fin 3 → Nat :=
  let c4_449 : Index := 4#32
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v826 : BitVec 32 := Scalar.addi v127 c24_i32_448
  let v827 : Index := Scalar.indexCast v826
  let c512_450 : Index := 512#32
  ![4, v827.toNat, 512]
def k0_off21 (k0_t1 : Fin k0_t1_loop.trips) (c24_i32_454 : BitVec 32) : Fin 3 → Nat :=
  let c3_455 : Index := 3#32
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v837 : BitVec 32 := Scalar.addi v127 c24_i32_454
  let v838 : Index := Scalar.indexCast v837
  let c512_456 : Index := 512#32
  ![3, v838.toNat, 512]
def k0_off22 (k0_t1 : Fin k0_t1_loop.trips) (c24_i32_460 : BitVec 32) : Fin 3 → Nat :=
  let c2_461 : Index := 2#32
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v848 : BitVec 32 := Scalar.addi v127 c24_i32_460
  let v849 : Index := Scalar.indexCast v848
  let c512_462 : Index := 512#32
  ![2, v849.toNat, 512]
def k0_off23 (k0_t1 : Fin k0_t1_loop.trips) (c24_i32_466 : BitVec 32) : Fin 3 → Nat :=
  let c1_467 : Index := 1#32
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v859 : BitVec 32 := Scalar.addi v127 c24_i32_466
  let v860 : Index := Scalar.indexCast v859
  let c512_468 : Index := 512#32
  ![1, v860.toNat, 512]
def k0_off24 (k0_t1 : Fin k0_t1_loop.trips) (c24_i32_472 : BitVec 32) : Fin 3 → Nat :=
  let c0_473 : Index := 0#32
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v870 : BitVec 32 := Scalar.addi v127 c24_i32_472
  let v871 : Index := Scalar.indexCast v870
  let c512_474 : Index := 512#32
  ![0, v871.toNat, 512]
def k0_off25 (k0_t1 : Fin k0_t1_loop.trips) (c24_i32_478 : BitVec 32) : Fin 2 → Nat :=
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v881 : BitVec 32 := Scalar.addi v127 c24_i32_478
  let v882 : Index := Scalar.indexCast v881
  let c512_479 : Index := 512#32
  ![v882.toNat, 512]
def k0_off26 (k0_t1 : Fin k0_t1_loop.trips) (c16_i32_483 : BitVec 32) : Fin 3 → Nat :=
  let c6_484 : Index := 6#32
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v891 : BitVec 32 := Scalar.addi v127 c16_i32_483
  let v892 : Index := Scalar.indexCast v891
  let c512_485 : Index := 512#32
  ![6, v892.toNat, 512]
def k0_off27 (k0_t1 : Fin k0_t1_loop.trips) : Fin 2 → Nat :=
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v1153 : Index := Scalar.indexCast v127
  let c512_624 : Index := 512#32
  ![v1153.toNat, 512]
def k0_off28 (k0_t1 : Fin k0_t1_loop.trips) (c24_i32_626 : BitVec 32) : Fin 3 → Nat :=
  let c5_627 : Index := 5#32
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v1158 : BitVec 32 := Scalar.addi v127 c24_i32_626
  let v1159 : Index := Scalar.indexCast v1158
  let c768 : Index := 768#32
  ![5, v1159.toNat, 768]
def k0_off29 (k0_t1 : Fin k0_t1_loop.trips) (c24_i32_631 : BitVec 32) : Fin 3 → Nat :=
  let c4_632 : Index := 4#32
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v1169 : BitVec 32 := Scalar.addi v127 c24_i32_631
  let v1170 : Index := Scalar.indexCast v1169
  let c768_633 : Index := 768#32
  ![4, v1170.toNat, 768]
def k0_off30 (k0_t1 : Fin k0_t1_loop.trips) (c24_i32_637 : BitVec 32) : Fin 3 → Nat :=
  let c3_638 : Index := 3#32
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v1180 : BitVec 32 := Scalar.addi v127 c24_i32_637
  let v1181 : Index := Scalar.indexCast v1180
  let c768_639 : Index := 768#32
  ![3, v1181.toNat, 768]
def k0_off31 (k0_t1 : Fin k0_t1_loop.trips) (c24_i32_643 : BitVec 32) : Fin 3 → Nat :=
  let c2_644 : Index := 2#32
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v1191 : BitVec 32 := Scalar.addi v127 c24_i32_643
  let v1192 : Index := Scalar.indexCast v1191
  let c768_645 : Index := 768#32
  ![2, v1192.toNat, 768]
def k0_off32 (k0_t1 : Fin k0_t1_loop.trips) (c24_i32_649 : BitVec 32) : Fin 3 → Nat :=
  let c1_650 : Index := 1#32
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v1202 : BitVec 32 := Scalar.addi v127 c24_i32_649
  let v1203 : Index := Scalar.indexCast v1202
  let c768_651 : Index := 768#32
  ![1, v1203.toNat, 768]
def k0_off33 (k0_t1 : Fin k0_t1_loop.trips) (c24_i32_655 : BitVec 32) : Fin 3 → Nat :=
  let c0_656 : Index := 0#32
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v1213 : BitVec 32 := Scalar.addi v127 c24_i32_655
  let v1214 : Index := Scalar.indexCast v1213
  let c768_657 : Index := 768#32
  ![0, v1214.toNat, 768]
def k0_off34 (k0_t1 : Fin k0_t1_loop.trips) (c24_i32_661 : BitVec 32) : Fin 2 → Nat :=
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v1224 : BitVec 32 := Scalar.addi v127 c24_i32_661
  let v1225 : Index := Scalar.indexCast v1224
  let c768_662 : Index := 768#32
  ![v1225.toNat, 768]
def k0_off35 (k0_t1 : Fin k0_t1_loop.trips) (c16_i32_666 : BitVec 32) : Fin 3 → Nat :=
  let c6_667 : Index := 6#32
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v1234 : BitVec 32 := Scalar.addi v127 c16_i32_666
  let v1235 : Index := Scalar.indexCast v1234
  let c768_668 : Index := 768#32
  ![6, v1235.toNat, 768]
def k0_off36 (k0_t1 : Fin k0_t1_loop.trips) : Fin 2 → Nat :=
  let c0_i32_42 : BitVec 32 := 0#32
  let c1_i32 : BitVec 32 := 1#32
  let arg20 : BitVec 32 := Scf.iv c0_i32_42 c1_i32 k0_t1
  let c64_i32 : BitVec 32 := 64#32
  let v126 : BitVec 32 := Scalar.muli arg20 c64_i32
  let v127 : BitVec 32 := v126
  let v1496 : Index := Scalar.indexCast v127
  let c768_807 : Index := 768#32
  ![v1496.toNat, 768]
@[reducible] def k0_t2_loop : Scf.Loop 32 :=
  let c0_i32_44 : BitVec 32 := 0#32
  let c8_i32_45 : BitVec 32 := 8#32
  let v54 : BitVec 32 := Scalar.addi c0_i32_44 c8_i32_45
  let c1_i32_46 : BitVec 32 := 1#32
  ⟨c0_i32_44, v54, c1_i32_46⟩
def k0_mult2 (k0_t2 : Fin k0_t2_loop.trips) : BitVec 32 :=
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  v126
def k0_off37 (k0_t2 : Fin k0_t2_loop.trips) : Fin 2 → Nat :=
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v128 : Index := Scalar.indexCast v127
  let c0_99 : Index := 0#32
  ![v128.toNat, 0]
def k0_off38 (k0_t2 : Fin k0_t2_loop.trips) (c24_i32 : BitVec 32) : Fin 3 → Nat :=
  let c5_100 : Index := 5#32
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v132 : BitVec 32 := Scalar.addi v127 c24_i32
  let v133 : Index := Scalar.indexCast v132
  let c0_101 : Index := 0#32
  ![5, v133.toNat, 0]
def k0_off39 (k0_t2 : Fin k0_t2_loop.trips) (c24_i32_109 : BitVec 32) : Fin 3 → Nat :=
  let c4_110 : Index := 4#32
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v145 : BitVec 32 := Scalar.addi v127 c24_i32_109
  let v146 : Index := Scalar.indexCast v145
  let c0_111 : Index := 0#32
  ![4, v146.toNat, 0]
def k0_off40 (k0_t2 : Fin k0_t2_loop.trips) (c24_i32_119 : BitVec 32) : Fin 3 → Nat :=
  let c3_120 : Index := 3#32
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v158 : BitVec 32 := Scalar.addi v127 c24_i32_119
  let v159 : Index := Scalar.indexCast v158
  let c0_121 : Index := 0#32
  ![3, v159.toNat, 0]
def k0_off41 (k0_t2 : Fin k0_t2_loop.trips) (c24_i32_129 : BitVec 32) : Fin 3 → Nat :=
  let c2_130 : Index := 2#32
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v171 : BitVec 32 := Scalar.addi v127 c24_i32_129
  let v172 : Index := Scalar.indexCast v171
  let c0_131 : Index := 0#32
  ![2, v172.toNat, 0]
def k0_off42 (k0_t2 : Fin k0_t2_loop.trips) (c24_i32_139 : BitVec 32) : Fin 3 → Nat :=
  let c1_140 : Index := 1#32
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v184 : BitVec 32 := Scalar.addi v127 c24_i32_139
  let v185 : Index := Scalar.indexCast v184
  let c0_141 : Index := 0#32
  ![1, v185.toNat, 0]
def k0_off43 (k0_t2 : Fin k0_t2_loop.trips) (c24_i32_149 : BitVec 32) : Fin 3 → Nat :=
  let c0_150 : Index := 0#32
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v197 : BitVec 32 := Scalar.addi v127 c24_i32_149
  let v198 : Index := Scalar.indexCast v197
  let c0_151 : Index := 0#32
  ![0, v198.toNat, 0]
def k0_off44 (k0_t2 : Fin k0_t2_loop.trips) (c24_i32_159 : BitVec 32) : Fin 2 → Nat :=
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v210 : BitVec 32 := Scalar.addi v127 c24_i32_159
  let v211 : Index := Scalar.indexCast v210
  let c0_160 : Index := 0#32
  ![v211.toNat, 0]
def k0_off45 (k0_t2 : Fin k0_t2_loop.trips) (c16_i32 : BitVec 32) : Fin 3 → Nat :=
  let c6_168 : Index := 6#32
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v222 : BitVec 32 := Scalar.addi v127 c16_i32
  let v223 : Index := Scalar.indexCast v222
  let c0_169 : Index := 0#32
  ![6, v223.toNat, 0]
def k0_off46 (k0_t2 : Fin k0_t2_loop.trips) : Fin 2 → Nat :=
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v531 : Index := Scalar.indexCast v127
  let c256 : Index := 256#32
  ![v531.toNat, 256]
def k0_off47 (k0_t2 : Fin k0_t2_loop.trips) (c24_i32_381 : BitVec 32) : Fin 3 → Nat :=
  let c5_382 : Index := 5#32
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v535 : BitVec 32 := Scalar.addi v127 c24_i32_381
  let v536 : Index := Scalar.indexCast v535
  let c256_383 : Index := 256#32
  ![5, v536.toNat, 256]
def k0_off48 (k0_t2 : Fin k0_t2_loop.trips) (c24_i32_391 : BitVec 32) : Fin 3 → Nat :=
  let c4_392 : Index := 4#32
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v548 : BitVec 32 := Scalar.addi v127 c24_i32_391
  let v549 : Index := Scalar.indexCast v548
  let c256_393 : Index := 256#32
  ![4, v549.toNat, 256]
def k0_off49 (k0_t2 : Fin k0_t2_loop.trips) (c24_i32_401 : BitVec 32) : Fin 3 → Nat :=
  let c3_402 : Index := 3#32
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v561 : BitVec 32 := Scalar.addi v127 c24_i32_401
  let v562 : Index := Scalar.indexCast v561
  let c256_403 : Index := 256#32
  ![3, v562.toNat, 256]
def k0_off50 (k0_t2 : Fin k0_t2_loop.trips) (c24_i32_411 : BitVec 32) : Fin 3 → Nat :=
  let c2_412 : Index := 2#32
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v574 : BitVec 32 := Scalar.addi v127 c24_i32_411
  let v575 : Index := Scalar.indexCast v574
  let c256_413 : Index := 256#32
  ![2, v575.toNat, 256]
def k0_off51 (k0_t2 : Fin k0_t2_loop.trips) (c24_i32_421 : BitVec 32) : Fin 3 → Nat :=
  let c1_422 : Index := 1#32
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v587 : BitVec 32 := Scalar.addi v127 c24_i32_421
  let v588 : Index := Scalar.indexCast v587
  let c256_423 : Index := 256#32
  ![1, v588.toNat, 256]
def k0_off52 (k0_t2 : Fin k0_t2_loop.trips) (c24_i32_431 : BitVec 32) : Fin 3 → Nat :=
  let c0_432 : Index := 0#32
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v600 : BitVec 32 := Scalar.addi v127 c24_i32_431
  let v601 : Index := Scalar.indexCast v600
  let c256_433 : Index := 256#32
  ![0, v601.toNat, 256]
def k0_off53 (k0_t2 : Fin k0_t2_loop.trips) (c24_i32_441 : BitVec 32) : Fin 2 → Nat :=
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v613 : BitVec 32 := Scalar.addi v127 c24_i32_441
  let v614 : Index := Scalar.indexCast v613
  let c256_442 : Index := 256#32
  ![v614.toNat, 256]
def k0_off54 (k0_t2 : Fin k0_t2_loop.trips) (c16_i32_450 : BitVec 32) : Fin 3 → Nat :=
  let c6_451 : Index := 6#32
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v625 : BitVec 32 := Scalar.addi v127 c16_i32_450
  let v626 : Index := Scalar.indexCast v625
  let c256_452 : Index := 256#32
  ![6, v626.toNat, 256]
def k0_off55 (k0_t2 : Fin k0_t2_loop.trips) : Fin 2 → Nat :=
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v934 : Index := Scalar.indexCast v127
  let c512_687 : Index := 512#32
  ![v934.toNat, 512]
def k0_off56 (k0_t2 : Fin k0_t2_loop.trips) (c24_i32_688 : BitVec 32) : Fin 3 → Nat :=
  let c5_689 : Index := 5#32
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v938 : BitVec 32 := Scalar.addi v127 c24_i32_688
  let v939 : Index := Scalar.indexCast v938
  let c512_690 : Index := 512#32
  ![5, v939.toNat, 512]
def k0_off57 (k0_t2 : Fin k0_t2_loop.trips) (c24_i32_698 : BitVec 32) : Fin 3 → Nat :=
  let c4_699 : Index := 4#32
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v951 : BitVec 32 := Scalar.addi v127 c24_i32_698
  let v952 : Index := Scalar.indexCast v951
  let c512_700 : Index := 512#32
  ![4, v952.toNat, 512]
def k0_off58 (k0_t2 : Fin k0_t2_loop.trips) (c24_i32_708 : BitVec 32) : Fin 3 → Nat :=
  let c3_709 : Index := 3#32
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v964 : BitVec 32 := Scalar.addi v127 c24_i32_708
  let v965 : Index := Scalar.indexCast v964
  let c512_710 : Index := 512#32
  ![3, v965.toNat, 512]
def k0_off59 (k0_t2 : Fin k0_t2_loop.trips) (c24_i32_718 : BitVec 32) : Fin 3 → Nat :=
  let c2_719 : Index := 2#32
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v977 : BitVec 32 := Scalar.addi v127 c24_i32_718
  let v978 : Index := Scalar.indexCast v977
  let c512_720 : Index := 512#32
  ![2, v978.toNat, 512]
def k0_off60 (k0_t2 : Fin k0_t2_loop.trips) (c24_i32_728 : BitVec 32) : Fin 3 → Nat :=
  let c1_729 : Index := 1#32
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v990 : BitVec 32 := Scalar.addi v127 c24_i32_728
  let v991 : Index := Scalar.indexCast v990
  let c512_730 : Index := 512#32
  ![1, v991.toNat, 512]
def k0_off61 (k0_t2 : Fin k0_t2_loop.trips) (c24_i32_738 : BitVec 32) : Fin 3 → Nat :=
  let c0_739 : Index := 0#32
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v1003 : BitVec 32 := Scalar.addi v127 c24_i32_738
  let v1004 : Index := Scalar.indexCast v1003
  let c512_740 : Index := 512#32
  ![0, v1004.toNat, 512]
def k0_off62 (k0_t2 : Fin k0_t2_loop.trips) (c24_i32_748 : BitVec 32) : Fin 2 → Nat :=
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v1016 : BitVec 32 := Scalar.addi v127 c24_i32_748
  let v1017 : Index := Scalar.indexCast v1016
  let c512_749 : Index := 512#32
  ![v1017.toNat, 512]
def k0_off63 (k0_t2 : Fin k0_t2_loop.trips) (c16_i32_757 : BitVec 32) : Fin 3 → Nat :=
  let c6_758 : Index := 6#32
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v1028 : BitVec 32 := Scalar.addi v127 c16_i32_757
  let v1029 : Index := Scalar.indexCast v1028
  let c512_759 : Index := 512#32
  ![6, v1029.toNat, 512]
def k0_off64 (k0_t2 : Fin k0_t2_loop.trips) : Fin 2 → Nat :=
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v1337 : Index := Scalar.indexCast v127
  let c768 : Index := 768#32
  ![v1337.toNat, 768]
def k0_off65 (k0_t2 : Fin k0_t2_loop.trips) (c24_i32_994 : BitVec 32) : Fin 3 → Nat :=
  let c5_995 : Index := 5#32
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v1341 : BitVec 32 := Scalar.addi v127 c24_i32_994
  let v1342 : Index := Scalar.indexCast v1341
  let c768_996 : Index := 768#32
  ![5, v1342.toNat, 768]
def k0_off66 (k0_t2 : Fin k0_t2_loop.trips) (c24_i32_1004 : BitVec 32) : Fin 3 → Nat :=
  let c4_1005 : Index := 4#32
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v1354 : BitVec 32 := Scalar.addi v127 c24_i32_1004
  let v1355 : Index := Scalar.indexCast v1354
  let c768_1006 : Index := 768#32
  ![4, v1355.toNat, 768]
def k0_off67 (k0_t2 : Fin k0_t2_loop.trips) (c24_i32_1014 : BitVec 32) : Fin 3 → Nat :=
  let c3_1015 : Index := 3#32
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v1367 : BitVec 32 := Scalar.addi v127 c24_i32_1014
  let v1368 : Index := Scalar.indexCast v1367
  let c768_1016 : Index := 768#32
  ![3, v1368.toNat, 768]
def k0_off68 (k0_t2 : Fin k0_t2_loop.trips) (c24_i32_1024 : BitVec 32) : Fin 3 → Nat :=
  let c2_1025 : Index := 2#32
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v1380 : BitVec 32 := Scalar.addi v127 c24_i32_1024
  let v1381 : Index := Scalar.indexCast v1380
  let c768_1026 : Index := 768#32
  ![2, v1381.toNat, 768]
def k0_off69 (k0_t2 : Fin k0_t2_loop.trips) (c24_i32_1034 : BitVec 32) : Fin 3 → Nat :=
  let c1_1035 : Index := 1#32
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v1393 : BitVec 32 := Scalar.addi v127 c24_i32_1034
  let v1394 : Index := Scalar.indexCast v1393
  let c768_1036 : Index := 768#32
  ![1, v1394.toNat, 768]
def k0_off70 (k0_t2 : Fin k0_t2_loop.trips) (c24_i32_1044 : BitVec 32) : Fin 3 → Nat :=
  let c0_1045 : Index := 0#32
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v1406 : BitVec 32 := Scalar.addi v127 c24_i32_1044
  let v1407 : Index := Scalar.indexCast v1406
  let c768_1046 : Index := 768#32
  ![0, v1407.toNat, 768]
def k0_off71 (k0_t2 : Fin k0_t2_loop.trips) (c24_i32_1054 : BitVec 32) : Fin 2 → Nat :=
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v1419 : BitVec 32 := Scalar.addi v127 c24_i32_1054
  let v1420 : Index := Scalar.indexCast v1419
  let c768_1055 : Index := 768#32
  ![v1420.toNat, 768]
def k0_off72 (k0_t2 : Fin k0_t2_loop.trips) (c16_i32_1063 : BitVec 32) : Fin 3 → Nat :=
  let c6_1064 : Index := 6#32
  let c0_i32_44 : BitVec 32 := 0#32
  let c1_i32_46 : BitVec 32 := 1#32
  let arg20 : BitVec 32 := Scf.iv c0_i32_44 c1_i32_46 k0_t2
  let c64_i32 : BitVec 32 := 64#32
  let v126 : BitVec 32 := Scalar.muli arg20 c64_i32
  let v127 : BitVec 32 := v126
  let v1431 : BitVec 32 := Scalar.addi v127 c16_i32_1063
  let v1432 : Index := Scalar.indexCast v1431
  let c768_1065 : Index := 768#32
  ![6, v1432.toNat, 768]
def k0_cond2 (i : grid0.Coords) : BitVec 1 :=
  let arg0 : BitVec 32 := BitVec.ofNat 32 (i 0).val
  let c31_i32_97 : BitVec 32 := 31#32
  let v123 : BitVec 1 := Scalar.cmpi .eq arg0 c31_i32_97
  let v124 : BitVec 32 := Scalar.extui v123
  let c0_i32_98 : BitVec 32 := 0#32
  let v125 : BitVec 1 := Scalar.cmpi .ne v124 c0_i32_98
  v125

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference5Ideal.lean ====
abbrev S16384x1024 : Shape := ⟨2, ![16384, 1024]⟩
abbrev S1024x2048 : Shape := ⟨2, ![1024, 2048]⟩
abbrev S2048 : Shape := ⟨1, ![2048]⟩
abbrev S31x1024 : Shape := ⟨2, ![31, 1024]⟩
abbrev S1024 : Shape := ⟨1, ![1024]⟩
abbrev S16384x2048 : Shape := ⟨2, ![16384, 2048]⟩
abbrev S1x2048 : Shape := ⟨2, ![1, 2048]⟩
abbrev S_ : Shape := ⟨0, ![]⟩
abbrev S30x1024 : Shape := ⟨2, ![30, 1024]⟩
abbrev S16414x1024 : Shape := ⟨2, ![16414, 1024]⟩
abbrev S1x1024 : Shape := ⟨2, ![1, 1024]⟩
abbrev S16384x4x512 : Shape := ⟨3, ![16384, 4, 512]⟩
abbrev S4x16384x512 : Shape := ⟨3, ![4, 16384, 512]⟩
abbrev S32x1024 : Shape := ⟨2, ![32, 1024]⟩

abbrev nBuf : Space → Nat
  | .hbm => 757
  | .vmem => 0
  | .smem => 0
  | _ => 0

abbrev hbmTy0_0 (i : Nat) : BufTy := match i % 128 with
  | 0 => ⟨S16384x1024, .f32⟩
  | 1 => ⟨S1024x2048, .f32⟩
  | 2 => ⟨S2048, .f32⟩
  | 3 => ⟨S31x1024, .f32⟩
  | 4 => ⟨S1024, .f32⟩
  | 5 => ⟨S16384x1024, .f32⟩
  | 6 => ⟨S16384x1024, .f32⟩
  | 7 => ⟨S16384x2048, .f32⟩
  | 8 => ⟨S1x2048, .f32⟩
  | 9 => ⟨S16384x2048, .f32⟩
  | 10 => ⟨S16384x2048, .f32⟩
  | 11 => ⟨S16384x1024, .f32⟩
  | 12 => ⟨S16384x1024, .f32⟩
  | 13 => ⟨S16384x1024, .f32⟩
  | 14 => ⟨S16384x1024, .f32⟩
  | 15 => ⟨S_, .f32⟩
  | 16 => ⟨S16384x1024, .f32⟩
  | 17 => ⟨S16384x1024, .f32⟩
  | 18 => ⟨S_, .f32⟩
  | 19 => ⟨S16384x1024, .f32⟩
  | 20 => ⟨S16384x1024, .f32⟩
  | 21 => ⟨S_, .f32⟩
  | 22 => ⟨S16384x1024, .f32⟩
  | 23 => ⟨S16384x1024, .f32⟩
  | 24 => ⟨S16384x1024, .f32⟩
  | 25 => ⟨S16384x1024, .f32⟩
  | 26 => ⟨S_, .f32⟩
  | 27 => ⟨S30x1024, .f32⟩
  | 28 => ⟨S16414x1024, .f32⟩
  | 29 => ⟨S_, .f32⟩
  | 30 => ⟨S30x1024, .f32⟩
  | 31 => ⟨S1x1024, .f32⟩
  | 32 => ⟨S1024, .f32⟩
  | 33 => ⟨S16384x1024, .f32⟩
  | 34 => ⟨S1x1024, .f32⟩
  | 35 => ⟨S16384x1024, .f32⟩
  | 36 => ⟨S16384x1024, .f32⟩
  | 37 => ⟨S_, .f32⟩
  | 38 => ⟨S16384x1024, .f32⟩
  | 39 => ⟨S16384x1024, .f32⟩
  | 40 => ⟨S1x1024, .f32⟩
  | 41 => ⟨S1024, .f32⟩
  | 42 => ⟨S16384x1024, .f32⟩
  | 43 => ⟨S1x1024, .f32⟩
  | 44 => ⟨S16384x1024, .f32⟩
  | 45 => ⟨S16384x1024, .f32⟩
  | 46 => ⟨S16384x1024, .f32⟩
  | 47 => ⟨S1x1024, .f32⟩
  | 48 => ⟨S1024, .f32⟩
  | 49 => ⟨S16384x1024, .f32⟩
  | 50 => ⟨S1x1024, .f32⟩
  | 51 => ⟨S16384x1024, .f32⟩
  | 52 => ⟨S16384x1024, .f32⟩
  | 53 => ⟨S16384x1024, .f32⟩
  | 54 => ⟨S1x1024, .f32⟩
  | 55 => ⟨S1024, .f32⟩
  | 56 => ⟨S16384x1024, .f32⟩
  | 57 => ⟨S1x1024, .f32⟩
  | 58 => ⟨S16384x1024, .f32⟩
  | 59 => ⟨S16384x1024, .f32⟩
  | 60 => ⟨S16384x1024, .f32⟩
  | 61 => ⟨S1x1024, .f32⟩
  | 62 => ⟨S1024, .f32⟩
  | 63 => ⟨S16384x1024, .f32⟩
  | 64 => ⟨S1x1024, .f32⟩
  | 65 => ⟨S16384x1024, .f32⟩
  | 66 => ⟨S16384x1024, .f32⟩
  | 67 => ⟨S16384x1024, .f32⟩
  | 68 => ⟨S1x1024, .f32⟩
  | 69 => ⟨S1024, .f32⟩
  | 70 => ⟨S16384x1024, .f32⟩
  | 71 => ⟨S1x1024, .f32⟩
  | 72 => ⟨S16384x1024, .f32⟩
  | 73 => ⟨S16384x1024, .f32⟩
  | 74 => ⟨S16384x1024, .f32⟩
  | 75 => ⟨S1x1024, .f32⟩
  | 76 => ⟨S1024, .f32⟩
  | 77 => ⟨S16384x1024, .f32⟩
  | 78 => ⟨S1x1024, .f32⟩
  | 79 => ⟨S16384x1024, .f32⟩
  | 80 => ⟨S16384x1024, .f32⟩
  | 81 => ⟨S16384x1024, .f32⟩
  | 82 => ⟨S1x1024, .f32⟩
  | 83 => ⟨S1024, .f32⟩
  | 84 => ⟨S16384x1024, .f32⟩
  | 85 => ⟨S1x1024, .f32⟩
  | 86 => ⟨S16384x1024, .f32⟩
  | 87 => ⟨S16384x1024, .f32⟩
  | 88 => ⟨S16384x1024, .f32⟩
  | 89 => ⟨S1x1024, .f32⟩
  | 90 => ⟨S1024, .f32⟩
  | 91 => ⟨S16384x1024, .f32⟩
  | 92 => ⟨S1x1024, .f32⟩
  | 93 => ⟨S16384x1024, .f32⟩
  | 94 => ⟨S16384x1024, .f32⟩
  | 95 => ⟨S16384x1024, .f32⟩
  | 96 => ⟨S1x1024, .f32⟩
  | 97 => ⟨S1024, .f32⟩
  | 98 => ⟨S16384x1024, .f32⟩
  | 99 => ⟨S1x1024, .f32⟩
  | 100 => ⟨S16384x1024, .f32⟩
  | 101 => ⟨S16384x1024, .f32⟩
  | 102 => ⟨S16384x1024, .f32⟩
  | 103 => ⟨S1x1024, .f32⟩
  | 104 => ⟨S1024, .f32⟩
  | 105 => ⟨S16384x1024, .f32⟩
  | 106 => ⟨S1x1024, .f32⟩
  | 107 => ⟨S16384x1024, .f32⟩
  | 108 => ⟨S16384x1024, .f32⟩
  | 109 => ⟨S16384x1024, .f32⟩
  | 110 => ⟨S1x1024, .f32⟩
  | 111 => ⟨S1024, .f32⟩
  | 112 => ⟨S16384x1024, .f32⟩
  | 113 => ⟨S1x1024, .f32⟩
  | 114 => ⟨S16384x1024, .f32⟩
  | 115 => ⟨S16384x1024, .f32⟩
  | 116 => ⟨S16384x1024, .f32⟩
  | 117 => ⟨S1x1024, .f32⟩
  | 118 => ⟨S1024, .f32⟩
  | 119 => ⟨S16384x1024, .f32⟩
  | 120 => ⟨S1x1024, .f32⟩
  | 121 => ⟨S16384x1024, .f32⟩
  | 122 => ⟨S16384x1024, .f32⟩
  | 123 => ⟨S16384x1024, .f32⟩
  | 124 => ⟨S1x1024, .f32⟩
  | 125 => ⟨S1024, .f32⟩
  | 126 => ⟨S16384x1024, .f32⟩
  | 127 => ⟨S1x1024, .f32⟩
  | _ => ⟨S16384x1024, .f32⟩

abbrev hbmTy0_1 (i : Nat) : BufTy := match i % 128 with
  | 0 => ⟨S16384x1024, .f32⟩
  | 1 => ⟨S16384x1024, .f32⟩
  | 2 => ⟨S16384x1024, .f32⟩
  | 3 => ⟨S1x1024, .f32⟩
  | 4 => ⟨S1024, .f32⟩
  | 5 => ⟨S16384x1024, .f32⟩
  | 6 => ⟨S1x1024, .f32⟩
  | 7 => ⟨S16384x1024, .f32⟩
  | 8 => ⟨S16384x1024, .f32⟩
  | 9 => ⟨S16384x1024, .f32⟩
  | 10 => ⟨S1x1024, .f32⟩
  | 11 => ⟨S1024, .f32⟩
  | 12 => ⟨S16384x1024, .f32⟩
  | 13 => ⟨S1x1024, .f32⟩
  | 14 => ⟨S16384x1024, .f32⟩
  | 15 => ⟨S16384x1024, .f32⟩
  | 16 => ⟨S16384x1024, .f32⟩
  | 17 => ⟨S1x1024, .f32⟩
  | 18 => ⟨S1024, .f32⟩
  | 19 => ⟨S16384x1024, .f32⟩
  | 20 => ⟨S1x1024, .f32⟩
  | 21 => ⟨S16384x1024, .f32⟩
  | 22 => ⟨S16384x1024, .f32⟩
  | 23 => ⟨S16384x1024, .f32⟩
  | 24 => ⟨S1x1024, .f32⟩
  | 25 => ⟨S1024, .f32⟩
  | 26 => ⟨S16384x1024, .f32⟩
  | 27 => ⟨S1x1024, .f32⟩
  | 28 => ⟨S16384x1024, .f32⟩
  | 29 => ⟨S16384x1024, .f32⟩
  | 30 => ⟨S16384x1024, .f32⟩
  | 31 => ⟨S1x1024, .f32⟩
  | 32 => ⟨S1024, .f32⟩
  | 33 => ⟨S16384x1024, .f32⟩
  | 34 => ⟨S1x1024, .f32⟩
  | 35 => ⟨S16384x1024, .f32⟩
  | 36 => ⟨S16384x1024, .f32⟩
  | 37 => ⟨S16384x1024, .f32⟩
  | 38 => ⟨S1x1024, .f32⟩
  | 39 => ⟨S1024, .f32⟩
  | 40 => ⟨S16384x1024, .f32⟩
  | 41 => ⟨S1x1024, .f32⟩
  | 42 => ⟨S16384x1024, .f32⟩
  | 43 => ⟨S16384x1024, .f32⟩
  | 44 => ⟨S16384x1024, .f32⟩
  | 45 => ⟨S1x1024, .f32⟩
  | 46 => ⟨S1024, .f32⟩
  | 47 => ⟨S16384x1024, .f32⟩
  | 48 => ⟨S1x1024, .f32⟩
  | 49 => ⟨S16384x1024, .f32⟩
  | 50 => ⟨S16384x1024, .f32⟩
  | 51 => ⟨S16384x1024, .f32⟩
  | 52 => ⟨S1x1024, .f32⟩
  | 53 => ⟨S1024, .f32⟩
  | 54 => ⟨S16384x1024, .f32⟩
  | 55 => ⟨S1x1024, .f32⟩
  | 56 => ⟨S16384x1024, .f32⟩
  | 57 => ⟨S16384x1024, .f32⟩
  | 58 => ⟨S16384x1024, .f32⟩
  | 59 => ⟨S1x1024, .f32⟩
  | 60 => ⟨S1024, .f32⟩
  | 61 => ⟨S16384x1024, .f32⟩
  | 62 => ⟨S1x1024, .f32⟩
  | 63 => ⟨S16384x1024, .f32⟩
  | 64 => ⟨S16384x1024, .f32⟩
  | 65 => ⟨S16384x1024, .f32⟩
  | 66 => ⟨S1x1024, .f32⟩
  | 67 => ⟨S1024, .f32⟩
  | 68 => ⟨S16384x1024, .f32⟩
  | 69 => ⟨S1x1024, .f32⟩
  | 70 => ⟨S16384x1024, .f32⟩
  | 71 => ⟨S16384x1024, .f32⟩
  | 72 => ⟨S16384x1024, .f32⟩
  | 73 => ⟨S1x1024, .f32⟩
  | 74 => ⟨S1024, .f32⟩
  | 75 => ⟨S16384x1024, .f32⟩
  | 76 => ⟨S1x1024, .f32⟩
  | 77 => ⟨S16384x1024, .f32⟩
  | 78 => ⟨S16384x1024, .f32⟩
  | 79 => ⟨S16384x1024, .f32⟩
  | 80 => ⟨S1x1024, .f32⟩
  | 81 => ⟨S1024, .f32⟩
  | 82 => ⟨S16384x1024, .f32⟩
  | 83 => ⟨S1x1024, .f32⟩
  | 84 => ⟨S16384x1024, .f32⟩
  | 85 => ⟨S16384x1024, .f32⟩
  | 86 => ⟨S16384x1024, .f32⟩
  | 87 => ⟨S1x1024, .f32⟩
  | 88 => ⟨S1024, .f32⟩
  | 89 => ⟨S16384x1024, .f32⟩
  | 90 => ⟨S1x1024, .f32⟩
  | 91 => ⟨S16384x1024, .f32⟩
  | 92 => ⟨S16384x1024, .f32⟩
  | 93 => ⟨S16384x1024, .f32⟩
  | 94 => ⟨S1x1024, .f32⟩
  | 95 => ⟨S1024, .f32⟩
  | 96 => ⟨S16384x1024, .f32⟩
  | 97 => ⟨S1x1024, .f32⟩
  | 98 => ⟨S16384x1024, .f32⟩
  | 99 => ⟨S16384x1024, .f32⟩
  | 100 => ⟨S16384x1024, .f32⟩
  | 101 => ⟨S1x1024, .f32⟩
  | 102 => ⟨S1024, .f32⟩
  | 103 => ⟨S16384x1024, .f32⟩
  | 104 => ⟨S1x1024, .f32⟩
  | 105 => ⟨S16384x1024, .f32⟩
  | 106 => ⟨S16384x1024, .f32⟩
  | 107 => ⟨S16384x1024, .f32⟩
  | 108 => ⟨S1x1024, .f32⟩
  | 109 => ⟨S1024, .f32⟩
  | 110 => ⟨S16384x1024, .f32⟩
  | 111 => ⟨S1x1024, .f32⟩
  | 112 => ⟨S16384x1024, .f32⟩
  | 113 => ⟨S16384x1024, .f32⟩
  | 114 => ⟨S16384x1024, .f32⟩
  | 115 => ⟨S1x1024, .f32⟩
  | 116 => ⟨S1024, .f32⟩
  | 117 => ⟨S16384x1024, .f32⟩
  | 118 => ⟨S1x1024, .f32⟩
  | 119 => ⟨S16384x1024, .f32⟩
  | 120 => ⟨S16384x1024, .f32⟩
  | 121 => ⟨S16384x1024, .f32⟩
  | 122 => ⟨S1x1024, .f32⟩
  | 123 => ⟨S16384x1024, .f32⟩
  | 124 => ⟨S16384x1024, .f32⟩
  | 125 => ⟨S16384x1024, .f32⟩
  | 126 => ⟨S_, .f32⟩
  | 127 => ⟨S1024, .f32⟩
  | _ => ⟨S16384x1024, .f32⟩

abbrev hbmTy0_2 (i : Nat) : BufTy := match i % 128 with
  | 0 => ⟨S1x1024, .f32⟩
  | 1 => ⟨S_, .f32⟩
  | 2 => ⟨S1024, .f32⟩
  | 3 => ⟨S16384x1024, .f32⟩
  | 4 => ⟨S16384x1024, .f32⟩
  | 5 => ⟨S16384x1024, .f32⟩
  | 6 => ⟨S_, .f32⟩
  | 7 => ⟨S1024, .f32⟩
  | 8 => ⟨S1x1024, .f32⟩
  | 9 => ⟨S_, .f32⟩
  | 10 => ⟨S1024, .f32⟩
  | 11 => ⟨S_, .f32⟩
  | 12 => ⟨S16414x1024, .f32⟩
  | 13 => ⟨S1x1024, .f32⟩
  | 14 => ⟨S_, .f32⟩
  | 15 => ⟨S31x1024, .f32⟩
  | 16 => ⟨S16384x1024, .f32⟩
  | 17 => ⟨S16384x1024, .f32⟩
  | 18 => ⟨S16384x1024, .f32⟩
  | 19 => ⟨S_, .f32⟩
  | 20 => ⟨S1024, .f32⟩
  | 21 => ⟨S1x1024, .f32⟩
  | 22 => ⟨S_, .f32⟩
  | 23 => ⟨S1024, .f32⟩
  | 24 => ⟨S_, .f32⟩
  | 25 => ⟨S16414x1024, .f32⟩
  | 26 => ⟨S16414x1024, .f32⟩
  | 27 => ⟨S1x1024, .f32⟩
  | 28 => ⟨S_, .f32⟩
  | 29 => ⟨S31x1024, .f32⟩
  | 30 => ⟨S31x1024, .f32⟩
  | 31 => ⟨S16384x1024, .f32⟩
  | 32 => ⟨S16384x1024, .f32⟩
  | 33 => ⟨S16384x1024, .f32⟩
  | 34 => ⟨S_, .f32⟩
  | 35 => ⟨S1024, .f32⟩
  | 36 => ⟨S1x1024, .f32⟩
  | 37 => ⟨S_, .f32⟩
  | 38 => ⟨S1024, .f32⟩
  | 39 => ⟨S_, .f32⟩
  | 40 => ⟨S16414x1024, .f32⟩
  | 41 => ⟨S16414x1024, .f32⟩
  | 42 => ⟨S1x1024, .f32⟩
  | 43 => ⟨S_, .f32⟩
  | 44 => ⟨S31x1024, .f32⟩
  | 45 => ⟨S31x1024, .f32⟩
  | 46 => ⟨S16384x1024, .f32⟩
  | 47 => ⟨S16384x1024, .f32⟩
  | 48 => ⟨S16384x1024, .f32⟩
  | 49 => ⟨S_, .f32⟩
  | 50 => ⟨S1024, .f32⟩
  | 51 => ⟨S1x1024, .f32⟩
  | 52 => ⟨S_, .f32⟩
  | 53 => ⟨S1024, .f32⟩
  | 54 => ⟨S_, .f32⟩
  | 55 => ⟨S16414x1024, .f32⟩
  | 56 => ⟨S16414x1024, .f32⟩
  | 57 => ⟨S1x1024, .f32⟩
  | 58 => ⟨S_, .f32⟩
  | 59 => ⟨S31x1024, .f32⟩
  | 60 => ⟨S31x1024, .f32⟩
  | 61 => ⟨S16384x1024, .f32⟩
  | 62 => ⟨S16384x1024, .f32⟩
  | 63 => ⟨S16384x1024, .f32⟩
  | 64 => ⟨S_, .f32⟩
  | 65 => ⟨S1024, .f32⟩
  | 66 => ⟨S1x1024, .f32⟩
  | 67 => ⟨S_, .f32⟩
  | 68 => ⟨S1024, .f32⟩
  | 69 => ⟨S_, .f32⟩
  | 70 => ⟨S16414x1024, .f32⟩
  | 71 => ⟨S16414x1024, .f32⟩
  | 72 => ⟨S1x1024, .f32⟩
  | 73 => ⟨S_, .f32⟩
  | 74 => ⟨S31x1024, .f32⟩
  | 75 => ⟨S31x1024, .f32⟩
  | 76 => ⟨S16384x1024, .f32⟩
  | 77 => ⟨S16384x1024, .f32⟩
  | 78 => ⟨S16384x1024, .f32⟩
  | 79 => ⟨S_, .f32⟩
  | 80 => ⟨S1024, .f32⟩
  | 81 => ⟨S1x1024, .f32⟩
  | 82 => ⟨S_, .f32⟩
  | 83 => ⟨S1024, .f32⟩
  | 84 => ⟨S_, .f32⟩
  | 85 => ⟨S16414x1024, .f32⟩
  | 86 => ⟨S16414x1024, .f32⟩
  | 87 => ⟨S1x1024, .f32⟩
  | 88 => ⟨S_, .f32⟩
  | 89 => ⟨S31x1024, .f32⟩
  | 90 => ⟨S31x1024, .f32⟩
  | 91 => ⟨S16384x1024, .f32⟩
  | 92 => ⟨S16384x1024, .f32⟩
  | 93 => ⟨S16384x1024, .f32⟩
  | 94 => ⟨S_, .f32⟩
  | 95 => ⟨S1024, .f32⟩
  | 96 => ⟨S1x1024, .f32⟩
  | 97 => ⟨S_, .f32⟩
  | 98 => ⟨S1024, .f32⟩
  | 99 => ⟨S_, .f32⟩
  | 100 => ⟨S16414x1024, .f32⟩
  | 101 => ⟨S16414x1024, .f32⟩
  | 102 => ⟨S1x1024, .f32⟩
  | 103 => ⟨S_, .f32⟩
  | 104 => ⟨S31x1024, .f32⟩
  | 105 => ⟨S31x1024, .f32⟩
  | 106 => ⟨S16384x1024, .f32⟩
  | 107 => ⟨S16384x1024, .f32⟩
  | 108 => ⟨S16384x1024, .f32⟩
  | 109 => ⟨S_, .f32⟩
  | 110 => ⟨S1024, .f32⟩
  | 111 => ⟨S1x1024, .f32⟩
  | 112 => ⟨S_, .f32⟩
  | 113 => ⟨S1024, .f32⟩
  | 114 => ⟨S_, .f32⟩
  | 115 => ⟨S16414x1024, .f32⟩
  | 116 => ⟨S16414x1024, .f32⟩
  | 117 => ⟨S1x1024, .f32⟩
  | 118 => ⟨S_, .f32⟩
  | 119 => ⟨S31x1024, .f32⟩
  | 120 => ⟨S31x1024, .f32⟩
  | 121 => ⟨S16384x1024, .f32⟩
  | 122 => ⟨S16384x1024, .f32⟩
  | 123 => ⟨S16384x1024, .f32⟩
  | 124 => ⟨S_, .f32⟩
  | 125 => ⟨S1024, .f32⟩
  | 126 => ⟨S1x1024, .f32⟩
  | 127 => ⟨S_, .f32⟩
  | _ => ⟨S16384x1024, .f32⟩

abbrev hbmTy0_3 (i : Nat) : BufTy := match i % 128 with
  | 0 => ⟨S1024, .f32⟩
  | 1 => ⟨S_, .f32⟩
  | 2 => ⟨S16414x1024, .f32⟩
  | 3 => ⟨S16414x1024, .f32⟩
  | 4 => ⟨S1x1024, .f32⟩
  | 5 => ⟨S_, .f32⟩
  | 6 => ⟨S31x1024, .f32⟩
  | 7 => ⟨S31x1024, .f32⟩
  | 8 => ⟨S16384x1024, .f32⟩
  | 9 => ⟨S16384x1024, .f32⟩
  | 10 => ⟨S16384x1024, .f32⟩
  | 11 => ⟨S_, .f32⟩
  | 12 => ⟨S1024, .f32⟩
  | 13 => ⟨S1x1024, .f32⟩
  | 14 => ⟨S_, .f32⟩
  | 15 => ⟨S1024, .f32⟩
  | 16 => ⟨S_, .f32⟩
  | 17 => ⟨S16414x1024, .f32⟩
  | 18 => ⟨S16414x1024, .f32⟩
  | 19 => ⟨S1x1024, .f32⟩
  | 20 => ⟨S_, .f32⟩
  | 21 => ⟨S31x1024, .f32⟩
  | 22 => ⟨S31x1024, .f32⟩
  | 23 => ⟨S16384x1024, .f32⟩
  | 24 => ⟨S16384x1024, .f32⟩
  | 25 => ⟨S16384x1024, .f32⟩
  | 26 => ⟨S_, .f32⟩
  | 27 => ⟨S1024, .f32⟩
  | 28 => ⟨S1x1024, .f32⟩
  | 29 => ⟨S_, .f32⟩
  | 30 => ⟨S1024, .f32⟩
  | 31 => ⟨S_, .f32⟩
  | 32 => ⟨S16414x1024, .f32⟩
  | 33 => ⟨S16414x1024, .f32⟩
  | 34 => ⟨S1x1024, .f32⟩
  | 35 => ⟨S_, .f32⟩
  | 36 => ⟨S31x1024, .f32⟩
  | 37 => ⟨S31x1024, .f32⟩
  | 38 => ⟨S16384x1024, .f32⟩
  | 39 => ⟨S16384x1024, .f32⟩
  | 40 => ⟨S16384x1024, .f32⟩
  | 41 => ⟨S_, .f32⟩
  | 42 => ⟨S1024, .f32⟩
  | 43 => ⟨S1x1024, .f32⟩
  | 44 => ⟨S_, .f32⟩
  | 45 => ⟨S1024, .f32⟩
  | 46 => ⟨S_, .f32⟩
  | 47 => ⟨S16414x1024, .f32⟩
  | 48 => ⟨S16414x1024, .f32⟩
  | 49 => ⟨S1x1024, .f32⟩
  | 50 => ⟨S_, .f32⟩
  | 51 => ⟨S31x1024, .f32⟩
  | 52 => ⟨S31x1024, .f32⟩
  | 53 => ⟨S16384x1024, .f32⟩
  | 54 => ⟨S16384x1024, .f32⟩
  | 55 => ⟨S16384x1024, .f32⟩
  | 56 => ⟨S_, .f32⟩
  | 57 => ⟨S1024, .f32⟩
  | 58 => ⟨S1x1024, .f32⟩
  | 59 => ⟨S_, .f32⟩
  | 60 => ⟨S1024, .f32⟩
  | 61 => ⟨S_, .f32⟩
  | 62 => ⟨S16414x1024, .f32⟩
  | 63 => ⟨S16414x1024, .f32⟩
  | 64 => ⟨S1x1024, .f32⟩
  | 65 => ⟨S_, .f32⟩
  | 66 => ⟨S31x1024, .f32⟩
  | 67 => ⟨S31x1024, .f32⟩
  | 68 => ⟨S16384x1024, .f32⟩
  | 69 => ⟨S16384x1024, .f32⟩
  | 70 => ⟨S16384x1024, .f32⟩
  | 71 => ⟨S_, .f32⟩
  | 72 => ⟨S1024, .f32⟩
  | 73 => ⟨S1x1024, .f32⟩
  | 74 => ⟨S_, .f32⟩
  | 75 => ⟨S1024, .f32⟩
  | 76 => ⟨S_, .f32⟩
  | 77 => ⟨S16414x1024, .f32⟩
  | 78 => ⟨S16414x1024, .f32⟩
  | 79 => ⟨S1x1024, .f32⟩
  | 80 => ⟨S_, .f32⟩
  | 81 => ⟨S31x1024, .f32⟩
  | 82 => ⟨S31x1024, .f32⟩
  | 83 => ⟨S16384x1024, .f32⟩
  | 84 => ⟨S16384x1024, .f32⟩
  | 85 => ⟨S16384x1024, .f32⟩
  | 86 => ⟨S_, .f32⟩
  | 87 => ⟨S1024, .f32⟩
  | 88 => ⟨S1x1024, .f32⟩
  | 89 => ⟨S_, .f32⟩
  | 90 => ⟨S1024, .f32⟩
  | 91 => ⟨S_, .f32⟩
  | 92 => ⟨S16414x1024, .f32⟩
  | 93 => ⟨S16414x1024, .f32⟩
  | 94 => ⟨S1x1024, .f32⟩
  | 95 => ⟨S_, .f32⟩
  | 96 => ⟨S31x1024, .f32⟩
  | 97 => ⟨S31x1024, .f32⟩
  | 98 => ⟨S16384x1024, .f32⟩
  | 99 => ⟨S16384x1024, .f32⟩
  | 100 => ⟨S16384x1024, .f32⟩
  | 101 => ⟨S_, .f32⟩
  | 102 => ⟨S1024, .f32⟩
  | 103 => ⟨S1x1024, .f32⟩
  | 104 => ⟨S_, .f32⟩
  | 105 => ⟨S1024, .f32⟩
  | 106 => ⟨S_, .f32⟩
  | 107 => ⟨S16414x1024, .f32⟩
  | 108 => ⟨S16414x1024, .f32⟩
  | 109 => ⟨S1x1024, .f32⟩
  | 110 => ⟨S_, .f32⟩
  | 111 => ⟨S31x1024, .f32⟩
  | 112 => ⟨S31x1024, .f32⟩
  | 113 => ⟨S16384x1024, .f32⟩
  | 114 => ⟨S16384x1024, .f32⟩
  | 115 => ⟨S16384x1024, .f32⟩
  | 116 => ⟨S_, .f32⟩
  | 117 => ⟨S1024, .f32⟩
  | 118 => ⟨S1x1024, .f32⟩
  | 119 => ⟨S_, .f32⟩
  | 120 => ⟨S1024, .f32⟩
  | 121 => ⟨S_, .f32⟩
  | 122 => ⟨S16414x1024, .f32⟩
  | 123 => ⟨S16414x1024, .f32⟩
  | 124 => ⟨S1x1024, .f32⟩
  | 125 => ⟨S_, .f32⟩
  | 126 => ⟨S31x1024, .f32⟩
  | 127 => ⟨S31x1024, .f32⟩
  | _ => ⟨S16384x1024, .f32⟩

abbrev hbmTy0_4 (i : Nat) : BufTy := match i % 128 with
  | 0 => ⟨S16384x1024, .f32⟩
  | 1 => ⟨S16384x1024, .f32⟩
  | 2 => ⟨S16384x1024, .f32⟩
  | 3 => ⟨S_, .f32⟩
  | 4 => ⟨S1024, .f32⟩
  | 5 => ⟨S1x1024, .f32⟩
  | 6 => ⟨S_, .f32⟩
  | 7 => ⟨S1024, .f32⟩
  | 8 => ⟨S_, .f32⟩
  | 9 => ⟨S16414x1024, .f32⟩
  | 10 => ⟨S16414x1024, .f32⟩
  | 11 => ⟨S1x1024, .f32⟩
  | 12 => ⟨S_, .f32⟩
  | 13 => ⟨S31x1024, .f32⟩
  | 14 => ⟨S31x1024, .f32⟩
  | 15 => ⟨S16384x1024, .f32⟩
  | 16 => ⟨S16384x1024, .f32⟩
  | 17 => ⟨S16384x1024, .f32⟩
  | 18 => ⟨S_, .f32⟩
  | 19 => ⟨S1024, .f32⟩
  | 20 => ⟨S1x1024, .f32⟩
  | 21 => ⟨S_, .f32⟩
  | 22 => ⟨S1024, .f32⟩
  | 23 => ⟨S_, .f32⟩
  | 24 => ⟨S16414x1024, .f32⟩
  | 25 => ⟨S16414x1024, .f32⟩
  | 26 => ⟨S1x1024, .f32⟩
  | 27 => ⟨S_, .f32⟩
  | 28 => ⟨S31x1024, .f32⟩
  | 29 => ⟨S31x1024, .f32⟩
  | 30 => ⟨S16384x1024, .f32⟩
  | 31 => ⟨S16384x1024, .f32⟩
  | 32 => ⟨S16384x1024, .f32⟩
  | 33 => ⟨S_, .f32⟩
  | 34 => ⟨S1024, .f32⟩
  | 35 => ⟨S1x1024, .f32⟩
  | 36 => ⟨S_, .f32⟩
  | 37 => ⟨S1024, .f32⟩
  | 38 => ⟨S_, .f32⟩
  | 39 => ⟨S16414x1024, .f32⟩
  | 40 => ⟨S16414x1024, .f32⟩
  | 41 => ⟨S1x1024, .f32⟩
  | 42 => ⟨S_, .f32⟩
  | 43 => ⟨S31x1024, .f32⟩
  | 44 => ⟨S31x1024, .f32⟩
  | 45 => ⟨S16384x1024, .f32⟩
  | 46 => ⟨S16384x1024, .f32⟩
  | 47 => ⟨S16384x1024, .f32⟩
  | 48 => ⟨S_, .f32⟩
  | 49 => ⟨S1024, .f32⟩
  | 50 => ⟨S1x1024, .f32⟩
  | 51 => ⟨S_, .f32⟩
  | 52 => ⟨S1024, .f32⟩
  | 53 => ⟨S_, .f32⟩
  | 54 => ⟨S16414x1024, .f32⟩
  | 55 => ⟨S16414x1024, .f32⟩
  | 56 => ⟨S1x1024, .f32⟩
  | 57 => ⟨S_, .f32⟩
  | 58 => ⟨S31x1024, .f32⟩
  | 59 => ⟨S31x1024, .f32⟩
  | 60 => ⟨S16384x1024, .f32⟩
  | 61 => ⟨S16384x1024, .f32⟩
  | 62 => ⟨S16384x1024, .f32⟩
  | 63 => ⟨S_, .f32⟩
  | 64 => ⟨S1024, .f32⟩
  | 65 => ⟨S1x1024, .f32⟩
  | 66 => ⟨S_, .f32⟩
  | 67 => ⟨S1024, .f32⟩
  | 68 => ⟨S_, .f32⟩
  | 69 => ⟨S16414x1024, .f32⟩
  | 70 => ⟨S16414x1024, .f32⟩
  | 71 => ⟨S1x1024, .f32⟩
  | 72 => ⟨S_, .f32⟩
  | 73 => ⟨S31x1024, .f32⟩
  | 74 => ⟨S31x1024, .f32⟩
  | 75 => ⟨S16384x1024, .f32⟩
  | 76 => ⟨S16384x1024, .f32⟩
  | 77 => ⟨S16384x1024, .f32⟩
  | 78 => ⟨S_, .f32⟩
  | 79 => ⟨S1024, .f32⟩
  | 80 => ⟨S1x1024, .f32⟩
  | 81 => ⟨S_, .f32⟩
  | 82 => ⟨S1024, .f32⟩
  | 83 => ⟨S_, .f32⟩
  | 84 => ⟨S16414x1024, .f32⟩
  | 85 => ⟨S16414x1024, .f32⟩
  | 86 => ⟨S1x1024, .f32⟩
  | 87 => ⟨S_, .f32⟩
  | 88 => ⟨S31x1024, .f32⟩
  | 89 => ⟨S31x1024, .f32⟩
  | 90 => ⟨S16384x1024, .f32⟩
  | 91 => ⟨S16384x1024, .f32⟩
  | 92 => ⟨S16384x1024, .f32⟩
  | 93 => ⟨S_, .f32⟩
  | 94 => ⟨S1024, .f32⟩
  | 95 => ⟨S1x1024, .f32⟩
  | 96 => ⟨S_, .f32⟩
  | 97 => ⟨S1024, .f32⟩
  | 98 => ⟨S_, .f32⟩
  | 99 => ⟨S16414x1024, .f32⟩
  | 100 => ⟨S16414x1024, .f32⟩
  | 101 => ⟨S1x1024, .f32⟩
  | 102 => ⟨S_, .f32⟩
  | 103 => ⟨S31x1024, .f32⟩
  | 104 => ⟨S31x1024, .f32⟩
  | 105 => ⟨S16384x1024, .f32⟩
  | 106 => ⟨S16384x1024, .f32⟩
  | 107 => ⟨S16384x1024, .f32⟩
  | 108 => ⟨S_, .f32⟩
  | 109 => ⟨S1024, .f32⟩
  | 110 => ⟨S1x1024, .f32⟩
  | 111 => ⟨S_, .f32⟩
  | 112 => ⟨S1024, .f32⟩
  | 113 => ⟨S_, .f32⟩
  | 114 => ⟨S16414x1024, .f32⟩
  | 115 => ⟨S16414x1024, .f32⟩
  | 116 => ⟨S1x1024, .f32⟩
  | 117 => ⟨S_, .f32⟩
  | 118 => ⟨S31x1024, .f32⟩
  | 119 => ⟨S31x1024, .f32⟩
  | 120 => ⟨S16384x1024, .f32⟩
  | 121 => ⟨S16384x1024, .f32⟩
  | 122 => ⟨S16384x1024, .f32⟩
  | 123 => ⟨S_, .f32⟩
  | 124 => ⟨S1024, .f32⟩
  | 125 => ⟨S1x1024, .f32⟩
  | 126 => ⟨S_, .f32⟩
  | 127 => ⟨S1024, .f32⟩
  | _ => ⟨S16384x1024, .f32⟩

abbrev hbmTy0_5 (i : Nat) : BufTy := match i % 128 with
  | 0 => ⟨S_, .f32⟩
  | 1 => ⟨S16414x1024, .f32⟩
  | 2 => ⟨S16414x1024, .f32⟩
  | 3 => ⟨S1x1024, .f32⟩
  | 4 => ⟨S_, .f32⟩
  | 5 => ⟨S31x1024, .f32⟩
  | 6 => ⟨S31x1024, .f32⟩
  | 7 => ⟨S16384x1024, .f32⟩
  | 8 => ⟨S16384x1024, .f32⟩
  | 9 => ⟨S16384x1024, .f32⟩
  | 10 => ⟨S_, .f32⟩
  | 11 => ⟨S1024, .f32⟩
  | 12 => ⟨S1x1024, .f32⟩
  | 13 => ⟨S_, .f32⟩
  | 14 => ⟨S1024, .f32⟩
  | 15 => ⟨S_, .f32⟩
  | 16 => ⟨S16414x1024, .f32⟩
  | 17 => ⟨S16414x1024, .f32⟩
  | 18 => ⟨S1x1024, .f32⟩
  | 19 => ⟨S_, .f32⟩
  | 20 => ⟨S31x1024, .f32⟩
  | 21 => ⟨S31x1024, .f32⟩
  | 22 => ⟨S16384x1024, .f32⟩
  | 23 => ⟨S16384x1024, .f32⟩
  | 24 => ⟨S16384x1024, .f32⟩
  | 25 => ⟨S_, .f32⟩
  | 26 => ⟨S1024, .f32⟩
  | 27 => ⟨S1x1024, .f32⟩
  | 28 => ⟨S_, .f32⟩
  | 29 => ⟨S1024, .f32⟩
  | 30 => ⟨S_, .f32⟩
  | 31 => ⟨S16414x1024, .f32⟩
  | 32 => ⟨S16414x1024, .f32⟩
  | 33 => ⟨S1x1024, .f32⟩
  | 34 => ⟨S_, .f32⟩
  | 35 => ⟨S31x1024, .f32⟩
  | 36 => ⟨S31x1024, .f32⟩
  | 37 => ⟨S16384x1024, .f32⟩
  | 38 => ⟨S16384x1024, .f32⟩
  | 39 => ⟨S16384x1024, .f32⟩
  | 40 => ⟨S_, .f32⟩
  | 41 => ⟨S1024, .f32⟩
  | 42 => ⟨S1x1024, .f32⟩
  | 43 => ⟨S_, .f32⟩
  | 44 => ⟨S1024, .f32⟩
  | 45 => ⟨S_, .f32⟩
  | 46 => ⟨S16414x1024, .f32⟩
  | 47 => ⟨S16414x1024, .f32⟩
  | 48 => ⟨S1x1024, .f32⟩
  | 49 => ⟨S_, .f32⟩
  | 50 => ⟨S31x1024, .f32⟩
  | 51 => ⟨S31x1024, .f32⟩
  | 52 => ⟨S16384x1024, .f32⟩
  | 53 => ⟨S16384x1024, .f32⟩
  | 54 => ⟨S16384x1024, .f32⟩
  | 55 => ⟨S_, .f32⟩
  | 56 => ⟨S1024, .f32⟩
  | 57 => ⟨S1x1024, .f32⟩
  | 58 => ⟨S_, .f32⟩
  | 59 => ⟨S1024, .f32⟩
  | 60 => ⟨S_, .f32⟩
  | 61 => ⟨S16414x1024, .f32⟩
  | 62 => ⟨S16414x1024, .f32⟩
  | 63 => ⟨S1x1024, .f32⟩
  | 64 => ⟨S_, .f32⟩
  | 65 => ⟨S31x1024, .f32⟩
  | 66 => ⟨S31x1024, .f32⟩
  | 67 => ⟨S16384x1024, .f32⟩
  | 68 => ⟨S16384x1024, .f32⟩
  | 69 => ⟨S16384x1024, .f32⟩
  | 70 => ⟨S_, .f32⟩
  | 71 => ⟨S1024, .f32⟩
  | 72 => ⟨S1x1024, .f32⟩
  | 73 => ⟨S_, .f32⟩
  | 74 => ⟨S1024, .f32⟩
  | 75 => ⟨S_, .f32⟩
  | 76 => ⟨S16414x1024, .f32⟩
  | 77 => ⟨S16414x1024, .f32⟩
  | 78 => ⟨S1x1024, .f32⟩
  | 79 => ⟨S_, .f32⟩
  | 80 => ⟨S31x1024, .f32⟩
  | 81 => ⟨S31x1024, .f32⟩
  | 82 => ⟨S30x1024, .f32⟩
  | 83 => ⟨S16384x1024, .f32⟩
  | 84 => ⟨S16384x1024, .f32⟩
  | 85 => ⟨S16384x1024, .f32⟩
  | 86 => ⟨S16384x1024, .f32⟩
  | 87 => ⟨S_, .f32⟩
  | 88 => ⟨S16384x2048, .f32⟩
  | 89 => ⟨S_, .f32⟩
  | 90 => ⟨S16384x2048, .f32⟩
  | 91 => ⟨S16384x2048, .f32⟩
  | 92 => ⟨S_, .f32⟩
  | 93 => ⟨S16384x1024, .f32⟩
  | 94 => ⟨S16384x1024, .f32⟩
  | 95 => ⟨S16384x2048, .f32⟩
  | 96 => ⟨S1x2048, .f32⟩
  | 97 => ⟨S16384x2048, .f32⟩
  | 98 => ⟨S16384x2048, .f32⟩
  | 99 => ⟨S_, .f32⟩
  | 100 => ⟨S2048, .f32⟩
  | 101 => ⟨S1x2048, .f32⟩
  | 102 => ⟨S_, .f32⟩
  | 103 => ⟨S2048, .f32⟩
  | 104 => ⟨S16384x1024, .f32⟩
  | 105 => ⟨S_, .f32⟩
  | 106 => ⟨S16384x1024, .f32⟩
  | 107 => ⟨S16384x1024, .f32⟩
  | 108 => ⟨S16384x1024, .f32⟩
  | 109 => ⟨S16384x4x512, .f32⟩
  | 110 => ⟨S4x16384x512, .f32⟩
  | 111 => ⟨S4x16384x512, .bf16⟩
  | 112 => ⟨S1x2048, .f32⟩
  | 113 => ⟨S1x1024, .f32⟩
  | 114 => ⟨S_, .i32⟩
  | 115 => ⟨S_, .f32⟩
  | 116 => ⟨S32x1024, .f32⟩
  | _ => ⟨S16384x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_v184 : Ref sig .tc := ⟨.hbm, 197, rfl⟩
abbrev main_v185 : Ref sig .tc := ⟨.hbm, 198, rfl⟩
abbrev main_v186 : Ref sig .tc := ⟨.hbm, 199, rfl⟩
abbrev main_v187 : Ref sig .tc := ⟨.hbm, 200, rfl⟩
abbrev main_v188 : Ref sig .tc := ⟨.hbm, 201, rfl⟩
abbrev main_v189 : Ref sig .tc := ⟨.hbm, 202, rfl⟩
abbrev main_v190 : Ref sig .tc := ⟨.hbm, 203, rfl⟩
abbrev main_v191 : Ref sig .tc := ⟨.hbm, 204, rfl⟩
abbrev main_v192 : Ref sig .tc := ⟨.hbm, 205, rfl⟩
abbrev main_v193 : Ref sig .tc := ⟨.hbm, 206, rfl⟩
abbrev main_v194 : Ref sig .tc := ⟨.hbm, 207, rfl⟩
abbrev main_v195 : Ref sig .tc := ⟨.hbm, 208, rfl⟩
abbrev main_v196 : Ref sig .tc := ⟨.hbm, 209, rfl⟩
abbrev main_v197 : Ref sig .tc := ⟨.hbm, 210, rfl⟩
abbrev main_v198 : Ref sig .tc := ⟨.hbm, 211, rfl⟩
abbrev main_v199 : Ref sig .tc := ⟨.hbm, 212, rfl⟩
abbrev main_v200 : Ref sig .tc := ⟨.hbm, 213, rfl⟩
abbrev main_v201 : Ref sig .tc := ⟨.hbm, 214, rfl⟩
abbrev main_v202 : Ref sig .tc := ⟨.hbm, 215, rfl⟩
abbrev main_v203 : Ref sig .tc := ⟨.hbm, 216, rfl⟩
abbrev main_v204 : Ref sig .tc := ⟨.hbm, 217, rfl⟩
abbrev main_v205 : Ref sig .tc := ⟨.hbm, 218, rfl⟩
abbrev main_v206 : Ref sig .tc := ⟨.hbm, 219, rfl⟩
abbrev main_v207 : Ref sig .tc := ⟨.hbm, 220, rfl⟩
abbrev main_v208 : Ref sig .tc := ⟨.hbm, 221, rfl⟩
abbrev main_v209 : Ref sig .tc := ⟨.hbm, 222, rfl⟩
abbrev main_v210 : Ref sig .tc := ⟨.hbm, 223, rfl⟩
abbrev main_v211 : Ref sig .tc := ⟨.hbm, 224, rfl⟩
abbrev main_v212 : Ref sig .tc := ⟨.hbm, 225, rfl⟩
abbrev main_v213 : Ref sig .tc := ⟨.hbm, 226, rfl⟩
abbrev main_v214 : Ref sig .tc := ⟨.hbm, 227, rfl⟩
abbrev main_v215 : Ref sig .tc := ⟨.hbm, 228, rfl⟩
abbrev main_v216 : Ref sig .tc := ⟨.hbm, 229, rfl⟩
abbrev main_v217 : Ref sig .tc := ⟨.hbm, 230, rfl⟩
abbrev main_v218 : Ref sig .tc := ⟨.hbm, 231, rfl⟩
abbrev main_v219 : Ref sig .tc := ⟨.hbm, 232, rfl⟩
abbrev main_v220 : Ref sig .tc := ⟨.hbm, 233, rfl⟩
abbrev main_v221 : Ref sig .tc := ⟨.hbm, 234, rfl⟩
abbrev main_v222 : Ref sig .tc := ⟨.hbm, 235, rfl⟩
abbrev main_v223 : Ref sig .tc := ⟨.hbm, 236, rfl⟩
abbrev main_v224 : Ref sig .tc := ⟨.hbm, 237, rfl⟩
abbrev main_v225 : Ref sig .tc := ⟨.hbm, 238, rfl⟩
abbrev main_v226 : Ref sig .tc := ⟨.hbm, 239, rfl⟩
abbrev main_v227 : Ref sig .tc := ⟨.hbm, 240, rfl⟩
abbrev main_v228 : Ref sig .tc := ⟨.hbm, 241, rfl⟩
abbrev main_v229 : Ref sig .tc := ⟨.hbm, 242, rfl⟩
abbrev main_v230 : Ref sig .tc := ⟨.hbm, 243, rfl⟩
abbrev main_v231 : Ref sig .tc := ⟨.hbm, 244, rfl⟩
abbrev main_v232 : Ref sig .tc := ⟨.hbm, 245, rfl⟩
abbrev main_v233 : Ref sig .tc := ⟨.hbm, 246, rfl⟩
abbrev main_v234 : Ref sig .tc := ⟨.hbm, 247, rfl⟩
abbrev main_v235 : Ref sig .tc := ⟨.hbm, 248, rfl⟩
abbrev main_v236 : Ref sig .tc := ⟨.hbm, 249, rfl⟩
abbrev main_v237 : Ref sig .tc := ⟨.hbm, 250, rfl⟩
abbrev main_v238 : Ref sig .tc := ⟨.hbm, 251, rfl⟩
abbrev main_v239 : Ref sig .tc := ⟨.hbm, 252, rfl⟩
abbrev main_v240 : Ref sig .tc := ⟨.hbm, 253, rfl⟩
abbrev main_cst_5 : Ref sig .tc := ⟨.hbm, 254, rfl⟩
abbrev main_v241 : Ref sig .tc := ⟨.hbm, 255, rfl⟩
abbrev main_v242 : Ref sig .tc := ⟨.hbm, 256, rfl⟩
abbrev main_cst_6 : Ref sig .tc := ⟨.hbm, 257, rfl⟩
abbrev main_v243 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_cst_7 : Ref sig .tc := ⟨.hbm, 262, rfl⟩
abbrev main_v247 : Ref sig .tc := ⟨.hbm, 263, rfl⟩
abbrev main_v248 : Ref sig .tc := ⟨.hbm, 264, rfl⟩
abbrev main_cst_8 : Ref sig .tc := ⟨.hbm, 265, rfl⟩
abbrev main_v249 : Ref sig .tc := ⟨.hbm, 266, rfl⟩
abbrev main_cst_9 : Ref sig .tc := ⟨.hbm, 267, rfl⟩
abbrev main_v250 : Ref sig .tc := ⟨.hbm, 268, rfl⟩
abbrev main_v251 : Ref sig .tc := ⟨.hbm, 269, rfl⟩
abbrev main_cst_10 : Ref sig .tc := ⟨.hbm, 270, rfl⟩
abbrev main_v252 : Ref sig .tc := ⟨.hbm, 271, rfl⟩
abbrev main_v253 : Ref sig .tc := ⟨.hbm, 272, rfl⟩
abbrev main_v254 : Ref sig .tc := ⟨.hbm, 273, rfl⟩
abbrev main_v255 : Ref sig .tc := ⟨.hbm, 274, rfl⟩
abbrev main_cst_11 : Ref sig .tc := ⟨.hbm, 275, rfl⟩
abbrev main_v256 : Ref sig .tc := ⟨.hbm, 276, rfl⟩
abbrev main_v257 : Ref sig .tc := ⟨.hbm, 277, rfl⟩
abbrev main_cst_12 : Ref sig .tc := ⟨.hbm, 278, rfl⟩
abbrev main_v258 : Ref sig .tc := ⟨.hbm, 279, rfl⟩
abbrev main_cst_13 : Ref sig .tc := ⟨.hbm, 280, rfl⟩
abbrev main_v259 : Ref sig .tc := ⟨.hbm, 281, rfl⟩
abbrev main_v260 : Ref sig .tc := ⟨.hbm, 282, rfl⟩
abbrev main_v261 : Ref sig .tc := ⟨.hbm, 283, rfl⟩
abbrev main_cst_14 : Ref sig .tc := ⟨.hbm, 284, rfl⟩
abbrev main_v262 : Ref sig .tc := ⟨.hbm, 285, rfl⟩
abbrev main_v263 : Ref sig .tc := ⟨.hbm, 286, rfl⟩
abbrev main_v264 : Ref sig .tc := ⟨.hbm, 287, rfl⟩
abbrev main_v265 : Ref sig .tc := ⟨.hbm, 288, rfl⟩
abbrev main_v266 : Ref sig .tc := ⟨.hbm, 289, rfl⟩
abbrev main_cst_15 : Ref sig .tc := ⟨.hbm, 290, rfl⟩
abbrev main_v267 : Ref sig .tc := ⟨.hbm, 291, rfl⟩
abbrev main_v268 : Ref sig .tc := ⟨.hbm, 292, rfl⟩
abbrev main_cst_16 : Ref sig .tc := ⟨.hbm, 293, rfl⟩
abbrev main_v269 : Ref sig .tc := ⟨.hbm, 294, rfl⟩
abbrev main_cst_17 : Ref sig .tc := ⟨.hbm, 295, rfl⟩
abbrev main_v270 : Ref sig .tc := ⟨.hbm, 296, rfl⟩
abbrev main_v271 : Ref sig .tc := ⟨.hbm, 297, rfl⟩
abbrev main_v272 : Ref sig .tc := ⟨.hbm, 298, rfl⟩
abbrev main_cst_18 : Ref sig .tc := ⟨.hbm, 299, rfl⟩
abbrev main_v273 : Ref sig .tc := ⟨.hbm, 300, rfl⟩
abbrev main_v274 : Ref sig .tc := ⟨.hbm, 301, rfl⟩
abbrev main_v275 : Ref sig .tc := ⟨.hbm, 302, rfl⟩
abbrev main_v276 : Ref sig .tc := ⟨.hbm, 303, rfl⟩
abbrev main_v277 : Ref sig .tc := ⟨.hbm, 304, rfl⟩
abbrev main_cst_19 : Ref sig .tc := ⟨.hbm, 305, rfl⟩
abbrev main_v278 : Ref sig .tc := ⟨.hbm, 306, rfl⟩
abbrev main_v279 : Ref sig .tc := ⟨.hbm, 307, rfl⟩
abbrev main_cst_20 : Ref sig .tc := ⟨.hbm, 308, rfl⟩
abbrev main_v280 : Ref sig .tc := ⟨.hbm, 309, rfl⟩
abbrev main_cst_21 : Ref sig .tc := ⟨.hbm, 310, rfl⟩
abbrev main_v281 : Ref sig .tc := ⟨.hbm, 311, rfl⟩
abbrev main_v282 : Ref sig .tc := ⟨.hbm, 312, rfl⟩
abbrev main_v283 : Ref sig .tc := ⟨.hbm, 313, rfl⟩
abbrev main_cst_22 : Ref sig .tc := ⟨.hbm, 314, rfl⟩
abbrev main_v284 : Ref sig .tc := ⟨.hbm, 315, rfl⟩
abbrev main_v285 : Ref sig .tc := ⟨.hbm, 316, rfl⟩
abbrev main_v286 : Ref sig .tc := ⟨.hbm, 317, rfl⟩
abbrev main_v287 : Ref sig .tc := ⟨.hbm, 318, rfl⟩
abbrev main_v288 : Ref sig .tc := ⟨.hbm, 319, rfl⟩
abbrev main_cst_23 : Ref sig .tc := ⟨.hbm, 320, rfl⟩
abbrev main_v289 : Ref sig .tc := ⟨.hbm, 321, rfl⟩
abbrev main_v290 : Ref sig .tc := ⟨.hbm, 322, rfl⟩
abbrev main_cst_24 : Ref sig .tc := ⟨.hbm, 323, rfl⟩
abbrev main_v291 : Ref sig .tc := ⟨.hbm, 324, rfl⟩
abbrev main_cst_25 : Ref sig .tc := ⟨.hbm, 325, rfl⟩
abbrev main_v292 : Ref sig .tc := ⟨.hbm, 326, rfl⟩
abbrev main_v293 : Ref sig .tc := ⟨.hbm, 327, rfl⟩
abbrev main_v294 : Ref sig .tc := ⟨.hbm, 328, rfl⟩
abbrev main_cst_26 : Ref sig .tc := ⟨.hbm, 329, rfl⟩
abbrev main_v295 : Ref sig .tc := ⟨.hbm, 330, rfl⟩
abbrev main_v296 : Ref sig .tc := ⟨.hbm, 331, rfl⟩
abbrev main_v297 : Ref sig .tc := ⟨.hbm, 332, rfl⟩
abbrev main_v298 : Ref sig .tc := ⟨.hbm, 333, rfl⟩
abbrev main_v299 : Ref sig .tc := ⟨.hbm, 334, rfl⟩
abbrev main_cst_27 : Ref sig .tc := ⟨.hbm, 335, rfl⟩
abbrev main_v300 : Ref sig .tc := ⟨.hbm, 336, rfl⟩
abbrev main_v301 : Ref sig .tc := ⟨.hbm, 337, rfl⟩
abbrev main_cst_28 : Ref sig .tc := ⟨.hbm, 338, rfl⟩
abbrev main_v302 : Ref sig .tc := ⟨.hbm, 339, rfl⟩
abbrev main_cst_29 : Ref sig .tc := ⟨.hbm, 340, rfl⟩
abbrev main_v303 : Ref sig .tc := ⟨.hbm, 341, rfl⟩
abbrev main_v304 : Ref sig .tc := ⟨.hbm, 342, rfl⟩
abbrev main_v305 : Ref sig .tc := ⟨.hbm, 343, rfl⟩
abbrev main_cst_30 : Ref sig .tc := ⟨.hbm, 344, rfl⟩
abbrev main_v306 : Ref sig .tc := ⟨.hbm, 345, rfl⟩
abbrev main_v307 : Ref sig .tc := ⟨.hbm, 346, rfl⟩
abbrev main_v308 : Ref sig .tc := ⟨.hbm, 347, rfl⟩
abbrev main_v309 : Ref sig .tc := ⟨.hbm, 348, rfl⟩
abbrev main_v310 : Ref sig .tc := ⟨.hbm, 349, rfl⟩
abbrev main_cst_31 : Ref sig .tc := ⟨.hbm, 350, rfl⟩
abbrev main_v311 : Ref sig .tc := ⟨.hbm, 351, rfl⟩
abbrev main_v312 : Ref sig .tc := ⟨.hbm, 352, rfl⟩
abbrev main_cst_32 : Ref sig .tc := ⟨.hbm, 353, rfl⟩
abbrev main_v313 : Ref sig .tc := ⟨.hbm, 354, rfl⟩
abbrev main_cst_33 : Ref sig .tc := ⟨.hbm, 355, rfl⟩
abbrev main_v314 : Ref sig .tc := ⟨.hbm, 356, rfl⟩
abbrev main_v315 : Ref sig .tc := ⟨.hbm, 357, rfl⟩
abbrev main_v316 : Ref sig .tc := ⟨.hbm, 358, rfl⟩
abbrev main_cst_34 : Ref sig .tc := ⟨.hbm, 359, rfl⟩
abbrev main_v317 : Ref sig .tc := ⟨.hbm, 360, rfl⟩
abbrev main_v318 : Ref sig .tc := ⟨.hbm, 361, rfl⟩
abbrev main_v319 : Ref sig .tc := ⟨.hbm, 362, rfl⟩
abbrev main_v320 : Ref sig .tc := ⟨.hbm, 363, rfl⟩
abbrev main_v321 : Ref sig .tc := ⟨.hbm, 364, rfl⟩
abbrev main_cst_35 : Ref sig .tc := ⟨.hbm, 365, rfl⟩
abbrev main_v322 : Ref sig .tc := ⟨.hbm, 366, rfl⟩
abbrev main_v323 : Ref sig .tc := ⟨.hbm, 367, rfl⟩
abbrev main_cst_36 : Ref sig .tc := ⟨.hbm, 368, rfl⟩
abbrev main_v324 : Ref sig .tc := ⟨.hbm, 369, rfl⟩
abbrev main_cst_37 : Ref sig .tc := ⟨.hbm, 370, rfl⟩
abbrev main_v325 : Ref sig .tc := ⟨.hbm, 371, rfl⟩
abbrev main_v326 : Ref sig .tc := ⟨.hbm, 372, rfl⟩
abbrev main_v327 : Ref sig .tc := ⟨.hbm, 373, rfl⟩
abbrev main_cst_38 : Ref sig .tc := ⟨.hbm, 374, rfl⟩
abbrev main_v328 : Ref sig .tc := ⟨.hbm, 375, rfl⟩
abbrev main_v329 : Ref sig .tc := ⟨.hbm, 376, rfl⟩
abbrev main_v330 : Ref sig .tc := ⟨.hbm, 377, rfl⟩
abbrev main_v331 : Ref sig .tc := ⟨.hbm, 378, rfl⟩
abbrev main_v332 : Ref sig .tc := ⟨.hbm, 379, rfl⟩
abbrev main_cst_39 : Ref sig .tc := ⟨.hbm, 380, rfl⟩
abbrev main_v333 : Ref sig .tc := ⟨.hbm, 381, rfl⟩
abbrev main_v334 : Ref sig .tc := ⟨.hbm, 382, rfl⟩
abbrev main_cst_40 : Ref sig .tc := ⟨.hbm, 383, rfl⟩
abbrev main_v335 : Ref sig .tc := ⟨.hbm, 384, rfl⟩
abbrev main_cst_41 : Ref sig .tc := ⟨.hbm, 385, rfl⟩
abbrev main_v336 : Ref sig .tc := ⟨.hbm, 386, rfl⟩
abbrev main_v337 : Ref sig .tc := ⟨.hbm, 387, rfl⟩
abbrev main_v338 : Ref sig .tc := ⟨.hbm, 388, rfl⟩
abbrev main_cst_42 : Ref sig .tc := ⟨.hbm, 389, rfl⟩
abbrev main_v339 : Ref sig .tc := ⟨.hbm, 390, rfl⟩
abbrev main_v340 : Ref sig .tc := ⟨.hbm, 391, rfl⟩
abbrev main_v341 : Ref sig .tc := ⟨.hbm, 392, rfl⟩
abbrev main_v342 : Ref sig .tc := ⟨.hbm, 393, rfl⟩
abbrev main_v343 : Ref sig .tc := ⟨.hbm, 394, rfl⟩
abbrev main_cst_43 : Ref sig .tc := ⟨.hbm, 395, rfl⟩
abbrev main_v344 : Ref sig .tc := ⟨.hbm, 396, rfl⟩
abbrev main_v345 : Ref sig .tc := ⟨.hbm, 397, rfl⟩
abbrev main_cst_44 : Ref sig .tc := ⟨.hbm, 398, rfl⟩
abbrev main_v346 : Ref sig .tc := ⟨.hbm, 399, rfl⟩
abbrev main_cst_45 : Ref sig .tc := ⟨.hbm, 400, rfl⟩
abbrev main_v347 : Ref sig .tc := ⟨.hbm, 401, rfl⟩
abbrev main_v348 : Ref sig .tc := ⟨.hbm, 402, rfl⟩
abbrev main_v349 : Ref sig .tc := ⟨.hbm, 403, rfl⟩
abbrev main_cst_46 : Ref sig .tc := ⟨.hbm, 404, rfl⟩
abbrev main_v350 : Ref sig .tc := ⟨.hbm, 405, rfl⟩
abbrev main_v351 : Ref sig .tc := ⟨.hbm, 406, rfl⟩
abbrev main_v352 : Ref sig .tc := ⟨.hbm, 407, rfl⟩
abbrev main_v353 : Ref sig .tc := ⟨.hbm, 408, rfl⟩
abbrev main_v354 : Ref sig .tc := ⟨.hbm, 409, rfl⟩
abbrev main_cst_47 : Ref sig .tc := ⟨.hbm, 410, rfl⟩
abbrev main_v355 : Ref sig .tc := ⟨.hbm, 411, rfl⟩
abbrev main_v356 : Ref sig .tc := ⟨.hbm, 412, rfl⟩
abbrev main_cst_48 : Ref sig .tc := ⟨.hbm, 413, rfl⟩
abbrev main_v357 : Ref sig .tc := ⟨.hbm, 414, rfl⟩
abbrev main_cst_49 : Ref sig .tc := ⟨.hbm, 415, rfl⟩
abbrev main_v358 : Ref sig .tc := ⟨.hbm, 416, rfl⟩
abbrev main_v359 : Ref sig .tc := ⟨.hbm, 417, rfl⟩
abbrev main_v360 : Ref sig .tc := ⟨.hbm, 418, rfl⟩
abbrev main_cst_50 : Ref sig .tc := ⟨.hbm, 419, rfl⟩
abbrev main_v361 : Ref sig .tc := ⟨.hbm, 420, rfl⟩
abbrev main_v362 : Ref sig .tc := ⟨.hbm, 421, rfl⟩
abbrev main_v363 : Ref sig .tc := ⟨.hbm, 422, rfl⟩
abbrev main_v364 : Ref sig .tc := ⟨.hbm, 423, rfl⟩
abbrev main_v365 : Ref sig .tc := ⟨.hbm, 424, rfl⟩
abbrev main_cst_51 : Ref sig .tc := ⟨.hbm, 425, rfl⟩
abbrev main_v366 : Ref sig .tc := ⟨.hbm, 426, rfl⟩
abbrev main_v367 : Ref sig .tc := ⟨.hbm, 427, rfl⟩
abbrev main_cst_52 : Ref sig .tc := ⟨.hbm, 428, rfl⟩
abbrev main_v368 : Ref sig .tc := ⟨.hbm, 429, rfl⟩
abbrev main_cst_53 : Ref sig .tc := ⟨.hbm, 430, rfl⟩
abbrev main_v369 : Ref sig .tc := ⟨.hbm, 431, rfl⟩
abbrev main_v370 : Ref sig .tc := ⟨.hbm, 432, rfl⟩
abbrev main_v371 : Ref sig .tc := ⟨.hbm, 433, rfl⟩
abbrev main_cst_54 : Ref sig .tc := ⟨.hbm, 434, rfl⟩
abbrev main_v372 : Ref sig .tc := ⟨.hbm, 435, rfl⟩
abbrev main_v373 : Ref sig .tc := ⟨.hbm, 436, rfl⟩
abbrev main_v374 : Ref sig .tc := ⟨.hbm, 437, rfl⟩
abbrev main_v375 : Ref sig .tc := ⟨.hbm, 438, rfl⟩
abbrev main_v376 : Ref sig .tc := ⟨.hbm, 439, rfl⟩
abbrev main_cst_55 : Ref sig .tc := ⟨.hbm, 440, rfl⟩
abbrev main_v377 : Ref sig .tc := ⟨.hbm, 441, rfl⟩
abbrev main_v378 : Ref sig .tc := ⟨.hbm, 442, rfl⟩
abbrev main_cst_56 : Ref sig .tc := ⟨.hbm, 443, rfl⟩
abbrev main_v379 : Ref sig .tc := ⟨.hbm, 444, rfl⟩
abbrev main_cst_57 : Ref sig .tc := ⟨.hbm, 445, rfl⟩
abbrev main_v380 : Ref sig .tc := ⟨.hbm, 446, rfl⟩
abbrev main_v381 : Ref sig .tc := ⟨.hbm, 447, rfl⟩
abbrev main_v382 : Ref sig .tc := ⟨.hbm, 448, rfl⟩
abbrev main_cst_58 : Ref sig .tc := ⟨.hbm, 449, rfl⟩
abbrev main_v383 : Ref sig .tc := ⟨.hbm, 450, rfl⟩
abbrev main_v384 : Ref sig .tc := ⟨.hbm, 451, rfl⟩
abbrev main_v385 : Ref sig .tc := ⟨.hbm, 452, rfl⟩
abbrev main_v386 : Ref sig .tc := ⟨.hbm, 453, rfl⟩
abbrev main_v387 : Ref sig .tc := ⟨.hbm, 454, rfl⟩
abbrev main_cst_59 : Ref sig .tc := ⟨.hbm, 455, rfl⟩
abbrev main_v388 : Ref sig .tc := ⟨.hbm, 456, rfl⟩
abbrev main_v389 : Ref sig .tc := ⟨.hbm, 457, rfl⟩
abbrev main_cst_60 : Ref sig .tc := ⟨.hbm, 458, rfl⟩
abbrev main_v390 : Ref sig .tc := ⟨.hbm, 459, rfl⟩
abbrev main_cst_61 : Ref sig .tc := ⟨.hbm, 460, rfl⟩
abbrev main_v391 : Ref sig .tc := ⟨.hbm, 461, rfl⟩
abbrev main_v392 : Ref sig .tc := ⟨.hbm, 462, rfl⟩
abbrev main_v393 : Ref sig .tc := ⟨.hbm, 463, rfl⟩
abbrev main_cst_62 : Ref sig .tc := ⟨.hbm, 464, rfl⟩
abbrev main_v394 : Ref sig .tc := ⟨.hbm, 465, rfl⟩
abbrev main_v395 : Ref sig .tc := ⟨.hbm, 466, rfl⟩
abbrev main_v396 : Ref sig .tc := ⟨.hbm, 467, rfl⟩
abbrev main_v397 : Ref sig .tc := ⟨.hbm, 468, rfl⟩
abbrev main_v398 : Ref sig .tc := ⟨.hbm, 469, rfl⟩
abbrev main_cst_63 : Ref sig .tc := ⟨.hbm, 470, rfl⟩
abbrev main_v399 : Ref sig .tc := ⟨.hbm, 471, rfl⟩
abbrev main_v400 : Ref sig .tc := ⟨.hbm, 472, rfl⟩
abbrev main_cst_64 : Ref sig .tc := ⟨.hbm, 473, rfl⟩
abbrev main_v401 : Ref sig .tc := ⟨.hbm, 474, rfl⟩
abbrev main_cst_65 : Ref sig .tc := ⟨.hbm, 475, rfl⟩
abbrev main_v402 : Ref sig .tc := ⟨.hbm, 476, rfl⟩
abbrev main_v403 : Ref sig .tc := ⟨.hbm, 477, rfl⟩
abbrev main_v404 : Ref sig .tc := ⟨.hbm, 478, rfl⟩
abbrev main_cst_66 : Ref sig .tc := ⟨.hbm, 479, rfl⟩
abbrev main_v405 : Ref sig .tc := ⟨.hbm, 480, rfl⟩
abbrev main_v406 : Ref sig .tc := ⟨.hbm, 481, rfl⟩
abbrev main_v407 : Ref sig .tc := ⟨.hbm, 482, rfl⟩
abbrev main_v408 : Ref sig .tc := ⟨.hbm, 483, rfl⟩
abbrev main_v409 : Ref sig .tc := ⟨.hbm, 484, rfl⟩
abbrev main_cst_67 : Ref sig .tc := ⟨.hbm, 485, rfl⟩
abbrev main_v410 : Ref sig .tc := ⟨.hbm, 486, rfl⟩
abbrev main_v411 : Ref sig .tc := ⟨.hbm, 487, rfl⟩
abbrev main_cst_68 : Ref sig .tc := ⟨.hbm, 488, rfl⟩
abbrev main_v412 : Ref sig .tc := ⟨.hbm, 489, rfl⟩
abbrev main_cst_69 : Ref sig .tc := ⟨.hbm, 490, rfl⟩
abbrev main_v413 : Ref sig .tc := ⟨.hbm, 491, rfl⟩
abbrev main_v414 : Ref sig .tc := ⟨.hbm, 492, rfl⟩
abbrev main_v415 : Ref sig .tc := ⟨.hbm, 493, rfl⟩
abbrev main_cst_70 : Ref sig .tc := ⟨.hbm, 494, rfl⟩
abbrev main_v416 : Ref sig .tc := ⟨.hbm, 495, rfl⟩
abbrev main_v417 : Ref sig .tc := ⟨.hbm, 496, rfl⟩
abbrev main_v418 : Ref sig .tc := ⟨.hbm, 497, rfl⟩
abbrev main_v419 : Ref sig .tc := ⟨.hbm, 498, rfl⟩
abbrev main_v420 : Ref sig .tc := ⟨.hbm, 499, rfl⟩
abbrev main_cst_71 : Ref sig .tc := ⟨.hbm, 500, rfl⟩
abbrev main_v421 : Ref sig .tc := ⟨.hbm, 501, rfl⟩
abbrev main_v422 : Ref sig .tc := ⟨.hbm, 502, rfl⟩
abbrev main_cst_72 : Ref sig .tc := ⟨.hbm, 503, rfl⟩
abbrev main_v423 : Ref sig .tc := ⟨.hbm, 504, rfl⟩
abbrev main_cst_73 : Ref sig .tc := ⟨.hbm, 505, rfl⟩
abbrev main_v424 : Ref sig .tc := ⟨.hbm, 506, rfl⟩
abbrev main_v425 : Ref sig .tc := ⟨.hbm, 507, rfl⟩
abbrev main_v426 : Ref sig .tc := ⟨.hbm, 508, rfl⟩
abbrev main_cst_74 : Ref sig .tc := ⟨.hbm, 509, rfl⟩
abbrev main_v427 : Ref sig .tc := ⟨.hbm, 510, rfl⟩
abbrev main_v428 : Ref sig .tc := ⟨.hbm, 511, rfl⟩
abbrev main_v429 : Ref sig .tc := ⟨.hbm, 512, rfl⟩
abbrev main_v430 : Ref sig .tc := ⟨.hbm, 513, rfl⟩
abbrev main_v431 : Ref sig .tc := ⟨.hbm, 514, rfl⟩
abbrev main_cst_75 : Ref sig .tc := ⟨.hbm, 515, rfl⟩
abbrev main_v432 : Ref sig .tc := ⟨.hbm, 516, rfl⟩
abbrev main_v433 : Ref sig .tc := ⟨.hbm, 517, rfl⟩
abbrev main_cst_76 : Ref sig .tc := ⟨.hbm, 518, rfl⟩
abbrev main_v434 : Ref sig .tc := ⟨.hbm, 519, rfl⟩
abbrev main_cst_77 : Ref sig .tc := ⟨.hbm, 520, rfl⟩
abbrev main_v435 : Ref sig .tc := ⟨.hbm, 521, rfl⟩
abbrev main_v436 : Ref sig .tc := ⟨.hbm, 522, rfl⟩
abbrev main_v437 : Ref sig .tc := ⟨.hbm, 523, rfl⟩
abbrev main_cst_78 : Ref sig .tc := ⟨.hbm, 524, rfl⟩
abbrev main_v438 : Ref sig .tc := ⟨.hbm, 525, rfl⟩
abbrev main_v439 : Ref sig .tc := ⟨.hbm, 526, rfl⟩
abbrev main_v440 : Ref sig .tc := ⟨.hbm, 527, rfl⟩
abbrev main_v441 : Ref sig .tc := ⟨.hbm, 528, rfl⟩
abbrev main_v442 : Ref sig .tc := ⟨.hbm, 529, rfl⟩
abbrev main_cst_79 : Ref sig .tc := ⟨.hbm, 530, rfl⟩
abbrev main_v443 : Ref sig .tc := ⟨.hbm, 531, rfl⟩
abbrev main_v444 : Ref sig .tc := ⟨.hbm, 532, rfl⟩
abbrev main_cst_80 : Ref sig .tc := ⟨.hbm, 533, rfl⟩
abbrev main_v445 : Ref sig .tc := ⟨.hbm, 534, rfl⟩
abbrev main_cst_81 : Ref sig .tc := ⟨.hbm, 535, rfl⟩
abbrev main_v446 : Ref sig .tc := ⟨.hbm, 536, rfl⟩
abbrev main_v447 : Ref sig .tc := ⟨.hbm, 537, rfl⟩
abbrev main_v448 : Ref sig .tc := ⟨.hbm, 538, rfl⟩
abbrev main_cst_82 : Ref sig .tc := ⟨.hbm, 539, rfl⟩
abbrev main_v449 : Ref sig .tc := ⟨.hbm, 540, rfl⟩
abbrev main_v450 : Ref sig .tc := ⟨.hbm, 541, rfl⟩
abbrev main_v451 : Ref sig .tc := ⟨.hbm, 542, rfl⟩
abbrev main_v452 : Ref sig .tc := ⟨.hbm, 543, rfl⟩
abbrev main_v453 : Ref sig .tc := ⟨.hbm, 544, rfl⟩
abbrev main_cst_83 : Ref sig .tc := ⟨.hbm, 545, rfl⟩
abbrev main_v454 : Ref sig .tc := ⟨.hbm, 546, rfl⟩
abbrev main_v455 : Ref sig .tc := ⟨.hbm, 547, rfl⟩
abbrev main_cst_84 : Ref sig .tc := ⟨.hbm, 548, rfl⟩
abbrev main_v456 : Ref sig .tc := ⟨.hbm, 549, rfl⟩
abbrev main_cst_85 : Ref sig .tc := ⟨.hbm, 550, rfl⟩
abbrev main_v457 : Ref sig .tc := ⟨.hbm, 551, rfl⟩
abbrev main_v458 : Ref sig .tc := ⟨.hbm, 552, rfl⟩
abbrev main_v459 : Ref sig .tc := ⟨.hbm, 553, rfl⟩
abbrev main_cst_86 : Ref sig .tc := ⟨.hbm, 554, rfl⟩
abbrev main_v460 : Ref sig .tc := ⟨.hbm, 555, rfl⟩
abbrev main_v461 : Ref sig .tc := ⟨.hbm, 556, rfl⟩
abbrev main_v462 : Ref sig .tc := ⟨.hbm, 557, rfl⟩
abbrev main_v463 : Ref sig .tc := ⟨.hbm, 558, rfl⟩
abbrev main_v464 : Ref sig .tc := ⟨.hbm, 559, rfl⟩
abbrev main_cst_87 : Ref sig .tc := ⟨.hbm, 560, rfl⟩
abbrev main_v465 : Ref sig .tc := ⟨.hbm, 561, rfl⟩
abbrev main_v466 : Ref sig .tc := ⟨.hbm, 562, rfl⟩
abbrev main_cst_88 : Ref sig .tc := ⟨.hbm, 563, rfl⟩
abbrev main_v467 : Ref sig .tc := ⟨.hbm, 564, rfl⟩
abbrev main_cst_89 : Ref sig .tc := ⟨.hbm, 565, rfl⟩
abbrev main_v468 : Ref sig .tc := ⟨.hbm, 566, rfl⟩
abbrev main_v469 : Ref sig .tc := ⟨.hbm, 567, rfl⟩
abbrev main_v470 : Ref sig .tc := ⟨.hbm, 568, rfl⟩
abbrev main_cst_90 : Ref sig .tc := ⟨.hbm, 569, rfl⟩
abbrev main_v471 : Ref sig .tc := ⟨.hbm, 570, rfl⟩
abbrev main_v472 : Ref sig .tc := ⟨.hbm, 571, rfl⟩
abbrev main_v473 : Ref sig .tc := ⟨.hbm, 572, rfl⟩
abbrev main_v474 : Ref sig .tc := ⟨.hbm, 573, rfl⟩
abbrev main_v475 : Ref sig .tc := ⟨.hbm, 574, rfl⟩
abbrev main_cst_91 : Ref sig .tc := ⟨.hbm, 575, rfl⟩
abbrev main_v476 : Ref sig .tc := ⟨.hbm, 576, rfl⟩
abbrev main_v477 : Ref sig .tc := ⟨.hbm, 577, rfl⟩
abbrev main_cst_92 : Ref sig .tc := ⟨.hbm, 578, rfl⟩
abbrev main_v478 : Ref sig .tc := ⟨.hbm, 579, rfl⟩
abbrev main_cst_93 : Ref sig .tc := ⟨.hbm, 580, rfl⟩
abbrev main_v479 : Ref sig .tc := ⟨.hbm, 581, rfl⟩
abbrev main_v480 : Ref sig .tc := ⟨.hbm, 582, rfl⟩
abbrev main_v481 : Ref sig .tc := ⟨.hbm, 583, rfl⟩
abbrev main_cst_94 : Ref sig .tc := ⟨.hbm, 584, rfl⟩
abbrev main_v482 : Ref sig .tc := ⟨.hbm, 585, rfl⟩
abbrev main_v483 : Ref sig .tc := ⟨.hbm, 586, rfl⟩
abbrev main_v484 : Ref sig .tc := ⟨.hbm, 587, rfl⟩
abbrev main_v485 : Ref sig .tc := ⟨.hbm, 588, rfl⟩
abbrev main_v486 : Ref sig .tc := ⟨.hbm, 589, rfl⟩
abbrev main_cst_95 : Ref sig .tc := ⟨.hbm, 590, rfl⟩
abbrev main_v487 : Ref sig .tc := ⟨.hbm, 591, rfl⟩
abbrev main_v488 : Ref sig .tc := ⟨.hbm, 592, rfl⟩
abbrev main_cst_96 : Ref sig .tc := ⟨.hbm, 593, rfl⟩
abbrev main_v489 : Ref sig .tc := ⟨.hbm, 594, rfl⟩
abbrev main_cst_97 : Ref sig .tc := ⟨.hbm, 595, rfl⟩
abbrev main_v490 : Ref sig .tc := ⟨.hbm, 596, rfl⟩
abbrev main_v491 : Ref sig .tc := ⟨.hbm, 597, rfl⟩
abbrev main_v492 : Ref sig .tc := ⟨.hbm, 598, rfl⟩
abbrev main_cst_98 : Ref sig .tc := ⟨.hbm, 599, rfl⟩
abbrev main_v493 : Ref sig .tc := ⟨.hbm, 600, rfl⟩
abbrev main_v494 : Ref sig .tc := ⟨.hbm, 601, rfl⟩
abbrev main_v495 : Ref sig .tc := ⟨.hbm, 602, rfl⟩
abbrev main_v496 : Ref sig .tc := ⟨.hbm, 603, rfl⟩
abbrev main_v497 : Ref sig .tc := ⟨.hbm, 604, rfl⟩
abbrev main_cst_99 : Ref sig .tc := ⟨.hbm, 605, rfl⟩
abbrev main_v498 : Ref sig .tc := ⟨.hbm, 606, rfl⟩
abbrev main_v499 : Ref sig .tc := ⟨.hbm, 607, rfl⟩
abbrev main_cst_100 : Ref sig .tc := ⟨.hbm, 608, rfl⟩
abbrev main_v500 : Ref sig .tc := ⟨.hbm, 609, rfl⟩
abbrev main_cst_101 : Ref sig .tc := ⟨.hbm, 610, rfl⟩
abbrev main_v501 : Ref sig .tc := ⟨.hbm, 611, rfl⟩
abbrev main_v502 : Ref sig .tc := ⟨.hbm, 612, rfl⟩
abbrev main_v503 : Ref sig .tc := ⟨.hbm, 613, rfl⟩
abbrev main_cst_102 : Ref sig .tc := ⟨.hbm, 614, rfl⟩
abbrev main_v504 : Ref sig .tc := ⟨.hbm, 615, rfl⟩
abbrev main_v505 : Ref sig .tc := ⟨.hbm, 616, rfl⟩
abbrev main_v506 : Ref sig .tc := ⟨.hbm, 617, rfl⟩
abbrev main_v507 : Ref sig .tc := ⟨.hbm, 618, rfl⟩
abbrev main_v508 : Ref sig .tc := ⟨.hbm, 619, rfl⟩
abbrev main_cst_103 : Ref sig .tc := ⟨.hbm, 620, rfl⟩
abbrev main_v509 : Ref sig .tc := ⟨.hbm, 621, rfl⟩
abbrev main_v510 : Ref sig .tc := ⟨.hbm, 622, rfl⟩
abbrev main_cst_104 : Ref sig .tc := ⟨.hbm, 623, rfl⟩
abbrev main_v511 : Ref sig .tc := ⟨.hbm, 624, rfl⟩
abbrev main_cst_105 : Ref sig .tc := ⟨.hbm, 625, rfl⟩
abbrev main_v512 : Ref sig .tc := ⟨.hbm, 626, rfl⟩
abbrev main_v513 : Ref sig .tc := ⟨.hbm, 627, rfl⟩
abbrev main_v514 : Ref sig .tc := ⟨.hbm, 628, rfl⟩
abbrev main_cst_106 : Ref sig .tc := ⟨.hbm, 629, rfl⟩
abbrev main_v515 : Ref sig .tc := ⟨.hbm, 630, rfl⟩
abbrev main_v516 : Ref sig .tc := ⟨.hbm, 631, rfl⟩
abbrev main_v517 : Ref sig .tc := ⟨.hbm, 632, rfl⟩
abbrev main_v518 : Ref sig .tc := ⟨.hbm, 633, rfl⟩
abbrev main_v519 : Ref sig .tc := ⟨.hbm, 634, rfl⟩
abbrev main_cst_107 : Ref sig .tc := ⟨.hbm, 635, rfl⟩
abbrev main_v520 : Ref sig .tc := ⟨.hbm, 636, rfl⟩
abbrev main_v521 : Ref sig .tc := ⟨.hbm, 637, rfl⟩
abbrev main_cst_108 : Ref sig .tc := ⟨.hbm, 638, rfl⟩
abbrev main_v522 : Ref sig .tc := ⟨.hbm, 639, rfl⟩
abbrev main_cst_109 : Ref sig .tc := ⟨.hbm, 640, rfl⟩
abbrev main_v523 : Ref sig .tc := ⟨.hbm, 641, rfl⟩
abbrev main_v524 : Ref sig .tc := ⟨.hbm, 642, rfl⟩
abbrev main_v525 : Ref sig .tc := ⟨.hbm, 643, rfl⟩
abbrev main_cst_110 : Ref sig .tc := ⟨.hbm, 644, rfl⟩
abbrev main_v526 : Ref sig .tc := ⟨.hbm, 645, rfl⟩
abbrev main_v527 : Ref sig .tc := ⟨.hbm, 646, rfl⟩
abbrev main_v528 : Ref sig .tc := ⟨.hbm, 647, rfl⟩
abbrev main_v529 : Ref sig .tc := ⟨.hbm, 648, rfl⟩
abbrev main_v530 : Ref sig .tc := ⟨.hbm, 649, rfl⟩
abbrev main_cst_111 : Ref sig .tc := ⟨.hbm, 650, rfl⟩
abbrev main_v531 : Ref sig .tc := ⟨.hbm, 651, rfl⟩
abbrev main_v532 : Ref sig .tc := ⟨.hbm, 652, rfl⟩
abbrev main_cst_112 : Ref sig .tc := ⟨.hbm, 653, rfl⟩
abbrev main_v533 : Ref sig .tc := ⟨.hbm, 654, rfl⟩
abbrev main_cst_113 : Ref sig .tc := ⟨.hbm, 655, rfl⟩
abbrev main_v534 : Ref sig .tc := ⟨.hbm, 656, rfl⟩
abbrev main_v535 : Ref sig .tc := ⟨.hbm, 657, rfl⟩
abbrev main_v536 : Ref sig .tc := ⟨.hbm, 658, rfl⟩
abbrev main_cst_114 : Ref sig .tc := ⟨.hbm, 659, rfl⟩
abbrev main_v537 : Ref sig .tc := ⟨.hbm, 660, rfl⟩
abbrev main_v538 : Ref sig .tc := ⟨.hbm, 661, rfl⟩
abbrev main_v539 : Ref sig .tc := ⟨.hbm, 662, rfl⟩
abbrev main_v540 : Ref sig .tc := ⟨.hbm, 663, rfl⟩
abbrev main_v541 : Ref sig .tc := ⟨.hbm, 664, rfl⟩
abbrev main_cst_115 : Ref sig .tc := ⟨.hbm, 665, rfl⟩
abbrev main_v542 : Ref sig .tc := ⟨.hbm, 666, rfl⟩
abbrev main_v543 : Ref sig .tc := ⟨.hbm, 667, rfl⟩
abbrev main_cst_116 : Ref sig .tc := ⟨.hbm, 668, rfl⟩
abbrev main_v544 : Ref sig .tc := ⟨.hbm, 669, rfl⟩
abbrev main_cst_117 : Ref sig .tc := ⟨.hbm, 670, rfl⟩
abbrev main_v545 : Ref sig .tc := ⟨.hbm, 671, rfl⟩
abbrev main_v546 : Ref sig .tc := ⟨.hbm, 672, rfl⟩
abbrev main_v547 : Ref sig .tc := ⟨.hbm, 673, rfl⟩
abbrev main_cst_118 : Ref sig .tc := ⟨.hbm, 674, rfl⟩
abbrev main_v548 : Ref sig .tc := ⟨.hbm, 675, rfl⟩
abbrev main_v549 : Ref sig .tc := ⟨.hbm, 676, rfl⟩
abbrev main_v550 : Ref sig .tc := ⟨.hbm, 677, rfl⟩
abbrev main_v551 : Ref sig .tc := ⟨.hbm, 678, rfl⟩
abbrev main_v552 : Ref sig .tc := ⟨.hbm, 679, rfl⟩
abbrev main_cst_119 : Ref sig .tc := ⟨.hbm, 680, rfl⟩
abbrev main_v553 : Ref sig .tc := ⟨.hbm, 681, rfl⟩
abbrev main_v554 : Ref sig .tc := ⟨.hbm, 682, rfl⟩
abbrev main_cst_120 : Ref sig .tc := ⟨.hbm, 683, rfl⟩
abbrev main_v555 : Ref sig .tc := ⟨.hbm, 684, rfl⟩
abbrev main_cst_121 : Ref sig .tc := ⟨.hbm, 685, rfl⟩
abbrev main_v556 : Ref sig .tc := ⟨.hbm, 686, rfl⟩
abbrev main_v557 : Ref sig .tc := ⟨.hbm, 687, rfl⟩
abbrev main_v558 : Ref sig .tc := ⟨.hbm, 688, rfl⟩
abbrev main_cst_122 : Ref sig .tc := ⟨.hbm, 689, rfl⟩
abbrev main_v559 : Ref sig .tc := ⟨.hbm, 690, rfl⟩
abbrev main_v560 : Ref sig .tc := ⟨.hbm, 691, rfl⟩
abbrev main_v561 : Ref sig .tc := ⟨.hbm, 692, rfl⟩
abbrev main_v562 : Ref sig .tc := ⟨.hbm, 693, rfl⟩
abbrev main_v563 : Ref sig .tc := ⟨.hbm, 694, rfl⟩
abbrev main_cst_123 : Ref sig .tc := ⟨.hbm, 695, rfl⟩
abbrev main_v564 : Ref sig .tc := ⟨.hbm, 696, rfl⟩
abbrev main_v565 : Ref sig .tc := ⟨.hbm, 697, rfl⟩
abbrev main_cst_124 : Ref sig .tc := ⟨.hbm, 698, rfl⟩
abbrev main_v566 : Ref sig .tc := ⟨.hbm, 699, rfl⟩
abbrev main_cst_125 : Ref sig .tc := ⟨.hbm, 700, rfl⟩
abbrev main_v567 : Ref sig .tc := ⟨.hbm, 701, rfl⟩
abbrev main_v568 : Ref sig .tc := ⟨.hbm, 702, rfl⟩
abbrev main_v569 : Ref sig .tc := ⟨.hbm, 703, rfl⟩
abbrev main_cst_126 : Ref sig .tc := ⟨.hbm, 704, rfl⟩
abbrev main_v570 : Ref sig .tc := ⟨.hbm, 705, rfl⟩
abbrev main_v571 : Ref sig .tc := ⟨.hbm, 706, rfl⟩
abbrev main_v572 : Ref sig .tc := ⟨.hbm, 707, rfl⟩
abbrev main_v573 : Ref sig .tc := ⟨.hbm, 708, rfl⟩
abbrev main_v574 : Ref sig .tc := ⟨.hbm, 709, rfl⟩
abbrev main_cst_127 : Ref sig .tc := ⟨.hbm, 710, rfl⟩
abbrev main_v575 : Ref sig .tc := ⟨.hbm, 711, rfl⟩
abbrev main_v576 : Ref sig .tc := ⟨.hbm, 712, rfl⟩
abbrev main_cst_128 : Ref sig .tc := ⟨.hbm, 713, rfl⟩
abbrev main_v577 : Ref sig .tc := ⟨.hbm, 714, rfl⟩
abbrev main_cst_129 : Ref sig .tc := ⟨.hbm, 715, rfl⟩
abbrev main_v578 : Ref sig .tc := ⟨.hbm, 716, rfl⟩
abbrev main_v579 : Ref sig .tc := ⟨.hbm, 717, rfl⟩
abbrev main_v580 : Ref sig .tc := ⟨.hbm, 718, rfl⟩
abbrev main_cst_130 : Ref sig .tc := ⟨.hbm, 719, rfl⟩
abbrev main_v581 : Ref sig .tc := ⟨.hbm, 720, rfl⟩
abbrev main_v582 : Ref sig .tc := ⟨.hbm, 721, rfl⟩
abbrev main_v583 : Ref sig .tc := ⟨.hbm, 722, rfl⟩
abbrev main_v584 : Ref sig .tc := ⟨.hbm, 723, rfl⟩
abbrev main_v585 : Ref sig .tc := ⟨.hbm, 724, rfl⟩
abbrev main_v586 : Ref sig .tc := ⟨.hbm, 725, rfl⟩
abbrev main_v587 : Ref sig .tc := ⟨.hbm, 726, rfl⟩
abbrev main_cst_131 : Ref sig .tc := ⟨.hbm, 727, rfl⟩
abbrev main_v588 : Ref sig .tc := ⟨.hbm, 728, rfl⟩
abbrev main_cst_132 : Ref sig .tc := ⟨.hbm, 729, rfl⟩
abbrev main_v589 : Ref sig .tc := ⟨.hbm, 730, rfl⟩
abbrev main_v590 : Ref sig .tc := ⟨.hbm, 731, rfl⟩
abbrev main_cst_133 : Ref sig .tc := ⟨.hbm, 732, rfl⟩
abbrev main_v591 : Ref sig .tc := ⟨.hbm, 733, rfl⟩
abbrev main_v592 : Ref sig .tc := ⟨.hbm, 734, rfl⟩
abbrev main_v593 : Ref sig .tc := ⟨.hbm, 735, rfl⟩
abbrev main_v594 : Ref sig .tc := ⟨.hbm, 736, rfl⟩
abbrev main_v595 : Ref sig .tc := ⟨.hbm, 737, rfl⟩
abbrev main_v596 : Ref sig .tc := ⟨.hbm, 738, rfl⟩
abbrev main_cst_134 : Ref sig .tc := ⟨.hbm, 739, rfl⟩
abbrev main_v597 : Ref sig .tc := ⟨.hbm, 740, rfl⟩
abbrev main_v598 : Ref sig .tc := ⟨.hbm, 741, rfl⟩
abbrev main_cst_135 : Ref sig .tc := ⟨.hbm, 742, rfl⟩
abbrev main_v599 : Ref sig .tc := ⟨.hbm, 743, rfl⟩
abbrev main_v600 : Ref sig .tc := ⟨.hbm, 744, rfl⟩
abbrev main_cst_136 : Ref sig .tc := ⟨.hbm, 745, rfl⟩
abbrev main_v601 : Ref sig .tc := ⟨.hbm, 746, rfl⟩
abbrev main_v602 : Ref sig .tc := ⟨.hbm, 747, rfl⟩
abbrev main_v603 : Ref sig .tc := ⟨.hbm, 748, rfl⟩
abbrev main_v604 : Ref sig .tc := ⟨.hbm, 749, rfl⟩
abbrev main_v605 : Ref sig .tc := ⟨.hbm, 750, rfl⟩
abbrev main_v606 : Ref sig .tc := ⟨.hbm, 751, rfl⟩
abbrev main_v607 : Ref sig .tc := ⟨.hbm, 752, rfl⟩
abbrev main_v608 : Ref sig .tc := ⟨.hbm, 753, rfl⟩
abbrev main_c : Ref sig .tc := ⟨.hbm, 754, rfl⟩
abbrev main_call0_v0 : Ref sig .tc := ⟨.hbm, 755, rfl⟩
abbrev main_v609 : Ref sig .tc := ⟨.hbm, 756, rfl⟩

abbrev nD : Nat := 1
abbrev τ : Topo := Topo.v7x

variable {F : FTy → Type} [FloatOps F]
-- ==== Kernel6.lean ====
abbrev S16384x1024 : Shape := ⟨2, ![16384, 1024]⟩
abbrev S1024x128 : Shape := ⟨2, ![1024, 128]⟩
abbrev S128 : Shape := ⟨1, ![128]⟩
abbrev S1024x1024 : Shape := ⟨2, ![1024, 1024]⟩
abbrev S1024 : Shape := ⟨1, ![1024]⟩
abbrev S16 : Shape := ⟨1, ![16]⟩
abbrev S1024x256 : Shape := ⟨2, ![1024, 256]⟩
abbrev S256 : Shape := ⟨1, ![256]⟩
abbrev S1x256 : Shape := ⟨2, ![1, 256]⟩
abbrev S1024x1 : Shape := ⟨2, ![1024, 1]⟩
abbrev S1x1024 : Shape := ⟨2, ![1, 1024]⟩
abbrev S1024x16384 : Shape := ⟨2, ![1024, 16384]⟩
abbrev S16384x256 : Shape := ⟨2, ![16384, 256]⟩
abbrev S512x1024 : Shape := ⟨2, ![512, 1024]⟩
abbrev S128x1024 : Shape := ⟨2, ![128, 1024]⟩
abbrev S1024x512 : Shape := ⟨2, ![1024, 512]⟩
abbrev S512x256 : Shape := ⟨2, ![512, 256]⟩
abbrev S4x640x64 : Shape := ⟨3, ![4, 640, 64]⟩
abbrev S4x1024x128 : Shape := ⟨3, ![4, 1024, 128]⟩
abbrev S1x1024x128 : Shape := ⟨3, ![1, 1024, 128]⟩
abbrev S128x256 : Shape := ⟨2, ![128, 256]⟩
abbrev S128x64 : Shape := ⟨2, ![128, 64]⟩
abbrev S1x128x64 : Shape := ⟨3, ![1, 128, 64]⟩
abbrev S512x64 : Shape := ⟨2, ![512, 64]⟩
abbrev S1x512x64 : Shape := ⟨3, ![1, 512, 64]⟩
abbrev S128x128 : Shape := ⟨2, ![128, 128]⟩
abbrev S1x256x64 : Shape := ⟨3, ![1, 256, 64]⟩
abbrev S256x64 : Shape := ⟨2, ![256, 64]⟩
abbrev S1x64x128 : Shape := ⟨3, ![1, 64, 128]⟩
abbrev S64x128 : Shape := ⟨2, ![64, 128]⟩
abbrev S64x1024 : Shape := ⟨2, ![64, 1024]⟩
abbrev S256x1024 : Shape := ⟨2, ![256, 1024]⟩
abbrev S256x128 : Shape := ⟨2, ![256, 128]⟩
abbrev S1 : Shape := ⟨1, ![1]⟩
abbrev S1x128 : Shape := ⟨2, ![1, 128]⟩
abbrev S512 : Shape := ⟨1, ![512]⟩
abbrev S512x1 : Shape := ⟨2, ![512, 1]⟩

abbrev nBuf : Space → Nat
  | .hbm => 28
  | .vmem => 25
  | .smem => 1
  | _ => 0

abbrev bufTy : (tb : Table) → Fin (tcTables nBuf tb) → BufTy
  | .hbm, ⟨0, _⟩ => ⟨S16384x1024, .f32⟩
  | .hbm, ⟨1, _⟩ => ⟨S1024x128, .f32⟩
  | .hbm, ⟨2, _⟩ => ⟨S128, .f32⟩
  | .hbm, ⟨3, _⟩ => ⟨S1024x128, .f32⟩
  | .hbm, ⟨4, _⟩ => ⟨S128, .f32⟩
  | .hbm, ⟨5, _⟩ => ⟨S1024x1024, .f32⟩
  | .hbm, ⟨6, _⟩ => ⟨S1024, .f32⟩
  | .hbm, ⟨7, _⟩ => ⟨S16, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024x256, .f32⟩
  | .hbm, ⟨13, _⟩ => ⟨S1024x256, .bf16⟩
  | .hbm, ⟨14, _⟩ => ⟨S256, .f32⟩
  | .hbm, ⟨15, _⟩ => ⟨S1x256, .f32⟩
  | .hbm, ⟨16, _⟩ => ⟨S1024x1024, .f32⟩
  | .hbm, ⟨17, _⟩ => ⟨S1024x1024, .bf16⟩
  | .hbm, ⟨18, _⟩ => ⟨S1024x1, .f32⟩
  | .hbm, ⟨19, _⟩ => ⟨S1024x1024, .bf16⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1024x16384, .bf16⟩
  | .hbm, ⟨24, _⟩ => ⟨S16384x256, .bf16⟩
  | .hbm, ⟨25, _⟩ => ⟨S1024x16384, .bf16⟩
  | .hbm, ⟨26, _⟩ => ⟨S16384x1024, .f32⟩
  | .hbm, ⟨27, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S128x1024, .f32⟩
  | .local _ .vmem, ⟨3, _⟩ => ⟨S128x1024, .f32⟩
  | .local _ .vmem, ⟨4, _⟩ => ⟨S1024x1024, .bf16⟩
  | .local _ .vmem, ⟨5, _⟩ => ⟨S1024x1, .f32⟩
  | .local _ .vmem, ⟨6, _⟩ => ⟨S1024x256, .bf16⟩
  | .local _ .vmem, ⟨7, _⟩ => ⟨S1x256, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x512, .bf16⟩
  | .local _ .vmem, ⟨13, _⟩ => ⟨S1024x512, .bf16⟩
  | .local _ .vmem, ⟨14, _⟩ => ⟨S512x256, .bf16⟩
  | .local _ .vmem, ⟨15, _⟩ => ⟨S512x256, .bf16⟩
  | .local _ .vmem, ⟨16, _⟩ => ⟨S1024x512, .bf16⟩
  | .local _ .vmem, ⟨17, _⟩ => ⟨S1024x512, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S4x640x64, .bf16⟩
  | .local _ .vmem, ⟨23, _⟩ => ⟨S4x1024x128, .bf16⟩
  | .local _ .vmem, ⟨24, _⟩ => ⟨S4x1024x128, .bf16⟩
  | .local _ .smem, ⟨0, _⟩ => ⟨S16, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev main_v11_4 : Ref sig .tc := ⟨.hbm, 27, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![32], ![false]⟩

def k0_mult1 : BitVec 32 :=
  let c0_i32_53 : BitVec 32 := 0#32
  let c128_i32_54 : BitVec 32 := 128#32
  let v87 : BitVec 32 := Scalar.muli c0_i32_53 c128_i32_54
  v87
def k0_off1 (c0_i32_53 : BitVec 32) : Fin 3 → Nat :=
  let c0_57 : Index := 0#32
  let c128_i32_54 : BitVec 32 := 128#32
  let v87 : BitVec 32 := Scalar.muli c0_i32_53 c128_i32_54
  let v88 : BitVec 32 := v87
  let v92 : Index := Scalar.indexCast v88
  let c0_58 : Index := 0#32
  ![0, v92.toNat, 0]
def k0_off2 (c0_i32_53 : BitVec 32) : Fin 3 → Nat :=
  let c2_59 : Index := 2#32
  let c128_i32_54 : BitVec 32 := 128#32
  let v87 : BitVec 32 := Scalar.muli c0_i32_53 c128_i32_54
  let v88 : BitVec 32 := v87
  let v95 : Index := Scalar.indexCast v88
  let c0_60 : Index := 0#32
  ![2, v95.toNat, 0]
def k0_off3 (c0_i32_53 : BitVec 32) : Fin 3 → Nat :=
  let c1_149 : Index := 1#32
  let c128_i32_54 : BitVec 32 := 128#32
  let v87 : BitVec 32 := Scalar.muli c0_i32_53 c128_i32_54
  let v88 : BitVec 32 := v87
  let v462 : Index := Scalar.indexCast v88
  let c0_150 : Index := 0#32
  ![1, v462.toNat, 0]
def k0_off4 (c0_i32_53 : BitVec 32) : Fin 3 → Nat :=
  let c3_151 : Index := 3#32
  let c128_i32_54 : BitVec 32 := 128#32
  let v87 : BitVec 32 := Scalar.muli c0_i32_53 c128_i32_54
  let v88 : BitVec 32 := v87
  let v465 : Index := Scalar.indexCast v88
  let c0_152 : Index := 0#32
  ![3, v465.toNat, 0]
def k0_mult2 : BitVec 32 :=
  let c1_i32 : BitVec 32 := 1#32
  let c128_i32_235 : BitVec 32 := 128#32
  let v832 : BitVec 32 := Scalar.muli c1_i32 c128_i32_235
  v832
def k0_mult3 : BitVec 32 :=
  let c2_i32 : BitVec 32 := 2#32
  let c128_i32_442 : BitVec 32 := 128#32
  let v1577 : BitVec 32 := Scalar.muli c2_i32 c128_i32_442
  v1577
def k0_mult4 : BitVec 32 :=
  let c3_i32 : BitVec 32 := 3#32
  let c128_i32_649 : BitVec 32 := 128#32
  let v2322 : BitVec 32 := Scalar.muli c3_i32 c128_i32_649
  v2322
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel6Ideal.lean ====
variable {F : FTy → Type} [FloatOps F] [Named F]
def κ : String → Option EReal := fun
  | "masked" => some ⊥
  | "slope_0" => some (((Real.sqrt 2)⁻¹ : ℝ) : EReal)
  | "slope_1" => some (((Real.sqrt 8)⁻¹ : ℝ) : EReal)
  | "slope_2" => some (((Real.sqrt 32)⁻¹ : ℝ) : EReal)
  | "slope_3" => some (((Real.sqrt 128)⁻¹ : ℝ) : EReal)
  | "slope_4" => some (((Real.sqrt 512)⁻¹ : ℝ) : EReal)
  | "slope_5" => some (((Real.sqrt 2048)⁻¹ : ℝ) : EReal)
  | "slope_6" => some (((Real.sqrt 8192)⁻¹ : ℝ) : EReal)
  | "slope_7" => some (((Real.sqrt 32768)⁻¹ : ℝ) : EReal)
  | _ => none
-- ==== Reference6Ideal.lean ====
abbrev S16384x1024 : Shape := ⟨2, ![16384, 1024]⟩
abbrev S1024x128 : Shape := ⟨2, ![1024, 128]⟩
abbrev S128 : Shape := ⟨1, ![128]⟩
abbrev S1024x1024 : Shape := ⟨2, ![1024, 1024]⟩
abbrev S1024 : Shape := ⟨1, ![1024]⟩
abbrev S16 : Shape := ⟨1, ![16]⟩
abbrev S1x1024 : Shape := ⟨2, ![1, 1024]⟩
abbrev S16384x128 : Shape := ⟨2, ![16384, 128]⟩
abbrev S1x128 : Shape := ⟨2, ![1, 128]⟩
abbrev S16384x2x64 : Shape := ⟨3, ![16384, 2, 64]⟩
abbrev S_ : Shape := ⟨0, ![]⟩
abbrev S128x2x64 : Shape := ⟨3, ![128, 2, 64]⟩
abbrev S16256x2x64 : Shape := ⟨3, ![16256, 2, 64]⟩
abbrev S128x128x2x64 : Shape := ⟨4, ![128, 128, 2, 64]⟩
abbrev S128x256x2x64 : Shape := ⟨4, ![128, 256, 2, 64]⟩
abbrev S128x128x2x8x64 : Shape := ⟨5, ![128, 128, 2, 8, 64]⟩
abbrev S128x2x256x128x8 : Shape := ⟨5, ![128, 2, 256, 128, 8]⟩
abbrev S128x2x8x128x256 : Shape := ⟨5, ![128, 2, 8, 128, 256]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x1x1 : Shape := ⟨3, ![128, 1, 1]⟩
abbrev S1x1x256 : Shape := ⟨3, ![1, 1, 256]⟩
abbrev S128x1x256 : Shape := ⟨3, ![128, 1, 256]⟩
abbrev S1x128x256 : Shape := ⟨3, ![1, 128, 256]⟩
abbrev S128x128x256 : Shape := ⟨3, ![128, 128, 256]⟩
abbrev S2x8 : Shape := ⟨2, ![2, 8]⟩
abbrev S1x2x8x1x1 : Shape := ⟨5, ![1, 2, 8, 1, 1]⟩
abbrev S1x1x1x128x256 : Shape := ⟨5, ![1, 1, 1, 128, 256]⟩
abbrev S1x2x8x128x256 : Shape := ⟨5, ![1, 2, 8, 128, 256]⟩
abbrev S128x1x1x128x256 : Shape := ⟨5, ![128, 1, 1, 128, 256]⟩
abbrev S128x2x8x128x1 : Shape := ⟨5, ![128, 2, 8, 128, 1]⟩
abbrev S128x2x8x128x257 : Shape := ⟨5, ![128, 2, 8, 128, 257]⟩
abbrev S128x2x8x128 : Shape := ⟨4, ![128, 2, 8, 128]⟩
abbrev S128x2x64x8x128 : Shape := ⟨5, ![128, 2, 64, 8, 128]⟩
abbrev S1024x16384 : Shape := ⟨2, ![1024, 16384]⟩
abbrev S16384x256 : Shape := ⟨2, ![16384, 256]⟩
abbrev S16384 : Shape := ⟨1, ![16384]⟩
abbrev S16384x1 : Shape := ⟨2, ![16384, 1]⟩

abbrev nBuf : Space → Nat
  | .hbm => 177
  | .vmem => 0
  | .smem => 0
  | _ => 0

abbrev hbmTy0_0 (i : Nat) : BufTy := match i % 128 with
  | 0 => ⟨S16384x1024, .f32⟩
  | 1 => ⟨S1024x128, .f32⟩
  | 2 => ⟨S128, .f32⟩
  | 3 => ⟨S1024x128, .f32⟩
  | 4 => ⟨S128, .f32⟩
  | 5 => ⟨S1024x1024, .f32⟩
  | 6 => ⟨S1024, .f32⟩
  | 7 => ⟨S16, .f32⟩
  | 8 => ⟨S1024x1024, .f32⟩
  | 9 => ⟨S1024, .f32⟩
  | 10 => ⟨S1024, .f32⟩
  | 11 => ⟨S1024, .f32⟩
  | 12 => ⟨S16384x1024, .f32⟩
  | 13 => ⟨S1x1024, .f32⟩
  | 14 => ⟨S16384x1024, .f32⟩
  | 15 => ⟨S16384x1024, .f32⟩
  | 16 => ⟨S16384x128, .f32⟩
  | 17 => ⟨S1x128, .f32⟩
  | 18 => ⟨S16384x128, .f32⟩
  | 19 => ⟨S16384x128, .f32⟩
  | 20 => ⟨S16384x128, .f32⟩
  | 21 => ⟨S1x128, .f32⟩
  | 22 => ⟨S16384x128, .f32⟩
  | 23 => ⟨S16384x128, .f32⟩
  | 24 => ⟨S16384x2x64, .f32⟩
  | 25 => ⟨S_, .f32⟩
  | 26 => ⟨S128x2x64, .f32⟩
  | 27 => ⟨S16256x2x64, .f32⟩
  | 28 => ⟨S16384x2x64, .f32⟩
  | 29 => ⟨S128x128x2x64, .f32⟩
  | 30 => ⟨S128x128x2x64, .f32⟩
  | 31 => ⟨S128x256x2x64, .f32⟩
  | 32 => ⟨S16384x2x64, .f32⟩
  | 33 => ⟨S_, .f32⟩
  | 34 => ⟨S128x2x64, .f32⟩
  | 35 => ⟨S16256x2x64, .f32⟩
  | 36 => ⟨S16384x2x64, .f32⟩
  | 37 => ⟨S128x128x2x64, .f32⟩
  | 38 => ⟨S128x128x2x64, .f32⟩
  | 39 => ⟨S128x256x2x64, .f32⟩
  | 40 => ⟨S128x128x2x8x64, .f32⟩
  | 41 => ⟨S128x2x256x128x8, .f32⟩
  | 42 => ⟨S128x2x8x128x256, .f32⟩
  | 43 => ⟨S_, .f32⟩
  | 44 => ⟨S128x2x8x128x256, .f32⟩
  | 45 => ⟨S128x2x8x128x256, .f32⟩
  | 46 => ⟨S128, .i32⟩
  | 47 => ⟨S128x1, .i32⟩
  | 48 => ⟨S256, .i32⟩
  | 49 => ⟨S1x256, .i32⟩
  | 50 => ⟨S_, .i32⟩
  | 51 => ⟨S128x1, .i32⟩
  | 52 => ⟨S128x1, .i32⟩
  | 53 => ⟨S128x256, .i32⟩
  | 54 => ⟨S128x256, .i32⟩
  | 55 => ⟨S128x256, .i32⟩
  | 56 => ⟨S128, .i32⟩
  | 57 => ⟨S128x1x1, .i32⟩
  | 58 => ⟨S_, .i32⟩
  | 59 => ⟨S128x1x1, .i32⟩
  | 60 => ⟨S128x1x1, .i32⟩
  | 61 => ⟨S_, .i32⟩
  | 62 => ⟨S128x1x1, .i32⟩
  | 63 => ⟨S128x1x1, .i32⟩
  | 64 => ⟨S1x1x256, .i32⟩
  | 65 => ⟨S128x1x256, .i32⟩
  | 66 => ⟨S128x1x256, .i32⟩
  | 67 => ⟨S128x1x256, .i32⟩
  | 68 => ⟨S_, .i32⟩
  | 69 => ⟨S128x256, .i32⟩
  | 70 => ⟨S128x256, .i1⟩
  | 71 => ⟨S_, .i32⟩
  | 72 => ⟨S128x256, .i32⟩
  | 73 => ⟨S128x256, .i1⟩
  | 74 => ⟨S128x256, .i1⟩
  | 75 => ⟨S_, .i32⟩
  | 76 => ⟨S128x1x256, .i32⟩
  | 77 => ⟨S128x1x256, .i1⟩
  | 78 => ⟨S1x128x256, .i1⟩
  | 79 => ⟨S128x128x256, .i1⟩
  | 80 => ⟨S128x128x256, .i1⟩
  | 81 => ⟨S128x128x256, .i1⟩
  | 82 => ⟨S16, .f32⟩
  | 83 => ⟨S_, .f32⟩
  | 84 => ⟨S16, .f32⟩
  | 85 => ⟨S16, .f32⟩
  | 86 => ⟨S_, .f32⟩
  | 87 => ⟨S16, .f32⟩
  | 88 => ⟨S16, .f32⟩
  | 89 => ⟨S_, .f32⟩
  | 90 => ⟨S16, .f32⟩
  | 91 => ⟨S16, .f32⟩
  | 92 => ⟨S_, .f32⟩
  | 93 => ⟨S_, .f32⟩
  | 94 => ⟨S16, .f32⟩
  | 95 => ⟨S16, .f32⟩
  | 96 => ⟨S16, .f32⟩
  | 97 => ⟨S2x8, .f32⟩
  | 98 => ⟨S1x2x8x1x1, .f32⟩
  | 99 => ⟨S128x256, .f32⟩
  | 100 => ⟨S1x1x1x128x256, .f32⟩
  | 101 => ⟨S1x2x8x128x256, .f32⟩
  | 102 => ⟨S1x2x8x128x256, .f32⟩
  | 103 => ⟨S1x2x8x128x256, .f32⟩
  | 104 => ⟨S128x2x8x128x256, .f32⟩
  | 105 => ⟨S128x2x8x128x256, .f32⟩
  | 106 => ⟨S128x1x1x128x256, .i1⟩
  | 107 => ⟨S_, .f32⟩
  | 108 => ⟨S_, .f32⟩
  | 109 => ⟨S128x2x8x128x256, .i1⟩
  | 110 => ⟨S128x2x8x128x256, .f32⟩
  | 111 => ⟨S128x2x8x128x256, .f32⟩
  | 112 => ⟨S2x8, .f32⟩
  | 113 => ⟨S1x2x8x1x1, .f32⟩
  | 114 => ⟨S128x2x8x128x1, .f32⟩
  | 115 => ⟨S128x2x8x128x257, .f32⟩
  | 116 => ⟨S_, .f32⟩
  | 117 => ⟨S128x2x8x128, .f32⟩
  | 118 => ⟨S_, .f32⟩
  | 119 => ⟨S128x2x8x128, .f32⟩
  | 120 => ⟨S128x2x8x128, .f32⟩
  | 121 => ⟨S128x2x8x128x1, .f32⟩
  | 122 => ⟨S128x2x8x128x257, .f32⟩
  | 123 => ⟨S128x2x8x128x257, .f32⟩
  | 124 => ⟨S128x2x8x128x257, .f32⟩
  | 125 => ⟨S_, .f32⟩
  | 126 => ⟨S128x2x8x128, .f32⟩
  | 127 => ⟨S128x2x8x128x1, .f32⟩
  | _ => ⟨S16384x1024, .f32⟩

abbrev hbmTy0_1 (i : Nat) : BufTy := match i % 128 with
  | 0 => ⟨S128x2x8x128x257, .f32⟩
  | 1 => ⟨S128x2x8x128x257, .f32⟩
  | 2 => ⟨S128x2x8x128x256, .f32⟩
  | 3 => ⟨S128x2x64x8x128, .f32⟩
  | 4 => ⟨S128x128x2x8x64, .f32⟩
  | 5 => ⟨S16384x1024, .f32⟩
  | 6 => ⟨S_, .f32⟩
  | 7 => ⟨S16384x1024, .f32⟩
  | 8 => ⟨S16384x1024, .f32⟩
  | 9 => ⟨S16384x1024, .f32⟩
  | 10 => ⟨S1x1024, .f32⟩
  | 11 => ⟨S16384x1024, .f32⟩
  | 12 => ⟨S16384x1024, .f32⟩
  | 13 => ⟨S16384x1024, .f32⟩
  | 14 => ⟨S1024x16384, .f32⟩
  | 15 => ⟨S1024x16384, .bf16⟩
  | 16 => ⟨S16384x256, .f32⟩
  | 17 => ⟨S16384x256, .bf16⟩
  | 18 => ⟨S1024x16384, .f32⟩
  | 19 => ⟨S1024x16384, .bf16⟩
  | 20 => ⟨S_, .f32⟩
  | 21 => ⟨S16384, .f32⟩
  | 22 => ⟨S16384x1, .f32⟩
  | 23 => ⟨S_, .f32⟩
  | 24 => ⟨S16384x1, .f32⟩
  | 25 => ⟨S16384x1, .f32⟩
  | 26 => ⟨S16384x1024, .f32⟩
  | 27 => ⟨S16384x1024, .f32⟩
  | 28 => ⟨S16384x1024, .f32⟩
  | 29 => ⟨S_, .f32⟩
  | 30 => ⟨S16384, .f32⟩
  | 31 => ⟨S16384x1, .f32⟩
  | 32 => ⟨S_, .f32⟩
  | 33 => ⟨S16384x1, .f32⟩
  | 34 => ⟨S16384x1, .f32⟩
  | 35 => ⟨S16384x1024, .f32⟩
  | 36 => ⟨S16384x1024, .f32⟩
  | 37 => ⟨S_, .f32⟩
  | 38 => ⟨S16384x1, .f32⟩
  | 39 => ⟨S16384x1, .f32⟩
  | 40 => ⟨S16384x1, .f32⟩
  | 41 => ⟨S16384x1024, .f32⟩
  | 42 => ⟨S16384x1024, .f32⟩
  | 43 => ⟨S1x1024, .f32⟩
  | 44 => ⟨S16384x1024, .f32⟩
  | 45 => ⟨S16384x1024, .f32⟩
  | 46 => ⟨S1x1024, .f32⟩
  | 47 => ⟨S16384x1024, .f32⟩
  | 48 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_1 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_2 : Ref sig .tc := ⟨.hbm, 58, rfl⟩
abbrev main_v42 : Ref sig .tc := ⟨.hbm, 59, rfl⟩
abbrev main_v43 : Ref sig .tc := ⟨.hbm, 60, rfl⟩
abbrev main_c_3 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_4 : Ref sig .tc := ⟨.hbm, 68, rfl⟩
abbrev main_v50 : Ref sig .tc := ⟨.hbm, 69, rfl⟩
abbrev main_v51 : Ref sig .tc := ⟨.hbm, 70, rfl⟩
abbrev main_c_5 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_6 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_7 : Ref sig .tc := ⟨.hbm, 83, rfl⟩
abbrev main_v62 : Ref sig .tc := ⟨.hbm, 84, rfl⟩
abbrev main_v63 : Ref sig .tc := ⟨.hbm, 85, rfl⟩
abbrev main_cst_8 : Ref sig .tc := ⟨.hbm, 86, rfl⟩
abbrev main_v64 : Ref sig .tc := ⟨.hbm, 87, rfl⟩
abbrev main_v65 : Ref sig .tc := ⟨.hbm, 88, rfl⟩
abbrev main_cst_9 : Ref sig .tc := ⟨.hbm, 89, rfl⟩
abbrev main_v66 : Ref sig .tc := ⟨.hbm, 90, rfl⟩
abbrev main_v67 : Ref sig .tc := ⟨.hbm, 91, rfl⟩
abbrev main_cst_10 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_11 : Ref sig .tc := ⟨.hbm, 107, rfl⟩
abbrev main_call0_v0 : Ref sig .tc := ⟨.hbm, 108, rfl⟩
abbrev main_call0_v1 : Ref sig .tc := ⟨.hbm, 109, rfl⟩
abbrev main_call0_v2 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_12 : Ref sig .tc := ⟨.hbm, 116, rfl⟩
abbrev main_v87 : Ref sig .tc := ⟨.hbm, 117, rfl⟩
abbrev main_cst_13 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_14 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_15 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_16 : Ref sig .tc := ⟨.hbm, 148, rfl⟩
abbrev main_v115 : Ref sig .tc := ⟨.hbm, 149, rfl⟩
abbrev main_v116 : Ref sig .tc := ⟨.hbm, 150, rfl⟩
abbrev main_cst_17 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_18 : Ref sig .tc := ⟨.hbm, 157, rfl⟩
abbrev main_v122 : Ref sig .tc := ⟨.hbm, 158, rfl⟩
abbrev main_v123 : Ref sig .tc := ⟨.hbm, 159, rfl⟩
abbrev main_cst_19 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_cst_20 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩

abbrev nD : Nat := 1
abbrev τ : Topo := Topo.v7x

variable {F : FTy → Type} [FloatOps F]
-- ==== Kernel7.lean ====
abbrev S16384x1024 : Shape := ⟨2, ![16384, 1024]⟩
abbrev S2x1024x2816 : Shape := ⟨3, ![2, 1024, 2816]⟩
abbrev S2x2816x1024 : Shape := ⟨3, ![2, 2816, 1024]⟩
abbrev S1024 : Shape := ⟨1, ![1024]⟩
abbrev S2x1024x4x704 : Shape := ⟨4, ![2, 1024, 4, 704]⟩
abbrev S4x2x1024x704 : Shape := ⟨4, ![4, 2, 1024, 704]⟩
abbrev S2x4x704x1024 : Shape := ⟨4, ![2, 4, 704, 1024]⟩
abbrev S4x2x704x1024 : Shape := ⟨4, ![4, 2, 704, 1024]⟩
abbrev S1x1024 : Shape := ⟨2, ![1, 1024]⟩
abbrev S4x16384x704 : Shape := ⟨3, ![4, 16384, 704]⟩
abbrev S512x1024 : Shape := ⟨2, ![512, 1024]⟩
abbrev S4x1x1024x704 : Shape := ⟨4, ![4, 1, 1024, 704]⟩
abbrev S4x1x704x1024 : Shape := ⟨4, ![4, 1, 704, 1024]⟩
abbrev S4x512x704 : Shape := ⟨3, ![4, 512, 704]⟩
abbrev S1x1x1024x704 : Shape := ⟨4, ![1, 1, 1024, 704]⟩
abbrev S1024x704 : Shape := ⟨2, ![1024, 704]⟩
abbrev S512x704 : Shape := ⟨2, ![512, 704]⟩
abbrev S1x512x704 : Shape := ⟨3, ![1, 512, 704]⟩
abbrev S1x1x704x1024 : Shape := ⟨4, ![1, 1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 22
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S2x1024x2816, .f32⟩
  | .hbm, ⟨2, _⟩ => ⟨S2x1024x2816, .f32⟩
  | .hbm, ⟨3, _⟩ => ⟨S2x2816x1024, .f32⟩
  | .hbm, ⟨4, _⟩ => ⟨S1024, .f32⟩
  | .hbm, ⟨5, _⟩ => ⟨S1024, .f32⟩
  | .hbm, ⟨6, _⟩ => ⟨S2x1024x2816, .bf16⟩
  | .hbm, ⟨7, _⟩ => ⟨S2x1024x4x704, .bf16⟩
  | .hbm, ⟨8, _⟩ => ⟨S4x2x1024x704, .bf16⟩
  | .hbm, ⟨9, _⟩ => ⟨S2x1024x2816, .bf16⟩
  | .hbm, ⟨10, _⟩ => ⟨S2x1024x4x704, .bf16⟩
  | .hbm, ⟨11, _⟩ => ⟨S4x2x1024x704, .bf16⟩
  | .hbm, ⟨12, _⟩ => ⟨S2x2816x1024, .bf16⟩
  | .hbm, ⟨13, _⟩ => ⟨S2x4x704x1024, .bf16⟩
  | .hbm, ⟨14, _⟩ => ⟨S4x2x704x1024, .bf16⟩
  | .hbm, ⟨15, _⟩ => ⟨S1x1024, .f32⟩
  | .hbm, ⟨16, _⟩ => ⟨S1x1024, .f32⟩
  | .hbm, ⟨17, _⟩ => ⟨S4x16384x704, .bf16⟩
  | .hbm, ⟨18, _⟩ => ⟨S4x16384x704, .bf16⟩
  | .hbm, ⟨19, _⟩ => ⟨S4x16384x704, .bf16⟩
  | .hbm, ⟨20, _⟩ => ⟨S16384x1024, .f32⟩
  | .hbm, ⟨21, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S4x1x1024x704, .bf16⟩
  | .local _ .vmem, ⟨3, _⟩ => ⟨S4x1x1024x704, .bf16⟩
  | .local _ .vmem, ⟨4, _⟩ => ⟨S4x1x704x1024, .bf16⟩
  | .local _ .vmem, ⟨5, _⟩ => ⟨S1x1024, .f32⟩
  | .local _ .vmem, ⟨6, _⟩ => ⟨S1x1024, .f32⟩
  | .local _ .vmem, ⟨7, _⟩ => ⟨S4x512x704, .bf16⟩
  | .local _ .vmem, ⟨8, _⟩ => ⟨S4x512x704, .bf16⟩
  | .local _ .vmem, ⟨9, _⟩ => ⟨S4x512x704, .bf16⟩
  | .local _ .vmem, ⟨10, _⟩ => ⟨S4x512x704, .bf16⟩
  | .local _ .vmem, ⟨11, _⟩ => ⟨S4x512x704, .bf16⟩
  | .local _ .vmem, ⟨12, _⟩ => ⟨S4x512x704, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference7Ideal.lean ====
abbrev S16384x1024 : Shape := ⟨2, ![16384, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024x2816 : Shape := ⟨3, ![1, 1024, 2816]⟩
abbrev S1024x2816 : Shape := ⟨2, ![1024, 2816]⟩
abbrev S16384x2816 : Shape := ⟨2, ![16384, 2816]⟩
abbrev S_ : Shape := ⟨0, ![]⟩
abbrev S1x2816x1024 : Shape := ⟨3, ![1, 2816, 1024]⟩
abbrev S2816x1024 : Shape := ⟨2, ![2816, 1024]⟩
abbrev S16384x4x704 : Shape := ⟨3, ![16384, 4, 704]⟩
abbrev S4x16384x704 : Shape := ⟨3, ![4, 16384, 704]⟩
abbrev S16384 : Shape := ⟨1, ![16384]⟩
abbrev S16384x1 : Shape := ⟨2, ![16384, 1]⟩
abbrev S1x1024 : Shape := ⟨2, ![1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024x2816, .f32⟩
  | .hbm, ⟨2, _⟩ => ⟨S2x1024x2816, .f32⟩
  | .hbm, ⟨3, _⟩ => ⟨S2x2816x1024, .f32⟩
  | .hbm, ⟨4, _⟩ => ⟨S1024, .f32⟩
  | .hbm, ⟨5, _⟩ => ⟨S1024, .f32⟩
  | .hbm, ⟨6, _⟩ => ⟨S1x1024x2816, .f32⟩
  | .hbm, ⟨7, _⟩ => ⟨S1024x2816, .f32⟩
  | .hbm, ⟨8, _⟩ => ⟨S16384x2816, .f32⟩
  | .hbm, ⟨9, _⟩ => ⟨S1x1024x2816, .f32⟩
  | .hbm, ⟨10, _⟩ => ⟨S1024x2816, .f32⟩
  | .hbm, ⟨11, _⟩ => ⟨S16384x2816, .f32⟩
  | .hbm, ⟨12, _⟩ => ⟨S16384x2816, .f32⟩
  | .hbm, ⟨13, _⟩ => ⟨S16384x2816, .f32⟩
  | .hbm, ⟨14, _⟩ => ⟨S_, .f32⟩
  | .hbm, ⟨15, _⟩ => ⟨S16384x2816, .f32⟩
  | .hbm, ⟨16, _⟩ => ⟨S16384x2816, .f32⟩
  | .hbm, ⟨17, _⟩ => ⟨S_, .f32⟩
  | .hbm, ⟨18, _⟩ => ⟨S16384x2816, .f32⟩
  | .hbm, ⟨19, _⟩ => ⟨S16384x2816, .f32⟩
  | .hbm, ⟨20, _⟩ => ⟨S_, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S16384x2816, .f32⟩
  | .hbm, ⟨29, _⟩ => ⟨S1x2816x1024, .f32⟩
  | .hbm, ⟨30, _⟩ => ⟨S2816x1024, .f32⟩
  | .hbm, ⟨31, _⟩ => ⟨S16384x1024, .f32⟩
  | .hbm, ⟨32, _⟩ => ⟨S16384x1024, .f32⟩
  | .hbm, ⟨33, _⟩ => ⟨S16384x4x704, .f32⟩
  | .hbm, ⟨34, _⟩ => ⟨S4x16384x704, .f32⟩
  | .hbm, ⟨35, _⟩ => ⟨S4x16384x704, .bf16⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x4x704, .f32⟩
  | .hbm, ⟨41, _⟩ => ⟨S4x16384x704, .f32⟩
  | .hbm, ⟨42, _⟩ => ⟨S4x16384x704, .bf16⟩
  | .hbm, ⟨43, _⟩ => ⟨S16384x2816, .f32⟩
  | .hbm, ⟨44, _⟩ => ⟨S16384x4x704, .f32⟩
  | .hbm, ⟨45, _⟩ => ⟨S4x16384x704, .f32⟩
  | .hbm, ⟨46, _⟩ => ⟨S4x16384x704, .bf16⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S16384x1, .f32⟩
  | .hbm, ⟨68, _⟩ => ⟨S16384x1024, .f32⟩
  | .hbm, ⟨69, _⟩ => ⟨S16384x1024, .f32⟩
  | .hbm, ⟨70, _⟩ => ⟨S1x1024, .f32⟩
  | .hbm, ⟨71, _⟩ => ⟨S16384x1024, .f32⟩
  | .hbm, ⟨72, _⟩ => ⟨S16384x1024, .f32⟩
  | .hbm, ⟨73, _⟩ => ⟨S1x1024, .f32⟩
  | .hbm, ⟨74, _⟩ => ⟨S16384x1024, .f32⟩
  | .hbm, ⟨75, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v6_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v6_1 : Ref sig .tc := ⟨.hbm, 23, rfl⟩
abbrev main_v6_0 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_0 : Ref sig .tc := ⟨.hbm, 47, rfl⟩
abbrev main_v25 : Ref sig .tc := ⟨.hbm, 48, rfl⟩
abbrev main_v26 : Ref sig .tc := ⟨.hbm, 49, rfl⟩
abbrev main_cst_1 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_2 : Ref sig .tc := ⟨.hbm, 56, rfl⟩
abbrev main_v32 : Ref sig .tc := ⟨.hbm, 57, rfl⟩
abbrev main_v33 : Ref sig .tc := ⟨.hbm, 58, rfl⟩
abbrev main_cst_3 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_4 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩

abbrev nD : Nat := 1
abbrev τ : Topo := Topo.v7x

variable {F : FTy → Type} [FloatOps F]
-- ==== Kernel8.lean ====
abbrev S16384x1024 : Shape := ⟨2, ![16384, 1024]⟩
abbrev S1024x2048 : Shape := ⟨2, ![1024, 2048]⟩
abbrev S2048 : Shape := ⟨1, ![2048]⟩
abbrev S1024x4x512 : Shape := ⟨3, ![1024, 4, 512]⟩
abbrev S4x1024x512 : Shape := ⟨3, ![4, 1024, 512]⟩
abbrev S1x2048 : Shape := ⟨2, ![1, 2048]⟩
abbrev S512x1024 : Shape := ⟨2, ![512, 1024]⟩
abbrev S1x1024x512 : Shape := ⟨3, ![1, 1024, 512]⟩
abbrev S1024x512 : Shape := ⟨2, ![1024, 512]⟩
abbrev S512x512 : Shape := ⟨2, ![512, 512]⟩
abbrev S1x512 : Shape := ⟨2, ![1, 512]⟩

abbrev nBuf : Space → Nat
  | .hbm => 10
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S2048, .f32⟩
  | .hbm, ⟨3, _⟩ => ⟨S1024x2048, .bf16⟩
  | .hbm, ⟨4, _⟩ => ⟨S1024x4x512, .bf16⟩
  | .hbm, ⟨5, _⟩ => ⟨S4x1024x512, .bf16⟩
  | .hbm, ⟨6, _⟩ => ⟨S1x2048, .f32⟩
  | .hbm, ⟨7, _⟩ => ⟨S16384x1024, .bf16⟩
  | .hbm, ⟨8, _⟩ => ⟨S16384x1024, .bf16⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S4x1024x512, .bf16⟩
  | .local _ .vmem, ⟨3, _⟩ => ⟨S1x2048, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S16384x1024 : Shape := ⟨2, ![16384, 1024]⟩
abbrev S1024x2048 : Shape := ⟨2, ![1024, 2048]⟩
abbrev S2048 : Shape := ⟨1, ![2048]⟩
abbrev S16384x2048 : Shape := ⟨2, ![16384, 2048]⟩
abbrev S1x2048 : Shape := ⟨2, ![1, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S2048, .f32⟩
  | .hbm, ⟨3, _⟩ => ⟨S16384x2048, .f32⟩
  | .hbm, ⟨4, _⟩ => ⟨S1x2048, .f32⟩
  | .hbm, ⟨5, _⟩ => ⟨S16384x2048, .f32⟩
  | .hbm, ⟨6, _⟩ => ⟨S16384x2048, .f32⟩
  | .hbm, ⟨7, _⟩ => ⟨S16384x1024, .f32⟩
  | .hbm, ⟨8, _⟩ => ⟨S16384x1024, .f32⟩
  | .hbm, ⟨9, _⟩ => ⟨S16384x1024, .bf16⟩
  | .hbm, ⟨10, _⟩ => ⟨S16384x1024, .bf16⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel9.lean ====
abbrev S16384x1024 : Shape := ⟨2, ![16384, 1024]⟩
abbrev S1024x2048 : Shape := ⟨2, ![1024, 2048]⟩
abbrev S2048 : Shape := ⟨1, ![2048]⟩
abbrev S31x1024 : Shape := ⟨2, ![31, 1024]⟩
abbrev S1024 : Shape := ⟨1, ![1024]⟩
abbrev S1024x1024 : Shape := ⟨2, ![1024, 1024]⟩
abbrev S16384x2048 : Shape := ⟨2, ![16384, 2048]⟩
abbrev S1x2048 : Shape := ⟨2, ![1, 2048]⟩
abbrev S_ : Shape := ⟨0, ![]⟩
abbrev S32x1024 : Shape := ⟨2, ![32, 1024]⟩
abbrev S32x1x1024 : Shape := ⟨3, ![32, 1, 1024]⟩
abbrev S32x8x1024 : Shape := ⟨3, ![32, 8, 1024]⟩
abbrev S1x1024 : Shape := ⟨2, ![1, 1024]⟩
abbrev S512x1024 : Shape := ⟨2, ![512, 1024]⟩
abbrev S552x1024 : Shape := ⟨2, ![552, 1024]⟩
abbrev S7x544x1024 : Shape := ⟨3, ![7, 544, 1024]⟩
abbrev S8x1024 : Shape := ⟨2, ![8, 1024]⟩
abbrev S544x1024 : Shape := ⟨2, ![544, 1024]⟩
abbrev S1x544x1024 : Shape := ⟨3, ![1, 544, 1024]⟩
abbrev S8x8x256 : Shape := ⟨3, ![8, 8, 256]⟩
abbrev S1x64x256 : Shape := ⟨3, ![1, 64, 256]⟩
abbrev S64x256 : Shape := ⟨2, ![64, 256]⟩
abbrev S1x8x256 : Shape := ⟨3, ![1, 8, 256]⟩
abbrev S8x256 : Shape := ⟨2, ![8, 256]⟩
abbrev S1x256 : Shape := ⟨2, ![1, 256]⟩
abbrev S512 : Shape := ⟨1, ![512]⟩
abbrev S512x1 : Shape := ⟨2, ![512, 1]⟩

abbrev nBuf : Space → Nat
  | .hbm => 41
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S2048, .f32⟩
  | .hbm, ⟨3, _⟩ => ⟨S31x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S16384x2048, .f32⟩
  | .hbm, ⟨12, _⟩ => ⟨S1x2048, .f32⟩
  | .hbm, ⟨13, _⟩ => ⟨S16384x2048, .f32⟩
  | .hbm, ⟨14, _⟩ => ⟨S16384x2048, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .i32⟩
  | .hbm, ⟨27, _⟩ => ⟨S_, .f32⟩
  | .hbm, ⟨28, _⟩ => ⟨S32x1024, .f32⟩
  | .hbm, ⟨29, _⟩ => ⟨S32x1x1024, .f32⟩
  | .hbm, ⟨30, _⟩ => ⟨S32x8x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1024x1024, .bf16⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S32x1024, .f32⟩
  | .local _ .vmem, ⟨3, _⟩ => ⟨S32x1024, .f32⟩
  | .local _ .vmem, ⟨4, _⟩ => ⟨S512x1024, .f32⟩
  | .local _ .vmem, ⟨5, _⟩ => ⟨S512x1024, .f32⟩
  | .local _ .vmem, ⟨6, _⟩ => ⟨S32x8x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S552x1024, .f32⟩
  | .local _ .vmem, ⟨21, _⟩ => ⟨S7x544x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_call0_v0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23_0 : Ref sig .tc := ⟨.hbm, 38, rfl⟩
abbrev main_v23_1 : Ref sig .tc := ⟨.hbm, 39, rfl⟩
abbrev main_v23_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_36 : BitVec 32 := 0#32
  let c8_i32 : BitVec 32 := 8#32
  let v45 : BitVec 32 := Scalar.addi c0_i32_36 c8_i32
  let c1_i32 : BitVec 32 := 1#32
  ⟨c0_i32_36, v45, c1_i32⟩
def k0_mult1 (k0_t1 : Fin k0_t1_loop.trips) : BitVec 32 :=
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  v112
def k0_off1 (k0_t1 : Fin k0_t1_loop.trips) (c0_i32_71 : BitVec 32) : Fin 3 → Nat :=
  let c1_72 : Index := 1#32
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v115 : BitVec 32 := Scalar.addi v113 c0_i32_71
  let v116 : Index := Scalar.indexCast v115
  let c0_73 : Index := 0#32
  ![1, v116.toNat, 0]
def k0_off2 (k0_t1 : Fin k0_t1_loop.trips) (c0_i32_77 : BitVec 32) : Fin 3 → Nat :=
  let c2_78 : Index := 2#32
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v126 : BitVec 32 := Scalar.addi v113 c0_i32_77
  let v127 : Index := Scalar.indexCast v126
  let c0_79 : Index := 0#32
  ![2, v127.toNat, 0]
def k0_off3 (k0_t1 : Fin k0_t1_loop.trips) (c0_i32_83 : BitVec 32) : Fin 3 → Nat :=
  let c3_84 : Index := 3#32
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v137 : BitVec 32 := Scalar.addi v113 c0_i32_83
  let v138 : Index := Scalar.indexCast v137
  let c0_85 : Index := 0#32
  ![3, v138.toNat, 0]
def k0_off4 (k0_t1 : Fin k0_t1_loop.trips) (c0_i32_89 : BitVec 32) : Fin 3 → Nat :=
  let c4_90 : Index := 4#32
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v148 : BitVec 32 := Scalar.addi v113 c0_i32_89
  let v149 : Index := Scalar.indexCast v148
  let c0_91 : Index := 0#32
  ![4, v149.toNat, 0]
def k0_off5 (k0_t1 : Fin k0_t1_loop.trips) (c0_i32_95 : BitVec 32) : Fin 3 → Nat :=
  let c5_96 : Index := 5#32
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v159 : BitVec 32 := Scalar.addi v113 c0_i32_95
  let v160 : Index := Scalar.indexCast v159
  let c0_97 : Index := 0#32
  ![5, v160.toNat, 0]
def k0_off6 (k0_t1 : Fin k0_t1_loop.trips) (c0_i32_101 : BitVec 32) : Fin 3 → Nat :=
  let c6_102 : Index := 6#32
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v170 : BitVec 32 := Scalar.addi v113 c0_i32_101
  let v171 : Index := Scalar.indexCast v170
  let c0_103 : Index := 0#32
  ![6, v171.toNat, 0]
def k0_off7 (k0_t1 : Fin k0_t1_loop.trips) (c8_i32_107 : BitVec 32) : Fin 2 → Nat :=
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v181 : BitVec 32 := Scalar.addi v113 c8_i32_107
  let v182 : Index := Scalar.indexCast v181
  let c0_108 : Index := 0#32
  ![v182.toNat, 0]
def k0_off8 (k0_t1 : Fin k0_t1_loop.trips) (c8_i32_112 : BitVec 32) : Fin 3 → Nat :=
  let c0_113 : Index := 0#32
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v191 : BitVec 32 := Scalar.addi v113 c8_i32_112
  let v192 : Index := Scalar.indexCast v191
  let c0_114 : Index := 0#32
  ![0, v192.toNat, 0]
def k0_off9 (k0_t1 : Fin k0_t1_loop.trips) : Fin 2 → Nat :=
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v457 : Index := Scalar.indexCast v113
  let c0_229 : Index := 0#32
  ![v457.toNat, 0]
def k0_off10 (k0_t1 : Fin k0_t1_loop.trips) (c0_i32_231 : BitVec 32) : Fin 3 → Nat :=
  let c1_232 : Index := 1#32
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v460 : BitVec 32 := Scalar.addi v113 c0_i32_231
  let v461 : Index := Scalar.indexCast v460
  let c256 : Index := 256#32
  ![1, v461.toNat, 256]
def k0_off11 (k0_t1 : Fin k0_t1_loop.trips) (c0_i32_236 : BitVec 32) : Fin 3 → Nat :=
  let c2_237 : Index := 2#32
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v471 : BitVec 32 := Scalar.addi v113 c0_i32_236
  let v472 : Index := Scalar.indexCast v471
  let c256_238 : Index := 256#32
  ![2, v472.toNat, 256]
def k0_off12 (k0_t1 : Fin k0_t1_loop.trips) (c0_i32_242 : BitVec 32) : Fin 3 → Nat :=
  let c3_243 : Index := 3#32
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v482 : BitVec 32 := Scalar.addi v113 c0_i32_242
  let v483 : Index := Scalar.indexCast v482
  let c256_244 : Index := 256#32
  ![3, v483.toNat, 256]
def k0_off13 (k0_t1 : Fin k0_t1_loop.trips) (c0_i32_248 : BitVec 32) : Fin 3 → Nat :=
  let c4_249 : Index := 4#32
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v493 : BitVec 32 := Scalar.addi v113 c0_i32_248
  let v494 : Index := Scalar.indexCast v493
  let c256_250 : Index := 256#32
  ![4, v494.toNat, 256]
def k0_off14 (k0_t1 : Fin k0_t1_loop.trips) (c0_i32_254 : BitVec 32) : Fin 3 → Nat :=
  let c5_255 : Index := 5#32
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v504 : BitVec 32 := Scalar.addi v113 c0_i32_254
  let v505 : Index := Scalar.indexCast v504
  let c256_256 : Index := 256#32
  ![5, v505.toNat, 256]
def k0_off15 (k0_t1 : Fin k0_t1_loop.trips) (c0_i32_260 : BitVec 32) : Fin 3 → Nat :=
  let c6_261 : Index := 6#32
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v515 : BitVec 32 := Scalar.addi v113 c0_i32_260
  let v516 : Index := Scalar.indexCast v515
  let c256_262 : Index := 256#32
  ![6, v516.toNat, 256]
def k0_off16 (k0_t1 : Fin k0_t1_loop.trips) (c8_i32_266 : BitVec 32) : Fin 2 → Nat :=
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v526 : BitVec 32 := Scalar.addi v113 c8_i32_266
  let v527 : Index := Scalar.indexCast v526
  let c256_267 : Index := 256#32
  ![v527.toNat, 256]
def k0_off17 (k0_t1 : Fin k0_t1_loop.trips) (c8_i32_271 : BitVec 32) : Fin 3 → Nat :=
  let c0_272 : Index := 0#32
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v536 : BitVec 32 := Scalar.addi v113 c8_i32_271
  let v537 : Index := Scalar.indexCast v536
  let c256_273 : Index := 256#32
  ![0, v537.toNat, 256]
def k0_off18 (k0_t1 : Fin k0_t1_loop.trips) : Fin 2 → Nat :=
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v802 : Index := Scalar.indexCast v113
  let c256_414 : Index := 256#32
  ![v802.toNat, 256]
def k0_off19 (k0_t1 : Fin k0_t1_loop.trips) (c0_i32_416 : BitVec 32) : Fin 3 → Nat :=
  let c1_417 : Index := 1#32
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v805 : BitVec 32 := Scalar.addi v113 c0_i32_416
  let v806 : Index := Scalar.indexCast v805
  let c512 : Index := 512#32
  ![1, v806.toNat, 512]
def k0_off20 (k0_t1 : Fin k0_t1_loop.trips) (c0_i32_421 : BitVec 32) : Fin 3 → Nat :=
  let c2_422 : Index := 2#32
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v816 : BitVec 32 := Scalar.addi v113 c0_i32_421
  let v817 : Index := Scalar.indexCast v816
  let c512_423 : Index := 512#32
  ![2, v817.toNat, 512]
def k0_off21 (k0_t1 : Fin k0_t1_loop.trips) (c0_i32_427 : BitVec 32) : Fin 3 → Nat :=
  let c3_428 : Index := 3#32
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v827 : BitVec 32 := Scalar.addi v113 c0_i32_427
  let v828 : Index := Scalar.indexCast v827
  let c512_429 : Index := 512#32
  ![3, v828.toNat, 512]
def k0_off22 (k0_t1 : Fin k0_t1_loop.trips) (c0_i32_433 : BitVec 32) : Fin 3 → Nat :=
  let c4_434 : Index := 4#32
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v838 : BitVec 32 := Scalar.addi v113 c0_i32_433
  let v839 : Index := Scalar.indexCast v838
  let c512_435 : Index := 512#32
  ![4, v839.toNat, 512]
def k0_off23 (k0_t1 : Fin k0_t1_loop.trips) (c0_i32_439 : BitVec 32) : Fin 3 → Nat :=
  let c5_440 : Index := 5#32
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v849 : BitVec 32 := Scalar.addi v113 c0_i32_439
  let v850 : Index := Scalar.indexCast v849
  let c512_441 : Index := 512#32
  ![5, v850.toNat, 512]
def k0_off24 (k0_t1 : Fin k0_t1_loop.trips) (c0_i32_445 : BitVec 32) : Fin 3 → Nat :=
  let c6_446 : Index := 6#32
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v860 : BitVec 32 := Scalar.addi v113 c0_i32_445
  let v861 : Index := Scalar.indexCast v860
  let c512_447 : Index := 512#32
  ![6, v861.toNat, 512]
def k0_off25 (k0_t1 : Fin k0_t1_loop.trips) (c8_i32_451 : BitVec 32) : Fin 2 → Nat :=
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v871 : BitVec 32 := Scalar.addi v113 c8_i32_451
  let v872 : Index := Scalar.indexCast v871
  let c512_452 : Index := 512#32
  ![v872.toNat, 512]
def k0_off26 (k0_t1 : Fin k0_t1_loop.trips) (c8_i32_456 : BitVec 32) : Fin 3 → Nat :=
  let c0_457 : Index := 0#32
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v881 : BitVec 32 := Scalar.addi v113 c8_i32_456
  let v882 : Index := Scalar.indexCast v881
  let c512_458 : Index := 512#32
  ![0, v882.toNat, 512]
def k0_off27 (k0_t1 : Fin k0_t1_loop.trips) : Fin 2 → Nat :=
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v1147 : Index := Scalar.indexCast v113
  let c512_599 : Index := 512#32
  ![v1147.toNat, 512]
def k0_off28 (k0_t1 : Fin k0_t1_loop.trips) (c0_i32_601 : BitVec 32) : Fin 3 → Nat :=
  let c1_602 : Index := 1#32
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v1150 : BitVec 32 := Scalar.addi v113 c0_i32_601
  let v1151 : Index := Scalar.indexCast v1150
  let c768 : Index := 768#32
  ![1, v1151.toNat, 768]
def k0_off29 (k0_t1 : Fin k0_t1_loop.trips) (c0_i32_606 : BitVec 32) : Fin 3 → Nat :=
  let c2_607 : Index := 2#32
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v1161 : BitVec 32 := Scalar.addi v113 c0_i32_606
  let v1162 : Index := Scalar.indexCast v1161
  let c768_608 : Index := 768#32
  ![2, v1162.toNat, 768]
def k0_off30 (k0_t1 : Fin k0_t1_loop.trips) (c0_i32_612 : BitVec 32) : Fin 3 → Nat :=
  let c3_613 : Index := 3#32
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v1172 : BitVec 32 := Scalar.addi v113 c0_i32_612
  let v1173 : Index := Scalar.indexCast v1172
  let c768_614 : Index := 768#32
  ![3, v1173.toNat, 768]
def k0_off31 (k0_t1 : Fin k0_t1_loop.trips) (c0_i32_618 : BitVec 32) : Fin 3 → Nat :=
  let c4_619 : Index := 4#32
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v1183 : BitVec 32 := Scalar.addi v113 c0_i32_618
  let v1184 : Index := Scalar.indexCast v1183
  let c768_620 : Index := 768#32
  ![4, v1184.toNat, 768]
def k0_off32 (k0_t1 : Fin k0_t1_loop.trips) (c0_i32_624 : BitVec 32) : Fin 3 → Nat :=
  let c5_625 : Index := 5#32
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v1194 : BitVec 32 := Scalar.addi v113 c0_i32_624
  let v1195 : Index := Scalar.indexCast v1194
  let c768_626 : Index := 768#32
  ![5, v1195.toNat, 768]
def k0_off33 (k0_t1 : Fin k0_t1_loop.trips) (c0_i32_630 : BitVec 32) : Fin 3 → Nat :=
  let c6_631 : Index := 6#32
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v1205 : BitVec 32 := Scalar.addi v113 c0_i32_630
  let v1206 : Index := Scalar.indexCast v1205
  let c768_632 : Index := 768#32
  ![6, v1206.toNat, 768]
def k0_off34 (k0_t1 : Fin k0_t1_loop.trips) (c8_i32_636 : BitVec 32) : Fin 2 → Nat :=
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v1216 : BitVec 32 := Scalar.addi v113 c8_i32_636
  let v1217 : Index := Scalar.indexCast v1216
  let c768_637 : Index := 768#32
  ![v1217.toNat, 768]
def k0_off35 (k0_t1 : Fin k0_t1_loop.trips) (c8_i32_641 : BitVec 32) : Fin 3 → Nat :=
  let c0_642 : Index := 0#32
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v1226 : BitVec 32 := Scalar.addi v113 c8_i32_641
  let v1227 : Index := Scalar.indexCast v1226
  let c768_643 : Index := 768#32
  ![0, v1227.toNat, 768]
def k0_off36 (k0_t1 : Fin k0_t1_loop.trips) : Fin 2 → Nat :=
  let c0_i32_36 : BitVec 32 := 0#32
  let c1_i32 : BitVec 32 := 1#32
  let arg17 : BitVec 32 := Scf.iv c0_i32_36 c1_i32 k0_t1
  let c64_i32 : BitVec 32 := 64#32
  let v112 : BitVec 32 := Scalar.muli arg17 c64_i32
  let v113 : BitVec 32 := v112
  let v1492 : Index := Scalar.indexCast v113
  let c768_784 : Index := 768#32
  ![v1492.toNat, 768]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference9Ideal.lean ====
abbrev S16384x1024 : Shape := ⟨2, ![16384, 1024]⟩
abbrev S1024x2048 : Shape := ⟨2, ![1024, 2048]⟩
abbrev S2048 : Shape := ⟨1, ![2048]⟩
abbrev S31x1024 : Shape := ⟨2, ![31, 1024]⟩
abbrev S1024 : Shape := ⟨1, ![1024]⟩
abbrev S1024x1024 : Shape := ⟨2, ![1024, 1024]⟩
abbrev S16384x2048 : Shape := ⟨2, ![16384, 2048]⟩
abbrev S1x2048 : Shape := ⟨2, ![1, 2048]⟩
abbrev S_ : Shape := ⟨0, ![]⟩
abbrev S30x1024 : Shape := ⟨2, ![30, 1024]⟩
abbrev S16414x1024 : Shape := ⟨2, ![16414, 1024]⟩
abbrev S1x1024 : Shape := ⟨2, ![1, 1024]⟩
abbrev S16384 : Shape := ⟨1, ![16384]⟩
abbrev S16384x1 : Shape := ⟨2, ![16384, 1]⟩

abbrev nBuf : Space → Nat
  | .hbm => 326
  | .vmem => 0
  | .smem => 0
  | _ => 0

abbrev hbmTy0_0 (i : Nat) : BufTy := match i % 128 with
  | 0 => ⟨S16384x1024, .f32⟩
  | 1 => ⟨S1024x2048, .f32⟩
  | 2 => ⟨S2048, .f32⟩
  | 3 => ⟨S31x1024, .f32⟩
  | 4 => ⟨S1024, .f32⟩
  | 5 => ⟨S1024, .f32⟩
  | 6 => ⟨S1024, .f32⟩
  | 7 => ⟨S1024x1024, .f32⟩
  | 8 => ⟨S1024, .f32⟩
  | 9 => ⟨S1024, .f32⟩
  | 10 => ⟨S1024, .f32⟩
  | 11 => ⟨S16384x2048, .f32⟩
  | 12 => ⟨S1x2048, .f32⟩
  | 13 => ⟨S16384x2048, .f32⟩
  | 14 => ⟨S16384x2048, .f32⟩
  | 15 => ⟨S16384x1024, .f32⟩
  | 16 => ⟨S16384x1024, .f32⟩
  | 17 => ⟨S16384x1024, .f32⟩
  | 18 => ⟨S16384x1024, .f32⟩
  | 19 => ⟨S_, .f32⟩
  | 20 => ⟨S16384x1024, .f32⟩
  | 21 => ⟨S16384x1024, .f32⟩
  | 22 => ⟨S_, .f32⟩
  | 23 => ⟨S16384x1024, .f32⟩
  | 24 => ⟨S16384x1024, .f32⟩
  | 25 => ⟨S16384x1024, .f32⟩
  | 26 => ⟨S_, .f32⟩
  | 27 => ⟨S30x1024, .f32⟩
  | 28 => ⟨S16414x1024, .f32⟩
  | 29 => ⟨S1x1024, .f32⟩
  | 30 => ⟨S1024, .f32⟩
  | 31 => ⟨S16384x1024, .f32⟩
  | 32 => ⟨S1x1024, .f32⟩
  | 33 => ⟨S16384x1024, .f32⟩
  | 34 => ⟨S16384x1024, .f32⟩
  | 35 => ⟨S_, .f32⟩
  | 36 => ⟨S16384x1024, .f32⟩
  | 37 => ⟨S16384x1024, .f32⟩
  | 38 => ⟨S1x1024, .f32⟩
  | 39 => ⟨S1024, .f32⟩
  | 40 => ⟨S16384x1024, .f32⟩
  | 41 => ⟨S1x1024, .f32⟩
  | 42 => ⟨S16384x1024, .f32⟩
  | 43 => ⟨S16384x1024, .f32⟩
  | 44 => ⟨S16384x1024, .f32⟩
  | 45 => ⟨S1x1024, .f32⟩
  | 46 => ⟨S1024, .f32⟩
  | 47 => ⟨S16384x1024, .f32⟩
  | 48 => ⟨S1x1024, .f32⟩
  | 49 => ⟨S16384x1024, .f32⟩
  | 50 => ⟨S16384x1024, .f32⟩
  | 51 => ⟨S16384x1024, .f32⟩
  | 52 => ⟨S1x1024, .f32⟩
  | 53 => ⟨S1024, .f32⟩
  | 54 => ⟨S16384x1024, .f32⟩
  | 55 => ⟨S1x1024, .f32⟩
  | 56 => ⟨S16384x1024, .f32⟩
  | 57 => ⟨S16384x1024, .f32⟩
  | 58 => ⟨S16384x1024, .f32⟩
  | 59 => ⟨S1x1024, .f32⟩
  | 60 => ⟨S1024, .f32⟩
  | 61 => ⟨S16384x1024, .f32⟩
  | 62 => ⟨S1x1024, .f32⟩
  | 63 => ⟨S16384x1024, .f32⟩
  | 64 => ⟨S16384x1024, .f32⟩
  | 65 => ⟨S16384x1024, .f32⟩
  | 66 => ⟨S1x1024, .f32⟩
  | 67 => ⟨S1024, .f32⟩
  | 68 => ⟨S16384x1024, .f32⟩
  | 69 => ⟨S1x1024, .f32⟩
  | 70 => ⟨S16384x1024, .f32⟩
  | 71 => ⟨S16384x1024, .f32⟩
  | 72 => ⟨S16384x1024, .f32⟩
  | 73 => ⟨S1x1024, .f32⟩
  | 74 => ⟨S1024, .f32⟩
  | 75 => ⟨S16384x1024, .f32⟩
  | 76 => ⟨S1x1024, .f32⟩
  | 77 => ⟨S16384x1024, .f32⟩
  | 78 => ⟨S16384x1024, .f32⟩
  | 79 => ⟨S16384x1024, .f32⟩
  | 80 => ⟨S1x1024, .f32⟩
  | 81 => ⟨S1024, .f32⟩
  | 82 => ⟨S16384x1024, .f32⟩
  | 83 => ⟨S1x1024, .f32⟩
  | 84 => ⟨S16384x1024, .f32⟩
  | 85 => ⟨S16384x1024, .f32⟩
  | 86 => ⟨S16384x1024, .f32⟩
  | 87 => ⟨S1x1024, .f32⟩
  | 88 => ⟨S1024, .f32⟩
  | 89 => ⟨S16384x1024, .f32⟩
  | 90 => ⟨S1x1024, .f32⟩
  | 91 => ⟨S16384x1024, .f32⟩
  | 92 => ⟨S16384x1024, .f32⟩
  | 93 => ⟨S16384x1024, .f32⟩
  | 94 => ⟨S1x1024, .f32⟩
  | 95 => ⟨S1024, .f32⟩
  | 96 => ⟨S16384x1024, .f32⟩
  | 97 => ⟨S1x1024, .f32⟩
  | 98 => ⟨S16384x1024, .f32⟩
  | 99 => ⟨S16384x1024, .f32⟩
  | 100 => ⟨S16384x1024, .f32⟩
  | 101 => ⟨S1x1024, .f32⟩
  | 102 => ⟨S1024, .f32⟩
  | 103 => ⟨S16384x1024, .f32⟩
  | 104 => ⟨S1x1024, .f32⟩
  | 105 => ⟨S16384x1024, .f32⟩
  | 106 => ⟨S16384x1024, .f32⟩
  | 107 => ⟨S16384x1024, .f32⟩
  | 108 => ⟨S1x1024, .f32⟩
  | 109 => ⟨S1024, .f32⟩
  | 110 => ⟨S16384x1024, .f32⟩
  | 111 => ⟨S1x1024, .f32⟩
  | 112 => ⟨S16384x1024, .f32⟩
  | 113 => ⟨S16384x1024, .f32⟩
  | 114 => ⟨S16384x1024, .f32⟩
  | 115 => ⟨S1x1024, .f32⟩
  | 116 => ⟨S1024, .f32⟩
  | 117 => ⟨S16384x1024, .f32⟩
  | 118 => ⟨S1x1024, .f32⟩
  | 119 => ⟨S16384x1024, .f32⟩
  | 120 => ⟨S16384x1024, .f32⟩
  | 121 => ⟨S16384x1024, .f32⟩
  | 122 => ⟨S1x1024, .f32⟩
  | 123 => ⟨S1024, .f32⟩
  | 124 => ⟨S16384x1024, .f32⟩
  | 125 => ⟨S1x1024, .f32⟩
  | 126 => ⟨S16384x1024, .f32⟩
  | 127 => ⟨S16384x1024, .f32⟩
  | _ => ⟨S16384x1024, .f32⟩

abbrev hbmTy0_1 (i : Nat) : BufTy := match i % 128 with
  | 0 => ⟨S16384x1024, .f32⟩
  | 1 => ⟨S1x1024, .f32⟩
  | 2 => ⟨S1024, .f32⟩
  | 3 => ⟨S16384x1024, .f32⟩
  | 4 => ⟨S1x1024, .f32⟩
  | 5 => ⟨S16384x1024, .f32⟩
  | 6 => ⟨S16384x1024, .f32⟩
  | 7 => ⟨S16384x1024, .f32⟩
  | 8 => ⟨S1x1024, .f32⟩
  | 9 => ⟨S1024, .f32⟩
  | 10 => ⟨S16384x1024, .f32⟩
  | 11 => ⟨S1x1024, .f32⟩
  | 12 => ⟨S16384x1024, .f32⟩
  | 13 => ⟨S16384x1024, .f32⟩
  | 14 => ⟨S16384x1024, .f32⟩
  | 15 => ⟨S1x1024, .f32⟩
  | 16 => ⟨S1024, .f32⟩
  | 17 => ⟨S16384x1024, .f32⟩
  | 18 => ⟨S1x1024, .f32⟩
  | 19 => ⟨S16384x1024, .f32⟩
  | 20 => ⟨S16384x1024, .f32⟩
  | 21 => ⟨S16384x1024, .f32⟩
  | 22 => ⟨S1x1024, .f32⟩
  | 23 => ⟨S1024, .f32⟩
  | 24 => ⟨S16384x1024, .f32⟩
  | 25 => ⟨S1x1024, .f32⟩
  | 26 => ⟨S16384x1024, .f32⟩
  | 27 => ⟨S16384x1024, .f32⟩
  | 28 => ⟨S16384x1024, .f32⟩
  | 29 => ⟨S1x1024, .f32⟩
  | 30 => ⟨S1024, .f32⟩
  | 31 => ⟨S16384x1024, .f32⟩
  | 32 => ⟨S1x1024, .f32⟩
  | 33 => ⟨S16384x1024, .f32⟩
  | 34 => ⟨S16384x1024, .f32⟩
  | 35 => ⟨S16384x1024, .f32⟩
  | 36 => ⟨S1x1024, .f32⟩
  | 37 => ⟨S1024, .f32⟩
  | 38 => ⟨S16384x1024, .f32⟩
  | 39 => ⟨S1x1024, .f32⟩
  | 40 => ⟨S16384x1024, .f32⟩
  | 41 => ⟨S16384x1024, .f32⟩
  | 42 => ⟨S16384x1024, .f32⟩
  | 43 => ⟨S1x1024, .f32⟩
  | 44 => ⟨S1024, .f32⟩
  | 45 => ⟨S16384x1024, .f32⟩
  | 46 => ⟨S1x1024, .f32⟩
  | 47 => ⟨S16384x1024, .f32⟩
  | 48 => ⟨S16384x1024, .f32⟩
  | 49 => ⟨S16384x1024, .f32⟩
  | 50 => ⟨S1x1024, .f32⟩
  | 51 => ⟨S1024, .f32⟩
  | 52 => ⟨S16384x1024, .f32⟩
  | 53 => ⟨S1x1024, .f32⟩
  | 54 => ⟨S16384x1024, .f32⟩
  | 55 => ⟨S16384x1024, .f32⟩
  | 56 => ⟨S16384x1024, .f32⟩
  | 57 => ⟨S1x1024, .f32⟩
  | 58 => ⟨S1024, .f32⟩
  | 59 => ⟨S16384x1024, .f32⟩
  | 60 => ⟨S1x1024, .f32⟩
  | 61 => ⟨S16384x1024, .f32⟩
  | 62 => ⟨S16384x1024, .f32⟩
  | 63 => ⟨S16384x1024, .f32⟩
  | 64 => ⟨S1x1024, .f32⟩
  | 65 => ⟨S1024, .f32⟩
  | 66 => ⟨S16384x1024, .f32⟩
  | 67 => ⟨S1x1024, .f32⟩
  | 68 => ⟨S16384x1024, .f32⟩
  | 69 => ⟨S16384x1024, .f32⟩
  | 70 => ⟨S16384x1024, .f32⟩
  | 71 => ⟨S1x1024, .f32⟩
  | 72 => ⟨S1024, .f32⟩
  | 73 => ⟨S16384x1024, .f32⟩
  | 74 => ⟨S1x1024, .f32⟩
  | 75 => ⟨S16384x1024, .f32⟩
  | 76 => ⟨S16384x1024, .f32⟩
  | 77 => ⟨S16384x1024, .f32⟩
  | 78 => ⟨S1x1024, .f32⟩
  | 79 => ⟨S1024, .f32⟩
  | 80 => ⟨S16384x1024, .f32⟩
  | 81 => ⟨S1x1024, .f32⟩
  | 82 => ⟨S16384x1024, .f32⟩
  | 83 => ⟨S16384x1024, .f32⟩
  | 84 => ⟨S16384x1024, .f32⟩
  | 85 => ⟨S1x1024, .f32⟩
  | 86 => ⟨S1024, .f32⟩
  | 87 => ⟨S16384x1024, .f32⟩
  | 88 => ⟨S1x1024, .f32⟩
  | 89 => ⟨S16384x1024, .f32⟩
  | 90 => ⟨S16384x1024, .f32⟩
  | 91 => ⟨S16384x1024, .f32⟩
  | 92 => ⟨S1x1024, .f32⟩
  | 93 => ⟨S1024, .f32⟩
  | 94 => ⟨S16384x1024, .f32⟩
  | 95 => ⟨S1x1024, .f32⟩
  | 96 => ⟨S16384x1024, .f32⟩
  | 97 => ⟨S16384x1024, .f32⟩
  | 98 => ⟨S16384x1024, .f32⟩
  | 99 => ⟨S1x1024, .f32⟩
  | 100 => ⟨S1024, .f32⟩
  | 101 => ⟨S16384x1024, .f32⟩
  | 102 => ⟨S1x1024, .f32⟩
  | 103 => ⟨S16384x1024, .f32⟩
  | 104 => ⟨S16384x1024, .f32⟩
  | 105 => ⟨S16384x1024, .f32⟩
  | 106 => ⟨S1x1024, .f32⟩
  | 107 => ⟨S1024, .f32⟩
  | 108 => ⟨S16384x1024, .f32⟩
  | 109 => ⟨S1x1024, .f32⟩
  | 110 => ⟨S16384x1024, .f32⟩
  | 111 => ⟨S16384x1024, .f32⟩
  | 112 => ⟨S16384x1024, .f32⟩
  | 113 => ⟨S1x1024, .f32⟩
  | 114 => ⟨S1024, .f32⟩
  | 115 => ⟨S16384x1024, .f32⟩
  | 116 => ⟨S1x1024, .f32⟩
  | 117 => ⟨S16384x1024, .f32⟩
  | 118 => ⟨S16384x1024, .f32⟩
  | 119 => ⟨S16384x1024, .f32⟩
  | 120 => ⟨S1x1024, .f32⟩
  | 121 => ⟨S16384x1024, .f32⟩
  | 122 => ⟨S16384x1024, .f32⟩
  | 123 => ⟨S_, .f32⟩
  | 124 => ⟨S16384x1024, .f32⟩
  | 125 => ⟨S16384x1024, .f32⟩
  | 126 => ⟨S_, .f32⟩
  | 127 => ⟨S16384, .f32⟩
  | _ => ⟨S16384x1024, .f32⟩

abbrev hbmTy0_2 (i : Nat) : BufTy := match i % 128 with
  | 0 => ⟨S16384x1, .f32⟩
  | 1 => ⟨S_, .f32⟩
  | 2 => ⟨S16384x1, .f32⟩
  | 3 => ⟨S16384x1, .f32⟩
  | 4 => ⟨S16384x1024, .f32⟩
  | 5 => ⟨S16384x1024, .f32⟩
  | 6 => ⟨S16384x1024, .f32⟩
  | 7 => ⟨S_, .f32⟩
  | 8 => ⟨S16384, .f32⟩
  | 9 => ⟨S16384x1, .f32⟩
  | 10 => ⟨S_, .f32⟩
  | 11 => ⟨S16384x1, .f32⟩
  | 12 => ⟨S16384x1, .f32⟩
  | 13 => ⟨S16384x1024, .f32⟩
  | 14 => ⟨S16384x1024, .f32⟩
  | 15 => ⟨S_, .f32⟩
  | 16 => ⟨S16384x1, .f32⟩
  | 17 => ⟨S16384x1, .f32⟩
  | 18 => ⟨S16384x1, .f32⟩
  | 19 => ⟨S16384x1024, .f32⟩
  | 20 => ⟨S16384x1024, .f32⟩
  | 21 => ⟨S1x1024, .f32⟩
  | 22 => ⟨S16384x1024, .f32⟩
  | 23 => ⟨S16384x1024, .f32⟩
  | 24 => ⟨S1x1024, .f32⟩
  | 25 => ⟨S16384x1024, .f32⟩
  | 26 => ⟨S16384x1024, .f32⟩
  | 27 => ⟨S16384x1024, .f32⟩
  | 28 => ⟨S16384x1024, .f32⟩
  | 29 => ⟨S_, .f32⟩
  | 30 => ⟨S16384x1024, .f32⟩
  | 31 => ⟨S16384x1024, .f32⟩
  | 32 => ⟨S_, .f32⟩
  | 33 => ⟨S16384x1024, .f32⟩
  | 34 => ⟨S16384x1024, .f32⟩
  | 35 => ⟨S16384x1024, .f32⟩
  | 36 => ⟨S16384x1024, .f32⟩
  | 37 => ⟨S1x1024, .f32⟩
  | 38 => ⟨S16384x1024, .f32⟩
  | 39 => ⟨S16384x1024, .f32⟩
  | 40 => ⟨S16384x1024, .f32⟩
  | 41 => ⟨S_, .f32⟩
  | 42 => ⟨S16384, .f32⟩
  | 43 => ⟨S16384x1, .f32⟩
  | 44 => ⟨S_, .f32⟩
  | 45 => ⟨S16384x1, .f32⟩
  | 46 => ⟨S16384x1, .f32⟩
  | 47 => ⟨S16384x1024, .f32⟩
  | 48 => ⟨S16384x1024, .f32⟩
  | 49 => ⟨S16384x1024, .f32⟩
  | 50 => ⟨S_, .f32⟩
  | 51 => ⟨S16384, .f32⟩
  | 52 => ⟨S16384x1, .f32⟩
  | 53 => ⟨S_, .f32⟩
  | 54 => ⟨S16384x1, .f32⟩
  | 55 => ⟨S16384x1, .f32⟩
  | 56 => ⟨S16384x1024, .f32⟩
  | 57 => ⟨S16384x1024, .f32⟩
  | 58 => ⟨S_, .f32⟩
  | 59 => ⟨S16384x1, .f32⟩
  | 60 => ⟨S16384x1, .f32⟩
  | 61 => ⟨S16384x1, .f32⟩
  | 62 => ⟨S16384x1024, .f32⟩
  | 63 => ⟨S16384x1024, .f32⟩
  | 64 => ⟨S1x1024, .f32⟩
  | 65 => ⟨S16384x1024, .f32⟩
  | 66 => ⟨S16384x1024, .f32⟩
  | 67 => ⟨S1x1024, .f32⟩
  | 68 => ⟨S16384x1024, .f32⟩
  | 69 => ⟨S16384x1024, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_v192 : Ref sig .tc := ⟨.hbm, 207, rfl⟩
abbrev main_v193 : Ref sig .tc := ⟨.hbm, 208, rfl⟩
abbrev main_v194 : Ref sig .tc := ⟨.hbm, 209, rfl⟩
abbrev main_v195 : Ref sig .tc := ⟨.hbm, 210, rfl⟩
abbrev main_v196 : Ref sig .tc := ⟨.hbm, 211, rfl⟩
abbrev main_v197 : Ref sig .tc := ⟨.hbm, 212, rfl⟩
abbrev main_v198 : Ref sig .tc := ⟨.hbm, 213, rfl⟩
abbrev main_v199 : Ref sig .tc := ⟨.hbm, 214, rfl⟩
abbrev main_v200 : Ref sig .tc := ⟨.hbm, 215, rfl⟩
abbrev main_v201 : Ref sig .tc := ⟨.hbm, 216, rfl⟩
abbrev main_v202 : Ref sig .tc := ⟨.hbm, 217, rfl⟩
abbrev main_v203 : Ref sig .tc := ⟨.hbm, 218, rfl⟩
abbrev main_v204 : Ref sig .tc := ⟨.hbm, 219, rfl⟩
abbrev main_v205 : Ref sig .tc := ⟨.hbm, 220, rfl⟩
abbrev main_v206 : Ref sig .tc := ⟨.hbm, 221, rfl⟩
abbrev main_v207 : Ref sig .tc := ⟨.hbm, 222, rfl⟩
abbrev main_v208 : Ref sig .tc := ⟨.hbm, 223, rfl⟩
abbrev main_v209 : Ref sig .tc := ⟨.hbm, 224, rfl⟩
abbrev main_v210 : Ref sig .tc := ⟨.hbm, 225, rfl⟩
abbrev main_v211 : Ref sig .tc := ⟨.hbm, 226, rfl⟩
abbrev main_v212 : Ref sig .tc := ⟨.hbm, 227, rfl⟩
abbrev main_v213 : Ref sig .tc := ⟨.hbm, 228, rfl⟩
abbrev main_v214 : Ref sig .tc := ⟨.hbm, 229, rfl⟩
abbrev main_v215 : Ref sig .tc := ⟨.hbm, 230, rfl⟩
abbrev main_v216 : Ref sig .tc := ⟨.hbm, 231, rfl⟩
abbrev main_v217 : Ref sig .tc := ⟨.hbm, 232, rfl⟩
abbrev main_v218 : Ref sig .tc := ⟨.hbm, 233, rfl⟩
abbrev main_v219 : Ref sig .tc := ⟨.hbm, 234, rfl⟩
abbrev main_v220 : Ref sig .tc := ⟨.hbm, 235, rfl⟩
abbrev main_v221 : Ref sig .tc := ⟨.hbm, 236, rfl⟩
abbrev main_v222 : Ref sig .tc := ⟨.hbm, 237, rfl⟩
abbrev main_v223 : Ref sig .tc := ⟨.hbm, 238, rfl⟩
abbrev main_v224 : Ref sig .tc := ⟨.hbm, 239, rfl⟩
abbrev main_v225 : Ref sig .tc := ⟨.hbm, 240, rfl⟩
abbrev main_v226 : Ref sig .tc := ⟨.hbm, 241, rfl⟩
abbrev main_v227 : Ref sig .tc := ⟨.hbm, 242, rfl⟩
abbrev main_v228 : Ref sig .tc := ⟨.hbm, 243, rfl⟩
abbrev main_v229 : Ref sig .tc := ⟨.hbm, 244, rfl⟩
abbrev main_v230 : Ref sig .tc := ⟨.hbm, 245, rfl⟩
abbrev main_v231 : Ref sig .tc := ⟨.hbm, 246, rfl⟩
abbrev main_v232 : Ref sig .tc := ⟨.hbm, 247, rfl⟩
abbrev main_v233 : Ref sig .tc := ⟨.hbm, 248, rfl⟩
abbrev main_v234 : Ref sig .tc := ⟨.hbm, 249, rfl⟩
abbrev main_v235 : Ref sig .tc := ⟨.hbm, 250, rfl⟩
abbrev main_cst_3 : Ref sig .tc := ⟨.hbm, 251, rfl⟩
abbrev main_v236 : Ref sig .tc := ⟨.hbm, 252, rfl⟩
abbrev main_v237 : Ref sig .tc := ⟨.hbm, 253, rfl⟩
abbrev main_cst_4 : Ref sig .tc := ⟨.hbm, 254, rfl⟩
abbrev main_v238 : Ref sig .tc := ⟨.hbm, 255, rfl⟩
abbrev main_v239 : Ref sig .tc := ⟨.hbm, 256, rfl⟩
abbrev main_cst_5 : Ref sig .tc := ⟨.hbm, 257, rfl⟩
abbrev main_v240 : Ref sig .tc := ⟨.hbm, 258, rfl⟩
abbrev main_v241 : Ref sig .tc := ⟨.hbm, 259, rfl⟩
abbrev main_v242 : Ref sig .tc := ⟨.hbm, 260, rfl⟩
abbrev main_v243 : Ref sig .tc := ⟨.hbm, 261, rfl⟩
abbrev main_v244 : Ref sig .tc := ⟨.hbm, 262, rfl⟩
abbrev main_cst_6 : Ref sig .tc := ⟨.hbm, 263, rfl⟩
abbrev main_v245 : Ref sig .tc := ⟨.hbm, 264, rfl⟩
abbrev main_v246 : Ref sig .tc := ⟨.hbm, 265, rfl⟩
abbrev main_cst_7 : Ref sig .tc := ⟨.hbm, 266, rfl⟩
abbrev main_v247 : Ref sig .tc := ⟨.hbm, 267, rfl⟩
abbrev main_v248 : Ref sig .tc := ⟨.hbm, 268, rfl⟩
abbrev main_v249 : Ref sig .tc := ⟨.hbm, 269, rfl⟩
abbrev main_v250 : Ref sig .tc := ⟨.hbm, 270, rfl⟩
abbrev main_cst_8 : Ref sig .tc := ⟨.hbm, 271, rfl⟩
abbrev main_v251 : Ref sig .tc := ⟨.hbm, 272, rfl⟩
abbrev main_v252 : Ref sig .tc := ⟨.hbm, 273, rfl⟩
abbrev main_v253 : Ref sig .tc := ⟨.hbm, 274, rfl⟩
abbrev main_v254 : Ref sig .tc := ⟨.hbm, 275, rfl⟩
abbrev main_v255 : Ref sig .tc := ⟨.hbm, 276, rfl⟩
abbrev main_v256 : Ref sig .tc := ⟨.hbm, 277, rfl⟩
abbrev main_v257 : Ref sig .tc := ⟨.hbm, 278, rfl⟩
abbrev main_v258 : Ref sig .tc := ⟨.hbm, 279, rfl⟩
abbrev main_v259 : Ref sig .tc := ⟨.hbm, 280, rfl⟩
abbrev main_v260 : Ref sig .tc := ⟨.hbm, 281, rfl⟩
abbrev main_v261 : Ref sig .tc := ⟨.hbm, 282, rfl⟩
abbrev main_call0_v0 : Ref sig .tc := ⟨.hbm, 283, rfl⟩
abbrev main_call0_v1 : Ref sig .tc := ⟨.hbm, 284, rfl⟩
abbrev main_call0_cst : Ref sig .tc := ⟨.hbm, 285, rfl⟩
abbrev main_call0_v2 : Ref sig .tc := ⟨.hbm, 286, rfl⟩
abbrev main_call0_v3 : Ref sig .tc := ⟨.hbm, 287, rfl⟩
abbrev main_call0_cst_0 : Ref sig .tc := ⟨.hbm, 288, rfl⟩
abbrev main_call0_v4 : Ref sig .tc := ⟨.hbm, 289, rfl⟩
abbrev main_call0_v5 : Ref sig .tc := ⟨.hbm, 290, rfl⟩
abbrev main_v262 : Ref sig .tc := ⟨.hbm, 291, rfl⟩
abbrev main_v263 : Ref sig .tc := ⟨.hbm, 292, rfl⟩
abbrev main_v264 : Ref sig .tc := ⟨.hbm, 293, rfl⟩
abbrev main_v265 : Ref sig .tc := ⟨.hbm, 294, rfl⟩
abbrev main_v266 : Ref sig .tc := ⟨.hbm, 295, rfl⟩
abbrev main_v267 : Ref sig .tc := ⟨.hbm, 296, rfl⟩
abbrev main_cst_9 : Ref sig .tc := ⟨.hbm, 297, rfl⟩
abbrev main_v268 : Ref sig .tc := ⟨.hbm, 298, rfl⟩
abbrev main_v269 : Ref sig .tc := ⟨.hbm, 299, rfl⟩
abbrev main_cst_10 : Ref sig .tc := ⟨.hbm, 300, rfl⟩
abbrev main_v270 : Ref sig .tc := ⟨.hbm, 301, rfl⟩
abbrev main_v271 : Ref sig .tc := ⟨.hbm, 302, rfl⟩
abbrev main_v272 : Ref sig .tc := ⟨.hbm, 303, rfl⟩
abbrev main_v273 : Ref sig .tc := ⟨.hbm, 304, rfl⟩
abbrev main_v274 : Ref sig .tc := ⟨.hbm, 305, rfl⟩
abbrev main_cst_11 : Ref sig .tc := ⟨.hbm, 306, rfl⟩
abbrev main_v275 : Ref sig .tc := ⟨.hbm, 307, rfl⟩
abbrev main_v276 : Ref sig .tc := ⟨.hbm, 308, rfl⟩
abbrev main_cst_12 : Ref sig .tc := ⟨.hbm, 309, rfl⟩
abbrev main_v277 : Ref sig .tc := ⟨.hbm, 310, rfl⟩
abbrev main_v278 : Ref sig .tc := ⟨.hbm, 311, rfl⟩
abbrev main_v279 : Ref sig .tc := ⟨.hbm, 312, rfl⟩
abbrev main_v280 : Ref sig .tc := ⟨.hbm, 313, rfl⟩
abbrev main_cst_13 : Ref sig .tc := ⟨.hbm, 314, rfl⟩
abbrev main_v281 : Ref sig .tc := ⟨.hbm, 315, rfl⟩
abbrev main_v282 : Ref sig .tc := ⟨.hbm, 316, rfl⟩
abbrev main_v283 : Ref sig .tc := ⟨.hbm, 317, rfl⟩
abbrev main_v284 : Ref sig .tc := ⟨.hbm, 318, rfl⟩
abbrev main_v285 : Ref sig .tc := ⟨.hbm, 319, rfl⟩
abbrev main_v286 : Ref sig .tc := ⟨.hbm, 320, rfl⟩
abbrev main_v287 : Ref sig .tc := ⟨.hbm, 321, rfl⟩
abbrev main_v288 : Ref sig .tc := ⟨.hbm, 322, rfl⟩
abbrev main_v289 : Ref sig .tc := ⟨.hbm, 323, rfl⟩
abbrev main_v290 : Ref sig .tc := ⟨.hbm, 324, rfl⟩
abbrev main_v291 : Ref sig .tc := ⟨.hbm, 325, rfl⟩

abbrev nD : Nat := 1
abbrev τ : Topo := Topo.v7x

variable {F : FTy → Type} [FloatOps F]
-- ==== Kernel10.lean ====
abbrev S16384x1024 : Shape := ⟨2, ![16384, 1024]⟩
abbrev S16384x2816 : Shape := ⟨2, ![16384, 2816]⟩
abbrev S16384x4x704 : Shape := ⟨3, ![16384, 4, 704]⟩
abbrev S4x16384x704 : Shape := ⟨3, ![4, 16384, 704]⟩
abbrev S1x16384x1024 : Shape := ⟨3, ![1, 16384, 1024]⟩
abbrev S4x1024x704 : Shape := ⟨3, ![4, 1024, 704]⟩
abbrev S1x1024x1024 : Shape := ⟨3, ![1, 1024, 1024]⟩
abbrev S1024x1024 : Shape := ⟨2, ![1024, 1024]⟩
abbrev S1x1024x704 : Shape := ⟨3, ![1, 1024, 704]⟩
abbrev S1024x704 : Shape := ⟨2, ![1024, 704]⟩

abbrev nBuf : Space → Nat
  | .hbm => 7
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S16384x4x704, .f32⟩
  | .hbm, ⟨3, _⟩ => ⟨S4x16384x704, .f32⟩
  | .hbm, ⟨4, _⟩ => ⟨S4x16384x704, .bf16⟩
  | .hbm, ⟨5, _⟩ => ⟨S1x16384x1024, .f32⟩
  | .hbm, ⟨6, _⟩ => ⟨S4x1024x704, .f32⟩
  | .local _ .vmem, ⟨0, _⟩ => ⟨S1x1024x1024, .f32⟩
  | .local _ .vmem, ⟨1, _⟩ => ⟨S1x1024x1024, .f32⟩
  | .local _ .vmem, ⟨2, _⟩ => ⟨S4x1024x704, .bf16⟩
  | .local _ .vmem, ⟨3, _⟩ => ⟨S4x1024x704, .bf16⟩
  | .local _ .vmem, ⟨4, _⟩ => ⟨S4x1024x704, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference10Ideal.lean ====
abbrev S16384x1024 : Shape := ⟨2, ![16384, 1024]⟩
abbrev S16384x2816 : Shape := ⟨2, ![16384, 2816]⟩
abbrev S_ : Shape := ⟨0, ![]⟩
abbrev S1024x2816 : Shape := ⟨2, ![1024, 2816]⟩
abbrev S2816x1024 : Shape := ⟨2, ![2816, 1024]⟩
abbrev S1024x4x704 : Shape := ⟨3, ![1024, 4, 704]⟩
abbrev S4x1024x704 : Shape := ⟨3, ![4, 1024, 704]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S_, .f32⟩
  | .hbm, ⟨3, _⟩ => ⟨S1024x2816, .f32⟩
  | .hbm, ⟨4, _⟩ => ⟨S16384x2816, .f32⟩
  | .hbm, ⟨5, _⟩ => ⟨S2816x1024, .f32⟩
  | .hbm, ⟨6, _⟩ => ⟨S1024x2816, .f32⟩
  | .hbm, ⟨7, _⟩ => ⟨S1024x4x704, .f32⟩
  | .hbm, ⟨8, _⟩ => ⟨S4x1024x704, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S16384x1024 : Shape := ⟨2, ![16384, 1024]⟩
abbrev S1024x16384 : Shape := ⟨2, ![1024, 16384]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x16384, .f32⟩
  | .hbm, ⟨3, _⟩ => ⟨S1024x16384, .bf16⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference11Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S1024x1024, .f32⟩
  | .hbm, ⟨6, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S1024x512 : Shape := ⟨2, ![1024, 512]⟩
abbrev S256x1024 : Shape := ⟨2, ![256, 1024]⟩
abbrev S128x512 : Shape := ⟨2, ![128, 512]⟩
abbrev S32x1024 : Shape := ⟨2, ![32, 1024]⟩

abbrev nBuf : Space → Nat
  | .hbm => 14
  | .vmem => 28
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S256x1024, .f32⟩
  | .hbm, ⟨12, _⟩ => ⟨S256x1024, .f32⟩
  | .hbm, ⟨13, _⟩ => ⟨S256x1024, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S128x512, .f32⟩
  | .local _ .vmem, ⟨22, _⟩ => ⟨S32x1024, .f32⟩
  | .local _ .vmem, ⟨23, _⟩ => ⟨S32x1024, .f32⟩
  | .local _ .vmem, ⟨24, _⟩ => ⟨S32x1024, .f32⟩
  | .local _ .vmem, ⟨25, _⟩ => ⟨S32x1024, .f32⟩
  | .local _ .vmem, ⟨26, _⟩ => ⟨S32x1024, .f32⟩
  | .local _ .vmem, ⟨27, _⟩ => ⟨S32x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference12Ideal.lean ====
abbrev S1024x512 : Shape := ⟨2, ![1024, 512]⟩
abbrev S256x1024 : Shape := ⟨2, ![256, 1024]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S_, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S_, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | .hbm, ⟨37, _⟩ => ⟨S1024x512, .f32⟩
  | .hbm, ⟨38, _⟩ => ⟨S_, .f32⟩
  | .hbm, ⟨39, _⟩ => ⟨S1024x512, .f32⟩
  | .hbm, ⟨40, _⟩ => ⟨S1024x512, .f32⟩
  | .hbm, ⟨41, _⟩ => ⟨S_, .f32⟩
  | .hbm, ⟨42, _⟩ => ⟨S256x1024, .f32⟩
  | .hbm, ⟨43, _⟩ => ⟨S256x1024, .f32⟩
  | .hbm, ⟨44, _⟩ => ⟨S_, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S_, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S_, .f32⟩
  | .hbm, ⟨53, _⟩ => ⟨S256x1024, .f32⟩
  | .hbm, ⟨54, _⟩ => ⟨S256x1024, .f32⟩
  | .hbm, ⟨55, _⟩ => ⟨S256x1024, .f32⟩
  | .hbm, ⟨56, _⟩ => ⟨S_, .f32⟩
  | .hbm, ⟨57, _⟩ => ⟨S256x1024, .f32⟩
  | .hbm, ⟨58, _⟩ => ⟨S256x1024, .f32⟩
  | .hbm, ⟨59, _⟩ => ⟨S_, .f32⟩
  | .hbm, ⟨60, _⟩ => ⟨S256x1024, .f32⟩
  | .hbm, ⟨61, _⟩ => ⟨S256x1024, .f32⟩
  | .hbm, ⟨62, _⟩ => ⟨S256x1024, .f32⟩
  | .hbm, ⟨63, _⟩ => ⟨S_, .f32⟩
  | .hbm, ⟨64, _⟩ => ⟨S256x1024, .f32⟩
  | .hbm, ⟨65, _⟩ => ⟨S256x1024, .f32⟩
  | .hbm, ⟨66, _⟩ => ⟨S256x1024, .f32⟩
  | .hbm, ⟨67, _⟩ => ⟨S_, .f32⟩
  | .hbm, ⟨68, _⟩ => ⟨S256x1024, .f32⟩
  | .hbm, ⟨69, _⟩ => ⟨S256x1024, .f32⟩
  | .hbm, ⟨70, _⟩ => ⟨S256x1024, .f32⟩
  | .hbm, ⟨71, _⟩ => ⟨S_, .f32⟩
  | .hbm, ⟨72, _⟩ => ⟨S256x1024, .f32⟩
  | .hbm, ⟨73, _⟩ => ⟨S256x1024, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Kernel13.lean ====
abbrev S1 : Shape := ⟨1, ![1]⟩
abbrev S4x2x512x704 : Shape := ⟨4, ![4, 2, 512, 704]⟩
abbrev S4x2x352x1024 : Shape := ⟨4, ![4, 2, 352, 1024]⟩
abbrev S4x512x704 : Shape := ⟨3, ![4, 512, 704]⟩
abbrev S4x352x1024 : Shape := ⟨3, ![4, 352, 1024]⟩
abbrev S1x1x128x704 : Shape := ⟨4, ![1, 1, 128, 704]⟩
abbrev S1x1x88x1024 : Shape := ⟨4, ![1, 1, 88, 1024]⟩
abbrev S1x128x704 : Shape := ⟨3, ![1, 128, 704]⟩
abbrev S1x88x1024 : Shape := ⟨3, ![1, 88, 1024]⟩
abbrev S128x704 : Shape := ⟨2, ![128, 704]⟩
abbrev S88x1024 : Shape := ⟨2, ![88, 1024]⟩

abbrev nBuf : Space → Nat
  | .hbm => 9
  | .vmem => 18
  | .smem => 1
  | _ => 0

abbrev bufTy : (tb : Table) → Fin (tcTables nBuf tb) → BufTy
  | .hbm, ⟨0, _⟩ => ⟨S4x2x512x704, .f32⟩
  | .hbm, ⟨1, _⟩ => ⟨S4x2x512x704, .f32⟩
  | .hbm, ⟨2, _⟩ => ⟨S4x2x352x1024, .f32⟩
  | .hbm, ⟨3, _⟩ => ⟨S4x512x704, .f32⟩
  | .hbm, ⟨4, _⟩ => ⟨S4x512x704, .f32⟩
  | .hbm, ⟨5, _⟩ => ⟨S4x352x1024, .f32⟩
  | .hbm, ⟨6, _⟩ => ⟨S4x512x704, .f32⟩
  | .hbm, ⟨7, _⟩ => ⟨S4x512x704, .f32⟩
  | .hbm, ⟨8, _⟩ => ⟨S4x352x1024, .f32⟩
  | .local _ .vmem, ⟨0, _⟩ => ⟨S1x1x128x704, .f32⟩
  | .local _ .vmem, ⟨1, _⟩ => ⟨S1x1x128x704, .f32⟩
  | .local _ .vmem, ⟨2, _⟩ => ⟨S1x1x128x704, .f32⟩
  | .local _ .vmem, ⟨3, _⟩ => ⟨S1x1x128x704, .f32⟩
  | .local _ .vmem, ⟨4, _⟩ => ⟨S1x1x88x1024, .f32⟩
  | .local _ .vmem, ⟨5, _⟩ => ⟨S1x1x88x1024, .f32⟩
  | .local _ .vmem, ⟨6, _⟩ => ⟨S1x128x704, .f32⟩
  | .local _ .vmem, ⟨7, _⟩ => ⟨S1x128x704, .f32⟩
  | .local _ .vmem, ⟨8, _⟩ => ⟨S1x128x704, .f32⟩
  | .local _ .vmem, ⟨9, _⟩ => ⟨S1x128x704, .f32⟩
  | .local _ .vmem, ⟨10, _⟩ => ⟨S1x88x1024, .f32⟩
  | .local _ .vmem, ⟨11, _⟩ => ⟨S1x88x1024, .f32⟩
  | .local _ .vmem, ⟨12, _⟩ => ⟨S1x128x704, .f32⟩
  | .local _ .vmem, ⟨13, _⟩ => ⟨S1x128x704, .f32⟩
  | .local _ .vmem, ⟨14, _⟩ => ⟨S1x128x704, .f32⟩
  | .local _ .vmem, ⟨15, _⟩ => ⟨S1x128x704, .f32⟩
  | .local _ .vmem, ⟨16, _⟩ => ⟨S1x88x1024, .f32⟩
  | .local _ .vmem, ⟨17, _⟩ => ⟨S1x88x1024, .f32⟩
  | .local _ .smem, ⟨0, _⟩ => ⟨S1, .i32⟩
  | _, _ => ⟨S4x2x512x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x128x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x88x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x88x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x88x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference13Ideal.lean ====
abbrev S1 : Shape := ⟨1, ![1]⟩
abbrev S4x2x512x704 : Shape := ⟨4, ![4, 2, 512, 704]⟩
abbrev S4x2x352x1024 : Shape := ⟨4, ![4, 2, 352, 1024]⟩
abbrev S4x512x704 : Shape := ⟨3, ![4, 512, 704]⟩
abbrev S4x352x1024 : Shape := ⟨3, ![4, 352, 1024]⟩
abbrev S_ : Shape := ⟨0, ![]⟩
abbrev S4x1x512x704 : Shape := ⟨4, ![4, 1, 512, 704]⟩
abbrev S4x1x352x1024 : Shape := ⟨4, ![4, 1, 352, 1024]⟩

abbrev nBuf : Space → Nat
  | .hbm => 34
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x2x512x704, .f32⟩
  | .hbm, ⟨2, _⟩ => ⟨S4x2x512x704, .f32⟩
  | .hbm, ⟨3, _⟩ => ⟨S4x2x352x1024, .f32⟩
  | .hbm, ⟨4, _⟩ => ⟨S4x512x704, .f32⟩
  | .hbm, ⟨5, _⟩ => ⟨S4x512x704, .f32⟩
  | .hbm, ⟨6, _⟩ => ⟨S4x352x1024, .f32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S4x1x512x704, .f32⟩
  | .hbm, ⟨11, _⟩ => ⟨S4x512x704, .f32⟩
  | .hbm, ⟨12, _⟩ => ⟨S4x1x512x704, .f32⟩
  | .hbm, ⟨13, _⟩ => ⟨S4x512x704, .f32⟩
  | .hbm, ⟨14, _⟩ => ⟨S4x512x704, .f32⟩
  | .hbm, ⟨15, _⟩ => ⟨S4x512x704, .f32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S4x1x512x704, .f32⟩
  | .hbm, ⟨20, _⟩ => ⟨S4x512x704, .f32⟩
  | .hbm, ⟨21, _⟩ => ⟨S4x1x512x704, .f32⟩
  | .hbm, ⟨22, _⟩ => ⟨S4x512x704, .f32⟩
  | .hbm, ⟨23, _⟩ => ⟨S4x512x704, .f32⟩
  | .hbm, ⟨24, _⟩ => ⟨S4x512x704, .f32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S4x1x352x1024, .f32⟩
  | .hbm, ⟨29, _⟩ => ⟨S4x352x1024, .f32⟩
  | .hbm, ⟨30, _⟩ => ⟨S4x1x352x1024, .f32⟩
  | .hbm, ⟨31, _⟩ => ⟨S4x352x1024, .f32⟩
  | .hbm, ⟨32, _⟩ => ⟨S4x352x1024, .f32⟩
  | .hbm, ⟨33, _⟩ => ⟨S4x352x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Proof.Rows.lean ====
/-
  Layer normalization and its gradient on one row of extended reals, and the gradient of `silu` at one entry.

  A kernel's gradient and the reference's are two formulas for the same function. Over the extended reals they agree
  where the incoming gradient is finite; the row itself may hold infinities, for then its variance is `⊤`, the
  reciprocal root is `0`, and both formulas give `0`.
-/
module

public import Idealize.ShloMosaic.PureOps.Ideal.Laws
public import Idealize.ShloMosaic.Lib.IdealHost
public import Idealize.ShloMosaic.Lib.Pipeline.ValueKit

@[expose] public section

noncomputable section

namespace Cert.Rows

open Idealize.ShloMosaic

/-! ## Finite extended reals -/

/-- An extended real that is a real number. -/
def Fin' (x : EReal) : Prop := ∃ r : ℝ, x = (r : EReal)

theorem fin_coe (r : ℝ) : Fin' (r : EReal) := ⟨r, rfl⟩

theorem fin_iff {x : EReal} : Fin' x ↔ x ≠ ⊤ ∧ x ≠ ⊥ :=
  ⟨fun ⟨r, h⟩ => h ▸ ⟨EReal.coe_ne_top r, EReal.coe_ne_bot r⟩, fun ⟨h, h'⟩ => ⟨x.toReal, (EReal.coe_toReal h h').symm⟩⟩

theorem Fin'.add {x y : EReal} : Fin' x → Fin' y → Fin' (x + y) :=
  fun ⟨a, ha⟩ ⟨b, hb⟩ => ⟨a + b, by rw [ha, hb, EReal.coe_add]⟩

theorem Fin'.sub {x y : EReal} : Fin' x → Fin' y → Fin' (x - y) :=
  fun ⟨a, ha⟩ ⟨b, hb⟩ => ⟨a - b, by rw [ha, hb, EReal.coe_sub]⟩

theorem Fin'.mul {x y : EReal} : Fin' x → Fin' y → Fin' (x * y) :=
  fun ⟨a, ha⟩ ⟨b, hb⟩ => ⟨a * b, by rw [ha, hb, EReal.coe_mul]⟩

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem fin_sum {ι : Type} (s : Finset ι) {f : ι → EReal} (h : ∀ k ∈ s, Fin' (f k)) : Fin' (∑ k ∈ s, f k) := by
  classical
  induction s using Finset.induction_on with
  | empty => exact ⟨0, by simp⟩
  | insert a s ha ih =>
    rw [Finset.sum_insert ha]
    exact (h a (Finset.mem_insert_self a s)).add (ih fun k hk => h k (Finset.mem_insert_of_mem hk))

/-- Both terms of a finite sum are finite. -/
theorem fin_of_add {x y : EReal} (h : Fin' (x + y)) : Fin' x ∧ Fin' y := by
  obtain ⟨h1, h2⟩ := fin_iff.mp h
  rw [ne_eq, EReal.add_eq_bot_iff, not_or] at h2
  refine ⟨fin_iff.mpr ⟨fun e => h1 ?_, h2.1⟩, fin_iff.mpr ⟨fun e => h1 ?_, h2.2⟩⟩
  · rw [e, EReal.top_add_of_ne_bot h2.2]
  · rw [e, EReal.add_top_of_ne_bot h2.1]

theorem fin_of_sum {ι : Type} (s : Finset ι) {f : ι → EReal} (h : Fin' (∑ k ∈ s, f k)) : ∀ k ∈ s, Fin' (f k) := by
  classical
  induction s using Finset.induction_on with
  | empty => intro k hk; simp at hk
  | insert a s ha ih =>
    rw [Finset.sum_insert ha] at h
    intro k hk
    rcases Finset.mem_insert.mp hk with rfl | hk
    · exact (fin_of_add h).1
    · exact ih (fin_of_add h).2 k hk

/-! ## The constants -/

theorem ofBits_1024 : Ideal.ofBits .f32 0x44800000#32 = ((1024 : ℝ) : EReal) := by
  simp [Ideal.ofBits, Ideal.ieee, ← EReal.coe_mul]; norm_num [zpow_neg]

theorem ofBits_two : Ideal.ofBits .f32 0x40000000#32 = ((2 : ℝ) : EReal) := by
  simp [Ideal.ofBits, Ideal.ieee, ← EReal.coe_mul]; norm_num [zpow_neg]

theorem ofBits_neg_half : Ideal.ofBits .f32 0xBF000000#32 = ((-(1 / 2) : ℝ) : EReal) := by
  simp [Ideal.ofBits, Ideal.ieee, ← EReal.coe_mul]; norm_num [zpow_neg]

/-- The small number added to the variance. -/
def eps : ℝ := 10995116 / 2 ^ 40

theorem eps_pos : 0 < eps := by unfold eps; norm_num

theorem ofBits_eps : Ideal.ofBits .f32 0x3727C5AC#32 = (eps : EReal) := by
  simp [Ideal.ofBits, Ideal.ieee, eps, ← EReal.coe_mul]; norm_num [zpow_neg]

/-! ## One row, normalized -/

variable {n : ℕ}

def mean (x : Fin n → EReal) : EReal := Ideal.div (∑ k, x k) ((1024 : ℝ) : EReal)
def cen (z : Fin n → EReal) (j : Fin n) : EReal := z j - mean z
def var (z : Fin n → EReal) : EReal := mean fun k => cen z k * cen z k
def rstd (z : Fin n → EReal) : EReal := Ideal.rsqrt (var z + (eps : EReal))
def hat (z : Fin n → EReal) (j : Fin n) : EReal := cen z j * rstd z

/-- The gradient of a row's normalization, in the form the kernels compute it: `d` is the gradient that reaches the
    normalized row. -/
def lnBwd (d z : Fin n → EReal) (j : Fin n) : EReal :=
  rstd z * (d j - mean d - hat z j * mean fun k => d k * hat z k)

/-- What reaches the centred row through the variance, in the reference's form. -/
def viaVar (d z : Fin n → EReal) (j : Fin n) : EReal :=
  Ideal.div ((∑ k, cen z k * d k) * ((((-(1 / 2) : ℝ)) : EReal) * Ideal.div (rstd z) (var z + (eps : EReal)))) ((1024 : ℝ) : EReal)
    * (((2 : ℝ) : EReal) * cen z j)

/-- The same gradient in the reference's form. -/
def lnVjp (d z : Fin n → EReal) (j : Fin n) : EReal :=
  d j * rstd z + viaVar d z j
    + Ideal.div ((∑ k, -(d k * rstd z)) + ∑ k, -viaVar d z k) ((1024 : ℝ) : EReal)

theorem mean_coe (x : Fin n → ℝ) : mean (fun k => (x k : EReal)) = ((∑ k, x k) / 1024 : ℝ) := by
  unfold mean; rw [← coe_sum, Ideal.div_coe (by norm_num), ← EReal.coe_mul]; congr 1; ring

theorem fin_mean {x : Fin n → EReal} (h : ∀ k, Fin' (x k)) : Fin' (mean x) := by
  choose r hr using h
  obtain rfl : x = fun k => (r k : EReal) := funext hr
  exact ⟨_, mean_coe r⟩

/-- A finite mean is a mean of finite numbers. -/
theorem fin_of_mean {x : Fin n → EReal} (h : Fin' (mean x)) (k : Fin n) : Fin' (x k) := by
  refine fin_of_sum Finset.univ ?_ k (Finset.mem_univ k)
  unfold mean at h
  rw [Ideal.div_coe (by norm_num)] at h
  generalize (∑ k, x k) = s at h
  induction s with
  | bot => rw [EReal.bot_mul_coe_of_pos (by norm_num)] at h; exact h
  | top => rw [EReal.top_mul_coe_of_pos (by norm_num)] at h; exact h
  | coe r => exact fin_coe r

/-- An infinite number in the row: every centred entry is infinite. -/
theorem cen_infinite {z : Fin n → EReal} (h : ¬Fin' (mean z)) (j : Fin n) : cen z j = ⊤ ∨ cen z j = ⊥ := by
  unfold cen
  generalize mean z = μ at h ⊢
  induction μ with
  | coe r => exact absurd (fin_coe r) h
  | top => exact .inr (by rw [sub_eq_add_neg, EReal.neg_top, EReal.add_bot])
  | bot =>
    rw [sub_eq_add_neg, EReal.neg_bot]
    by_cases hz : z j = ⊥
    · exact .inr (by rw [hz, EReal.bot_add])
    · exact .inl (EReal.add_top_of_ne_bot hz)

theorem var_infinite [NeZero n] {z : Fin n → EReal} (h : ¬Fin' (mean z)) : var z = ⊤ := by
  have hs : (fun k => cen z k * cen z k) = fun _ => (⊤ : EReal) := by
    funext k
    rcases cen_infinite h k with e | e <;> rw [e] <;> rfl
  have ht : ∀ s : Finset (Fin n), s.Nonempty → ∑ _k ∈ s, (⊤ : EReal) = ⊤ := by
    intro s hs
    induction hs using Finset.Nonempty.cons_induction with
    | singleton a => simp
    | cons a s ha hs ih => rw [Finset.sum_cons, ih]; rfl
  unfold var mean
  rw [hs, ht _ Finset.univ_nonempty, Ideal.div_coe (by norm_num), EReal.top_mul_coe_of_pos (by norm_num)]

theorem rstd_infinite [NeZero n] {z : Fin n → EReal} (h : ¬Fin' (mean z)) : rstd z = 0 := by
  unfold rstd
  rw [var_infinite h, EReal.top_add_coe]; rfl

/-! ## Finite rows, over the reals -/

/-- The row functions of a finite row are these real numbers. -/
structure IsRow (z : Fin n → EReal) (x : Fin n → ℝ) (v r : ℝ) : Prop where
  cen : ∀ k, cen z k = (x k : EReal)
  var : var z = (v : EReal)
  rstd : rstd z = (r : EReal)
  sum : n = 1024 → ∑ k, x k = 0
  pos : 0 < v + eps
  sq : r * r = 1 / (v + eps)

theorem isRow (z : Fin n → EReal) (h : Fin' (mean z)) : ∃ x v r, IsRow z x v r := by
  choose y hy using fin_of_mean h
  obtain rfl : z = fun k => (y k : EReal) := funext hy
  set μ : ℝ := (∑ k, y k) / 1024 with hμ
  have hc : ∀ k, cen (fun k => (y k : EReal)) k = ((y k - μ : ℝ) : EReal) := fun k => by
    unfold cen; rw [mean_coe, ← EReal.coe_sub]
  have hv : var (fun k => (y k : EReal)) = (((∑ k, (y k - μ) * (y k - μ)) / 1024 : ℝ) : EReal) := by
    unfold var; rw [← mean_coe]; congr 1; funext k; rw [hc, ← EReal.coe_mul]
  set v : ℝ := (∑ k, (y k - μ) * (y k - μ)) / 1024 with hv'
  have h0 : 0 ≤ v := div_nonneg (Finset.sum_nonneg fun k _ => mul_self_nonneg _) (by norm_num)
  have hp : 0 < v + eps := add_pos_of_nonneg_of_pos h0 eps_pos
  refine ⟨fun k => y k - μ, v, (Real.sqrt (v + eps))⁻¹, hc, hv, ?_, fun hn => ?_, hp, ?_⟩
  · unfold rstd
    rw [hv, ← EReal.coe_add, Ideal.rsqrt_coe, if_neg (not_lt.mpr hp.le), if_neg hp.ne']
  · have hc : (n : ℝ) = 1024 := by rw [hn]; norm_num
    rw [Finset.sum_sub_distrib, Finset.sum_const, Finset.card_univ, Fintype.card_fin, nsmul_eq_mul, hc, hμ]
    ring
  · rw [← mul_inv, Real.mul_self_sqrt hp.le, one_div]

theorem fin_hat [NeZero n] (z : Fin n → EReal) (j : Fin n) : Fin' (hat z j) := by
  unfold hat
  by_cases h : Fin' (mean z)
  · obtain ⟨x, v, r, hr⟩ := isRow z h
    rw [hr.cen, hr.rstd, ← EReal.coe_mul]; exact fin_coe _
  · rw [rstd_infinite h, mul_zero]; exact ⟨0, rfl⟩

theorem fin_rstd [NeZero n] (z : Fin n → EReal) : Fin' (rstd z) := by
  by_cases h : Fin' (mean z)
  · obtain ⟨x, v, r, hr⟩ := isRow z h
    rw [hr.rstd]; exact fin_coe _
  · rw [rstd_infinite h]; exact ⟨0, rfl⟩

theorem fin_lnBwd [NeZero n] {d z : Fin n → EReal} (hd : ∀ k, Fin' (d k)) (j : Fin n) : Fin' (lnBwd d z j) :=
  (fin_rstd z).mul (((hd j).sub (fin_mean hd)).sub ((fin_hat z j).mul (fin_mean fun k => (hd k).mul (fin_hat z k))))

/-- The two forms of the gradient agree where the incoming gradient is finite. -/
theorem lnBwd_eq_lnVjp (d z : Fin 1024 → EReal) (hd : ∀ k, Fin' (d k)) (j : Fin 1024) : lnBwd d z j = lnVjp d z j := by
  by_cases h : Fin' (mean z)
  · obtain ⟨x, v, r, hr⟩ := isRow z h
    choose y hy using hd
    obtain rfl : d = fun k => (y k : EReal) := funext hy
    have hsum := hr.sum rfl
    set S : ℝ := ∑ k, x k * y k with hS
    have hvia : ∀ k, viaVar (fun k => (y k : EReal)) z k = ((S * (-(1 / 2) * (r / (v + eps))) / 1024 * (2 * x k) : ℝ) : EReal) := by
      intro k
      unfold viaVar
      simp only [hr.cen, hr.var, hr.rstd, ← EReal.coe_mul, ← coe_sum, ← EReal.coe_add]
      rw [Ideal.div_coe hr.pos.ne', Ideal.div_coe (by norm_num)]
      simp only [← EReal.coe_mul]
      congr 1
      rw [← hS]; ring
    unfold lnBwd lnVjp hat
    simp only [hvia, hr.cen, hr.rstd, ← EReal.coe_mul, mean_coe, ← EReal.coe_sub, ← EReal.coe_neg, ← coe_sum,
      ← EReal.coe_add]
    rw [Ideal.div_coe (by norm_num)]
    simp only [← EReal.coe_mul, ← EReal.coe_add]
    congr 1
    have e1 : ∑ k, -(S * (-(1 / 2) * (r / (v + eps))) / 1024 * (2 * x k)) = 0 := by
      rw [Finset.sum_neg_distrib, ← Finset.mul_sum, ← Finset.mul_sum, hsum]; ring
    have e2 : ∑ k, -(y k * r) = -((∑ k, y k) * r) := by rw [Finset.sum_neg_distrib, Finset.sum_mul]
    have e3 : ∑ k, y k * (x k * r) = S * r := by
      rw [hS, Finset.sum_mul]; exact Finset.sum_congr rfl fun k _ => by ring
    have e4 : r / (v + eps) = r * (r * r) := by rw [hr.sq]; ring
    rw [e1, e2, e3, e4]; ring
  · have hz := rstd_infinite h
    have hvia : ∀ k, viaVar d z k = 0 := by
      intro k
      unfold viaVar
      rw [hz, var_infinite h, EReal.top_add_coe, show Ideal.div 0 ⊤ = 0 by simp [Ideal.div], mul_zero, mul_zero,
        Ideal.div_coe (by norm_num), zero_mul, zero_mul]
    unfold lnBwd lnVjp
    simp only [hvia, hz, zero_mul, mul_zero, neg_zero, Finset.sum_const_zero, add_zero]
    rw [Ideal.div_coe (by norm_num), zero_mul, add_zero]

/-! ## `silu` -/

def silu (x : EReal) : EReal := x * Ideal.logistic x

/-- The derivative of `silu`, in the kernels' form. -/
def dsilu (x : EReal) : EReal := Ideal.logistic x * (1 + x * (1 - Ideal.logistic x))

theorem one_sub_one : (1 : EReal) - 1 = 0 := by
  rw [← EReal.coe_one, ← EReal.coe_sub, sub_self, EReal.coe_zero]

theorem dsilu_top : dsilu ⊤ = 1 := by
  simp [dsilu, one_sub_one]

theorem dsilu_bot : dsilu ⊥ = 0 := by
  simp [dsilu]

theorem dsilu_coe (x : ℝ) :
    dsilu x = (((1 + Real.exp (-x))⁻¹ * (1 + x * (1 - (1 + Real.exp (-x))⁻¹)) : ℝ) : EReal) := by
  unfold dsilu
  rw [Ideal.logistic_coe]
  simp only [← EReal.coe_one, ← EReal.coe_sub, ← EReal.coe_mul, ← EReal.coe_add]

theorem fin_dsilu (x : EReal) : Fin' (dsilu x) := by
  induction x with
  | bot => exact ⟨0, dsilu_bot⟩
  | top => exact ⟨1, dsilu_top⟩
  | coe x => exact ⟨_, dsilu_coe x⟩

/-- The reference's gradient of `silu`: the product rule on `x * logistic x`, at a finite incoming gradient `p`. -/
theorem silu_vjp (p x : EReal) (hp : Fin' p) :
    p * Ideal.logistic x + x * p * (Ideal.logistic x * (1 - Ideal.logistic x)) = p * dsilu x := by
  obtain ⟨a, rfl⟩ := hp
  induction x with
  | bot => rw [dsilu_bot, Ideal.logistic_bot, zero_mul, mul_zero, mul_zero, add_zero]
  | top => rw [dsilu_top, Ideal.logistic_top, one_sub_one, mul_zero, mul_zero, add_zero]
  | coe x =>
    rw [dsilu_coe, Ideal.logistic_coe]
    simp only [← EReal.coe_one, ← EReal.coe_sub, ← EReal.coe_mul, ← EReal.coe_add]
    congr 1; ring

/-! ## Finiteness, as a precondition states it -/

theorem ofBits_inf : Ideal.ofBits .f32 0x7F800000#32 = ⊤ := by
  simp [Ideal.ofBits, Ideal.ieee]

theorem fin_of_abs_lt {x : Ideal .f32}
    (h : BitVec.ofBool (decide (FloatOps.absf x < Ideal.ofBits .f32 0x7F800000#32)) = 1#1) : Fin' x := by
  rw [ofBits_inf] at h
  have h' : (FloatOps.absf x : EReal) < ⊤ := by
    by_contra hn
    rw [decide_eq_false hn] at h
    exact absurd h (by decide)
  rw [Ideal.absf_def] at h'
  refine fin_iff.2 ⟨?_, ?_⟩
  · rintro rfl; exact absurd h' (by simp)
  · rintro rfl; exact absurd h' (by simp)

/-! ## A sum over rows, taken by grid point and by the row's place in a group of `C` -/

/-- Each of `A` points sums its `S = B * C` rows into `C` partial sums; the partial sums are added last. -/
theorem sum_points_rows (A B C S N : ℕ) (hS : S = B * C) (hN : N = A * S) (f : ℕ → EReal) :
    ∑ y : Fin C, ∑ t ∈ Finset.range A, ∑ x : Fin B, f (t * S + x * C + y) = ∑ ρ : Fin N, f ρ := by
  subst hS hN
  rw [Fin.sum_univ_eq_sum_range f, ← Finset.sum_range_range_mul_add, Finset.sum_comm]
  refine Finset.sum_congr rfl fun t _ => ?_
  rw [← Finset.sum_range_range_mul_add, Finset.sum_comm, Fin.sum_univ_eq_sum_range (fun x => ∑ y : Fin C, f (t * (B * C) + x * C + y))]
  refine Finset.sum_congr rfl fun x _ => ?_
  rw [Fin.sum_univ_eq_sum_range (fun y => f (t * (B * C) + x * C + y))]
  exact Finset.sum_congr rfl fun y _ => congrArg f (Nat.add_assoc ..)

end Cert.Rows

end
-- ==== Proof.HeadBody.lean ====
/-
  The gradient of the convolution's normalization and `silu`: what one grid point's vectors hold, entry by entry, as the
  row functions of Rows.lean; and the rows' contents of the blocks the point reads.
-/
module

public import proofs.«01_k».proof.Proof.Rows
public import proofs.«01_k».proof.Proof.Gen.KernelIdeal.Value
public import Idealize.ShloMosaic.Lib.Pointwise
public import Idealize.ShloMosaic.Lib.ValueIdx

@[expose] public section

set_option maxRecDepth 16384

noncomputable section

namespace Cert.Head

open Cert.KernelIdeal Cert.KernelIdeal.Gen Idealize.ShloMosaic Idealize.ShloMosaic.TcCoe Cert.Rows

/-! ## The mathematics of one row -/

/-- The normalized row, scaled and shifted. -/
def pre (z g b : Fin 1024 → EReal) (k : Fin 1024) : EReal := hat z k * g k + b k

/-- The gradient that reaches the normalized, scaled and shifted row: `u` is the gradient that reaches its `silu`. -/
def dpre (z g b u : Fin 1024 → EReal) (k : Fin 1024) : EReal := u k * dsilu (pre z g b k)

theorem fin_dpre {z g b u : Fin 1024 → EReal} (hu : ∀ k, Fin' (u k)) (k : Fin 1024) : Fin' (dpre z g b u k) :=
  (hu k).mul (fin_dsilu _)

/-! ## One grid point -/

section Point

variable (v3 v4 : Vec Ideal S512x1024 .f32) (v21 v25 : Vec Ideal S1x1024 .f32) (v40 : Vec Ideal S1024x1024 .bf16)

abbrev row (v : Vec Ideal S512x1024 .f32) (r : Fin 512) : Fin 1024 → EReal := fun k => v (ix2 r k)
abbrev vec (v : Vec Ideal S1x1024 .f32) : Fin 1024 → EReal := fun k => v (ix2 0 k)

/-- Row `r` of the block of gradients, multiplied by the weights. -/
abbrev back (v3 : Vec Ideal S512x1024 .f32) (v40 : Vec Ideal S1024x1024 .bf16) (r : Fin 512) : Fin 1024 → EReal :=
  fun k => ∑ x, v3 (ix2 r x) * v40 (ix2 k x)

theorem pay6_at (r : Fin 512) (k : Fin 1024) : k0_pay6 v4 (ix2 r k) = cen (row v4 r) k := by
  unfold k0_pay6
  pointwise
  rw [ofBits_1024]; rfl

theorem pay7_at (r : Fin 512) : k0_pay7 v4 (ix2 r 0) = rstd (row v4 r) := by
  unfold k0_pay7
  pointwise
  simp only [pay6_at, ofBits_1024, ofBits_eps]; rfl

theorem pay8_at (r : Fin 512) (k : Fin 1024) : k0_pay8 v4 (ix2 r k) = hat (row v4 r) k := by
  unfold k0_pay8
  pointwise
  rw [pay6_at, pay7_at]; rfl

theorem pay9_at (r : Fin 512) (k : Fin 1024) : k0_pay9 v4 v21 v25 (ix2 r k) = pre (row v4 r) (vec v21) (vec v25) k := by
  unfold k0_pay9
  pointwise
  rw [pay8_at]; rfl

theorem pay11_at (r : Fin 512) (k : Fin 1024) :
    k0_pay11 v4 v21 v25 (ix2 r k) = dsilu (pre (row v4 r) (vec v21) (vec v25) k) := by
  unfold k0_pay11 k0_pay10
  pointwise
  rw [pay9_at]; rfl

theorem pay12_at (r : Fin 512) (k : Fin 1024) :
    k0_pay12 v4 v21 v25 (ix2 r k) = silu (pre (row v4 r) (vec v21) (vec v25) k) := by
  unfold k0_pay12 k0_pay10
  pointwise
  rw [pay9_at]; rfl

theorem pay13_at (r : Fin 512) (k : Fin 1024) :
    k0_pay13 v3 (k0_pay11 v4 v21 v25) v40 (ix2 r k) = dpre (row v4 r) (vec v21) (vec v25) (back v3 v40 r) k := by
  unfold k0_pay13
  pointwise
  rw [pay11_at]; rfl

theorem pay14_at (a : Vec Ideal S8x1024 .f32) (r : Fin 8) (k : Fin 1024) :
    k0_pay14 v3 (k0_pay8 v4) (k0_pay11 v4 v21 v25) v40 a (ix2 r k) = a (ix2 r k) + ∑ x : Fin 64,
      dpre (row v4 ⟨x * 8 + r, by omega⟩) (vec v21) (vec v25) (back v3 v40 ⟨x * 8 + r, by omega⟩) k
        * hat (row v4 ⟨x * 8 + r, by omega⟩) k := by
  unfold k0_pay14
  pointwise
  simp only [pay13_at, pay8_at]

theorem pay15_at (a : Vec Ideal S8x1024 .f32) (r : Fin 8) (k : Fin 1024) :
    k0_pay15 v3 (k0_pay11 v4 v21 v25) v40 a (ix2 r k) = a (ix2 r k) + ∑ x : Fin 64,
      dpre (row v4 ⟨x * 8 + r, by omega⟩) (vec v21) (vec v25) (back v3 v40 ⟨x * 8 + r, by omega⟩) k := by
  unfold k0_pay15
  pointwise
  simp only [pay13_at]

theorem pay16_at (r : Fin 512) (k : Fin 1024) :
    k0_pay1 (k0_pay7 v4) (k0_pay16 v3 (k0_pay8 v4) (k0_pay11 v4 v21 v25) v40 v21) (ix2 r k)
      = lnBwd (fun j => dpre (row v4 r) (vec v21) (vec v25) (back v3 v40 r) j * vec v21 j) (row v4 r) k := by
  unfold k0_pay1 k0_pay16
  pointwise
  simp only [pay13_at, pay8_at, pay7_at, ofBits_1024]; rfl

theorem pay2_at (a : Vec Ideal S8x1024 .f32) (k : Fin 1024) : k0_pay2 a (ix2 0 k) = ∑ x : Fin 8, a (ix2 x k) := by
  unfold k0_pay2
  pointwise

theorem pay3_at (a : Vec Ideal S8x1024 .f32) (k : Fin 1024) : k0_pay3 a (ix2 0 k) = ∑ x : Fin 8, a (ix2 x k) := by
  unfold k0_pay3
  pointwise

theorem pay4_at (r : Fin 8) (k : Fin 1024) : k0_pay4 (F := Ideal) (ix2 r k) = 0 := by
  unfold k0_pay4
  pointwise

theorem pay5_at (r : Fin 8) (k : Fin 1024) : k0_pay5 (F := Ideal) (ix2 r k) = 0 := by
  unfold k0_pay5
  pointwise

end Point

/-! ## What a grid point leaves, by its case -/

section Case

theorem hz : (![0, 0] : Fin 2 → Nat) = fun _ => 0 := funext fun a => by fin_cases a <;> rfl

variable (m : (ℓ : Loc nD τ sig) → Buf (Elt Ideal) ℓ) (c : Dev nD)

/-- The two blocks point `t` writes back. -/
def sBlock (t : Fin cfg0.N) : Vec Ideal S512x1024 .bf16 := k0_pay12 (iblk m c 1 t) (iblk m c 3 t) (iblk m c 4 t)
def dBlock (t : Fin cfg0.N) : Vec Ideal S512x1024 .f32 :=
  k0_pay1 (k0_pay7 (iblk m c 1 t)) (k0_pay16 (iblk m c 0 t) (k0_pay8 (iblk m c 1 t))
    (k0_pay11 (iblk m c 1 t) (iblk m c 3 t) (iblk m c 4 t)) (iblk m c 2 t) (iblk m c 3 t))

/-- The two running column sums, from what the point before left of them. -/
def gNext (t : Fin cfg0.N) (a : Vec Ideal S8x1024 .f32) : Vec Ideal S8x1024 .f32 :=
  k0_pay14 (iblk m c 0 t) (k0_pay8 (iblk m c 1 t)) (k0_pay11 (iblk m c 1 t) (iblk m c 3 t) (iblk m c 4 t)) (iblk m c 2 t) a
def bNext (t : Fin cfg0.N) (a : Vec Ideal S8x1024 .f32) : Vec Ideal S8x1024 .f32 :=
  k0_pay15 (iblk m c 0 t) (k0_pay11 (iblk m c 1 t) (iblk m c 3 t) (iblk m c 4 t)) (iblk m c 2 t) a

/-- The first point: the running sums start from the zero block. -/
theorem outs_A (t : Fin cfg0.N) (h0 : t.val % 32 = 0) (h1 : ¬t.val % 32 = 31) :
    let o := outsAt0 m c t.val t.isLt
    o.1 = sBlock m c t ∧ o.2.1 = dBlock m c t ∧ o.2.2.2.2.1 = gNext m c t (k0_pay4 (F := Ideal)) ∧ o.2.2.2.2.2 = bNext m c t (k0_pay5 (F := Ideal)) := by
  intro o
  subst o
  rw [outsAt0_A m c t h0 h1]
  dsimp only
  refine ⟨(View.read_writes_eq_canon _ _ _ (by intro y; apply cover0_A_5)).trans ?_,
    (View.read_writes_eq_canon _ _ _ (by intro y; apply cover0_A_6)).trans ?_,
    (View.read_writes_eq_canon _ _ _ (by intro y; apply scover0_A_0)).trans ?_,
    (View.read_writes_eq_canon _ _ _ (by intro y; apply scover0_A_1)).trans ?_⟩
  all_goals
    unfold kernelRun0_A
    dsimp only
    sl_unfold_words
    first | rw [View.canon_unit_zero hz] | rw [View.canon_cons_unit_zero (S := S8x1024) hz]
    simp only [View.readCov_unit_zero (S := S8x1024) _ hz, View.readAt_eq_ld, Memref.IsWhole.read_unread, View.ld_unit_zero (S := S512x1024) hz,
      View.ld_unit_zero (S := S1x1024) hz, View.ld_unit_zero (S := S1024x1024) hz, View.ld_unit_zero (S := S8x1024) hz, shapeCast_self]
  all_goals rfl

/-- A point between: the running sums grow. -/
theorem outs_B (t : Fin cfg0.N) (h0 : ¬t.val % 32 = 0) (h1 : ¬t.val % 32 = 31) (hp : t.val - 1 < cfg0.N) :
    let o := outsAt0 m c t.val t.isLt
    let p := outsAt0 m c (t.val - 1) hp
    o.1 = sBlock m c t ∧ o.2.1 = dBlock m c t ∧ o.2.2.2.2.1 = gNext m c t p.2.2.2.2.1
      ∧ o.2.2.2.2.2 = bNext m c t p.2.2.2.2.2 := by
  intro o p
  subst o p
  rw [outsAt0_B m c t h0 h1]
  dsimp only
  refine ⟨(View.read_writes_eq_canon _ _ _ (by intro y; apply cover0_B_5)).trans ?_,
    (View.read_writes_eq_canon _ _ _ (by intro y; apply cover0_B_6)).trans ?_,
    (View.read_writes_eq_canon _ _ _ (by intro y; apply scover0_B_0)).trans ?_,
    (View.read_writes_eq_canon _ _ _ (by intro y; apply scover0_B_1)).trans ?_⟩
  all_goals
    unfold kernelRun0_B
    dsimp only
    sl_unfold_words
    rw [View.canon_unit_zero hz]
    simp only [View.readAt_eq_ld, Memref.IsWhole.read_unread, View.ld_unit_zero (S := S512x1024) hz,
      View.ld_unit_zero (S := S1x1024) hz, View.ld_unit_zero (S := S1024x1024) hz, View.ld_unit_zero (S := S8x1024) hz, shapeCast_self]
  exacts [rfl, rfl, congrArg (gNext m c t) (Memref.IsWhole.read_unread (Memref.isWhole_whole _) _), congrArg (bNext m c t) (Memref.IsWhole.read_unread (Memref.isWhole_whole _) _)]

/-- The last point: as a point between, and it writes the two totals. -/
theorem outs_C (t : Fin cfg0.N) (h0 : ¬t.val % 32 = 0) (h1 : t.val % 32 = 31) (hp : t.val - 1 < cfg0.N) :
    let o := outsAt0 m c t.val t.isLt
    let p := outsAt0 m c (t.val - 1) hp
    o.1 = sBlock m c t ∧ o.2.1 = dBlock m c t ∧ o.2.2.1 = k0_pay2 (gNext m c t p.2.2.2.2.1)
      ∧ o.2.2.2.1 = k0_pay3 (bNext m c t p.2.2.2.2.2) := by
  intro o p
  subst o p
  rw [outsAt0_C m c t h0 h1]
  dsimp only
  refine ⟨(View.read_writes_eq_canon _ _ _ (by intro y; apply cover0_C_5)).trans ?_,
    (View.read_writes_eq_canon _ _ _ (by intro y; apply cover0_C_6)).trans ?_,
    (View.read_writes_eq_canon _ _ _ (by intro y; apply cover0_C_7)).trans ?_,
    (View.read_writes_eq_canon _ _ _ (by intro y; apply cover0_C_8)).trans ?_⟩
  all_goals
    unfold kernelRun0_C
    dsimp only
    sl_unfold_words
    rw [View.canon_unit_zero hz]
    simp only [View.readCov_unit_zero (S := S8x1024) _ hz, View.readAt_eq_ld, Memref.IsWhole.read_unread, View.ld_unit_zero (S := S512x1024) hz,
      View.ld_unit_zero (S := S1x1024) hz, View.ld_unit_zero (S := S1024x1024) hz, View.ld_unit_zero (S := S8x1024) hz, shapeCast_self]
  exacts [rfl, rfl, congrArg (fun a => k0_pay2 (gNext m c t a)) (Memref.IsWhole.read_unread (Memref.isWhole_whole _) _),
    congrArg (fun a => k0_pay3 (bNext m c t a)) (Memref.IsWhole.read_unread (Memref.isWhole_whole _) _)]

end Case

end Cert.Head

end
-- ==== Proof.HeadRun.lean ====
/-
  The gradient of the convolution's normalization and `silu`: what the whole grid leaves in the four results, as row
  functions of the arguments.
-/
module

public import proofs.«01_k».proof.Proof.HeadBody
public import Idealize.ShloMosaic.Lib.StableHlo.ReadAt
public import Idealize.ShloMosaic.Lib.Pipeline.ValueKit

@[expose] public section

set_option maxRecDepth 16384

noncomputable section

namespace Cert.Head

open Cert.KernelIdeal Cert.KernelIdeal.Gen Cert.KernelIdeal.Value Idealize.ShloMosaic Idealize.ShloMosaic.TcCoe Cert.Rows

variable (m : (ℓ : Loc nD τ sig) → Buf (Elt Ideal) ℓ) (c : Dev nD)

theorem idx_rows (t : Fin cfg0.N) : (win0_0.index t 0 = t.val ∧ win0_0.index t 1 = 0) ∧ win0_1.index t 0 = t.val ∧ win0_1.index t 1 = 0 := by
  revert t; decide +kernel

theorem idx_whole (t : Fin cfg0.N) : (win0_2.index t 0 = 0 ∧ win0_2.index t 1 = 0) ∧ (win0_3.index t 0 = 0 ∧ win0_3.index t 1 = 0) ∧ win0_4.index t 0 = 0 ∧ win0_4.index t 1 = 0 := by
  revert t; decide +kernel

theorem dz_blk (t : Fin cfg0.N) (r : Fin 512) (k : Fin 1024) (h : t.val * 512 + r < 16384) :
    (iblk m c 0 t : Vec Ideal S512x1024 .f32) (ix2 r k) = m (((c : Thread nD τ)).loc main_arg4) (ix2 ⟨t.val * 512 + r, h⟩ k) := by
  have := idx_rows t
  blk_ext [iblk, V, this]

theorem z_blk (t : Fin cfg0.N) (r : Fin 512) (k : Fin 1024) (h : t.val * 512 + r < 16384) :
    (iblk m c 1 t : Vec Ideal S512x1024 .f32) (ix2 r k) = m (((c : Thread nD τ)).loc main_arg0) (ix2 ⟨t.val * 512 + r, h⟩ k) := by
  have := idx_rows t
  blk_ext [iblk, V, this]

theorem w_host (j : S1024x1024.Idx) : (V m c main_v0 : S1024x1024.Idx → EReal) j = m ((c : Thread nD τ).loc main_arg3) j := by
  unfold V; after_reads_at

theorem g_host (k : Fin 1024) : (V m c main_v1 : S1x1024.Idx → EReal) (ix2 0 k) = m ((c : Thread nD τ).loc main_arg1) (ix1 k) := by
  unfold V; after_reads_at

theorem b_host (k : Fin 1024) : (V m c main_v2 : S1x1024.Idx → EReal) (ix2 0 k) = m ((c : Thread nD τ).loc main_arg2) (ix1 k) := by
  unfold V; after_reads_at

theorem w_blk (t : Fin cfg0.N) (r k : Fin 1024) :
    (iblk m c 2 t : Vec Ideal S1024x1024 .bf16) (ix2 r k) = m (((c : Thread nD τ)).loc main_arg3) (ix2 r k) := by
  have := idx_whole t
  refine Eq.trans ?_ (w_host m c (ix2 r k))
  blk_ext [iblk, this]

theorem g_blk (t : Fin cfg0.N) (k : Fin 1024) :
    (iblk m c 3 t : Vec Ideal S1x1024 .f32) (ix2 0 k) = m (((c : Thread nD τ)).loc main_arg1) (ix1 k) := by
  have := idx_whole t
  refine Eq.trans ?_ (g_host m c k)
  blk_ext [iblk, this]

theorem b_blk (t : Fin cfg0.N) (k : Fin 1024) :
    (iblk m c 4 t : Vec Ideal S1x1024 .f32) (ix2 0 k) = m (((c : Thread nD τ)).loc main_arg2) (ix1 k) := by
  have := idx_whole t
  refine Eq.trans ?_ (b_host m c k)
  blk_ext [iblk, this]

/-! ## The rows of the arguments -/

abbrev arr0 : S16384x1024.Idx → EReal := m ((c : Thread nD τ).loc main_arg0)
abbrev arr1 : S1024.Idx → EReal := m ((c : Thread nD τ).loc main_arg1)
abbrev arr2 : S1024.Idx → EReal := m ((c : Thread nD τ).loc main_arg2)
abbrev arr3 : S1024x1024.Idx → EReal := m ((c : Thread nD τ).loc main_arg3)
abbrev arr4 : S16384x1024.Idx → EReal := m ((c : Thread nD τ).loc main_arg4)

def z (ρ : Fin 16384) : Fin 1024 → EReal := fun k => arr0 m c (ix2 ρ k)
def g : Fin 1024 → EReal := fun k => arr1 m c (ix1 k)
def b : Fin 1024 → EReal := fun k => arr2 m c (ix1 k)
def u (ρ : Fin 16384) : Fin 1024 → EReal := fun k => ∑ x : Fin 1024, arr4 m c (ix2 ρ x) * arr3 m c (ix2 k x)

/-- The summands of the two column sums, one row at a time; rows past the end are zero. -/
def gTerm (k : Fin 1024) (n : ℕ) : EReal :=
  if h : n < 16384 then dpre (z m c ⟨n, h⟩) (g m c) (b m c) (u m c ⟨n, h⟩) k * hat (z m c ⟨n, h⟩) k else 0
def bTerm (k : Fin 1024) (n : ℕ) : EReal :=
  if h : n < 16384 then dpre (z m c ⟨n, h⟩) (g m c) (b m c) (u m c ⟨n, h⟩) k else 0

section Blocks

variable (t : Fin cfg0.N) (r : Fin 512) (h : t.val * 512 + r < 16384)
include h

theorem z_row : row (iblk m c 1 t) r = z m c ⟨t.val * 512 + r, h⟩ := funext fun k => z_blk m c t r k h
omit h in
theorem g_vec : vec (iblk m c 3 t) = g m c := funext fun k => g_blk m c t k
omit h in
theorem b_vec : vec (iblk m c 4 t) = b m c := funext fun k => b_blk m c t k
theorem u_row : back (iblk m c 0 t) (iblk m c 2 t) r = u m c ⟨t.val * 512 + r, h⟩ := funext fun k => by
  unfold u
  refine Finset.sum_congr rfl fun x _ => ?_
  rw [dz_blk m c t r x h, w_blk]

theorem sBlock_at (k : Fin 1024) :
    sBlock m c t (ix2 r k) = silu (pre (z m c ⟨t.val * 512 + r, h⟩) (g m c) (b m c) k) := by
  unfold sBlock
  rw [pay12_at, z_row m c t r h, g_vec, b_vec]

theorem dBlock_at (k : Fin 1024) :
    dBlock m c t (ix2 r k) = lnBwd (fun j => dpre (z m c ⟨t.val * 512 + r, h⟩) (g m c) (b m c) (u m c ⟨t.val * 512 + r, h⟩) j * g m c j)
      (z m c ⟨t.val * 512 + r, h⟩) k := by
  unfold dBlock
  rw [pay16_at, z_row m c t r h, g_vec, b_vec, u_row m c t r h]

end Blocks

theorem gNext_at (t : Fin cfg0.N) (a : Vec Ideal S8x1024 .f32) (r : Fin 8) (k : Fin 1024) :
    gNext m c t a (ix2 r k) = a (ix2 r k) + ∑ x : Fin 64, gTerm m c k (t.val * 512 + x * 8 + r) := by
  have hN : t.val < 32 := lt_of_lt_of_eq t.isLt N_0
  unfold gNext
  rw [pay14_at]
  refine congrArg _ (Finset.sum_congr rfl fun x _ => ?_)
  have h : t.val * 512 + (x.val * 8 + r.val) < 16384 := by omega
  rw [z_row m c t ⟨x.val * 8 + r.val, by omega⟩ h, g_vec, b_vec, u_row m c t ⟨x.val * 8 + r.val, by omega⟩ h, gTerm,
    dif_pos (by omega)]
  simp only [Nat.add_assoc]

theorem bNext_at (t : Fin cfg0.N) (a : Vec Ideal S8x1024 .f32) (r : Fin 8) (k : Fin 1024) :
    bNext m c t a (ix2 r k) = a (ix2 r k) + ∑ x : Fin 64, bTerm m c k (t.val * 512 + x * 8 + r) := by
  have hN : t.val < 32 := lt_of_lt_of_eq t.isLt N_0
  unfold bNext
  rw [pay15_at]
  refine congrArg _ (Finset.sum_congr rfl fun x _ => ?_)
  have h : t.val * 512 + (x.val * 8 + r.val) < 16384 := by omega
  rw [z_row m c t ⟨x.val * 8 + r.val, by omega⟩ h, g_vec, b_vec, u_row m c t ⟨x.val * 8 + r.val, by omega⟩ h, bTerm,
    dif_pos (by omega)]
  simp only [Nat.add_assoc]

/-! ## The grid -/

/-- What the two running sums hold after point `n`, for every point but the last. -/
theorem sums_at (r : Fin 8) (k : Fin 1024) : ∀ (n : ℕ) (hn : n < cfg0.N), n < 31 →
    (outsAt0 m c n hn).2.2.2.2.1 (ix2 r k) = ∑ t ∈ Finset.range (n + 1), ∑ x : Fin 64, gTerm m c k (t * 512 + x * 8 + r)
    ∧ (outsAt0 m c n hn).2.2.2.2.2 (ix2 r k) = ∑ t ∈ Finset.range (n + 1), ∑ x : Fin 64, bTerm m c k (t * 512 + x * 8 + r)
  | 0, hn, _ => by
    obtain ⟨-, -, e1, e2⟩ := outs_A m c ⟨0, hn⟩ rfl (by dsimp only; omega)
    rw [e1, e2, gNext_at, bNext_at, pay4_at, pay5_at, Finset.sum_range_one, Finset.sum_range_one]
    exact ⟨zero_add _, zero_add _⟩
  | n + 1, hn, h31 => by
    obtain ⟨-, -, e1, e2⟩ := outs_B m c ⟨n + 1, hn⟩ (by dsimp only; omega) (by dsimp only; omega) (Nat.lt_of_succ_lt hn)
    obtain ⟨i1, i2⟩ := sums_at r k n (Nat.lt_of_succ_lt hn) (by omega)
    rw [e1, e2, gNext_at, bNext_at, Finset.sum_range_succ _ (n + 1), Finset.sum_range_succ _ (n + 1)]
    exact ⟨congrArg (· + _) i1, congrArg (· + _) i2⟩

/-- The blocks point `t` writes back, whatever its case. -/
theorem blocks_at (n : ℕ) (hn : n < cfg0.N) :
    (outsAt0 m c n hn).1 = sBlock m c ⟨n, hn⟩ ∧ (outsAt0 m c n hn).2.1 = dBlock m c ⟨n, hn⟩ := by
  have hN : n < 32 := lt_of_lt_of_eq hn N_0
  by_cases h0 : n % 32 = 0
  · obtain ⟨e1, e2, -⟩ := outs_A m c ⟨n, hn⟩ h0 (by dsimp only; omega)
    exact ⟨e1, e2⟩
  · by_cases h1 : n % 32 = 31
    · obtain ⟨e1, e2, -⟩ := outs_C m c ⟨n, hn⟩ h0 h1 (by dsimp only; omega)
      exact ⟨e1, e2⟩
    · obtain ⟨e1, e2, -⟩ := outs_B m c ⟨n, hn⟩ h0 h1 (by dsimp only; omega)
      exact ⟨e1, e2⟩

theorem totals_at (n : ℕ) (hn : n < cfg0.N) (h31 : n = 31) (k : Fin 1024) :
    (outsAt0 m c n hn).2.2.1 (ix2 0 k) = ∑ ρ : Fin 16384, gTerm m c k ρ
    ∧ (outsAt0 m c n hn).2.2.2.1 (ix2 0 k) = ∑ ρ : Fin 16384, bTerm m c k ρ := by
  obtain ⟨-, -, e1, e2⟩ := outs_C m c ⟨n, hn⟩ (by dsimp only; omega) (by dsimp only; omega) (by dsimp only; omega)
  dsimp only at e1 e2
  rw [e1, e2, pay2_at, pay3_at]
  simp only [gNext_at, bNext_at, (sums_at m c _ k (n - 1) (by omega) (by omega)).1, (sums_at m c _ k (n - 1) (by omega) (by omega)).2]
  subst h31
  constructor
  all_goals
    rw [← sum_points_rows 32 64 8 512 16384 rfl rfl]
    refine Finset.sum_congr rfl fun r _ => ?_
    rw [Finset.sum_range_succ _ 31]

/-! ## The results -/

theorem s_at (ρ : Fin 16384) (k : Fin 1024) :
    (G5 m c : S16384x1024.Idx → EReal) (ix2 ρ k) = silu (pre (z m c ρ) (g m c) (b m c) k) := by
  have hN : cfg0.N = 32 := N_0
  have hp : pt5Of (ix2 ρ k) = ρ.val / 512 := by show 1 * (ρ.val / 512 - 0) + 1 * (k.val / 1024 - 0) = _; omega
  have hl : loc5Of (ix2 ρ k) = ix2 ⟨ρ.val % 512, Nat.mod_lt _ (by decide)⟩ k := by
    idx_ext
  have hr : ρ.val / 512 * 512 + ρ.val % 512 = ρ.val := by omega
  have hlt : pt5Of (ix2 ρ k) < cfg0.N := by omega
  unfold G5
  rw [dif_pos hlt, ← outsAt0_sweep m c _ hlt, (blocks_at m c _ hlt).1, hl, sBlock_at _ _ _ _ (by dsimp only; omega)]
  simp only [hp, hr]

theorem d_at (ρ : Fin 16384) (k : Fin 1024) :
    (G6 m c : S16384x1024.Idx → EReal) (ix2 ρ k)
      = lnBwd (fun j => dpre (z m c ρ) (g m c) (b m c) (u m c ρ) j * g m c j) (z m c ρ) k := by
  have hN : cfg0.N = 32 := N_0
  have hp : pt6Of (ix2 ρ k) = ρ.val / 512 := by show 1 * (ρ.val / 512 - 0) + 1 * (k.val / 1024 - 0) = _; omega
  have hl : loc6Of (ix2 ρ k) = ix2 ⟨ρ.val % 512, Nat.mod_lt _ (by decide)⟩ k := by
    idx_ext
  have hr : ρ.val / 512 * 512 + ρ.val % 512 = ρ.val := by omega
  have hlt : pt6Of (ix2 ρ k) < cfg0.N := by omega
  unfold G6
  rw [dif_pos hlt, ← outsAt0_sweep m c _ hlt, (blocks_at m c _ hlt).2, hl, dBlock_at _ _ _ _ (by dsimp only; omega)]
  simp only [hp, hr]

/-- The two column sums. -/
def dg (k : Fin 1024) : EReal := ∑ ρ, dpre (z m c ρ) (g m c) (b m c) (u m c ρ) k * hat (z m c ρ) k
def db (k : Fin 1024) : EReal := ∑ ρ, dpre (z m c ρ) (g m c) (b m c) (u m c ρ) k

theorem g_at (k : Fin 1024) : (G7 m c : S1x1024.Idx → EReal) (ix2 0 k) = dg m c k := by
  rw [G7_last, ← outsAt0_sweep m c _ (lt_of_lt_of_eq (by decide) N_0.symm), (totals_at m c _ _ rfl k).1]
  show (∑ ρ : Fin 16384, gTerm m c k ρ) = dg m c k
  exact Finset.sum_congr rfl fun ρ _ => dif_pos ρ.isLt

theorem b_at (k : Fin 1024) : (G8 m c : S1x1024.Idx → EReal) (ix2 0 k) = db m c k := by
  rw [G8_last, ← outsAt0_sweep m c _ (lt_of_lt_of_eq (by decide) N_0.symm), (totals_at m c _ _ rfl k).2]
  show (∑ ρ : Fin 16384, bTerm m c k ρ) = db m c k
  exact Finset.sum_congr rfl fun ρ _ => dif_pos ρ.isLt

end Cert.Head

end
-- ==== Proof.HeadRef.lean ====
/-
  The gradient of the convolution's normalization and `silu`: the reference's results, entry by entry, as row functions of
  its arguments.
-/
module

public import proofs.«01_k».proof.Proof.Rows
public import proofs.«01_k».proof.Proof.Gen.ReferenceIdeal.Read
public import Idealize.ShloMosaic.Lib.Pointwise
public import Idealize.ShloMosaic.Lib.ValueIdx

@[expose] public section

set_option maxRecDepth 16384

noncomputable section

namespace Cert.Head.Ref

open Cert.ReferenceIdeal Cert.ReferenceIdeal.Read Idealize.ShloMosaic Idealize.ShloMosaic.TcCoe Cert.Rows

variable (x0 x4 : S16384x1024.Idx → EReal) (x1 x2 : S1024.Idx → EReal) (x3 : S1024x1024.Idx → EReal)

def zr (ρ : Fin 16384) : Fin 1024 → EReal := fun k => x0 (ix2 ρ k)

def gr : Fin 1024 → EReal := fun k => x1 (ix1 k)
def br : Fin 1024 → EReal := fun k => x2 (ix1 k)
def ur (ρ : Fin 16384) : Fin 1024 → EReal := fun k => ∑ x : Fin 1024, x4 (ix2 ρ x) * x3 (ix2 k x)

/-- The normalized row, scaled and shifted. -/
abbrev nr (ρ : Fin 16384) : Fin 1024 → EReal := fun k => hat (zr x0 ρ) k * gr x1 k + br x2 k

/-- The gradient that reaches it, as the reference writes the gradient of `silu`. -/
def pr (ρ : Fin 16384) : Fin 1024 → EReal := fun k =>
  ur x4 x3 ρ k * Ideal.logistic (nr x0 x1 x2 ρ k)
    + nr x0 x1 x2 ρ k * ur x4 x3 ρ k * (Ideal.logistic (nr x0 x1 x2 ρ k) * (1 - Ideal.logistic (nr x0 x1 x2 ρ k)))

/-! ## Forward -/

theorem v5_at (ρ : Fin 16384) (k : Fin 1024) : val_main_v5 (F := Ideal) x0 (ix2 ρ k) = cen (zr x0 ρ) k := by
  unfold val_main_v5 val_main_v4 val_main_v3 val_main_v2 val_main_v1 val_main_v0 val_main_cst_0 val_main_cst
  pointwise
  rw [ofBits_1024]; rfl

theorem v14_at (ρ : Fin 16384) (k : Fin 1024) : val_main_v14 (F := Ideal) x0 (ix2 ρ k) = cen (zr x0 ρ) k := v5_at x0 ρ k

theorem v12_at (ρ : Fin 16384) : val_main_v12 (F := Ideal) x0 (ix2 ρ 0) = var (zr x0 ρ) := by
  unfold val_main_v12 val_main_v11 val_main_v10 val_main_v9 val_main_v6 val_main_cst_2 val_main_cst_3
  pointwise
  simp only [v5_at, ofBits_1024]; rfl

theorem v17_at (ρ : Fin 16384) : val_main_v17 (F := Ideal) x0 (ix2 ρ 0) = rstd (zr x0 ρ) := by
  unfold val_main_v17 val_main_v16 val_main_v15 val_main_cst_4
  pointwise
  rw [v12_at, ofBits_eps]; rfl

theorem v20_at (ρ : Fin 16384) : val_main_v20 (F := Ideal) x0 (ix2 ρ 0)
    = ((-(1 / 2) : ℝ) : EReal) * Ideal.div (rstd (zr x0 ρ)) (var (zr x0 ρ) + eps) := by
  unfold val_main_v20 val_main_v19 val_main_v18 val_main_v16 val_main_v15 val_main_cst_4 val_main_cst_5
  pointwise
  rw [v17_at, v12_at, ofBits_eps, ofBits_neg_half]

theorem v22_at (ρ : Fin 16384) (k : Fin 1024) : val_main_v22 (F := Ideal) x0 (ix2 ρ k) = hat (zr x0 ρ) k := by
  unfold val_main_v22 val_main_v21
  pointwise
  rw [v14_at, v17_at]; rfl

theorem v28_at (ρ : Fin 16384) (k : Fin 1024) : val_main_v28 (F := Ideal) x0 x1 x2 (ix2 ρ k) = nr x0 x1 x2 ρ k := by
  unfold val_main_v28 val_main_v27 val_main_v26 val_main_v25 val_main_v24 val_main_v23
  pointwise
  rw [v22_at]; rfl

/-- The forward head that the reference runs once more for its first result is the one above. -/
theorem v89_eq : val_main_v89 (F := Ideal) x0 x1 x2 = val_main_v28 (F := Ideal) x0 x1 x2 := rfl

theorem logistic_at (ρ : Fin 16384) (k : Fin 1024) :
    val_main_v29_2 (F := Ideal) x0 x1 x2 (ix2 ρ k) = Ideal.logistic (nr x0 x1 x2 ρ k) := by
  unfold val_main_v29_2 val_main_call0_v4 val_main_call0_v3 val_main_call0_v2 val_main_call0_v1 val_main_call0_v0
    val_main_call0_cst val_main_call0_cst_0
  pointwise
  rw [v28_at]; rfl

theorem s_at (ρ : Fin 16384) (k : Fin 1024) : val_main_v91 (F := Ideal) x0 x1 x2 (ix2 ρ k) = silu (nr x0 x1 x2 ρ k) := by
  have e : val_main_v91 (F := Ideal) x0 x1 x2 = val_main_v29_0 (F := Ideal) x0 x1 x2 := by
    unfold val_main_v91 val_main_v90 val_main_v29_0
    rw [v89_eq]; rfl
  rw [e]
  unfold val_main_v29_0
  pointwise
  rw [v28_at, logistic_at]; rfl

/-! ## Backward -/

theorem v31_at (ρ : Fin 16384) (k : Fin 1024) : val_main_v31 (F := Ideal) x3 x4 (ix2 ρ k) = ur x4 x3 ρ k := by
  unfold val_main_v31
  pointwise
  rfl

theorem v32_at (ρ : Fin 16384) (k : Fin 1024) : val_main_v32 (F := Ideal) x0 x1 x2 x3 x4 (ix2 ρ k) = pr x0 x4 x1 x2 x3 ρ k := by
  unfold val_main_v32 val_main_call1_v2 val_main_call1_v1 val_main_call1_v0 val_main_v29_1 val_main_call0_v7 val_main_call0_v6
    val_main_call0_cst_1
  pointwise
  rw [v28_at, logistic_at, v31_at]; rfl

theorem db_at (k : Fin 1024) : val_main_v93 (F := Ideal) x0 x1 x2 x3 x4 (ix2 0 k) = ∑ ρ, pr x0 x4 x1 x2 x3 ρ k := by
  unfold val_main_v93 val_main_v35 val_main_v34 val_main_v33 val_main_cst_6 val_main_cst_7
  pointwise
  simp only [v32_at, Fin.sum_univ_one]

theorem dg_at (k : Fin 1024) : val_main_v92 (F := Ideal) x0 x1 x2 x3 x4 (ix2 0 k) = ∑ ρ, hat (zr x0 ρ) k * pr x0 x4 x1 x2 x3 ρ k := by
  unfold val_main_v92 val_main_v41 val_main_v38 val_main_v37 val_main_v36 val_main_cst_8 val_main_cst_9
  pointwise
  simp only [v32_at, v22_at, Fin.sum_univ_one]

theorem v40_at (ρ : Fin 16384) (k : Fin 1024) : val_main_v40 (F := Ideal) x0 x1 x2 x3 x4 (ix2 ρ k) = pr x0 x4 x1 x2 x3 ρ k * gr x1 k := by
  unfold val_main_v40 val_main_v39 val_main_v23
  pointwise
  rw [v32_at]; rfl

theorem v46_at (ρ : Fin 16384) (k : Fin 1024) :
    val_main_v46 (F := Ideal) x0 x1 x2 x3 x4 (ix2 ρ k) = pr x0 x4 x1 x2 x3 ρ k * gr x1 k * rstd (zr x0 ρ) := by
  unfold val_main_v46 val_main_v45
  pointwise
  rw [v40_at, v17_at]

theorem v55_at (ρ : Fin 16384) (k : Fin 1024) : val_main_v55 (F := Ideal) x0 x1 x2 x3 x4 (ix2 ρ k)
    = viaVar (fun j => pr x0 x4 x1 x2 x3 ρ j * gr x1 j) (zr x0 ρ) k := by
  unfold val_main_v55 val_main_v54 val_main_v53 val_main_v52 val_main_v51 val_main_v47 val_main_v44 val_main_v43 val_main_v42
    val_main_v8 val_main_v7 val_main_cst_1 val_main_cst_10 val_main_cst_12 val_main_cst_13
  pointwise
  simp only [Fin.sum_univ_one, v14_at, v40_at, v20_at, v5_at, ofBits_1024, ofBits_two]
  rfl

theorem d_at (ρ : Fin 16384) (k : Fin 1024) : val_main_v65 (F := Ideal) x0 x1 x2 x3 x4 (ix2 ρ k)
    = lnVjp (fun j => pr x0 x4 x1 x2 x3 ρ j * gr x1 j) (zr x0 ρ) k := by
  unfold val_main_v65 val_main_v64 val_main_v63 val_main_v62 val_main_v61 val_main_v60 val_main_v59 val_main_v58 val_main_v57
    val_main_v56 val_main_v50 val_main_v49 val_main_v48 val_main_cst_11 val_main_cst_14 val_main_cst_15 val_main_cst_16
  pointwise
  simp only [Fin.sum_univ_one, v46_at, v55_at, ofBits_1024]
  rfl

end Cert.Head.Ref

end
-- ==== Proof.Head.lean ====
/-
  The gradient of the convolution's normalization and `silu`: the kernel's results are the reference's, where the gain, the
  weights and the incoming gradient are finite.
-/
module

public import proofs.«01_k».proof.Defs
public import proofs.«01_k».proof.Proof.HeadRun
public import proofs.«01_k».proof.Proof.HeadRef
public import proofs.«01_k».proof.Proof.Gen.ReferenceIdeal.Run
public import proofs.«01_k».proof.Proof.Gen.Pre_finite

@[expose] public section

set_option maxRecDepth 16384

noncomputable section

namespace Cert.Head

open Idealize.ShloMosaic Idealize.ShloMosaic.TcCoe Idealize.SL.Sem Cert.Rows

/-! ## What the precondition gives -/

section Finite

variable {x0 x4 : KernelIdeal.S16384x1024.Idx → EReal} {x1 x2 : KernelIdeal.S1024.Idx → EReal} {x3 : KernelIdeal.S1024x1024.Idx → EReal}

theorem fin_arg1 (h : (Pre_finite.fn (F := Ideal) x0 x1 x2 x3 x4).1 = fun _ => 1#1) (k : Fin 1024) : Fin' (x1 (ix1 k)) := by
  have := congrFun h (ix1 k)
  revert this
  unfold Pre_finite.fn
  pointwise
  exact fin_of_abs_lt

theorem fin_arg3 (h : (Pre_finite.fn (F := Ideal) x0 x1 x2 x3 x4).2.1 = fun _ => 1#1) (k j : Fin 1024) : Fin' (x3 (ix2 k j)) := by
  have := congrFun h (ix2 k j)
  revert this
  unfold Pre_finite.fn
  pointwise
  exact fin_of_abs_lt

theorem fin_arg4 (h : (Pre_finite.fn (F := Ideal) x0 x1 x2 x3 x4).2.2 = fun _ => 1#1) (ρ : Fin 16384) (k : Fin 1024) :
    Fin' (x4 (ix2 ρ k)) := by
  have := congrFun h (ix2 ρ k)
  revert this
  unfold Pre_finite.fn
  pointwise
  exact fin_of_abs_lt

end Finite

/-! ## The results agree -/

section Agree

open Cert.KernelIdeal (nD τ sig main_arg0 main_arg1 main_arg2 main_arg3 main_arg4)

variable (m : (ℓ : Loc nD τ sig) → Buf (Elt Ideal) ℓ) (c : Dev nD)

theorem s_eq : Cert.ReferenceIdeal.Read.val_main_v91 (F := Ideal) (arr0 m c) (arr1 m c) (arr2 m c) = Cert.KernelIdeal.Value.G5 m c :=
  funext fun i => by
    rw [eq_ix2 i]
    exact (Ref.s_at (arr0 m c) (arr1 m c) (arr2 m c) (i 0) (i 1)).trans (s_at m c (i 0) (i 1)).symm

variable (hu : ∀ ρ k, Fin' (u m c ρ k))
include hu

/-- The reference's gradient of `silu` is the kernel's. -/
theorem pr_eq (ρ : Fin 16384) : Ref.pr (arr0 m c) (arr4 m c) (arr1 m c) (arr2 m c) (arr3 m c) ρ
    = dpre (z m c ρ) (g m c) (b m c) (u m c ρ) := funext fun k => silu_vjp _ _ (hu ρ k)

theorem d_eq (hg : ∀ k, Fin' (g m c k)) :
    Cert.ReferenceIdeal.Read.val_main_v65 (F := Ideal) (arr0 m c) (arr1 m c) (arr2 m c) (arr3 m c) (arr4 m c)
      = Cert.KernelIdeal.Value.G6 m c := funext fun i => by
  obtain ⟨ρ, k, rfl⟩ : ∃ (ρ : Fin 16384) (k : Fin 1024), i = ix2 ρ k := ⟨i 0, i 1, eq_ix2 i⟩
  refine (Ref.d_at (arr0 m c) (arr4 m c) (arr1 m c) (arr2 m c) (arr3 m c) ρ k).trans (Eq.trans ?_ (d_at m c ρ k).symm)
  rw [pr_eq m c hu]
  exact (lnBwd_eq_lnVjp _ _ (fun k => (fin_dpre (hu _) k).mul (hg k)) _).symm

theorem g_eq : Cert.ReferenceIdeal.Read.val_main_v92 (F := Ideal) (arr0 m c) (arr1 m c) (arr2 m c) (arr3 m c) (arr4 m c)
      = Cert.KernelIdeal.Value.G7 m c := funext fun i => by
  obtain ⟨k, rfl⟩ : ∃ k : Fin 1024, i = ix2 0 k := ⟨i 1, by idx_ext⟩
  refine (Ref.dg_at (arr0 m c) (arr4 m c) (arr1 m c) (arr2 m c) (arr3 m c) k).trans (Eq.trans ?_ (g_at m c k).symm)
  refine Finset.sum_congr rfl fun ρ _ => ?_
  rw [pr_eq m c hu, mul_comm]; rfl

theorem b_eq : Cert.ReferenceIdeal.Read.val_main_v93 (F := Ideal) (arr0 m c) (arr1 m c) (arr2 m c) (arr3 m c) (arr4 m c)
      = Cert.KernelIdeal.Value.G8 m c := funext fun i => by
  obtain ⟨k, rfl⟩ : ∃ k : Fin 1024, i = ix2 0 k := ⟨i 1, by idx_ext⟩
  refine (Ref.db_at (arr0 m c) (arr4 m c) (arr1 m c) (arr2 m c) (arr3 m c) k).trans (Eq.trans ?_ (b_at m c k).symm)
  refine Finset.sum_congr rfl fun ρ _ => ?_
  rw [pr_eq m c hu]

end Agree

/-! ## The claims -/

theorem frame_reference : Cert.quiescent_ReferenceIdeal := fun m ρ _ =>
  (θ_run _ _ _).mono (fun r h => ⟨fun c => (h c).2.2.2.2, sem_eq_zero_of_no_sems rfl r.2⟩) (Cert.ReferenceIdeal.Value.run m ρ)

theorem algebraic : Cert.algebraic_KernelIdeal_ReferenceIdeal_pre_finite := fun m ρ m' ρ' hp ha =>
  ⟨fun c => Cert.KernelIdeal.Value.G5 m c, fun c => Cert.KernelIdeal.Value.G6 m c, fun c => Cert.KernelIdeal.Value.G7 m c,
    fun c => Cert.KernelIdeal.Value.G8 m c, Cert.KernelIdeal.Value.run m ρ,
    (θ_run _ _ _).mono (fun r h c => by
      obtain ⟨a0, a1, a2, a3, a4⟩ := ha c
      obtain ⟨p1, p3, p4⟩ := hp c
      have hg : ∀ k, Fin' (g m c k) := fin_arg1 p1
      have hu : ∀ ρ k, Fin' (u m c ρ k) := fun ρ k => fin_sum _ fun x _ => (fin_arg4 p4 ρ x).mul (fin_arg3 p3 k x)
      obtain ⟨h0, h1, h2, h3, hk⟩ := h c
      rw [Cert.ReferenceIdeal.Read.val_main_v91_eq, a0, a1, a2] at h0
      rw [Cert.ReferenceIdeal.Read.val_main_v65_eq, a0, a1, a2, a3, a4] at h1
      rw [Cert.ReferenceIdeal.Read.val_main_v92_eq, a0, a1, a2, a3, a4] at h2
      rw [Cert.ReferenceIdeal.Read.val_main_v93_eq, a0, a1, a2, a3, a4] at h3
      exact ⟨h0.trans (s_eq m c), h1.trans (d_eq m c hu hg), h2.trans (g_eq m c hu), h3.trans (b_eq m c hu), hk⟩)
      (Cert.ReferenceIdeal.Value.run m' ρ')⟩

end Cert.Head

end
-- ==== Proof.LossBody.lean ====
/-
  The last feed-forward block with the loss: what one grid point's vectors hold, entry by entry, as the row functions of
  Rows.lean; and what the point leaves, by its case.
-/
module

public import proofs.«01_k».proof.Proof.Rows
public import proofs.«01_k».proof.Proof.Gen.Kernel3Ideal.Value
public import Idealize.ShloMosaic.Lib.Pointwise
public import Idealize.ShloMosaic.Lib.ValueIdx
public import Idealize.ShloMosaic.Lib.Pipeline.ValueKit
public import Idealize.ShloMosaic.Lib.Pipeline.ReadBack

@[expose] public section

set_option maxRecDepth 16384

noncomputable section

namespace Cert.Loss

open Cert.Kernel3Ideal Cert.Kernel3Ideal.Gen Idealize.ShloMosaic Idealize.ShloMosaic.TcCoe Cert.Rows

/-! ## The mathematics of one row -/

/-- The scale of the residual. -/
def root2 : EReal := Ideal.ofBits .f32 0x3FB504F3#32
/-- The factor of an entry's gradient. -/
def rate : EReal := Ideal.ofBits .f32 0x3A800000#32
/-- The factor of the sum of squares. -/
def scale : EReal := Ideal.ofBits .f32 0x3A000000#32

/-- The error of the normalized row. -/
def err (z g b y : Fin 1024 → EReal) (k : Fin 1024) : EReal := hat z k * g k + b k - y k

/-! ## The four chunks of the weights -/

theorem inb_cols (j : Fin 4) (a : Fin 4) : (![j.val, 0, 0, 0] : Fin 4 → ℕ) a + S1x1x1024x704.size a ≤ S4x1x1024x704.size a := by
  fin_cases a <;> simp [S1x1x1024x704, S4x1x1024x704, Shape.size] <;> omega

theorem inb_rows (j : Fin 4) (a : Fin 4) : (![j.val, 0, 0, 0] : Fin 4 → ℕ) a + S1x1x704x1024.size a ≤ S4x1x704x1024.size a := by
  fin_cases a <;> simp [S1x1x704x1024, S4x1x704x1024, Shape.size] <;> omega

def cols (w : Vec Ideal S4x1x1024x704 .bf16) (j : Fin 4) : Vec Ideal S1x1x1024x704 .bf16 :=
  View.ld w (Rect.unit ![j.val, 0, 0, 0] S1x1x1024x704.size (inb_cols j))

def rows (w : Vec Ideal S4x1x704x1024 .bf16) (j : Fin 4) : Vec Ideal S1x1x704x1024 .bf16 :=
  View.ld w (Rect.unit ![j.val, 0, 0, 0] S1x1x704x1024.size (inb_rows j))

theorem cols_at (w : Vec Ideal S4x1x1024x704 .bf16) (j : Fin 4) (k : Fin 1024) (f : Fin 704) :
    cols w j (ix4 0 0 k f) = w (ix4 j 0 k f) := by
  refine View.ld_unit_apply_of _ _ _ _ _ _ fun a => ?_
  fin_cases a
  · show j.val = j.val + 0; omega
  · rfl
  · show k.val = 0 + k.val; omega
  · show f.val = 0 + f.val; omega

theorem rows_at (w : Vec Ideal S4x1x704x1024 .bf16) (j : Fin 4) (f : Fin 704) (k : Fin 1024) :
    rows w j (ix4 0 0 f k) = w (ix4 j 0 f k) := by
  refine View.ld_unit_apply_of _ _ _ _ _ _ fun a => ?_
  fin_cases a
  · show j.val = j.val + 0; omega
  · rfl
  · show f.val = 0 + f.val; omega
  · show k.val = 0 + k.val; omega

/-! ## Four stores, one for each chunk -/

theorem inb_chunk (j : Fin 4) (a : Fin 3) : (![j.val, 0, 0] : Fin 3 → ℕ) a + S1x512x704.size a ≤ S4x512x704.size a := by
  fin_cases a <;> simp [S1x512x704, S4x512x704, Shape.size] <;> omega

abbrev piece (p : Fin 4 → Vec Ideal S1x512x704 .bf16) (j : Fin 4) : View.Piece (Elt Ideal) S4x512x704 .bf16 :=
  ⟨Rect.unit ![j.val, 0, 0] S1x512x704.size (inb_chunk j), p j⟩

/-- What the four stores leave. -/
def stack (p : Fin 4 → Vec Ideal S1x512x704 .bf16) : Vec Ideal S4x512x704 .bf16 := fun y =>
  p ⟨(y 0).val, (y 0).isLt⟩ (ix3 0 ⟨(y 1).val, (y 1).isLt⟩ ⟨(y 2).val, (y 2).isLt⟩)

theorem piece_at (p : Fin 4 → Vec Ideal S1x512x704 .bf16) (j : Fin 4) (x : S1x512x704.Idx) :
    p j x = stack p ((Rect.unit (s := S4x512x704) ![j.val, 0, 0] S1x512x704.size (inb_chunk j)).emb x) := by
  obtain ⟨a, r, f, rfl⟩ : ∃ (a : Fin 1) (r : Fin 512) (f : Fin 704), x = ix3 a r f := ⟨x 0, x 1, x 2, eq_ix3 x⟩
  unfold stack
  refine congr (congrArg p (Fin.ext ?_)) ?_
  · show j.val = j.val + 1 * a.val; omega
  · idx_ext

theorem piece_mem (p : Fin 4 → Vec Ideal S1x512x704 .bf16) (j : Fin 4) (y : S4x512x704.Idx) (h : (y 0).val = j.val) :
    y ∈ (piece p j).1.set := by
  have h1 : (y 1).val < 512 := (y 1).isLt
  have h2 : (y 2).val < 704 := (y 2).isLt
  rw [Rect.mem_set_unit]
  intro a
  fin_cases a <;> simp [S1x512x704, Shape.size] <;> omega

theorem canon_stack (p : Fin 4 → Vec Ideal S1x512x704 .bf16) :
    View.canon [piece p 3, piece p 2, piece p 1, piece p 0] = stack p := funext fun y => by
  have h : View.PiecesOf (stack p) [piece p 3, piece p 2, piece p 1, piece p 0] :=
    ⟨piece_at p 3, piece_at p 2, piece_at p 1, piece_at p 0, trivial⟩
  refine View.canon_apply_of_pieces (stack p) _ h.mem y ?_
  have h0 : (y 0).val < 4 := (y 0).isLt
  by_cases e3 : (y 0).val = 3
  · exact ⟨_, List.mem_cons_self, piece_mem p 3 y e3⟩
  by_cases e2 : (y 0).val = 2
  · exact ⟨_, List.mem_cons_of_mem _ List.mem_cons_self, piece_mem p 2 y e2⟩
  by_cases e1 : (y 0).val = 1
  · exact ⟨_, List.mem_cons_of_mem _ (List.mem_cons_of_mem _ List.mem_cons_self), piece_mem p 1 y e1⟩
  · exact ⟨_, List.mem_cons_of_mem _ (List.mem_cons_of_mem _ (List.mem_cons_of_mem _ List.mem_cons_self)), piece_mem p 0 y (by
      show (y 0).val = 0; omega)⟩

/-! ## One grid point -/

section Point

variable (x : Vec Ideal S512x1024 .f32) (wg wu : Vec Ideal S4x1x1024x704 .bf16) (wd : Vec Ideal S4x1x704x1024 .bf16)
  (g b : Vec Ideal S1x1024 .f32) (y : Vec Ideal S512x1024 .f32)

abbrev row (v : Vec Ideal S512x1024 .f32) (r : Fin 512) : Fin 1024 → EReal := fun k => v (ix2 r k)
abbrev vec (v : Vec Ideal S1x1024 .f32) : Fin 1024 → EReal := fun k => v (ix2 0 k)

/-- Entry `f` of chunk `j` of a row's gate or up product. -/
def proj (w : Vec Ideal S4x1x1024x704 .bf16) (j : Fin 4) (r : Fin 512) (f : Fin 704) : EReal :=
  ∑ k : Fin 1024, x (ix2 r k) * w (ix4 j 0 k f)

theorem pay10_at (j : Fin 4) (r : Fin 512) (f : Fin 704) : k0_pay10 x (cols wg j) (ix2 r f) = proj x wg j r f := by
  unfold k0_pay10 k0_pay8
  pointwise
  simp only [cols_at]; rfl

theorem pay11_at (j : Fin 4) (r : Fin 512) (f : Fin 704) : k0_pay11 x (cols wu j) (ix2 r f) = proj x wu j r f :=
  pay10_at x wu j r f

def actP (j : Fin 4) : Vec Ideal S1x512x704 .bf16 := k0_pay14 x (cols wg j)
def bmP (j : Fin 4) : Vec Ideal S1x512x704 .bf16 := k0_pay15 x (cols wg j) (cols wu j)
def hmP (j : Fin 4) : Vec Ideal S1x512x704 .bf16 := k0_pay17 (k0_pay16 x (cols wg j) (cols wu j))

theorem actP_at (j : Fin 4) (r : Fin 512) (f : Fin 704) : actP x wg j (ix3 0 r f) = silu (proj x wg j r f) := by
  unfold actP k0_pay14 k0_pay13 k0_pay12
  pointwise
  simp only [pay10_at]; rfl

theorem bmP_at (j : Fin 4) (r : Fin 512) (f : Fin 704) :
    bmP x wg wu j (ix3 0 r f) = proj x wu j r f * dsilu (proj x wg j r f) := by
  unfold bmP k0_pay15 k0_pay12
  pointwise
  simp only [pay10_at, pay11_at]; rfl

theorem pay16_at (j : Fin 4) (r : Fin 512) (f : Fin 704) :
    k0_pay16 x (cols wg j) (cols wu j) (ix2 r f) = silu (proj x wg j r f) * proj x wu j r f := by
  unfold k0_pay16 k0_pay13 k0_pay12
  pointwise
  simp only [pay10_at, pay11_at]; rfl

theorem hmP_at (j : Fin 4) (r : Fin 512) (f : Fin 704) :
    hmP x wg wu j (ix3 0 r f) = silu (proj x wg j r f) * proj x wu j r f := by
  unfold hmP k0_pay17
  pointwise
  rw [pay16_at]

/-- The down product of the first three chunks. -/
def acc1 : Vec Ideal S512x1024 .f32 := k0_pay18 (k0_pay9 (F := Ideal)) (k0_pay16 x (cols wg 0) (cols wu 0)) (rows wd 0)
def acc2 : Vec Ideal S512x1024 .f32 := k0_pay27 (acc1 x wg wu wd) (k0_pay25 (k0_pay8 x) (cols wg 1) (cols wu 1)) (rows wd 1)
def acc3 : Vec Ideal S512x1024 .f32 := k0_pay36 (acc2 x wg wu wd) (k0_pay34 (k0_pay8 x) (cols wg 2) (cols wu 2)) (rows wd 2)
def last : Vec Ideal S512x704 .f32 := k0_pay43 (k0_pay8 x) (cols wg 3) (cols wu 3)

/-- One chunk's part of a row's down product. -/
def part (j : Fin 4) (r : Fin 512) (k : Fin 1024) : EReal :=
  ∑ f : Fin 704, silu (proj x wg j r f) * proj x wu j r f * wd (ix4 j 0 f k)

theorem pay18_at (a : Vec Ideal S512x1024 .f32) (j : Fin 4) (r : Fin 512) (k : Fin 1024) :
    k0_pay18 a (k0_pay16 x (cols wg j) (cols wu j)) (rows wd j) (ix2 r k) = a (ix2 r k) + part x wg wu wd j r k := by
  unfold k0_pay18
  pointwise
  simp only [pay16_at, rows_at]; rfl

theorem acc3_at (r : Fin 512) (k : Fin 1024) :
    acc3 x wg wu wd (ix2 r k) = part x wg wu wd 0 r k + part x wg wu wd 1 r k + part x wg wu wd 2 r k := by
  have e1 : acc1 x wg wu wd (ix2 r k) = part x wg wu wd 0 r k :=
    (pay18_at x wg wu wd _ 0 r k).trans ((congrArg (· + _) (by unfold k0_pay9; pointwise)).trans (zero_add _))
  have e2 : acc2 x wg wu wd (ix2 r k) = acc1 x wg wu wd (ix2 r k) + part x wg wu wd 1 r k := pay18_at x wg wu wd _ 1 r k
  have e3 : acc3 x wg wu wd (ix2 r k) = acc2 x wg wu wd (ix2 r k) + part x wg wu wd 2 r k := pay18_at x wg wu wd _ 2 r k
  rw [e3, e2, e1]

/-- The row that is normalized. -/
def zrow (r : Fin 512) (k : Fin 1024) : EReal := root2 * x (ix2 r k) + ∑ j : Fin 4, part x wg wu wd j r k

theorem pay46_at (r : Fin 512) (k : Fin 1024) :
    k0_pay46 x (acc3 x wg wu wd) (last x wg wu) (rows wd 3) (ix2 r k) = cen (zrow x wg wu wd r) k := by
  have e : ∀ k, Ideal.ofBits .f32 0x3FB504F3#32 * x (ix2 r k)
      + (acc3 x wg wu wd (ix2 r k) + ∑ f : Fin 704, last x wg wu (ix2 r f) * rows wd 3 (ix4 0 0 f k)) = zrow x wg wu wd r k := fun k => by
    have h : ∀ f, last x wg wu (ix2 r f) = silu (proj x wg 3 r f) * proj x wu 3 r f := fun f => pay16_at x wg wu 3 r f
    unfold zrow
    rw [acc3_at, Fin.sum_univ_four]
    simp only [h, rows_at]; rfl
  unfold k0_pay46 k0_pay44
  pointwise
  simp only [e, ofBits_1024]; rfl

def hatB : Vec Ideal S512x1024 .f32 := k0_pay48 x (acc3 x wg wu wd) (last x wg wu) (rows wd 3)
def rstdB : Vec Ideal S512x1 .f32 := k0_pay47 x (acc3 x wg wu wd) (last x wg wu) (rows wd 3)
def errB : Vec Ideal S512x1024 .f32 := k0_pay50 x (acc3 x wg wu wd) (last x wg wu) (rows wd 3) g b y

theorem rstdB_at (r : Fin 512) : rstdB x wg wu wd (ix2 r 0) = rstd (zrow x wg wu wd r) := by
  unfold rstdB k0_pay47
  pointwise
  simp only [pay46_at, ofBits_1024, ofBits_eps]; rfl

theorem hatB_at (r : Fin 512) (k : Fin 1024) : hatB x wg wu wd (ix2 r k) = hat (zrow x wg wu wd r) k := by
  unfold hatB k0_pay48
  pointwise
  rw [pay46_at]
  exact congrArg (_ * ·) (rstdB_at x wg wu wd r)

theorem errB_at (r : Fin 512) (k : Fin 1024) :
    errB x wg wu wd g b y (ix2 r k) = err (zrow x wg wu wd r) (vec g) (vec b) (row y r) k := by
  have h := hatB_at x wg wu wd r k
  unfold hatB at h
  unfold errB k0_pay50 k0_pay49
  pointwise
  rw [h]; rfl

/-- The gradient that reaches the row, and the running sums' next contents. -/
def dzB : Vec Ideal S512x1024 .f32 :=
  k0_pay1 (rstdB x wg wu wd) (hatB x wg wu wd) (k0_pay56 (k0_pay49 g) (errB x wg wu wd g b y))
    (k0_pay57 (hatB x wg wu wd) (k0_pay49 g) (errB x wg wu wd g b y))
def gB (a : Vec Ideal S8x1024 .f32) : Vec Ideal S8x1024 .f32 := k0_pay53 (hatB x wg wu wd) (errB x wg wu wd g b y) a
def bB (a : Vec Ideal S8x1024 .f32) : Vec Ideal S8x1024 .f32 := k0_pay54 (errB x wg wu wd g b y) a
def lB (a : Vec Ideal S8x1024 .f32) : Vec Ideal S8x1024 .f32 := k0_pay51 (errB x wg wu wd g b y) a

theorem pay55_at (r : Fin 512) (k : Fin 1024) : k0_pay55 (k0_pay49 g) (errB x wg wu wd g b y) (ix2 r k)
    = err (zrow x wg wu wd r) (vec g) (vec b) (row y r) k * rate * vec g k := by
  unfold k0_pay55 k0_pay52 k0_pay49
  pointwise
  rw [errB_at]; rfl

theorem dzB_at (r : Fin 512) (k : Fin 1024) : dzB x wg wu wd g b y (ix2 r k)
    = lnBwd (fun j => err (zrow x wg wu wd r) (vec g) (vec b) (row y r) j * rate * vec g j) (zrow x wg wu wd r) k := by
  unfold dzB k0_pay1 k0_pay56 k0_pay57
  pointwise
  simp only [pay55_at, hatB_at, rstdB_at, ofBits_1024]; rfl

theorem gB_at (a : Vec Ideal S8x1024 .f32) (r : Fin 8) (k : Fin 1024) : gB x wg wu wd g b y a (ix2 r k) = a (ix2 r k) + ∑ i : Fin 64,
      err (zrow x wg wu wd ⟨i * 8 + r, by omega⟩) (vec g) (vec b) (row y ⟨i * 8 + r, by omega⟩) k * rate
        * hat (zrow x wg wu wd ⟨i * 8 + r, by omega⟩) k := by
  unfold gB k0_pay53 k0_pay52
  pointwise
  simp only [errB_at, hatB_at]; rfl

theorem bB_at (a : Vec Ideal S8x1024 .f32) (r : Fin 8) (k : Fin 1024) : bB x wg wu wd g b y a (ix2 r k) = a (ix2 r k) + ∑ i : Fin 64,
      err (zrow x wg wu wd ⟨i * 8 + r, by omega⟩) (vec g) (vec b) (row y ⟨i * 8 + r, by omega⟩) k * rate := by
  unfold bB k0_pay54 k0_pay52
  pointwise
  simp only [errB_at]; rfl

theorem lB_at (a : Vec Ideal S8x1024 .f32) (r : Fin 8) (k : Fin 1024) : lB x wg wu wd g b y a (ix2 r k) = a (ix2 r k) + ∑ i : Fin 64,
      err (zrow x wg wu wd ⟨i * 8 + r, by omega⟩) (vec g) (vec b) (row y ⟨i * 8 + r, by omega⟩) k
        * err (zrow x wg wu wd ⟨i * 8 + r, by omega⟩) (vec g) (vec b) (row y ⟨i * 8 + r, by omega⟩) k := by
  unfold lB k0_pay51
  pointwise
  simp only [errB_at]

theorem pay2_at (a : Vec Ideal S8x1024 .f32) (k : Fin 1024) : k0_pay2 a (ix2 0 k) = ∑ r : Fin 8, a (ix2 r k) := by
  unfold k0_pay2
  pointwise

theorem pay3_at (a : Vec Ideal S8x1024 .f32) (k : Fin 1024) : k0_pay3 a (ix2 0 k) = ∑ r : Fin 8, a (ix2 r k) := by
  unfold k0_pay3
  pointwise

theorem pay4_at (a : Vec Ideal S8x1024 .f32) : k0_pay4 a (ix2 0 0) = (∑ r : Fin 8, ∑ k : Fin 1024, a (ix2 r k)) * scale := by
  unfold k0_pay4
  pointwise
  rfl

theorem pay5_at (r : Fin 8) (k : Fin 1024) : k0_pay5 (F := Ideal) (ix2 r k) = 0 := by
  unfold k0_pay5
  pointwise

theorem pay6_at (r : Fin 8) (k : Fin 1024) : k0_pay6 (F := Ideal) (ix2 r k) = 0 := by
  unfold k0_pay6
  pointwise

theorem pay7_at (r : Fin 8) (k : Fin 1024) : k0_pay7 (F := Ideal) (ix2 r k) = 0 := by
  unfold k0_pay7
  pointwise

end Point

end Cert.Loss

end
-- ==== Proof.LossRun.lean ====
/-
  The last feed-forward block with the loss: what a grid point leaves, by its case, and the blocks it reads as entries of
  the arguments.
-/
module

public import proofs.«01_k».proof.Proof.LossBody
public import Idealize.ShloMosaic.Lib.StableHlo.ReadAt

@[expose] public section

set_option maxRecDepth 16384

noncomputable section

namespace Cert.Loss

open Cert.Kernel3Ideal Cert.Kernel3Ideal.Gen Cert.Kernel3Ideal.Value Idealize.ShloMosaic Idealize.ShloMosaic.TcCoe Cert.Rows

variable (m : (ℓ : Loc nD τ sig) → Buf (Elt Ideal) ℓ) (c : Dev nD)

/-! ## What a grid point leaves, by its case -/

section Case

theorem hz : (![0, 0] : Fin 2 → Nat) = fun _ => 0 := funext fun a => by fin_cases a <;> rfl

variable (t : Fin cfg0.N)

/-- What every point writes back: the three stacks of chunks and the gradient. -/
def Blocks (o : Vec Ideal S4x512x704 .bf16 × Vec Ideal S4x512x704 .bf16 × Vec Ideal S4x512x704 .bf16 × Vec Ideal S512x1024 .f32) : Prop :=
  o.1 = stack (actP (iblk m c 0 t) (iblk m c 1 t))
    ∧ o.2.1 = stack (bmP (iblk m c 0 t) (iblk m c 1 t) (iblk m c 2 t))
    ∧ o.2.2.1 = stack (hmP (iblk m c 0 t) (iblk m c 1 t) (iblk m c 2 t))
    ∧ o.2.2.2 = dzB (iblk m c 0 t) (iblk m c 1 t) (iblk m c 2 t) (iblk m c 3 t) (iblk m c 4 t) (iblk m c 5 t) (iblk m c 6 t)

def gN (a : Vec Ideal S8x1024 .f32) : Vec Ideal S8x1024 .f32 :=
  gB (iblk m c 0 t) (iblk m c 1 t) (iblk m c 2 t) (iblk m c 3 t) (iblk m c 4 t) (iblk m c 5 t) (iblk m c 6 t) a
def bN (a : Vec Ideal S8x1024 .f32) : Vec Ideal S8x1024 .f32 :=
  bB (iblk m c 0 t) (iblk m c 1 t) (iblk m c 2 t) (iblk m c 3 t) (iblk m c 4 t) (iblk m c 5 t) (iblk m c 6 t) a
def lN (a : Vec Ideal S8x1024 .f32) : Vec Ideal S8x1024 .f32 :=
  lB (iblk m c 0 t) (iblk m c 1 t) (iblk m c 2 t) (iblk m c 3 t) (iblk m c 4 t) (iblk m c 5 t) (iblk m c 6 t) a

theorem outs_A (h0 : t.val % 32 = 0) (h1 : ¬t.val % 32 = 31) :
    let o := outsAt0 m c t.val t.isLt
    Blocks m c t (o.1, o.2.1, o.2.2.1, o.2.2.2.1) ∧ o.2.2.2.2.2.2.2.1 = gN m c t (k0_pay5 (F := Ideal))
      ∧ o.2.2.2.2.2.2.2.2.1 = bN m c t (k0_pay6 (F := Ideal)) ∧ o.2.2.2.2.2.2.2.2.2 = lN m c t (k0_pay7 (F := Ideal)) := by
  intro o
  subst o
  rw [outsAt0_A m c t h0 h1]
  unfold Blocks
  dsimp only
  refine ⟨⟨(View.read_writes_eq_canon _ _ _ (by intro y; apply cover0_A_7)).trans (Eq.trans ?_ (canon_stack _)),
    (View.read_writes_eq_canon _ _ _ (by intro y; apply cover0_A_8)).trans (Eq.trans ?_ (canon_stack _)),
    (View.read_writes_eq_canon _ _ _ (by intro y; apply cover0_A_9)).trans (Eq.trans ?_ (canon_stack _)),
    (View.read_writes_eq_canon _ _ _ (by intro y; apply cover0_A_10)).trans ?_⟩,
    (View.read_writes_eq_canon _ _ _ (by intro y; apply scover0_A_0)).trans ?_,
    (View.read_writes_eq_canon _ _ _ (by intro y; apply scover0_A_1)).trans ?_,
    (View.read_writes_eq_canon _ _ _ (by intro y; apply scover0_A_2)).trans ?_⟩
  all_goals
    unfold kernelRun0_A
    dsimp only
    sl_unfold_words
    try first | rw [View.canon_unit_zero hz] | rw [View.canon_cons_unit_zero (S := S8x1024) hz]
    simp only [View.readCov_unit_zero (S := S8x1024) _ hz, View.readAt_eq_ld, Memref.IsWhole.read_unread, View.ld_unit_zero (S := S512x1024) hz,
      View.ld_unit_zero (S := S1x1024) hz, View.ld_unit_zero (S := S8x1024) hz, shapeCast_self]
  all_goals rfl

theorem outs_B (h0 : ¬t.val % 32 = 0) (h1 : ¬t.val % 32 = 31) (hp : t.val - 1 < cfg0.N) :
    let o := outsAt0 m c t.val t.isLt
    let p := outsAt0 m c (t.val - 1) hp
    Blocks m c t (o.1, o.2.1, o.2.2.1, o.2.2.2.1) ∧ o.2.2.2.2.2.2.2.1 = gN m c t p.2.2.2.2.2.2.2.1
      ∧ o.2.2.2.2.2.2.2.2.1 = bN m c t p.2.2.2.2.2.2.2.2.1 ∧ o.2.2.2.2.2.2.2.2.2 = lN m c t p.2.2.2.2.2.2.2.2.2 := by
  intro o p
  subst o p
  rw [outsAt0_B m c t h0 h1]
  unfold Blocks
  dsimp only
  refine ⟨⟨(View.read_writes_eq_canon _ _ _ (by intro y; apply cover0_B_7)).trans (Eq.trans ?_ (canon_stack _)),
    (View.read_writes_eq_canon _ _ _ (by intro y; apply cover0_B_8)).trans (Eq.trans ?_ (canon_stack _)),
    (View.read_writes_eq_canon _ _ _ (by intro y; apply cover0_B_9)).trans (Eq.trans ?_ (canon_stack _)),
    (View.read_writes_eq_canon _ _ _ (by intro y; apply cover0_B_10)).trans ?_⟩,
    (View.read_writes_eq_canon _ _ _ (by intro y; apply scover0_B_0)).trans ?_,
    (View.read_writes_eq_canon _ _ _ (by intro y; apply scover0_B_1)).trans ?_,
    (View.read_writes_eq_canon _ _ _ (by intro y; apply scover0_B_2)).trans ?_⟩
  all_goals
    unfold kernelRun0_B
    dsimp only
    sl_unfold_words
    try rw [View.canon_unit_zero hz]
    simp only [View.readAt_eq_ld, Memref.IsWhole.read_unread, View.ld_unit_zero (S := S512x1024) hz,
      View.ld_unit_zero (S := S1x1024) hz, View.ld_unit_zero (S := S8x1024) hz, shapeCast_self]
  exacts [rfl, rfl, rfl, rfl, congrArg (gN m c t) (Memref.IsWhole.read_unread (Memref.isWhole_whole _) _),
    congrArg (bN m c t) (Memref.IsWhole.read_unread (Memref.isWhole_whole _) _),
    congrArg (lN m c t) (Memref.IsWhole.read_unread (Memref.isWhole_whole _) _)]

theorem outs_C (h0 : ¬t.val % 32 = 0) (h1 : t.val % 32 = 31) (hp : t.val - 1 < cfg0.N) :
    let o := outsAt0 m c t.val t.isLt
    let p := outsAt0 m c (t.val - 1) hp
    Blocks m c t (o.1, o.2.1, o.2.2.1, o.2.2.2.1) ∧ o.2.2.2.2.1 = k0_pay2 (gN m c t p.2.2.2.2.2.2.2.1)
      ∧ o.2.2.2.2.2.1 = k0_pay3 (bN m c t p.2.2.2.2.2.2.2.2.1) ∧ o.2.2.2.2.2.2.1 = k0_pay4 (lN m c t p.2.2.2.2.2.2.2.2.2) := by
  intro o p
  subst o p
  rw [outsAt0_C m c t h0 h1]
  unfold Blocks
  dsimp only
  refine ⟨⟨(View.read_writes_eq_canon _ _ _ (by intro y; apply cover0_C_7)).trans (Eq.trans ?_ (canon_stack _)),
    (View.read_writes_eq_canon _ _ _ (by intro y; apply cover0_C_8)).trans (Eq.trans ?_ (canon_stack _)),
    (View.read_writes_eq_canon _ _ _ (by intro y; apply cover0_C_9)).trans (Eq.trans ?_ (canon_stack _)),
    (View.read_writes_eq_canon _ _ _ (by intro y; apply cover0_C_10)).trans ?_⟩,
    (View.read_writes_eq_canon _ _ _ (by intro y; apply cover0_C_11)).trans ?_,
    (View.read_writes_eq_canon _ _ _ (by intro y; apply cover0_C_12)).trans ?_,
    (View.read_writes_eq_canon _ _ _ (by intro y; apply cover0_C_13)).trans ?_⟩
  all_goals
    unfold kernelRun0_C
    dsimp only
    sl_unfold_words
    try rw [View.canon_unit_zero hz]
    simp only [View.readCov_unit_zero (S := S8x1024) _ hz, View.readAt_eq_ld, Memref.IsWhole.read_unread, View.ld_unit_zero (S := S512x1024) hz,
      View.ld_unit_zero (S := S1x1024) hz, View.ld_unit_zero (S := S8x1024) hz, shapeCast_self]
  exacts [rfl, rfl, rfl, rfl, congrArg (fun a => k0_pay2 (gN m c t a)) (Memref.IsWhole.read_unread (Memref.isWhole_whole _) _),
    congrArg (fun a => k0_pay3 (bN m c t a)) (Memref.IsWhole.read_unread (Memref.isWhole_whole _) _),
    congrArg (fun a => k0_pay4 (lN m c t a)) (Memref.IsWhole.read_unread (Memref.isWhole_whole _) _)]

end Case

/-! ## The blocks -/

theorem idx_rows (t : Fin cfg0.N) : (win0_0.index t 0 = t.val ∧ win0_0.index t 1 = 0) ∧ win0_6.index t 0 = t.val ∧ win0_6.index t 1 = 0 := by
  revert t; decide +kernel

theorem idx_vecs (t : Fin cfg0.N) : (win0_4.index t 0 = 0 ∧ win0_4.index t 1 = 0) ∧ win0_5.index t 0 = 0 ∧ win0_5.index t 1 = 0 := by
  revert t; decide +kernel

theorem idx_chunks (t : Fin cfg0.N) : (win0_1.index t 0 = 0 ∧ win0_1.index t 1 = 1 ∧ win0_1.index t 2 = 0 ∧ win0_1.index t 3 = 0)
    ∧ (win0_2.index t 0 = 0 ∧ win0_2.index t 1 = 1 ∧ win0_2.index t 2 = 0 ∧ win0_2.index t 3 = 0)
    ∧ win0_3.index t 0 = 0 ∧ win0_3.index t 1 = 1 ∧ win0_3.index t 2 = 0 ∧ win0_3.index t 3 = 0 := by
  revert t; decide +kernel

abbrev arr0 : S16384x1024.Idx → EReal := m ((c : Thread nD τ).loc main_arg0)
abbrev arr1 : S2x1024x2816.Idx → EReal := m ((c : Thread nD τ).loc main_arg1)
abbrev arr2 : S2x1024x2816.Idx → EReal := m ((c : Thread nD τ).loc main_arg2)
abbrev arr3 : S2x2816x1024.Idx → EReal := m ((c : Thread nD τ).loc main_arg3)
abbrev arr4 : S1024.Idx → EReal := m ((c : Thread nD τ).loc main_arg4)
abbrev arr5 : S1024.Idx → EReal := m ((c : Thread nD τ).loc main_arg5)
abbrev arr6 : S16384x1024.Idx → EReal := m ((c : Thread nD τ).loc main_arg6)

/-- Column `f` of chunk `j`. -/
def col (j : Fin 4) (f : Fin 704) : Fin 2816 := ⟨704 * j.val + f.val, by omega⟩

theorem x_blk (t : Fin cfg0.N) (r : Fin 512) (k : Fin 1024) (h : t.val * 512 + r < 16384) :
    (iblk m c 0 t : Vec Ideal S512x1024 .f32) (ix2 r k) = arr0 m c (ix2 ⟨t.val * 512 + r, h⟩ k) := by
  have := idx_rows t
  blk_ext [iblk, V, this]

theorem y_blk (t : Fin cfg0.N) (r : Fin 512) (k : Fin 1024) (h : t.val * 512 + r < 16384) :
    (iblk m c 6 t : Vec Ideal S512x1024 .f32) (ix2 r k) = arr6 m c (ix2 ⟨t.val * 512 + r, h⟩ k) := by
  have := idx_rows t
  blk_ext [iblk, V, this]

theorem wg_host (j : Fin 4) (d : Fin 2) (k : Fin 1024) (f : Fin 704) :
    (V m c main_v2 : S4x2x1024x704.Idx → EReal) (ix4 j d k f) = arr1 m c (ix3 d k (col j f)) := by
  unfold V; after_reads_at
  refine congrArg (arr1 m c) ?_
  unfold col
  idx_ext

theorem wu_host (j : Fin 4) (d : Fin 2) (k : Fin 1024) (f : Fin 704) :
    (V m c main_v5 : S4x2x1024x704.Idx → EReal) (ix4 j d k f) = arr2 m c (ix3 d k (col j f)) := by
  unfold V; after_reads_at
  refine congrArg (arr2 m c) ?_
  unfold col
  idx_ext

theorem wd_host (j : Fin 4) (d : Fin 2) (f : Fin 704) (k : Fin 1024) :
    (V m c main_v8 : S4x2x704x1024.Idx → EReal) (ix4 j d f k) = arr3 m c (ix3 d (col j f) k) := by
  unfold V; after_reads_at
  refine congrArg (arr3 m c) ?_
  unfold col
  idx_ext

theorem g_host (k : Fin 1024) : (V m c main_v9 : S1x1024.Idx → EReal) (ix2 0 k) = arr4 m c (ix1 k) := by
  unfold V; after_reads_at

theorem b_host (k : Fin 1024) : (V m c main_v10 : S1x1024.Idx → EReal) (ix2 0 k) = arr5 m c (ix1 k) := by
  unfold V; after_reads_at

theorem wg_blk (t : Fin cfg0.N) (j : Fin 4) (k : Fin 1024) (f : Fin 704) :
    (iblk m c 1 t : Vec Ideal S4x1x1024x704 .bf16) (ix4 j 0 k f) = arr1 m c (ix3 1 k (col j f)) := by
  have := idx_chunks t
  refine Eq.trans ?_ (wg_host m c j 1 k f)
  blk_ext [iblk, this]

theorem wu_blk (t : Fin cfg0.N) (j : Fin 4) (k : Fin 1024) (f : Fin 704) :
    (iblk m c 2 t : Vec Ideal S4x1x1024x704 .bf16) (ix4 j 0 k f) = arr2 m c (ix3 1 k (col j f)) := by
  have := idx_chunks t
  refine Eq.trans ?_ (wu_host m c j 1 k f)
  blk_ext [iblk, this]

theorem wd_blk (t : Fin cfg0.N) (j : Fin 4) (f : Fin 704) (k : Fin 1024) :
    (iblk m c 3 t : Vec Ideal S4x1x704x1024 .bf16) (ix4 j 0 f k) = arr3 m c (ix3 1 (col j f) k) := by
  have := idx_chunks t
  refine Eq.trans ?_ (wd_host m c j 1 f k)
  blk_ext [iblk, this]

theorem g_blk (t : Fin cfg0.N) (k : Fin 1024) : (iblk m c 4 t : Vec Ideal S1x1024 .f32) (ix2 0 k) = arr4 m c (ix1 k) := by
  have := idx_vecs t
  refine Eq.trans ?_ (g_host m c k)
  blk_ext [iblk, this]

theorem b_blk (t : Fin cfg0.N) (k : Fin 1024) : (iblk m c 5 t : Vec Ideal S1x1024 .f32) (ix2 0 k) = arr5 m c (ix1 k) := by
  have := idx_vecs t
  refine Eq.trans ?_ (b_host m c k)
  blk_ext [iblk, this]

end Cert.Loss

end
-- ==== Proof.LossGrid.lean ====
/-
  The last feed-forward block with the loss: what the whole grid leaves in the seven results, as row functions of the
  arguments.
-/
module

public import proofs.«01_k».proof.Proof.LossRun

@[expose] public section

set_option maxRecDepth 16384

noncomputable section

namespace Cert.Loss

open Cert.Kernel3Ideal Cert.Kernel3Ideal.Gen Cert.Kernel3Ideal.Value Idealize.ShloMosaic Idealize.ShloMosaic.TcCoe Cert.Rows

variable (m : (ℓ : Loc nD τ sig) → Buf (Elt Ideal) ℓ) (c : Dev nD)

/-! ## The rows of the arguments -/

def gate (ρ : Fin 16384) (e : Fin 2816) : EReal := ∑ k : Fin 1024, arr0 m c (ix2 ρ k) * arr1 m c (ix3 1 k e)
def up (ρ : Fin 16384) (e : Fin 2816) : EReal := ∑ k : Fin 1024, arr0 m c (ix2 ρ k) * arr2 m c (ix3 1 k e)

/-- The row that is normalized: the scaled residual and the down product. -/
def z (ρ : Fin 16384) (k : Fin 1024) : EReal :=
  root2 * arr0 m c (ix2 ρ k) + ∑ e : Fin 2816, silu (gate m c ρ e) * up m c ρ e * arr3 m c (ix3 1 e k)

def g : Fin 1024 → EReal := fun k => arr4 m c (ix1 k)
def b : Fin 1024 → EReal := fun k => arr5 m c (ix1 k)
def y (ρ : Fin 16384) : Fin 1024 → EReal := fun k => arr6 m c (ix2 ρ k)

/-- A row's error. -/
def er (ρ : Fin 16384) (k : Fin 1024) : EReal := err (z m c ρ) (g m c) (b m c) (y m c ρ) k

/-- A sum over the columns is the sum over the chunks of the sums over the columns of a chunk. -/
theorem sum_cols (F : Fin 2816 → EReal) : ∑ e, F e = ∑ j : Fin 4, ∑ f : Fin 704, F (col j f) := by
  rw [← Fintype.sum_prod_type' (fun j f => F (col j f))]
  refine (Fintype.sum_equiv (finProdFinEquiv (m := 4) (n := 704)) _ F fun p => congrArg F (Fin.ext ?_)).symm
  show 704 * p.1.val + p.2.val = p.2.val + 704 * p.1.val
  omega

section Blocks

variable (t : Fin cfg0.N) (r : Fin 512) (h : t.val * 512 + r < 16384)
include h

theorem gate_row (j : Fin 4) (f : Fin 704) :
    proj (iblk m c 0 t) (iblk m c 1 t) j r f = gate m c ⟨t.val * 512 + r, h⟩ (col j f) := by
  unfold proj gate
  refine Finset.sum_congr rfl fun k _ => ?_
  rw [x_blk m c t r k h, wg_blk]

theorem up_row (j : Fin 4) (f : Fin 704) :
    proj (iblk m c 0 t) (iblk m c 2 t) j r f = up m c ⟨t.val * 512 + r, h⟩ (col j f) := by
  unfold proj up
  refine Finset.sum_congr rfl fun k _ => ?_
  rw [x_blk m c t r k h, wu_blk]

theorem z_row : zrow (iblk m c 0 t) (iblk m c 1 t) (iblk m c 2 t) (iblk m c 3 t) r = z m c ⟨t.val * 512 + r, h⟩ := funext fun k => by
  unfold zrow z part
  rw [x_blk m c t r k h, sum_cols]
  simp only [gate_row m c t r h, up_row m c t r h, wd_blk]

omit h in
theorem g_vec : vec (iblk m c 4 t) = g m c := funext fun k => g_blk m c t k
omit h in
theorem b_vec : vec (iblk m c 5 t) = b m c := funext fun k => b_blk m c t k
theorem y_row : row (iblk m c 6 t) r = y m c ⟨t.val * 512 + r, h⟩ := funext fun k => y_blk m c t r k h

end Blocks

/-- The summands of the three running sums, one row at a time; rows past the end are zero. -/
def gTerm (k : Fin 1024) (n : ℕ) : EReal :=
  if h : n < 16384 then er m c ⟨n, h⟩ k * rate * hat (z m c ⟨n, h⟩) k else 0
def bTerm (k : Fin 1024) (n : ℕ) : EReal := if h : n < 16384 then er m c ⟨n, h⟩ k * rate else 0
def lTerm (k : Fin 1024) (n : ℕ) : EReal := if h : n < 16384 then er m c ⟨n, h⟩ k * er m c ⟨n, h⟩ k else 0

theorem sums_step (t : Fin cfg0.N) (a : Vec Ideal S8x1024 .f32) (r : Fin 8) (k : Fin 1024) :
    gN m c t a (ix2 r k) = a (ix2 r k) + ∑ i : Fin 64, gTerm m c k (t.val * 512 + i * 8 + r)
    ∧ bN m c t a (ix2 r k) = a (ix2 r k) + ∑ i : Fin 64, bTerm m c k (t.val * 512 + i * 8 + r)
    ∧ lN m c t a (ix2 r k) = a (ix2 r k) + ∑ i : Fin 64, lTerm m c k (t.val * 512 + i * 8 + r) := by
  have hN : t.val < 32 := lt_of_lt_of_eq t.isLt N_0
  unfold gN bN lN
  rw [gB_at, bB_at, lB_at]
  refine ⟨?_, ?_, ?_⟩
  all_goals
    refine congrArg _ (Finset.sum_congr rfl fun i _ => ?_)
    have h : t.val * 512 + (i.val * 8 + r.val) < 16384 := by omega
    rw [z_row m c t ⟨i.val * 8 + r.val, by omega⟩ h, y_row m c t ⟨i.val * 8 + r.val, by omega⟩ h, g_vec, b_vec]
    first | unfold gTerm | unfold bTerm | unfold lTerm
    rw [dif_pos (by omega)]
    simp only [Nat.add_assoc]; rfl

/-! ## The grid -/

/-- What the three running sums hold after point `n`, for every point but the last. -/
theorem sums_at (r : Fin 8) (k : Fin 1024) : ∀ (n : ℕ) (hn : n < cfg0.N), n < 31 →
    (outsAt0 m c n hn).2.2.2.2.2.2.2.1 (ix2 r k) = ∑ t ∈ Finset.range (n + 1), ∑ i : Fin 64, gTerm m c k (t * 512 + i * 8 + r)
    ∧ (outsAt0 m c n hn).2.2.2.2.2.2.2.2.1 (ix2 r k) = ∑ t ∈ Finset.range (n + 1), ∑ i : Fin 64, bTerm m c k (t * 512 + i * 8 + r)
    ∧ (outsAt0 m c n hn).2.2.2.2.2.2.2.2.2 (ix2 r k) = ∑ t ∈ Finset.range (n + 1), ∑ i : Fin 64, lTerm m c k (t * 512 + i * 8 + r)
  | 0, hn, _ => by
    obtain ⟨-, e1, e2, e3⟩ := outs_A m c ⟨0, hn⟩ rfl (by dsimp only; omega)
    rw [e1, e2, e3, (sums_step m c _ _ r k).1, (sums_step m c _ _ r k).2.1, (sums_step m c _ _ r k).2.2, pay5_at, pay6_at, pay7_at,
      Finset.sum_range_one, Finset.sum_range_one, Finset.sum_range_one]
    exact ⟨zero_add _, zero_add _, zero_add _⟩
  | n + 1, hn, h31 => by
    obtain ⟨-, e1, e2, e3⟩ := outs_B m c ⟨n + 1, hn⟩ (by dsimp only; omega) (by dsimp only; omega) (Nat.lt_of_succ_lt hn)
    obtain ⟨i1, i2, i3⟩ := sums_at r k n (Nat.lt_of_succ_lt hn) (by omega)
    rw [e1, e2, e3, (sums_step m c _ _ r k).1, (sums_step m c _ _ r k).2.1, (sums_step m c _ _ r k).2.2,
      Finset.sum_range_succ _ (n + 1), Finset.sum_range_succ _ (n + 1), Finset.sum_range_succ _ (n + 1)]
    exact ⟨congrArg (· + _) i1, congrArg (· + _) i2, congrArg (· + _) i3⟩

/-- The blocks point `n` writes back, whatever its case. -/
theorem blocks_of (n : ℕ) (hn : n < cfg0.N) : Blocks m c ⟨n, hn⟩
    ((outsAt0 m c n hn).1, (outsAt0 m c n hn).2.1, (outsAt0 m c n hn).2.2.1, (outsAt0 m c n hn).2.2.2.1) := by
  have hN : n < 32 := lt_of_lt_of_eq hn N_0
  by_cases h0 : n % 32 = 0
  · exact (outs_A m c ⟨n, hn⟩ h0 (by dsimp only; omega)).1
  · by_cases h1 : n % 32 = 31
    · exact (outs_C m c ⟨n, hn⟩ h0 h1 (by dsimp only; omega)).1
    · exact (outs_B m c ⟨n, hn⟩ h0 h1 (by dsimp only; omega)).1

theorem blocks_at (n : ℕ) (hn : n < cfg0.N) :
    let t : Fin cfg0.N := ⟨n, hn⟩
    (outsAt0 m c n hn).1 = stack (actP (iblk m c 0 t) (iblk m c 1 t))
    ∧ (outsAt0 m c n hn).2.1 = stack (bmP (iblk m c 0 t) (iblk m c 1 t) (iblk m c 2 t))
    ∧ (outsAt0 m c n hn).2.2.1 = stack (hmP (iblk m c 0 t) (iblk m c 1 t) (iblk m c 2 t))
    ∧ (outsAt0 m c n hn).2.2.2.1
      = dzB (iblk m c 0 t) (iblk m c 1 t) (iblk m c 2 t) (iblk m c 3 t) (iblk m c 4 t) (iblk m c 5 t) (iblk m c 6 t) :=
  blocks_of m c n hn

theorem totals_at (n : ℕ) (hn : n < cfg0.N) (h31 : n = 31) :
    (∀ k, (outsAt0 m c n hn).2.2.2.2.1 (ix2 0 k) = ∑ ρ : Fin 16384, gTerm m c k ρ)
    ∧ (∀ k, (outsAt0 m c n hn).2.2.2.2.2.1 (ix2 0 k) = ∑ ρ : Fin 16384, bTerm m c k ρ)
    ∧ (outsAt0 m c n hn).2.2.2.2.2.2.1 (ix2 0 0) = (∑ k : Fin 1024, ∑ ρ : Fin 16384, lTerm m c k ρ) * scale := by
  obtain ⟨-, e1, e2, e3⟩ := outs_C m c ⟨n, hn⟩ (by dsimp only; omega) (by dsimp only; omega) (by dsimp only; omega)
  dsimp only at e1 e2 e3
  have hs := fun r k => sums_at m c r k (n - 1) (by omega) (by omega)
  have ht := fun a r k => sums_step m c ⟨n, hn⟩ a r k
  have hl : ∀ f : ℕ → EReal, (∑ r : Fin 8, (∑ t ∈ Finset.range 31, ∑ i : Fin 64, f (t * 512 + i * 8 + r)
      + ∑ i : Fin 64, f (31 * 512 + i * 8 + r))) = ∑ ρ : Fin 16384, f ρ := fun f => by
    rw [← sum_points_rows 32 64 8 512 16384 rfl rfl]
    refine Finset.sum_congr rfl fun r _ => ?_
    rw [Finset.sum_range_succ _ 31]
  refine ⟨fun k => ?_, fun k => ?_, ?_⟩
  · rw [e1, pay2_at]
    simp only [(ht _ _ _).1, (hs _ _).1]
    subst h31
    exact hl (gTerm m c k)
  · rw [e2, pay3_at]
    simp only [(ht _ _ _).2.1, (hs _ _).2.1]
    subst h31
    exact hl (bTerm m c k)
  · rw [e3, pay4_at, Finset.sum_comm]
    simp only [(ht _ _ _).2.2, (hs _ _).2.2]
    subst h31
    exact congrArg (· * scale) (Finset.sum_congr rfl fun k _ => hl (lTerm m c k))

/-! ## The results -/

/-- The two column sums, and the loss. -/
def dgSum (k : Fin 1024) : EReal := ∑ ρ, er m c ρ k * rate * hat (z m c ρ) k
def dbSum (k : Fin 1024) : EReal := ∑ ρ, er m c ρ k * rate
def lossSum : EReal := (∑ k, ∑ ρ, er m c ρ k * er m c ρ k) * scale

section Results

variable (ρ : Fin 16384) (k : Fin 1024) (j : Fin 4) (f : Fin 704)

/-- Chunk and column of an entry of the three results that are kept by chunk. -/
theorem chunk_at (p : Fin 4 → Vec Ideal S1x512x704 .bf16) (r : Fin 512) : stack p (ix3 j r f) = p j (ix3 0 r f) := rfl

theorem act_at : (G7 m c : S4x16384x704.Idx → EReal) (ix3 j ρ f) = silu (gate m c ρ (col j f)) := by
  have hN : cfg0.N = 32 := N_0
  have hp : pt7Of (ix3 j ρ f) = ρ.val / 512 := by
    show 32 * (j.val / 4 - 0) + 1 * (ρ.val / 512 - 0) + 1 * (f.val / 704 - 0) = _; omega
  have hl : loc7Of (ix3 j ρ f) = ix3 j ⟨ρ.val % 512, Nat.mod_lt _ (by decide)⟩ f := by
    idx_ext
  have hr : ρ.val / 512 * 512 + ρ.val % 512 = ρ.val := by omega
  have hlt : pt7Of (ix3 j ρ f) < cfg0.N := by omega
  unfold G7
  rw [dif_pos hlt, ← outsAt0_sweep m c _ hlt, (blocks_at m c _ hlt).1, hl, chunk_at, actP_at, gate_row _ _ _ _ (by dsimp only; omega)]
  simp only [hp, hr]

theorem bm_at : (G8 m c : S4x16384x704.Idx → EReal) (ix3 j ρ f) = up m c ρ (col j f) * dsilu (gate m c ρ (col j f)) := by
  have hN : cfg0.N = 32 := N_0
  have hp : pt8Of (ix3 j ρ f) = ρ.val / 512 := by
    show 32 * (j.val / 4 - 0) + 1 * (ρ.val / 512 - 0) + 1 * (f.val / 704 - 0) = _; omega
  have hl : loc8Of (ix3 j ρ f) = ix3 j ⟨ρ.val % 512, Nat.mod_lt _ (by decide)⟩ f := by
    idx_ext
  have hr : ρ.val / 512 * 512 + ρ.val % 512 = ρ.val := by omega
  have hlt : pt8Of (ix3 j ρ f) < cfg0.N := by omega
  unfold G8
  rw [dif_pos hlt, ← outsAt0_sweep m c _ hlt, (blocks_at m c _ hlt).2.1, hl, chunk_at, bmP_at,
    gate_row _ _ _ _ (by dsimp only; omega), up_row _ _ _ _ (by dsimp only; omega)]
  simp only [hp, hr]

theorem hm_at : (G9 m c : S4x16384x704.Idx → EReal) (ix3 j ρ f) = silu (gate m c ρ (col j f)) * up m c ρ (col j f) := by
  have hN : cfg0.N = 32 := N_0
  have hp : pt9Of (ix3 j ρ f) = ρ.val / 512 := by
    show 32 * (j.val / 4 - 0) + 1 * (ρ.val / 512 - 0) + 1 * (f.val / 704 - 0) = _; omega
  have hl : loc9Of (ix3 j ρ f) = ix3 j ⟨ρ.val % 512, Nat.mod_lt _ (by decide)⟩ f := by
    idx_ext
  have hr : ρ.val / 512 * 512 + ρ.val % 512 = ρ.val := by omega
  have hlt : pt9Of (ix3 j ρ f) < cfg0.N := by omega
  unfold G9
  rw [dif_pos hlt, ← outsAt0_sweep m c _ hlt, (blocks_at m c _ hlt).2.2.1, hl, chunk_at, hmP_at,
    gate_row _ _ _ _ (by dsimp only; omega), up_row _ _ _ _ (by dsimp only; omega)]
  simp only [hp, hr]

theorem d_at : (G10 m c : S16384x1024.Idx → EReal) (ix2 ρ k) = lnBwd (fun i => er m c ρ i * rate * g m c i) (z m c ρ) k := by
  have hN : cfg0.N = 32 := N_0
  have hp : pt10Of (ix2 ρ k) = ρ.val / 512 := by show 1 * (ρ.val / 512 - 0) + 1 * (k.val / 1024 - 0) = _; omega
  have hl : loc10Of (ix2 ρ k) = ix2 ⟨ρ.val % 512, Nat.mod_lt _ (by decide)⟩ k := by
    idx_ext
  have hr : ρ.val / 512 * 512 + ρ.val % 512 = ρ.val := by omega
  have hlt : pt10Of (ix2 ρ k) < cfg0.N := by omega
  unfold G10
  rw [dif_pos hlt, ← outsAt0_sweep m c _ hlt, (blocks_at m c _ hlt).2.2.2, hl, dzB_at, z_row _ _ _ _ (by dsimp only; omega),
    y_row _ _ _ _ (by dsimp only; omega), g_vec, b_vec]
  simp only [hp, hr]; rfl

theorem dg_at : (G11 m c : S1x1024.Idx → EReal) (ix2 0 k) = dgSum m c k := by
  rw [G11_last, ← outsAt0_sweep m c _ (lt_of_lt_of_eq (by decide) N_0.symm), (totals_at m c _ _ rfl).1 k]
  show (∑ ρ : Fin 16384, gTerm m c k ρ) = dgSum m c k
  exact Finset.sum_congr rfl fun ρ _ => dif_pos ρ.isLt

theorem db_at : (G12 m c : S1x1024.Idx → EReal) (ix2 0 k) = dbSum m c k := by
  rw [G12_last, ← outsAt0_sweep m c _ (lt_of_lt_of_eq (by decide) N_0.symm), (totals_at m c _ _ rfl).2.1 k]
  show (∑ ρ : Fin 16384, bTerm m c k ρ) = dbSum m c k
  exact Finset.sum_congr rfl fun ρ _ => dif_pos ρ.isLt

theorem loss_at : (G13 m c : S1x1.Idx → EReal) (ix2 0 0) = lossSum m c := by
  rw [G13_last, ← outsAt0_sweep m c _ (lt_of_lt_of_eq (by decide) N_0.symm), (totals_at m c _ _ rfl).2.2]
  exact congrArg (· * scale) (Finset.sum_congr rfl fun k _ => Finset.sum_congr rfl fun ρ _ => dif_pos ρ.isLt)

end Results

end Cert.Loss

end
-- ==== Proof.LossRef.lean ====
/-
  The reference of the last feed-forward block with the loss: its results, entry by entry, as row functions of the
  arguments.
-/
module

public import proofs.«01_k».proof.Proof.Rows
public import proofs.«01_k».proof.Proof.Gen.Reference3Ideal.Read
public import Idealize.ShloMosaic.Lib.Pointwise
public import Idealize.ShloMosaic.Lib.ValueIdx

@[expose] public section

set_option maxRecDepth 16384

noncomputable section

namespace Cert.Loss.Ref

open Cert.Reference3Ideal Cert.Reference3Ideal.Read Idealize.ShloMosaic Idealize.ShloMosaic.TcCoe Cert.Rows

variable (x0 x6 : S16384x1024.Idx → EReal) (x1 x2 : S2x1024x2816.Idx → EReal) (x3 : S2x2816x1024.Idx → EReal)
  (x4 x5 : S1024.Idx → EReal)

def gate (ρ : Fin 16384) (e : Fin 2816) : EReal := ∑ k : Fin 1024, x0 (ix2 ρ k) * x1 (ix3 1 k e)

def z (ρ : Fin 16384) (k : Fin 1024) : EReal :=
  Ideal.ofBits .f32 0x3FB504F3#32 * x0 (ix2 ρ k)
    + ∑ e : Fin 2816, silu (gate x0 x1 ρ e) * gate x0 x2 ρ e * x3 (ix3 1 e k)

/-- A row's error. -/
def er (ρ : Fin 16384) (k : Fin 1024) : EReal :=
  hat (z x0 x1 x2 x3 ρ) k * x4 (ix1 k) + x5 (ix1 k) - x6 (ix2 ρ k)

/-- The gradient that reaches the normalized row. -/
def dy (ρ : Fin 16384) (k : Fin 1024) : EReal :=
  Ideal.div (Ideal.ofBits .f32 0x3F000000#32) ((1024 : ℝ) : EReal) * (((2 : ℝ) : EReal) * er x0 x6 x1 x2 x3 x4 x5 ρ k)

/-! ## The feed-forward block -/

theorem v2_at (ρ : Fin 16384) (e : Fin 2816) : val_main_v2 (F := Ideal) x0 x1 (ix2 ρ e) = gate x0 x1 ρ e := by
  unfold val_main_v2 val_main_v1 val_main_v0
  pointwise
  unfold gate
  refine Finset.sum_congr rfl fun k _ => congrArg (x0 (ix2 ρ k) * ·) (congrArg x1 ?_)
  idx_ext

theorem v5_at (ρ : Fin 16384) (e : Fin 2816) : val_main_v5 (F := Ideal) x0 x2 (ix2 ρ e) = gate x0 x2 ρ e := v2_at x0 x2 ρ e

theorem logistic_at (ρ : Fin 16384) (e : Fin 2816) :
    val_main_v6_2 (F := Ideal) x0 x1 (ix2 ρ e) = Ideal.logistic (gate x0 x1 ρ e) := by
  unfold val_main_v6_2 val_main_call0_v4 val_main_call0_v3 val_main_call0_v2 val_main_call0_v1 val_main_call0_v0
    val_main_call0_cst val_main_call0_cst_0
  pointwise
  rw [v2_at]; rfl

theorem v6_at (ρ : Fin 16384) (e : Fin 2816) : val_main_v6_0 (F := Ideal) x0 x1 (ix2 ρ e) = silu (gate x0 x1 ρ e) := by
  unfold val_main_v6_0
  pointwise
  rw [v2_at, logistic_at]; rfl

theorem v94_at (ρ : Fin 16384) (e : Fin 2816) : val_main_v94 (F := Ideal) x0 x1 x2 (ix2 ρ e)
    = gate x0 x2 ρ e * Ideal.logistic (gate x0 x1 ρ e)
      + gate x0 x1 ρ e * gate x0 x2 ρ e * (Ideal.logistic (gate x0 x1 ρ e) * (1 - Ideal.logistic (gate x0 x1 ρ e))) := by
  unfold val_main_v94 val_main_call1_v2 val_main_call1_v1 val_main_call1_v0 val_main_v6_1 val_main_call0_v7 val_main_call0_v6
    val_main_call0_cst_1
  pointwise
  rw [v2_at, v5_at, logistic_at]

theorem act_at (j : Fin 4) (ρ : Fin 16384) (f : Fin 704) (e : Fin 2816) (he : e.val = 704 * j.val + f.val) :
    val_main_v93 (F := Ideal) x0 x1 (ix3 j ρ f) = silu (gate x0 x1 ρ e) := by
  rw [← v6_at]
  unfold val_main_v93 val_main_v92 val_main_v91
  pointwise
  refine congrArg _ ?_
  idx_ext

theorem bm_at (j : Fin 4) (ρ : Fin 16384) (f : Fin 704) (e : Fin 2816) (he : e.val = 704 * j.val + f.val) :
    val_main_v97 (F := Ideal) x0 x1 x2 (ix3 j ρ f) = gate x0 x2 ρ e * Ideal.logistic (gate x0 x1 ρ e)
      + gate x0 x1 ρ e * gate x0 x2 ρ e * (Ideal.logistic (gate x0 x1 ρ e) * (1 - Ideal.logistic (gate x0 x1 ρ e))) := by
  rw [← v94_at]
  unfold val_main_v97 val_main_v96 val_main_v95
  pointwise
  refine congrArg _ ?_
  idx_ext

theorem hm_at (j : Fin 4) (ρ : Fin 16384) (f : Fin 704) (e : Fin 2816) (he : e.val = 704 * j.val + f.val) :
    val_main_v101 (F := Ideal) x0 x1 x2 (ix3 j ρ f) = silu (gate x0 x1 ρ e) * gate x0 x2 ρ e := by
  rw [← v6_at, ← v5_at]
  unfold val_main_v101 val_main_v100 val_main_v99 val_main_v98
  pointwise
  refine congr (congrArg _ (congrArg _ ?_)) (congrArg _ ?_)
  all_goals idx_ext

/-! ## The normalization and the loss -/

theorem v13_at (ρ : Fin 16384) (k : Fin 1024) : val_main_v13 (F := Ideal) x0 x1 x2 x3 (ix2 ρ k) = z x0 x1 x2 x3 ρ k := by
  unfold val_main_v13 val_main_v12 val_main_v11 val_main_v10 val_main_v9 val_main_v8 val_main_v7 val_main_cst
  pointwise
  unfold z
  refine congrArg (_ + ·) (Finset.sum_congr rfl fun e _ => ?_)
  rw [v6_at, v5_at]

theorem v19_at (ρ : Fin 16384) (k : Fin 1024) :
    val_main_v19 (F := Ideal) x0 x1 x2 x3 (ix2 ρ k) = cen (z x0 x1 x2 x3 ρ) k := by
  unfold val_main_v19 val_main_v18 val_main_v17 val_main_v16 val_main_v15 val_main_v14 val_main_cst_1 val_main_cst_0
  pointwise
  simp only [v13_at, ofBits_1024]; rfl

theorem v28_at (ρ : Fin 16384) (k : Fin 1024) :
    val_main_v28 (F := Ideal) x0 x1 x2 x3 (ix2 ρ k) = cen (z x0 x1 x2 x3 ρ) k := v19_at x0 x1 x2 x3 ρ k

theorem v26_at (ρ : Fin 16384) : val_main_v26 (F := Ideal) x0 x1 x2 x3 (ix2 ρ 0) = var (z x0 x1 x2 x3 ρ) := by
  unfold val_main_v26 val_main_v25 val_main_v24 val_main_v23 val_main_v20 val_main_cst_3 val_main_cst_4
  pointwise
  simp only [v19_at, ofBits_1024]; rfl

theorem v31_at (ρ : Fin 16384) : val_main_v31 (F := Ideal) x0 x1 x2 x3 (ix2 ρ 0) = rstd (z x0 x1 x2 x3 ρ) := by
  unfold val_main_v31 val_main_v30 val_main_v29 val_main_cst_5
  pointwise
  rw [v26_at, ofBits_eps]; rfl

theorem v34_at (ρ : Fin 16384) : val_main_v34 (F := Ideal) x0 x1 x2 x3 (ix2 ρ 0)
    = ((-(1 / 2) : ℝ) : EReal) * Ideal.div (rstd (z x0 x1 x2 x3 ρ)) (var (z x0 x1 x2 x3 ρ) + eps) := by
  unfold val_main_v34 val_main_v33 val_main_v32 val_main_v30 val_main_v29 val_main_cst_5 val_main_cst_6
  pointwise
  rw [v31_at, v26_at, ofBits_eps, ofBits_neg_half]

theorem v36_at (ρ : Fin 16384) (k : Fin 1024) :
    val_main_v36 (F := Ideal) x0 x1 x2 x3 (ix2 ρ k) = hat (z x0 x1 x2 x3 ρ) k := by
  unfold val_main_v36 val_main_v35
  pointwise
  rw [v28_at, v31_at]; rfl

theorem v43_at (ρ : Fin 16384) (k : Fin 1024) :
    val_main_v43 (F := Ideal) x0 x1 x2 x3 x4 x5 x6 (ix2 ρ k) = er x0 x6 x1 x2 x3 x4 x5 ρ k := by
  unfold val_main_v43 val_main_v42 val_main_v41 val_main_v40 val_main_v39 val_main_v38 val_main_v37
  pointwise
  rw [v36_at]; rfl

theorem loss_at : val_main_v104 (F := Ideal) x0 x1 x2 x3 x4 x5 x6 (ix2 0 0) = Ideal.ofBits .f32 0x3F000000#32
    * ∑ ρ, Ideal.div (∑ k, er x0 x6 x1 x2 x3 x4 x5 ρ k * er x0 x6 x1 x2 x3 x4 x5 ρ k) ((1024 : ℝ) : EReal) := by
  unfold val_main_v104 val_main_v51 val_main_v50 val_main_v49 val_main_v48 val_main_v47 val_main_v44 val_main_cst_11 val_main_cst_10
    val_main_cst_9 val_main_cst_8
  pointwise
  simp only [v43_at, ofBits_1024]

theorem v57_at (ρ : Fin 16384) (k : Fin 1024) :
    val_main_v57 (F := Ideal) x0 x1 x2 x3 x4 x5 x6 (ix2 ρ k) = dy x0 x6 x1 x2 x3 x4 x5 ρ k := by
  unfold val_main_v57 val_main_v56 val_main_v55 val_main_v54 val_main_v53 val_main_v52 val_main_v46 val_main_v45 val_main_cst_7
    val_main_cst_12 val_main_cst_13 val_main_cst_14
  pointwise
  rw [v43_at, ofBits_1024, ofBits_two]; rfl

theorem db_at (k : Fin 1024) : val_main_v103 (F := Ideal) x0 x1 x2 x3 x4 x5 x6 (ix2 0 k) = ∑ ρ, dy x0 x6 x1 x2 x3 x4 x5 ρ k := by
  unfold val_main_v103 val_main_v60 val_main_v59 val_main_v58 val_main_cst_15 val_main_cst_16
  pointwise
  simp only [v57_at, Fin.sum_univ_one]

theorem dg_at (k : Fin 1024) : val_main_v102 (F := Ideal) x0 x1 x2 x3 x4 x5 x6 (ix2 0 k)
    = ∑ ρ, hat (z x0 x1 x2 x3 ρ) k * dy x0 x6 x1 x2 x3 x4 x5 ρ k := by
  unfold val_main_v102 val_main_v66 val_main_v63 val_main_v62 val_main_v61 val_main_cst_17 val_main_cst_18
  pointwise
  simp only [v57_at, v36_at, Fin.sum_univ_one]

theorem v65_at (ρ : Fin 16384) (k : Fin 1024) : val_main_v65 (F := Ideal) x0 x1 x2 x3 x4 x5 x6 (ix2 ρ k)
    = dy x0 x6 x1 x2 x3 x4 x5 ρ k * x4 (ix1 k) := by
  unfold val_main_v65 val_main_v64 val_main_v37
  pointwise
  rw [v57_at]

theorem v71_at (ρ : Fin 16384) (k : Fin 1024) : val_main_v71 (F := Ideal) x0 x1 x2 x3 x4 x5 x6 (ix2 ρ k)
    = dy x0 x6 x1 x2 x3 x4 x5 ρ k * x4 (ix1 k) * rstd (z x0 x1 x2 x3 ρ) := by
  unfold val_main_v71 val_main_v70
  pointwise
  rw [v65_at, v31_at]

theorem v80_at (ρ : Fin 16384) (k : Fin 1024) : val_main_v80 (F := Ideal) x0 x1 x2 x3 x4 x5 x6 (ix2 ρ k)
    = viaVar (fun j => dy x0 x6 x1 x2 x3 x4 x5 ρ j * x4 (ix1 j)) (z x0 x1 x2 x3 ρ) k := by
  unfold val_main_v80 val_main_v79 val_main_v78 val_main_v77 val_main_v76 val_main_v72 val_main_v69 val_main_v68 val_main_v67
    val_main_v22 val_main_v21 val_main_cst_2 val_main_cst_19 val_main_cst_21 val_main_cst_22
  pointwise
  simp only [Fin.sum_univ_one, v28_at, v65_at, v34_at, v19_at, ofBits_1024, ofBits_two]
  rfl

theorem d_at (ρ : Fin 16384) (k : Fin 1024) : val_main_v90 (F := Ideal) x0 x1 x2 x3 x4 x5 x6 (ix2 ρ k)
    = lnVjp (fun j => dy x0 x6 x1 x2 x3 x4 x5 ρ j * x4 (ix1 j)) (z x0 x1 x2 x3 ρ) k := by
  unfold val_main_v90 val_main_v89 val_main_v88 val_main_v87 val_main_v86 val_main_v85 val_main_v84 val_main_v83 val_main_v82
    val_main_v81 val_main_v75 val_main_v74 val_main_v73 val_main_cst_20 val_main_cst_23 val_main_cst_24 val_main_cst_25
  pointwise
  simp only [Fin.sum_univ_one, v71_at, v80_at, ofBits_1024]
  rfl

end Cert.Loss.Ref

end
-- ==== Proof.Loss.lean ====
/-
  The last feed-forward block with the loss: the kernel's results are the reference's.
-/
module

public import proofs.«01_k».proof.Defs
public import proofs.«01_k».proof.Proof.LossGrid
public import proofs.«01_k».proof.Proof.LossRef
public import proofs.«01_k».proof.Proof.Gen.Reference3Ideal.Run
public import proofs.«01_k».proof.Proof.Gen.Pre_finite3

@[expose] public section

set_option maxRecDepth 16384

noncomputable section

namespace Cert.Loss

open Idealize.ShloMosaic Idealize.ShloMosaic.TcCoe Idealize.SL.Sem Cert.Rows

/-! ## What the precondition gives -/

section Finite

variable {x0 x6 : Kernel3Ideal.S16384x1024.Idx → EReal} {x1 x2 : Kernel3Ideal.S2x1024x2816.Idx → EReal}
  {x3 : Kernel3Ideal.S2x2816x1024.Idx → EReal} {x4 x5 : Kernel3Ideal.S1024.Idx → EReal}

theorem fin_arg0 (h : (Pre_finite3.fn (F := Ideal) x0 x1 x2 x3 x4 x5 x6).1 = fun _ => 1#1) (ρ : Fin 16384) (k : Fin 1024) :
    Fin' (x0 (ix2 ρ k)) := by
  have := congrFun h (ix2 ρ k)
  revert this
  unfold Pre_finite3.fn
  pointwise
  exact fin_of_abs_lt

theorem fin_arg2 (h : (Pre_finite3.fn (F := Ideal) x0 x1 x2 x3 x4 x5 x6).2.1 = fun _ => 1#1) (k : Fin 1024) (e : Fin 2816) :
    Fin' (x2 (ix3 1 k e)) := by
  have := congrFun h (ix3 1 k e)
  revert this
  unfold Pre_finite3.fn
  pointwise
  exact fin_of_abs_lt

theorem fin_arg4 (h : (Pre_finite3.fn (F := Ideal) x0 x1 x2 x3 x4 x5 x6).2.2.1 = fun _ => 1#1) (k : Fin 1024) : Fin' (x4 (ix1 k)) := by
  have := congrFun h (ix1 k)
  revert this
  unfold Pre_finite3.fn
  pointwise
  exact fin_of_abs_lt

theorem fin_arg5 (h : (Pre_finite3.fn (F := Ideal) x0 x1 x2 x3 x4 x5 x6).2.2.2.1 = fun _ => 1#1) (k : Fin 1024) : Fin' (x5 (ix1 k)) := by
  have := congrFun h (ix1 k)
  revert this
  unfold Pre_finite3.fn
  pointwise
  exact fin_of_abs_lt

theorem fin_arg6 (h : (Pre_finite3.fn (F := Ideal) x0 x1 x2 x3 x4 x5 x6).2.2.2.2 = fun _ => 1#1) (ρ : Fin 16384) (k : Fin 1024) :
    Fin' (x6 (ix2 ρ k)) := by
  have := congrFun h (ix2 ρ k)
  revert this
  unfold Pre_finite3.fn
  pointwise
  exact fin_of_abs_lt

end Finite

/-! ## The factors -/

theorem ofBits_half : Ideal.ofBits .f32 0x3F000000#32 = ((1 / 2 : ℝ) : EReal) := by
  simp [Ideal.ofBits, Ideal.ieee, ← EReal.coe_mul]; norm_num [zpow_neg]

theorem rate_eq : rate = ((1 / 1024 : ℝ) : EReal) := by
  simp [rate, Ideal.ofBits, Ideal.ieee, ← EReal.coe_mul]; norm_num [zpow_neg]

theorem scale_eq : scale = ((1 / 2048 : ℝ) : EReal) := by
  simp [scale, Ideal.ofBits, Ideal.ieee, ← EReal.coe_mul]; norm_num [zpow_neg]

/-- The reference's gradient of half a mean square is the kernel's. -/
theorem dy_eq {e : EReal} (he : Fin' e) :
    Ideal.div (Ideal.ofBits .f32 0x3F000000#32) ((1024 : ℝ) : EReal) * (((2 : ℝ) : EReal) * e) = e * rate := by
  obtain ⟨a, rfl⟩ := he
  rw [ofBits_half, rate_eq, Ideal.div_coe (by norm_num)]
  simp only [← EReal.coe_mul]
  congr 1; ring

/-- Half the sum of the rows' mean squares is the sum of all squares, scaled. -/
theorem half_mean (e : Fin 16384 → Fin 1024 → EReal) (he : ∀ ρ k, Fin' (e ρ k)) :
    Ideal.ofBits .f32 0x3F000000#32 * ∑ ρ, Ideal.div (∑ k, e ρ k * e ρ k) ((1024 : ℝ) : EReal) = (∑ k, ∑ ρ, e ρ k * e ρ k) * scale := by
  choose r hr using he
  obtain rfl : e = fun ρ k => (r ρ k : EReal) := funext fun ρ => funext fun k => hr ρ k
  rw [Finset.sum_comm (f := fun k ρ => ((r ρ k : EReal)) * (r ρ k : EReal)), ofBits_half, scale_eq]
  simp only [← EReal.coe_mul, ← coe_sum, Ideal.div_coe (show (1024 : ℝ) ≠ 0 by norm_num)]
  rw [← Finset.sum_mul]
  generalize (∑ ρ, ∑ k, r ρ k * r ρ k) = t
  refine congrArg _ ?_
  ring

/-! ## The results agree -/

section Agree

open Cert.Kernel3Ideal (nD τ sig main_arg0 main_arg1 main_arg2 main_arg3 main_arg4 main_arg5 main_arg6)
open Cert.Reference3Ideal.Read

variable (m : (ℓ : Loc nD τ sig) → Buf (Elt Ideal) ℓ) (c : Dev nD)

theorem act_eq : val_main_v93 (F := Ideal) (arr0 m c) (arr1 m c) = Cert.Kernel3Ideal.Value.G7 m c := funext fun i => by
  obtain ⟨j, ρ, f, rfl⟩ : ∃ (j : Fin 4) (ρ : Fin 16384) (f : Fin 704), i = ix3 j ρ f := ⟨i 0, i 1, i 2, eq_ix3 i⟩
  exact (Ref.act_at (arr0 m c) (arr1 m c) j ρ f (col j f) rfl).trans (act_at m c ρ j f).symm

theorem hm_eq : val_main_v101 (F := Ideal) (arr0 m c) (arr1 m c) (arr2 m c) = Cert.Kernel3Ideal.Value.G9 m c := funext fun i => by
  obtain ⟨j, ρ, f, rfl⟩ : ∃ (j : Fin 4) (ρ : Fin 16384) (f : Fin 704), i = ix3 j ρ f := ⟨i 0, i 1, i 2, eq_ix3 i⟩
  exact (Ref.hm_at (arr0 m c) (arr1 m c) (arr2 m c) j ρ f (col j f) rfl).trans (hm_at m c ρ j f).symm

theorem bm_eq (hu : ∀ ρ e, Fin' (up m c ρ e)) :
    val_main_v97 (F := Ideal) (arr0 m c) (arr1 m c) (arr2 m c) = Cert.Kernel3Ideal.Value.G8 m c := funext fun i => by
  obtain ⟨j, ρ, f, rfl⟩ : ∃ (j : Fin 4) (ρ : Fin 16384) (f : Fin 704), i = ix3 j ρ f := ⟨i 0, i 1, i 2, eq_ix3 i⟩
  exact (Ref.bm_at (arr0 m c) (arr1 m c) (arr2 m c) j ρ f (col j f) rfl).trans
    ((silu_vjp _ _ (hu ρ (col j f))).trans (bm_at m c ρ j f).symm)

variable (he : ∀ ρ k, Fin' (er m c ρ k))
include he

theorem loss_eq : val_main_v104 (F := Ideal) (arr0 m c) (arr1 m c) (arr2 m c) (arr3 m c) (arr4 m c) (arr5 m c) (arr6 m c)
    = Cert.Kernel3Ideal.Value.G13 m c := funext fun i => by
  obtain rfl : i = ix2 0 0 := by idx_ext
  exact (Ref.loss_at (arr0 m c) (arr6 m c) (arr1 m c) (arr2 m c) (arr3 m c) (arr4 m c) (arr5 m c)).trans
    ((half_mean (er m c) he).trans (loss_at m c).symm)

theorem dyr_eq (ρ : Fin 16384) (k : Fin 1024) :
    Ref.dy (arr0 m c) (arr6 m c) (arr1 m c) (arr2 m c) (arr3 m c) (arr4 m c) (arr5 m c) ρ k = er m c ρ k * rate := dy_eq (he ρ k)

theorem b_eq : val_main_v103 (F := Ideal) (arr0 m c) (arr1 m c) (arr2 m c) (arr3 m c) (arr4 m c) (arr5 m c) (arr6 m c)
    = Cert.Kernel3Ideal.Value.G12 m c := funext fun i => by
  obtain ⟨k, rfl⟩ : ∃ k : Fin 1024, i = ix2 0 k := ⟨i 1, by idx_ext⟩
  refine (Ref.db_at (arr0 m c) (arr6 m c) (arr1 m c) (arr2 m c) (arr3 m c) (arr4 m c) (arr5 m c) k).trans (Eq.trans ?_ (db_at m c k).symm)
  exact Finset.sum_congr rfl fun ρ _ => dyr_eq m c he ρ k

theorem g_eq : val_main_v102 (F := Ideal) (arr0 m c) (arr1 m c) (arr2 m c) (arr3 m c) (arr4 m c) (arr5 m c) (arr6 m c)
    = Cert.Kernel3Ideal.Value.G11 m c := funext fun i => by
  obtain ⟨k, rfl⟩ : ∃ k : Fin 1024, i = ix2 0 k := ⟨i 1, by idx_ext⟩
  refine (Ref.dg_at (arr0 m c) (arr6 m c) (arr1 m c) (arr2 m c) (arr3 m c) (arr4 m c) (arr5 m c) k).trans (Eq.trans ?_ (dg_at m c k).symm)
  exact Finset.sum_congr rfl fun ρ _ => (congrArg (_ * ·) (dyr_eq m c he ρ k)).trans (mul_comm _ _)

theorem d_eq (hg : ∀ k, Fin' (g m c k)) :
    val_main_v90 (F := Ideal) (arr0 m c) (arr1 m c) (arr2 m c) (arr3 m c) (arr4 m c) (arr5 m c) (arr6 m c)
      = Cert.Kernel3Ideal.Value.G10 m c := funext fun i => by
  obtain ⟨ρ, k, rfl⟩ : ∃ (ρ : Fin 16384) (k : Fin 1024), i = ix2 ρ k := ⟨i 0, i 1, eq_ix2 i⟩
  refine (Ref.d_at (arr0 m c) (arr6 m c) (arr1 m c) (arr2 m c) (arr3 m c) (arr4 m c) (arr5 m c) ρ k).trans
    (Eq.trans ?_ (d_at m c ρ k).symm)
  simp only [dyr_eq m c he]
  exact (lnBwd_eq_lnVjp _ _ (fun k => ((he ρ k).mul ⟨_, rate_eq⟩).mul (hg k)) _).symm

end Agree

/-! ## The claims -/

theorem frame_reference : Cert.quiescent_Reference3Ideal := fun m ρ _ =>
  (θ_run _ _ _).mono (fun r h => ⟨fun c => (h c).2.2.2.2.2.2.2, sem_eq_zero_of_no_sems rfl r.2⟩) (Cert.Reference3Ideal.Value.run m ρ)

theorem fin_er (m : (ℓ : Loc Kernel3Ideal.nD Kernel3Ideal.τ Kernel3Ideal.sig) → Buf (Elt Ideal) ℓ) (c : Dev Kernel3Ideal.nD)
    (hg : ∀ k, Fin' (g m c k)) (hb : ∀ k, Fin' (b m c k)) (hy : ∀ ρ k, Fin' (y m c ρ k)) (ρ : Fin 16384) (k : Fin 1024) :
    Fin' (er m c ρ k) := (((fin_hat _ k).mul (hg k)).add (hb k)).sub (hy ρ k)

theorem algebraic : Cert.algebraic_Kernel3Ideal_Reference3Ideal_pre_finite3 := fun m ρ m' ρ' hp ha =>
  ⟨fun c => Cert.Kernel3Ideal.Value.G7 m c, fun c => Cert.Kernel3Ideal.Value.G8 m c, fun c => Cert.Kernel3Ideal.Value.G9 m c,
    fun c => Cert.Kernel3Ideal.Value.G10 m c, fun c => Cert.Kernel3Ideal.Value.G11 m c, fun c => Cert.Kernel3Ideal.Value.G12 m c,
    fun c => Cert.Kernel3Ideal.Value.G13 m c, Cert.Kernel3Ideal.Value.run m ρ,
    (θ_run _ _ _).mono (fun r h c => by
      obtain ⟨a0, a1, a2, a3, a4, a5, a6⟩ := ha c
      obtain ⟨p0, p2, p4, p5, p6⟩ := hp c
      have hg : ∀ k, Fin' (g m c k) := fin_arg4 p4
      have hu : ∀ ρ e, Fin' (up m c ρ e) := fun ρ e => fin_sum _ fun k _ => (fin_arg0 p0 ρ k).mul (fin_arg2 p2 k e)
      have he := fin_er m c hg (fin_arg5 p5) (fin_arg6 p6)
      obtain ⟨h0, h1, h2, h3, h4, h5, h6, hk⟩ := h c
      exact ⟨(h0.trans (Cert.Reference3Ideal.Read.val_main_v93_eq _)).trans
          ((congr (congrArg Cert.Reference3Ideal.Read.val_main_v93 a0) a1).trans (act_eq m c)),
        (h1.trans (Cert.Reference3Ideal.Read.val_main_v97_eq _)).trans
          ((congr (congr (congrArg Cert.Reference3Ideal.Read.val_main_v97 a0) a1) a2).trans (bm_eq m c hu)),
        (h2.trans (Cert.Reference3Ideal.Read.val_main_v101_eq _)).trans
          ((congr (congr (congrArg Cert.Reference3Ideal.Read.val_main_v101 a0) a1) a2).trans (hm_eq m c)),
        (h3.trans (Cert.Reference3Ideal.Read.val_main_v90_eq _)).trans
          ((congr (congr (congr (congr (congr (congr (congrArg Cert.Reference3Ideal.Read.val_main_v90 a0) a1) a2) a3) a4) a5) a6).trans (d_eq m c he hg)),
        (h4.trans (Cert.Reference3Ideal.Read.val_main_v102_eq _)).trans
          ((congr (congr (congr (congr (congr (congr (congrArg Cert.Reference3Ideal.Read.val_main_v102 a0) a1) a2) a3) a4) a5) a6).trans (g_eq m c he)),
        (h5.trans (Cert.Reference3Ideal.Read.val_main_v103_eq _)).trans
          ((congr (congr (congr (congr (congr (congr (congrArg Cert.Reference3Ideal.Read.val_main_v103 a0) a1) a2) a3) a4) a5) a6).trans (b_eq m c he)),
        (h6.trans (Cert.Reference3Ideal.Read.val_main_v104_eq _)).trans
          ((congr (congr (congr (congr (congr (congr (congrArg Cert.Reference3Ideal.Read.val_main_v104 a0) a1) a2) a3) a4) a5) a6).trans (loss_eq m c he)), hk⟩)
      (Cert.Reference3Ideal.Value.run m' ρ')⟩

end Cert.Loss

end
-- ==== Proof.LayerBody.lean ====
/-
  The gradient of a feed-forward block and the normalization before it: what one grid point's vectors hold, entry by
  entry, as the row functions of Rows.lean.  The chunks of the weights and the stacks of chunks are LossBody.lean's.
-/
module

public import proofs.«01_k».proof.Proof.LossBody
public import proofs.«01_k».proof.Proof.Gen.Kernel4Ideal.Value

@[expose] public section

set_option maxRecDepth 16384

noncomputable section

namespace Cert.Layer

open Cert.Kernel4Ideal Cert.Kernel4Ideal.Gen Idealize.ShloMosaic Idealize.ShloMosaic.TcCoe Cert.Rows
open Cert.Loss (cols rows cols_at rows_at inb_chunk stack canon_stack root2 row vec)

/-- One of the four chunks of a saved value. -/
def chunk (w : Vec Ideal S4x512x704 .bf16) (j : Fin 4) : Vec Ideal S1x512x704 .bf16 :=
  View.ld w (Rect.unit ![j.val, 0, 0] S1x512x704.size (inb_chunk j))

theorem chunk_at (w : Vec Ideal S4x512x704 .bf16) (j : Fin 4) (r : Fin 512) (f : Fin 704) :
    chunk w j (ix3 0 r f) = w (ix3 j r f) := by
  refine View.ld_unit_apply_of _ _ _ _ _ _ fun a => ?_
  fin_cases a
  · show j.val = j.val + 0; omega
  · show r.val = 0 + r.val; omega
  · show f.val = 0 + f.val; omega

section Point

variable (d : Vec Ideal S512x1024 .f32) (ac bm : Vec Ideal S4x512x704 .bf16) (wg wu : Vec Ideal S4x1x1024x704 .bf16)
  (wd : Vec Ideal S4x1x704x1024 .bf16) (z : Vec Ideal S512x1024 .f32) (g : Vec Ideal S1x1024 .f32)

/-- The gradient of an entry of the hidden row. -/
def dh (j : Fin 4) (r : Fin 512) (f : Fin 704) : EReal := ∑ k : Fin 1024, d (ix2 r k) * wd (ix4 j 0 f k)

theorem pay12_at (j : Fin 4) (r : Fin 512) (f : Fin 704) : k0_pay12 d (rows wd j) (ix2 r f) = dh d wd j r f := by
  unfold k0_pay12 k0_pay10
  pointwise
  simp only [rows_at]; rfl

theorem pay13_at (w : Vec Ideal S4x512x704 .bf16) (j : Fin 4) (r : Fin 512) (f : Fin 704) :
    k0_pay13 d (rows wd j) (chunk w j) (ix2 r f) = dh d wd j r f * w (ix3 j r f) := by
  unfold k0_pay13
  pointwise
  rw [pay12_at, chunk_at]

theorem pay14_at (w : Vec Ideal S4x512x704 .bf16) (j : Fin 4) (r : Fin 512) (f : Fin 704) :
    k0_pay14 d (rows wd j) (chunk w j) (ix2 r f) = dh d wd j r f * w (ix3 j r f) := pay13_at d wd w j r f

/-- The gradients of the gate and up products, by chunk. -/
def gateP (j : Fin 4) : Vec Ideal S1x512x704 .bf16 := k0_pay15 d (rows wd j) (chunk bm j)
def upP (j : Fin 4) : Vec Ideal S1x512x704 .bf16 := k0_pay16 d (rows wd j) (chunk ac j)

theorem gateP_at (j : Fin 4) (r : Fin 512) (f : Fin 704) : gateP d bm wd j (ix3 0 r f) = dh d wd j r f * bm (ix3 j r f) := by
  unfold gateP k0_pay15
  pointwise
  rw [pay13_at]

theorem upP_at (j : Fin 4) (r : Fin 512) (f : Fin 704) : upP d ac wd j (ix3 0 r f) = dh d wd j r f * ac (ix3 j r f) := by
  unfold upP k0_pay16
  pointwise
  rw [pay14_at]

/-- The gradient that reaches the feed-forward block's input, chunk after chunk. -/
def acc1 : Vec Ideal S512x1024 .f32 :=
  k0_pay23 (k0_pay10 d) (k0_pay11 d) (k0_pay14 d (rows wd 0) (chunk ac 0)) (k0_pay17 d (rows wd 0) (chunk bm 0) (cols wg 0)) (cols wu 0)
    (rows wd 1) (chunk bm 1) (cols wg 1)
def acc2 : Vec Ideal S512x1024 .f32 :=
  k0_pay29 (k0_pay10 d) (k0_pay20 (k0_pay10 d) (rows wd 1) (chunk ac 1)) (acc1 d ac bm wg wu wd) (cols wu 1) (rows wd 2) (chunk bm 2) (cols wg 2)
def tot : Vec Ideal S512x1024 .f32 :=
  k0_pay36 (k0_pay10 d) (k0_pay26 (k0_pay10 d) (rows wd 2) (chunk ac 2)) (acc2 d ac bm wg wu wd) (k0_pay30 (cols wu 2))
    (constant S512x1024 .f32 0x00000000#32) (rows wd 3) (chunk bm 3) (chunk ac 3) (cols wg 3) (cols wu 3)

/-- One chunk's part of that gradient, through one of the two products. -/
def part (w : Vec Ideal S4x512x704 .bf16) (v : Vec Ideal S4x1x1024x704 .bf16) (j : Fin 4) (r : Fin 512) (k : Fin 1024) : EReal :=
  ∑ f : Fin 704, dh d wd j r f * w (ix3 j r f) * v (ix4 j 0 k f)

theorem pay19_at (j : Fin 4) (r : Fin 512) (f : Fin 704) :
    k0_pay19 (k0_pay10 d) (rows wd j) (chunk bm j) (ix2 r f) = dh d wd j r f * bm (ix3 j r f) := pay13_at d wd bm j r f
theorem pay20_at (j : Fin 4) (r : Fin 512) (f : Fin 704) :
    k0_pay20 (k0_pay10 d) (rows wd j) (chunk ac j) (ix2 r f) = dh d wd j r f * ac (ix3 j r f) := pay13_at d wd ac j r f
theorem pay25_at (j : Fin 4) (r : Fin 512) (f : Fin 704) :
    k0_pay25 (k0_pay10 d) (rows wd j) (chunk bm j) (ix2 r f) = dh d wd j r f * bm (ix3 j r f) := pay13_at d wd bm j r f
theorem pay26_at (j : Fin 4) (r : Fin 512) (f : Fin 704) :
    k0_pay26 (k0_pay10 d) (rows wd j) (chunk ac j) (ix2 r f) = dh d wd j r f * ac (ix3 j r f) := pay13_at d wd ac j r f
theorem pay32_at (j : Fin 4) (r : Fin 512) (f : Fin 704) :
    k0_pay32 (k0_pay10 d) (rows wd j) (chunk bm j) (ix2 r f) = dh d wd j r f * bm (ix3 j r f) := pay13_at d wd bm j r f
theorem pay33_at (j : Fin 4) (r : Fin 512) (f : Fin 704) :
    k0_pay33 (k0_pay10 d) (rows wd j) (chunk ac j) (ix2 r f) = dh d wd j r f * ac (ix3 j r f) := pay13_at d wd ac j r f

theorem pay17_at (r : Fin 512) (k : Fin 1024) :
    k0_pay17 d (rows wd 0) (chunk bm 0) (cols wg 0) (ix2 r k) = part d wd bm wg 0 r k := by
  unfold k0_pay17
  pointwise
  simp only [pay13_at, cols_at]; rfl

theorem pay11_at (r : Fin 512) (k : Fin 1024) : k0_pay11 d (ix2 r k) = root2 * d (ix2 r k) := by
  unfold k0_pay11
  pointwise
  rfl

theorem acc1_at (r : Fin 512) (k : Fin 1024) : acc1 d ac bm wg wu wd (ix2 r k)
    = root2 * d (ix2 r k) + part d wd bm wg 0 r k + part d wd ac wu 0 r k + part d wd bm wg 1 r k := by
  unfold acc1 k0_pay23
  pointwise
  simp only [pay17_at, pay11_at, pay14_at, pay19_at, cols_at]; rfl

theorem acc2_at (r : Fin 512) (k : Fin 1024) : acc2 d ac bm wg wu wd (ix2 r k)
    = acc1 d ac bm wg wu wd (ix2 r k) + part d wd ac wu 1 r k + part d wd bm wg 2 r k := by
  unfold acc2 k0_pay29
  pointwise
  simp only [pay20_at, pay25_at, cols_at]; rfl

/-- The gradient that reaches the block's input. -/
def drow (r : Fin 512) (k : Fin 1024) : EReal :=
  root2 * d (ix2 r k) + ∑ j : Fin 4, (part d wd bm wg j r k + part d wd ac wu j r k)

theorem tot_at (r : Fin 512) (k : Fin 1024) : tot d ac bm wg wu wd (ix2 r k) = drow d ac bm wg wu wd r k := by
  have e : tot d ac bm wg wu wd (ix2 r k) = acc2 d ac bm wg wu wd (ix2 r k) + part d wd ac wu 2 r k + part d wd bm wg 3 r k
      + part d wd ac wu 3 r k := by
    unfold tot k0_pay36 k0_pay30
    pointwise
    simp only [pay26_at, pay32_at, pay33_at, cols_at]; rfl
  rw [e, acc2_at, acc1_at]
  unfold drow
  rw [Fin.sum_univ_four]
  simp only [add_assoc]

theorem pay37_at (r : Fin 512) (k : Fin 1024) : k0_pay37 z (ix2 r k) = cen (row z r) k := by
  unfold k0_pay37
  pointwise
  rw [ofBits_1024]; rfl

theorem pay38_at (r : Fin 512) : k0_pay38 z (ix2 r 0) = rstd (row z r) := by
  unfold k0_pay38
  pointwise
  simp only [pay37_at, ofBits_1024, ofBits_eps]; rfl

theorem pay39_at (r : Fin 512) (k : Fin 1024) : k0_pay39 z (ix2 r k) = hat (row z r) k := by
  unfold k0_pay39
  pointwise
  rw [pay37_at, pay38_at]; rfl

/-- The gradient of the normalized row's input, and the running sums' next contents. -/
def drB : Vec Ideal S512x1024 .f32 := k0_pay40 (tot d ac bm wg wu wd) z g
def gB (a : Vec Ideal S8x1024 .f32) : Vec Ideal S8x1024 .f32 := k0_pay1 (k0_pay41 (tot d ac bm wg wu wd) z a)
def bB (a : Vec Ideal S8x1024 .f32) : Vec Ideal S8x1024 .f32 := k0_pay2 (tot d ac bm wg wu wd) a
def oB (a : Vec Ideal S8x1024 .f32) : Vec Ideal S8x1024 .f32 := k0_pay3 (drB d ac bm wg wu wd z g) a

theorem drB_at (r : Fin 512) (k : Fin 1024) : drB d ac bm wg wu wd z g (ix2 r k)
    = lnBwd (fun i => drow d ac bm wg wu wd r i * vec g i) (row z r) k := by
  unfold drB k0_pay40
  pointwise
  simp only [tot_at, pay38_at, pay39_at, ofBits_1024]; rfl

theorem gB_at (a : Vec Ideal S8x1024 .f32) (r : Fin 8) (k : Fin 1024) : gB d ac bm wg wu wd z a (ix2 r k) = a (ix2 r k) + ∑ i : Fin 64,
      drow d ac bm wg wu wd ⟨i * 8 + r, by omega⟩ k * hat (row z ⟨i * 8 + r, by omega⟩) k := by
  unfold gB k0_pay1 k0_pay41
  pointwise
  simp only [tot_at, pay39_at]

theorem bB_at (a : Vec Ideal S8x1024 .f32) (r : Fin 8) (k : Fin 1024) : bB d ac bm wg wu wd a (ix2 r k) = a (ix2 r k) + ∑ i : Fin 64,
      drow d ac bm wg wu wd ⟨i * 8 + r, by omega⟩ k := by
  unfold bB k0_pay2
  pointwise
  simp only [tot_at]

theorem oB_at (a : Vec Ideal S8x1024 .f32) (r : Fin 8) (k : Fin 1024) : oB d ac bm wg wu wd z g a (ix2 r k) = a (ix2 r k) + ∑ i : Fin 64,
      lnBwd (fun e => drow d ac bm wg wu wd ⟨i * 8 + r, by omega⟩ e * vec g e) (row z ⟨i * 8 + r, by omega⟩) k := by
  unfold oB k0_pay3
  pointwise
  simp only [drB_at]

theorem pay4_at (a : Vec Ideal S8x1024 .f32) (k : Fin 1024) : k0_pay4 a (ix2 0 k) = ∑ r : Fin 8, a (ix2 r k) := by
  unfold k0_pay4
  pointwise

theorem pay5_at (a : Vec Ideal S8x1024 .f32) (k : Fin 1024) : k0_pay5 a (ix2 0 k) = ∑ r : Fin 8, a (ix2 r k) := by
  unfold k0_pay5
  pointwise

theorem pay6_at (a : Vec Ideal S8x1024 .f32) (k : Fin 1024) : k0_pay6 a (ix2 0 k) = ∑ r : Fin 8, a (ix2 r k) := by
  unfold k0_pay6
  pointwise

theorem pay7_at (r : Fin 8) (k : Fin 1024) : k0_pay7 (F := Ideal) (ix2 r k) = 0 := by
  unfold k0_pay7
  pointwise

theorem pay8_at (r : Fin 8) (k : Fin 1024) : k0_pay8 (F := Ideal) (ix2 r k) = 0 := by
  unfold k0_pay8
  pointwise

theorem pay9_at (r : Fin 8) (k : Fin 1024) : k0_pay9 (F := Ideal) (ix2 r k) = 0 := by
  unfold k0_pay9
  pointwise

end Point

end Cert.Layer

end
-- ==== Proof.LayerRun.lean ====
/-
  The gradient of a feed-forward block and the normalization before it: what a grid point leaves, by its case, and the
  blocks it reads.
-/
module

public import proofs.«01_k».proof.Proof.LayerBody
public import Idealize.ShloMosaic.Lib.StableHlo.ReadAt

@[expose] public section

set_option maxRecDepth 16384

noncomputable section

namespace Cert.Layer

open Cert.Kernel4Ideal Cert.Kernel4Ideal.Gen Cert.Kernel4Ideal.Value Idealize.ShloMosaic Idealize.ShloMosaic.TcCoe Cert.Rows
open Cert.Loss (stack canon_stack rows cols)

variable (m : (ℓ : Loc nD τ sig) → Buf (Elt Ideal) ℓ) (c : Dev nD)

/-! ## The chunks, as the four stores and loads spell them -/

theorem ld_rows (w : Vec Ideal S4x1x704x1024 .bf16) (j : Fin 4) (n : ℕ) (hj : n = j.val)
    (h : ∀ a, (![n, 0, 0, 0] : Fin 4 → ℕ) a + (![1, 1, 704, 1024] : Fin 4 → ℕ) a ≤ S4x1x704x1024.size a) :
    (View.ld w (Rect.unit ![n, 0, 0, 0] ![1, 1, 704, 1024] h) : Vec Ideal S1x1x704x1024 .bf16) = rows w j := by
  subst hj; rfl

theorem ld_cols (w : Vec Ideal S4x1x1024x704 .bf16) (j : Fin 4) (n : ℕ) (hj : n = j.val)
    (h : ∀ a, (![n, 0, 0, 0] : Fin 4 → ℕ) a + (![1, 1, 1024, 704] : Fin 4 → ℕ) a ≤ S4x1x1024x704.size a) :
    (View.ld w (Rect.unit ![n, 0, 0, 0] ![1, 1, 1024, 704] h) : Vec Ideal S1x1x1024x704 .bf16) = cols w j := by
  subst hj; rfl

theorem ld_chunk (w : Vec Ideal S4x512x704 .bf16) (j : Fin 4) (n : ℕ) (hj : n = j.val)
    (h : ∀ a, (![n, 0, 0] : Fin 3 → ℕ) a + (![1, 512, 704] : Fin 3 → ℕ) a ≤ S4x512x704.size a) :
    (View.ld w (Rect.unit ![n, 0, 0] ![1, 512, 704] h) : Vec Ideal S1x512x704 .bf16) = chunk w j := by
  subst hj; rfl

theorem chunk_gate (d : Vec Ideal S512x1024 .f32) (v : Vec Ideal S1x1x704x1024 .bf16) (w : Vec Ideal S1x512x704 .bf16) :
    k0_pay21 (k0_pay10 d) v w = k0_pay15 d v w ∧ k0_pay27 (k0_pay10 d) v w = k0_pay15 d v w ∧ k0_pay34 (k0_pay10 d) v w = k0_pay15 d v w :=
  ⟨rfl, rfl, rfl⟩

theorem chunk_up (d : Vec Ideal S512x1024 .f32) (v : Vec Ideal S1x1x704x1024 .bf16) (w : Vec Ideal S1x512x704 .bf16) :
    k0_pay22 (k0_pay10 d) v w = k0_pay16 d v w ∧ k0_pay28 (k0_pay10 d) v w = k0_pay16 d v w ∧ k0_pay35 (k0_pay10 d) v w = k0_pay16 d v w :=
  ⟨rfl, rfl, rfl⟩

/-! ## What a grid point leaves, by its case -/

section Case

theorem hz : (![0, 0] : Fin 2 → Nat) = fun _ => 0 := funext fun a => by fin_cases a <;> rfl

variable (t : Fin cfg0.N)

/-- What every point writes back: the two stacks of chunks and the gradient. -/
def Blocks (o : Vec Ideal S4x512x704 .bf16 × Vec Ideal S4x512x704 .bf16 × Vec Ideal S512x1024 .f32) : Prop :=
  o.1 = stack (gateP (iblk m c 0 t) (iblk m c 2 t) (iblk m c 5 t))
    ∧ o.2.1 = stack (upP (iblk m c 0 t) (iblk m c 1 t) (iblk m c 5 t))
    ∧ o.2.2 = drB (iblk m c 0 t) (iblk m c 1 t) (iblk m c 2 t) (iblk m c 3 t) (iblk m c 4 t) (iblk m c 5 t) (iblk m c 6 t) (iblk m c 7 t)

def gN (a : Vec Ideal S8x1024 .f32) : Vec Ideal S8x1024 .f32 :=
  gB (iblk m c 0 t) (iblk m c 1 t) (iblk m c 2 t) (iblk m c 3 t) (iblk m c 4 t) (iblk m c 5 t) (iblk m c 6 t) a
def bN (a : Vec Ideal S8x1024 .f32) : Vec Ideal S8x1024 .f32 :=
  bB (iblk m c 0 t) (iblk m c 1 t) (iblk m c 2 t) (iblk m c 3 t) (iblk m c 4 t) (iblk m c 5 t) a
def oN (a : Vec Ideal S8x1024 .f32) : Vec Ideal S8x1024 .f32 :=
  oB (iblk m c 0 t) (iblk m c 1 t) (iblk m c 2 t) (iblk m c 3 t) (iblk m c 4 t) (iblk m c 5 t) (iblk m c 6 t) (iblk m c 7 t) a

theorem outs_A (h0 : t.val % 32 = 0) (h1 : ¬t.val % 32 = 31) :
    let o := outsAt0 m c t.val t.isLt
    Blocks m c t (o.1, o.2.1, o.2.2.1) ∧ o.2.2.2.2.2.2.1 = gN m c t (k0_pay7 (F := Ideal))
      ∧ o.2.2.2.2.2.2.2.1 = bN m c t (k0_pay8 (F := Ideal)) ∧ o.2.2.2.2.2.2.2.2 = oN m c t (k0_pay9 (F := Ideal)) := by
  intro o
  subst o
  rw [outsAt0_A m c t h0 h1]
  unfold Blocks
  dsimp only
  refine ⟨⟨(View.read_writes_eq_canon _ _ _ (by intro y; apply cover0_A_8)).trans (Eq.trans ?_ (canon_stack _)),
    (View.read_writes_eq_canon _ _ _ (by intro y; apply cover0_A_9)).trans (Eq.trans ?_ (canon_stack _)),
    (View.read_writes_eq_canon _ _ _ (by intro y; apply cover0_A_10)).trans ?_⟩,
    (View.read_writes_eq_canon _ _ _ (by intro y; apply scover0_A_0)).trans ?_,
    (View.read_writes_eq_canon _ _ _ (by intro y; apply scover0_A_1)).trans ?_,
    (View.read_writes_eq_canon _ _ _ (by intro y; apply scover0_A_2)).trans ?_⟩
  all_goals
    unfold kernelRun0_A
    dsimp only
    sl_unfold_words
    try first | rw [View.canon_unit_zero hz] | rw [View.canon_cons_unit_zero (S := S8x1024) hz]
    simp only [View.readCov_unit_zero (S := S8x1024) _ hz, View.readAt_eq_ld, Memref.IsWhole.read_unread, View.ld_unit_zero (S := S512x1024) hz,
      View.ld_unit_zero (S := S1x1024) hz, View.ld_unit_zero (S := S8x1024) hz, shapeCast_self]
    try simp only [ld_rows _ 0 0 rfl, ld_rows _ 1 1 rfl, ld_rows _ 2 2 rfl, ld_rows _ 3 3 rfl, ld_cols _ 0 0 rfl, ld_cols _ 1 1 rfl, ld_cols _ 2 2 rfl, ld_cols _ 3 3 rfl, ld_chunk _ 0 0 rfl, ld_chunk _ 1 1 rfl, ld_chunk _ 2 2 rfl, ld_chunk _ 3 3 rfl,
      chunk_gate, chunk_up]
  all_goals rfl

theorem outs_B (h0 : ¬t.val % 32 = 0) (h1 : ¬t.val % 32 = 31) (hp : t.val - 1 < cfg0.N) :
    let o := outsAt0 m c t.val t.isLt
    let p := outsAt0 m c (t.val - 1) hp
    Blocks m c t (o.1, o.2.1, o.2.2.1) ∧ o.2.2.2.2.2.2.1 = gN m c t p.2.2.2.2.2.2.1
      ∧ o.2.2.2.2.2.2.2.1 = bN m c t p.2.2.2.2.2.2.2.1 ∧ o.2.2.2.2.2.2.2.2 = oN m c t p.2.2.2.2.2.2.2.2 := by
  intro o p
  subst o p
  rw [outsAt0_B m c t h0 h1]
  unfold Blocks
  dsimp only
  refine ⟨⟨(View.read_writes_eq_canon _ _ _ (by intro y; apply cover0_B_8)).trans (Eq.trans ?_ (canon_stack _)),
    (View.read_writes_eq_canon _ _ _ (by intro y; apply cover0_B_9)).trans (Eq.trans ?_ (canon_stack _)),
    (View.read_writes_eq_canon _ _ _ (by intro y; apply cover0_B_10)).trans ?_⟩,
    (View.read_writes_eq_canon _ _ _ (by intro y; apply scover0_B_0)).trans ?_,
    (View.read_writes_eq_canon _ _ _ (by intro y; apply scover0_B_1)).trans ?_,
    (View.read_writes_eq_canon _ _ _ (by intro y; apply scover0_B_2)).trans ?_⟩
  all_goals
    unfold kernelRun0_B
    dsimp only
    sl_unfold_words
    try rw [View.canon_unit_zero hz]
    simp only [View.readAt_eq_ld, Memref.IsWhole.read_unread, View.ld_unit_zero (S := S512x1024) hz,
      View.ld_unit_zero (S := S1x1024) hz, View.ld_unit_zero (S := S8x1024) hz, shapeCast_self]
    try simp only [ld_rows _ 0 0 rfl, ld_rows _ 1 1 rfl, ld_rows _ 2 2 rfl, ld_rows _ 3 3 rfl, ld_cols _ 0 0 rfl, ld_cols _ 1 1 rfl, ld_cols _ 2 2 rfl, ld_cols _ 3 3 rfl, ld_chunk _ 0 0 rfl, ld_chunk _ 1 1 rfl, ld_chunk _ 2 2 rfl, ld_chunk _ 3 3 rfl,
      chunk_gate, chunk_up]
  exacts [rfl, rfl, rfl, congrArg (gN m c t) (Memref.IsWhole.read_unread (Memref.isWhole_whole _) _),
    congrArg (bN m c t) (Memref.IsWhole.read_unread (Memref.isWhole_whole _) _),
    congrArg (oN m c t) (Memref.IsWhole.read_unread (Memref.isWhole_whole _) _)]

theorem outs_C (h0 : ¬t.val % 32 = 0) (h1 : t.val % 32 = 31) (hp : t.val - 1 < cfg0.N) :
    let o := outsAt0 m c t.val t.isLt
    let p := outsAt0 m c (t.val - 1) hp
    Blocks m c t (o.1, o.2.1, o.2.2.1) ∧ o.2.2.2.1 = k0_pay4 (gN m c t p.2.2.2.2.2.2.1)
      ∧ o.2.2.2.2.1 = k0_pay5 (bN m c t p.2.2.2.2.2.2.2.1) ∧ o.2.2.2.2.2.1 = k0_pay6 (oN m c t p.2.2.2.2.2.2.2.2) := by
  intro o p
  subst o p
  rw [outsAt0_C m c t h0 h1]
  unfold Blocks
  dsimp only
  refine ⟨⟨(View.read_writes_eq_canon _ _ _ (by intro y; apply cover0_C_8)).trans (Eq.trans ?_ (canon_stack _)),
    (View.read_writes_eq_canon _ _ _ (by intro y; apply cover0_C_9)).trans (Eq.trans ?_ (canon_stack _)),
    (View.read_writes_eq_canon _ _ _ (by intro y; apply cover0_C_10)).trans ?_⟩,
    (View.read_writes_eq_canon _ _ _ (by intro y; apply cover0_C_11)).trans ?_,
    (View.read_writes_eq_canon _ _ _ (by intro y; apply cover0_C_12)).trans ?_,
    (View.read_writes_eq_canon _ _ _ (by intro y; apply cover0_C_13)).trans ?_⟩
  all_goals
    unfold kernelRun0_C
    dsimp only
    sl_unfold_words
    try rw [View.canon_unit_zero hz]
    simp only [View.readCov_unit_zero (S := S8x1024) _ hz, View.readAt_eq_ld, Memref.IsWhole.read_unread, View.ld_unit_zero (S := S512x1024) hz,
      View.ld_unit_zero (S := S1x1024) hz, View.ld_unit_zero (S := S8x1024) hz, shapeCast_self]
    try simp only [ld_rows _ 0 0 rfl, ld_rows _ 1 1 rfl, ld_rows _ 2 2 rfl, ld_rows _ 3 3 rfl, ld_cols _ 0 0 rfl, ld_cols _ 1 1 rfl, ld_cols _ 2 2 rfl, ld_cols _ 3 3 rfl, ld_chunk _ 0 0 rfl, ld_chunk _ 1 1 rfl, ld_chunk _ 2 2 rfl, ld_chunk _ 3 3 rfl,
      chunk_gate, chunk_up]
  exacts [rfl, rfl, rfl, congrArg (fun a => k0_pay4 (gN m c t a)) (Memref.IsWhole.read_unread (Memref.isWhole_whole _) _),
    congrArg (fun a => k0_pay5 (bN m c t a)) (Memref.IsWhole.read_unread (Memref.isWhole_whole _) _),
    congrArg (fun a => k0_pay6 (oN m c t a)) (Memref.IsWhole.read_unread (Memref.isWhole_whole _) _)]

end Case

end Cert.Layer

end
-- ==== Proof.LayerHost.lean ====
/-
  The gradient of a feed-forward block and the normalization before it: the blocks a grid
  point reads, as entries of the arguments and of the saved values the host prepares.
-/
module

public import proofs.«01_k».proof.Proof.LayerRun
public import proofs.«01_k».proof.Proof.LossGrid
public import Idealize.ShloMosaic.Lib.StableHlo.ReadAt

@[expose] public section

set_option maxRecDepth 16384

noncomputable section

namespace Cert.Layer

open Cert.Kernel4Ideal Cert.Kernel4Ideal.Gen Cert.Kernel4Ideal.Value Idealize.ShloMosaic Idealize.ShloMosaic.TcCoe Cert.Rows
open Cert.Loss (col sum_cols)

variable (m : (ℓ : Loc nD τ sig) → Buf (Elt Ideal) ℓ) (c : Dev nD)

abbrev arr0 : S16384x1024.Idx → EReal := m ((c : Thread nD τ).loc main_arg0)
abbrev arr1 : S1024.Idx → EReal := m ((c : Thread nD τ).loc main_arg1)
abbrev arr2 : S1024.Idx → EReal := m ((c : Thread nD τ).loc main_arg2)
abbrev arr3 : S1024.Idx → EReal := m ((c : Thread nD τ).loc main_arg3)
abbrev arr4 : S2x1024x2816.Idx → EReal := m ((c : Thread nD τ).loc main_arg4)
abbrev arr5 : S2x1024x2816.Idx → EReal := m ((c : Thread nD τ).loc main_arg5)
abbrev arr6 : S2x2816x1024.Idx → EReal := m ((c : Thread nD τ).loc main_arg6)
abbrev arr7 : S16384x1024.Idx → EReal := m ((c : Thread nD τ).loc main_arg7)

/-! ## The rows -/

/-- The row that is normalized, and the normalized row. -/
def z (ρ : Fin 16384) (k : Fin 1024) : EReal := arr0 m c (ix2 ρ k) + arr1 m c (ix1 k)
def x (ρ : Fin 16384) (k : Fin 1024) : EReal := hat (z m c ρ) k * arr2 m c (ix1 k) + arr3 m c (ix1 k)

/-- The entries of its gate and up products. -/
def gate (ρ : Fin 16384) (e : Fin 2816) : EReal := ∑ k : Fin 1024, x m c ρ k * arr4 m c (ix3 1 k e)
def up (ρ : Fin 16384) (e : Fin 2816) : EReal := ∑ k : Fin 1024, x m c ρ k * arr5 m c (ix3 1 k e)

/-! ## The saved values -/

theorem z_host (ρ : Fin 16384) (k : Fin 1024) : (V m c main_v2 : S16384x1024.Idx → EReal) (ix2 ρ k) = z m c ρ k := by
  unfold V; after_reads_at
  rfl

theorem col_eq (j : Fin 4) (f : Fin 704) (h : j.val * 704 + f.val < 2816) : (⟨j.val * 704 + f.val, h⟩ : Fin 2816) = col j f :=
  Fin.ext (by show j.val * 704 + f.val = 704 * j.val + f.val; omega)

theorem act_host (j : Fin 4) (ρ : Fin 16384) (f : Fin 704) :
    (V m c main_v42 : S4x16384x704.Idx → EReal) (ix3 j ρ f) = silu (gate m c ρ (col j f)) := by
  unfold V; after_reads_at
  simp only [ofBits_1024, ofBits_eps, col_eq]; rfl

theorem bm_host (j : Fin 4) (ρ : Fin 16384) (f : Fin 704) :
    (V m c main_v52 : S4x16384x704.Idx → EReal) (ix3 j ρ f) = up m c ρ (col j f) * dsilu (gate m c ρ (col j f)) := by
  unfold V; after_reads_at
  simp only [ofBits_1024, ofBits_eps, col_eq]; rfl

/-! ## The weights -/

theorem wg_host (j : Fin 4) (d : Fin 2) (k : Fin 1024) (f : Fin 704) :
    (V m c main_v55 : S4x2x1024x704.Idx → EReal) (ix4 j d k f) = arr4 m c (ix3 d k (col j f)) := by
  unfold V; after_reads_at
  refine congrArg (arr4 m c) ?_
  unfold col
  idx_ext

theorem wu_host (j : Fin 4) (d : Fin 2) (k : Fin 1024) (f : Fin 704) :
    (V m c main_v58 : S4x2x1024x704.Idx → EReal) (ix4 j d k f) = arr5 m c (ix3 d k (col j f)) := by
  unfold V; after_reads_at
  refine congrArg (arr5 m c) ?_
  unfold col
  idx_ext

theorem wd_host (j : Fin 4) (d : Fin 2) (f : Fin 704) (k : Fin 1024) :
    (V m c main_v61 : S4x2x704x1024.Idx → EReal) (ix4 j d f k) = arr6 m c (ix3 d (col j f) k) := by
  unfold V; after_reads_at
  refine congrArg (arr6 m c) ?_
  unfold col
  idx_ext

theorem g_host (k : Fin 1024) : (V m c main_v62 : S1x1024.Idx → EReal) (ix2 0 k) = arr2 m c (ix1 k) := by
  unfold V; after_reads_at

/-! ## The blocks -/

theorem idx_rows (t : Fin cfg0.N) : (win0_0.index t 0 = t.val ∧ win0_0.index t 1 = 0)
    ∧ (win0_6.index t 0 = t.val ∧ win0_6.index t 1 = 0) ∧ win0_7.index t 0 = 0 ∧ win0_7.index t 1 = 0 := by
  revert t; decide +kernel

theorem idx_saved (t : Fin cfg0.N) : (win0_1.index t 0 = 0 ∧ win0_1.index t 1 = t.val ∧ win0_1.index t 2 = 0)
    ∧ win0_2.index t 0 = 0 ∧ win0_2.index t 1 = t.val ∧ win0_2.index t 2 = 0 := by
  revert t; decide +kernel

theorem idx_chunks (t : Fin cfg0.N) : (win0_3.index t 0 = 0 ∧ win0_3.index t 1 = 1 ∧ win0_3.index t 2 = 0 ∧ win0_3.index t 3 = 0)
    ∧ (win0_4.index t 0 = 0 ∧ win0_4.index t 1 = 1 ∧ win0_4.index t 2 = 0 ∧ win0_4.index t 3 = 0)
    ∧ win0_5.index t 0 = 0 ∧ win0_5.index t 1 = 1 ∧ win0_5.index t 2 = 0 ∧ win0_5.index t 3 = 0 := by
  revert t; decide +kernel

theorem d_blk (t : Fin cfg0.N) (r : Fin 512) (k : Fin 1024) (h : t.val * 512 + r < 16384) :
    (iblk m c 0 t : Vec Ideal S512x1024 .f32) (ix2 r k) = arr7 m c (ix2 ⟨t.val * 512 + r, h⟩ k) := by
  have := idx_rows t
  blk_ext [iblk, V, this]

theorem z_blk (t : Fin cfg0.N) (r : Fin 512) (k : Fin 1024) (h : t.val * 512 + r < 16384) :
    (iblk m c 6 t : Vec Ideal S512x1024 .f32) (ix2 r k) = z m c ⟨t.val * 512 + r, h⟩ k := by
  have := idx_rows t
  refine Eq.trans ?_ (z_host m c _ k)
  blk_ext [iblk, this]

theorem g_blk (t : Fin cfg0.N) (k : Fin 1024) : (iblk m c 7 t : Vec Ideal S1x1024 .f32) (ix2 0 k) = arr2 m c (ix1 k) := by
  have := idx_rows t
  refine Eq.trans ?_ (g_host m c k)
  blk_ext [iblk, this]

theorem act_blk (t : Fin cfg0.N) (j : Fin 4) (r : Fin 512) (f : Fin 704) (h : t.val * 512 + r < 16384) :
    (iblk m c 1 t : Vec Ideal S4x512x704 .bf16) (ix3 j r f) = silu (gate m c ⟨t.val * 512 + r, h⟩ (col j f)) := by
  have := idx_saved t
  refine Eq.trans ?_ (act_host m c j _ f)
  blk_ext [iblk, this]

theorem bm_blk (t : Fin cfg0.N) (j : Fin 4) (r : Fin 512) (f : Fin 704) (h : t.val * 512 + r < 16384) :
    (iblk m c 2 t : Vec Ideal S4x512x704 .bf16) (ix3 j r f)
      = up m c ⟨t.val * 512 + r, h⟩ (col j f) * dsilu (gate m c ⟨t.val * 512 + r, h⟩ (col j f)) := by
  have := idx_saved t
  refine Eq.trans ?_ (bm_host m c j _ f)
  blk_ext [iblk, this]

theorem wg_blk (t : Fin cfg0.N) (j : Fin 4) (k : Fin 1024) (f : Fin 704) :
    (iblk m c 3 t : Vec Ideal S4x1x1024x704 .bf16) (ix4 j 0 k f) = arr4 m c (ix3 1 k (col j f)) := by
  have := idx_chunks t
  refine Eq.trans ?_ (wg_host m c j 1 k f)
  blk_ext [iblk, this]

theorem wu_blk (t : Fin cfg0.N) (j : Fin 4) (k : Fin 1024) (f : Fin 704) :
    (iblk m c 4 t : Vec Ideal S4x1x1024x704 .bf16) (ix4 j 0 k f) = arr5 m c (ix3 1 k (col j f)) := by
  have := idx_chunks t
  refine Eq.trans ?_ (wu_host m c j 1 k f)
  blk_ext [iblk, this]

theorem wd_blk (t : Fin cfg0.N) (j : Fin 4) (f : Fin 704) (k : Fin 1024) :
    (iblk m c 5 t : Vec Ideal S4x1x704x1024 .bf16) (ix4 j 0 f k) = arr6 m c (ix3 1 (col j f) k) := by
  have := idx_chunks t
  refine Eq.trans ?_ (wd_host m c j 1 f k)
  blk_ext [iblk, this]

end Cert.Layer

end
-- ==== Proof.LayerGrid.lean ====
/-
  The gradient of a feed-forward block and the normalization before it: what the whole grid leaves in the six results, as
  row functions of the arguments.
-/
module

public import proofs.«01_k».proof.Proof.LayerHost

@[expose] public section

set_option maxRecDepth 16384

noncomputable section

namespace Cert.Layer

open Cert.Kernel4Ideal Cert.Kernel4Ideal.Gen Cert.Kernel4Ideal.Value Idealize.ShloMosaic Idealize.ShloMosaic.TcCoe Cert.Rows
open Cert.Loss (stack col sum_cols root2 row vec)

variable (m : (ℓ : Loc nD τ sig) → Buf (Elt Ideal) ℓ) (c : Dev nD)

/-! ## The gradients of a row -/

/-- Of the hidden row, and of the gate and up products. -/
def hid (ρ : Fin 16384) (e : Fin 2816) : EReal := ∑ k : Fin 1024, arr7 m c (ix2 ρ k) * arr6 m c (ix3 1 e k)
def dgate (ρ : Fin 16384) (e : Fin 2816) : EReal := hid m c ρ e * (up m c ρ e * dsilu (gate m c ρ e))
def dup (ρ : Fin 16384) (e : Fin 2816) : EReal := hid m c ρ e * silu (gate m c ρ e)

/-- Of the normalized row: through the residual and through the two products. -/
def dx (ρ : Fin 16384) (k : Fin 1024) : EReal :=
  root2 * arr7 m c (ix2 ρ k) + ∑ e : Fin 2816, (dgate m c ρ e * arr4 m c (ix3 1 k e) + dup m c ρ e * arr5 m c (ix3 1 k e))

def g : Fin 1024 → EReal := fun k => arr2 m c (ix1 k)

/-- Of the row that is normalized. -/
def dr (ρ : Fin 16384) (k : Fin 1024) : EReal := lnBwd (fun i => dx m c ρ i * g m c i) (z m c ρ) k

section Blocks

variable (t : Fin cfg0.N) (r : Fin 512) (h : t.val * 512 + r < 16384)
include h

theorem dh_row (j : Fin 4) (f : Fin 704) : dh (iblk m c 0 t) (iblk m c 5 t) j r f = hid m c ⟨t.val * 512 + r, h⟩ (col j f) := by
  unfold dh hid
  refine Finset.sum_congr rfl fun k _ => ?_
  rw [d_blk m c t r k h, wd_blk]

theorem drow_row : drow (iblk m c 0 t) (iblk m c 1 t) (iblk m c 2 t) (iblk m c 3 t) (iblk m c 4 t) (iblk m c 5 t) r
    = dx m c ⟨t.val * 512 + r, h⟩ := funext fun k => by
  unfold drow dx part
  rw [d_blk m c t r k h, sum_cols]
  simp only [dh_row m c t r h, act_blk m c t _ r _ h, bm_blk m c t _ r _ h, wg_blk, wu_blk, ← Finset.sum_add_distrib]
  rfl

theorem z_row : row (iblk m c 6 t) r = z m c ⟨t.val * 512 + r, h⟩ := funext fun k => z_blk m c t r k h
omit h in
theorem g_vec : vec (iblk m c 7 t) = g m c := funext fun k => g_blk m c t k

end Blocks

/-- The summands of the three running sums, one row at a time; rows past the end are zero. -/
def gTerm (k : Fin 1024) (n : ℕ) : EReal := if h : n < 16384 then dx m c ⟨n, h⟩ k * hat (z m c ⟨n, h⟩) k else 0
def bTerm (k : Fin 1024) (n : ℕ) : EReal := if h : n < 16384 then dx m c ⟨n, h⟩ k else 0
def oTerm (k : Fin 1024) (n : ℕ) : EReal := if h : n < 16384 then dr m c ⟨n, h⟩ k else 0

theorem sums_step (t : Fin cfg0.N) (a : Vec Ideal S8x1024 .f32) (r : Fin 8) (k : Fin 1024) :
    gN m c t a (ix2 r k) = a (ix2 r k) + ∑ i : Fin 64, gTerm m c k (t.val * 512 + i * 8 + r)
    ∧ bN m c t a (ix2 r k) = a (ix2 r k) + ∑ i : Fin 64, bTerm m c k (t.val * 512 + i * 8 + r)
    ∧ oN m c t a (ix2 r k) = a (ix2 r k) + ∑ i : Fin 64, oTerm m c k (t.val * 512 + i * 8 + r) := by
  have hN : t.val < 32 := lt_of_lt_of_eq t.isLt N_0
  unfold gN bN oN
  rw [gB_at, bB_at, oB_at]
  refine ⟨?_, ?_, ?_⟩
  all_goals
    refine congrArg _ (Finset.sum_congr rfl fun i _ => ?_)
    have h : t.val * 512 + (i.val * 8 + r.val) < 16384 := by omega
    rw [drow_row m c t ⟨i.val * 8 + r.val, by omega⟩ h]
    try rw [z_row m c t ⟨i.val * 8 + r.val, by omega⟩ h]
    try simp only [show ∀ e, vec (iblk m c 7 t) e = g m c e from congrFun (g_vec m c t)]
    first | unfold gTerm | unfold bTerm | unfold oTerm
    rw [dif_pos (by omega)]
    simp only [Nat.add_assoc]; try rfl

/-! ## The grid -/

/-- What the three running sums hold after point `n`, for every point but the last. -/
theorem sums_at (r : Fin 8) (k : Fin 1024) : ∀ (n : ℕ) (hn : n < cfg0.N), n < 31 →
    (outsAt0 m c n hn).2.2.2.2.2.2.1 (ix2 r k) = ∑ t ∈ Finset.range (n + 1), ∑ i : Fin 64, gTerm m c k (t * 512 + i * 8 + r)
    ∧ (outsAt0 m c n hn).2.2.2.2.2.2.2.1 (ix2 r k) = ∑ t ∈ Finset.range (n + 1), ∑ i : Fin 64, bTerm m c k (t * 512 + i * 8 + r)
    ∧ (outsAt0 m c n hn).2.2.2.2.2.2.2.2 (ix2 r k) = ∑ t ∈ Finset.range (n + 1), ∑ i : Fin 64, oTerm m c k (t * 512 + i * 8 + r)
  | 0, hn, _ => by
    obtain ⟨-, e1, e2, e3⟩ := outs_A m c ⟨0, hn⟩ rfl (by dsimp only; omega)
    rw [e1, e2, e3, (sums_step m c _ _ r k).1, (sums_step m c _ _ r k).2.1, (sums_step m c _ _ r k).2.2, pay7_at, pay8_at, pay9_at,
      Finset.sum_range_one, Finset.sum_range_one, Finset.sum_range_one]
    exact ⟨zero_add _, zero_add _, zero_add _⟩
  | n + 1, hn, h31 => by
    obtain ⟨-, e1, e2, e3⟩ := outs_B m c ⟨n + 1, hn⟩ (by dsimp only; omega) (by dsimp only; omega) (Nat.lt_of_succ_lt hn)
    obtain ⟨i1, i2, i3⟩ := sums_at r k n (Nat.lt_of_succ_lt hn) (by omega)
    rw [e1, e2, e3, (sums_step m c _ _ r k).1, (sums_step m c _ _ r k).2.1, (sums_step m c _ _ r k).2.2,
      Finset.sum_range_succ _ (n + 1), Finset.sum_range_succ _ (n + 1), Finset.sum_range_succ _ (n + 1)]
    exact ⟨congrArg (· + _) i1, congrArg (· + _) i2, congrArg (· + _) i3⟩

/-- The blocks point `n` writes back, whatever its case. -/
theorem blocks_of (n : ℕ) (hn : n < cfg0.N) :
    Blocks m c ⟨n, hn⟩ ((outsAt0 m c n hn).1, (outsAt0 m c n hn).2.1, (outsAt0 m c n hn).2.2.1) := by
  have hN : n < 32 := lt_of_lt_of_eq hn N_0
  by_cases h0 : n % 32 = 0
  · exact (outs_A m c ⟨n, hn⟩ h0 (by dsimp only; omega)).1
  · by_cases h1 : n % 32 = 31
    · exact (outs_C m c ⟨n, hn⟩ h0 h1 (by dsimp only; omega)).1
    · exact (outs_B m c ⟨n, hn⟩ h0 h1 (by dsimp only; omega)).1

theorem blocks_at (n : ℕ) (hn : n < cfg0.N) :
    let t : Fin cfg0.N := ⟨n, hn⟩
    (outsAt0 m c n hn).1 = stack (gateP (iblk m c 0 t) (iblk m c 2 t) (iblk m c 5 t))
    ∧ (outsAt0 m c n hn).2.1 = stack (upP (iblk m c 0 t) (iblk m c 1 t) (iblk m c 5 t))
    ∧ (outsAt0 m c n hn).2.2.1
      = drB (iblk m c 0 t) (iblk m c 1 t) (iblk m c 2 t) (iblk m c 3 t) (iblk m c 4 t) (iblk m c 5 t) (iblk m c 6 t) (iblk m c 7 t) :=
  blocks_of m c n hn

theorem totals_at (n : ℕ) (hn : n < cfg0.N) (h31 : n = 31) :
    (∀ k, (outsAt0 m c n hn).2.2.2.1 (ix2 0 k) = ∑ ρ : Fin 16384, gTerm m c k ρ)
    ∧ (∀ k, (outsAt0 m c n hn).2.2.2.2.1 (ix2 0 k) = ∑ ρ : Fin 16384, bTerm m c k ρ)
    ∧ ∀ k, (outsAt0 m c n hn).2.2.2.2.2.1 (ix2 0 k) = ∑ ρ : Fin 16384, oTerm m c k ρ := by
  obtain ⟨-, e1, e2, e3⟩ := outs_C m c ⟨n, hn⟩ (by dsimp only; omega) (by dsimp only; omega) (by dsimp only; omega)
  dsimp only at e1 e2 e3
  have hs := fun r k => sums_at m c r k (n - 1) (by omega) (by omega)
  have ht := fun a r k => sums_step m c ⟨n, hn⟩ a r k
  have hl : ∀ f : ℕ → EReal, (∑ r : Fin 8, (∑ t ∈ Finset.range 31, ∑ i : Fin 64, f (t * 512 + i * 8 + r)
      + ∑ i : Fin 64, f (31 * 512 + i * 8 + r))) = ∑ ρ : Fin 16384, f ρ := fun f => by
    rw [← sum_points_rows 32 64 8 512 16384 rfl rfl]
    refine Finset.sum_congr rfl fun r _ => ?_
    rw [Finset.sum_range_succ _ 31]
  refine ⟨fun k => ?_, fun k => ?_, fun k => ?_⟩
  · rw [e1, pay4_at]
    simp only [(ht _ _ _).1, (hs _ _).1]
    subst h31
    exact hl (gTerm m c k)
  · rw [e2, pay5_at]
    simp only [(ht _ _ _).2.1, (hs _ _).2.1]
    subst h31
    exact hl (bTerm m c k)
  · rw [e3, pay6_at]
    simp only [(ht _ _ _).2.2, (hs _ _).2.2]
    subst h31
    exact hl (oTerm m c k)

/-! ## The results -/

/-- The three column sums. -/
def dgSum (k : Fin 1024) : EReal := ∑ ρ, dx m c ρ k * hat (z m c ρ) k
def dbSum (k : Fin 1024) : EReal := ∑ ρ, dx m c ρ k
def doSum (k : Fin 1024) : EReal := ∑ ρ, dr m c ρ k

section Results

variable (ρ : Fin 16384) (k : Fin 1024) (j : Fin 4) (f : Fin 704)

theorem dgate_at : (G8 m c : S4x16384x704.Idx → EReal) (ix3 j ρ f) = dgate m c ρ (col j f) := by
  have hN : cfg0.N = 32 := N_0
  have hp : pt8Of (ix3 j ρ f) = ρ.val / 512 := by
    show 32 * (j.val / 4 - 0) + 1 * (ρ.val / 512 - 0) + 1 * (f.val / 704 - 0) = _; omega
  have hl : loc8Of (ix3 j ρ f) = ix3 j ⟨ρ.val % 512, Nat.mod_lt _ (by decide)⟩ f := by
    idx_ext
  have hr : ρ.val / 512 * 512 + ρ.val % 512 = ρ.val := by omega
  have hlt : pt8Of (ix3 j ρ f) < cfg0.N := by omega
  unfold G8
  rw [dif_pos hlt, ← outsAt0_sweep m c _ hlt, (blocks_at m c _ hlt).1, hl, Cert.Loss.chunk_at, gateP_at, dh_row _ _ _ _ (by dsimp only; omega),
    bm_blk _ _ _ _ _ _ (by dsimp only; omega)]
  simp only [hp, hr]; rfl

theorem dup_at : (G9 m c : S4x16384x704.Idx → EReal) (ix3 j ρ f) = dup m c ρ (col j f) := by
  have hN : cfg0.N = 32 := N_0
  have hp : pt9Of (ix3 j ρ f) = ρ.val / 512 := by
    show 32 * (j.val / 4 - 0) + 1 * (ρ.val / 512 - 0) + 1 * (f.val / 704 - 0) = _; omega
  have hl : loc9Of (ix3 j ρ f) = ix3 j ⟨ρ.val % 512, Nat.mod_lt _ (by decide)⟩ f := by
    idx_ext
  have hr : ρ.val / 512 * 512 + ρ.val % 512 = ρ.val := by omega
  have hlt : pt9Of (ix3 j ρ f) < cfg0.N := by omega
  unfold G9
  rw [dif_pos hlt, ← outsAt0_sweep m c _ hlt, (blocks_at m c _ hlt).2.1, hl, Cert.Loss.chunk_at, upP_at, dh_row _ _ _ _ (by dsimp only; omega),
    act_blk _ _ _ _ _ _ (by dsimp only; omega)]
  simp only [hp, hr]; rfl

theorem dr_at : (G10 m c : S16384x1024.Idx → EReal) (ix2 ρ k) = dr m c ρ k := by
  have hN : cfg0.N = 32 := N_0
  have hp : pt10Of (ix2 ρ k) = ρ.val / 512 := by
    show 1 * (ρ.val / 512 - 0) + 1 * (k.val / 1024 - 0) = _; omega
  have hl : loc10Of (ix2 ρ k) = ix2 ⟨ρ.val % 512, Nat.mod_lt _ (by decide)⟩ k := by
    idx_ext
  have hr : ρ.val / 512 * 512 + ρ.val % 512 = ρ.val := by omega
  have hlt : pt10Of (ix2 ρ k) < cfg0.N := by omega
  unfold G10
  rw [dif_pos hlt, ← outsAt0_sweep m c _ hlt, (blocks_at m c _ hlt).2.2, hl, drB_at, drow_row _ _ _ _ (by dsimp only; omega),
    z_row _ _ _ _ (by dsimp only; omega), g_vec]
  simp only [hp, hr]; rfl

theorem dg_at : (G11 m c : S1x1024.Idx → EReal) (ix2 0 k) = dgSum m c k := by
  rw [G11_last, ← outsAt0_sweep m c _ (lt_of_lt_of_eq (by decide) N_0.symm), (totals_at m c _ _ rfl).1 k]
  show (∑ ρ : Fin 16384, gTerm m c k ρ) = dgSum m c k
  exact Finset.sum_congr rfl fun ρ _ => dif_pos ρ.isLt

theorem db_at : (G12 m c : S1x1024.Idx → EReal) (ix2 0 k) = dbSum m c k := by
  rw [G12_last, ← outsAt0_sweep m c _ (lt_of_lt_of_eq (by decide) N_0.symm), (totals_at m c _ _ rfl).2.1 k]
  show (∑ ρ : Fin 16384, bTerm m c k ρ) = dbSum m c k
  exact Finset.sum_congr rfl fun ρ _ => dif_pos ρ.isLt

theorem do_at : (G13 m c : S1x1024.Idx → EReal) (ix2 0 k) = doSum m c k := by
  rw [G13_last, ← outsAt0_sweep m c _ (lt_of_lt_of_eq (by decide) N_0.symm), (totals_at m c _ _ rfl).2.2 k]
  show (∑ ρ : Fin 16384, oTerm m c k ρ) = doSum m c k
  exact Finset.sum_congr rfl fun ρ _ => dif_pos ρ.isLt

end Results

end Cert.Layer

end
-- ==== Proof.LayerRef.lean ====
/-
  The gradient of a feed-forward block and the normalization before it: the reference's stages, entry by entry, as the row
  functions of Rows.lean.
-/
module

public import proofs.«01_k».proof.Proof.Rows
public import proofs.«01_k».proof.Proof.Gen.Reference4Ideal.Read
public import Idealize.ShloMosaic.Lib.Pointwise
public import Idealize.ShloMosaic.Lib.ValueIdx

@[expose] public section

set_option maxRecDepth 16384

noncomputable section

namespace Cert.Layer.Ref

open Cert.Reference4Ideal Cert.Reference4Ideal.Read Idealize.ShloMosaic Idealize.ShloMosaic.TcCoe Cert.Rows

variable (x0 x7 : S16384x1024.Idx → EReal) (x1 x2 x3 : S1024.Idx → EReal) (x4 x5 : S2x1024x2816.Idx → EReal)
  (x6 : S2x2816x1024.Idx → EReal)

def z (ρ : Fin 16384) (k : Fin 1024) : EReal := x0 (ix2 ρ k) + x1 (ix1 k)
def x (ρ : Fin 16384) (k : Fin 1024) : EReal := hat (z x0 x1 ρ) k * x2 (ix1 k) + x3 (ix1 k)

/-- An entry of the product with one of the two weights. -/
def prod (w : S2x1024x2816.Idx → EReal) (ρ : Fin 16384) (e : Fin 2816) : EReal := ∑ k : Fin 1024, x x0 x1 x2 x3 ρ k * w (ix3 1 k e)

/-- The gradients of the hidden row and of the two products. -/
def hid (ρ : Fin 16384) (e : Fin 2816) : EReal := ∑ k : Fin 1024, x7 (ix2 ρ k) * x6 (ix3 1 e k)
def dgate (ρ : Fin 16384) (e : Fin 2816) : EReal :=
  hid x7 x6 ρ e * prod x0 x1 x2 x3 x5 ρ e * Ideal.logistic (prod x0 x1 x2 x3 x4 ρ e)
    + prod x0 x1 x2 x3 x4 ρ e * (hid x7 x6 ρ e * prod x0 x1 x2 x3 x5 ρ e)
      * (Ideal.logistic (prod x0 x1 x2 x3 x4 ρ e) * (1 - Ideal.logistic (prod x0 x1 x2 x3 x4 ρ e)))
def dup (ρ : Fin 16384) (e : Fin 2816) : EReal := silu (prod x0 x1 x2 x3 x4 ρ e) * hid x7 x6 ρ e

/-- The gradient of the normalized row. -/
def dx (ρ : Fin 16384) (k : Fin 1024) : EReal :=
  ∑ e : Fin 2816, dup x0 x7 x1 x2 x3 x4 x6 ρ e * x5 (ix3 1 k e) + ∑ e : Fin 2816, dgate x0 x7 x1 x2 x3 x4 x5 x6 ρ e * x4 (ix3 1 k e)
    + Ideal.ofBits .f32 0x3FB504F3#32 * x7 (ix2 ρ k)

/-! ## The forward lines -/

theorem v2_at (ρ : Fin 16384) (k : Fin 1024) : val_main_v2 (F := Ideal) x0 x1 (ix2 ρ k) = z x0 x1 ρ k := by
  unfold val_main_v2 val_main_v1 val_main_v0
  pointwise
  rfl

theorem v8_at (ρ : Fin 16384) (k : Fin 1024) : val_main_v8 (F := Ideal) x0 x1 (ix2 ρ k) = cen (z x0 x1 ρ) k := by
  unfold val_main_v8 val_main_v7 val_main_v6 val_main_v5 val_main_v4 val_main_v3 val_main_cst val_main_cst_0
  pointwise
  simp only [v2_at, ofBits_1024]; rfl

theorem v17_at (ρ : Fin 16384) (k : Fin 1024) : val_main_v17 (F := Ideal) x0 x1 (ix2 ρ k) = cen (z x0 x1 ρ) k := v8_at x0 x1 ρ k

theorem v15_at (ρ : Fin 16384) : val_main_v15 (F := Ideal) x0 x1 (ix2 ρ 0) = var (z x0 x1 ρ) := by
  unfold val_main_v15 val_main_v14 val_main_v13 val_main_v12 val_main_v9 val_main_cst_2 val_main_cst_3
  pointwise
  simp only [v8_at, ofBits_1024]; rfl

theorem v20_at (ρ : Fin 16384) : val_main_v20 (F := Ideal) x0 x1 (ix2 ρ 0) = rstd (z x0 x1 ρ) := by
  unfold val_main_v20 val_main_v19 val_main_v18 val_main_cst_4
  pointwise
  rw [v15_at, ofBits_eps]; rfl

theorem v23_at (ρ : Fin 16384) : val_main_v23 (F := Ideal) x0 x1 (ix2 ρ 0)
    = ((-(1 / 2) : ℝ) : EReal) * Ideal.div (rstd (z x0 x1 ρ)) (var (z x0 x1 ρ) + eps) := by
  unfold val_main_v23 val_main_v22 val_main_v21 val_main_v19 val_main_v18 val_main_cst_4 val_main_cst_5
  pointwise
  rw [v20_at, v15_at, ofBits_eps, ofBits_neg_half]

theorem v25_at (ρ : Fin 16384) (k : Fin 1024) : val_main_v25 (F := Ideal) x0 x1 (ix2 ρ k) = hat (z x0 x1 ρ) k := by
  unfold val_main_v25 val_main_v24
  pointwise
  rw [v17_at, v20_at]; rfl

theorem v31_at (ρ : Fin 16384) (k : Fin 1024) : val_main_v31 (F := Ideal) x0 x1 x2 x3 (ix2 ρ k) = x x0 x1 x2 x3 ρ k := by
  unfold val_main_v31 val_main_v30 val_main_v29 val_main_v28 val_main_v27 val_main_v26
  pointwise
  rw [v25_at]; rfl

theorem v36_at (w : S2x1024x2816.Idx → EReal) (ρ : Fin 16384) (e : Fin 2816) :
    val_main_v36 (F := Ideal) x0 x1 x2 x3 w (ix2 ρ e) = prod x0 x1 x2 x3 w ρ e := by
  unfold val_main_v36 val_main_v35 val_main_v34
  pointwise
  unfold prod
  refine Finset.sum_congr rfl fun k _ => ?_
  rw [v31_at]

theorem v39_at (ρ : Fin 16384) (e : Fin 2816) : val_main_v39 (F := Ideal) x0 x1 x2 x3 x5 (ix2 ρ e) = prod x0 x1 x2 x3 x5 ρ e :=
  v36_at x0 x1 x2 x3 x5 ρ e

theorem logistic_at (ρ : Fin 16384) (e : Fin 2816) :
    val_main_v40_2 (F := Ideal) x0 x1 x2 x3 x4 (ix2 ρ e) = Ideal.logistic (prod x0 x1 x2 x3 x4 ρ e) := by
  unfold val_main_v40_2 val_main_call0_v4 val_main_call0_v3 val_main_call0_v2 val_main_call0_v1 val_main_call0_v0
    val_main_call0_cst val_main_call0_cst_0
  pointwise
  rw [v36_at]; rfl

theorem v40_at (ρ : Fin 16384) (e : Fin 2816) :
    val_main_v40_0 (F := Ideal) x0 x1 x2 x3 x4 (ix2 ρ e) = silu (prod x0 x1 x2 x3 x4 ρ e) := by
  unfold val_main_v40_0
  pointwise
  rw [v36_at, logistic_at]; rfl

/-! ## The gradients of the products -/

theorem v48_at (ρ : Fin 16384) (e : Fin 2816) : val_main_v48 (F := Ideal) x6 x7 (ix2 ρ e) = hid x7 x6 ρ e := by
  unfold val_main_v48 val_main_v47 val_main_v43 val_main_v42
  pointwise
  unfold hid
  refine Finset.sum_congr rfl fun k _ => congr (congrArg _ (congrArg x7 ?_)) (congrArg x6 ?_)
  all_goals idx_ext

theorem v49_at (ρ : Fin 16384) (e : Fin 2816) :
    val_main_v49 (F := Ideal) x0 x1 x2 x3 x4 x6 x7 (ix2 ρ e) = dup x0 x7 x1 x2 x3 x4 x6 ρ e := by
  unfold val_main_v49
  pointwise
  rw [v40_at, v48_at]; rfl

theorem v51_at (ρ : Fin 16384) (e : Fin 2816) :
    val_main_v51 (F := Ideal) x0 x1 x2 x3 x4 x5 x6 x7 (ix2 ρ e) = dgate x0 x7 x1 x2 x3 x4 x5 x6 ρ e := by
  unfold val_main_v51 val_main_call1_v2 val_main_call1_v1 val_main_call1_v0 val_main_v50 val_main_v40_1 val_main_call0_v7 val_main_call0_v6
    val_main_call0_cst_1
  pointwise
  rw [v36_at, v39_at, v48_at, logistic_at]; rfl

theorem v132_at (ρ : Fin 16384) (e : Fin 2816) : val_main_v132 (F := Ideal) x6 x7 (ix2 ρ e) = hid x7 x6 ρ e := by
  unfold val_main_v132 val_main_v130 val_main_v129
  pointwise
  unfold hid
  refine Finset.sum_congr rfl fun k _ => congrArg (x7 (ix2 ρ k) * ·) (congrArg x6 ?_)
  idx_ext

theorem v133_at (ρ : Fin 16384) (e : Fin 2816) :
    val_main_v133 (F := Ideal) x0 x1 x2 x3 x4 x6 x7 (ix2 ρ e) = dup x0 x7 x1 x2 x3 x4 x6 ρ e := by
  have h : val_main_v127_0 (F := Ideal) x0 x1 x2 x3 x4 (ix2 ρ e) = silu (prod x0 x1 x2 x3 x4 ρ e) := v40_at x0 x1 x2 x3 x4 ρ e
  unfold val_main_v133
  pointwise
  rw [h, v132_at]; rfl

theorem v135_at (ρ : Fin 16384) (e : Fin 2816) :
    val_main_v135 (F := Ideal) x0 x1 x2 x3 x4 x5 x6 x7 (ix2 ρ e) = dgate x0 x7 x1 x2 x3 x4 x5 x6 ρ e := by
  have h1 : val_main_v123 (F := Ideal) x0 x1 x2 x3 x4 (ix2 ρ e) = prod x0 x1 x2 x3 x4 ρ e := v36_at x0 x1 x2 x3 x4 ρ e
  have h2 : val_main_v126 (F := Ideal) x0 x1 x2 x3 x5 (ix2 ρ e) = prod x0 x1 x2 x3 x5 ρ e := v36_at x0 x1 x2 x3 x5 ρ e
  have h3 : val_main_v127_2 (F := Ideal) x0 x1 x2 x3 x4 (ix2 ρ e) = Ideal.logistic (prod x0 x1 x2 x3 x4 ρ e) :=
    logistic_at x0 x1 x2 x3 x4 ρ e
  unfold val_main_v135 val_main_call3_v2 val_main_call3_v1 val_main_call3_v0 val_main_v134 val_main_v127_1 val_main_call2_v7 val_main_call2_v6
    val_main_call2_cst_1
  pointwise
  rw [h1, h2, h3, v132_at]; rfl

theorem dgate_at (j : Fin 4) (ρ : Fin 16384) (f : Fin 704) (e : Fin 2816) (he : e.val = 704 * j.val + f.val) :
    val_main_v138 (F := Ideal) x0 x1 x2 x3 x4 x5 x6 x7 (ix3 j ρ f) = dgate x0 x7 x1 x2 x3 x4 x5 x6 ρ e := by
  rw [← v135_at]
  unfold val_main_v138 val_main_v137 val_main_v136
  pointwise
  refine congrArg _ ?_
  idx_ext

theorem dup_at (j : Fin 4) (ρ : Fin 16384) (f : Fin 704) (e : Fin 2816) (he : e.val = 704 * j.val + f.val) :
    val_main_v141 (F := Ideal) x0 x1 x2 x3 x4 x6 x7 (ix3 j ρ f) = dup x0 x7 x1 x2 x3 x4 x6 ρ e := by
  rw [← v133_at]
  unfold val_main_v141 val_main_v140 val_main_v139
  pointwise
  refine congrArg _ ?_
  idx_ext

theorem v57_at (ρ : Fin 16384) (k : Fin 1024) :
    val_main_v57 (F := Ideal) x0 x1 x2 x3 x4 x5 x6 x7 (ix2 ρ k) = dx x0 x7 x1 x2 x3 x4 x5 x6 ρ k := by
  unfold val_main_v57 val_main_v56 val_main_v55 val_main_v54 val_main_v53 val_main_v52 val_main_v46 val_main_v38 val_main_v37 val_main_v35
    val_main_v34 val_main_cst_7
  pointwise
  simp only [v49_at, v51_at]
  unfold dx
  refine congr (congrArg _ (congr (congrArg _ (Finset.sum_congr rfl fun e _ => congrArg (_ * ·) (congrArg x5 ?_)))
    (Finset.sum_congr rfl fun e _ => congrArg (_ * ·) (congrArg x4 ?_)))) (congrArg (_ * ·) (congrArg x7 ?_))
  all_goals idx_ext

/-! ## The normalization -/

theorem db_at (k : Fin 1024) : val_main_v143 (F := Ideal) x0 x1 x2 x3 x4 x5 x6 x7 (ix2 0 k) = ∑ ρ, dx x0 x7 x1 x2 x3 x4 x5 x6 ρ k := by
  unfold val_main_v143 val_main_v60 val_main_v59 val_main_v58 val_main_cst_8 val_main_cst_9
  pointwise
  simp only [v57_at, Fin.sum_univ_one]

theorem dg_at (k : Fin 1024) : val_main_v142 (F := Ideal) x0 x1 x2 x3 x4 x5 x6 x7 (ix2 0 k)
    = ∑ ρ, hat (z x0 x1 ρ) k * dx x0 x7 x1 x2 x3 x4 x5 x6 ρ k := by
  unfold val_main_v142 val_main_v66 val_main_v63 val_main_v62 val_main_v61 val_main_cst_10 val_main_cst_11
  pointwise
  simp only [v57_at, v25_at, Fin.sum_univ_one]

theorem v65_at (ρ : Fin 16384) (k : Fin 1024) : val_main_v65 (F := Ideal) x0 x1 x2 x3 x4 x5 x6 x7 (ix2 ρ k)
    = dx x0 x7 x1 x2 x3 x4 x5 x6 ρ k * x2 (ix1 k) := by
  unfold val_main_v65 val_main_v64 val_main_v26
  pointwise
  rw [v57_at]

theorem v71_at (ρ : Fin 16384) (k : Fin 1024) : val_main_v71 (F := Ideal) x0 x1 x2 x3 x4 x5 x6 x7 (ix2 ρ k)
    = dx x0 x7 x1 x2 x3 x4 x5 x6 ρ k * x2 (ix1 k) * rstd (z x0 x1 ρ) := by
  unfold val_main_v71 val_main_v70
  pointwise
  rw [v65_at, v20_at]

theorem v80_at (ρ : Fin 16384) (k : Fin 1024) : val_main_v80 (F := Ideal) x0 x1 x2 x3 x4 x5 x6 x7 (ix2 ρ k)
    = viaVar (fun j => dx x0 x7 x1 x2 x3 x4 x5 x6 ρ j * x2 (ix1 j)) (z x0 x1 ρ) k := by
  unfold val_main_v80 val_main_v79 val_main_v78 val_main_v77 val_main_v76 val_main_v72 val_main_v69 val_main_v68 val_main_v67
    val_main_v11 val_main_v10 val_main_cst_1 val_main_cst_12 val_main_cst_14 val_main_cst_15
  pointwise
  simp only [Fin.sum_univ_one, v17_at, v65_at, v23_at, v8_at, ofBits_1024, ofBits_two]
  rfl

theorem dr_at (ρ : Fin 16384) (k : Fin 1024) : val_main_v90 (F := Ideal) x0 x1 x2 x3 x4 x5 x6 x7 (ix2 ρ k)
    = lnVjp (fun j => dx x0 x7 x1 x2 x3 x4 x5 x6 ρ j * x2 (ix1 j)) (z x0 x1 ρ) k := by
  unfold val_main_v90 val_main_v89 val_main_v88 val_main_v87 val_main_v86 val_main_v85 val_main_v84 val_main_v83 val_main_v82
    val_main_v81 val_main_v75 val_main_v74 val_main_v73 val_main_cst_13 val_main_cst_16 val_main_cst_17 val_main_cst_18
  pointwise
  simp only [Fin.sum_univ_one, v71_at, v80_at, ofBits_1024]
  rfl

theorem do_at (k : Fin 1024) : val_main_v144 (F := Ideal) x0 x1 x2 x3 x4 x5 x6 x7 (ix2 0 k)
    = ∑ ρ, lnVjp (fun j => dx x0 x7 x1 x2 x3 x4 x5 x6 ρ j * x2 (ix1 j)) (z x0 x1 ρ) k := by
  unfold val_main_v144 val_main_v93 val_main_v92 val_main_v91 val_main_cst_19 val_main_cst_20
  pointwise
  simp only [dr_at, Fin.sum_univ_one]

end Cert.Layer.Ref

end
-- ==== Proof.Layer.lean ====
/-
  The gradient of a feed-forward block and the normalization before it: the claims.
-/
module

public import proofs.«01_k».proof.Defs
public import proofs.«01_k».proof.Proof.LayerGrid
public import proofs.«01_k».proof.Proof.LayerRef
public import proofs.«01_k».proof.Proof.Gen.Reference4Ideal.Run
public import proofs.«01_k».proof.Proof.Gen.Pre_finite4
public import Idealize.ShloMosaic.Adequacy

@[expose] public section

set_option maxRecDepth 16384

noncomputable section

namespace Cert.Layer

open Idealize.ShloMosaic Idealize.ShloMosaic.TcCoe Idealize.SL.Sem Cert.Rows
open Cert.Loss (root2 col)

/-! ## What the precondition gives -/

section Finite

variable {x0 x7 : Kernel4Ideal.S16384x1024.Idx → EReal} {x1 x2 x3 : Kernel4Ideal.S1024.Idx → EReal}
  {x4 x5 : Kernel4Ideal.S2x1024x2816.Idx → EReal} {x6 : Kernel4Ideal.S2x2816x1024.Idx → EReal}

theorem fin_arg2 (h : (Pre_finite4.fn (F := Ideal) x0 x1 x2 x3 x4 x5 x6 x7).1 = fun _ => 1#1) (k : Fin 1024) :
    Fin' (x2 (ix1 k)) := by
  have := congrFun h (ix1 k)
  revert this
  unfold Pre_finite4.fn
  pointwise
  exact fin_of_abs_lt

theorem fin_arg3 (h : (Pre_finite4.fn (F := Ideal) x0 x1 x2 x3 x4 x5 x6 x7).2.1 = fun _ => 1#1) (k : Fin 1024) :
    Fin' (x3 (ix1 k)) := by
  have := congrFun h (ix1 k)
  revert this
  unfold Pre_finite4.fn
  pointwise
  exact fin_of_abs_lt

theorem fin_arg4 (h : (Pre_finite4.fn (F := Ideal) x0 x1 x2 x3 x4 x5 x6 x7).2.2.1 = fun _ => 1#1) (k : Fin 1024) (e : Fin 2816) :
    Fin' (x4 (ix3 1 k e)) := by
  have := congrFun h (ix3 1 k e)
  revert this
  unfold Pre_finite4.fn
  pointwise
  exact fin_of_abs_lt

theorem fin_arg5 (h : (Pre_finite4.fn (F := Ideal) x0 x1 x2 x3 x4 x5 x6 x7).2.2.2.1 = fun _ => 1#1) (k : Fin 1024) (e : Fin 2816) :
    Fin' (x5 (ix3 1 k e)) := by
  have := congrFun h (ix3 1 k e)
  revert this
  unfold Pre_finite4.fn
  pointwise
  exact fin_of_abs_lt

theorem fin_arg6 (h : (Pre_finite4.fn (F := Ideal) x0 x1 x2 x3 x4 x5 x6 x7).2.2.2.2.1 = fun _ => 1#1) (e : Fin 2816) (k : Fin 1024) :
    Fin' (x6 (ix3 1 e k)) := by
  have := congrFun h (ix3 1 e k)
  revert this
  unfold Pre_finite4.fn
  pointwise
  exact fin_of_abs_lt

theorem fin_arg7 (h : (Pre_finite4.fn (F := Ideal) x0 x1 x2 x3 x4 x5 x6 x7).2.2.2.2.2 = fun _ => 1#1) (ρ : Fin 16384) (k : Fin 1024) :
    Fin' (x7 (ix2 ρ k)) := by
  have := congrFun h (ix2 ρ k)
  revert this
  unfold Pre_finite4.fn
  pointwise
  exact fin_of_abs_lt

end Finite

theorem root2_fin : Fin' root2 := ⟨11863283 / 2 ^ 23, by
  simp [root2, Ideal.ofBits, Ideal.ieee, ← EReal.coe_mul]; norm_num [zpow_neg]⟩

theorem fin_silu {x : EReal} (hx : Fin' x) : Fin' (silu x) := by
  obtain ⟨r, rfl⟩ := hx
  exact Fin'.mul ⟨_, rfl⟩ ⟨_, Ideal.logistic_coe r⟩

/-! ## The results agree -/

section Agree

open Cert.Kernel4Ideal (nD τ sig main_arg0 main_arg1 main_arg2 main_arg3 main_arg4 main_arg5 main_arg6 main_arg7)
open Cert.Reference4Ideal.Read

variable (m : (ℓ : Loc nD τ sig) → Buf (Elt Ideal) ℓ) (c : Dev nD)

theorem dupr_eq (ρ : Fin 16384) (e : Fin 2816) : Ref.dup (arr0 m c) (arr7 m c) (arr1 m c) (arr2 m c) (arr3 m c) (arr4 m c) (arr6 m c) ρ e = dup m c ρ e := mul_comm _ _

theorem dup_eq : val_main_v141 (F := Ideal) (arr0 m c) (arr1 m c) (arr2 m c) (arr3 m c) (arr4 m c) (arr6 m c) (arr7 m c)
    = Cert.Kernel4Ideal.Value.G9 m c := funext fun i => by
  obtain ⟨j, ρ, f, rfl⟩ : ∃ (j : Fin 4) (ρ : Fin 16384) (f : Fin 704), i = ix3 j ρ f := ⟨i 0, i 1, i 2, eq_ix3 i⟩
  exact (Ref.dup_at (arr0 m c) (arr7 m c) (arr1 m c) (arr2 m c) (arr3 m c) (arr4 m c) (arr6 m c) j ρ f (col j f) rfl).trans ((dupr_eq m c ρ _).trans (dup_at m c ρ j f).symm)

variable (hp : ∀ ρ e, Fin' (hid m c ρ e * up m c ρ e))
include hp

theorem dgater_eq (ρ : Fin 16384) (e : Fin 2816) : Ref.dgate (arr0 m c) (arr7 m c) (arr1 m c) (arr2 m c) (arr3 m c) (arr4 m c) (arr5 m c) (arr6 m c) ρ e = dgate m c ρ e :=
  (silu_vjp _ _ (hp ρ e)).trans (mul_assoc _ _ _)

theorem dgate_eq : val_main_v138 (F := Ideal) (arr0 m c) (arr1 m c) (arr2 m c) (arr3 m c) (arr4 m c) (arr5 m c) (arr6 m c) (arr7 m c)
    = Cert.Kernel4Ideal.Value.G8 m c := funext fun i => by
  obtain ⟨j, ρ, f, rfl⟩ : ∃ (j : Fin 4) (ρ : Fin 16384) (f : Fin 704), i = ix3 j ρ f := ⟨i 0, i 1, i 2, eq_ix3 i⟩
  exact (Ref.dgate_at (arr0 m c) (arr7 m c) (arr1 m c) (arr2 m c) (arr3 m c) (arr4 m c) (arr5 m c) (arr6 m c) j ρ f (col j f) rfl).trans
    ((dgater_eq m c hp ρ _).trans (dgate_at m c ρ j f).symm)

theorem dxr_eq (ρ : Fin 16384) (k : Fin 1024) : Ref.dx (arr0 m c) (arr7 m c) (arr1 m c) (arr2 m c) (arr3 m c) (arr4 m c) (arr5 m c) (arr6 m c) ρ k = dx m c ρ k := by
  unfold Ref.dx dx
  simp only [dupr_eq, dgater_eq m c hp]
  rw [Finset.sum_add_distrib, add_comm, add_comm (∑ e, dup m c ρ e * _)]
  rfl

theorem b_eq : val_main_v143 (F := Ideal) (arr0 m c) (arr1 m c) (arr2 m c) (arr3 m c) (arr4 m c) (arr5 m c) (arr6 m c) (arr7 m c)
    = Cert.Kernel4Ideal.Value.G12 m c := funext fun i => by
  obtain ⟨k, rfl⟩ : ∃ k : Fin 1024, i = ix2 0 k := ⟨i 1, by idx_ext⟩
  refine (Ref.db_at (arr0 m c) (arr7 m c) (arr1 m c) (arr2 m c) (arr3 m c) (arr4 m c) (arr5 m c) (arr6 m c) k).trans (Eq.trans ?_ (db_at m c k).symm)
  exact Finset.sum_congr rfl fun ρ _ => dxr_eq m c hp ρ k

theorem g_eq : val_main_v142 (F := Ideal) (arr0 m c) (arr1 m c) (arr2 m c) (arr3 m c) (arr4 m c) (arr5 m c) (arr6 m c) (arr7 m c)
    = Cert.Kernel4Ideal.Value.G11 m c := funext fun i => by
  obtain ⟨k, rfl⟩ : ∃ k : Fin 1024, i = ix2 0 k := ⟨i 1, by idx_ext⟩
  refine (Ref.dg_at (arr0 m c) (arr7 m c) (arr1 m c) (arr2 m c) (arr3 m c) (arr4 m c) (arr5 m c) (arr6 m c) k).trans (Eq.trans ?_ (dg_at m c k).symm)
  exact Finset.sum_congr rfl fun ρ _ => (congrArg (_ * ·) (dxr_eq m c hp ρ k)).trans (mul_comm _ _)

variable (hd : ∀ ρ k, Fin' (dx m c ρ k * g m c k))
include hd

theorem drr_eq (ρ : Fin 16384) (k : Fin 1024) :
    lnVjp (fun j => Ref.dx (arr0 m c) (arr7 m c) (arr1 m c) (arr2 m c) (arr3 m c) (arr4 m c) (arr5 m c) (arr6 m c) ρ j * arr2 m c (ix1 j)) (Ref.z (arr0 m c) (arr1 m c) ρ) k = dr m c ρ k := by
  simp only [dxr_eq m c hp]
  exact (lnBwd_eq_lnVjp _ _ (hd ρ) k).symm

theorem dr_eq : val_main_v90 (F := Ideal) (arr0 m c) (arr1 m c) (arr2 m c) (arr3 m c) (arr4 m c) (arr5 m c) (arr6 m c) (arr7 m c)
    = Cert.Kernel4Ideal.Value.G10 m c := funext fun i => by
  obtain ⟨ρ, k, rfl⟩ : ∃ (ρ : Fin 16384) (k : Fin 1024), i = ix2 ρ k := ⟨i 0, i 1, eq_ix2 i⟩
  exact (Ref.dr_at (arr0 m c) (arr7 m c) (arr1 m c) (arr2 m c) (arr3 m c) (arr4 m c) (arr5 m c) (arr6 m c) ρ k).trans ((drr_eq m c hp hd ρ k).trans (dr_at m c ρ k).symm)

theorem o_eq : val_main_v144 (F := Ideal) (arr0 m c) (arr1 m c) (arr2 m c) (arr3 m c) (arr4 m c) (arr5 m c) (arr6 m c) (arr7 m c)
    = Cert.Kernel4Ideal.Value.G13 m c := funext fun i => by
  obtain ⟨k, rfl⟩ : ∃ k : Fin 1024, i = ix2 0 k := ⟨i 1, by idx_ext⟩
  refine (Ref.do_at (arr0 m c) (arr7 m c) (arr1 m c) (arr2 m c) (arr3 m c) (arr4 m c) (arr5 m c) (arr6 m c) k).trans (Eq.trans ?_ (do_at m c k).symm)
  exact Finset.sum_congr rfl fun ρ _ => drr_eq m c hp hd ρ k

end Agree

/-! ## The claims -/

theorem frame_reference : Cert.quiescent_Reference4Ideal := fun m ρ _ =>
  (θ_run _ _ _).mono (fun r h => ⟨fun c => (h c).2.2.2.2.2.2, sem_eq_zero_of_no_sems rfl r.2⟩) (Cert.Reference4Ideal.Value.run m ρ)

theorem algebraic : Cert.algebraic_Kernel4Ideal_Reference4Ideal_pre_finite4 := fun m ρ m' ρ' hp ha =>
  ⟨fun c => Cert.Kernel4Ideal.Value.G8 m c, fun c => Cert.Kernel4Ideal.Value.G9 m c, fun c => Cert.Kernel4Ideal.Value.G10 m c,
    fun c => Cert.Kernel4Ideal.Value.G11 m c, fun c => Cert.Kernel4Ideal.Value.G12 m c, fun c => Cert.Kernel4Ideal.Value.G13 m c,
    Cert.Kernel4Ideal.Value.run m ρ,
    (θ_run _ _ _).mono (fun r h c => by
      obtain ⟨a0, a1, a2, a3, a4, a5, a6, a7⟩ := ha c
      obtain ⟨p2, p3, p4, p5, p6, p7⟩ := hp c
      have hx : ∀ ρ k, Fin' (x m c ρ k) := fun ρ k => ((fin_hat _ k).mul (fin_arg2 p2 k)).add (fin_arg3 p3 k)
      have hg : ∀ ρ e, Fin' (gate m c ρ e) := fun ρ e => fin_sum _ fun k _ => (hx ρ k).mul (fin_arg4 p4 k e)
      have hu : ∀ ρ e, Fin' (up m c ρ e) := fun ρ e => fin_sum _ fun k _ => (hx ρ k).mul (fin_arg5 p5 k e)
      have hh : ∀ ρ e, Fin' (hid m c ρ e) := fun ρ e => fin_sum _ fun k _ => (fin_arg7 p7 ρ k).mul (fin_arg6 p6 e k)
      have hs : ∀ ρ e, Fin' (silu (gate m c ρ e)) := fun ρ e => fin_silu (hg ρ e)
      have hd : ∀ ρ k, Fin' (dx m c ρ k * g m c k) := fun ρ k => ((root2_fin.mul (fin_arg7 p7 ρ k)).add (fin_sum _ fun e _ =>
        (((hh ρ e).mul ((hu ρ e).mul (fin_dsilu _))).mul (fin_arg4 p4 k e)).add (((hh ρ e).mul (hs ρ e)).mul (fin_arg5 p5 k e)))).mul
          (fin_arg2 p2 k)
      have hq : ∀ ρ e, Fin' (hid m c ρ e * up m c ρ e) := fun ρ e => (hh ρ e).mul (hu ρ e)
      obtain ⟨h0, h1, h2, h3, h4, h5, hk⟩ := h c
      exact ⟨(h0.trans (Cert.Reference4Ideal.Read.val_main_v138_eq _)).trans
          ((congr (congr (congr (congr (congr (congr (congr (congrArg Cert.Reference4Ideal.Read.val_main_v138 a0) a1) a2) a3) a4) a5) a6) a7).trans (dgate_eq m c hq)),
        (h1.trans (Cert.Reference4Ideal.Read.val_main_v141_eq _)).trans
          ((congr (congr (congr (congr (congr (congr (congrArg Cert.Reference4Ideal.Read.val_main_v141 a0) a1) a2) a3) a4) a6) a7).trans (dup_eq m c)),
        (h2.trans (Cert.Reference4Ideal.Read.val_main_v90_eq _)).trans
          ((congr (congr (congr (congr (congr (congr (congr (congrArg Cert.Reference4Ideal.Read.val_main_v90 a0) a1) a2) a3) a4) a5) a6) a7).trans (dr_eq m c hq hd)),
        (h3.trans (Cert.Reference4Ideal.Read.val_main_v142_eq _)).trans
          ((congr (congr (congr (congr (congr (congr (congr (congrArg Cert.Reference4Ideal.Read.val_main_v142 a0) a1) a2) a3) a4) a5) a6) a7).trans (g_eq m c hq)),
        (h4.trans (Cert.Reference4Ideal.Read.val_main_v143_eq _)).trans
          ((congr (congr (congr (congr (congr (congr (congr (congrArg Cert.Reference4Ideal.Read.val_main_v143 a0) a1) a2) a3) a4) a5) a6) a7).trans (b_eq m c hq)),
        (h5.trans (Cert.Reference4Ideal.Read.val_main_v144_eq _)).trans
          ((congr (congr (congr (congr (congr (congr (congr (congrArg Cert.Reference4Ideal.Read.val_main_v144 a0) a1) a2) a3) a4) a5) a6) a7).trans (o_eq m c hq hd)), hk⟩)
      (Cert.Reference4Ideal.Value.run m' ρ')⟩

end Cert.Layer

end
-- ==== Proof.ConvLoop.lean ====
module

public import proofs.«01_k».proof.Proof.Gen.Kernel5Ideal.Loops
public import Idealize.ShloMosaic.Lib.Pipeline.ValueKit
public import Idealize.ShloMosaic.Lib.Pipeline.ReadBack

@[expose] public section

set_option maxRecDepth 16384

noncomputable section

namespace Cert.Conv

open Idealize.ShloMosaic Idealize.ShloMosaic.TcCoe Idealize.ShloMosaic.Tactic
open Cert.Kernel5Ideal Cert.Kernel5Ideal.Gen

/-- A load of a box of weights, elementwise. -/
theorem load7 {m : Memref sig .tc .vmem S32x8x1024 .f32} {X : BufTy.Contents (Elt Ideal) m.view.ty} {W : ℕ → ℕ → ℕ → EReal}
    (hW : ∀ k b q, m.view.read (Elt Ideal) X (ix3 k b q) = W k.val b.val q.val) (off : Fin 3 → ℕ)
    (inb : ∀ a, off a + S1x8x256.size a ≤ S32x8x1024.size a) (b : Fin 8) (q : Fin 256) :
    View.readAt (Elt Ideal) m.view (Rect.unit (s := S32x8x1024) off S1x8x256.size inb).toLoadRect X (ix3 0 b q) = W (off 0) (off 1 + b.val) (off 2 + q.val) := by
  have h0 := inb 0; have h1 := inb 1; have h2 := inb 2
  simp at h0 h1 h2
  exact (View.ld_unit_apply_of (m.view.read (Elt Ideal) X) off _ inb _
    (ix3 ⟨off 0, by omega⟩ ⟨off 1 + b.val, by omega⟩ ⟨off 2 + q.val, by omega⟩) (by intro a; fin_cases a <;> rfl)).trans (hW _ _ _)

theorem squeeze_at (x : Vec Ideal S1x64x256 .f32) (p : Fin 64) (q : Fin 256) :
    shapeCast S64x256 x shapeCasts_S1x64x256_S64x256 (ix2 p q) = x (ix3 0 p q) := by
  pointwise

/-- A load of 64 shifted rows, elementwise. -/
theorem load15 {m : Memref sig .tc .vmem S7x544x1024 .f32} {X : BufTy.Contents (Elt Ideal) m.view.ty} {D : ℕ → ℕ → EReal}
    (hX : ∀ s e q, m.view.read (Elt Ideal) X (ix3 s e q) = D (s.val + 1 + e.val) q.val) (off : Fin 3 → ℕ) [co : ClosedOff off]
    (inb : ∀ a, off a + S1x64x256.size a ≤ S7x544x1024.size a) {R O : ℕ} (hR : co.form 1 + (co.form 0 + 1) = R) (hO : co.form 2 = O)
    (p : Fin 64) (q : Fin 256) :
    shapeCast S64x256 (View.readAt (Elt Ideal) m.view (Rect.unit (s := S7x544x1024) off S1x64x256.size inb).toLoadRect X) shapeCasts_S1x64x256_S64x256 (ix2 p q)
      = D (R + p.val) (O + q.val) := by
  rw [← hR, ← hO, ← co.eq]
  have h0 := inb 0; have h1 := inb 1; have h2 := inb 2
  simp at h0 h1 h2
  exact (squeeze_at _ p q).trans ((View.ld_unit_apply_of (m.view.read (Elt Ideal) X) off _ inb _
    (ix3 ⟨off 0, by omega⟩ ⟨off 1 + p.val, by omega⟩ ⟨off 2 + q.val, by omega⟩) (by intro a; fin_cases a <;> rfl)).trans ((hX _ _ _).trans (congrArg (D · _) (by dsimp only; omega))))

/-- A load of 64 rows of a buffer of rows, elementwise. -/
theorem load2 {n : ℕ} {m : Memref sig .tc .vmem ⟨2, ![n, 1024]⟩ .f32} {X : BufTy.Contents (Elt Ideal) m.view.ty} {D : ℕ → ℕ → EReal}
    (hX : ∀ e q, m.view.read (Elt Ideal) X (ix2 e q) = D e.val q.val) (off : Fin 2 → ℕ) [co : ClosedOff off]
    (inb : ∀ a, off a + S64x256.size a ≤ (⟨2, ![n, 1024]⟩ : Shape).size a) {R O : ℕ} (hR : co.form 0 = R) (hO : co.form 1 = O)
    (p : Fin 64) (q : Fin 256) :
    View.readAt (Elt Ideal) m.view (Rect.unit (s := ⟨2, ![n, 1024]⟩) off S64x256.size inb).toLoadRect X (ix2 p q) = D (R + p.val) (O + q.val) := by
  rw [← hR, ← hO, ← co.eq]
  have h0 := inb 0; have h1 := inb 1
  simp at h0 h1
  exact (View.ld_unit_apply_of (m.view.read (Elt Ideal) X) off _ inb _
    (ix2 ⟨off 0 + p.val, by omega⟩ ⟨off 1 + q.val, by omega⟩) (by intro a; fin_cases a <;> rfl)).trans (hX _ _)

/-- The sum of the first `n` taps of the rows from `r` on, in the columns from `o` on. -/
def Taps (W : ℕ → ℕ → ℕ → EReal) (D : ℕ → ℕ → EReal) (r o n : ℕ) (acc : FVec Ideal S8x8x256 .f32) : Prop :=
  ∀ (a : Fin 8) (b : Fin 8) (q : Fin 256),
    acc (ix3 a b q) = ∑ k ∈ Finset.range n, W k b.val (o + q.val) * D (r + (a.val * 8 + b.val) + (30 - k)) (o + q.val)

theorem taps_zero (W : ℕ → ℕ → ℕ → EReal) (D : ℕ → ℕ → EReal) (r o : ℕ) :
    Taps W D r o 0 (broadcast S8x8x256 (Scalar.ofBits (F := Ideal) .f32 0x00000000#32)) := by
  intro a b q
  rw [Finset.sum_range_zero]
  pointwise

/-- One more tap. -/
theorem taps_succ {W : ℕ → ℕ → ℕ → EReal} {D : ℕ → ℕ → EReal} {r o n : ℕ} {acc : FVec Ideal S8x8x256 .f32}
    {w : Vec Ideal S1x8x256 .f32} {x : Vec Ideal S64x256 .f32} (hacc : Taps W D r o n acc)
    (hw : ∀ (b : Fin 8) (q : Fin 256), w (ix3 0 b q) = W n b.val (o + q.val))
    (hx : ∀ (p : Fin 64) (q : Fin 256), x (ix2 p q) = D (r + (30 - n) + p.val) (o + q.val)) :
    Taps W D r o (n + 1) (addf acc (mulf (broadcastTo S8x8x256 (shapeCast S1x8x256 (shapeCast S8x256 w shapeCasts_S1x8x256_S8x256)
      shapeCasts_S8x256_S1x8x256) broadcasts_S1x8x256_S8x8x256) (shapeCast S8x8x256 x shapeCasts_S64x256_S8x8x256))) := by
  intro a b q
  rw [Finset.sum_range_succ, ← hacc a b q, ← hw b q]
  have := hx ⟨a.val * 8 + b.val, by omega⟩ q
  rw [show r + (a.val * 8 + b.val) + (30 - n) = r + (30 - n) + (a.val * 8 + b.val) by omega, ← this]
  pointwise

/-- A piece of 64 rows and 256 columns that holds the 31 taps. -/
theorem tile_at {W : ℕ → ℕ → ℕ → EReal} {D : ℕ → ℕ → EReal} {t o : ℕ} {off : Fin 2 → ℕ} (ho : off = ![64 * t, o])
    {acc : FVec Ideal S8x8x256 .f32} (h : Taps W D (64 * t) o 31 acc) (r : Fin 512) (j : Fin 1024) :
    View.TileAt (Val := Elt Ideal) (S := S512x1024) (e := .f32) (ix2 r j) off S64x256.size (shapeCast S64x256 (shapeCast S64x256 acc shapeCasts_S8x8x256_S64x256)
      shapeCasts_S64x256_S64x256) (∑ t ∈ Finset.range 31, W t (r.val % 8) j.val * D (r.val + (30 - t)) j.val) := by
  subst ho
  intro x hx
  obtain ⟨p, q, rfl⟩ : ∃ (p : Fin 64) (q : Fin 256), x = ix2 p q := ⟨x 0, x 1, by idx_ext⟩
  have h0 : r.val = 64 * t + p.val := hx 0
  have h1 : j.val = o + q.val := hx 1
  have hp := p.isLt
  have e := h ⟨p.val / 8, by omega⟩ ⟨p.val % 8, by omega⟩ q
  rw [show r.val % 8 = p.val % 8 by omega, h0, h1]
  simp only [show p.val / 8 * 8 + p.val % 8 = p.val by omega] at e
  rw [← e]
  pointwise

variable (𝒱 : Variants) (c : Dev nD) (bd : Option 𝒱.V) (i : grid0.Coords)
  (arg1 : Memref sig .tc .vmem S512x1024 .f32) (harg1 : arg1.IsWhole) (arg2 : Memref sig .tc .vmem S32x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S32x8x1024 .f32) (harg7 : arg7.IsWhole) (arg8 : Memref sig .tc .vmem S4x1024x512 .bf16) (harg8 : arg8.IsWhole) (arg9 : Memref sig .tc .vmem S512x1024 .f32) (harg9 : arg9.IsWhole) (arg10 : Memref sig .tc .vmem S4x512x512 .bf16) (harg10 : arg10.IsWhole) (arg11 : Memref sig .tc .vmem S1x2048 .f32) (harg11 : arg11.IsWhole) (arg12 : Memref sig .tc .vmem S1x1024 .f32) (harg12 : arg12.IsWhole) (arg13 : Memref sig .tc .vmem S32x1024 .f32) (harg13 : arg13.IsWhole) (arg14 : Memref sig .tc .vmem S552x1024 .f32) (harg14 : arg14.IsWhole) (arg15 : Memref sig .tc .vmem S7x544x1024 .f32) (harg15 : arg15.IsWhole) (arg16 : Memref sig .tc .vmem S512x1024 .f32) (harg16 : arg16.IsWhole) (arg17 : Memref sig .tc .vmem S8x2048 .f32) (harg17 : arg17.IsWhole) (arg18 : Memref sig .tc .vmem S8x1024 .f32) (harg18 : arg18.IsWhole) (arg19 : Memref sig .tc .vmem S32x8x1024 .f32) (harg19 : arg19.IsWhole)
  (v52 : FVec Ideal S1x544x1024 .f32)

set_option maxHeartbeats 2000000 in
/-- What the pieces of one trip of the first loop hold: the 31 taps of their rows. -/
theorem trip1_at (X7 : BufTy.Contents (Elt Ideal) arg7.view.ty)
    (X14 : BufTy.Contents (Elt Ideal) arg14.view.ty) (X15 : BufTy.Contents (Elt Ideal) arg15.view.ty)
    {W : ℕ → ℕ → ℕ → EReal} {D : ℕ → ℕ → EReal}
    (h7 : ∀ k b q, arg7.view.read (Elt Ideal) X7 (ix3 k b q) = W k.val b.val q.val)
    (h14 : ∀ e q, arg14.view.read (Elt Ideal) X14 (ix2 e q) = D e.val q.val)
    (h15 : ∀ s e q, arg15.view.read (Elt Ideal) X15 (ix3 s e q) = D (s.val + 1 + e.val) q.val)
    (k : Fin k0_t1_loop.trips) (r : Fin 512) (j : Fin 1024) :
    View.AllAt (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v52 X7 X14 X15 k) (ix2 r j)
      (∑ t ∈ Finset.range 31, W t (r.val % 8) j.val * D (r.val + (30 - t)) j.val) := by
  unfold tripL_k0_t1 trip_k0_t1
  dsimp only
  refine View.allAt_cons_unit _ _ _ _ _ ?_ (View.allAt_cons_unit _ _ _ _ _ ?_ (View.allAt_cons_unit _ _ _ _ _ ?_
    (View.allAt_cons_unit _ _ _ _ _ ?_ (View.allAt_nil _ _))))
  all_goals
    simp only [trip_k0_t1.sl.r_1, trip_k0_t1.sl.r_2, trip_k0_t1.sl.r_3, trip_k0_t1.sl.r_4, trip_k0_t1.sl.r_5, trip_k0_t1.sl.r_6,
      trip_k0_t1.sl.r_7, trip_k0_t1.sl.r_8, trip_k0_t1.sl.r_9, trip_k0_t1.sl.r_10, trip_k0_t1.sl.r_11,
      trip_k0_t1.sl.r_12, trip_k0_t1.sl.r_13, trip_k0_t1.sl.r_14, trip_k0_t1.sl.r_15, trip_k0_t1.sl.r_16,
      trip_k0_t1.sl.r_17, trip_k0_t1.sl.r_18, trip_k0_t1.sl.r_19, trip_k0_t1.sl.r_20, trip_k0_t1.sl.r_21,
      trip_k0_t1.sl.r_22, trip_k0_t1.sl.r_23, trip_k0_t1.sl.r_24, trip_k0_t1.sl.r_25, trip_k0_t1.sl.r_26,
      trip_k0_t1.sl.r_27, trip_k0_t1.sl.r_28, trip_k0_t1.sl.r_29, trip_k0_t1.sl.r_30, trip_k0_t1.sl.r_31,
      trip_k0_t1.sl.r_32, trip_k0_t1.sl.r_33, trip_k0_t1.sl.r_34, trip_k0_t1.sl.r_35, trip_k0_t1.sl.r_36,
      trip_k0_t1.sl.r_37, trip_k0_t1.sl.r_38, trip_k0_t1.sl.r_39, trip_k0_t1.sl.r_40, trip_k0_t1.sl.r_41,
      trip_k0_t1.sl.r_42, trip_k0_t1.sl.r_43, trip_k0_t1.sl.r_44, trip_k0_t1.sl.r_45, trip_k0_t1.sl.r_46,
      trip_k0_t1.sl.r_47, trip_k0_t1.sl.r_48, trip_k0_t1.sl.r_49, trip_k0_t1.sl.r_50, trip_k0_t1.sl.r_51,
      trip_k0_t1.sl.r_52, trip_k0_t1.sl.r_53, trip_k0_t1.sl.r_54, trip_k0_t1.sl.r_55, trip_k0_t1.sl.r_56,
      trip_k0_t1.sl.r_57, trip_k0_t1.sl.r_58, trip_k0_t1.sl.r_59, trip_k0_t1.sl.r_60, trip_k0_t1.sl.r_61,
      trip_k0_t1.sl.r_62, trip_k0_t1.sl.r_63, trip_k0_t1.sl.r_64, trip_k0_t1.sl.r_65, trip_k0_t1.sl.r_66,
      trip_k0_t1.sl.r_67, k0_pay6, k0_pay7, k0_pay8, k0_pay9, k0_pay10, k0_pay11, k0_pay12, k0_pay13, k0_pay14,
      k0_pay15, k0_pay16, k0_pay17, k0_pay18, k0_pay19, k0_pay20, k0_pay21, k0_pay22, k0_pay23, k0_pay24, k0_pay25,
      k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47,
      k0_pay48, k0_pay49, k0_pay50, k0_pay51, k0_pay52, k0_pay53, k0_pay54, k0_pay55, k0_pay56, k0_pay57, k0_pay58,
      k0_pay59, k0_pay60, k0_pay61, k0_pay62, k0_pay63, k0_pay64, k0_pay65, k0_pay66, k0_pay67, k0_pay68, k0_pay69,
      k0_pay70, k0_pay71, k0_pay252]
  · refine tile_at (W := W) (D := D) (o := 768) (k0_off36_eq k) ?_ r j
    iterate 31
      refine taps_succ ?_ (fun b q => (load7 h7 _ _ b q).trans (by simp)) ?_
      rotate_left
      · first | exact load2 h14 _ _ rfl rfl | exact load15 h15 _ _ rfl rfl
    exact taps_zero _ _ _ _
  · refine tile_at (W := W) (D := D) (o := 512) (k0_off27_eq k) ?_ r j
    iterate 31
      refine taps_succ ?_ (fun b q => (load7 h7 _ _ b q).trans (by simp)) ?_
      rotate_left
      · first | exact load2 h14 _ _ rfl rfl | exact load15 h15 _ _ rfl rfl
    exact taps_zero _ _ _ _
  · refine tile_at (W := W) (D := D) (o := 256) (k0_off18_eq k) ?_ r j
    iterate 31
      refine taps_succ ?_ (fun b q => (load7 h7 _ _ b q).trans (by simp)) ?_
      rotate_left
      · first | exact load2 h14 _ _ rfl rfl | exact load15 h15 _ _ rfl rfl
    exact taps_zero _ _ _ _
  · refine tile_at (W := W) (D := D) (o := 0) (k0_off9_eq k) ?_ r j
    iterate 31
      refine taps_succ ?_ (fun b q => (load7 h7 _ _ b q).trans (by simp)) ?_
      rotate_left
      · first | exact load2 h14 _ _ rfl rfl | exact load15 h15 _ _ rfl rfl
    exact taps_zero _ _ _ _

end Cert.Conv
-- ==== Proof.ConvLoop2.lean ====
module

public import proofs.«01_k».proof.Proof.ConvLoop

@[expose] public section

set_option maxRecDepth 16384

noncomputable section

namespace Cert.Conv

open Idealize.ShloMosaic Idealize.ShloMosaic.TcCoe Idealize.ShloMosaic.Tactic
open Cert.Kernel5Ideal Cert.Kernel5Ideal.Gen

/-- 64 rows as eight groups of eight. -/
theorem groups_at (x : Vec Ideal S64x256 .f32) (a b : Fin 8) (q : Fin 256) :
    shapeCast S8x8x256 x shapeCasts_S64x256_S8x8x256 (ix3 a b q) = x (ix2 ⟨a.val * 8 + b.val, by omega⟩ q) := by
  pointwise

/-- A piece of one tap's weight gradient, eight partial sums of 256 columns: what stood there and eight more products. -/
theorem acc_at {F : ℕ → ℕ → ℕ → EReal} {U D : ℕ → ℕ → EReal} {r n o : ℕ} {old : Vec Ideal S1x8x256 .f32}
    {u x : Vec Ideal S64x256 .f32} (hold : ∀ (b : Fin 8) (q : Fin 256), old (ix3 0 b q) = F n b.val (o + q.val))
    (hu : ∀ (p : Fin 64) (q : Fin 256), u (ix2 p q) = U (r + p.val) (o + q.val))
    (hx : ∀ (p : Fin 64) (q : Fin 256), x (ix2 p q) = D (r + (30 - n) + p.val) (o + q.val)) (k : Fin 32) (b : Fin 8) (j : Fin 1024) :
    View.TileAt (Val := Elt Ideal) (S := S32x8x1024) (e := .f32) (ix3 k b j) ![n, 0, o] S1x8x256.size
      (shapeCast S1x8x256 (addf (F := Ideal) (φ := .f32) (shapeCast S8x256 old shapeCasts_S1x8x256_S8x256)
        (multiReduction .add [0] S8x256 (mulf (F := Ideal) (φ := .f32) (shapeCast S8x8x256 u shapeCasts_S64x256_S8x8x256) (shapeCast S8x8x256 x shapeCasts_S64x256_S8x8x256))
          0x00000000#32 reduces_S8x8x256_S8x256 (.inl rfl) rfl)) shapeCasts_S8x256_S1x8x256)
      (F k.val b.val j.val + ∑ g : Fin 8, U (r + (g.val * 8 + b.val)) j.val * D (r + (30 - k.val) + (g.val * 8 + b.val)) j.val) := by
  intro y hy
  obtain ⟨z, b', q, rfl⟩ : ∃ (z : Fin 1) (b' : Fin 8) (q : Fin 256), y = ix3 z b' q := ⟨y 0, y 1, y 2, by idx_ext⟩
  obtain rfl : z = 0 := Subsingleton.elim _ _
  have h0 : k.val = n := hy 0
  have h1 : b.val = 0 + b'.val := hy 1
  have h2 : j.val = o + q.val := hy 2
  obtain rfl : b = b' := Fin.ext (by omega)
  rw [h0, h2, ← hold b q]
  refine Eq.trans (b := old (ix3 0 b q) + ∑ g : Fin 8, u (ix2 ⟨g.val * 8 + b.val, by omega⟩ q) * x (ix2 ⟨g.val * 8 + b.val, by omega⟩ q)) ?_ ?_
  · pointwise
  · exact congrArg _ (Finset.sum_congr rfl fun g _ => by rw [hu, hx])

variable (𝒱 : Variants) (c : Dev nD) (bd : Option 𝒱.V) (i : grid0.Coords)
  (arg1 : Memref sig .tc .vmem S512x1024 .f32) (harg1 : arg1.IsWhole) (arg2 : Memref sig .tc .vmem S32x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S32x8x1024 .f32) (harg7 : arg7.IsWhole) (arg8 : Memref sig .tc .vmem S4x1024x512 .bf16) (harg8 : arg8.IsWhole) (arg9 : Memref sig .tc .vmem S512x1024 .f32) (harg9 : arg9.IsWhole) (arg10 : Memref sig .tc .vmem S4x512x512 .bf16) (harg10 : arg10.IsWhole) (arg11 : Memref sig .tc .vmem S1x2048 .f32) (harg11 : arg11.IsWhole) (arg12 : Memref sig .tc .vmem S1x1024 .f32) (harg12 : arg12.IsWhole) (arg13 : Memref sig .tc .vmem S32x1024 .f32) (harg13 : arg13.IsWhole) (arg14 : Memref sig .tc .vmem S552x1024 .f32) (harg14 : arg14.IsWhole) (arg15 : Memref sig .tc .vmem S7x544x1024 .f32) (harg15 : arg15.IsWhole) (arg16 : Memref sig .tc .vmem S512x1024 .f32) (harg16 : arg16.IsWhole) (arg17 : Memref sig .tc .vmem S8x2048 .f32) (harg17 : arg17.IsWhole) (arg18 : Memref sig .tc .vmem S8x1024 .f32) (harg18 : arg18.IsWhole) (arg19 : Memref sig .tc .vmem S32x8x1024 .f32) (harg19 : arg19.IsWhole)
  (v52 : FVec Ideal S1x544x1024 .f32)

set_option maxHeartbeats 4000000 in
/-- What the pieces of one trip of the second loop hold: what stood there and the products of the trip's 64 rows. -/
theorem trip2_at (X3 : BufTy.Contents (Elt Ideal) arg3.view.ty)
    (X14 : BufTy.Contents (Elt Ideal) arg14.view.ty) (X15 : BufTy.Contents (Elt Ideal) arg15.view.ty)
    (f : BufTy.Contents (Elt Ideal) arg19.view.ty)
    {F : ℕ → ℕ → ℕ → EReal} {U D : ℕ → ℕ → EReal}
    (h3 : ∀ e q, arg3.view.read (Elt Ideal) X3 (ix2 e q) = U e.val q.val)
    (h14 : ∀ e q, arg14.view.read (Elt Ideal) X14 (ix2 e q) = D e.val q.val)
    (h15 : ∀ s e q, arg15.view.read (Elt Ideal) X15 (ix3 s e q) = D (s.val + 1 + e.val) q.val)
    (hf : ∀ k b q, arg19.view.read (Elt Ideal) f (ix3 k b q) = F k.val b.val q.val)
    (k : Fin k0_t2_loop.trips) (y : Fin 32) (b : Fin 8) (j : Fin 1024) :
    View.AllAt (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v52 X3 X14 X15 k f) (ix3 y b j)
      (F y.val b.val j.val + ∑ g : Fin 8, U (64 * k.val + (g.val * 8 + b.val)) j.val
        * D (64 * k.val + (30 - y.val) + (g.val * 8 + b.val)) j.val) := by
  unfold tripL_k0_t2 trip_k0_t2
  dsimp only
  simp only [trip_k0_t2.sl.r, trip_k0_t2.sl.v126, trip_k0_t2.sl.v150, trip_k0_t2.sl.v158, trip_k0_t2.sl.v163, trip_k0_t2.sl.v176,
    trip_k0_t2.sl.v189, trip_k0_t2.sl.v202, trip_k0_t2.sl.v214, trip_k0_t2.sl.v227, trip_k0_t2.sl.v240,
    trip_k0_t2.sl.v253, trip_k0_t2.sl.v266, trip_k0_t2.sl.v279, trip_k0_t2.sl.v292, trip_k0_t2.sl.v305,
    trip_k0_t2.sl.v317, trip_k0_t2.sl.v330, trip_k0_t2.sl.v343, trip_k0_t2.sl.v356, trip_k0_t2.sl.v369,
    trip_k0_t2.sl.v382, trip_k0_t2.sl.v395, trip_k0_t2.sl.v408, trip_k0_t2.sl.v420, trip_k0_t2.sl.v433,
    trip_k0_t2.sl.v446, trip_k0_t2.sl.v459, trip_k0_t2.sl.v472, trip_k0_t2.sl.v485, trip_k0_t2.sl.v498,
    trip_k0_t2.sl.v511, trip_k0_t2.sl.v523, trip_k0_t2.sl.v540, trip_k0_t2.sl.v553, trip_k0_t2.sl.v566,
    trip_k0_t2.sl.v579, trip_k0_t2.sl.v592, trip_k0_t2.sl.v605, trip_k0_t2.sl.v617, trip_k0_t2.sl.v630,
    trip_k0_t2.sl.v643, trip_k0_t2.sl.v656, trip_k0_t2.sl.v669, trip_k0_t2.sl.v682, trip_k0_t2.sl.v695,
    trip_k0_t2.sl.v708, trip_k0_t2.sl.v720, trip_k0_t2.sl.v733, trip_k0_t2.sl.v746, trip_k0_t2.sl.v759,
    trip_k0_t2.sl.v772, trip_k0_t2.sl.v785, trip_k0_t2.sl.v798, trip_k0_t2.sl.v811, trip_k0_t2.sl.v823,
    trip_k0_t2.sl.v836, trip_k0_t2.sl.v849, trip_k0_t2.sl.v862, trip_k0_t2.sl.v875, trip_k0_t2.sl.v888,
    trip_k0_t2.sl.v901, trip_k0_t2.sl.v914, trip_k0_t2.sl.v926, trip_k0_t2.sl.v943, trip_k0_t2.sl.v956,
    trip_k0_t2.sl.v969, trip_k0_t2.sl.v982, trip_k0_t2.sl.v995, trip_k0_t2.sl.v1008, trip_k0_t2.sl.v1020,
    trip_k0_t2.sl.v1033, trip_k0_t2.sl.v1046, trip_k0_t2.sl.v1059, trip_k0_t2.sl.v1072, trip_k0_t2.sl.v1085,
    trip_k0_t2.sl.v1098, trip_k0_t2.sl.v1111, trip_k0_t2.sl.v1123, trip_k0_t2.sl.v1136, trip_k0_t2.sl.v1149,
    trip_k0_t2.sl.v1162, trip_k0_t2.sl.v1175, trip_k0_t2.sl.v1188, trip_k0_t2.sl.v1201, trip_k0_t2.sl.v1214,
    trip_k0_t2.sl.v1226, trip_k0_t2.sl.v1234, trip_k0_t2.sl.v1239, trip_k0_t2.sl.v1252, trip_k0_t2.sl.v1265,
    trip_k0_t2.sl.v1278, trip_k0_t2.sl.v1291, trip_k0_t2.sl.v1304, trip_k0_t2.sl.v1317, trip_k0_t2.sl.v1329,
    trip_k0_t2.sl.v1346, trip_k0_t2.sl.v1359, trip_k0_t2.sl.v1372, trip_k0_t2.sl.v1385, trip_k0_t2.sl.v1398,
    trip_k0_t2.sl.v1411, trip_k0_t2.sl.v1423, trip_k0_t2.sl.v1431, trip_k0_t2.sl.v1436, trip_k0_t2.sl.v1449,
    trip_k0_t2.sl.v1462, trip_k0_t2.sl.v1475, trip_k0_t2.sl.v1488, trip_k0_t2.sl.v1501, trip_k0_t2.sl.v1514,
    trip_k0_t2.sl.v1526, trip_k0_t2.sl.v1539, trip_k0_t2.sl.v1552, trip_k0_t2.sl.v1565, trip_k0_t2.sl.v1578,
    trip_k0_t2.sl.v1591, trip_k0_t2.sl.v1604, trip_k0_t2.sl.v1617, trip_k0_t2.sl.v1629, trip_k0_t2.sl.v1642,
    trip_k0_t2.sl.v1655, trip_k0_t2.sl.v1668, trip_k0_t2.sl.v1681, trip_k0_t2.sl.v1694, trip_k0_t2.sl.v1707,
    trip_k0_t2.sl.v1720, trip_k0_t2.sl.v1732, trip_k0_t2.sl.r_1, trip_k0_t2.sl.r_2, trip_k0_t2.sl.r_3,
    trip_k0_t2.sl.r_4, trip_k0_t2.sl.r_5, trip_k0_t2.sl.r_6, trip_k0_t2.sl.r_7, trip_k0_t2.sl.r_8, trip_k0_t2.sl.r_9,
    trip_k0_t2.sl.r_10, trip_k0_t2.sl.r_11, trip_k0_t2.sl.r_12, trip_k0_t2.sl.r_13, trip_k0_t2.sl.r_14,
    trip_k0_t2.sl.r_15, trip_k0_t2.sl.r_16, trip_k0_t2.sl.r_17, trip_k0_t2.sl.r_18, trip_k0_t2.sl.r_19,
    trip_k0_t2.sl.r_20, trip_k0_t2.sl.r_21, trip_k0_t2.sl.r_22, trip_k0_t2.sl.r_23, trip_k0_t2.sl.r_24,
    trip_k0_t2.sl.r_25, trip_k0_t2.sl.r_26, trip_k0_t2.sl.r_27, trip_k0_t2.sl.r_28, trip_k0_t2.sl.r_29,
    trip_k0_t2.sl.r_30, trip_k0_t2.sl.r_31, trip_k0_t2.sl.r_32, trip_k0_t2.sl.r_33, trip_k0_t2.sl.r_34,
    trip_k0_t2.sl.r_35, trip_k0_t2.sl.r_36, trip_k0_t2.sl.r_37, trip_k0_t2.sl.r_38, trip_k0_t2.sl.r_39,
    trip_k0_t2.sl.r_40, trip_k0_t2.sl.r_41, trip_k0_t2.sl.r_42, trip_k0_t2.sl.r_43, trip_k0_t2.sl.r_44,
    trip_k0_t2.sl.r_45, trip_k0_t2.sl.r_46, trip_k0_t2.sl.r_47, k0_pay72, k0_pay73, k0_pay74, k0_pay75, k0_pay76,
    k0_pay77, k0_pay78, k0_pay79, k0_pay80, k0_pay81, k0_pay82, k0_pay83, k0_pay84, k0_pay85, k0_pay86, k0_pay87,
    k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108,
    k0_pay109, k0_pay110, k0_pay111, k0_pay112, k0_pay113, k0_pay114, k0_pay115, k0_pay116, k0_pay117, k0_pay118,
    k0_pay119, k0_pay120, k0_pay121, k0_pay122, k0_pay123, k0_pay124, k0_pay125, k0_pay126, k0_pay127, k0_pay128,
    k0_pay129, k0_pay130, k0_pay131, k0_pay132, k0_pay133, k0_pay134, k0_pay135, k0_pay136, k0_pay137, k0_pay138,
    k0_pay139, k0_pay140, k0_pay141, k0_pay142, k0_pay143, k0_pay144, k0_pay145, k0_pay146, k0_pay147, k0_pay148,
    k0_pay149, k0_pay150, k0_pay151, k0_pay152, k0_pay153, k0_pay154, k0_pay155, k0_pay156, k0_pay157, k0_pay158,
    k0_pay159, k0_pay160, k0_pay161, k0_pay162, k0_pay163, k0_pay164, k0_pay165, k0_pay166, k0_pay167, k0_pay168,
    k0_pay169, k0_pay170, k0_pay171, k0_pay172, k0_pay173, k0_pay174, k0_pay175, k0_pay176, k0_pay177, k0_pay178,
    k0_pay179, k0_pay180, k0_pay181, k0_pay182, k0_pay183, k0_pay184, k0_pay185, k0_pay186, k0_pay187, k0_pay188,
    k0_pay189, k0_pay190, k0_pay191, k0_pay192, k0_pay193, k0_pay194, k0_pay195, k0_pay196, k0_pay197, k0_pay198,
    k0_pay199, k0_pay200, k0_pay201, k0_pay202, k0_pay203, k0_pay204, k0_pay205, k0_pay206, k0_pay207, k0_pay208,
    k0_pay209, k0_pay210, k0_pay211, k0_pay212, k0_pay213, k0_pay214, k0_pay215, k0_pay216, k0_pay217, k0_pay218,
    k0_pay219, k0_pay220, k0_pay221, k0_pay222, k0_pay223, k0_pay224, k0_pay225, k0_pay226, k0_pay227, k0_pay228,
    k0_pay229, k0_pay230, k0_pay231, k0_pay232, k0_pay233, k0_pay234, k0_pay235, k0_pay236, k0_pay237, k0_pay253, shapeCast_self]
  iterate 124
    refine View.allAt_cons_unit _ _ _ _ _ ?_ ?_
    · refine acc_at (F := F) (U := U) (D := D) (r := 64 * k.val) ?_ ?_ ?_ y b j
      · exact fun b q => (load7 hf _ _ b q).trans (by simp)
      · exact load2 h3 _ _ rfl rfl
      · first | exact load2 h14 _ _ rfl rfl | exact load15 h15 _ _ rfl rfl
  exact View.allAt_nil _ _

end Cert.Conv
-- ==== Proof.ConvLoops.lean ====
module

public import proofs.«01_k».proof.Proof.ConvLoop2

@[expose] public section

set_option maxRecDepth 16384

noncomputable section

namespace Cert.Conv

open Idealize.ShloMosaic Idealize.ShloMosaic.TcCoe Idealize.ShloMosaic.Tactic
open Cert.Kernel5Ideal Cert.Kernel5Ideal.Gen

theorem cov_head {S : Shape} {e : EltTy} {p : View.Piece (Elt Ideal) S e} {L : List (View.Piece (Elt Ideal) S e)} {y : S.Idx}
    (h : y ∈ p.1.set) : ∃ q ∈ p :: L, y ∈ q.1.set := ⟨p, List.mem_cons_self, h⟩

theorem cov_tail {S : Shape} {e : EltTy} {p : View.Piece (Elt Ideal) S e} {L : List (View.Piece (Elt Ideal) S e)} {y : S.Idx}
    (h : ∃ q ∈ L, y ∈ q.1.set) : ∃ q ∈ p :: L, y ∈ q.1.set := by
  obtain ⟨q, hq, hy⟩ := h
  exact ⟨q, List.mem_cons_of_mem _ hq, hy⟩

/-- The pieces of one group of columns, the last tap first: a row is in its own piece. -/
theorem cov_step {n o : ℕ} {inb : ∀ a, (![n, 0, o] : Fin 3 → ℕ) a + S1x8x256.size a ≤ S32x8x1024.size a}
    {w : Vec Ideal S1x8x256 .f32} {L : List (View.Piece (Elt Ideal) S32x8x1024 .f32)} {k : Fin 32} {b : Fin 8} {j : Fin 1024}
    (h : k.val < n + 1) (ho : o ≤ j.val) (ho' : j.val < o + 256) (rest : k.val < n → ∃ q ∈ L, ix3 k b j ∈ q.1.set) :
    ∃ q ∈ (⟨Rect.unit (s := S32x8x1024) ![n, 0, o] S1x8x256.size inb, w⟩ : View.Piece (Elt Ideal) S32x8x1024 .f32) :: L, ix3 k b j ∈ q.1.set := by
  by_cases hk : k.val = n
  · refine cov_head ((Rect.mem_set_unit (inb := inb)).2 ?_)
    intro a
    fin_cases a
    · exact ⟨hk.ge, by show k.val < n + 1; omega⟩
    · exact ⟨Nat.zero_le _, by show b.val < 0 + 8; omega⟩
    · exact ⟨ho, ho'⟩
  · exact cov_tail (rest (by omega))

theorem miss_step {n o : ℕ} {inb : ∀ a, (![n, 0, o] : Fin 3 → ℕ) a + S1x8x256.size a ≤ S32x8x1024.size a}
    {w : Vec Ideal S1x8x256 .f32} {L : List (View.Piece (Elt Ideal) S32x8x1024 .f32)} {k : Fin 32} {b : Fin 8} {j : Fin 1024}
    (h : n < k.val) (rest : ∀ q ∈ L, ix3 k b j ∉ q.1.set) :
    ∀ q ∈ (⟨Rect.unit (s := S32x8x1024) ![n, 0, o] S1x8x256.size inb, w⟩ : View.Piece (Elt Ideal) S32x8x1024 .f32) :: L, ix3 k b j ∉ q.1.set := by
  refine List.forall_mem_cons.2 ⟨fun hm => ?_, rest⟩
  have h0 : k.val < n + 1 := ((Rect.mem_set_unit (inb := inb)).1 hm 0).2
  omega

theorem cov_rows {off : Fin 2 → ℕ} {r o : ℕ} (he : off = ![r, o]) {inb : ∀ a, off a + S64x256.size a ≤ S512x1024.size a}
    {w : Vec Ideal S64x256 .f32} {L : List (View.Piece (Elt Ideal) S512x1024 .f32)} {i : Fin 512} {j : Fin 1024}
    (h0 : r ≤ i.val) (h1 : i.val < r + 64) (h2 : o ≤ j.val) (h3 : j.val < o + 256) :
    ∃ q ∈ (⟨Rect.unit (s := S512x1024) off S64x256.size inb, w⟩ : View.Piece (Elt Ideal) S512x1024 .f32) :: L, ix2 i j ∈ q.1.set := by
  refine cov_head ((Rect.mem_set_unit (inb := inb)).2 ?_)
  subst he
  intro a
  fin_cases a
  · exact ⟨h0, h1⟩
  · exact ⟨h2, h3⟩

variable (𝒱 : Variants) (c : Dev nD) (bd : Option 𝒱.V) (i : grid0.Coords)
  (arg1 : Memref sig .tc .vmem S512x1024 .f32) (harg1 : arg1.IsWhole) (arg2 : Memref sig .tc .vmem S32x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S32x8x1024 .f32) (harg7 : arg7.IsWhole) (arg8 : Memref sig .tc .vmem S4x1024x512 .bf16) (harg8 : arg8.IsWhole) (arg9 : Memref sig .tc .vmem S512x1024 .f32) (harg9 : arg9.IsWhole) (arg10 : Memref sig .tc .vmem S4x512x512 .bf16) (harg10 : arg10.IsWhole) (arg11 : Memref sig .tc .vmem S1x2048 .f32) (harg11 : arg11.IsWhole) (arg12 : Memref sig .tc .vmem S1x1024 .f32) (harg12 : arg12.IsWhole) (arg13 : Memref sig .tc .vmem S32x1024 .f32) (harg13 : arg13.IsWhole) (arg14 : Memref sig .tc .vmem S552x1024 .f32) (harg14 : arg14.IsWhole) (arg15 : Memref sig .tc .vmem S7x544x1024 .f32) (harg15 : arg15.IsWhole) (arg16 : Memref sig .tc .vmem S512x1024 .f32) (harg16 : arg16.IsWhole) (arg17 : Memref sig .tc .vmem S8x2048 .f32) (harg17 : arg17.IsWhole) (arg18 : Memref sig .tc .vmem S8x1024 .f32) (harg18 : arg18.IsWhole) (arg19 : Memref sig .tc .vmem S32x8x1024 .f32) (harg19 : arg19.IsWhole)
  (v52 : FVec Ideal S1x544x1024 .f32)

theorem trip1_cover (X7 : BufTy.Contents (Elt Ideal) arg7.view.ty)
    (X14 : BufTy.Contents (Elt Ideal) arg14.view.ty) (X15 : BufTy.Contents (Elt Ideal) arg15.view.ty)
    (k : Fin k0_t1_loop.trips) (r : Fin 512) (j : Fin 1024) (h0 : 64 * k.val ≤ r.val) (h1 : r.val < 64 * k.val + 64) :
    ∃ p ∈ tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v52 X7 X14 X15 k, ix2 r j ∈ p.1.set := by
  unfold tripL_k0_t1 trip_k0_t1
  dsimp only
  have hj := j.isLt
  rcases Nat.lt_or_ge j.val 256 with h | h
  · iterate 3 refine cov_tail ?_
    exact cov_rows (k0_off9_eq k) h0 h1 (Nat.zero_le _) (by omega)
  rcases Nat.lt_or_ge j.val 512 with h' | h'
  · iterate 2 refine cov_tail ?_
    exact cov_rows (k0_off18_eq k) h0 h1 h (by omega)
  rcases Nat.lt_or_ge j.val 768 with h'' | h''
  · iterate 1 refine cov_tail ?_
    exact cov_rows (k0_off27_eq k) h0 h1 h' (by omega)
  · exact cov_rows (k0_off36_eq k) h0 h1 h'' (by omega)

/-- The first loop: what its buffer holds. -/
theorem loop1_at (X7 : BufTy.Contents (Elt Ideal) arg7.view.ty)
    (X14 : BufTy.Contents (Elt Ideal) arg14.view.ty) (X15 : BufTy.Contents (Elt Ideal) arg15.view.ty)
    {W : ℕ → ℕ → ℕ → EReal} {D : ℕ → ℕ → EReal}
    (h7 : ∀ k b q, arg7.view.read (Elt Ideal) X7 (ix3 k b q) = W k.val b.val q.val)
    (h14 : ∀ e q, arg14.view.read (Elt Ideal) X14 (ix2 e q) = D e.val q.val)
    (h15 : ∀ s e q, arg15.view.read (Elt Ideal) X15 (ix3 s e q) = D (s.val + 1 + e.val) q.val)
    (r : Fin 512) (j : Fin 1024) :
    View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v52 X7 X14 X15 8) (ix2 r j)
      = ∑ t ∈ Finset.range 31, W t (r.val % 8) j.val * D (r.val + (30 - t)) j.val := by
  have ht : k0_t1_loop.trips = 8 := rfl
  have key : ∀ n, n ≤ 8 → View.AllAt (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v52 X7 X14 X15 n) (ix2 r j)
        (∑ t ∈ Finset.range 31, W t (r.val % 8) j.val * D (r.val + (30 - t)) j.val)
      ∧ (r.val < 64 * n → ∃ p ∈ pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v52 X7 X14 X15 n, ix2 r j ∈ p.1.set) := by
    intro n
    induction n with
    | zero => exact fun _ => ⟨View.allAt_nil _ _, fun h => absurd h (by omega)⟩
    | succ n ih =>
      intro hn
      obtain ⟨ih1, ih2⟩ := ih (by omega)
      have hs := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v52 X7 X14 X15 ⟨n, by rw [ht]; omega⟩
      simp only at hs
      rw [hs]
      constructor
      · intro p hp
        rcases List.mem_append.1 hp with hp | hp
        · exact trip1_at 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v52 X7 X14 X15 h7 h14 h15 _ r j p hp
        · exact ih1 p hp
      · intro hr
        by_cases hlt : r.val < 64 * n
        · obtain ⟨p, hp, hy⟩ := ih2 hlt
          exact ⟨p, List.mem_append_right _ hp, hy⟩
        · obtain ⟨p, hp, hy⟩ := trip1_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v52 X7 X14 X15 ⟨n, by rw [ht]; omega⟩ r j (by dsimp only; omega) (by dsimp only; omega)
          exact ⟨p, List.mem_append_left _ hp, hy⟩
  exact View.canon_eq_of_allAt _ _ _ ((key 8 le_rfl).2 (by omega)) (key 8 le_rfl).1

set_option maxHeartbeats 2000000 in
theorem trip2_cover (X3 : BufTy.Contents (Elt Ideal) arg3.view.ty)
    (X14 : BufTy.Contents (Elt Ideal) arg14.view.ty) (X15 : BufTy.Contents (Elt Ideal) arg15.view.ty)
    (f : BufTy.Contents (Elt Ideal) arg19.view.ty)
    (k : Fin k0_t2_loop.trips) (y : Fin 32) (b : Fin 8) (j : Fin 1024) (h : y.val < 31) :
    ∃ p ∈ tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v52 X3 X14 X15 k f, ix3 y b j ∈ p.1.set := by
  unfold tripL_k0_t2 trip_k0_t2
  dsimp only
  have hj := j.isLt
  rcases Nat.lt_or_ge j.val 256 with h1 | h1
  · have ho : 0 ≤ j.val := Nat.zero_le _
    have ho' : j.val < 0 + 256 := by omega
    iterate 93 refine cov_tail ?_
    iterate 31 refine cov_step h ho ho' (fun h => ?_)
    exact absurd h (Nat.not_lt_zero _)
  rcases Nat.lt_or_ge j.val 512 with h2 | h2
  · have ho : 256 ≤ j.val := h1
    have ho' : j.val < 256 + 256 := by omega
    iterate 62 refine cov_tail ?_
    iterate 31 refine cov_step h ho ho' (fun h => ?_)
    exact absurd h (Nat.not_lt_zero _)
  rcases Nat.lt_or_ge j.val 768 with h3 | h3
  · have ho : 512 ≤ j.val := h2
    have ho' : j.val < 512 + 256 := by omega
    iterate 31 refine cov_tail ?_
    iterate 31 refine cov_step h ho ho' (fun h => ?_)
    exact absurd h (Nat.not_lt_zero _)
  · have ho : 768 ≤ j.val := h3
    have ho' : j.val < 768 + 256 := by omega
    iterate 31 refine cov_step h ho ho' (fun h => ?_)
    exact absurd h (Nat.not_lt_zero _)

set_option maxHeartbeats 2000000 in
theorem trip2_miss (X3 : BufTy.Contents (Elt Ideal) arg3.view.ty)
    (X14 : BufTy.Contents (Elt Ideal) arg14.view.ty) (X15 : BufTy.Contents (Elt Ideal) arg15.view.ty)
    (f : BufTy.Contents (Elt Ideal) arg19.view.ty)
    (k : Fin k0_t2_loop.trips) (y : Fin 32) (b : Fin 8) (j : Fin 1024) (h : ¬ y.val < 31) :
    ∀ p ∈ tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v52 X3 X14 X15 k f, ix3 y b j ∉ p.1.set := by
  unfold tripL_k0_t2 trip_k0_t2
  dsimp only
  have h' : 31 ≤ y.val := by omega
  iterate 124 refine miss_step (lt_of_lt_of_le (by decide) h') ?_
  exact fun p hp => absurd hp List.not_mem_nil

/-- The second loop: what its buffer holds before trip `n`. -/
theorem loop2_at (X3 : BufTy.Contents (Elt Ideal) arg3.view.ty)
    (X14 : BufTy.Contents (Elt Ideal) arg14.view.ty) (X15 : BufTy.Contents (Elt Ideal) arg15.view.ty)
    (G : BufTy.Contents (Elt Ideal) arg19.view.ty)
    {F : ℕ → ℕ → ℕ → EReal} {U D : ℕ → ℕ → EReal}
    (h3 : ∀ e q, arg3.view.read (Elt Ideal) X3 (ix2 e q) = U e.val q.val)
    (h14 : ∀ e q, arg14.view.read (Elt Ideal) X14 (ix2 e q) = D e.val q.val)
    (h15 : ∀ s e q, arg15.view.read (Elt Ideal) X15 (ix3 s e q) = D (s.val + 1 + e.val) q.val)
    (hG : ∀ k b q, arg19.view.read (Elt Ideal) G (ix3 k b q) = F k.val b.val q.val) (n : ℕ) (hn : n ≤ 8) :
    ∀ (y : Fin 32) (b : Fin 8) (j : Fin 1024),
      arg19.view.read (Elt Ideal) (arg19.view.writes (Elt Ideal) G (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v52 X3 X14 X15 G n)) (ix3 y b j)
        = F y.val b.val j.val + (if y.val < 31 then ∑ t ∈ Finset.range n, ∑ g : Fin 8, U (64 * t + (g.val * 8 + b.val)) j.val
          * D (64 * t + (30 - y.val) + (g.val * 8 + b.val)) j.val else 0) := by
  have ht : k0_t2_loop.trips = 8 := rfl
  induction n with
  | zero =>
    intro y b j
    simp only [Finset.range_zero, Finset.sum_empty, ite_self, add_zero]
    exact hG y b j
  | succ n ih =>
    intro y b j
    have ih := ih (by omega)
    have hs := pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v52 X3 X14 X15 G ⟨n, by rw [ht]; omega⟩
    simp only at hs
    rw [hs, View.writes_append]
    by_cases hy : y.val < 31
    · rw [View.read_writes_apply_eq_canon _ _ _ _ (trip2_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v52 X3 X14 X15 _ _ y b j hy)]
      rw [View.canon_eq_of_allAt _ _ _ (trip2_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v52 X3 X14 X15 _ _ y b j hy)
        (trip2_at (F := fun k b q => F k b q + (if k < 31 then ∑ t ∈ Finset.range n, ∑ g : Fin 8, U (64 * t + (g.val * 8 + b)) q
          * D (64 * t + (30 - k) + (g.val * 8 + b)) q else 0)) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v52 X3 X14 X15 _ h3 h14 h15 ih _ y b j)]
      rw [if_pos hy, if_pos hy, Finset.sum_range_succ, add_assoc]
    · rw [View.read_writes_apply_of_forall_not_mem _ _ _ _ (trip2_miss 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v52 X3 X14 X15 _ _ y b j hy), ih, if_neg hy, if_neg hy]

end Cert.Conv
-- ==== Proof.ConvBody.lean ====
module

public import proofs.«01_k».proof.Proof.ConvLoops

@[expose] public section

set_option maxRecDepth 16384

noncomputable section

namespace Cert.Conv

open Idealize.ShloMosaic Idealize.ShloMosaic.TcCoe Idealize.ShloMosaic.Tactic
open Cert.Kernel5Ideal Cert.Kernel5Ideal.Gen

/-- An array's entry by numbers, zero outside it. -/
def at2 {n m : ℕ} (x : (⟨2, ![n, m]⟩ : Shape).Idx → EReal) (e q : ℕ) : EReal :=
  if h : e < n ∧ q < m then x (ix2 ⟨e, h.1⟩ ⟨q, h.2⟩) else 0

def at3 {l n m : ℕ} (x : (⟨3, ![l, n, m]⟩ : Shape).Idx → EReal) (k e q : ℕ) : EReal :=
  if h : k < l ∧ e < n ∧ q < m then x (ix3 ⟨k, h.1⟩ ⟨e, h.2.1⟩ ⟨q, h.2.2⟩) else 0

theorem at2_val {n m : ℕ} (x : (⟨2, ![n, m]⟩ : Shape).Idx → EReal) (e : Fin n) (q : Fin m) : at2 x e.val q.val = x (ix2 e q) :=
  dif_pos ⟨e.isLt, q.isLt⟩

theorem at3_val {l n m : ℕ} (x : (⟨3, ![l, n, m]⟩ : Shape).Idx → EReal) (k : Fin l) (e : Fin n) (q : Fin m) :
    at3 x k.val e.val q.val = x (ix3 k e q) :=
  dif_pos ⟨k.isLt, e.isLt, q.isLt⟩

/-- The rows a tile reads: its own, the 32 that follow (zero after the last tile), zeros. -/
def ext (i : grid0.Coords) (x0 : Vec Ideal S512x1024 .f32) (x1 : Vec Ideal S32x1024 .f32) (e q : ℕ) : EReal :=
  if e < 512 then at2 x0 e q else if (i 0).val = 31 then 0 else at2 x1 (e - 512) q

/-- What is written into the buffer of those rows. -/
def L14 (i : grid0.Coords) (x0 : Vec Ideal S512x1024 .f32) (x1 : Vec Ideal S32x1024 .f32) : List (View.Piece (Elt Ideal) S552x1024 .f32) :=
  [⟨Rect.unit (s := S552x1024) ![544, 0] S8x1024.size inb_S552x1024_S8x1024_544_0, k0_pay244 (F := Ideal)⟩,
    ⟨Rect.unit (s := S552x1024) ![512, 0] S32x1024.size inb_S552x1024_S32x1024_512_0, k0_pay243 i x1⟩,
    ⟨Rect.unit (s := S552x1024) ![0, 0] S512x1024.size inb_S552x1024_S512x1024_0_0, k0_pay242 x0⟩]

/-- What is written into the buffer of the shifted copies. -/
def L15 (v14 : View sig .tc .vmem S552x1024 .f32) (i : grid0.Coords) (x0 : Vec Ideal S512x1024 .f32) (x1 : Vec Ideal S32x1024 .f32) :
    List (View.Piece (Elt Ideal) S7x544x1024 .f32) :=
  [⟨Rect.unit (s := S7x544x1024) ![6, 0, 0] S1x544x1024.size inb_S7x544x1024_S1x544x1024_6_0_0, k0_pay251 (v14.readCov (L14 i x0 x1) (Rect.unit (s := S552x1024) ![7, 0] S544x1024.size inb_S552x1024_S544x1024_7_0).toLoadRect)⟩,
    ⟨Rect.unit (s := S7x544x1024) ![5, 0, 0] S1x544x1024.size inb_S7x544x1024_S1x544x1024_5_0_0, k0_pay250 (v14.readCov (L14 i x0 x1) (Rect.unit (s := S552x1024) ![6, 0] S544x1024.size inb_S552x1024_S544x1024_6_0).toLoadRect)⟩,
    ⟨Rect.unit (s := S7x544x1024) ![4, 0, 0] S1x544x1024.size inb_S7x544x1024_S1x544x1024_4_0_0, k0_pay249 (v14.readCov (L14 i x0 x1) (Rect.unit (s := S552x1024) ![5, 0] S544x1024.size inb_S552x1024_S544x1024_5_0).toLoadRect)⟩,
    ⟨Rect.unit (s := S7x544x1024) ![3, 0, 0] S1x544x1024.size inb_S7x544x1024_S1x544x1024_3_0_0, k0_pay248 (v14.readCov (L14 i x0 x1) (Rect.unit (s := S552x1024) ![4, 0] S544x1024.size inb_S552x1024_S544x1024_4_0).toLoadRect)⟩,
    ⟨Rect.unit (s := S7x544x1024) ![2, 0, 0] S1x544x1024.size inb_S7x544x1024_S1x544x1024_2_0_0, k0_pay247 (v14.readCov (L14 i x0 x1) (Rect.unit (s := S552x1024) ![3, 0] S544x1024.size inb_S552x1024_S544x1024_3_0).toLoadRect)⟩,
    ⟨Rect.unit (s := S7x544x1024) ![1, 0, 0] S1x544x1024.size inb_S7x544x1024_S1x544x1024_1_0_0, k0_pay246 (v14.readCov (L14 i x0 x1) (Rect.unit (s := S552x1024) ![2, 0] S544x1024.size inb_S552x1024_S544x1024_2_0).toLoadRect)⟩,
    ⟨Rect.unit (s := S7x544x1024) ![0, 0, 0] S1x544x1024.size inb_S7x544x1024_S1x544x1024_0_0_0, k0_pay245 (v14.readCov (L14 i x0 x1) (Rect.unit (s := S552x1024) ![1, 0] S544x1024.size inb_S552x1024_S544x1024_1_0).toLoadRect)⟩]

theorem last_sel (n : ℕ) (hn : n < 32) : Scalar.cmpi .eq (BitVec.ofNat 32 n) 31#32 = if n = 31 then 1#1 else 0#1 :=
  (by decide : ∀ n : Fin 32, Scalar.cmpi .eq (BitVec.ofNat 32 n.val) 31#32 = if n.val = 31 then 1#1 else 0#1) ⟨n, hn⟩

theorem pay242_at (x0 : Vec Ideal S512x1024 .f32) (e : Fin 512) (q : Fin 1024) : k0_pay242 x0 (ix2 e q) = x0 (ix2 e q) := by
  unfold k0_pay242; pointwise

theorem pay243_at (i : grid0.Coords) (x1 : Vec Ideal S32x1024 .f32) (e : Fin 32) (q : Fin 1024) :
    k0_pay243 i x1 (ix2 e q) = if (i 0).val = 31 then 0 else x1 (ix2 e q) := by
  unfold k0_pay243
  dsimp only
  rw [last_sel _ (i 0).isLt, shapeCast_self]
  by_cases h : (i 0).val = 31
  · rw [if_pos h, if_pos h, ValueIdx.select_one]
    pointwise
  · rw [if_neg h, if_neg h, ValueIdx.select_zero]

theorem pay244_at (e : Fin 8) (q : Fin 1024) : k0_pay244 (F := Ideal) (ix2 e q) = 0 := by
  unfold k0_pay244; pointwise

theorem cov_block {n o : ℕ} {inb : ∀ a, (![o, 0] : Fin 2 → ℕ) a + (⟨2, ![n, 1024]⟩ : Shape).size a ≤ S552x1024.size a}
    {w : FVec Ideal ⟨2, ![n, 1024]⟩ .f32} {L : List (View.Piece (Elt Ideal) S552x1024 .f32)} {e : Fin 552} {q : Fin 1024}
    (h : e.val < o + n) (rest : e.val < o → ∃ p ∈ L, ix2 e q ∈ p.1.set) :
    ∃ p ∈ (⟨Rect.unit (s := S552x1024) ![o, 0] (⟨2, ![n, 1024]⟩ : Shape).size inb, w⟩ : View.Piece (Elt Ideal) S552x1024 .f32) :: L, ix2 e q ∈ p.1.set := by
  by_cases hk : o ≤ e.val
  · refine cov_head ((Rect.mem_set_unit (inb := inb)).2 ?_)
    intro a
    fin_cases a
    · exact ⟨hk, h⟩
    · exact ⟨Nat.zero_le _, by show q.val < 0 + 1024; omega⟩
  · exact cov_tail (rest (by omega))

theorem all_block {n o : ℕ} {inb : ∀ a, (![o, 0] : Fin 2 → ℕ) a + (⟨2, ![n, 1024]⟩ : Shape).size a ≤ S552x1024.size a}
    {w : FVec Ideal ⟨2, ![n, 1024]⟩ .f32} {L : List (View.Piece (Elt Ideal) S552x1024 .f32)} {e : Fin 552} {q : Fin 1024} {v : EReal}
    (h : ∀ e' : Fin n, e.val = o + e'.val → w (ix2 e' q) = v) (rest : View.AllAt (Val := Elt Ideal) (e := .f32) L (ix2 e q) v) :
    View.AllAt (Val := Elt Ideal) (S := S552x1024) (e := .f32)
      ((⟨Rect.unit (s := S552x1024) ![o, 0] (⟨2, ![n, 1024]⟩ : Shape).size inb, w⟩ : View.Piece (Elt Ideal) S552x1024 .f32) :: L) (ix2 e q) v := by
  refine View.allAt_cons_unit _ _ inb w L (fun y hy => ?_) rest
  have h0 : e.val = o + (y 0).val := hy 0
  have h1 : q.val = 0 + (y 1).val := hy 1
  refine Eq.trans (congrArg w ?_) (h (y 0) h0)
  funext a
  apply Fin.ext
  fin_cases a
  · rfl
  · exact ((Nat.zero_add _).symm.trans h1.symm)

theorem canon_L14 (i : grid0.Coords) (x0 : Vec Ideal S512x1024 .f32) (x1 : Vec Ideal S32x1024 .f32) (e : Fin 552) (q : Fin 1024) :
    View.canon (L14 i x0 x1) (ix2 e q) = ext i x0 x1 e.val q.val := by
  have he : e.val < 544 + 8 := e.isLt
  refine View.canon_eq_of_allAt _ _ _ ?_ ?_
  · exact cov_block (n := 8) he fun h => cov_block (n := 32) h fun h => cov_block (n := 512) (by omega) fun h => absurd h (Nat.not_lt_zero _)
  · refine all_block (n := 8) ?_ (all_block (n := 32) ?_ (all_block (n := 512) ?_ (View.allAt_nil _ _)))
    · intro e' h0
      rw [pay244_at]
      unfold ext at2
      rw [if_neg (by omega), dif_neg (by omega), ite_self]
    · intro e' h0
      rw [pay243_at]
      unfold ext
      rw [if_neg (show ¬ e.val < 512 by omega), show e.val - 512 = e'.val by omega, at2_val]
    · intro e' h0
      rw [pay242_at]
      unfold ext
      rw [if_pos (by omega), show e.val = e'.val by omega, at2_val]

/-- A shifted copy. -/
theorem shift_at (v14 : View sig .tc .vmem S552x1024 .f32) (i : grid0.Coords) (x0 : Vec Ideal S512x1024 .f32) (x1 : Vec Ideal S32x1024 .f32)
    (n : ℕ) (hn : n < 7) (inb : ∀ a, (![n + 1, 0] : Fin 2 → ℕ) a + S544x1024.size a ≤ S552x1024.size a) (e : Fin 544) (q : Fin 1024) :
    (v14.readCov (L14 i x0 x1) (Rect.unit (s := S552x1024) ![n + 1, 0] S544x1024.size inb).toLoadRect) (ix2 e q)
      = ext i x0 x1 (n + 1 + e.val) q.val := by
  rw [View.readCov_eq_canon']
  refine Eq.trans (congrArg (View.canon (L14 i x0 x1)) ?_) (canon_L14 i x0 x1 ⟨n + 1 + e.val, by have := e.isLt; omega⟩ q)
  funext a
  apply Fin.ext
  fin_cases a
  · show n + 1 + 1 * e.val = n + 1 + e.val; omega
  · show 0 + 1 * q.val = q.val; omega

theorem all_plane {n : ℕ} {inb : ∀ a, (![n, 0, 0] : Fin 3 → ℕ) a + S1x544x1024.size a ≤ S7x544x1024.size a}
    {w : FVec Ideal S544x1024 .f32} {L : List (View.Piece (Elt Ideal) S7x544x1024 .f32)} {s : Fin 7} {e : Fin 544} {q : Fin 1024} {v : EReal}
    (h : s.val = n → w (ix2 e q) = v) (rest : View.AllAt (Val := Elt Ideal) (e := .f32) L (ix3 s e q) v) :
    View.AllAt (Val := Elt Ideal) (S := S7x544x1024) (e := .f32)
      ((⟨Rect.unit (s := S7x544x1024) ![n, 0, 0] S1x544x1024.size inb, shapeCast S1x544x1024 w shapeCasts_S544x1024_S1x544x1024⟩
        : View.Piece (Elt Ideal) S7x544x1024 .f32) :: L) (ix3 s e q) v := by
  refine View.allAt_cons_unit _ _ inb _ L (fun y hy => ?_) rest
  have h0 : s.val = n + (y 0).val := hy 0
  have h1 : e.val = 0 + (y 1).val := hy 1
  have h2 : q.val = 0 + (y 2).val := hy 2
  have hy0 : (y 0).val < 1 := (y 0).isLt
  have hy' : y = ix3 (0 : Fin 1) e q := by
    funext a
    apply Fin.ext
    fin_cases a
    · show (y 0).val = 0; omega
    · exact ((Nat.zero_add _).symm.trans h1.symm)
    · exact ((Nat.zero_add _).symm.trans h2.symm)
  rw [hy']
  refine Eq.trans ?_ (h (by omega))
  pointwise

theorem cov_plane {n : ℕ} {inb : ∀ a, (![n, 0, 0] : Fin 3 → ℕ) a + S1x544x1024.size a ≤ S7x544x1024.size a}
    {w : Vec Ideal S1x544x1024 .f32} {L : List (View.Piece (Elt Ideal) S7x544x1024 .f32)} {k : Fin 7} {b : Fin 544} {j : Fin 1024}
    (h : k.val < n + 1) (rest : k.val < n → ∃ q ∈ L, ix3 k b j ∈ q.1.set) :
    ∃ q ∈ (⟨Rect.unit (s := S7x544x1024) ![n, 0, 0] S1x544x1024.size inb, w⟩ : View.Piece (Elt Ideal) S7x544x1024 .f32) :: L, ix3 k b j ∈ q.1.set := by
  by_cases hk : k.val = n
  · refine cov_head ((Rect.mem_set_unit (inb := inb)).2 ?_)
    intro a
    fin_cases a
    · exact ⟨hk.ge, by show k.val < n + 1; omega⟩
    · exact ⟨Nat.zero_le _, by show b.val < 0 + 544; omega⟩
    · exact ⟨Nat.zero_le _, by show j.val < 0 + 1024; omega⟩
  · exact cov_tail (rest (by omega))

theorem canon_L15 (v14 : View sig .tc .vmem S552x1024 .f32) (i : grid0.Coords) (x0 : Vec Ideal S512x1024 .f32) (x1 : Vec Ideal S32x1024 .f32)
    (s : Fin 7) (e : Fin 544) (q : Fin 1024) :
    View.canon (L15 v14 i x0 x1) (ix3 s e q) = ext i x0 x1 (s.val + 1 + e.val) q.val := by
  refine View.canon_eq_of_allAt _ _ _ ?_ ?_
  · unfold L15
    have h : s.val < 7 := s.isLt
    iterate 7 refine cov_plane h (fun h => ?_)
    exact absurd h (Nat.not_lt_zero _)
  · unfold L15
    simp only [k0_pay245, k0_pay246, k0_pay247, k0_pay248, k0_pay249, k0_pay250, k0_pay251]
    iterate 7
      refine all_plane (fun h => ?_) ?_
      · rw [h]; exact shift_at v14 i x0 x1 _ (by decide) _ e q
    exact View.allAt_nil _ _

/-- The gradient of the gated rows: the sum over the taps. -/
def duOf (i : grid0.Coords) (x0 : Vec Ideal S512x1024 .f32) (x1 : Vec Ideal S32x1024 .f32) (x6 : Vec Ideal S32x8x1024 .f32) : Vec Ideal S512x1024 .f32 :=
  fun y => ∑ t ∈ Finset.range 31, at3 x6 t ((y 0).val % 8) (y 1).val * ext i x0 x1 ((y 0).val + (30 - t)) (y 1).val

/-- The taps' gradients after a tile: eight partial sums each. -/
def accOf (i : grid0.Coords) (x0 : Vec Ideal S512x1024 .f32) (x1 : Vec Ideal S32x1024 .f32) (x2 : Vec Ideal S512x1024 .f32)
    (g : Vec Ideal S32x8x1024 .f32) : Vec Ideal S32x8x1024 .f32 :=
  fun y => g y + (if (y 0).val < 31 then ∑ t ∈ Finset.range 8, ∑ h : Fin 8, at2 x2 (64 * t + (h.val * 8 + (y 1).val)) (y 2).val
    * ext i x0 x1 (64 * t + (30 - (y 0).val) + (h.val * 8 + (y 1).val)) (y 2).val else 0)

theorem hz : (![0, 0] : Fin 2 → Nat) = fun _ => 0 := funext fun a => by fin_cases a <;> rfl

variable (𝒱 : Variants) (c : Dev nD) (bd : Option 𝒱.V) (i : grid0.Coords)
  (arg1 : Memref sig .tc .vmem S512x1024 .f32) (harg1 : arg1.IsWhole) (arg2 : Memref sig .tc .vmem S32x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S32x8x1024 .f32) (harg7 : arg7.IsWhole) (arg8 : Memref sig .tc .vmem S4x1024x512 .bf16) (harg8 : arg8.IsWhole) (arg9 : Memref sig .tc .vmem S512x1024 .f32) (harg9 : arg9.IsWhole) (arg10 : Memref sig .tc .vmem S4x512x512 .bf16) (harg10 : arg10.IsWhole) (arg11 : Memref sig .tc .vmem S1x2048 .f32) (harg11 : arg11.IsWhole) (arg12 : Memref sig .tc .vmem S1x1024 .f32) (harg12 : arg12.IsWhole) (arg13 : Memref sig .tc .vmem S32x1024 .f32) (harg13 : arg13.IsWhole) (arg14 : Memref sig .tc .vmem S552x1024 .f32) (harg14 : arg14.IsWhole) (arg15 : Memref sig .tc .vmem S7x544x1024 .f32) (harg15 : arg15.IsWhole) (arg16 : Memref sig .tc .vmem S512x1024 .f32) (harg16 : arg16.IsWhole) (arg17 : Memref sig .tc .vmem S8x2048 .f32) (harg17 : arg17.IsWhole) (arg18 : Memref sig .tc .vmem S8x1024 .f32) (harg18 : arg18.IsWhole) (arg19 : Memref sig .tc .vmem S32x8x1024 .f32) (harg19 : arg19.IsWhole)
  (v52 : FVec Ideal S1x544x1024 .f32)
  (x0 : Vec Ideal S512x1024 .f32) (x1 : Vec Ideal S32x1024 .f32) (x2 : Vec Ideal S512x1024 .f32) (x6 : Vec Ideal S32x8x1024 .f32)

theorem du_eq (inb : ∀ a, (![0, 0] : Fin 2 → ℕ) a + S512x1024.size a ≤ S512x1024.size a) :
    arg16.view.readCov (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v52 (harg7.unread x6)
      (arg14.view.writes (Elt Ideal) arg14.view.junk (L14 i x0 x1)) (arg15.view.writes (Elt Ideal) arg15.view.junk (L15 arg14.view i x0 x1))
      (Scf.trips k0_t1_loop.lb k0_t1_loop.ub k0_t1_loop.st)) (Rect.unit (s := S512x1024) ![0, 0] S512x1024.size inb).toLoadRect
      = duOf i x0 x1 x6 := by
  rw [View.readCov_eq_canon']
  funext y
  obtain ⟨r, j, rfl⟩ : ∃ (r : Fin 512) (j : Fin 1024), y = ix2 r j := ⟨y 0, y 1, by idx_ext⟩
  have hi : (Rect.unit (s := S512x1024) ![0, 0] S512x1024.size inb).toLoadRect.idx (ix2 r j) = ix2 r j := by
    funext a
    apply Fin.ext
    fin_cases a
    · show 0 + 1 * r.val = r.val; omega
    · show 0 + 1 * j.val = j.val; omega
  rw [hi]
  exact loop1_at 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v52 _ _ _ (W := at3 x6) (D := ext i x0 x1)
    (fun k b q => by rw [harg7.read_unread, at3_val])
    (fun e q => by rw [View.read_writes_junk_apply_eq_canon, canon_L14])
    (fun s e q => by rw [View.read_writes_junk_apply_eq_canon, canon_L15]) r j

theorem acc_eq (G : BufTy.Contents (Elt Ideal) arg19.view.ty) :
    arg19.view.read (Elt Ideal) (arg19.view.writes (Elt Ideal) G (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v52 (harg3.unread x2)
      (arg14.view.writes (Elt Ideal) arg14.view.junk (L14 i x0 x1)) (arg15.view.writes (Elt Ideal) arg15.view.junk (L15 arg14.view i x0 x1)) G
      (Scf.trips k0_t2_loop.lb k0_t2_loop.ub k0_t2_loop.st)))
      = accOf i x0 x1 x2 (arg19.view.read (Elt Ideal) G) := by
  funext y
  obtain ⟨k, b, j, rfl⟩ : ∃ (k : Fin 32) (b : Fin 8) (j : Fin 1024), y = ix3 k b j := ⟨y 0, y 1, y 2, by idx_ext⟩
  refine (loop2_at 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v52 _ _ _ G (F := at3 (arg19.view.read (Elt Ideal) G)) (U := at2 x2) (D := ext i x0 x1)
    (fun e q => by rw [harg3.read_unread, at2_val])
    (fun e q => by rw [View.read_writes_junk_apply_eq_canon, canon_L14])
    (fun s e q => by rw [View.read_writes_junk_apply_eq_canon, canon_L15])
    (fun k b q => by rw [at3_val]) 8 le_rfl k b j).trans ?_
  rw [at3_val]
  rfl

end Cert.Conv
-- ==== Proof.ConvPay.lean ====
module

public import proofs.«01_k».proof.Proof.ConvBody
public import proofs.«01_k».proof.Proof.Rows

@[expose] public section

set_option maxRecDepth 16384

noncomputable section

namespace Cert.Conv

open Idealize.ShloMosaic Idealize.ShloMosaic.TcCoe Idealize.ShloMosaic.Tactic
open Cert.Kernel5Ideal Cert.Kernel5Ideal.Gen

theorem ix512 (p : Fin 512) : 512 + p.val < 1024 := by have := p.isLt; omega
theorem ix64 (g : Fin 64) (s : Fin 8) : g.val * 8 + s.val < 512 := by have := g.isLt; have := s.isLt; omega

section
variable (du : Vec Ideal S512x1024 .f32) (x3 x4 : Vec Ideal S512x1024 .bf16)

theorem da_at (r : Fin 512) (j : Fin 1024) : k0_pay255 du x4 (ix2 r j) = du (ix2 r j) * Ideal.logistic (x4 (ix2 r j)) := by
  unfold k0_pay255 k0_pay254; pointwise

theorem dg_at (r : Fin 512) (j : Fin 1024) : k0_pay256 du x3 x4 (ix2 r j)
    = du (ix2 r j) * x3 (ix2 r j) * Ideal.logistic (x4 (ix2 r j)) * (1 - Ideal.logistic (x4 (ix2 r j))) := by
  unfold k0_pay256 k0_pay254; pointwise

theorem sum_a_at (v : Vec Ideal S8x1024 .f32) (s : Fin 8) (j : Fin 1024) :
    k0_pay257 du x4 v (ix2 s j) = v (ix2 s j) + ∑ g : Fin 64, k0_pay255 du x4 (ix2 ⟨g.val * 8 + s.val, ix64 g s⟩ j) := by
  unfold k0_pay257; pointwise

theorem sum_g_at (v : Vec Ideal S8x1024 .f32) (s : Fin 8) (j : Fin 1024) :
    k0_pay258 du x3 x4 v (ix2 s j) = v (ix2 s j) + ∑ g : Fin 64, k0_pay256 du x3 x4 (ix2 ⟨g.val * 8 + s.val, ix64 g s⟩ j) := by
  unfold k0_pay258; pointwise

theorem sum_c_at (x0 : Vec Ideal S512x1024 .f32) (v : Vec Ideal S8x1024 .f32) (s : Fin 8) (j : Fin 1024) :
    k0_pay241 x0 v (ix2 s j) = v (ix2 s j) + ∑ g : Fin 64, x0 (ix2 ⟨g.val * 8 + s.val, ix64 g s⟩ j) := by
  unfold k0_pay241; pointwise
end

section
variable (da dg x5 : Vec Ideal S512x1024 .f32) (w0 w1 w2 w3 : Vec Ideal S1x1024x512 .bf16)

theorem dx_at (r : Fin 512) (q : Fin 1024) :
    k0_pay2 (k0_pay265 da dg x5 w0 w1 w2) (k0_pay266 dg) w3 (ix2 r q)
      = (Scalar.ofBits (F := Ideal) .f32 0x3FB504F3#32 : EReal) * x5 (ix2 r q) + ∑ p : Fin 512, da (ix2 r ⟨p.val, by omega⟩) * w0 (ix3 0 q p)
        + ∑ p : Fin 512, da (ix2 r ⟨512 + p.val, ix512 p⟩) * w1 (ix3 0 q p) + ∑ p : Fin 512, dg (ix2 r ⟨p.val, by omega⟩) * w2 (ix3 0 q p)
        + ∑ p : Fin 512, dg (ix2 r ⟨512 + p.val, ix512 p⟩) * w3 (ix3 0 q p) := by
  unfold k0_pay2 k0_pay265 k0_pay266 k0_pay259 k0_pay261 k0_pay263; pointwise

theorem dh0_at (r p : Fin 512) : (k0_pay260 (F := Ideal) da (ix3 0 r p) : EReal) = da (ix2 r ⟨p.val, by omega⟩) := by
  unfold k0_pay260 k0_pay259; pointwise
theorem dh1_at (r p : Fin 512) : (k0_pay262 (F := Ideal) da (ix3 0 r p) : EReal) = da (ix2 r ⟨512 + p.val, ix512 p⟩) := by
  unfold k0_pay262 k0_pay261; pointwise
theorem dh2_at (r p : Fin 512) : (k0_pay264 (F := Ideal) dg (ix3 0 r p) : EReal) = dg (ix2 r ⟨p.val, by omega⟩) := by
  unfold k0_pay264 k0_pay263; pointwise
theorem dh3_at (r p : Fin 512) : (k0_pay1 (F := Ideal) (k0_pay266 dg) (ix3 0 r p) : EReal) = dg (ix2 r ⟨512 + p.val, ix512 p⟩) := by
  unfold k0_pay1 k0_pay266; pointwise
end

theorem pay3_at (v : Vec Ideal S8x2048 .f32) (p : Fin 2048) : k0_pay3 v (ix2 0 p) = ∑ s : Fin 8, v (ix2 s p) := by
  unfold k0_pay3; pointwise
theorem pay4_at (v : Vec Ideal S8x1024 .f32) (p : Fin 1024) : k0_pay4 v (ix2 0 p) = ∑ s : Fin 8, v (ix2 s p) := by
  unfold k0_pay4; pointwise
theorem pay5_at (v : Vec Ideal S32x8x1024 .f32) (k : Fin 32) (p : Fin 1024) : k0_pay5 v (ix2 k p) = ∑ s : Fin 8, v (ix3 k s p) := by
  unfold k0_pay5; pointwise
theorem pay238_at (s : Fin 8) (p : Fin 2048) : k0_pay238 (F := Ideal) (ix2 s p) = 0 := by
  unfold k0_pay238; pointwise
theorem pay239_at (s : Fin 8) (p : Fin 1024) : k0_pay239 (F := Ideal) (ix2 s p) = 0 := by
  unfold k0_pay239; pointwise
theorem pay240_at (k : Fin 32) (s : Fin 8) (p : Fin 1024) : k0_pay240 (F := Ideal) (ix3 k s p) = 0 := by
  unfold k0_pay240; pointwise

/-- The gradient of the pointwise layer's result: the value half, then the gate half. -/
def dhN (da dg : Vec Ideal S512x1024 .f32) (r : Fin 512) (p : Fin 2048) : EReal :=
  if h : p.val < 1024 then da (ix2 r ⟨p.val, h⟩) else dg (ix2 r ⟨p.val - 1024, by have := p.isLt; omega⟩)

theorem dhN_a (da dg : Vec Ideal S512x1024 .f32) (r : Fin 512) (p : Fin 2048) (q : Fin 1024) (h : p.val = q.val) : dhN da dg r p = da (ix2 r q) := by
  unfold dhN
  rw [dif_pos (h ▸ q.isLt)]
  exact congrArg (fun a => da (ix2 r a)) (Fin.ext h)

theorem dhN_g (da dg : Vec Ideal S512x1024 .f32) (r : Fin 512) (p : Fin 2048) (q : Fin 1024) (h : p.val = 1024 + q.val) : dhN da dg r p = dg (ix2 r q) := by
  unfold dhN
  rw [dif_neg (by omega)]
  exact congrArg (fun a => dg (ix2 r a)) (Fin.ext (by show p.val - 1024 = q.val; omega))

theorem ix2048 (j : Fin 4) (p : Fin 512) : 512 * j.val + p.val < 2048 := by have := p.isLt; have := j.isLt; omega

def dhB (da dg : Vec Ideal S512x1024 .f32) : Vec Ideal S4x512x512 .bf16 := fun y => dhN da dg (y 1) ⟨512 * (y 0).val + (y 2).val, ix2048 (y 0) (y 2)⟩

def dxB (da dg x5 : Vec Ideal S512x1024 .f32) (x7 : Vec Ideal S4x1024x512 .bf16) : Vec Ideal S512x1024 .f32 := fun y =>
  (Scalar.ofBits (F := Ideal) .f32 0x3FB504F3#32 : EReal) * x5 y
    + ∑ p : Fin 512, dhN da dg (y 0) ⟨512 * (0 : Fin 4).val + p.val, ix2048 0 p⟩ * (x7 (ix3 (0 : Fin 4) (y 1) p) : EReal)
    + ∑ p : Fin 512, dhN da dg (y 0) ⟨512 * (1 : Fin 4).val + p.val, ix2048 1 p⟩ * (x7 (ix3 (1 : Fin 4) (y 1) p) : EReal)
    + ∑ p : Fin 512, dhN da dg (y 0) ⟨512 * (2 : Fin 4).val + p.val, ix2048 2 p⟩ * (x7 (ix3 (2 : Fin 4) (y 1) p) : EReal)
    + ∑ p : Fin 512, dhN da dg (y 0) ⟨512 * (3 : Fin 4).val + p.val, ix2048 3 p⟩ * (x7 (ix3 (3 : Fin 4) (y 1) p) : EReal)

def b1B (da dg : Vec Ideal S512x1024 .f32) (a : Vec Ideal S8x2048 .f32) : Vec Ideal S8x2048 .f32 := fun y =>
  a y + ∑ g : Fin 64, dhN da dg ⟨g.val * 8 + (y 0).val, ix64 g (y 0)⟩ (y 1)

theorem ld_plane (x7 : Vec Ideal S4x1024x512 .bf16) (n : ℕ) (s : Fin 4) (h : s.val = n)
    (inb : ∀ a, (![n, 0, 0] : Fin 3 → ℕ) a + S1x1024x512.size a ≤ S4x1024x512.size a) (q : Fin 1024) (p : Fin 512) :
    View.ld (Val := Elt Ideal) (e' := .bf16) x7 (Rect.unit (s := S4x1024x512) ![n, 0, 0] S1x1024x512.size inb) (ix3 (0 : Fin 1) q p) = x7 (ix3 s q p) := by
  refine congrArg x7 ?_
  funext a
  apply Fin.ext
  fin_cases a
  · show n + 1 * 0 = s.val; omega
  · show 0 + 1 * q.val = q.val; omega
  · show 0 + 1 * p.val = p.val; omega

theorem cov_dh {n : ℕ} {inb : ∀ a, (![n, 0, 0] : Fin 3 → ℕ) a + S1x512x512.size a ≤ S4x512x512.size a}
    {w : Vec Ideal S1x512x512 .bf16} {L : List (View.Piece (Elt Ideal) S4x512x512 .bf16)} {k : Fin 4} {b j : Fin 512}
    (h : k.val < n + 1) (rest : k.val < n → ∃ q ∈ L, ix3 k b j ∈ q.1.set) :
    ∃ q ∈ (⟨Rect.unit (s := S4x512x512) ![n, 0, 0] S1x512x512.size inb, w⟩ : View.Piece (Elt Ideal) S4x512x512 .bf16) :: L, ix3 k b j ∈ q.1.set := by
  by_cases hk : k.val = n
  · refine cov_head ((Rect.mem_set_unit (inb := inb)).2 ?_)
    intro a
    fin_cases a
    · exact ⟨hk.ge, by show k.val < n + 1; omega⟩
    · exact ⟨Nat.zero_le _, by show b.val < 0 + 512; omega⟩
    · exact ⟨Nat.zero_le _, by show j.val < 0 + 512; omega⟩
  · exact cov_tail (rest (by omega))

theorem all_dh {n : ℕ} {inb : ∀ a, (![n, 0, 0] : Fin 3 → ℕ) a + S1x512x512.size a ≤ S4x512x512.size a}
    {w : Vec Ideal S1x512x512 .bf16} {L : List (View.Piece (Elt Ideal) S4x512x512 .bf16)} {s : Fin 4} {e q : Fin 512} {v : EReal}
    (h : s.val = n → w (ix3 0 e q) = v) (rest : View.AllAt (Val := Elt Ideal) (e := .bf16) L (ix3 s e q) v) :
    View.AllAt (Val := Elt Ideal) (S := S4x512x512) (e := .bf16)
      ((⟨Rect.unit (s := S4x512x512) ![n, 0, 0] S1x512x512.size inb, w⟩ : View.Piece (Elt Ideal) S4x512x512 .bf16) :: L) (ix3 s e q) v := by
  refine View.allAt_cons_unit _ _ inb _ L (fun y hy => ?_) rest
  have h0 : s.val = n + (y 0).val := hy 0
  have h1 : e.val = 0 + (y 1).val := hy 1
  have h2 : q.val = 0 + (y 2).val := hy 2
  have hy0 : (y 0).val < 1 := (y 0).isLt
  have hy' : y = ix3 (0 : Fin 1) e q := by
    funext a
    apply Fin.ext
    fin_cases a
    · show (y 0).val = 0; omega
    · exact ((Nat.zero_add _).symm.trans h1.symm)
    · exact ((Nat.zero_add _).symm.trans h2.symm)
  rw [hy']
  exact h (by omega)

section
variable (da dg : Vec Ideal S512x1024 .f32)

theorem canon_dh : View.canon
    [⟨Rect.unit (s := S4x512x512) ![3, 0, 0] S1x512x512.size inb_S4x512x512_S1x512x512_3_0_0, k0_pay1 (F := Ideal) (k0_pay266 dg)⟩,
      ⟨Rect.unit (s := S4x512x512) ![2, 0, 0] S1x512x512.size inb_S4x512x512_S1x512x512_2_0_0, k0_pay264 (F := Ideal) dg⟩,
      ⟨Rect.unit (s := S4x512x512) ![1, 0, 0] S1x512x512.size inb_S4x512x512_S1x512x512_1_0_0, k0_pay262 (F := Ideal) da⟩,
      ⟨Rect.unit (s := S4x512x512) ![0, 0, 0] S1x512x512.size inb_S4x512x512_S1x512x512_0_0_0, k0_pay260 (F := Ideal) da⟩] = dhB da dg := by
  funext y
  obtain ⟨k, r, p, rfl⟩ : ∃ (k : Fin 4) (r : Fin 512) (p : Fin 512), y = ix3 k r p := ⟨y 0, y 1, y 2, by idx_ext⟩
  have hk : k.val < 3 + 1 := k.isLt
  refine View.canon_eq_of_allAt _ _ _ ?_ ?_
  · exact cov_dh hk fun h => cov_dh h fun h => cov_dh h fun h => cov_dh h fun h => absurd h (Nat.not_lt_zero _)
  · refine all_dh (fun h => ?_) (all_dh (fun h => ?_) (all_dh (fun h => ?_) (all_dh (fun h => ?_) (View.allAt_nil _ _))))
    · exact (dh3_at dg r p).trans (dhN_g da dg r _ _ (by show 512 * k.val + p.val = 1024 + (512 + p.val); omega)).symm
    · exact (dh2_at dg r p).trans (dhN_g da dg r _ _ (by show 512 * k.val + p.val = 1024 + p.val; omega)).symm
    · exact (dh1_at da r p).trans (dhN_a da dg r _ _ (by show 512 * k.val + p.val = 512 + p.val; omega)).symm
    · exact (dh0_at da r p).trans (dhN_a da dg r _ _ (by show 512 * k.val + p.val = p.val; omega)).symm

theorem dx_eq (x5 : Vec Ideal S512x1024 .f32) (x7 : Vec Ideal S4x1024x512 .bf16)
    (inb0 : ∀ a, (![0, 0, 0] : Fin 3 → ℕ) a + S1x1024x512.size a ≤ S4x1024x512.size a)
    (inb1 : ∀ a, (![1, 0, 0] : Fin 3 → ℕ) a + S1x1024x512.size a ≤ S4x1024x512.size a)
    (inb2 : ∀ a, (![2, 0, 0] : Fin 3 → ℕ) a + S1x1024x512.size a ≤ S4x1024x512.size a)
    (inb3 : ∀ a, (![3, 0, 0] : Fin 3 → ℕ) a + S1x1024x512.size a ≤ S4x1024x512.size a) :
    k0_pay2 (k0_pay265 da dg x5
      (View.ld (Val := Elt Ideal) (e' := .bf16) x7 (Rect.unit (s := S4x1024x512) ![0, 0, 0] S1x1024x512.size inb0))
      (View.ld (Val := Elt Ideal) (e' := .bf16) x7 (Rect.unit (s := S4x1024x512) ![1, 0, 0] S1x1024x512.size inb1))
      (View.ld (Val := Elt Ideal) (e' := .bf16) x7 (Rect.unit (s := S4x1024x512) ![2, 0, 0] S1x1024x512.size inb2))) (k0_pay266 dg)
      (View.ld (Val := Elt Ideal) (e' := .bf16) x7 (Rect.unit (s := S4x1024x512) ![3, 0, 0] S1x1024x512.size inb3))
      = dxB da dg x5 x7 := by
  funext y
  obtain ⟨r, q, rfl⟩ : ∃ (r : Fin 512) (q : Fin 1024), y = ix2 r q := ⟨y 0, y 1, by idx_ext⟩
  rw [dx_at]
  unfold dxB
  refine congrArg₂ (· + ·) (congrArg₂ (· + ·) (congrArg₂ (· + ·) (congrArg₂ (· + ·) rfl ?_) ?_) ?_) ?_
  · exact Finset.sum_congr rfl fun p _ => congrArg₂ (· * ·) (dhN_a da dg r _ _ (by show 512 * 0 + p.val = p.val; omega)).symm (ld_plane x7 0 0 rfl inb0 q p)
  · exact Finset.sum_congr rfl fun p _ => congrArg₂ (· * ·) (dhN_a da dg r _ _ (by show 512 * 1 + p.val = 512 + p.val; omega)).symm (ld_plane x7 1 1 rfl inb1 q p)
  · exact Finset.sum_congr rfl fun p _ => congrArg₂ (· * ·) (dhN_g da dg r _ _ (by show 512 * 2 + p.val = 1024 + p.val; omega)).symm (ld_plane x7 2 2 rfl inb2 q p)
  · exact Finset.sum_congr rfl fun p _ => congrArg₂ (· * ·) (dhN_g da dg r _ _ (by show 512 * 3 + p.val = 1024 + (512 + p.val); omega)).symm (ld_plane x7 3 3 rfl inb3 q p)

end

theorem cov_b1 {n : ℕ} {inb : ∀ a, (![0, n] : Fin 2 → ℕ) a + S8x1024.size a ≤ S8x2048.size a}
    {w : Vec Ideal S8x1024 .f32} {L : List (View.Piece (Elt Ideal) S8x2048 .f32)} {s : Fin 8} {p : Fin 2048}
    (h : p.val < n + 1024) (rest : p.val < n → ∃ q ∈ L, ix2 s p ∈ q.1.set) :
    ∃ q ∈ (⟨Rect.unit (s := S8x2048) ![0, n] S8x1024.size inb, w⟩ : View.Piece (Elt Ideal) S8x2048 .f32) :: L, ix2 s p ∈ q.1.set := by
  by_cases hk : n ≤ p.val
  · refine cov_head ((Rect.mem_set_unit (inb := inb)).2 ?_)
    intro a
    fin_cases a
    · exact ⟨Nat.zero_le _, by show s.val < 0 + 8; omega⟩
    · exact ⟨hk, h⟩
  · exact cov_tail (rest (by omega))

theorem canon_b1 {n : ℕ} {inb : ∀ a, (![0, n] : Fin 2 → ℕ) a + S8x1024.size a ≤ S8x2048.size a}
    {w : Vec Ideal S8x1024 .f32} {L : List (View.Piece (Elt Ideal) S8x2048 .f32)} {s : Fin 8} {p : Fin 2048} {v : EReal} (hn : p.val < n + 1024)
    (h : ∀ q : Fin 1024, p.val = n + q.val → w (ix2 s q) = v) (rest : p.val < n → View.canon L (ix2 s p) = v) :
    View.canon ((⟨Rect.unit (s := S8x2048) ![0, n] S8x1024.size inb, w⟩ : View.Piece (Elt Ideal) S8x2048 .f32) :: L) (ix2 s p) = v := by
  by_cases hk : n ≤ p.val
  · have hy : ix2 s p = (Rect.unit (s := S8x2048) ![0, n] S8x1024.size inb).emb (ix2 s (⟨p.val - n, by omega⟩ : Fin 1024)) := by
      funext a
      apply Fin.ext
      fin_cases a
      · show s.val = 0 + 1 * s.val; omega
      · show p.val = n + 1 * (p.val - n); omega
    rw [hy, View.canon_cons_emb]
    exact h _ (by show p.val = n + (p.val - n); omega)
  · refine (View.canon_cons_of_not_mem _ _ (fun hm => ?_)).trans (rest (by omega))
    have h0 := ((Rect.mem_set_unit (inb := inb)).1 hm 1).1
    exact hk h0

theorem b1_eq (du : Vec Ideal S512x1024 .f32) (x3 x4 : Vec Ideal S512x1024 .bf16) (a : Vec Ideal S8x2048 .f32) (v69 v76 : Vec Ideal S8x1024 .f32)
    (h69 : ∀ (s : Fin 8) (q : Fin 1024), v69 (ix2 s q) = a (ix2 s ⟨q.val, by omega⟩))
    (h76 : ∀ (s : Fin 8) (q : Fin 1024), v76 (ix2 s q) = a (ix2 s ⟨1024 + q.val, by omega⟩)) (L : List (View.Piece (Elt Ideal) S8x2048 .f32)) :
    View.canon (⟨Rect.unit (s := S8x2048) ![0, 1024] S8x1024.size inb_S8x2048_S8x1024_0_1024, k0_pay258 du x3 x4 v76⟩
      :: ⟨Rect.unit (s := S8x2048) ![0, 0] S8x1024.size inb_S8x2048_S8x1024_0_0, k0_pay257 du x4 v69⟩ :: L)
      = b1B (k0_pay255 du x4) (k0_pay256 du x3 x4) a := by
  funext y
  obtain ⟨s, p, rfl⟩ : ∃ (s : Fin 8) (p : Fin 2048), y = ix2 s p := ⟨y 0, y 1, by idx_ext⟩
  refine canon_b1 (by have := p.isLt; omega) (fun q hq => ?_) fun hp => canon_b1 (by omega) (fun q hq => ?_) fun hp => absurd hp (Nat.not_lt_zero _)
  · rw [sum_g_at, h76]
    refine congrArg₂ (· + ·) (congrArg (fun p => a (ix2 s p)) (Fin.ext hq.symm)) (Finset.sum_congr rfl fun g _ => ?_)
    exact (dhN_g _ _ _ p q hq).symm
  · rw [sum_a_at, h69]
    have hq' : p.val = q.val := hq.trans (Nat.zero_add _)
    refine congrArg₂ (· + ·) (congrArg (fun p => a (ix2 s p)) (Fin.ext hq'.symm)) (Finset.sum_congr rfl fun g _ => ?_)
    exact (dhN_a _ _ _ p q hq').symm

end Cert.Conv
-- ==== Proof.ConvRun.lean ====
module

public import proofs.«01_k».proof.Proof.ConvPay
public import proofs.«01_k».proof.Proof.Gen.Kernel5Ideal.Frame
import Idealize.ShloMosaic.Lib.Pipeline.ValueKit
import Idealize.ShloMosaic.Lib.Pipeline.ReadBack

@[expose] public section

set_option maxRecDepth 16384

noncomputable section

namespace Cert.Conv

open Idealize.ShloMosaic Idealize.ShloMosaic.TcCoe Idealize.ShloMosaic.Tactic
open Cert.Kernel5Ideal Cert.Kernel5Ideal.Gen

section Words
variable (c : Dev nD) (i : grid0.Coords)
  (arg1 : Memref sig .tc .vmem S512x1024 .f32) (harg1 : arg1.IsWhole) (arg2 : Memref sig .tc .vmem S32x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S32x8x1024 .f32) (harg7 : arg7.IsWhole) (arg8 : Memref sig .tc .vmem S4x1024x512 .bf16) (harg8 : arg8.IsWhole) (arg9 : Memref sig .tc .vmem S512x1024 .f32) (harg9 : arg9.IsWhole) (arg10 : Memref sig .tc .vmem S4x512x512 .bf16) (harg10 : arg10.IsWhole) (arg11 : Memref sig .tc .vmem S1x2048 .f32) (harg11 : arg11.IsWhole) (arg12 : Memref sig .tc .vmem S1x1024 .f32) (harg12 : arg12.IsWhole) (arg13 : Memref sig .tc .vmem S32x1024 .f32) (harg13 : arg13.IsWhole) (arg14 : Memref sig .tc .vmem S552x1024 .f32) (harg14 : arg14.IsWhole) (arg15 : Memref sig .tc .vmem S7x544x1024 .f32) (harg15 : arg15.IsWhole) (arg16 : Memref sig .tc .vmem S512x1024 .f32) (harg16 : arg16.IsWhole) (arg17 : Memref sig .tc .vmem S8x2048 .f32) (harg17 : arg17.IsWhole) (arg18 : Memref sig .tc .vmem S8x1024 .f32) (harg18 : arg18.IsWhole) (arg19 : Memref sig .tc .vmem S32x8x1024 .f32) (harg19 : arg19.IsWhole)
  (x0 : Vec Ideal S512x1024 .f32) (x1 : Vec Ideal S32x1024 .f32)

theorem rows_A : kernelRun0_A.sl.HS0_3 (F := Ideal) c i arg1 harg1 arg2 harg2 x0 x1 = L14 i x0 x1 := by
  unfold kernelRun0_A.sl.HS0_3 L14
  simp only [View.readAt_eq_ld, Memref.IsWhole.read_unread, View.ld_unit_zero (S := S32x1024) hz, View.ld_unit_zero (S := S512x1024) hz]

theorem shifts_A : kernelRun0_A.sl.HS1_7 (F := Ideal) c i arg1 harg1 arg2 harg2 arg14 x0 x1 = L15 arg14.view i x0 x1 := by
  unfold kernelRun0_A.sl.HS1_7 kernelRun0_A.sl.r kernelRun0_A.sl.r_1 kernelRun0_A.sl.v25 kernelRun0_A.sl.v29 kernelRun0_A.sl.v33 kernelRun0_A.sl.v37 kernelRun0_A.sl.v41 kernelRun0_A.sl.v45 kernelRun0_A.sl.v49 L15
  rw [rows_A]

theorem rows_B : kernelRun0_B.sl.HS0_3 (F := Ideal) c i arg1 harg1 arg2 harg2 x0 x1 = L14 i x0 x1 := by
  unfold kernelRun0_B.sl.HS0_3 L14
  simp only [View.readAt_eq_ld, Memref.IsWhole.read_unread, View.ld_unit_zero (S := S32x1024) hz, View.ld_unit_zero (S := S512x1024) hz]

theorem shifts_B : kernelRun0_B.sl.HS1_7 (F := Ideal) c i arg1 harg1 arg2 harg2 arg14 x0 x1 = L15 arg14.view i x0 x1 := by
  unfold kernelRun0_B.sl.HS1_7 kernelRun0_B.sl.r kernelRun0_B.sl.r_1 kernelRun0_B.sl.v25 kernelRun0_B.sl.v29 kernelRun0_B.sl.v33 kernelRun0_B.sl.v37 kernelRun0_B.sl.v41 kernelRun0_B.sl.v45 kernelRun0_B.sl.v49 L15
  rw [rows_B]

theorem rows_C : kernelRun0_C.sl.HS0_3 (F := Ideal) c i arg1 harg1 arg2 harg2 x0 x1 = L14 i x0 x1 := by
  unfold kernelRun0_C.sl.HS0_3 L14
  simp only [View.readAt_eq_ld, Memref.IsWhole.read_unread, View.ld_unit_zero (S := S32x1024) hz, View.ld_unit_zero (S := S512x1024) hz]

theorem shifts_C : kernelRun0_C.sl.HS1_7 (F := Ideal) c i arg1 harg1 arg2 harg2 arg14 x0 x1 = L15 arg14.view i x0 x1 := by
  unfold kernelRun0_C.sl.HS1_7 kernelRun0_C.sl.r kernelRun0_C.sl.r_1 kernelRun0_C.sl.v25 kernelRun0_C.sl.v29 kernelRun0_C.sl.v33 kernelRun0_C.sl.v37 kernelRun0_C.sl.v41 kernelRun0_C.sl.v45 kernelRun0_C.sl.v49 L15
  rw [rows_C]

end Words

theorem ld_half (a : Vec Ideal S8x2048 .f32) (n : ℕ) (hn : n ≤ 1024) (inb : ∀ d, (![0, n] : Fin 2 → ℕ) d + S8x1024.size d ≤ S8x2048.size d) (s : Fin 8) (q : Fin 1024) :
    View.ld (Val := Elt Ideal) (e' := .f32) a (Rect.unit (s := S8x2048) ![0, n] S8x1024.size inb) (ix2 s q) = a (ix2 s ⟨n + q.val, by have := q.isLt; omega⟩) := by
  refine congrArg a ?_
  funext d
  apply Fin.ext
  fin_cases d
  · show 0 + 1 * s.val = s.val; omega
  · show n + 1 * q.val = n + q.val; omega

theorem readCov_whole2 (v : View sig .tc .vmem S8x2048 .f32) (L : List (View.Piece (Elt Ideal) S8x2048 .f32))
    (inb : ∀ d, (![0, 0] : Fin 2 → ℕ) d + S8x2048.size d ≤ S8x2048.size d) :
    v.readCov L (Rect.unit (s := S8x2048) ![0, 0] S8x2048.size inb).toLoadRect = View.canon L := by
  rw [View.readCov_eq_canon']
  funext y
  refine congrArg (View.canon L) ?_
  funext d
  apply Fin.ext
  fin_cases d
  · show 0 + 1 * (y 0).val = (y 0).val; omega
  · show 0 + 1 * (y 1).val = (y 1).val; omega

theorem readAt_whole3 (v : View sig .tc .vmem S32x8x1024 .f32) (f : BufTy.Contents (Elt Ideal) v.ty)
    (inb : ∀ d, (![0, 0, 0] : Fin 3 → ℕ) d + S32x8x1024.size d ≤ S32x8x1024.size d) :
    v.readAt (Elt Ideal) (Rect.unit (s := S32x8x1024) ![0, 0, 0] S32x8x1024.size inb).toLoadRect f = v.read (Elt Ideal) f := by
  rw [View.readAt_eq_ld]
  funext y
  refine congrArg (v.read (Elt Ideal) f) ?_
  funext d
  apply Fin.ext
  fin_cases d
  · show 0 + 1 * (y 0).val = (y 0).val; omega
  · show 0 + 1 * (y 1).val = (y 1).val; omega
  · show 0 + 1 * (y 2).val = (y 2).val; omega

theorem readCov_half (v : View sig .tc .vmem S8x2048 .f32) (L : List (View.Piece (Elt Ideal) S8x2048 .f32)) (n : ℕ) (hn : n ≤ 1024)
    (inb : ∀ d, (![0, n] : Fin 2 → ℕ) d + S8x1024.size d ≤ S8x2048.size d) (s : Fin 8) (q : Fin 1024) :
    v.readCov L (Rect.unit (s := S8x2048) ![0, n] S8x1024.size inb).toLoadRect (ix2 s q) = View.canon L (ix2 s ⟨n + q.val, by have := q.isLt; omega⟩) := by
  rw [View.readCov_eq_canon']
  refine congrArg (View.canon L) ?_
  funext d
  apply Fin.ext
  fin_cases d
  · show 0 + 1 * s.val = s.val; omega
  · show n + 1 * q.val = n + q.val; omega

theorem zero_b1 : View.canon (kernelRun0_A.sl.HS3_1 (F := Ideal)) = k0_pay238 (F := Ideal) := by
  unfold kernelRun0_A.sl.HS3_1
  exact View.canon_unit_zero (Val := Elt Ideal) (S := S8x2048) hz _ _

theorem hz3 : (![0, 0, 0] : Fin 3 → Nat) = fun _ => 0 := funext fun a => by fin_cases a <;> rfl

section Case
variable (m : (ℓ : Loc nD τ sig) → Buf (Elt Ideal) ℓ) (c : Dev nD) (t : Fin cfg0.N)

def duN : Vec Ideal S512x1024 .f32 := duOf (grid0.coords t) (iblk m c 0 t) (iblk m c 1 t) (iblk m c 6 t)
def daN : Vec Ideal S512x1024 .f32 := k0_pay255 (duN m c t) (iblk m c 4 t)
def dgN : Vec Ideal S512x1024 .f32 := k0_pay256 (duN m c t) (iblk m c 3 t) (iblk m c 4 t)

theorem outs_A (h0 : t.val % 32 = 0) (h1 : ¬t.val % 32 = 31) :
    let o := outsAt0 m c t.val t.isLt
    o.1 = dxB (daN m c t) (dgN m c t) (iblk m c 5 t) (iblk m c 7 t) ∧ o.2.1 = dhB (daN m c t) (dgN m c t)
      ∧ o.2.2.2.2.2.1 = b1B (daN m c t) (dgN m c t) (k0_pay238 (F := Ideal))
      ∧ o.2.2.2.2.2.2.1 = k0_pay241 (iblk m c 0 t) (k0_pay239 (F := Ideal))
      ∧ o.2.2.2.2.2.2.2 = accOf (grid0.coords t) (iblk m c 0 t) (iblk m c 1 t) (iblk m c 2 t) (k0_pay240 (F := Ideal)) := by
  intro o
  subst o
  rw [outsAt0_A m c t h0 h1]
  dsimp only
  have hdu := fun v52 inb => du_eq Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) v52 (iblk m c 0 t) (iblk m c 1 t) (iblk m c 6 t) inb
  dsimp only at hdu
  refine ⟨(View.read_writes_eq_canon _ _ _ (by intro y; apply cover0_A_8)).trans ?_,
    (View.read_writes_eq_canon _ _ _ (by intro y; apply cover0_A_9)).trans ?_,
    (View.read_writes_eq_canon _ _ _ (by intro y; apply scover0_A_3)).trans ?_,
    (View.read_writes_eq_canon _ _ _ (by intro y; apply scover0_A_4)).trans ?_, ?_⟩
  · unfold kernelRun0_A
    dsimp only
    unfold kernelRun0_A.sl.r_4 kernelRun0_A.sl.r_5 kernelRun0_A.sl.r_2 kernelRun0_A.sl.r_3
    rw [View.canon_unit_zero hz]
    simp only [rows_A, shifts_A, View.readAt_eq_ld, Memref.IsWhole.read_unread, View.ld_unit_zero (S := S512x1024) hz, shapeCast_self]
    rw [hdu]
    exact dx_eq _ _ _ _ _ _ _ _
  · unfold kernelRun0_A
    dsimp only
    unfold kernelRun0_A.sl.r_5 kernelRun0_A.sl.r_2 kernelRun0_A.sl.r_3
    simp only [rows_A, shifts_A, View.readAt_eq_ld, Memref.IsWhole.read_unread, View.ld_unit_zero (S := S512x1024) hz, shapeCast_self]
    rw [hdu]
    exact canon_dh _ _
  · unfold kernelRun0_A
    dsimp only
    unfold kernelRun0_A.sl.HS3_2 kernelRun0_A.sl.v76 kernelRun0_A.sl.v69
    simp only [rows_A, shifts_A, View.readAt_eq_ld, Memref.IsWhole.read_unread, View.ld_unit_zero (S := S512x1024) hz, shapeCast_self]
    rw [hdu]
    refine b1_eq _ _ _ _ _ _ (fun s q => ?_) (fun s q => ?_) _
    · refine (readCov_half _ _ 0 (by decide) _ s q).trans ?_
      rw [zero_b1]
      exact congrArg (fun p => k0_pay238 (F := Ideal) (ix2 s p)) (Fin.ext (Nat.zero_add _))
    · refine (readCov_half _ _ 1024 (by decide) _ s q).trans ?_
      unfold kernelRun0_A.sl.HS3_2
      refine (View.canon_cons_of_not_mem _ _ (fun hm => ?_)).trans (by rw [zero_b1])
      have h0 := ((Rect.mem_set_unit (inb := inb_S8x2048_S8x1024_0_0)).1 hm 1).2
      exact absurd (show 1024 + q.val < 0 + 1024 from h0) (by omega)
  · unfold kernelRun0_A
    dsimp only
    unfold kernelRun0_A.sl.HS4_2 kernelRun0_A.sl.v4 kernelRun0_A.sl.HS4_1
    rw [View.canon_cons_unit_zero (S := S8x1024) hz]
    simp only [View.readCov_unit_zero (S := S8x1024) _ hz, View.readAt_eq_ld, Memref.IsWhole.read_unread, View.ld_unit_zero (S := S512x1024) hz, shapeCast_self]
    done
  · unfold sout0_A_5 kernelRun0_A
    dsimp only
    unfold kernelRun0_A.sl.HS5_1
    simp only [rows_A, shifts_A]
    rw [View.writes_append]
    refine (acc_eq Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) _ (iblk m c 0 t) (iblk m c 1 t) (iblk m c 2 t) _).trans ?_
    refine congrArg (accOf (grid0.coords t) (iblk m c 0 t) (iblk m c 1 t) (iblk m c 2 t)) ((View.read_writes_junk_eq_canon _ _).trans ?_)
    exact View.canon_unit_zero (Val := Elt Ideal) (S := S32x8x1024) hz3 _ _

theorem outs_B (h0 : ¬t.val % 32 = 0) (h1 : ¬t.val % 32 = 31) (hp : t.val - 1 < cfg0.N) :
    let o := outsAt0 m c t.val t.isLt
    let p := outsAt0 m c (t.val - 1) hp
    o.1 = dxB (daN m c t) (dgN m c t) (iblk m c 5 t) (iblk m c 7 t) ∧ o.2.1 = dhB (daN m c t) (dgN m c t)
      ∧ o.2.2.2.2.2.1 = b1B (daN m c t) (dgN m c t) p.2.2.2.2.2.1
      ∧ o.2.2.2.2.2.2.1 = k0_pay241 (iblk m c 0 t) p.2.2.2.2.2.2.1
      ∧ o.2.2.2.2.2.2.2 = accOf (grid0.coords t) (iblk m c 0 t) (iblk m c 1 t) (iblk m c 2 t) p.2.2.2.2.2.2.2 := by
  intro o p
  subst o p
  rw [outsAt0_B m c t h0 h1]
  dsimp only
  have hdu := fun v52 inb => du_eq Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) v52 (iblk m c 0 t) (iblk m c 1 t) (iblk m c 6 t) inb
  dsimp only at hdu
  refine ⟨(View.read_writes_eq_canon _ _ _ (by intro y; apply cover0_B_8)).trans ?_,
    (View.read_writes_eq_canon _ _ _ (by intro y; apply cover0_B_9)).trans ?_,
    (View.read_writes_eq_canon _ _ _ (by intro y; apply scover0_B_3)).trans ?_,
    (View.read_writes_eq_canon _ _ _ (by intro y; apply scover0_B_4)).trans ?_, ?_⟩
  · unfold kernelRun0_B
    dsimp only
    unfold kernelRun0_B.sl.r_4 kernelRun0_B.sl.r_5 kernelRun0_B.sl.r_2 kernelRun0_B.sl.r_3
    rw [View.canon_unit_zero hz]
    simp only [rows_B, shifts_B, View.readAt_eq_ld, Memref.IsWhole.read_unread, View.ld_unit_zero (S := S512x1024) hz, shapeCast_self]
    rw [hdu]
    exact dx_eq _ _ _ _ _ _ _ _
  · unfold kernelRun0_B
    dsimp only
    unfold kernelRun0_B.sl.r_5 kernelRun0_B.sl.r_2 kernelRun0_B.sl.r_3
    simp only [rows_B, shifts_B, View.readAt_eq_ld, Memref.IsWhole.read_unread, View.ld_unit_zero (S := S512x1024) hz, shapeCast_self]
    rw [hdu]
    exact canon_dh _ _
  · unfold kernelRun0_B
    dsimp only
    unfold kernelRun0_B.sl.v76
    simp only [rows_B, shifts_B, View.readAt_eq_ld, Memref.IsWhole.read_unread, View.ld_unit_zero (S := S512x1024) hz, shapeCast_self]
    rw [hdu]
    refine b1_eq _ _ _ _ _ _ (fun s q => ?_) (fun s q => ?_) _
    · exact (ld_half _ 0 (by decide) _ s q).trans ((congrFun (Memref.IsWhole.read_unread (Memref.isWhole_whole _) _) _).trans <| congrArg (fun p => (outsAt0 m c (t.val - 1) hp).2.2.2.2.2.1 (ix2 s p)) (Fin.ext (Nat.zero_add _)))
    · exact (ld_half _ 1024 (by decide) _ s q).trans (congrFun (Memref.IsWhole.read_unread (Memref.isWhole_whole _) _) _)
  · unfold kernelRun0_B
    dsimp only
    unfold kernelRun0_B.sl.HS4_1
    rw [View.canon_unit_zero hz]
    simp only [View.readAt_eq_ld, Memref.IsWhole.read_unread, View.ld_unit_zero (S := S512x1024) hz, View.ld_unit_zero (S := S8x1024) hz, shapeCast_self]
    exact congrArg (k0_pay241 (iblk m c 0 t)) (Memref.IsWhole.read_unread (Memref.isWhole_whole _) _)
  · unfold sout0_B_5 kernelRun0_B
    dsimp only
    simp only [rows_B, shifts_B]
    refine (acc_eq Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) _ (iblk m c 0 t) (iblk m c 1 t) (iblk m c 2 t) _).trans ?_
    rw [Memref.IsWhole.read_unread]

theorem outs_C (h0 : ¬t.val % 32 = 0) (h1 : t.val % 32 = 31) (hp : t.val - 1 < cfg0.N) :
    let o := outsAt0 m c t.val t.isLt
    let p := outsAt0 m c (t.val - 1) hp
    o.1 = dxB (daN m c t) (dgN m c t) (iblk m c 5 t) (iblk m c 7 t) ∧ o.2.1 = dhB (daN m c t) (dgN m c t)
      ∧ o.2.2.1 = k0_pay3 (b1B (daN m c t) (dgN m c t) p.2.2.2.2.2.1)
      ∧ o.2.2.2.1 = k0_pay4 (k0_pay241 (iblk m c 0 t) p.2.2.2.2.2.2.1)
      ∧ o.2.2.2.2.1 = k0_pay5 (accOf (grid0.coords t) (iblk m c 0 t) (iblk m c 1 t) (iblk m c 2 t) p.2.2.2.2.2.2.2) := by
  intro o p
  subst o p
  rw [outsAt0_C m c t h0 h1]
  dsimp only
  have hdu := fun v52 inb => du_eq Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) v52 (iblk m c 0 t) (iblk m c 1 t) (iblk m c 6 t) inb
  dsimp only at hdu
  refine ⟨(View.read_writes_eq_canon _ _ _ (by intro y; apply cover0_C_8)).trans ?_,
    (View.read_writes_eq_canon _ _ _ (by intro y; apply cover0_C_9)).trans ?_,
    (View.read_writes_eq_canon _ _ _ (by intro y; apply cover0_C_10)).trans ?_,
    (View.read_writes_eq_canon _ _ _ (by intro y; apply cover0_C_11)).trans ?_,
    (View.read_writes_eq_canon _ _ _ (by intro y; apply cover0_C_12)).trans ?_⟩
  · unfold kernelRun0_C
    dsimp only
    unfold kernelRun0_C.sl.r_4 kernelRun0_C.sl.r_5 kernelRun0_C.sl.r_2 kernelRun0_C.sl.r_3
    rw [View.canon_unit_zero hz]
    simp only [rows_C, shifts_C, View.readAt_eq_ld, Memref.IsWhole.read_unread, View.ld_unit_zero (S := S512x1024) hz, shapeCast_self]
    rw [hdu]
    exact dx_eq _ _ _ _ _ _ _ _
  · unfold kernelRun0_C
    dsimp only
    unfold kernelRun0_C.sl.r_5 kernelRun0_C.sl.r_2 kernelRun0_C.sl.r_3
    simp only [rows_C, shifts_C, View.readAt_eq_ld, Memref.IsWhole.read_unread, View.ld_unit_zero (S := S512x1024) hz, shapeCast_self]
    rw [hdu]
    exact canon_dh _ _
  · unfold kernelRun0_C
    dsimp only
    unfold kernelRun0_C.sl.v126 kernelRun0_C.sl.HS3_2 kernelRun0_C.sl.v76
    rw [View.canon_unit_zero hz]
    simp only [rows_C, shifts_C, View.readAt_eq_ld, Memref.IsWhole.read_unread, View.ld_unit_zero (S := S512x1024) hz, shapeCast_self]
    rw [hdu]
    refine congrArg k0_pay3 ((readCov_whole2 _ _ _).trans (b1_eq _ _ _ _ _ _ (fun s q => ?_) (fun s q => ?_) _))
    · exact (ld_half _ 0 (by decide) _ s q).trans ((congrFun (Memref.IsWhole.read_unread (Memref.isWhole_whole _) _) _).trans <| congrArg (fun p => (outsAt0 m c (t.val - 1) hp).2.2.2.2.2.1 (ix2 s p)) (Fin.ext (Nat.zero_add _)))
    · exact (ld_half _ 1024 (by decide) _ s q).trans (congrFun (Memref.IsWhole.read_unread (Memref.isWhole_whole _) _) _)
  · unfold kernelRun0_C
    dsimp only
    unfold kernelRun0_C.sl.v130 kernelRun0_C.sl.HS4_1
    rw [View.canon_unit_zero hz]
    simp only [View.readCov_unit_zero (S := S8x1024) _ hz, View.readAt_eq_ld, Memref.IsWhole.read_unread, View.ld_unit_zero (S := S512x1024) hz, View.ld_unit_zero (S := S8x1024) hz, shapeCast_self]
    exact congrArg (fun a => k0_pay4 (k0_pay241 (iblk m c 0 t) a)) (Memref.IsWhole.read_unread (Memref.isWhole_whole _) _)
  · unfold kernelRun0_C
    dsimp only
    unfold kernelRun0_C.sl.v134
    rw [View.canon_unit_zero hz]
    simp only [rows_C, shifts_C]
    refine congrArg k0_pay5 ((readAt_whole3 _ _ _).trans ((acc_eq Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) _ (iblk m c 0 t) (iblk m c 1 t) (iblk m c 2 t) _).trans ?_))
    rw [Memref.IsWhole.read_unread]

end Case

end Cert.Conv
-- ==== Proof.ConvHost.lean ====
module

public import proofs.«01_k».proof.Proof.ConvRun
public import Idealize.ShloMosaic.Lib.StableHlo.ReadAt

@[expose] public section

set_option maxRecDepth 16384

noncomputable section

namespace Cert.Conv

open Idealize.ShloMosaic Idealize.ShloMosaic.TcCoe Idealize.ShloMosaic.Tactic
open Cert.Kernel5Ideal Cert.Kernel5Ideal.Gen

variable (m : (ℓ : Loc nD τ sig) → Buf (Elt Ideal) ℓ) (c : Dev nD)

abbrev arr0 : S16384x1024.Idx → EReal := m ((c : Thread nD τ).loc main_arg0)
abbrev arr1 : S1024x2048.Idx → EReal := m ((c : Thread nD τ).loc main_arg1)
abbrev arr2 : S2048.Idx → EReal := m ((c : Thread nD τ).loc main_arg2)
abbrev arr3 : S31x1024.Idx → EReal := m ((c : Thread nD τ).loc main_arg3)
abbrev arr5 : S16384x1024.Idx → EReal := m ((c : Thread nD τ).loc main_arg5)
abbrev arr6 : S16384x1024.Idx → EReal := m ((c : Thread nD τ).loc main_arg6)

def lo (j : Fin 1024) : Fin 2048 := ⟨j.val, by omega⟩
def hi (j : Fin 1024) : Fin 2048 := ⟨1024 + j.val, by omega⟩

/-! ## The saved values -/

/-- The pointwise layer's result, and the gated rows. -/
def pre (ρ : Fin 16384) (p : Fin 2048) : EReal := (∑ k : Fin 1024, arr0 m c (ix2 ρ k) * arr1 m c (ix2 k p)) + arr2 m c (ix1 p)
def gated (ρ : Fin 16384) (j : Fin 1024) : EReal := pre m c ρ (lo j) * Ideal.logistic (pre m c ρ (hi j))

theorem a_host (ρ : Fin 16384) (j : Fin 1024) : (V m c main_v19 : S16384x1024.Idx → EReal) (ix2 ρ j) = pre m c ρ (lo j) := by
  unfold V; after_reads_at
  rfl

theorem g_host (ρ : Fin 16384) (j : Fin 1024) : (V m c main_v20 : S16384x1024.Idx → EReal) (ix2 ρ j) = pre m c ρ (hi j) := by
  unfold V; after_reads_at
  rfl

theorem u_host (ρ : Fin 16384) (j : Fin 1024) : (V m c main_v12 : S16384x1024.Idx → EReal) (ix2 ρ j) = gated m c ρ j := by
  unfold V; after_reads_at
  rfl

theorem taps_host (k : Fin 32) (b : Fin 8) (j : Fin 1024) (h : k.val < 31) :
    (V m c main_v15 : S32x8x1024.Idx → EReal) (ix3 k b j) = arr3 m c (ix2 ⟨k.val, h⟩ j) := by
  unfold V; after_reads_at
  exact dif_pos h

theorem w_host (s : Fin 4) (q : Fin 1024) (p : Fin 512) :
    (V m c main_v18 : S4x1024x512.Idx → EReal) (ix3 s q p) = arr1 m c (ix2 q ⟨512 * s.val + p.val, ix2048 s p⟩) := by
  unfold V; after_reads_at
  refine congrArg (arr1 m c) ?_
  idx_ext

/-! ## The blocks -/

theorem idx_rows (t : Fin cfg0.N) : (grid0.coords t 0).val = t.val ∧ (win0_0.index t 0 = t.val ∧ win0_0.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ win0_5.index t 0 = t.val ∧ win0_5.index t 1 = 0 := by
  revert t; decide +kernel

theorem idx_next (t : Fin cfg0.N) : win0_1.index t 1 = 0 ∧ (t.val < 31 → win0_1.index t 0 = (t.val + 1) * 16) := by
  revert t; decide +kernel

theorem idx_whole (t : Fin cfg0.N) : (win0_6.index t 0 = 0 ∧ win0_6.index t 1 = 0 ∧ win0_6.index t 2 = 0)
    ∧ win0_7.index t 0 = 0 ∧ win0_7.index t 1 = 0 ∧ win0_7.index t 2 = 0 := by
  revert t; decide +kernel

section Blk
variable (t : Fin cfg0.N) (r : Fin 512) (j : Fin 1024) (h : t.val * 512 + r < 16384)

theorem c_blk : (iblk m c 0 t : Vec Ideal S512x1024 .f32) (ix2 r j) = arr6 m c (ix2 ⟨t.val * 512 + r, h⟩ j) := by
  have := idx_rows t
  blk_ext [iblk, V, this]

theorem z_blk : (iblk m c 5 t : Vec Ideal S512x1024 .f32) (ix2 r j) = arr5 m c (ix2 ⟨t.val * 512 + r, h⟩ j) := by
  have := idx_rows t
  blk_ext [iblk, V, this]

theorem u_blk : (iblk m c 2 t : Vec Ideal S512x1024 .f32) (ix2 r j) = gated m c ⟨t.val * 512 + r, h⟩ j := by
  have := idx_rows t
  refine Eq.trans ?_ (u_host m c _ j)
  blk_ext [iblk, this]

theorem a_blk : (iblk m c 3 t : Vec Ideal S512x1024 .bf16) (ix2 r j) = pre m c ⟨t.val * 512 + r, h⟩ (lo j) := by
  have := idx_rows t
  refine Eq.trans ?_ (a_host m c _ j)
  blk_ext [iblk, this]

theorem g_blk : (iblk m c 4 t : Vec Ideal S512x1024 .bf16) (ix2 r j) = pre m c ⟨t.val * 512 + r, h⟩ (hi j) := by
  have := idx_rows t
  refine Eq.trans ?_ (g_host m c _ j)
  blk_ext [iblk, this]

theorem n_blk (e : Fin 32) (ht : t.val < 31) (h' : (t.val + 1) * 512 + e < 16384) :
    (iblk m c 1 t : Vec Ideal S32x1024 .f32) (ix2 e j) = arr6 m c (ix2 ⟨(t.val + 1) * 512 + e, h'⟩ j) := by
  have h1 := (idx_next t).1
  have h0 := (idx_next t).2 ht
  blk_ext [iblk, V, h0, h1]

theorem taps_blk (k : Fin 32) (b : Fin 8) (hk : k.val < 31) :
    (iblk m c 6 t : Vec Ideal S32x8x1024 .f32) (ix3 k b j) = arr3 m c (ix2 ⟨k.val, hk⟩ j) := by
  have := idx_whole t
  refine Eq.trans ?_ (taps_host m c k b j hk)
  blk_ext [iblk, this]

theorem w_blk (s : Fin 4) (q : Fin 1024) (p : Fin 512) :
    (iblk m c 7 t : Vec Ideal S4x1024x512 .bf16) (ix3 s q p) = arr1 m c (ix2 q ⟨512 * s.val + p.val, ix2048 s p⟩) := by
  have := idx_whole t
  refine Eq.trans ?_ (w_host m c s q p)
  blk_ext [iblk, this]

end Blk

end Cert.Conv
-- ==== Proof.ConvGrid.lean ====
module

public import proofs.«01_k».proof.Proof.ConvHost

@[expose] public section

set_option maxRecDepth 16384

noncomputable section

namespace Cert.Conv

open Idealize.ShloMosaic Idealize.ShloMosaic.TcCoe Idealize.ShloMosaic.Tactic
open Cert.Kernel5Ideal Cert.Kernel5Ideal.Gen Cert.Rows

variable (m : (ℓ : Loc nD τ sig) → Buf (Elt Ideal) ℓ) (c : Dev nD)

/-! ## The gradients -/

/-- A row of the gradient that comes in, zero past the end. -/
def nxt (e : ℕ) (j : Fin 1024) : EReal := at2 (arr6 m c) e j.val

/-- The gradient of the gated rows. -/
def duR (ρ : Fin 16384) (j : Fin 1024) : EReal := ∑ k ∈ Finset.range 31, at2 (arr3 m c) k j.val * nxt m c (ρ.val + (30 - k)) j

/-- The gradients of the two halves of the pointwise layer's result, and of the result. -/
def daR (ρ : Fin 16384) (j : Fin 1024) : EReal := duR m c ρ j * Ideal.logistic (pre m c ρ (hi j))
def dgR (ρ : Fin 16384) (j : Fin 1024) : EReal :=
  duR m c ρ j * pre m c ρ (lo j) * Ideal.logistic (pre m c ρ (hi j)) * (1 - Ideal.logistic (pre m c ρ (hi j)))
def dhR (ρ : Fin 16384) (p : Fin 2048) : EReal :=
  if h : p.val < 1024 then daR m c ρ ⟨p.val, h⟩ else dgR m c ρ ⟨p.val - 1024, by have := p.isLt; omega⟩

section Blocks
variable (t : Fin cfg0.N)

theorem ext_row (e : ℕ) (he : e < 544) (j : Fin 1024) :
    ext (grid0.coords t) (iblk m c 0 t) (iblk m c 1 t) e j.val = nxt m c (t.val * 512 + e) j := by
  have hN : t.val < 32 := lt_of_lt_of_eq t.isLt N_0
  have hc := (idx_rows t).1
  unfold ext nxt
  by_cases h : e < 512
  · rw [if_pos h]
    have h' : t.val * 512 + e < 16384 := by omega
    exact (at2_val _ ⟨e, h⟩ j).trans ((c_blk m c t ⟨e, h⟩ j h').trans (at2_val (arr6 m c) ⟨t.val * 512 + e, h'⟩ j).symm)
  · rw [if_neg h, hc]
    by_cases ht : t.val = 31
    · rw [if_pos ht]
      unfold at2
      rw [dif_neg (by omega)]
    · rw [if_neg ht]
      have h' : (t.val + 1) * 512 + (e - 512) < 16384 := by omega
      refine (at2_val _ ⟨e - 512, by omega⟩ j).trans ((n_blk m c t j ⟨e - 512, by omega⟩ (by omega) h').trans ?_)
      rw [show t.val * 512 + e = (t.val + 1) * 512 + (e - 512) by omega]
      exact (at2_val (arr6 m c) ⟨(t.val + 1) * 512 + (e - 512), h'⟩ j).symm

variable (r : Fin 512) (j : Fin 1024) (h : t.val * 512 + r < 16384)

theorem du_row : duN m c t (ix2 r j) = duR m c ⟨t.val * 512 + r, h⟩ j := by
  unfold duN duOf duR
  refine Finset.sum_congr rfl fun k hk => ?_
  have hk' : k < 31 := Finset.mem_range.1 hk
  have hr : r.val < 512 := r.isLt
  refine congrArg₂ (· * ·) ?_ ((ext_row m c t _ (by show r.val + (30 - k) < 544; omega) j).trans (congrArg (nxt m c · j) (Nat.add_assoc ..).symm))
  exact (at3_val _ ⟨k, by omega⟩ ⟨r.val % 8, by omega⟩ j).trans ((taps_blk m c t j ⟨k, by omega⟩ ⟨r.val % 8, by omega⟩ hk').trans
    (at2_val (arr3 m c) ⟨k, hk'⟩ j).symm)

theorem da_row : daN m c t (ix2 r j) = daR m c ⟨t.val * 512 + r, h⟩ j := by
  unfold daN daR
  rw [da_at, du_row m c t r j h, g_blk m c t r j h]

theorem dg_row : dgN m c t (ix2 r j) = dgR m c ⟨t.val * 512 + r, h⟩ j := by
  unfold dgN dgR
  rw [dg_at, du_row m c t r j h, g_blk m c t r j h, a_blk m c t r j h]

theorem dh_row (p : Fin 2048) : dhN (daN m c t) (dgN m c t) r p = dhR m c ⟨t.val * 512 + r, h⟩ p := by
  unfold dhN dhR
  by_cases hp : p.val < 1024
  · rw [dif_pos hp, dif_pos hp, da_row m c t r _ h]
  · rw [dif_neg hp, dif_neg hp, dg_row m c t r _ h]

end Blocks

/-! ## The running sums -/

def bTerm (p : Fin 2048) (n : ℕ) : EReal := if h : n < 16384 then dhR m c ⟨n, h⟩ p else 0
def cTerm (j : Fin 1024) (n : ℕ) : EReal := nxt m c n j
def wTerm (k : Fin 32) (j : Fin 1024) (n : ℕ) : EReal :=
  if k.val < 31 then (if h : n < 16384 then gated m c ⟨n, h⟩ j else 0) * nxt m c (n + (30 - k.val)) j else 0

section Step
variable (t : Fin cfg0.N) (s : Fin 8)

theorem b_step (a : Vec Ideal S8x2048 .f32) (p : Fin 2048) :
    b1B (daN m c t) (dgN m c t) a (ix2 s p) = a (ix2 s p) + ∑ g : Fin 64, bTerm m c p (t.val * 512 + g * 8 + s) := by
  have hN : t.val < 32 := lt_of_lt_of_eq t.isLt N_0
  unfold b1B
  refine congrArg (a (ix2 s p) + ·) (Finset.sum_congr rfl fun g _ => ?_)
  have h : t.val * 512 + (g.val * 8 + s.val) < 16384 := by omega
  refine (dh_row m c t ⟨g.val * 8 + s.val, ix64 g s⟩ h p).trans ?_
  unfold bTerm
  rw [dif_pos (by omega)]
  simp only [Nat.add_assoc]

theorem c_step (a : Vec Ideal S8x1024 .f32) (j : Fin 1024) :
    k0_pay241 (iblk m c 0 t) a (ix2 s j) = a (ix2 s j) + ∑ g : Fin 64, cTerm m c j (t.val * 512 + g * 8 + s) := by
  have hN : t.val < 32 := lt_of_lt_of_eq t.isLt N_0
  rw [sum_c_at]
  refine congrArg (a (ix2 s j) + ·) (Finset.sum_congr rfl fun g _ => ?_)
  have h : t.val * 512 + (g.val * 8 + s.val) < 16384 := by omega
  refine (c_blk m c t ⟨g.val * 8 + s.val, ix64 g s⟩ j h).trans ?_
  unfold cTerm nxt
  rw [show t.val * 512 + g.val * 8 + s.val = t.val * 512 + (g.val * 8 + s.val) by omega]
  exact (at2_val (arr6 m c) ⟨_, h⟩ j).symm

theorem w_step (a : Vec Ideal S32x8x1024 .f32) (k : Fin 32) (j : Fin 1024) :
    accOf (grid0.coords t) (iblk m c 0 t) (iblk m c 1 t) (iblk m c 2 t) a (ix3 k s j)
      = a (ix3 k s j) + ∑ g : Fin 64, wTerm m c k j (t.val * 512 + g * 8 + s) := by
  have hN : t.val < 32 := lt_of_lt_of_eq t.isLt N_0
  unfold accOf wTerm
  refine congrArg (a (ix3 k s j) + ·) ?_
  by_cases hk : k.val < 31
  · refine (if_pos hk).trans ?_
    simp only [if_pos hk]
    rw [Fin.sum_univ_eq_sum_range (fun g => (if h : t.val * 512 + g * 8 + s.val < 16384 then gated m c ⟨t.val * 512 + g * 8 + s.val, h⟩ j else 0)
      * nxt m c (t.val * 512 + g * 8 + s.val + (30 - k.val)) j) 64, ← Finset.sum_range_range_mul_add 8 8]
    refine Finset.sum_congr rfl fun q hq => ?_
    rw [← Fin.sum_univ_eq_sum_range (fun h' => (if h : t.val * 512 + (q * 8 + h') * 8 + s.val < 16384 then gated m c ⟨t.val * 512 + (q * 8 + h') * 8 + s.val, h⟩ j else 0)
      * nxt m c (t.val * 512 + (q * 8 + h') * 8 + s.val + (30 - k.val)) j) 8]
    refine Finset.sum_congr rfl fun g _ => ?_
    have hq' : q < 8 := Finset.mem_range.1 hq
    have hr : 64 * q + (g.val * 8 + s.val) < 512 := by omega
    have h : t.val * 512 + (64 * q + (g.val * 8 + s.val)) < 16384 := by omega
    refine congrArg₂ (· * ·) ?_ ?_
    · rw [dif_pos (by omega)]
      refine (at2_val _ ⟨64 * q + (g.val * 8 + s.val), hr⟩ j).trans ((u_blk m c t ⟨64 * q + (g.val * 8 + s.val), hr⟩ j h).trans ?_)
      exact congrArg (gated m c · j) (Fin.ext (by show t.val * 512 + (64 * q + (g.val * 8 + s.val)) = t.val * 512 + (q * 8 + g.val) * 8 + s.val; omega))
    · refine (ext_row m c t _ (by show 64 * q + (30 - k.val) + (g.val * 8 + s.val) < 544; omega) j).trans (congrArg (nxt m c · j) ?_)
      show t.val * 512 + (64 * q + (30 - k.val) + (g.val * 8 + s.val)) = _
      omega
  · refine (if_neg hk).trans ?_
    simp only [if_neg hk, Finset.sum_const_zero]

end Step

/-- What the three running sums hold after point `n`, for every point but the last. -/
theorem sums_at (s : Fin 8) : ∀ (n : ℕ) (hn : n < cfg0.N), n < 31 →
    (∀ p, (outsAt0 m c n hn).2.2.2.2.2.1 (ix2 s p) = ∑ t ∈ Finset.range (n + 1), ∑ g : Fin 64, bTerm m c p (t * 512 + g * 8 + s))
    ∧ (∀ j, (outsAt0 m c n hn).2.2.2.2.2.2.1 (ix2 s j) = ∑ t ∈ Finset.range (n + 1), ∑ g : Fin 64, cTerm m c j (t * 512 + g * 8 + s))
    ∧ ∀ k j, (outsAt0 m c n hn).2.2.2.2.2.2.2 (ix3 k s j) = ∑ t ∈ Finset.range (n + 1), ∑ g : Fin 64, wTerm m c k j (t * 512 + g * 8 + s)
  | 0, hn, _ => by
    obtain ⟨-, -, e1, e2, e3⟩ := outs_A m c ⟨0, hn⟩ rfl (by dsimp only; omega)
    refine ⟨fun p => ?_, fun j => ?_, fun k j => ?_⟩
    · rw [e1, b_step, pay238_at, Finset.sum_range_one]; exact zero_add _
    · rw [e2, c_step, pay239_at, Finset.sum_range_one]; exact zero_add _
    · rw [e3, w_step, pay240_at, Finset.sum_range_one]; exact zero_add _
  | n + 1, hn, h31 => by
    obtain ⟨-, -, e1, e2, e3⟩ := outs_B m c ⟨n + 1, hn⟩ (by dsimp only; omega) (by dsimp only; omega) (Nat.lt_of_succ_lt hn)
    obtain ⟨i1, i2, i3⟩ := sums_at s n (Nat.lt_of_succ_lt hn) (by omega)
    refine ⟨fun p => ?_, fun j => ?_, fun k j => ?_⟩
    · rw [e1, b_step, Finset.sum_range_succ _ (n + 1)]; exact congrArg (· + _) (i1 p)
    · rw [e2, c_step, Finset.sum_range_succ _ (n + 1)]; exact congrArg (· + _) (i2 j)
    · rw [e3, w_step, Finset.sum_range_succ _ (n + 1)]; exact congrArg (· + _) (i3 k j)

/-- The blocks point `n` writes back, whatever its case. -/
theorem blocks_at (t : Fin cfg0.N) :
    (outsAt0 m c t.val t.isLt).1 = dxB (daN m c t) (dgN m c t) (iblk m c 5 t) (iblk m c 7 t)
    ∧ (outsAt0 m c t.val t.isLt).2.1 = dhB (daN m c t) (dgN m c t) := by
  have hN : t.val < 32 := lt_of_lt_of_eq t.isLt N_0
  by_cases h0 : t.val % 32 = 0
  · obtain ⟨e1, e2, -⟩ := outs_A m c t h0 (by omega)
    exact ⟨e1, e2⟩
  · by_cases h1 : t.val % 32 = 31
    · obtain ⟨e1, e2, -⟩ := outs_C m c t h0 h1 (by omega)
      exact ⟨e1, e2⟩
    · obtain ⟨e1, e2, -⟩ := outs_B m c t h0 h1 (by omega)
      exact ⟨e1, e2⟩

theorem totals_at (n : ℕ) (hn : n < cfg0.N) (h31 : n = 31) :
    (∀ p, (outsAt0 m c n hn).2.2.1 (ix2 0 p) = ∑ ρ : Fin 16384, bTerm m c p ρ)
    ∧ (∀ j, (outsAt0 m c n hn).2.2.2.1 (ix2 0 j) = ∑ ρ : Fin 16384, cTerm m c j ρ)
    ∧ ∀ k j, (outsAt0 m c n hn).2.2.2.2.1 (ix2 k j) = ∑ ρ : Fin 16384, wTerm m c k j ρ := by
  obtain ⟨-, -, e1, e2, e3⟩ := outs_C m c ⟨n, hn⟩ (by dsimp only; omega) (by dsimp only; omega) (by dsimp only; omega)
  dsimp only at e1 e2 e3
  have hs := fun s => sums_at m c s (n - 1) (by omega) (by omega)
  have hl : ∀ f : ℕ → EReal, (∑ r : Fin 8, (∑ t ∈ Finset.range 31, ∑ i : Fin 64, f (t * 512 + i * 8 + r)
      + ∑ i : Fin 64, f (31 * 512 + i * 8 + r))) = ∑ ρ : Fin 16384, f ρ := fun f => by
    rw [← sum_points_rows 32 64 8 512 16384 rfl rfl]
    refine Finset.sum_congr rfl fun r _ => ?_
    rw [Finset.sum_range_succ _ 31]
  refine ⟨fun p => ?_, fun j => ?_, fun k j => ?_⟩
  · rw [e1, pay3_at]
    simp only [b_step, (hs _).1]
    subst h31
    exact hl (bTerm m c p)
  · rw [e2, pay4_at]
    simp only [c_step, (hs _).2.1]
    subst h31
    exact hl (cTerm m c j)
  · rw [e3, pay5_at]
    simp only [w_step, (hs _).2.2]
    subst h31
    exact hl (wTerm m c k j)

end Cert.Conv
-- ==== Proof.ConvOut.lean ====
module

public import proofs.«01_k».proof.Proof.ConvGrid
public import Idealize.ShloMosaic.Adequacy

@[expose] public section

set_option maxRecDepth 16384

noncomputable section

namespace Cert.Conv

open Idealize.ShloMosaic Idealize.ShloMosaic.TcCoe Idealize.ShloMosaic.Tactic
open Cert.Kernel5Ideal Cert.Kernel5Ideal.Gen Idealize.SL.Sem

variable (m : (ℓ : Loc nD τ sig) → Buf (Elt Ideal) ℓ) (c : Dev nD)

/-! ## The results -/

def dxR (ρ : Fin 16384) (q : Fin 1024) : EReal :=
  Ideal.ofBits .f32 0x3FB504F3#32 * arr5 m c (ix2 ρ q) + ∑ p : Fin 2048, dhR m c ρ p * arr1 m c (ix2 q p)

def G8 : Buf (Elt Ideal) ((c : Thread nD τ).loc main_v21_0) := fun (i : S16384x1024.Idx) => dxR m c (i 0) (i 1)
def G9 : Buf (Elt Ideal) ((c : Thread nD τ).loc main_v21_1) := fun (i : S4x16384x512.Idx) =>
  dhR m c (i 1) ⟨512 * (i 0).val + (i 2).val, ix2048 (i 0) (i 2)⟩
def G10 : Buf (Elt Ideal) ((c : Thread nD τ).loc main_v21_2) := fun (i : S1x2048.Idx) => (∑ ρ : Fin 16384, bTerm m c (i 1) ρ : EReal)
def G11 : Buf (Elt Ideal) ((c : Thread nD τ).loc main_v21_3) := fun (i : S1x1024.Idx) => (∑ ρ : Fin 16384, cTerm m c (i 1) ρ : EReal)
def G12 : Buf (Elt Ideal) ((c : Thread nD τ).loc main_v21_4) := fun (i : S32x1024.Idx) => (∑ ρ : Fin 16384, wTerm m c (i 0) (i 1) ρ : EReal)

/-- A sum over the 2048 columns is the sum over the four blocks of 512. -/
theorem sum_cols (f : Fin 2048 → EReal) : ∑ p : Fin 2048, f p = ∑ s : Fin 4, ∑ p : Fin 512, f ⟨512 * s.val + p.val, ix2048 s p⟩ := by
  rw [← Fintype.sum_prod_type']
  refine (Fintype.sum_equiv (finProdFinEquiv (m := 4) (n := 512)) _ _ fun x => congrArg f (Fin.ext ?_)).symm
  simp only [finProdFinEquiv_apply_val]
  omega

section Blocks
variable (t : Fin cfg0.N) (r : Fin 512) (h : t.val * 512 + r < 16384)

theorem dx_row (q : Fin 1024) : dxB (daN m c t) (dgN m c t) (iblk m c 5 t) (iblk m c 7 t) (ix2 r q) = dxR m c ⟨t.val * 512 + r, h⟩ q := by
  unfold dxR
  rw [sum_cols, Fin.sum_univ_four, ← add_assoc, ← add_assoc, ← add_assoc, ← z_blk m c t r q h]
  simp only [← dh_row m c t r h, ← w_blk m c t]
  rfl

theorem cols_row (s : Fin 4) (f : Fin 512) : dhB (daN m c t) (dgN m c t) (ix3 s r f)
    = dhR m c ⟨t.val * 512 + r, h⟩ ⟨512 * s.val + f.val, ix2048 s f⟩ := dh_row m c t r h _

end Blocks

/-! ## The arrays after the run -/

theorem idx_out (t : Fin cfg0.N) : (win0_8.index t 0 = t.val ∧ win0_8.index t 1 = 0)
    ∧ (win0_9.index t 0 = 0 ∧ win0_9.index t 1 = t.val ∧ win0_9.index t 2 = 0)
    ∧ (win0_10.index t 1 = 0) ∧ (win0_11.index t 1 = 0) ∧ win0_12.index t 0 = 0 ∧ win0_12.index t 1 = 0 := by
  revert t; decide +kernel

theorem final8 : (dats m 0 c).arrAt 8 cfg0.N = G8 m c := by
  refine (dats m 0 c).arrAt_eq_of_covers 8 _ (by decide +kernel) fun t hf y => ?_
  show (dats m 0 c).after 8 t ((cfg0.win 8).xinj (grid0.coords t) y) = _
  have hN : t.val < 32 := lt_of_lt_of_eq t.isLt N_0
  obtain ⟨⟨e0, e1⟩, -⟩ := idx_out t
  have hy0 : (y 0).val < 512 := (y 0).isLt
  have hy1 : (y 1).val < 1024 := (y 1).isLt
  have hb0 : (((cfg0.win 8).blk t).view.emb y 0).val = win0_8.index t 0 * 512 + 1 * (y 0).val := rfl
  have hb1 : (((cfg0.win 8).blk t).view.emb y 1).val = win0_8.index t 1 * 1024 + 1 * (y 1).val := rfl
  have hy : (cfg0.win 8).xinj (grid0.coords t) y = ix2 ⟨(y 0).val, hy0⟩ ⟨(y 1).val, hy1⟩ := by idx_ext
  refine (congrArg ((dats m 0 c).after 8 t) hy).trans ?_
  refine (congrFun ((after0_8 m c t).trans (blocks_at m c t).1) (ix2 ⟨(y 0).val, hy0⟩ ⟨(y 1).val, hy1⟩)).trans
    ((dx_row m c t ⟨(y 0).val, hy0⟩ (by dsimp only; omega) ⟨(y 1).val, hy1⟩).trans ?_)
  exact congrArg₂ (dxR m c) (Fin.ext (by rw [hb0, e0]; dsimp only; omega)) (Fin.ext (by rw [hb1, e1]; dsimp only; omega))

theorem final9 : (dats m 0 c).arrAt 9 cfg0.N = G9 m c := by
  refine (dats m 0 c).arrAt_eq_of_covers 9 _ (by decide +kernel) fun t hf y => ?_
  show (dats m 0 c).after 9 t ((cfg0.win 9).xinj (grid0.coords t) y) = _
  have hN : t.val < 32 := lt_of_lt_of_eq t.isLt N_0
  obtain ⟨-, ⟨e0, e1, e2⟩, -⟩ := idx_out t
  have hy0 : (y 0).val < 4 := (y 0).isLt
  have hy1 : (y 1).val < 512 := (y 1).isLt
  have hy2 : (y 2).val < 512 := (y 2).isLt
  have hb0 : (((cfg0.win 9).blk t).view.emb y 0).val = win0_9.index t 0 * 4 + 1 * (y 0).val := rfl
  have hb1 : (((cfg0.win 9).blk t).view.emb y 1).val = win0_9.index t 1 * 512 + 1 * (y 1).val := rfl
  have hb2 : (((cfg0.win 9).blk t).view.emb y 2).val = win0_9.index t 2 * 512 + 1 * (y 2).val := rfl
  have hy : (cfg0.win 9).xinj (grid0.coords t) y = ix3 ⟨(y 0).val, hy0⟩ ⟨(y 1).val, hy1⟩ ⟨(y 2).val, hy2⟩ := by idx_ext
  refine (congrArg ((dats m 0 c).after 9 t) hy).trans ?_
  refine (congrFun ((after0_9 m c t).trans (blocks_at m c t).2) (ix3 ⟨(y 0).val, hy0⟩ ⟨(y 1).val, hy1⟩ ⟨(y 2).val, hy2⟩)).trans
    ((cols_row m c t ⟨(y 1).val, hy1⟩ (by dsimp only; omega) ⟨(y 0).val, hy0⟩ ⟨(y 2).val, hy2⟩).trans ?_)
  exact congrArg₂ (dhR m c) (Fin.ext (by rw [hb1, e1]; dsimp only; omega)) (Fin.ext (by
    show 512 * (y 0).val + (y 2).val = 512 * (((cfg0.win 9).blk t).view.emb y 0).val + (((cfg0.win 9).blk t).view.emb y 2).val
    rw [hb0, hb2, e0, e2]; omega))

theorem final10 : (dats m 0 c).arrAt 10 cfg0.N = G10 m c := by
  refine (dats m 0 c).arrAt_eq_of_covers 10 _ (by decide +kernel) fun t hf y => ?_
  show (dats m 0 c).after 10 t ((cfg0.win 10).xinj (grid0.coords t) y) = _
  have hN : t.val < 32 := lt_of_lt_of_eq t.isLt N_0
  have h31 := (flush0_10 t).1 hf
  obtain ⟨-, -, e1, -⟩ := idx_out t
  have hy1 : (y 1).val < 2048 := (y 1).isLt
  have hy : (cfg0.win 10).xinj (grid0.coords t) y = ix2 0 ⟨(y 1).val, hy1⟩ := by idx_ext
  have hb1 : (((cfg0.win 10).blk t).view.emb y 1).val = win0_10.index t 1 * 2048 + 1 * (y 1).val := rfl
  refine (congrArg ((dats m 0 c).after 10 t) hy).trans ((congrFun (after0_10 m c t) (ix2 0 ⟨(y 1).val, hy1⟩)).trans
    (((totals_at m c t.val t.isLt (by omega)).1 ⟨(y 1).val, hy1⟩).trans ?_))
  exact congrArg (fun p => ∑ ρ : Fin 16384, bTerm m c p ρ) (Fin.ext (by rw [hb1, e1]; dsimp only; omega))

theorem final11 : (dats m 0 c).arrAt 11 cfg0.N = G11 m c := by
  refine (dats m 0 c).arrAt_eq_of_covers 11 _ (by decide +kernel) fun t hf y => ?_
  show (dats m 0 c).after 11 t ((cfg0.win 11).xinj (grid0.coords t) y) = _
  have hN : t.val < 32 := lt_of_lt_of_eq t.isLt N_0
  have h31 := (flush0_11 t).1 hf
  obtain ⟨-, -, -, e1, -⟩ := idx_out t
  have hy1 : (y 1).val < 1024 := (y 1).isLt
  have hy : (cfg0.win 11).xinj (grid0.coords t) y = ix2 0 ⟨(y 1).val, hy1⟩ := by idx_ext
  have hb1 : (((cfg0.win 11).blk t).view.emb y 1).val = win0_11.index t 1 * 1024 + 1 * (y 1).val := rfl
  refine (congrArg ((dats m 0 c).after 11 t) hy).trans ((congrFun (after0_11 m c t) (ix2 0 ⟨(y 1).val, hy1⟩)).trans
    (((totals_at m c t.val t.isLt (by omega)).2.1 ⟨(y 1).val, hy1⟩).trans ?_))
  exact congrArg (fun p => ∑ ρ : Fin 16384, cTerm m c p ρ) (Fin.ext (by rw [hb1, e1]; dsimp only; omega))

theorem final12 : (dats m 0 c).arrAt 12 cfg0.N = G12 m c := by
  refine (dats m 0 c).arrAt_eq_of_covers 12 _ (by decide +kernel) fun t hf y => ?_
  show (dats m 0 c).after 12 t ((cfg0.win 12).xinj (grid0.coords t) y) = _
  have hN : t.val < 32 := lt_of_lt_of_eq t.isLt N_0
  have h31 := (flush0_12 t).1 hf
  obtain ⟨-, -, -, -, e0, e1⟩ := idx_out t
  have hy0 : (y 0).val < 32 := (y 0).isLt
  have hy1 : (y 1).val < 1024 := (y 1).isLt
  have hb0 : (((cfg0.win 12).blk t).view.emb y 0).val = win0_12.index t 0 * 32 + 1 * (y 0).val := rfl
  have hb1 : (((cfg0.win 12).blk t).view.emb y 1).val = win0_12.index t 1 * 1024 + 1 * (y 1).val := rfl
  have hy : (cfg0.win 12).xinj (grid0.coords t) y = ix2 ⟨(y 0).val, hy0⟩ ⟨(y 1).val, hy1⟩ := by idx_ext
  refine (congrArg ((dats m 0 c).after 12 t) hy).trans ?_
  refine (congrFun (after0_12 m c t) (ix2 ⟨(y 0).val, hy0⟩ ⟨(y 1).val, hy1⟩)).trans
    (((totals_at m c t.val t.isLt (by omega)).2.2 ⟨(y 0).val, hy0⟩ ⟨(y 1).val, hy1⟩).trans ?_)
  exact congrArg₂ (fun k p => ∑ ρ : Fin 16384, wTerm m c k p ρ) (Fin.ext (by rw [hb0, e0]; dsimp only; omega)) (Fin.ext (by rw [hb1, e1]; dsimp only; omega))

/-- The run: the results are these, the arguments what they were. -/
theorem run (ρ : Dev nD → PrngReg) : θ_run (defs (F := Ideal)) (onTc (τ := τ) (main (F := Ideal))) ⟨m, fun _ => 0, ρ⟩ fun r => ∀ c : Dev nD,
    r.2.mem ((c : Thread nD τ).loc main_v21_0) = G8 m c ∧ r.2.mem ((c : Thread nD τ).loc main_v21_1) = G9 m c
    ∧ r.2.mem ((c : Thread nD τ).loc main_v21_2) = G10 m c ∧ r.2.mem ((c : Thread nD τ).loc main_v21_3) = G11 m c
    ∧ r.2.mem ((c : Thread nD τ).loc main_v21_4) = G12 m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6) := by
  refine (θ_run defs _ _).mono (fun r h c => ?_) (run_main m ρ)
  have rest := fun b h1 h2 => (h c).2 b (Pipeline.mem_restRefs_of b h1 h2)
  have inp := fun w hw => ((h c).1 w).trans (((dats m 0 c).arrAt_in w hw _).trans (A_eq m c w))
  exact ⟨((h c).1 8).trans (final8 m c), ((h c).1 9).trans (final9 m c), ((h c).1 10).trans (final10 m c), ((h c).1 11).trans (final11 m c),
    ((h c).1 12).trans (final12 m c), (rest main_arg0 (by decide) (by decide)).trans (V_main_arg0 m c),
    (rest main_arg1 (by decide) (by decide)).trans (V_main_arg1 m c), (rest main_arg2 (by decide) (by decide)).trans (V_main_arg2 m c),
    (rest main_arg3 (by decide) (by decide)).trans (V_main_arg3 m c), (rest main_arg4 (by decide) (by decide)).trans (V_main_arg4 m c),
    (inp 5 rfl).trans (V_main_arg5 m c), (inp 1 rfl).trans (V_main_arg6 m c)⟩

end Cert.Conv
-- ==== Proof.ConvRef.lean ====
/-
  The gradient of the gate and the convolution: the reference's stages, entry by entry.
-/
module

public import proofs.«01_k».proof.Proof.ConvBody
public import proofs.«01_k».proof.Proof.Gen.Reference5Ideal.Read
public import Idealize.ShloMosaic.Lib.Pointwise
public import Idealize.ShloMosaic.Lib.ValueIdx

@[expose] public section

set_option maxRecDepth 16384

noncomputable section

namespace Cert.Conv.Ref

open Cert.Reference5Ideal Cert.Reference5Ideal.Gen Cert.Reference5Ideal.Read Idealize.ShloMosaic Idealize.ShloMosaic.TcCoe
open Cert.Conv (at2 at2_val)

variable (x0 x5 x6 : S16384x1024.Idx → EReal) (x1 : S1024x2048.Idx → EReal) (x2 : S2048.Idx → EReal) (x3 : S31x1024.Idx → EReal)

/-! ## The forward lines -/

def lo (j : Fin 1024) : Fin 2048 := ⟨j.val, by omega⟩
def hi (j : Fin 1024) : Fin 2048 := ⟨1024 + j.val, by omega⟩

def pre (ρ : Fin 16384) (p : Fin 2048) : EReal := (∑ k : Fin 1024, x0 (ix2 ρ k) * x1 (ix2 k p)) + x2 (ix1 p)
def gated (ρ : Fin 16384) (j : Fin 1024) : EReal := pre x0 x1 x2 ρ (lo j) * Ideal.logistic (pre x0 x1 x2 ρ (hi j))

theorem v3_at (ρ : Fin 16384) (p : Fin 2048) : val_main_v3 (F := Ideal) x0 x1 x2 (ix2 ρ p) = pre x0 x1 x2 ρ p := by
  unfold val_main_v3 val_main_v2 val_main_v1 val_main_v0
  pointwise
  rfl

theorem v4_at (ρ : Fin 16384) (j : Fin 1024) : val_main_v4 (F := Ideal) x0 x1 x2 (ix2 ρ j) = pre x0 x1 x2 ρ (lo j) := by
  unfold val_main_v4
  pointwise
  exact v3_at x0 x1 x2 ρ (lo j)

theorem v5_at (ρ : Fin 16384) (j : Fin 1024) : val_main_v5 (F := Ideal) x0 x1 x2 (ix2 ρ j) = pre x0 x1 x2 ρ (hi j) := by
  unfold val_main_v5
  pointwise
  exact v3_at x0 x1 x2 ρ (hi j)

theorem v11_at (ρ : Fin 16384) (j : Fin 1024) : val_main_v11 (F := Ideal) x0 x1 x2 (ix2 ρ j) = Ideal.logistic (pre x0 x1 x2 ρ (hi j)) := by
  unfold val_main_v11 val_main_v10 val_main_v9 val_main_v8 val_main_v7 val_main_v6 val_main_cst val_main_cst_0
  pointwise
  rw [v5_at]
  rfl

theorem v14_at (ρ : Fin 16384) (j : Fin 1024) : val_main_v14 (F := Ideal) x0 x1 x2 (ix2 ρ j)
    = Ideal.logistic (pre x0 x1 x2 ρ (hi j)) * (1 - Ideal.logistic (pre x0 x1 x2 ρ (hi j))) := by
  unfold val_main_v14 val_main_v13 val_main_v12 val_main_cst_1
  pointwise
  rw [v11_at]

theorem v15_at (ρ : Fin 16384) (j : Fin 1024) : val_main_v15 (F := Ideal) x0 x1 x2 (ix2 ρ j) = gated x0 x1 x2 ρ j := by
  unfold val_main_v15
  pointwise
  rw [v11_at, v4_at]; rfl

/-- A row of the gated rows after the thirty rows of zeros before them. -/
def late (e : ℕ) (j : Fin 1024) : EReal := if h : 30 ≤ e ∧ e - 30 < 16384 then gated x0 x1 x2 ⟨e - 30, h.2⟩ j else 0

theorem v17_at (e : Fin 16414) (j : Fin 1024) : val_main_v17 (F := Ideal) x0 x1 x2 (ix2 e j) = late x0 x1 x2 e j := by
  have he : e.val < 16414 := e.isLt
  unfold val_main_v17 val_main_v16 val_main_cst_2 late
  pointwise
  by_cases h : e.val < 30
  · rw [dif_pos h, dif_neg (by omega)]
  · rw [dif_neg h, dif_pos (by omega)]
    exact v15_at x0 x1 x2 _ j

/-! ## The taps -/

/-- The row a tap takes and the places its product takes. -/
theorem row_fits (k : Fin 31) : S31x1024.Slices ![k.val, 0] S1x1024 := ⟨rfl, fun a => by
  match a with
  | ⟨0, _⟩ => show k.val + 1 ≤ 31; omega
  | ⟨1, _⟩ => show 0 + 1024 ≤ 1024; omega⟩
theorem rows_fit (k : Fin 31) : S16414x1024.Slices ![k.val, 0] S16384x1024 := ⟨rfl, fun a => by
  match a with
  | ⟨0, _⟩ => show k.val + 16384 ≤ 16414; omega
  | ⟨1, _⟩ => show 0 + 1024 ≤ 1024; omega⟩
theorem tap_pads (k : Fin 31) : S16384x1024.Pads (![k.val, 0] : Fin 2 → Nat) ![30 - k.val, 0] ![0, 0] S16414x1024 := ⟨rfl, fun a => by
  match a with
  | ⟨0, _⟩ => show 16414 = k.val + 16384 + 0 * (16384 - 1) + (30 - k.val); omega
  | ⟨1, _⟩ => show 1024 = 0 + 1024 + 0 * (1024 - 1) + 0; omega⟩
theorem wtap_pads (k : Fin 31) : S1x1024.Pads (![k.val, 0] : Fin 2 → Nat) ![30 - k.val, 0] ![0, 0] S31x1024 := ⟨rfl, fun a => by
  match a with
  | ⟨0, _⟩ => show 31 = k.val + 1 + 0 * (1 - 1) + (30 - k.val); omega
  | ⟨1, _⟩ => show 1024 = 0 + 1024 + 0 * (1024 - 1) + 0; omega⟩

/-- What tap `k` gives to the gradient of the gated rows. -/
def tap (k : Fin 31) : S16414x1024.Idx → EReal :=
  pad S16414x1024 ![k.val, 0] ![30 - k.val, 0] ![0, 0]
    (mulf (F := Ideal) (φ := .f32) (broadcastInDim S16384x1024 ![0, 1] bcast_S1x1024_S16384x1024_0_1 (broadcastInDim S1x1024 ![1] bcast_S1024_S1x1024_1
      (shapeCast S1024 (extractStridedSlice S1x1024 ![k.val, 0] x3 (row_fits k)) shapeCasts_S1x1024_S1024))) (val_main_v240 (F := Ideal) x6))
    (val_main_cst_5 (F := Ideal)) (tap_pads k) h_S_

/-- What tap `k` gives to the gradient of the taps. -/
def wtap (k : Fin 31) : S31x1024.Idx → EReal :=
  pad S31x1024 ![k.val, 0] ![30 - k.val, 0] ![0, 0]
    (broadcastInDim S1x1024 ![1] bcast_S1024_S1x1024_1 (Host.reduceAdd (F := Ideal) (shapeCast S1x1024 (Host.reduceAdd (F := Ideal)
      (mulf (F := Ideal) (φ := .f32) (val_main_v240 (F := Ideal) x6) (extractStridedSlice S16384x1024 ![k.val, 0] (val_main_v17 (F := Ideal) x0 x1 x2) (rows_fit k)))
      (val_main_cst_5 (F := Ideal)) reducesTo_S16384x1024_S1024_d0 h_S_) shapeCasts_S1024_S1x1024) (val_main_cst_5 (F := Ideal))
      reducesTo_S1x1024_S1024_d0 h_S_)) (val_main_cst_5 (F := Ideal)) (wtap_pads k) h_S_

theorem tap_at (k : Fin 31) (ρ : Fin 16384) (j : Fin 1024) (h : 30 + ρ.val < 16414) :
    tap x6 x3 k (ix2 ⟨30 + ρ, h⟩ j) = at2 x3 k j * at2 x6 (ρ + (30 - k)) j := by
  have hk : k.val < 31 := k.isLt
  rw [at2_val x3 k j]
  unfold tap val_main_v240 val_main_cst_5
  pointwise
  by_cases hr : ρ.val + (30 - k.val) < 16384
  · rw [dif_pos (by omega)]
    refine congrArg (x3 (ix2 k j) * ·) ?_
    refine Eq.trans (congrArg x6 ?_) (at2_val x6 ⟨ρ.val + (30 - k.val), hr⟩ j).symm
    idx_ext
  · rw [dif_neg (by omega)]
    unfold at2
    rw [dif_neg (by omega), mul_zero]

theorem wtap_at (k κ : Fin 31) (j : Fin 1024) :
    wtap x0 x6 x1 x2 k (ix2 κ j) = if κ = k then ∑ r : Fin 16384, x6 (ix2 r j) * late x0 x1 x2 (k + r) j else 0 := by
  have hk : k.val < 31 := k.isLt
  unfold wtap val_main_v240 val_main_cst_5
  pointwise
  by_cases h : κ = k
  · subst h
    rw [dif_pos (by omega), if_pos rfl]
    simp only [v17_at]
    exact Fin.sum_univ_one _
  · rw [dif_neg (by omega), if_neg h]

/-- The taps added in the reference's order, last first. -/
def taps {S : Shape} (f : Fin 31 → S.Idx → EReal) : ℕ → S.Idx → EReal
  | 0 => f 30
  | n + 1 => addf (F := Ideal) (φ := .f32) (taps f n) (f ⟨30 - (n + 1), by omega⟩)

theorem taps_at {S : Shape} (f : Fin 31 → S.Idx → EReal) (i : S.Idx) :
    ∀ n, n < 31 → taps f n i = ∑ d ∈ Finset.range (n + 1), f ⟨30 - d, by omega⟩ i
  | 0, _ => (Finset.sum_range_one (fun d => f ⟨30 - d, by omega⟩ i)).symm
  | n + 1, h => by
    rw [Finset.sum_range_succ _ (n + 1), ← taps_at f i n (by omega)]
    rfl

theorem taps_sum {S : Shape} (f : Fin 31 → S.Idx → EReal) (i : S.Idx) : taps f 30 i = ∑ k : Fin 31, f k i := by
  rw [taps_at f i 30 (by omega), Finset.sum_range]
  exact Fintype.sum_equiv Fin.revPerm _ _ fun d => congrArg (f · i) (Fin.ext (by simp only [Fin.revPerm_apply, Fin.val_rev]; omega))

theorem v579_eq : val_main_v579 (F := Ideal) x3 x6 = taps (tap x6 x3) 30 := rfl
theorem v582_eq : val_main_v582 (F := Ideal) x0 x1 x2 x6 = taps (wtap x0 x6 x1 x2) 30 := rfl

/-! ## The gradients -/

def du (ρ : Fin 16384) (j : Fin 1024) : EReal := ∑ k : Fin 31, at2 x3 k j * at2 x6 (ρ + (30 - k)) j

def dh (ρ : Fin 16384) (p : Fin 2048) : EReal :=
  if h : p.val < 1024 then du x6 x3 ρ ⟨p, h⟩ * Ideal.logistic (pre x0 x1 x2 ρ (hi ⟨p, h⟩))
  else pre x0 x1 x2 ρ (lo ⟨p - 1024, by omega⟩) * du x6 x3 ρ ⟨p - 1024, by omega⟩
    * (Ideal.logistic (pre x0 x1 x2 ρ (hi ⟨p - 1024, by omega⟩)) * (1 - Ideal.logistic (pre x0 x1 x2 ρ (hi ⟨p - 1024, by omega⟩))))

theorem v584_at (ρ : Fin 16384) (j : Fin 1024) : val_main_v584 (F := Ideal) x3 x6 (ix2 ρ j) = du x6 x3 ρ j := by
  unfold val_main_v584
  rw [v579_eq]
  pointwise
  refine (taps_sum _ _).trans (Finset.sum_congr rfl fun k _ => ?_)
  exact tap_at x6 x3 k ρ j _

theorem v590_at (ρ : Fin 16384) (p : Fin 2048) : val_main_v590 (F := Ideal) x0 x1 x2 x3 x6 (ix2 ρ p) = dh x0 x6 x1 x2 x3 ρ p := by
  unfold val_main_v590 val_main_v589 val_main_v588 val_main_v587 val_main_v586 val_main_v585 val_main_cst_131 val_main_cst_132 dh
  pointwise
  by_cases h : p.val < 1024
  · rw [dif_neg (by omega), dif_pos (by omega), dif_pos h, zero_add]
    rw [v584_at, v11_at]
  · rw [dif_pos (by omega), dif_neg (by omega), dif_neg h, add_zero]
    rw [v584_at, v14_at, v4_at]

theorem v603_at (ρ : Fin 16384) (q : Fin 1024) : val_main_v603 (F := Ideal) x0 x1 x2 x3 x5 x6 (ix2 ρ q)
    = (∑ p : Fin 2048, dh x0 x6 x1 x2 x3 ρ p * x1 (ix2 q p)) + Ideal.ofBits .f32 0x3FB504F3#32 * x5 (ix2 ρ q) := by
  unfold val_main_v603 val_main_v602 val_main_v601 val_main_v600 val_main_cst_136
  pointwise
  simp only [v590_at]

theorem v606_at (s : Fin 4) (ρ : Fin 16384) (f : Fin 512) (p : Fin 2048) (hp : p.val = 512 * s.val + f.val) :
    val_main_v606 (F := Ideal) x0 x1 x2 x3 x6 (ix3 s ρ f) = dh x0 x6 x1 x2 x3 ρ p := by
  unfold val_main_v606 val_main_v605 val_main_v604
  pointwise
  refine Eq.trans (congrArg (val_main_v590 (F := Ideal) x0 x1 x2 x3 x6) ?_) (v590_at x0 x6 x1 x2 x3 ρ p)
  idx_ext

theorem v607_at (p : Fin 2048) : val_main_v607 (F := Ideal) x0 x1 x2 x3 x6 (ix2 0 p) = ∑ ρ : Fin 16384, dh x0 x6 x1 x2 x3 ρ p := by
  unfold val_main_v607 val_main_v599 val_main_v598 val_main_v597 val_main_cst_134 val_main_cst_135
  pointwise
  simp only [v590_at]
  exact Fin.sum_univ_one _

theorem v608_at (j : Fin 1024) : val_main_v608 (F := Ideal) x6 (ix2 0 j) = ∑ ρ : Fin 16384, x6 (ix2 ρ j) := by
  unfold val_main_v608 val_main_v243 val_main_v242 val_main_v241 val_main_cst_5 val_main_cst_6
  pointwise
  exact Fin.sum_univ_one _

theorem v609_at (k : Fin 32) (j : Fin 1024) : val_main_v609 (F := Ideal) x0 x1 x2 x6 (ix2 k j)
    = if k.val < 31 then ∑ r : Fin 16384, x6 (ix2 r j) * late x0 x1 x2 (k + r) j else 0 := by
  unfold val_main_v609 val_main_call0_v0 val_main_c
  rw [v582_eq]
  pointwise
  by_cases h : k.val < 31
  · rw [dif_pos (by omega), if_pos h]
    refine (taps_sum _ _).trans ?_
    simp only [wtap_at, Finset.sum_ite_eq, Finset.mem_univ, if_true]
  · rw [dif_neg (by omega), if_neg h]
    show ((((0#32 : BitVec 32).toInt : ℤ) : ℝ) : EReal) = 0
    simp

end Cert.Conv.Ref

end
-- ==== Proof.Conv.lean ====
/-
  The gradient of the gate and the convolution: the claims.
-/
module

public import proofs.«01_k».proof.Defs
public import proofs.«01_k».proof.Proof.ConvOut
public import proofs.«01_k».proof.Proof.ConvRef
public import proofs.«01_k».proof.Proof.Gen.Reference5Ideal.Run
public import Idealize.ShloMosaic.Adequacy

@[expose] public section

set_option maxRecDepth 16384

noncomputable section

namespace Cert.Conv

open Idealize.ShloMosaic Idealize.ShloMosaic.TcCoe Idealize.SL.Sem

/-! ## The gradient of the taps -/

/-- A sum over the rows of two sequences, one of them `d` rows ahead: the reference counts the rows of one, the kernel those of
    the other, and the sequences are zero past their ends. -/
theorem sum_shift (f g : ℕ → EReal) (N d : ℕ) (hd : d ≤ N) (hf : ∀ n, N ≤ n → f n = 0) :
    ∑ r ∈ Finset.range N, f r * (if d ≤ r then g (r - d) else 0) = ∑ n ∈ Finset.range N, g n * f (n + d) := by
  have h1 : ∑ r ∈ Finset.range N, f r * (if d ≤ r then g (r - d) else 0) = ∑ n ∈ Finset.range (N - d), f (n + d) * g n := by
    conv_lhs => rw [← Nat.sub_add_cancel hd, Nat.add_comm, Finset.sum_range_add]
    rw [Finset.sum_eq_zero fun r hr => by rw [if_neg (by have := Finset.mem_range.1 hr; omega), mul_zero], zero_add]
    refine Finset.sum_congr rfl fun n _ => ?_
    rw [if_pos (Nat.le_add_right d n), Nat.add_sub_cancel_left, Nat.add_comm d n]
  rw [h1]
  conv_rhs => rw [← Nat.sub_add_cancel hd, Finset.sum_range_add]
  rw [Finset.sum_eq_zero (f := fun x => g (N - d + x) * f (N - d + x + d)) fun r _ => by rw [hf _ (by omega), mul_zero], add_zero]
  exact Finset.sum_congr rfl fun n _ => mul_comm _ _

/-! ## The results agree -/

section Agree

open Cert.Kernel5Ideal (nD τ sig main_arg0 main_arg1 main_arg2 main_arg3 main_arg4 main_arg5 main_arg6)
open Cert.Reference5Ideal.Read

variable (m : (ℓ : Loc nD τ sig) → Buf (Elt Ideal) ℓ) (c : Dev nD)

theorem du_ref (ρ : Fin 16384) (j : Fin 1024) : Ref.du (arr6 m c) (arr3 m c) ρ j = duR m c ρ j :=
  Fin.sum_univ_eq_sum_range (fun k => at2 (arr3 m c) k j * at2 (arr6 m c) (ρ + (30 - k)) j) 31

theorem dh_ref (ρ : Fin 16384) (p : Fin 2048) : Ref.dh (arr0 m c) (arr6 m c) (arr1 m c) (arr2 m c) (arr3 m c) ρ p = dhR m c ρ p := by
  unfold Ref.dh dhR
  by_cases h : p.val < 1024
  · rw [dif_pos h, dif_pos h, du_ref]; rfl
  · rw [dif_neg h, dif_neg h, du_ref, mul_comm (Ref.pre _ _ _ _ _), ← mul_assoc]; rfl

theorem dx_ref : val_main_v603 (F := Ideal) (arr0 m c) (arr1 m c) (arr2 m c) (arr3 m c) (arr5 m c) (arr6 m c) = G8 m c := funext fun i => by
  obtain ⟨ρ, q, rfl⟩ : ∃ (ρ : Fin 16384) (q : Fin 1024), i = ix2 ρ q := ⟨i 0, i 1, eq_ix2 i⟩
  refine (Ref.v603_at (arr0 m c) (arr5 m c) (arr6 m c) (arr1 m c) (arr2 m c) (arr3 m c) ρ q).trans ?_
  simp only [dh_ref]
  exact add_comm _ _

theorem cols_ref : val_main_v606 (F := Ideal) (arr0 m c) (arr1 m c) (arr2 m c) (arr3 m c) (arr6 m c) = G9 m c := funext fun i => by
  obtain ⟨s, ρ, f, rfl⟩ : ∃ (s : Fin 4) (ρ : Fin 16384) (f : Fin 512), i = ix3 s ρ f := ⟨i 0, i 1, i 2, eq_ix3 i⟩
  exact (Ref.v606_at (arr0 m c) (arr6 m c) (arr1 m c) (arr2 m c) (arr3 m c) s ρ f ⟨512 * s.val + f.val, ix2048 s f⟩ rfl).trans (dh_ref m c ρ _)

theorem b1_ref : val_main_v607 (F := Ideal) (arr0 m c) (arr1 m c) (arr2 m c) (arr3 m c) (arr6 m c) = G10 m c := funext fun i => by
  obtain ⟨p, rfl⟩ : ∃ p : Fin 2048, i = ix2 0 p := ⟨i 1, by idx_ext⟩
  refine (Ref.v607_at (arr0 m c) (arr6 m c) (arr1 m c) (arr2 m c) (arr3 m c) p).trans (Finset.sum_congr rfl fun ρ _ => (dh_ref m c ρ p).trans ?_)
  exact (dif_pos (c := ρ.val < 16384) (t := fun h => dhR m c ⟨ρ.val, h⟩ p) (e := fun _ => 0) ρ.isLt).symm

theorem b_ref : val_main_v608 (F := Ideal) (arr6 m c) = G11 m c := funext fun i => by
  obtain ⟨j, rfl⟩ : ∃ j : Fin 1024, i = ix2 0 j := ⟨i 1, by idx_ext⟩
  exact (Ref.v608_at (arr6 m c) j).trans (Finset.sum_congr rfl fun ρ _ => (at2_val (arr6 m c) ρ j).symm)

theorem w_ref : val_main_v609 (F := Ideal) (arr0 m c) (arr1 m c) (arr2 m c) (arr6 m c) = G12 m c := funext fun i => by
  obtain ⟨k, j, rfl⟩ : ∃ (k : Fin 32) (j : Fin 1024), i = ix2 k j := ⟨i 0, i 1, eq_ix2 i⟩
  refine (Ref.v609_at (arr0 m c) (arr6 m c) (arr1 m c) (arr2 m c) k j).trans ?_
  show _ = ∑ ρ : Fin 16384, wTerm m c k j ρ
  unfold wTerm
  by_cases hk : k.val < 31
  · simp only [if_pos hk]
    have hs := sum_shift (fun n => nxt m c n j) (fun n => if h : n < 16384 then gated m c ⟨n, h⟩ j else 0) 16384 (30 - k.val) (by omega)
      (fun n hn => by unfold nxt at2; rw [dif_neg (by omega)])
    rw [Finset.sum_range, Finset.sum_range] at hs
    refine Eq.trans (Finset.sum_congr rfl fun r _ => ?_) hs
    refine congrArg₂ (· * ·) (at2_val (arr6 m c) r j).symm ?_
    have hr : r.val < 16384 := r.isLt
    unfold Ref.late
    by_cases h : 30 - k.val ≤ r.val
    · rw [if_pos h, dif_pos (by omega), dif_pos (by omega)]
      exact congrArg (gated m c · j) (Fin.ext (by show k.val + r.val - 30 = r.val - (30 - k.val); omega))
    · rw [if_neg h, dif_neg (by omega)]
  · simp only [if_neg hk, Finset.sum_const_zero]

end Agree

/-! ## The claims -/

theorem frame_reference : Cert.quiescent_Reference5Ideal := fun m ρ _ =>
  (θ_run _ _ _).mono (fun r h => ⟨fun c => (h c).2.2.2.2.2, sem_eq_zero_of_no_sems rfl r.2⟩) (Cert.Reference5Ideal.Value.run m ρ)

theorem algebraic : Cert.algebraic_Kernel5Ideal_Reference5Ideal := fun m ρ m' ρ' _ ha =>
  ⟨fun c => G8 m c, fun c => G9 m c, fun c => G10 m c, fun c => G11 m c, fun c => G12 m c, run m ρ,
    (θ_run _ _ _).mono (fun r h c => by
      obtain ⟨a0, a1, a2, a3, a4, a5, a6⟩ := ha c
      obtain ⟨h0, h1, h2, h3, h4, hk⟩ := h c
      exact ⟨(h0.trans (Cert.Reference5Ideal.Read.val_main_v603_eq _)).trans
          ((congr (congr (congr (congr (congr (congrArg Cert.Reference5Ideal.Read.val_main_v603 a0) a1) a2) a3) a5) a6).trans (dx_ref m c)),
        (h1.trans (Cert.Reference5Ideal.Read.val_main_v606_eq _)).trans
          ((congr (congr (congr (congr (congrArg Cert.Reference5Ideal.Read.val_main_v606 a0) a1) a2) a3) a6).trans (cols_ref m c)),
        (h2.trans (Cert.Reference5Ideal.Read.val_main_v607_eq _)).trans
          ((congr (congr (congr (congr (congrArg Cert.Reference5Ideal.Read.val_main_v607 a0) a1) a2) a3) a6).trans (b1_ref m c)),
        (h3.trans (Cert.Reference5Ideal.Read.val_main_v608_eq _)).trans
          ((congrArg Cert.Reference5Ideal.Read.val_main_v608 a6).trans (b_ref m c)),
        (h4.trans (Cert.Reference5Ideal.Read.val_main_v609_eq _)).trans
          ((congr (congr (congr (congrArg Cert.Reference5Ideal.Read.val_main_v609 a0) a1) a2) a6).trans (w_ref m c)), hk⟩)
      (Cert.Reference5Ideal.Value.run m' ρ')⟩

end Cert.Conv

end
-- ==== Proof.Tile.lean ====
/-
  The banded attention: one tile of 512 positions as the kernel computes it, written once for a block of 128 positions, a
  group of eight heads and a head, together with the lists of stores that the unrolled blocks leave in the scratch
  memories.
-/
module

public import proofs.«01_k».proof.Proof.Rows
public import proofs.«01_k».proof.Proof.Gen.Kernel6Ideal.Frame.Runs
public import Idealize.ShloMosaic.Lib.Pointwise
public import Idealize.ShloMosaic.Lib.ValueIdx

@[expose] public section

set_option maxRecDepth 16384

noncomputable section

namespace Cert.Attn

open Cert.Kernel6Ideal Cert.Kernel6Ideal.Gen Idealize.ShloMosaic Idealize.ShloMosaic.TcCoe Cert.Rows

/-! ## One head of one block -/

/-- Keys at or before the query's place in the block. -/
def cur : IVec S128x128 1 :=
  cmpi .sle (iota .tc S128x128 32 [0] iota_S128x128_d0_w32) (iota .tc S128x128 32 [1] iota_S128x128_d1_w32)

/-- How far the folded key lies behind the query. -/
def dist : FVec Ideal S128x128 .f32 := k0_pay21

/-- The heads' slopes. -/
def slope : Fin 16 → Ideal .f32 :=
  ![Named.named κ "slope_0" 0x3F3504F3#32, Scalar.ofBits .f32 0x3F000000#32,
    Named.named κ "slope_1" 0x3EB504F3#32, Scalar.ofBits .f32 0x3E800000#32,
    Named.named κ "slope_2" 0x3E3504F3#32, Scalar.ofBits .f32 0x3E000000#32,
    Named.named κ "slope_3" 0x3DB504F3#32, Scalar.ofBits .f32 0x3D800000#32,
    Named.named κ "slope_4" 0x3D3504F3#32, Scalar.ofBits .f32 0x3D000000#32,
    Named.named κ "slope_5" 0x3CB504F3#32, Scalar.ofBits .f32 0x3C800000#32,
    Named.named κ "slope_6" 0x3C3504F3#32, Scalar.ofBits .f32 0x3C000000#32,
    Named.named κ "slope_7" 0x3BB504F3#32, Scalar.ofBits .f32 0x3B800000#32]

theorem slices_head (hh : Fin 8) : S256x1024.Slices ![0, 128 * hh.val] S256x128 := by
  revert hh; decide +kernel

theorem slices_head64 (hh : Fin 8) : S64x1024.Slices ![0, 128 * hh.val] S64x128 := by
  revert hh; decide +kernel

/-- Head `hh`'s lanes, the two halves of the 256 keys folded into 128. -/
def half (s : FVec Ideal S256x1024 .f32) (hh : Fin 8) : FVec Ideal S128x128 .f32 :=
  select cur
    (extractStridedSlice S128x128 ![128, 0] (extractStridedSlice S256x128 ![0, 128 * hh.val] s (slices_head hh))
      slices_S256x128_o128_0_S128x128)
    (extractStridedSlice S128x128 ![0, 0] (extractStridedSlice S256x128 ![0, 128 * hh.val] s (slices_head hh))
      slices_S256x128_o0_0_S128x128)

/-- The masked scores. -/
def score (s : FVec Ideal S256x1024 .f32) (hp : BitVec 1) (sl : Ideal .f32) (hh : Fin 8) : FVec Ideal S128x128 .f32 :=
  select (ori cur (broadcast S128x128 hp))
    (subf (mulf (half s hh) (broadcast S128x128 (Scalar.ofBits .f32 0x3E000000#32 : Ideal .f32)))
      (mulf (broadcast S128x128 sl) dist))
    (broadcast S128x128 (Named.named κ "masked" 0xF149F2CA#32 : Ideal .f32))

def top (sc : FVec Ideal S128x128 .f32) (sk : Elt Ideal .f32) : FVec Ideal S1x128 .f32 :=
  maximumf (shapeCast S1x128 (multiReduction .maximumf [0] S128 sc 0xFF800000#32 reduces_S128x128_S128 (.inl rfl) rfl)
    shapeCasts_S128_S1x128) (broadcast S1x128 sk)

def wt (sc : FVec Ideal S128x128 .f32) (sk : Elt Ideal .f32) : FVec Ideal S128x128 .f32 :=
  exp (subf sc (broadcastTo S128x128 (top sc sk) broadcasts_S1x128_S128x128))

def wtS (sc : FVec Ideal S128x128 .f32) (sk : Elt Ideal .f32) : FVec Ideal S1x128 .f32 :=
  exp (subf (broadcast S1x128 sk) (top sc sk))

def inv (sc : FVec Ideal S128x128 .f32) (sk : Elt Ideal .f32) : FVec Ideal S1x128 .f32 :=
  divf (broadcast S1x128 (Scalar.ofBits .f32 0x3F800000#32 : Ideal .f32))
    (addf (shapeCast S1x128 (multiReduction .add [0] S128 (wt sc sk) 0x00000000#32 reduces_S128x128_S128 (.inl rfl) rfl)
      shapeCasts_S128_S1x128) (wtS sc sk))

/-- The probabilities of the keys, and of the sink. -/
def prob (sc : FVec Ideal S128x128 .f32) (sk : Elt Ideal .f32) : FVec Ideal S128x128 .f32 :=
  mulf (wt sc sk) (broadcastTo S128x128 (inv sc sk) broadcasts_S1x128_S128x128)

def probS (sc : FVec Ideal S128x128 .f32) (sk : Elt Ideal .f32) : FVec Ideal S1x128 .f32 :=
  mulf (wtS sc sk) (inv sc sk)

def unfolded (v : FVec Ideal S128x128 .f32) : FVec Ideal S256x128 .bf16 :=
  concatenate S256x128 0
    [⟨S128x128, select cur (broadcast S128x128 (Scalar.ofBits .bf16 0x0000#16 : Ideal .bf16)) (truncf .bf16 v bitsLt_bf16_f32)⟩,
     ⟨S128x128, select cur (truncf .bf16 v bitsLt_bf16_f32) (broadcast S128x128 (Scalar.ofBits .bf16 0x0000#16 : Ideal .bf16))⟩]
    concatenates_S128x128_S128x128_S256x128_d0

def lanes (f : Fin 8 → FVec Ideal S256x128 .bf16) : FVec Ideal S256x1024 .bf16 :=
  concatenate S256x1024 1
    [⟨S256x128, f 0⟩, ⟨S256x128, f 1⟩, ⟨S256x128, f 2⟩, ⟨S256x128, f 3⟩, ⟨S256x128, f 4⟩, ⟨S256x128, f 5⟩, ⟨S256x128, f 6⟩,
     ⟨S256x128, f 7⟩]
    concatenates_S256x128_S256x128_S256x128_S256x128_S256x128_S256x128_S256x128_S256x128_S256x1024_d1

def heads (f : Fin 8 → FVec Ideal S64x128 .bf16) : FVec Ideal S64x1024 .bf16 :=
  concatenate S64x1024 1
    [⟨S64x128, f 0⟩, ⟨S64x128, f 1⟩, ⟨S64x128, f 2⟩, ⟨S64x128, f 3⟩, ⟨S64x128, f 4⟩, ⟨S64x128, f 5⟩, ⟨S64x128, f 6⟩,
     ⟨S64x128, f 7⟩]
    concatenates_S64x128_S64x128_S64x128_S64x128_S64x128_S64x128_S64x128_S64x128_S64x1024_d1

/-- Head `hh` of group `g`. -/
def hd (g : Fin 2) (hh : Fin 8) : Fin 16 := ⟨8 * g.val + hh.val, by omega⟩

/-! ## One block -/

section Block

variable (kk : Fin 4 → Fin 4 → FVec Ideal S256x64 .bf16) (qa : Fin 4 → Fin 2 → FVec Ideal S64x1024 .bf16)
  (hp : Fin 4 → BitVec 1) (sk : Fin 16 → Elt Ideal .f32)

/-- The slot of group `g`'s keys, and of its values. -/
def kslot (g : Fin 2) : Fin 4 := ⟨g.val, by omega⟩
def vslot (g : Fin 2) : Fin 4 := ⟨2 + g.val, by omega⟩

def sAll (b : Fin 4) (g : Fin 2) : FVec Ideal S256x1024 .f32 :=
  matmul dot_S256x64_S64x1024_S256x1024_1_0_0_1_n_n none (kk (kslot g) b) (qa b g) (constant S256x1024 .f32 0x00000000#32)

def scoreB (b : Fin 4) (g : Fin 2) (hh : Fin 8) : FVec Ideal S128x128 .f32 :=
  score (sAll kk qa b g) (hp b) (slope (hd g hh)) hh

def probB (b : Fin 4) (g : Fin 2) (hh : Fin 8) : FVec Ideal S128x128 .f32 :=
  prob (scoreB kk qa hp b g hh) (sk (hd g hh))

def pAll (b : Fin 4) (g : Fin 2) : FVec Ideal S256x1024 .bf16 := lanes fun hh => unfolded (probB kk qa hp sk b g hh)

/-- The heads' outputs, position by position across the lanes. -/
def oAll (b : Fin 4) (g : Fin 2) : FVec Ideal S64x1024 .f32 :=
  matmul dot_S256x64_S256x1024_S64x1024_0_0_1_1_n_n none (kk (vslot g) b) (pAll kk qa hp sk b g)
    (constant S64x1024 .f32 0x00000000#32)

/-! ## The stores -/

theorem inb_kv (j b : Nat) : ∀ a, (![j % 4, 128 * (b % 4), 0] : Fin 3 → Nat) a + S1x256x64.size a ≤ S4x640x64.size a := by
  intro a; fin_cases a <;> simp [S1x256x64, S4x640x64, Shape.size] <;> omega

theorem inb_q (b h : Nat) :
    ∀ a, (![b % 4, 64 * (h % 16), 0] : Fin 3 → Nat) a + S1x64x128.size a ≤ S4x1024x128.size a := by
  intro a; fin_cases a <;> simp [S1x64x128, S4x1024x128, Shape.size] <;> omega

/-- The heads' outputs: a store for every block and head. -/
def oL (d : Fin 4 → Fin 2 → FVec Ideal S64x1024 .f32) : Nat → List (View.Piece (Elt Ideal) S4x1024x128 .bf16)
  | 0 => []
  | n + 1 => ⟨Rect.unit ![n / 16 % 4, 64 * (n % 16), 0] S1x64x128.size (inb_q _ _),
      shapeCast S1x64x128 (truncf .bf16 (extractStridedSlice S64x128 ![0, 128 * (n % 8)]
        (d ⟨n / 16 % 4, by omega⟩ ⟨n / 8 % 2, by omega⟩) (slices_head64 ⟨n % 8, by omega⟩)) bitsLt_bf16_f32)
        shapeCasts_S64x128_S1x64x128⟩ :: oL d n

end Block

/-! ## The tile's scratch memories -/

theorem slices_halo (j : Fin 4) : S128x256.Slices ![0, 64 * j.val] S128x64 := by revert j; decide +kernel

theorem slices_tile (j : Fin 4) : S512x256.Slices ![0, 64 * j.val] S512x64 := by revert j; decide +kernel

theorem slices_block (b : Fin 4) : S1024x512.Slices ![0, 128 * b.val] S1024x128 := by revert b; decide +kernel

theorem inb_halo (j : Nat) : ∀ a, (![j % 4, 0, 0] : Fin 3 → Nat) a + S1x128x64.size a ≤ S4x640x64.size a := by
  intro a; fin_cases a <;> simp [S1x128x64, S4x640x64, Shape.size] <;> omega

theorem inb_tile (j : Nat) : ∀ a, (![j % 4, 128, 0] : Fin 3 → Nat) a + S1x512x64.size a ≤ S4x640x64.size a := by
  intro a; fin_cases a <;> simp [S1x512x64, S4x640x64, Shape.size] <;> omega

theorem inb_b (b : Nat) : ∀ a, (![b % 4, 0, 0] : Fin 3 → Nat) a + S1x1024x128.size a ≤ S4x1024x128.size a := by
  intro a; fin_cases a <;> simp [S1x1024x128, S4x1024x128, Shape.size] <;> omega

/-- The keys and values: the 128 positions before the tile, then the tile, one slot after the other. -/
def kvL (h : FVec Ideal S128x256 .bf16) (t : FVec Ideal S512x256 .bf16) :
    Nat → List (View.Piece (Elt Ideal) S4x640x64 .bf16)
  | 0 => []
  | j + 1 => ⟨Rect.unit ![j % 4, 128, 0] S1x512x64.size (inb_tile _),
        shapeCast S1x512x64 (extractStridedSlice S512x64 ![0, 64 * (j % 4)] t (slices_tile ⟨j % 4, by omega⟩))
          shapeCasts_S512x64_S1x512x64⟩ ::
      ⟨Rect.unit ![j % 4, 0, 0] S1x128x64.size (inb_halo _),
        shapeCast S1x128x64 (extractStridedSlice S128x64 ![0, 64 * (j % 4)] h (slices_halo ⟨j % 4, by omega⟩))
          shapeCasts_S128x64_S1x128x64⟩ :: kvL h t j

def kkOf (v : Memref sig .tc .vmem S4x640x64 .bf16) (h : FVec Ideal S128x256 .bf16) (t : FVec Ideal S512x256 .bf16)
    (j b : Fin 4) : FVec Ideal S256x64 .bf16 :=
  shapeCast S256x64 (v.view.readCov (kvL h t 4)
    (Rect.unit (s := S4x640x64) ![j.val % 4, 128 * (b.val % 4), 0] S1x256x64.size (inb_kv _ _)).toLoadRect) shapeCasts_S1x256x64_S256x64

/-- The four blocks' 1024 rows of 128 positions. -/
def colL (f : Fin 4 → FVec Ideal S1024x128 .bf16) : Nat → List (View.Piece (Elt Ideal) S4x1024x128 .bf16)
  | 0 => []
  | b + 1 => ⟨Rect.unit ![b % 4, 0, 0] S1x1024x128.size (inb_b _),
        shapeCast S1x1024x128 (f ⟨b % 4, by omega⟩) shapeCasts_S1024x128_S1x1024x128⟩ :: colL f b

/-- Group `g`'s eight heads side by side. -/
def colOf (v : Memref sig .tc .vmem S4x1024x128 .bf16) (f : Fin 4 → FVec Ideal S1024x128 .bf16) (b : Fin 4) (g : Fin 2) :
    FVec Ideal S64x1024 .bf16 :=
  heads fun hh => shapeCast S64x128 (v.view.readCov (colL f 4)
    (Rect.unit (s := S4x1024x128) ![b.val % 4, 64 * ((8 * g.val + hh.val) % 16), 0] S1x64x128.size (inb_q _ _)).toLoadRect)
    shapeCasts_S1x64x128_S64x128

/-- A block's columns. -/
def colsOf (d : FVec Ideal S1024x512 .bf16) (b : Fin 4) : FVec Ideal S1024x128 .bf16 :=
  extractStridedSlice S1024x128 ![0, 128 * b.val] d (slices_block b)

/-- Whether a block has one before it: the tile is not the first, or the block is not the tile's first. -/
def hpOf (i : grid0.Coords) (b : Fin 4) : BitVec 1 :=
  Scalar.ori (Scalar.cmpi .sgt (BitVec.ofNat 32 (i 0).val) 0#32) (![0#1, 1#1, 1#1, 1#1] b)

def side (f : Fin 4 → FVec Ideal S1024x128 .bf16) : FVec Ideal S1024x512 .bf16 :=
  concatenate S1024x512 1 [⟨S1024x128, f 0⟩, ⟨S1024x128, f 1⟩, ⟨S1024x128, f 2⟩, ⟨S1024x128, f 3⟩]
    concatenates_S1024x128_S1024x128_S1024x128_S1024x128_S1024x512_d1

/-- The four blocks' outputs side by side. -/
def otOf (v : Memref sig .tc .vmem S4x1024x128 .bf16) (d : Fin 4 → Fin 2 → FVec Ideal S64x1024 .f32) :
    FVec Ideal S1024x512 .bf16 :=
  side fun b => shapeCast S1024x128 (v.view.readCov (oL d 64)
    (Rect.unit (s := S4x1024x128) ![b.val % 4, 0, 0] S1x1024x128.size (inb_b _)).toLoadRect) shapeCasts_S1x1024x128_S1024x128

/-! ## The tile's projections -/

def qtT (x : FVec Ideal S512x1024 .f32) (w : FVec Ideal S1024x1024 .bf16) (bq : FVec Ideal S1024x1 .f32) :
    FVec Ideal S1024x512 .bf16 :=
  truncf .bf16 (addf (matmul dot_S1024x1024_S512x1024_S1024x512_1_1_0_0_n_n none
    (shapeCast S1024x1024 w shapeCasts_S1024x1024_S1024x1024) (truncf .bf16 x bitsLt_bf16_f32)
    (constant S1024x512 .f32 0x00000000#32))
    (broadcastTo S1024x512 (shapeCast S1024x1 bq shapeCasts_S1024x1_S1024x1) broadcasts_S1024x1_S1024x512)) bitsLt_bf16_f32

def kvT (x : FVec Ideal S512x1024 .f32) (w : FVec Ideal S1024x256 .bf16) (bk : FVec Ideal S1x256 .f32) :
    FVec Ideal S512x256 .bf16 :=
  truncf .bf16 (addf (matmul dot_S512x1024_S1024x256_S512x256_1_0_0_1_n_n none (truncf .bf16 x bitsLt_bf16_f32)
    (shapeCast S1024x256 w shapeCasts_S1024x256_S1024x256) (constant S512x256 .f32 0x00000000#32))
    (broadcastTo S512x256 (shapeCast S1x256 bk shapeCasts_S1x256_S1x256) broadcasts_S1x256_S512x256)) bitsLt_bf16_f32

def kvH (x : FVec Ideal S128x1024 .f32) (w : FVec Ideal S1024x256 .bf16) (bk : FVec Ideal S1x256 .f32) :
    FVec Ideal S128x256 .bf16 :=
  truncf .bf16 (addf (matmul dot_S128x1024_S1024x256_S128x256_1_0_0_1_n_n none (truncf .bf16 x bitsLt_bf16_f32)
    (shapeCast S1024x256 w shapeCasts_S1024x256_S1024x256) (constant S128x256 .f32 0x00000000#32))
    (broadcastTo S128x256 (shapeCast S1x256 bk shapeCasts_S1x256_S1x256) broadcasts_S1x256_S128x256)) bitsLt_bf16_f32

/-- The scaled input and the output projection, before its bias. -/
def zA (x : FVec Ideal S512x1024 .f32) (ot : FVec Ideal S1024x512 .bf16) (wo : FVec Ideal S1024x1024 .bf16) :
    FVec Ideal S512x1024 .f32 :=
  addf (mulf (broadcast S512x1024 (Scalar.ofBits .f32 0x3FB504F3#32 : Ideal .f32)) x)
    (matmul dot_S1024x512_S1024x1024_S512x1024_0_0_1_1_n_n none ot
      (shapeCast S1024x1024 wo shapeCasts_S1024x1024_S1024x1024) (constant S512x1024 .f32 0x00000000#32))

end Cert.Attn
-- ==== Proof.TileRead.lean ====
/-
  The banded attention's tile: what a read of the scratch memories gives after the lists of stores of Tile.lean.
-/
module

public import proofs.«01_k».proof.Proof.Tile
public import Idealize.ShloMosaic.Lib.Pipeline.ValueKit
public import Idealize.ShloMosaic.Lib.Pipeline.ReadBack

@[expose] public section

set_option maxRecDepth 16384

noncomputable section

namespace Cert.Attn

open Cert.Kernel6Ideal Cert.Kernel6Ideal.Gen Idealize.ShloMosaic Idealize.ShloMosaic.TcCoe Cert.Rows

/-- The keys and values, position by position from the 128 before the tile on. -/
def kvAt (h : FVec Ideal S128x256 .bf16) (t : FVec Ideal S512x256 .bf16) (r : Fin 640) (k : Fin 256) : EReal :=
  if hr : r.val < 128 then h (ix2 ⟨r, hr⟩ k) else t (ix2 ⟨r.val - 128, by omega⟩ k)

theorem kvAt_lo (h : FVec Ideal S128x256 .bf16) (t : FVec Ideal S512x256 .bf16) (r : Fin 640) (k : Fin 256)
    (hr : r.val < 128) : kvAt h t r k = h (ix2 ⟨r, hr⟩ k) := dif_pos hr

theorem kvAt_hi (h : FVec Ideal S128x256 .bf16) (t : FVec Ideal S512x256 .bf16) (r : Fin 640) (k : Fin 256)
    (hr : ¬ r.val < 128) : kvAt h t r k = t (ix2 ⟨r.val - 128, by omega⟩ k) := dif_neg hr

def kvG (h : FVec Ideal S128x256 .bf16) (t : FVec Ideal S512x256 .bf16) (y : S4x640x64.Idx) : EReal :=
  kvAt h t ⟨(y 1).val, (y 1).isLt⟩ ⟨64 * (y 0).val + (y 2).val, by
    have h0 : (y 0).val < 4 := (y 0).isLt
    have h2 : (y 2).val < 64 := (y 2).isLt
    omega⟩

theorem kv_pieces (h : FVec Ideal S128x256 .bf16) (t : FVec Ideal S512x256 .bf16) : ∀ n,
    View.PiecesOf (kvG h t) (kvL h t n)
  | 0 => trivial
  | n + 1 => by
    refine ⟨fun x => ?_, fun x => ?_, kv_pieces h t n⟩
    · obtain ⟨a, r, d, rfl⟩ : ∃ (a : Fin 1) (r : Fin 512) (d : Fin 64), x = ix3 a r d := ⟨x 0, x 1, x 2, eq_ix3 x⟩
      pointwise
      refine Eq.trans ?_ (kvAt_hi h t _ _ (show ¬ (128 + 1 * r.val) < 128 by omega)).symm
      refine congrArg t ?_
      idx_ext
    · obtain ⟨a, r, d, rfl⟩ : ∃ (a : Fin 1) (r : Fin 128) (d : Fin 64), x = ix3 a r d := ⟨x 0, x 1, x 2, eq_ix3 x⟩
      pointwise
      refine Eq.trans ?_ (kvAt_lo h t _ _ (show (0 + 1 * r.val) < 128 by omega)).symm
      refine congrArg h ?_
      idx_ext

theorem kv_mem (h : FVec Ideal S128x256 .bf16) (t : FVec Ideal S512x256 .bf16) (y : S4x640x64.Idx) : ∀ n, n ≤ 4 →
    (y 0).val < n → ∃ p ∈ kvL h t n, y ∈ p.1.set
  | 0, _, hn => absurd hn (by omega)
  | n + 1, h4, hn => by
    have h1 : (y 1).val < 640 := (y 1).isLt
    have h2 : (y 2).val < 64 := (y 2).isLt
    by_cases e : (y 0).val = n
    · by_cases hr : (y 1).val < 128
      · refine ⟨_, List.mem_cons_of_mem _ List.mem_cons_self, ?_⟩
        rw [Rect.mem_set_unit]
        intro a
        fin_cases a <;> simp [S1x128x64, S4x640x64, Shape.size] <;> omega
      · refine ⟨_, List.mem_cons_self, ?_⟩
        rw [Rect.mem_set_unit]
        intro a
        fin_cases a <;> simp [S1x512x64, Shape.size] <;> omega
    · obtain ⟨p, hp, hy⟩ := kv_mem h t y n (by omega) (by omega)
      exact ⟨p, List.mem_cons_of_mem _ (List.mem_cons_of_mem _ hp), hy⟩

theorem kv_read (h : FVec Ideal S128x256 .bf16) (t : FVec Ideal S512x256 .bf16) :
    View.canon (kvL h t 4) = kvG h t :=
  funext fun y => View.canon_apply_of_pieces _ _ (kv_pieces h t 4).mem y (kv_mem h t y 4 le_rfl (y 0).isLt)

/-- A leading axis of one, dropped. -/
theorem drop_kv (x : FVec Ideal S1x256x64 .bf16) (r : Fin 256) (d : Fin 64) :
    shapeCast S256x64 x shapeCasts_S1x256x64_S256x64 (ix2 r d) = x (ix3 0 r d) := by pointwise

theorem drop_q (x : FVec Ideal S1x64x128 .bf16) (r : Fin 64) (d : Fin 128) :
    shapeCast S64x128 x shapeCasts_S1x64x128_S64x128 (ix2 r d) = x (ix3 0 r d) := by pointwise

theorem kkOf_at (v : Memref sig .tc .vmem S4x640x64 .bf16) (h : FVec Ideal S128x256 .bf16)
    (t : FVec Ideal S512x256 .bf16) (j b : Fin 4) (r : Fin 256) (d : Fin 64) :
    kkOf v h t j b (ix2 r d) = kvAt h t ⟨128 * b.val + r.val, by omega⟩ ⟨64 * j.val + d.val, by omega⟩ := by
  unfold kkOf
  rw [View.readCov_eq_canon', kv_read, drop_kv]
  unfold kvG
  refine congr (congrArg _ (Fin.ext ?_)) (Fin.ext ?_)
  · show 128 * (b.val % 4) + 1 * r.val = 128 * b.val + r.val; omega
  · show 64 * (j.val % 4 + 1 * 0) + (0 + 1 * d.val) = 64 * j.val + d.val; omega

/-! ## The queries -/

def colG (f : Fin 4 → FVec Ideal S1024x128 .bf16) (y : S4x1024x128.Idx) : EReal :=
  f ⟨(y 0).val, (y 0).isLt⟩ (ix2 ⟨(y 1).val, (y 1).isLt⟩ ⟨(y 2).val, (y 2).isLt⟩)

theorem col_pieces (f : Fin 4 → FVec Ideal S1024x128 .bf16) : ∀ n, n ≤ 4 → View.PiecesOf (colG f) (colL f n)
  | 0, _ => trivial
  | n + 1, h4 => by
    refine ⟨fun x => ?_, col_pieces f n (by omega)⟩
    obtain ⟨a, r, d, rfl⟩ : ∃ (a : Fin 1) (r : Fin 1024) (d : Fin 128), x = ix3 a r d := ⟨x 0, x 1, x 2, eq_ix3 x⟩
    pointwise
    unfold colG
    refine congr (congrArg f (Fin.ext ?_)) ?_
    · show n % 4 = n % 4 + 1 * a.val; omega
    · idx_ext

theorem col_mem (f : Fin 4 → FVec Ideal S1024x128 .bf16) (y : S4x1024x128.Idx) : ∀ n, n ≤ 4 →
    (y 0).val < n → ∃ p ∈ colL f n, y ∈ p.1.set
  | 0, _, hn => absurd hn (by omega)
  | n + 1, h4, hn => by
    have h1 : (y 1).val < 1024 := (y 1).isLt
    have h2 : (y 2).val < 128 := (y 2).isLt
    by_cases e : (y 0).val = n
    · refine ⟨_, List.mem_cons_self, ?_⟩
      rw [Rect.mem_set_unit]
      intro a
      fin_cases a <;> simp [S1x1024x128, Shape.size] <;> omega
    · obtain ⟨p, hp, hy⟩ := col_mem f y n (by omega) (by omega)
      exact ⟨p, List.mem_cons_of_mem _ hp, hy⟩

theorem col_read (f : Fin 4 → FVec Ideal S1024x128 .bf16) :
    View.canon (colL f 4) = colG f :=
  funext fun y => View.canon_apply_of_pieces _ _ (col_pieces f 4 le_rfl).mem y (col_mem f y 4 le_rfl (y 0).isLt)

/-- Head after head across the lanes. -/
theorem heads_at (f : Fin 8 → FVec Ideal S64x128 .bf16) (d : Fin 64) (hh : Fin 8) (i : Fin 128) :
    heads f (ix2 d ⟨128 * hh.val + i.val, by omega⟩) = f hh (ix2 d i) := by
  unfold heads
  pointwise
  split_ifs <;> refine congr (congrArg f (Fin.ext ?_)) ?_ <;> first | omega | idx_ext | (simp; omega)

theorem colOf_at (v : Memref sig .tc .vmem S4x1024x128 .bf16) (f : Fin 4 → FVec Ideal S1024x128 .bf16) (b : Fin 4)
    (g : Fin 2) (d : Fin 64) (hh : Fin 8) (i : Fin 128) :
    colOf v f b g (ix2 d ⟨128 * hh.val + i.val, by omega⟩)
      = f b (ix2 ⟨64 * (8 * g.val + hh.val) + d.val, by omega⟩ i) := by
  unfold colOf
  rw [heads_at, View.readCov_eq_canon', col_read, drop_q]
  unfold colG
  refine congr (congrArg f (Fin.ext ?_)) ?_
  · show b.val % 4 + 0 * 1 = _; omega
  · idx_ext

/-! ## The outputs -/

def oG (d : Fin 4 → Fin 2 → FVec Ideal S64x1024 .f32) (y : S4x1024x128.Idx) : EReal :=
  d ⟨(y 0).val, (y 0).isLt⟩ ⟨(y 1).val / 512 % 2, by omega⟩ (ix2 ⟨(y 1).val % 64, by omega⟩
    ⟨128 * ((y 1).val / 64 % 8) + (y 2).val, by have : (y 2).val < 128 := (y 2).isLt; omega⟩)

theorem o_pieces (d : Fin 4 → Fin 2 → FVec Ideal S64x1024 .f32) : ∀ n, View.PiecesOf (oG d) (oL d n)
  | 0 => trivial
  | n + 1 => by
    refine ⟨fun x => ?_, o_pieces d n⟩
    obtain ⟨a, r, k, rfl⟩ : ∃ (a : Fin 1) (r : Fin 64) (k : Fin 128), x = ix3 a r k := ⟨x 0, x 1, x 2, eq_ix3 x⟩
    pointwise
    unfold oG
    refine congr (congr (congrArg d (Fin.ext ?_)) (Fin.ext ?_)) ?_
    · show n / 16 % 4 = n / 16 % 4 + 1 * a.val; omega
    · show n / 8 % 2 = (64 * (n % 16) + 1 * r.val) / 512 % 2; omega
    · idx_ext

theorem o_mem (d : Fin 4 → Fin 2 → FVec Ideal S64x1024 .f32) (y : S4x1024x128.Idx) : ∀ n, n ≤ 64 →
    16 * (y 0).val + (y 1).val / 64 < n → ∃ p ∈ oL d n, y ∈ p.1.set
  | 0, _, hn => absurd hn (by omega)
  | n + 1, h4, hn => by
    have h0 : (y 0).val < 4 := (y 0).isLt
    have h1 : (y 1).val < 1024 := (y 1).isLt
    have h2 : (y 2).val < 128 := (y 2).isLt
    by_cases e : 16 * (y 0).val + (y 1).val / 64 = n
    · refine ⟨_, List.mem_cons_self, ?_⟩
      rw [Rect.mem_set_unit]
      intro a
      fin_cases a <;> simp [S1x64x128, Shape.size] <;> omega
    · obtain ⟨p, hp, hy⟩ := o_mem d y n (by omega) (by omega)
      exact ⟨p, List.mem_cons_of_mem _ hp, hy⟩

theorem o_read (d : Fin 4 → Fin 2 → FVec Ideal S64x1024 .f32) :
    View.canon (oL d 64) = oG d :=
  funext fun y => View.canon_apply_of_pieces _ _ (o_pieces d 64).mem y (o_mem d y 64 le_rfl (by
    have h0 : (y 0).val < 4 := (y 0).isLt
    have h1 : (y 1).val < 1024 := (y 1).isLt
    omega))

theorem oG_ix3 (d : Fin 4 → Fin 2 → FVec Ideal S64x1024 .f32) (b : Fin 4) (r : Fin 1024) (i : Fin 128) :
    oG d (ix3 b r i) = d b ⟨r.val / 512 % 2, by omega⟩ (ix2 ⟨r.val % 64, by omega⟩
      ⟨128 * (r.val / 64 % 8) + i.val, by omega⟩) := rfl

theorem side_at (f : Fin 4 → FVec Ideal S1024x128 .bf16) (r : Fin 1024) (b : Fin 4) (i : Fin 128) :
    side f (ix2 r ⟨128 * b.val + i.val, by omega⟩) = f b (ix2 r i) := by
  unfold side
  pointwise
  split_ifs <;> refine congr (congrArg f (Fin.ext ?_)) ?_ <;> first | omega | idx_ext | (simp; omega)

theorem drop_o (x : FVec Ideal S1x1024x128 .bf16) (r : Fin 1024) (d : Fin 128) :
    shapeCast S1024x128 x shapeCasts_S1x1024x128_S1024x128 (ix2 r d) = x (ix3 0 r d) := by pointwise

theorem otOf_at (v : Memref sig .tc .vmem S4x1024x128 .bf16) (d : Fin 4 → Fin 2 → FVec Ideal S64x1024 .f32)
    (g : Fin 2) (hh : Fin 8) (e : Fin 64) (b : Fin 4) (i : Fin 128) :
    otOf v d (ix2 ⟨64 * (8 * g.val + hh.val) + e.val, by omega⟩ ⟨128 * b.val + i.val, by omega⟩)
      = d b g (ix2 e ⟨128 * hh.val + i.val, by omega⟩) := by
  unfold otOf
  rw [side_at, View.readCov_eq_canon', o_read, drop_o]
  refine (oG_ix3 d ⟨b.val % 4 + 1 * 0, by omega⟩ ⟨0 + 1 * (64 * (8 * g.val + hh.val) + e.val), by omega⟩
    ⟨0 + 1 * i.val, by omega⟩).trans ?_
  refine congr (congr (congrArg d (Fin.ext ?_)) (Fin.ext ?_)) ?_
  · show b.val % 4 + 1 * 0 = b.val; omega
  · show (0 + 1 * (64 * (8 * g.val + hh.val) + e.val)) / 512 % 2 = g.val; omega
  · idx_ext

end Cert.Attn
-- ==== Proof.Soft.lean ====
/-
  A softmax over finitely many scores and a sink: the largest of them, the sum of the weights, and one weight's share; and
  the same over more scores of which the further ones are masked.
-/
module

public import proofs.«01_k».proof.Proof.Rows

@[expose] public section

noncomputable section

namespace Cert.Soft

open Idealize.ShloMosaic Cert.Rows

variable {ι κ : Type} [Fintype ι] [Fintype κ]

def mx (s : ι → EReal) (k : EReal) : EReal := max (Finset.univ.sup s) k
def den (s : ι → EReal) (k : EReal) : EReal := ∑ x, Ideal.exp (s x - mx s k) + Ideal.exp (k - mx s k)
def pr (s : ι → EReal) (k : EReal) (x : ι) : EReal := Ideal.div (Ideal.exp (s x - mx s k)) (den s k)

theorem exp_nonneg (a : EReal) : 0 ≤ Ideal.exp a := by
  induction a with
  | bot => exact le_rfl
  | top => exact le_top
  | coe r => exact EReal.coe_nonneg.2 (Real.exp_pos r).le

/-- The largest score is finite: a sink that is, and no score that is `⊤`. -/
theorem mx_fin (s : ι → EReal) (k : EReal) (hs : ∀ x, s x ≠ ⊤) (hk : Fin' k) : Fin' (mx s k) := by
  obtain ⟨ht, hb⟩ := fin_iff.1 hk
  refine fin_iff.2 ⟨?_, fun h => hb (le_bot_iff.1 (h ▸ le_max_right _ _))⟩
  · refine ne_of_lt (max_lt ?_ (lt_top_iff_ne_top.2 ht))
    rw [Finset.sup_lt_iff (by decide)]
    exact fun x _ => lt_top_iff_ne_top.2 (hs x)

theorem den_ne_zero (s : ι → EReal) (k : EReal) (hs : ∀ x, s x ≠ ⊤) (hk : Fin' k) : den s k ≠ 0 := by
  obtain ⟨a, ha⟩ := mx_fin s k hs hk
  obtain ⟨b, rfl⟩ := hk
  refine ne_of_gt ?_
  unfold den
  refine lt_of_lt_of_le ?_ (le_add_of_nonneg_left (Finset.sum_nonneg fun x _ => exp_nonneg _))
  rw [ha, ← EReal.coe_sub]
  exact EReal.coe_pos.2 (Real.exp_pos _)

theorem div_eq {a d : EReal} (h : d ≠ 0) : Ideal.div a d = a * d⁻¹ := if_neg h

/-- A weight times the reciprocal of the sum is its share. -/
theorem mul_div_one {a d : EReal} (h : d ≠ 0) : a * Ideal.div 1 d = Ideal.div a d := by
  rw [div_eq h, div_eq h, one_mul]

section Masked

variable (f : ι → κ) (hf : Function.Injective f) (s : κ → EReal) (hs : ∀ y, (∀ x, f x ≠ y) → s y = ⊥) (k : EReal)
include hf hs

omit hf in
theorem mx_masked : mx s k = mx (s ∘ f) k := by
  unfold mx
  congr 1
  refine le_antisymm (Finset.sup_le fun y _ => ?_) (Finset.sup_le fun x _ => Finset.le_sup (f := s) (Finset.mem_univ (f x)))
  by_cases h : ∃ x, f x = y
  · obtain ⟨x, rfl⟩ := h
    exact Finset.le_sup (f := s ∘ f) (Finset.mem_univ x)
  · rw [hs y fun x e => h ⟨x, e⟩]
    exact bot_le

theorem sum_masked (g : κ → EReal) (hg : ∀ y, (∀ x, f x ≠ y) → g y = 0) : ∑ y, g y = ∑ x, g (f x) := by
  classical
  rw [← Finset.sum_image (s := Finset.univ) (g := f) (f := g) fun a _ b _ h => hf h]
  refine (Finset.sum_subset (Finset.subset_univ _) fun y _ hy => hg y fun x e => hy ?_).symm
  exact Finset.mem_image.2 ⟨x, Finset.mem_univ x, e⟩

theorem exp_masked (y : κ) (hy : ∀ x, f x ≠ y) : Ideal.exp (s y - mx s k) = 0 := by
  rw [hs y hy, EReal.bot_sub]; rfl

theorem den_masked : den s k = den (s ∘ f) k := by
  unfold den
  rw [sum_masked f hf s hs (fun y => Ideal.exp (s y - mx s k)) (exp_masked f hf s hs k), mx_masked f s hs k]
  rfl

theorem pr_masked (x : ι) : pr s k (f x) = pr (s ∘ f) k x := by
  unfold pr
  rw [den_masked f hf s hs k, mx_masked f s hs k]
  rfl

theorem pr_off (h : ∀ y, s y ≠ ⊤) (hk : Fin' k) (y : κ) (hy : ∀ x, f x ≠ y) : pr s k y = 0 := by
  unfold pr
  rw [exp_masked f hf s hs k y hy, div_eq (den_ne_zero s k h hk), zero_mul]

end Masked

end Cert.Soft
-- ==== Proof.TilePoint.lean ====
/-
  The banded attention's tile, one entry at a time: a head's folded scores are the banded scores of all 256 keys, its
  probabilities unfold to theirs.
-/
module

public import proofs.«01_k».proof.Proof.TileRead
public import proofs.«01_k».proof.Proof.Soft

@[expose] public section

set_option maxRecDepth 16384

noncomputable section

namespace Cert.Attn

open Cert.Kernel6Ideal Cert.Kernel6Ideal.Gen Idealize.ShloMosaic Idealize.ShloMosaic.TcCoe Cert.Rows Cert.Soft

/-- The key that the folded place `kt` holds for query `i`: of the block itself up to `i`, of the block before from there on. -/
def fold (i kt : Fin 128) : Fin 256 := if kt ≤ i then ⟨128 + kt.val, by omega⟩ else ⟨kt.val, by omega⟩

theorem fold_val (i kt : Fin 128) : (fold i kt).val = if kt.val ≤ i.val then 128 + kt.val else kt.val := by
  unfold fold
  split_ifs with h h' h' <;> first | rfl | exact absurd (Fin.le_def.1 h) h' | exact absurd (Fin.le_def.2 h') h

theorem fold_injective (i : Fin 128) : Function.Injective (fold i) := fun a b h => by
  have := congrArg Fin.val h
  rw [fold_val, fold_val] at this
  refine Fin.ext ?_
  split_ifs at this <;> omega

theorem fold_off (i : Fin 128) (j : Fin 256) (h : ∀ kt, fold i kt ≠ j) : ¬ (i.val < j.val ∧ j.val ≤ i.val + 128) := by
  rintro ⟨h1, h2⟩
  by_cases hj : j.val < 128
  · refine h ⟨j.val, hj⟩ (Fin.ext ?_)
    rw [fold_val, if_neg (by dsimp only; omega)]
  · refine h ⟨j.val - 128, by omega⟩ (Fin.ext ?_)
    rw [fold_val, if_pos (by dsimp only; omega)]
    dsimp only; omega

theorem fold_on (i kt : Fin 128) : i.val < (fold i kt).val ∧ (fold i kt).val ≤ i.val + 128 := by
  rw [fold_val]
  split_ifs <;> omega

/-- The masked scores of the 256 keys, of the block before and of the block itself: key `j` stands `i + 128 - j` places before
    the query; at most 127, and only in the sequence. -/
def banded (S : Fin 256 → EReal) (first : Prop) [Decidable first] (sl : EReal) (i : Fin 128) (j : Fin 256) : EReal :=
  if (i.val < j.val ∧ j.val ≤ i.val + 128) ∧ (128 ≤ j.val ∨ ¬ first) then
    S j * ((1 / 8 : ℝ) : EReal) - sl * (((i.val + 128 - j.val : ℤ) : ℝ) : EReal)
  else ⊥

theorem banded_off (S : Fin 256 → EReal) (first : Prop) [Decidable first] (sl : EReal) (i : Fin 128) (j : Fin 256)
    (h : ∀ kt, fold i kt ≠ j) : banded S first sl i j = ⊥ := if_neg fun hc => fold_off i j h hc.1

theorem banded_ne_top (S : Fin 256 → EReal) (first : Prop) [Decidable first] (sl : EReal) (i : Fin 128) (j : Fin 256)
    (hS : Fin' (S j)) (hsl : Fin' sl) : banded S first sl i j ≠ ⊤ := by
  unfold banded
  split_ifs
  · exact (fin_iff.1 ((hS.mul (fin_coe _)).sub (hsl.mul (fin_coe _)))).1
  · exact bot_ne_top

theorem cur_at (kt i : Fin 128) : cur (ix2 kt i) = if kt ≤ i then 1#1 else 0#1 := by
  unfold cur
  pointwise
  revert kt i
  decide +kernel

theorem half_at (s : FVec Ideal S256x1024 .f32) (hh : Fin 8) (kt i : Fin 128) :
    half s hh (ix2 kt i) = s (ix2 (fold i kt) ⟨128 * hh.val + i.val, by omega⟩) := by
  unfold half
  pointwise
  rw [cur_at]
  unfold fold
  split_ifs <;> rfl

theorem dist_word : ∀ kt i : Fin 128,
    (IntOp.addi (IntOp.subi (BitVec.ofNat 32 i.val) (BitVec.ofNat 32 kt.val))
      (Scalar.select (IntOp.cmpi CmpIPredicate.sle (BitVec.ofNat 32 kt.val) (BitVec.ofNat 32 i.val)) 0#32 128#32)).toInt
    = (i.val + 128 - (fold i kt).val : ℤ) := by
  decide +kernel

theorem dist_at (kt i : Fin 128) : dist (ix2 kt i) = (((i.val + 128 - (fold i kt).val : ℤ) : ℝ) : EReal) := by
  unfold dist k0_pay21 k0_pay20
  pointwise
  rw [← dist_word]
  rfl

theorem eighth : Ideal.ofBits .f32 0x3E000000#32 = ((1 / 8 : ℝ) : EReal) := by
  simp [Ideal.ofBits, Ideal.ieee, ← EReal.coe_mul]; norm_num [zpow_neg]

theorem masked : Named.named (F := Ideal) (φ := .f32) κ "masked" 0xF149F2CA#32 = (⊥ : EReal) :=
  IdealRules.named_const.ideal_named_scalar _ _ _ _ rfl

theorem score_at (s : FVec Ideal S256x1024 .f32) (hp : BitVec 1) (first : Prop) [Decidable first]
    (hf : hp = if first then 0#1 else 1#1) (sl : Ideal .f32) (hh : Fin 8) (kt i : Fin 128) :
    score s hp sl hh (ix2 kt i)
      = banded (fun j => s (ix2 j ⟨128 * hh.val + i.val, by omega⟩)) first sl i (fold i kt) := by
  unfold score
  pointwise
  rw [half_at, dist_at, cur_at, masked, eighth, hf]
  have on := fold_on i kt
  have hv := fold_val i kt
  by_cases h : kt ≤ i
  · have hv : 128 ≤ (fold i kt).val := by rw [hv, if_pos (Fin.le_def.1 h)]; omega
    refine Eq.trans ?_ (if_pos ⟨on, .inl hv⟩).symm
    rw [if_pos h]
    split_ifs <;> rfl
  · rw [if_neg h]
    have hv : ¬ 128 ≤ (fold i kt).val := by rw [hv, if_neg (fun e => h (Fin.le_def.2 e))]; omega
    by_cases hf : first
    · refine Eq.trans ?_ (if_neg (by rintro ⟨-, h1 | h1⟩ <;> [exact hv h1; exact h1 hf])).symm
      rw [if_pos hf]
      rfl
    · refine Eq.trans ?_ (if_pos ⟨on, .inr hf⟩).symm
      rw [if_neg hf]
      rfl

theorem ninf : Ideal.ofBits .f32 0xFF800000#32 = (⊥ : EReal) := by
  simp [Ideal.ofBits, Ideal.ieee]

theorem fold_max {n : ℕ} (f : Fin n → EReal) : Finset.fold max ⊥ f Finset.univ = Finset.univ.sup f := rfl

theorem top_at (sc : FVec Ideal S128x128 .f32) (sk : Elt Ideal .f32) (i : Fin 128) :
    top sc sk (ix2 0 i) = mx (fun x => sc (ix2 x i)) sk := by
  unfold top
  pointwise
  rw [ninf]
  rfl

theorem inv_at (sc : FVec Ideal S128x128 .f32) (sk : Elt Ideal .f32) (i : Fin 128) :
    inv sc sk (ix2 0 i) = Ideal.div 1 (den (fun x => sc (ix2 x i)) sk) := by
  unfold inv wtS wt
  pointwise
  rw [top_at]
  rfl

theorem prob_at (sc : FVec Ideal S128x128 .f32) (sk : Elt Ideal .f32) (kt i : Fin 128)
    (h : ∀ x, sc (ix2 x i) ≠ ⊤) (hk : Fin' sk) :
    prob sc sk (ix2 kt i) = pr (fun x => sc (ix2 x i)) sk kt := by
  unfold prob wt
  pointwise
  rw [top_at, inv_at, mul_div_one (den_ne_zero _ _ h hk)]
  rfl

theorem unfolded_on (v : FVec Ideal S128x128 .f32) (kt i : Fin 128) : unfolded v (ix2 (fold i kt) i) = v (ix2 kt i) := by
  unfold unfolded
  pointwise
  have hv := fold_val i kt
  by_cases h : kt ≤ i
  · rw [if_pos (Fin.le_def.1 h)] at hv
    rw [dif_neg (by omega), cur_at, if_pos (Fin.le_def.2 (by dsimp only; have := Fin.le_def.1 h; omega))]
    refine congrArg v ?_
    idx_ext
  · rw [if_neg (fun e => h (Fin.le_def.2 e))] at hv
    rw [dif_pos (by omega), cur_at, if_neg (fun e => h (Fin.le_def.2 (by have := Fin.le_def.1 e; dsimp only at this; omega)))]
    refine congrArg v ?_
    idx_ext

theorem unfolded_off (v : FVec Ideal S128x128 .f32) (j : Fin 256) (i : Fin 128) (h : ∀ kt, fold i kt ≠ j) :
    unfolded v (ix2 j i) = 0 := by
  unfold unfolded
  pointwise
  have := fold_off i j h
  by_cases hj : j.val < 128
  · rw [dif_pos hj, cur_at, if_pos (Fin.le_def.2 (by dsimp only; omega))]
    rfl
  · rw [dif_neg hj, cur_at, if_neg (fun e => by have := Fin.le_def.1 e; dsimp only at this; omega)]
    rfl

/-- The unfolded probabilities of a head are the softmax of all its banded scores. -/
theorem unfolded_prob (s : FVec Ideal S256x1024 .f32) (hp : BitVec 1) (first : Prop) [Decidable first]
    (hf : hp = if first then 0#1 else 1#1) (sl : Ideal .f32) (hh : Fin 8) (sk : Elt Ideal .f32) (i : Fin 128) (j : Fin 256)
    (hS : ∀ j, Fin' (s (ix2 j ⟨128 * hh.val + i.val, by omega⟩))) (hsl : Fin' sl) (hk : Fin' sk) :
    unfolded (prob (score s hp sl hh) sk) (ix2 j i)
      = pr (banded (fun j => s (ix2 j ⟨128 * hh.val + i.val, by omega⟩)) first sl i) sk j := by
  have htop : ∀ y, banded (fun j => s (ix2 j ⟨128 * hh.val + i.val, by omega⟩)) first sl i y ≠ ⊤ :=
    fun y => banded_ne_top _ _ _ _ _ (hS y) hsl
  have hoff := banded_off (fun j => s (ix2 j ⟨128 * hh.val + i.val, by omega⟩)) first sl i
  have hsc : (fun x => score s hp sl hh (ix2 x i))
      = banded (fun j => s (ix2 j ⟨128 * hh.val + i.val, by omega⟩)) first sl i ∘ fold i :=
    funext fun x => score_at s hp first hf sl hh x i
  by_cases h : ∃ kt, fold i kt = j
  · obtain ⟨kt, rfl⟩ := h
    rw [unfolded_on, prob_at _ _ _ _ (fun x => (congrFun hsc x).symm ▸ htop _) hk, hsc,
      pr_masked (fold i) (fold_injective i) _ hoff]
  · have h' : ∀ kt, fold i kt ≠ j := fun kt e => h ⟨kt, e⟩
    rw [unfolded_off _ _ _ h', pr_off (fold i) (fold_injective i) _ hoff sk htop hk j h']

/-- Head after head across the lanes. -/
theorem lanes_at (f : Fin 8 → FVec Ideal S256x128 .bf16) (j : Fin 256) (hh : Fin 8) (i : Fin 128) :
    lanes f (ix2 j ⟨128 * hh.val + i.val, by omega⟩) = f hh (ix2 j i) := by
  unfold lanes
  pointwise
  split_ifs <;> refine congr (congrArg f (Fin.ext ?_)) ?_ <;> first | omega | idx_ext | (simp; omega)

section Block

variable (kk : Fin 4 → Fin 4 → FVec Ideal S256x64 .bf16) (qa : Fin 4 → Fin 2 → FVec Ideal S64x1024 .bf16)
  (hp : Fin 4 → BitVec 1) (sk : Fin 16 → Elt Ideal .f32)

theorem sAll_at (b : Fin 4) (g : Fin 2) (j : Fin 256) (l : Fin 1024) :
    sAll kk qa b g (ix2 j l) = ∑ d : Fin 64, kk (kslot g) b (ix2 j d) * qa b g (ix2 d l) := by
  unfold sAll
  pointwise

theorem oAll_at (b : Fin 4) (first : Prop) [Decidable first] (hf : hp b = if first then 0#1 else 1#1) (g : Fin 2)
    (hh : Fin 8) (i : Fin 128) (e : Fin 64)
    (hS : ∀ j, Fin' (sAll kk qa b g (ix2 j ⟨128 * hh.val + i.val, by omega⟩))) (hsl : Fin' (slope (hd g hh)))
    (hk : Fin' (sk (hd g hh))) :
    oAll kk qa hp sk b g (ix2 e ⟨128 * hh.val + i.val, by omega⟩)
      = ∑ j : Fin 256, kk (vslot g) b (ix2 j e) * pr (banded (fun j => ∑ d : Fin 64, kk (kslot g) b (ix2 j d)
          * qa b g (ix2 d ⟨128 * hh.val + i.val, by omega⟩)) first (slope (hd g hh)) i) (sk (hd g hh)) j := by
  have hs : (fun j => ∑ d : Fin 64, kk (kslot g) b (ix2 j d) * qa b g (ix2 d ⟨128 * hh.val + i.val, by omega⟩))
      = fun j => sAll kk qa b g (ix2 j ⟨128 * hh.val + i.val, by omega⟩) := funext fun j => (sAll_at kk qa b g j _).symm
  rw [hs]
  unfold oAll
  pointwise
  refine Finset.sum_congr rfl fun j _ => congrArg _ ?_
  unfold pAll
  rw [lanes_at]
  exact unfolded_prob _ _ first hf _ hh _ i j hS hsl hk

end Block

end Cert.Attn
-- ==== Proof.Plain.lean ====
/-
  Banded attention with a sink, as mathematics on its arrays: the projections, the softmax of each query over the
  keys of its own block and of the block before it, the output projection and its layer norm.
-/
module

public import proofs.«01_k».proof.Proof.TilePoint

@[expose] public section

set_option maxRecDepth 16384

noncomputable section

namespace Cert.Plain

open Idealize.ShloMosaic Cert.Rows Cert.Soft Cert.Attn

/-- A row times a matrix, plus a bias. -/
def proj {n : Nat} (X : Fin 16384 → Fin 1024 → EReal) (W : Fin 1024 → Fin n → EReal) (B : Fin n → EReal)
    (ρ : Fin 16384) (f : Fin n) : EReal := (∑ k, X ρ k * W k f) + B f

/-- The row of the j-th key that the queries of block n see. -/
def krow (n : Fin 128) (j : Fin 256) : Fin 16384 :=
  ⟨if j.val < 128 then 128 * (n.val - 1) + j.val else 128 * n.val + (j.val - 128), by split_ifs <;> omega⟩

def qrow (n i : Fin 128) : Fin 16384 := ⟨128 * n.val + i.val, by omega⟩

/-- The slope of a head's linear bias. -/
def sl (h : Fin 16) : EReal := ((Real.exp (Real.log 2 * (-((h.val + 1 : ℝ) / 2)))) : ℝ)

/-- A column of a query head, and of the key/value head it reads. -/
def qcol (h : Fin 16) (d : Fin 64) : Fin 1024 := ⟨64 * h.val + d.val, by omega⟩
def kcol (h : Fin 16) (d : Fin 64) : Fin 128 := ⟨64 * (h.val / 8) + d.val, by omega⟩

def dotq (K : Fin 16384 → Fin 128 → EReal) (Q : Fin 16384 → Fin 1024 → EReal) (n : Fin 128) (h : Fin 16) (i : Fin 128)
    (j : Fin 256) : EReal := ∑ d : Fin 64, K (krow n j) (kcol h d) * Q (qrow n i) (qcol h d)

def score (K : Fin 16384 → Fin 128 → EReal) (Q : Fin 16384 → Fin 1024 → EReal) (n : Fin 128) (h : Fin 16) (i : Fin 128) :
    Fin 256 → EReal := banded (dotq K Q n h i) (n.val = 0) (sl h) i

def att (K V : Fin 16384 → Fin 128 → EReal) (Q : Fin 16384 → Fin 1024 → EReal) (sk : Fin 16 → EReal) (n i : Fin 128)
    (h : Fin 16) (e : Fin 64) : EReal := ∑ j, V (krow n j) (kcol h e) * pr (score K Q n h i) (sk h) j

/-- The heads' outputs as one array of rows. -/
def flat (o : Fin 128 → Fin 128 → Fin 16 → Fin 64 → EReal) (ρ : Fin 16384) (f : Fin 1024) : EReal :=
  o ⟨ρ.val / 128, by omega⟩ ⟨ρ.val % 128, by omega⟩ ⟨f.val / 64, by omega⟩ ⟨f.val % 64, by omega⟩

def root2 : EReal := Ideal.ofBits .f32 0x3FB504F3#32

def res (X O : Fin 16384 → Fin 1024 → EReal) (W : Fin 1024 → Fin 1024 → EReal) (B : Fin 1024 → EReal)
    (ρ : Fin 16384) (k : Fin 1024) : EReal := root2 * X ρ k + ((∑ f, O ρ f * W f k) + B k)

def norm (z : Fin 16384 → Fin 1024 → EReal) (G B : Fin 1024 → EReal) (ρ : Fin 16384) (k : Fin 1024) : EReal :=
  hat (z ρ) k * G k + B k

theorem fin_proj {n : Nat} {X : Fin 16384 → Fin 1024 → EReal} {W : Fin 1024 → Fin n → EReal} {B : Fin n → EReal}
    (hX : ∀ ρ k, Fin' (X ρ k)) (hW : ∀ k f, Fin' (W k f)) (hB : ∀ f, Fin' (B f)) (ρ : Fin 16384) (f : Fin n) :
    Fin' (proj X W B ρ f) := (fin_sum _ fun k _ => (hX ρ k).mul (hW k f)).add (hB f)

theorem fin_dotq {K : Fin 16384 → Fin 128 → EReal} {Q : Fin 16384 → Fin 1024 → EReal} (hK : ∀ ρ f, Fin' (K ρ f))
    (hQ : ∀ ρ f, Fin' (Q ρ f)) (n : Fin 128) (h : Fin 16) (i : Fin 128) (j : Fin 256) : Fin' (dotq K Q n h i j) :=
  fin_sum _ fun _ _ => (hK _ _).mul (hQ _ _)

end Cert.Plain
-- ==== Proof.AttnRef.lean ====
/-
  The reference's banded attention, entry by entry.
-/
module

public import proofs.«01_k».proof.Proof.Plain
public import proofs.«01_k».proof.Proof.Gen.Reference6Ideal.Read
public import Idealize.ShloMosaic.Lib.Pointwise
public import Idealize.ShloMosaic.Lib.ValueIdx

@[expose] public section

set_option maxRecDepth 16384

noncomputable section

namespace Cert.AttnRef

open Cert.Reference6Ideal Cert.Reference6Ideal.Gen Cert.Reference6Ideal.Read Idealize.ShloMosaic Cert.Rows Cert.Soft Cert.Plain

variable (x0 : (⟨S16384x1024, .f32⟩ : BufTy).Contents (Elt Ideal)) (x1 : (⟨S1024x128, .f32⟩ : BufTy).Contents (Elt Ideal))
  (x2 : (⟨S128, .f32⟩ : BufTy).Contents (Elt Ideal)) (x3 : (⟨S1024x128, .f32⟩ : BufTy).Contents (Elt Ideal))
  (x4 : (⟨S128, .f32⟩ : BufTy).Contents (Elt Ideal)) (x5 : (⟨S1024x1024, .f32⟩ : BufTy).Contents (Elt Ideal))
  (x6 : (⟨S1024, .f32⟩ : BufTy).Contents (Elt Ideal)) (x7 : (⟨S16, .f32⟩ : BufTy).Contents (Elt Ideal))
  (x8 : (⟨S1024x1024, .f32⟩ : BufTy).Contents (Elt Ideal)) (x9 x10 x11 : (⟨S1024, .f32⟩ : BufTy).Contents (Elt Ideal))

/-! ## The projections -/

def rQ : Fin 16384 → Fin 1024 → EReal := proj (fun ρ k => x0 (ix2 ρ k)) (fun k f => x5 (ix2 k f)) fun f => x6 (ix1 f)
def rK : Fin 16384 → Fin 128 → EReal := proj (fun ρ k => x0 (ix2 ρ k)) (fun k f => x1 (ix2 k f)) fun f => x2 (ix1 f)
def rV : Fin 16384 → Fin 128 → EReal := proj (fun ρ k => x0 (ix2 ρ k)) (fun k f => x3 (ix2 k f)) fun f => x4 (ix1 f)

theorem q_at (ρ : Fin 16384) (f : Fin 1024) : val_main_v3 x0 x5 x6 (ix2 ρ f) = rQ x0 x5 x6 ρ f := by
  unfold val_main_v3 val_main_v0 val_main_v2 val_main_v1
  pointwise
  rfl

theorem k_at (ρ : Fin 16384) (f : Fin 128) : val_main_v7 x0 x1 x2 (ix2 ρ f) = rK x0 x1 x2 ρ f := by
  unfold val_main_v7 val_main_v4 val_main_v6 val_main_v5
  pointwise
  rfl

theorem v_at (ρ : Fin 16384) (f : Fin 128) : val_main_v11 x0 x3 x4 (ix2 ρ f) = rV x0 x3 x4 ρ f := by
  unfold val_main_v11 val_main_v8 val_main_v10 val_main_v9
  pointwise
  rfl

/-! ## Keys and values by block -/

/-- A block's 256 keys, zero where the first block has none before it. -/
def pad (K : Fin 16384 → Fin 128 → EReal) (n : Fin 128) (j : Fin 256) (f : Fin 128) : EReal :=
  if n.val = 0 ∧ j.val < 128 then 0 else K (krow n j) f

theorem k12_at (ρ : Fin 16384) (g : Fin 2) (d : Fin 64) :
    val_main_v12 x0 x1 x2 (ix3 ρ g d) = rK x0 x1 x2 ρ ⟨64 * g.val + d.val, by omega⟩ := by
  unfold val_main_v12
  pointwise
  rw [k_at]
  exact congrArg _ (Fin.ext (by simp only; omega))

theorem v19_at (ρ : Fin 16384) (g : Fin 2) (d : Fin 64) :
    val_main_v19 x0 x3 x4 (ix3 ρ g d) = rV x0 x3 x4 ρ ⟨64 * g.val + d.val, by omega⟩ := by
  unfold val_main_v19
  pointwise
  rw [v_at]
  exact congrArg _ (Fin.ext (by simp only; omega))

/-- A padded array read at a block's key is the padded block. -/
theorem pad_eq (K : Fin 16384 → Fin 128 → EReal) (n : Fin 128) (j : Fin 256) (f : Fin 128) :
    (if h : j.val < 128 then
      if h' : n.val * 128 + j.val < 128 then 0 else K ⟨n.val * 128 + j.val - 128, by omega⟩ f
    else K ⟨n.val * 128 + (j.val - 128), by omega⟩ f) = pad K n j f := by
  unfold pad krow
  by_cases h : j.val < 128
  · rw [dif_pos h]
    by_cases h' : n.val * 128 + j.val < 128
    · rw [dif_pos h', if_pos ⟨by omega, h⟩]
    · rw [dif_neg h', if_neg (by omega)]
      exact congrArg (K · f) (Fin.ext (by simp only [if_pos h]; omega))
  · rw [dif_neg h, if_neg (by omega)]
    exact congrArg (K · f) (Fin.ext (by simp only [if_neg h]; omega))

theorem k18_at (n : Fin 128) (j : Fin 256) (g : Fin 2) (d : Fin 64) :
    val_main_v18 x0 x1 x2 (ix4 n j g d) = pad (rK x0 x1 x2) n j ⟨64 * g.val + d.val, by omega⟩ := by
  unfold val_main_v18 val_main_v16 val_main_v17 val_main_v15 val_main_v13 val_main_v14 val_main_cst
  pointwise
  simp only [k12_at]
  exact pad_eq _ n j _

theorem v25_at (n : Fin 128) (j : Fin 256) (g : Fin 2) (d : Fin 64) :
    val_main_v25 x0 x3 x4 (ix4 n j g d) = pad (rV x0 x3 x4) n j ⟨64 * g.val + d.val, by omega⟩ := by
  unfold val_main_v25 val_main_v23 val_main_v24 val_main_v22 val_main_v20 val_main_v21 val_main_cst_0
  pointwise
  simp only [v19_at]
  exact pad_eq _ n j _

/-! ## The scores -/

def head (g : Fin 2) (hh : Fin 8) : Fin 16 := ⟨8 * g.val + hh.val, by omega⟩

theorem q26_at (n i : Fin 128) (g : Fin 2) (hh : Fin 8) (d : Fin 64) :
    val_main_v26 x0 x5 x6 (ix5 n i g hh d) = rQ x0 x5 x6 (qrow n i) (qcol (head g hh) d) := by
  unfold val_main_v26
  pointwise
  rw [q_at]
  exact congr (congrArg _ (Fin.ext (by simp only [qrow]; omega))) (Fin.ext (by simp only [qcol, head]; omega))

theorem dot_at (n i : Fin 128) (j : Fin 256) (g : Fin 2) (hh : Fin 8) :
    val_main_v28 x0 x1 x2 x5 x6 (ix5 n g hh i j)
      = ∑ d : Fin 64, pad (rK x0 x1 x2) n j (kcol (head g hh) d) * rQ x0 x5 x6 (qrow n i) (qcol (head g hh) d) := by
  unfold val_main_v28 val_main_v27
  pointwise
  refine Finset.sum_congr rfl fun d _ => ?_
  rw [k18_at, q26_at]
  refine congrArg (· * _) (congrArg _ (Fin.ext ?_))
  simp only [kcol, head]
  omega

theorem delta_word : ∀ (i : Fin 128) (j : Fin 256),
    (IntOp.subi (IntOp.addi (BitVec.ofNat 32 i.val) 128#32) (BitVec.ofNat 32 j.val)).toInt = (i.val + 128 - j.val : ℤ) := by
  decide +kernel

theorem delta_at (i : Fin 128) (j : Fin 256) :
    val_main_v74 (F := Ideal) (ix2 i j) = (((i.val + 128 - j.val : ℤ) : ℝ) : EReal) := by
  unfold val_main_v74 val_main_v39 val_main_v37 val_main_v36 val_main_v38 val_main_v35 val_main_v34 val_main_v33 val_main_v32 val_main_v31 val_main_c
  pointwise
  rw [← delta_word]
  rfl

theorem band_at (i : Fin 128) (j : Fin 256) :
    val_main_v54 (F := Ideal) (ix2 i j) = if i.val < j.val ∧ j.val ≤ i.val + 128 then 1#1 else 0#1 := by
  unfold val_main_v54 val_main_v51 val_main_v53 val_main_v50 val_main_v52 val_main_c_4 val_main_c_5 val_main_v39 val_main_v37 val_main_v36 val_main_v38 val_main_v35 val_main_v34 val_main_v33 val_main_v32 val_main_v31 val_main_c
  pointwise
  revert i j
  decide +kernel

theorem edge_at (n : Fin 128) (j : Fin 256) :
    val_main_v56 (F := Ideal) (ix3 n 0 j) = if 128 ≤ j.val ∨ ¬ n.val = 0 then 1#1 else 0#1 := by
  unfold val_main_v56 val_main_v49 val_main_v55 val_main_v47 val_main_v48 val_main_v46 val_main_v45 val_main_v44 val_main_v43 val_main_v42 val_main_v41 val_main_v40 val_main_c_2 val_main_c_3 val_main_c_6 val_main_v34 val_main_v33
  pointwise
  revert n j
  decide +kernel

theorem head_word : ∀ (g : Fin 2) (hh : Fin 8), (BitVec.ofNat 32 (g.val * 8 + hh.val)).toInt = ((head g hh).val : ℤ) := by
  decide +kernel

theorem ofBits_neg_eight : Ideal.ofBits .f32 0xC1000000#32 = ((-8 : ℝ) : EReal) := by
  simp [Ideal.ofBits, Ideal.ieee, ← EReal.coe_mul]; norm_num [zpow_neg]

theorem ofBits_sixteen : Ideal.ofBits .f32 0x41800000#32 = ((16 : ℝ) : EReal) := by
  simp [Ideal.ofBits, Ideal.ieee, ← EReal.coe_mul]; norm_num [zpow_neg]

theorem slope_at (g : Fin 2) (hh : Fin 8) : val_main_v72 (F := Ideal) (ix2 g hh) = sl (head g hh) := by
  unfold val_main_v72 val_main_v71 val_main_v70 val_main_v69 val_main_v68 val_main_v67 val_main_v66 val_main_v65 val_main_v64 val_main_v63 val_main_v62 val_main_v61 val_main_cst_7 val_main_cst_8 val_main_cst_9 val_main_cst_10
  pointwise
  have hw : FloatOps.sitofp (F := Ideal) .f32 (BitVec.ofNat 32 (g.val * 8 + hh.val)) = (((head g hh).val : ℝ) : EReal) := by
    show (((BitVec.ofNat 32 (g.val * 8 + hh.val)).toInt : ℝ) : EReal) = _
    rw [head_word]; rfl
  rw [hw, ofBits_two, ofBits_neg_eight, ofBits_sixteen, Ideal.div_coe (by norm_num)]
  have hl : Ideal.log ((2 : ℝ) : EReal) = (Real.log 2 : ℝ) := by
    exact if_neg (by norm_num)
  rw [hl, show (1 : EReal) = ((1 : ℝ) : EReal) from rfl]
  simp only [← EReal.coe_add, ← EReal.coe_mul]
  unfold sl
  refine congrArg (fun r : ℝ => ((Real.exp r : ℝ) : EReal)) ?_
  ring

end Cert.AttnRef
-- ==== Proof.AttnScore.lean ====
/-
  The reference's scores and their softmax.
-/
module

public import proofs.«01_k».proof.Proof.AttnRef
public import proofs.«01_k».proof.Proof.Gen.Reference6Ideal.Read
public import Idealize.ShloMosaic.Lib.Pointwise
public import Idealize.ShloMosaic.Lib.ValueIdx

@[expose] public section

set_option maxRecDepth 16384

noncomputable section

namespace Cert.AttnRef

open Cert.Reference6Ideal Cert.Reference6Ideal.Gen Cert.Reference6Ideal.Read Idealize.ShloMosaic Cert.Rows Cert.Soft Cert.Plain

variable (x0 : (⟨S16384x1024, .f32⟩ : BufTy).Contents (Elt Ideal)) (x1 : (⟨S1024x128, .f32⟩ : BufTy).Contents (Elt Ideal))
  (x2 : (⟨S128, .f32⟩ : BufTy).Contents (Elt Ideal)) (x3 : (⟨S1024x128, .f32⟩ : BufTy).Contents (Elt Ideal))
  (x4 : (⟨S128, .f32⟩ : BufTy).Contents (Elt Ideal)) (x5 : (⟨S1024x1024, .f32⟩ : BufTy).Contents (Elt Ideal))
  (x6 : (⟨S1024, .f32⟩ : BufTy).Contents (Elt Ideal)) (x7 : (⟨S16, .f32⟩ : BufTy).Contents (Elt Ideal))
  (x8 : (⟨S1024x1024, .f32⟩ : BufTy).Contents (Elt Ideal)) (x9 x10 x11 : (⟨S1024, .f32⟩ : BufTy).Contents (Elt Ideal))

theorem select_both (p q : Prop) [Decidable p] [Decidable q] (a b : EReal) :
    Scalar.select (IntOp.andi (if p then 1#1 else 0#1) (if q then 1#1 else 0#1)) a b = if p ∧ q then a else b := by
  by_cases hp : p <;> by_cases hq : q <;> simp only [hp, hq, if_true, if_false, and_self, and_true, and_false, true_and] <;> rfl

theorem score_at (n i : Fin 128) (j : Fin 256) (g : Fin 2) (hh : Fin 8) :
    val_main_v82 x0 x1 x2 x5 x6 (ix5 n g hh i j) = Plain.score (rK x0 x1 x2) (rQ x0 x5 x6) n (head g hh) i j := by
  unfold val_main_v82 val_main_call0_v1 val_main_call0_v2 val_main_call0_v0 val_main_v81 val_main_v80 val_main_v60 val_main_v59 val_main_v58 val_main_v57 val_main_v79 val_main_v78 val_main_v77 val_main_v76 val_main_v75 val_main_v73 val_main_v30 val_main_v29 val_main_cst_1
  pointwise
  rw [band_at, edge_at, slope_at, delta_at, dot_at, Attn.eighth, show id (val_main_cst_11 (F := Ideal)) ix0 = (⊥ : EReal) from Attn.ninf,
    select_both]
  unfold Plain.score Attn.banded
  by_cases h : (i.val < j.val ∧ j.val ≤ i.val + 128) ∧ (128 ≤ j.val ∨ ¬ n.val = 0)
  · rw [if_pos h, if_pos h]
    refine congrArg (fun a : EReal => a * _ - _) ?_
    unfold dotq pad
    have h0 : ¬ (n.val = 0 ∧ j.val < 128) := by omega
    refine Finset.sum_congr rfl fun d _ => congrArg (· * _) (if_neg h0)
  · rw [if_neg h, if_neg h]

/-! ## The softmax over the keys and the sink -/

theorem sink_at (n i : Fin 128) (g : Fin 2) (hh : Fin 8) (z : Fin 1) :
    val_main_v85 x7 (ix5 n g hh i z) = x7 (ix1 (head g hh)) := by
  unfold val_main_v85 val_main_v84 val_main_v83
  pointwise
  refine congrArg x7 (congrArg ix1 (Fin.ext ?_))
  simp only [head]
  omega

/-- The scores of a query, its head's sink last. -/
def row (s : Fin 256 → EReal) (k : EReal) (j : Fin 257) : EReal := if h : j.val < 256 then s ⟨j.val, h⟩ else k

theorem row_last (s : Fin 256 → EReal) (k : EReal) : row s k (Fin.last 256) = k := dif_neg (by simp)
theorem row_cast (s : Fin 256 → EReal) (k : EReal) (j : Fin 256) : row s k j.castSucc = s j := dif_pos j.isLt

theorem sup_row (s : Fin 256 → EReal) (k : EReal) : Finset.univ.sup (row s k) = mx s k := by
  refine le_antisymm (Finset.sup_le fun j _ => ?_) (max_le (Finset.sup_le fun j _ => ?_) ?_)
  · unfold row
    split_ifs with h
    · exact le_max_of_le_left (Finset.le_sup (f := s) (Finset.mem_univ _))
    · exact le_max_right _ _
  · exact (row_cast s k j).symm.le.trans (Finset.le_sup (f := row s k) (Finset.mem_univ _))
  · exact (row_last s k).symm.le.trans (Finset.le_sup (f := row s k) (Finset.mem_univ _))

theorem fold_sup {ι : Type} [Fintype ι] (f : ι → EReal) : Finset.univ.fold max ⊥ f = Finset.univ.sup f := rfl

theorem sum_row (s : Fin 256 → EReal) (k : EReal) : ∑ j, Ideal.exp (row s k j - mx s k) = den s k := by
  rw [Fin.sum_univ_castSucc]
  simp only [row_cast, row_last]
  rfl

section Rows

variable (n i : Fin 128) (g : Fin 2) (hh : Fin 8)

/-- The query's scores and its head's sink. -/
abbrev sR : Fin 256 → EReal := Plain.score (rK x0 x1 x2) (rQ x0 x5 x6) n (head g hh) i
abbrev kR : EReal := x7 (ix1 (head g hh))

theorem row_at (j : Fin 257) :
    val_main_v86 x0 x1 x2 x5 x6 x7 (ix5 n g hh i j) = row (sR x0 x1 x2 x5 x6 n i g hh) (kR x7 g hh) j := by
  unfold val_main_v86
  pointwise
  unfold row
  simp only [score_at, sink_at]

theorem fold_at : val_main_v87 x0 x1 x2 x5 x6 x7 (ix4 n g hh i)
    = Finset.univ.fold max ⊥ (fun j => val_main_v86 x0 x1 x2 x5 x6 x7 (ix5 n g hh i j)) := by
  rw [← Attn.ninf]
  unfold val_main_v87 val_main_cst_12
  pointwise

theorem max_at : val_main_v89 x0 x1 x2 x5 x6 x7 (ix4 n g hh i) = mx (sR x0 x1 x2 x5 x6 n i g hh) (kR x7 g hh) := by
  have h8 : val_main_v88 (F := Ideal) (ix4 n g hh i) = ⊥ := (val_main_v88_apply _).trans Attn.ninf
  have h7 : val_main_v87 x0 x1 x2 x5 x6 x7 (ix4 n g hh i) = mx (sR x0 x1 x2 x5 x6 n i g hh) (kR x7 g hh) := by
    rw [fold_at, fold_sup, ← sup_row]
    exact congrArg (fun f => Finset.sup Finset.univ f) (funext fun j => row_at x0 x1 x2 x5 x6 x7 n i g hh j)
  rw [val_main_v89_apply, h8, h7]
  exact max_eq_right bot_le

theorem exp_at (j : Fin 257) : val_main_v93 x0 x1 x2 x5 x6 x7 (ix5 n g hh i j)
    = Ideal.exp (row (sR x0 x1 x2 x5 x6 n i g hh) (kR x7 g hh) j - mx (sR x0 x1 x2 x5 x6 n i g hh) (kR x7 g hh)) := by
  unfold val_main_v93 val_main_v92 val_main_v91 val_main_v90
  pointwise
  rw [row_at, max_at]

theorem den_at : val_main_v94 x0 x1 x2 x5 x6 x7 (ix4 n g hh i) = den (sR x0 x1 x2 x5 x6 n i g hh) (kR x7 g hh) := by
  unfold val_main_v94 val_main_cst_14
  pointwise
  simp only [exp_at, sum_row]

theorem prob_at (j : Fin 256) :
    val_main_v98 x0 x1 x2 x5 x6 x7 (ix5 n g hh i j) = pr (sR x0 x1 x2 x5 x6 n i g hh) (kR x7 g hh) j := by
  unfold val_main_v98 val_main_v97 val_main_v96 val_main_v95
  pointwise
  rw [exp_at, den_at]
  have : row (sR x0 x1 x2 x5 x6 n i g hh) (kR x7 g hh) ⟨j.val, by omega⟩ = sR x0 x1 x2 x5 x6 n i g hh j := row_cast _ _ j
  rw [this]
  rfl

/-- The heads' outputs, the scores and the sinks finite. -/
theorem out_at (e : Fin 64) (hs : ∀ j, sR x0 x1 x2 x5 x6 n i g hh j ≠ ⊤) (hk : Fin' (kR x7 g hh)) :
    val_main_v100 x0 x1 x2 x3 x4 x5 x6 x7 (ix5 n i g hh e)
      = att (rK x0 x1 x2) (rV x0 x3 x4) (rQ x0 x5 x6) (fun h => x7 (ix1 h)) n i (head g hh) e := by
  unfold val_main_v100 val_main_v99
  pointwise
  unfold att
  refine Finset.sum_congr rfl fun j _ => ?_
  rw [prob_at, v25_at]
  have hc : (⟨64 * g.val + e.val, by omega⟩ : Fin 128) = kcol (head g hh) e := Fin.ext (by simp only [kcol, head]; omega)
  rw [hc]
  unfold pad
  split_ifs with h
  · have h0 : pr (sR x0 x1 x2 x5 x6 n i g hh) (kR x7 g hh) j = 0 := by
      unfold pr
      rw [show sR x0 x1 x2 x5 x6 n i g hh j = ⊥ from if_neg (by omega), EReal.bot_sub,
        div_eq (den_ne_zero _ _ hs hk), show Ideal.exp ⊥ = 0 from rfl, zero_mul]
    refine (congrArg _ h0).trans ?_
    exact (zero_mul _).trans ((mul_zero _).symm.trans (congrArg _ h0.symm))
  · rfl

end Rows

end Cert.AttnRef
-- ==== Proof.TileBlocks.lean ====
/-
  The banded attention's tile: which entries of the arguments a point of the grid reads.
-/
module

public import proofs.«01_k».proof.Proof.Rows
public import proofs.«01_k».proof.Proof.Gen.Kernel6Ideal.Value
public import Idealize.ShloMosaic.Lib.Pointwise
public import Idealize.ShloMosaic.Lib.ValueIdx
public import Idealize.ShloMosaic.Lib.Pipeline.ValueKit
public import Idealize.ShloMosaic.Lib.StableHlo.ReadAt

@[expose] public section

set_option maxRecDepth 16384

noncomputable section

namespace Cert.Attn

open Cert.Kernel6Ideal Cert.Kernel6Ideal.Gen Idealize.ShloMosaic Idealize.ShloMosaic.TcCoe Cert.Rows

theorem cfg0_N : cfg0.N = 32 := by decide +kernel

theorem lt32 (t : Fin cfg0.N) : t.val < 32 := cfg0_N ▸ t.isLt

theorem coord (t : Fin cfg0.N) : (grid0.coords t 0).val = t.val := by revert t; decide +kernel

theorem idx_sinks (t : Fin cfg0.N) : win0_0.index t 0 = 0 := by revert t; decide +kernel

theorem idx_x (t : Fin cfg0.N) : win0_1.index t 0 = t.val ∧ win0_1.index t 1 = 0 := by revert t; decide +kernel

theorem idx_prev (t : Fin cfg0.N) : win0_2.index t 0 = 4 * t.val - 1 ∧ win0_2.index t 1 = 0 := by
  revert t; decide +kernel

theorem idx_mats (t : Fin cfg0.N) : (win0_3.index t 0 = 0 ∧ win0_3.index t 1 = 0)
    ∧ (win0_5.index t 0 = 0 ∧ win0_5.index t 1 = 0) ∧ win0_7.index t 0 = 0 ∧ win0_7.index t 1 = 0 := by
  revert t; decide +kernel

theorem idx_rows (t : Fin cfg0.N) : (win0_4.index t 0 = 0 ∧ win0_4.index t 1 = 0)
    ∧ (win0_6.index t 0 = 0 ∧ win0_6.index t 1 = 0) ∧ (win0_8.index t 0 = 0 ∧ win0_8.index t 1 = 0)
    ∧ (win0_9.index t 0 = 0 ∧ win0_9.index t 1 = 0) ∧ win0_10.index t 0 = 0 ∧ win0_10.index t 1 = 0 := by
  revert t; decide +kernel

variable (m : (ℓ : Loc nD τ sig) → Buf (Elt Ideal) ℓ) (c : Dev nD)

abbrev aX : S16384x1024.Idx → EReal := m ((c : Thread nD τ).loc main_arg0)
abbrev aWk : S1024x128.Idx → EReal := m ((c : Thread nD τ).loc main_arg1)
abbrev aBk : S128.Idx → EReal := m ((c : Thread nD τ).loc main_arg2)
abbrev aWv : S1024x128.Idx → EReal := m ((c : Thread nD τ).loc main_arg3)
abbrev aBv : S128.Idx → EReal := m ((c : Thread nD τ).loc main_arg4)
abbrev aWq : S1024x1024.Idx → EReal := m ((c : Thread nD τ).loc main_arg5)
abbrev aBq : S1024.Idx → EReal := m ((c : Thread nD τ).loc main_arg6)
abbrev aSink : S16.Idx → EReal := m ((c : Thread nD τ).loc main_arg7)
abbrev aWo : S1024x1024.Idx → EReal := m ((c : Thread nD τ).loc main_arg8)
abbrev aBo : S1024.Idx → EReal := m ((c : Thread nD τ).loc main_arg9)
abbrev aG : S1024.Idx → EReal := m ((c : Thread nD τ).loc main_arg10)
abbrev aB : S1024.Idx → EReal := m ((c : Thread nD τ).loc main_arg11)

/-- The two halves of an array of 256 columns, keys first. -/
def two (k v : Fin 128 → EReal) (f : Fin 256) : EReal :=
  if h : f.val < 128 then k ⟨f.val, h⟩ else v ⟨f.val - 128, by have := f.isLt; omega⟩

theorem host_q (a b : Fin 1024) : (V m c main_v5 : S1024x1024.Idx → EReal) (ix2 a b) = aWq m c (ix2 b a) := by
  unfold V; after_reads_at

theorem host_bq (a : Fin 1024) (z : Fin 1) : (V m c main_v6 : S1024x1.Idx → EReal) (ix2 a z) = aBq m c (ix1 a) := by
  unfold V; after_reads_at

theorem host_kv (k : Fin 1024) (f : Fin 256) : (V m c main_v1 : S1024x256.Idx → EReal) (ix2 k f)
    = two (fun f => aWk m c (ix2 k f)) (fun f => aWv m c (ix2 k f)) f := by
  unfold V; after_reads_at; pointwise; unfold two; split_ifs <;> after_reads_at

theorem host_bkv (z : Fin 1) (f : Fin 256) : (V m c main_v3 : S1x256.Idx → EReal) (ix2 z f)
    = two (fun f => aBk m c (ix1 f)) (fun f => aBv m c (ix1 f)) f := by
  unfold V; after_reads_at; pointwise; unfold two; split_ifs <;> after_reads_at

theorem host_o (a b : Fin 1024) : (V m c main_v7 : S1024x1024.Idx → EReal) (ix2 a b) = aWo m c (ix2 a b) := by
  unfold V; after_reads_at

theorem host_bo (z : Fin 1) (k : Fin 1024) : (V m c main_v8 : S1x1024.Idx → EReal) (ix2 z k) = aBo m c (ix1 k) := by
  unfold V; after_reads_at

theorem host_g (z : Fin 1) (k : Fin 1024) : (V m c main_v9 : S1x1024.Idx → EReal) (ix2 z k) = aG m c (ix1 k) := by
  unfold V; after_reads_at

theorem host_b (z : Fin 1) (k : Fin 1024) : (V m c main_v10 : S1x1024.Idx → EReal) (ix2 z k) = aB m c (ix1 k) := by
  unfold V; after_reads_at

variable (t : Fin cfg0.N)

theorem sink_blk (h : Fin 16) : (iblk m c 0 t : Vec Ideal S16 .f32) (ix1 h) = aSink m c (ix1 h) := by
  have := idx_sinks t
  blk_ext [iblk, V, this]

theorem x_blk (r : Fin 512) (k : Fin 1024) : (iblk m c 1 t : Vec Ideal S512x1024 .f32) (ix2 r k)
    = aX m c (ix2 ⟨512 * t.val + r.val, by have := lt32 t; omega⟩ k) := by
  have := idx_x t
  blk_ext [iblk, V, this]

theorem prev_blk (r : Fin 128) (k : Fin 1024) : (iblk m c 2 t : Vec Ideal S128x1024 .f32) (ix2 r k)
    = aX m c (ix2 ⟨128 * (4 * t.val - 1) + r.val, by have := lt32 t; omega⟩ k) := by
  have := idx_prev t
  blk_ext [iblk, V, this]

theorem wq_blk (a b : Fin 1024) : (iblk m c 3 t : Vec Ideal S1024x1024 .bf16) (ix2 a b) = aWq m c (ix2 b a) := by
  have := (idx_mats t).1
  refine Eq.trans ?_ (host_q m c a b)
  blk_ext [iblk, this]

theorem bq_blk (a : Fin 1024) (z : Fin 1) : (iblk m c 4 t : Vec Ideal S1024x1 .f32) (ix2 a z) = aBq m c (ix1 a) := by
  have := (idx_rows t).1
  refine Eq.trans ?_ (host_bq m c a z)
  blk_ext [iblk, this]

theorem wkv_blk (k : Fin 1024) (f : Fin 256) : (iblk m c 5 t : Vec Ideal S1024x256 .bf16) (ix2 k f)
    = two (fun f => aWk m c (ix2 k f)) (fun f => aWv m c (ix2 k f)) f := by
  have := (idx_mats t).2.1
  refine Eq.trans ?_ (host_kv m c k f)
  blk_ext [iblk, this]

theorem bkv_blk (z : Fin 1) (f : Fin 256) : (iblk m c 6 t : Vec Ideal S1x256 .f32) (ix2 z f)
    = two (fun f => aBk m c (ix1 f)) (fun f => aBv m c (ix1 f)) f := by
  have := (idx_rows t).2.1
  refine Eq.trans ?_ (host_bkv m c z f)
  blk_ext [iblk, this]

theorem wo_blk (a b : Fin 1024) : (iblk m c 7 t : Vec Ideal S1024x1024 .bf16) (ix2 a b) = aWo m c (ix2 a b) := by
  have := (idx_mats t).2.2
  refine Eq.trans ?_ (host_o m c a b)
  blk_ext [iblk, this]

theorem bo_blk (z : Fin 1) (k : Fin 1024) : (iblk m c 8 t : Vec Ideal S1x1024 .f32) (ix2 z k) = aBo m c (ix1 k) := by
  have := (idx_rows t).2.2.1
  refine Eq.trans ?_ (host_bo m c z k)
  blk_ext [iblk, this]

theorem g_blk (z : Fin 1) (k : Fin 1024) : (iblk m c 9 t : Vec Ideal S1x1024 .f32) (ix2 z k) = aG m c (ix1 k) := by
  have := (idx_rows t).2.2.2.1
  refine Eq.trans ?_ (host_g m c z k)
  blk_ext [iblk, this]

theorem b_blk (z : Fin 1) (k : Fin 1024) : (iblk m c 10 t : Vec Ideal S1x1024 .f32) (ix2 z k) = aB m c (ix1 k) := by
  have := (idx_rows t).2.2.2.2
  refine Eq.trans ?_ (host_b m c z k)
  blk_ext [iblk, this]

end Cert.Attn
-- ==== Proof.AttnOut.lean ====
/-
  The reference's results: the projections, the heads' outputs, the residual and its normalization.
-/
module

public import proofs.«01_k».proof.Proof.AttnScore
public import proofs.«01_k».proof.Proof.TileBlocks
public import proofs.«01_k».proof.Proof.Gen.Reference6Ideal.Read
public import Idealize.ShloMosaic.Lib.Pointwise
public import Idealize.ShloMosaic.Lib.ValueIdx

@[expose] public section

set_option maxRecDepth 16384

noncomputable section

namespace Cert.AttnRef

open Cert.Reference6Ideal Cert.Reference6Ideal.Gen Cert.Reference6Ideal.Read Idealize.ShloMosaic Cert.Rows Cert.Soft Cert.Plain

variable (x0 : (⟨S16384x1024, .f32⟩ : BufTy).Contents (Elt Ideal)) (x1 : (⟨S1024x128, .f32⟩ : BufTy).Contents (Elt Ideal))
  (x2 : (⟨S128, .f32⟩ : BufTy).Contents (Elt Ideal)) (x3 : (⟨S1024x128, .f32⟩ : BufTy).Contents (Elt Ideal))
  (x4 : (⟨S128, .f32⟩ : BufTy).Contents (Elt Ideal)) (x5 : (⟨S1024x1024, .f32⟩ : BufTy).Contents (Elt Ideal))
  (x6 : (⟨S1024, .f32⟩ : BufTy).Contents (Elt Ideal)) (x7 : (⟨S16, .f32⟩ : BufTy).Contents (Elt Ideal))
  (x8 : (⟨S1024x1024, .f32⟩ : BufTy).Contents (Elt Ideal)) (x9 x10 x11 : (⟨S1024, .f32⟩ : BufTy).Contents (Elt Ideal))

def rO : Fin 16384 → Fin 1024 → EReal :=
  flat (att (rK x0 x1 x2) (rV x0 x3 x4) (rQ x0 x5 x6) fun h => x7 (ix1 h))

def rZ : Fin 16384 → Fin 1024 → EReal :=
  res (fun ρ k => x0 (ix2 ρ k)) (rO x0 x1 x2 x3 x4 x5 x6 x7) (fun f k => x8 (ix2 f k)) fun k => x9 (ix1 k)

theorem qt_at (f : Fin 1024) (ρ : Fin 16384) : val_main_v110 x0 x5 x6 (ix2 f ρ) = rQ x0 x5 x6 ρ f := by
  unfold val_main_v110 val_main_v109
  pointwise
  exact q_at x0 x5 x6 ρ f

theorem kv_at (ρ : Fin 16384) (f : Fin 256) :
    val_main_v112 x0 x1 x2 x3 x4 (ix2 ρ f) = Attn.two (rK x0 x1 x2 ρ) (rV x0 x3 x4 ρ) f := by
  unfold val_main_v112 val_main_v111 Attn.two
  pointwise
  simp only [k_at, v_at]

/-- What the heads' outputs need: no score is `⊤`, the sinks are finite. -/
structure Ok : Prop where
  s : ∀ n i g hh j, sR x0 x1 x2 x5 x6 n i g hh j ≠ ⊤
  k : ∀ h, Fin' (x7 (ix1 h))

variable (H : Ok x0 x1 x2 x5 x6 x7)
include H

theorem o_at (ρ : Fin 16384) (f : Fin 1024) :
    val_main_v101 x0 x1 x2 x3 x4 x5 x6 x7 (ix2 ρ f) = rO x0 x1 x2 x3 x4 x5 x6 x7 ρ f := by
  unfold val_main_v101
  pointwise
  refine (congrArg (val_main_v100 x0 x1 x2 x3 x4 x5 x6 x7) ?_).trans
    ((out_at x0 x1 x2 x3 x4 x5 x6 x7 ⟨ρ.val / 128, by omega⟩ ⟨ρ.val % 128, by omega⟩ ⟨f.val / 512, by omega⟩
      ⟨f.val / 64 % 8, by omega⟩ ⟨f.val % 64, by omega⟩ (H.s _ _ _ _) (H.k _)).trans ?_)
  · idx_ext
  · unfold rO flat
    refine congrArg (fun h => att _ _ _ _ _ _ h _) (Fin.ext ?_)
    simp only [head]
    omega

theorem ot_at (f : Fin 1024) (ρ : Fin 16384) :
    val_main_v114 x0 x1 x2 x3 x4 x5 x6 x7 (ix2 f ρ) = rO x0 x1 x2 x3 x4 x5 x6 x7 ρ f := by
  unfold val_main_v114 val_main_v113
  pointwise
  exact o_at x0 x1 x2 x3 x4 x5 x6 x7 H ρ f

theorem z_at (ρ : Fin 16384) (k : Fin 1024) :
    val_main_v108 x0 x1 x2 x3 x4 x5 x6 x7 x8 x9 (ix2 ρ k) = rZ x0 x1 x2 x3 x4 x5 x6 x7 x8 x9 ρ k := by
  unfold val_main_v108 val_main_v107 val_main_v106 val_main_v105 val_main_v104 val_main_v103 val_main_v102 val_main_cst_15
  pointwise
  simp only [o_at x0 x1 x2 x3 x4 x5 x6 x7 H]
  rfl

theorem cen_at (ρ : Fin 16384) (k : Fin 1024) : val_main_v120 x0 x1 x2 x3 x4 x5 x6 x7 x8 x9 (ix2 ρ k)
    = cen (rZ x0 x1 x2 x3 x4 x5 x6 x7 x8 x9 ρ) k := by
  unfold val_main_v120 val_main_v119 val_main_v118 val_main_v117 val_main_v116 val_main_v115 val_main_cst_16 val_main_cst_17
  pointwise
  simp only [z_at x0 x1 x2 x3 x4 x5 x6 x7 x8 x9 H, ofBits_1024]; rfl

theorem cen_at' (ρ : Fin 16384) (k : Fin 1024) : val_main_v127 x0 x1 x2 x3 x4 x5 x6 x7 x8 x9 (ix2 ρ k)
    = cen (rZ x0 x1 x2 x3 x4 x5 x6 x7 x8 x9 ρ) k := cen_at x0 x1 x2 x3 x4 x5 x6 x7 x8 x9 H ρ k

theorem rstd_at (ρ : Fin 16384) : val_main_v130 x0 x1 x2 x3 x4 x5 x6 x7 x8 x9 (ix2 ρ 0)
    = rstd (rZ x0 x1 x2 x3 x4 x5 x6 x7 x8 x9 ρ) := by
  unfold val_main_v130 val_main_v129 val_main_v128 val_main_v125 val_main_v124 val_main_v123 val_main_v122 val_main_v121
    val_main_cst_18 val_main_cst_19 val_main_cst_20
  pointwise
  simp only [cen_at x0 x1 x2 x3 x4 x5 x6 x7 x8 x9 H, ofBits_1024, ofBits_eps]; rfl

theorem y_at (ρ : Fin 16384) (k : Fin 1024) : val_main_v138 x0 x1 x2 x3 x4 x5 x6 x7 x8 x9 x10 x11 (ix2 ρ k)
    = Plain.norm (rZ x0 x1 x2 x3 x4 x5 x6 x7 x8 x9) (fun k => x10 (ix1 k)) (fun k => x11 (ix1 k)) ρ k := by
  unfold val_main_v138 val_main_v137 val_main_v136 val_main_v135 val_main_v134 val_main_v133 val_main_v132 val_main_v131
  pointwise
  rw [cen_at' x0 x1 x2 x3 x4 x5 x6 x7 x8 x9 H, rstd_at x0 x1 x2 x3 x4 x5 x6 x7 x8 x9 H]
  rfl

end Cert.AttnRef
-- ==== Proof.TileRun.lean ====
/-
  The banded attention's tile: the stores that its run leaves are the lists of Tile.lean.
-/
module

public import proofs.«01_k».proof.Proof.Tile
public import proofs.«01_k».proof.Proof.Gen.Kernel6Ideal.Frame.RunA
import all proofs.«01_k».proof.Proof.Gen.Kernel6Ideal.Frame.RunA

@[expose] public section

set_option maxRecDepth 200000
set_option maxHeartbeats 1000000

noncomputable section

namespace Cert.Attn

open Cert.Kernel6Ideal Cert.Kernel6Ideal.Gen Idealize.ShloMosaic Idealize.ShloMosaic.TcCoe Cert.Rows

theorem inb_zero (S : Fin 2 → Nat) : ∀ a, (![0, 0] : Fin 2 → Nat) a + S a ≤ S a := by
  intro a; fin_cases a <;> simp

/-- A whole block, loaded. -/
def ld2 {m n : Nat} {e : EltTy} (v : Memref sig .tc .vmem ⟨2, ![m, n]⟩ e) (hv : v.IsWhole)
    (x : Vec Ideal ⟨2, ![m, n]⟩ e) : Vec Ideal ⟨2, ![m, n]⟩ e :=
  View.readAt (Elt Ideal) v.view (Rect.unit ![0, 0] (⟨2, ![m, n]⟩ : Shape).size
    (by intro a; exact inb_zero _ a)).toLoadRect (hv.unread x)

theorem inb_sink (h : Fin 16) : ∀ a, (![h.val] : Fin 1 → Nat) a + S1.size a ≤ S16.size a := by
  intro a; fin_cases a; simp [S1, S16, Shape.size]

def ldS (v : Memref sig .tc .smem S16 .f32) (hv : v.IsWhole) (x : Vec Ideal S16 .f32) (h : Fin 16) : Elt Ideal .f32 :=
  View.readAt (Elt Ideal) v.view (Rect.unit (s := S16) ![h.val] S1.size (inb_sink h)).toLoadRect (hv.unread x) (Shape.Idx.first Nat.one_pos)

variable (c : Dev nD) (i : grid0.Coords) (arg1 : Memref sig .tc .smem S16 .f32) (harg1 : arg1.IsWhole)
  (arg2 : Memref sig .tc .vmem S512x1024 .f32) (harg2 : arg2.IsWhole) (arg3 : Memref sig .tc .vmem S128x1024 .f32)
  (harg3 : arg3.IsWhole) (arg4 : Memref sig .tc .vmem S1024x1024 .bf16) (harg4 : arg4.IsWhole)
  (arg5 : Memref sig .tc .vmem S1024x1 .f32) (harg5 : arg5.IsWhole) (arg6 : Memref sig .tc .vmem S1024x256 .bf16)
  (harg6 : arg6.IsWhole) (arg7 : Memref sig .tc .vmem S1x256 .f32) (harg7 : arg7.IsWhole)
  (arg8 : Memref sig .tc .vmem S1024x1024 .bf16) (harg8 : arg8.IsWhole) (arg9 : Memref sig .tc .vmem S1x1024 .f32)
  (harg9 : arg9.IsWhole) (arg10 : Memref sig .tc .vmem S1x1024 .f32) (harg10 : arg10.IsWhole)
  (arg11 : Memref sig .tc .vmem S1x1024 .f32) (harg11 : arg11.IsWhole) (arg12 : Memref sig .tc .vmem S1024x512 .bf16)
  (harg12 : arg12.IsWhole) (arg13 : Memref sig .tc .vmem S512x256 .bf16) (harg13 : arg13.IsWhole)
  (arg14 : Memref sig .tc .vmem S1024x512 .bf16) (harg14 : arg14.IsWhole)
  (arg15 : Memref sig .tc .vmem S512x1024 .f32) (harg15 : arg15.IsWhole) (arg16 : Memref sig .tc .vmem S512x1024 .f32)
  (harg16 : arg16.IsWhole) (arg17 : Memref sig .tc .vmem S4x640x64 .bf16) (harg17 : arg17.IsWhole)
  (arg18 : Memref sig .tc .vmem S4x1024x128 .bf16) (harg18 : arg18.IsWhole)
  (arg19 : Memref sig .tc .vmem S4x1024x128 .bf16) (harg19 : arg19.IsWhole) (x0 : Vec Ideal S16 .f32)
  (x1 : Vec Ideal S512x1024 .f32) (x2 : Vec Ideal S128x1024 .f32) (x3 : Vec Ideal S1024x1024 .bf16)
  (x4 : Vec Ideal S1024x1 .f32) (x5 : Vec Ideal S1024x256 .bf16) (x6 : Vec Ideal S1x256 .f32)
  (x7 : Vec Ideal S1024x1024 .bf16) (x8 : Vec Ideal S1x1024 .f32) (x9 : Vec Ideal S1x1024 .f32)
  (x10 : Vec Ideal S1x1024 .f32)

theorem run_q : (kernelRun0_A c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 x0 x1 x2 x3 x4 x5 x6 x7 x8 x9 x10).1
    = [⟨Rect.unit ![0, 0] S1024x512.size inb_S1024x512_S1024x512_0_0,
        qtT (ld2 arg2 harg2 x1) (ld2 arg4 harg4 x3) (ld2 arg5 harg5 x4)⟩] := rfl

theorem run_kv : (kernelRun0_A c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 x0 x1 x2 x3 x4 x5 x6 x7 x8 x9 x10).2.1
    = [⟨Rect.unit ![0, 0] S512x256.size inb_S512x256_S512x256_0_0,
        kvT (ld2 arg2 harg2 x1) (ld2 arg6 harg6 x5) (ld2 arg7 harg7 x6)⟩] := rfl

def kkA : Fin 4 → Fin 4 → FVec Ideal S256x64 .bf16 :=
  kkOf arg17 (kvH (ld2 arg3 harg3 x2) (ld2 arg6 harg6 x5) (ld2 arg7 harg7 x6))
    (kvT (ld2 arg2 harg2 x1) (ld2 arg6 harg6 x5) (ld2 arg7 harg7 x6))

def qaA : Fin 4 → Fin 2 → FVec Ideal S64x1024 .bf16 :=
  colOf arg18 (colsOf (qtT (ld2 arg2 harg2 x1) (ld2 arg4 harg4 x3) (ld2 arg5 harg5 x4)))

def oA : Fin 4 → Fin 2 → FVec Ideal S64x1024 .f32 :=
  oAll (kkA arg2 harg2 arg3 harg3 arg6 harg6 arg7 harg7 arg17 x1 x2 x5 x6)
    (qaA arg2 harg2 arg4 harg4 arg5 harg5 arg18 x1 x3 x4) (hpOf i) (ldS arg1 harg1 x0)

abbrev oA' := oA i arg1 harg1 arg2 harg2 arg3 harg3 arg4 harg4 arg5 harg5 arg6 harg6 arg7 harg7 arg17 arg18 x0 x1 x2 x3 x4 x5 x6

theorem run_ol : (kernelRun0_A c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 x0 x1 x2 x3 x4 x5 x6 x7 x8 x9 x10).2.2.2.2.2.2.2.1
    = oL (oA' i arg1 harg1 arg2 harg2 arg3 harg3 arg4 harg4 arg5 harg5 arg6 harg6 arg7 harg7 arg17 arg18
      x0 x1 x2 x3 x4 x5 x6) 64 := rfl

theorem run_ot : (kernelRun0_A c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 x0 x1 x2 x3 x4 x5 x6 x7 x8 x9 x10).2.2.1
    = [⟨Rect.unit ![0, 0] S1024x512.size inb_S1024x512_S1024x512_0_0,
        otOf arg19 (oA' i arg1 harg1 arg2 harg2 arg3 harg3 arg4 harg4 arg5 harg5 arg6 harg6 arg7 harg7 arg17 arg18
      x0 x1 x2 x3 x4 x5 x6)⟩] := rfl

theorem run_z : (kernelRun0_A c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 x0 x1 x2 x3 x4 x5 x6 x7 x8 x9 x10).2.2.2.1
    = [⟨Rect.unit ![0, 0] S512x1024.size inb_S512x1024_S512x1024_0_0,
        k0_pay1 (zA (ld2 arg2 harg2 x1) (otOf arg19 (oA' i arg1 harg1 arg2 harg2 arg3 harg3 arg4 harg4 arg5 harg5 arg6 harg6 arg7 harg7 arg17 arg18
      x0 x1 x2 x3 x4 x5 x6)) (ld2 arg8 harg8 x7)) (k0_pay312 (ld2 arg9 harg9 x8))⟩] := rfl

theorem run_y : (kernelRun0_A c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 x0 x1 x2 x3 x4 x5 x6 x7 x8 x9 x10).2.2.2.2.1
    = [⟨Rect.unit ![0, 0] S512x1024.size inb_S512x1024_S512x1024_0_0,
        k0_pay2 (zA (ld2 arg2 harg2 x1) (otOf arg19 (oA' i arg1 harg1 arg2 harg2 arg3 harg3 arg4 harg4 arg5 harg5 arg6 harg6 arg7 harg7 arg17 arg18
      x0 x1 x2 x3 x4 x5 x6)) (ld2 arg8 harg8 x7)) (k0_pay312 (ld2 arg9 harg9 x8))
          (ld2 arg10 harg10 x9) (ld2 arg11 harg11 x10)⟩] := rfl

theorem hz : (![0, 0] : Fin 2 → Nat) = fun _ => 0 := by funext a; fin_cases a <;> rfl

/-- A whole block loaded is the block. -/
theorem ld2_eq {m n : Nat} {e : EltTy} (v : Memref sig .tc .vmem ⟨2, ![m, n]⟩ e) (hv : v.IsWhole)
    (x : Vec Ideal ⟨2, ![m, n]⟩ e) : ld2 v hv x = x := by
  unfold ld2
  rw [View.readAt_eq_ld, Memref.IsWhole.read_unread, View.ld_unit_zero hz]

theorem ldS_eq (v : Memref sig .tc .smem S16 .f32) (hv : v.IsWhole) (x : Vec Ideal S16 .f32) (h : Fin 16) :
    ldS v hv x h = x (ix1 h) := by
  unfold ldS
  rw [View.readAt_eq_ld, Memref.IsWhole.read_unread]
  unfold View.ld
  refine congrArg x ?_
  idx_ext

end Cert.Attn
-- ==== Proof.TileOuts.lean ====
/-
  The banded attention's tile: what a point of the grid leaves in the five outputs.
-/
module

public import proofs.«01_k».proof.Proof.TileRun
public import proofs.«01_k».proof.Proof.Gen.Kernel6Ideal.Value

@[expose] public section

set_option maxRecDepth 16384

noncomputable section

namespace Cert.Attn

open Cert.Kernel6Ideal Cert.Kernel6Ideal.Gen Idealize.ShloMosaic Idealize.ShloMosaic.TcCoe Cert.Rows

variable (m : (ℓ : Loc nD τ sig) → Buf (Elt Ideal) ℓ) (c : Dev nD) (t : Fin cfg0.N)

/-- The tile's keys and values in the scratch memory, its queries, its heads' outputs. -/
def kkB : Fin 4 → Fin 4 → FVec Ideal S256x64 .bf16 :=
  kkOf scM0_0 (kvH (iblk m c 2 t) (iblk m c 5 t) (iblk m c 6 t)) (kvT (iblk m c 1 t) (iblk m c 5 t) (iblk m c 6 t))

def qB : FVec Ideal S1024x512 .bf16 := qtT (iblk m c 1 t) (iblk m c 3 t) (iblk m c 4 t)

def oB : Fin 4 → Fin 2 → FVec Ideal S64x1024 .f32 :=
  oAll (kkB m c t) (colOf scM0_1 (colsOf (qB m c t))) (hpOf (grid0.coords t))
    (fun h => (iblk m c 0 t : Vec Ideal S16 .f32) (ix1 h))

def zB : FVec Ideal S512x1024 .f32 := zA (iblk m c 1 t) (otOf scM0_2 (oB m c t)) (iblk m c 7 t)

theorem ldS_fun (v : Memref sig .tc .smem S16 .f32) (hv : v.IsWhole) (x : Vec Ideal S16 .f32) :
    ldS v hv x = fun h => x (ix1 h) := funext fun h => ldS_eq v hv x h

theorem out_q : (outsAt0 m c t).1 = qB m c t := by
  unfold outsAt0 out0_A_11
  dsimp only
  refine (View.read_writes_eq_canon _ _ _ (by intro y; apply cover0_A_11)).trans ?_
  rw [run_q, View.canon_unit_zero hz]
  unfold qB
  simp only [ld2_eq]

theorem out_kv : (outsAt0 m c t).2.1 = kvT (iblk m c 1 t) (iblk m c 5 t) (iblk m c 6 t) := by
  unfold outsAt0 out0_A_12
  dsimp only
  refine (View.read_writes_eq_canon _ _ _ (by intro y; apply cover0_A_12)).trans ?_
  rw [run_kv, View.canon_unit_zero hz]
  simp only [ld2_eq]

theorem out_ot : (outsAt0 m c t).2.2.1 = otOf scM0_2 (oB m c t) := by
  unfold outsAt0 out0_A_13
  dsimp only
  refine (View.read_writes_eq_canon _ _ _ (by intro y; apply cover0_A_13)).trans ?_
  rw [run_ot, View.canon_unit_zero hz]
  unfold oA' oA kkA qaA oB kkB qB
  simp only [ld2_eq, ldS_fun]

theorem out_z : (outsAt0 m c t).2.2.2.1 = k0_pay1 (zB m c t) (k0_pay312 (iblk m c 8 t)) := by
  unfold outsAt0 out0_A_14
  dsimp only
  refine (View.read_writes_eq_canon _ _ _ (by intro y; apply cover0_A_14)).trans ?_
  rw [run_z, View.canon_unit_zero hz]
  unfold oA' oA kkA qaA zB oB kkB qB
  simp only [ld2_eq, ldS_fun]

theorem out_y : (outsAt0 m c t).2.2.2.2 = k0_pay2 (zB m c t) (k0_pay312 (iblk m c 8 t)) (iblk m c 9 t) (iblk m c 10 t) := by
  unfold outsAt0 out0_A_15
  dsimp only
  refine (View.read_writes_eq_canon _ _ _ (by intro y; apply cover0_A_15)).trans ?_
  rw [run_y, View.canon_unit_zero hz]
  unfold oA' oA kkA qaA zB oB kkB qB
  simp only [ld2_eq, ldS_fun]

end Cert.Attn
-- ==== Proof.TileVal.lean ====
/-
  The banded attention's tile: its outputs, in the arguments' entries.
-/
module

public import proofs.«01_k».proof.Proof.TileOuts
public import proofs.«01_k».proof.Proof.TileBlocks
public import proofs.«01_k».proof.Proof.TileRead
public import proofs.«01_k».proof.Proof.Plain

@[expose] public section

set_option maxRecDepth 16384

noncomputable section

namespace Cert.Attn

open Cert.Kernel6Ideal Cert.Kernel6Ideal.Gen Idealize.ShloMosaic Idealize.ShloMosaic.TcCoe Cert.Rows Cert.Soft Cert.Plain

theorem qtT_at (x : FVec Ideal S512x1024 .f32) (w : FVec Ideal S1024x1024 .bf16) (b : FVec Ideal S1024x1 .f32)
    (f : Fin 1024) (r : Fin 512) :
    qtT x w b (ix2 f r) = (∑ k : Fin 1024, w (ix2 f k) * x (ix2 r k)) + b (ix2 f 0) := by
  unfold qtT; pointwise

theorem kvT_at (x : FVec Ideal S512x1024 .f32) (w : FVec Ideal S1024x256 .bf16) (b : FVec Ideal S1x256 .f32)
    (r : Fin 512) (f : Fin 256) :
    kvT x w b (ix2 r f) = (∑ k : Fin 1024, x (ix2 r k) * w (ix2 k f)) + b (ix2 0 f) := by
  unfold kvT; pointwise

theorem kvH_at (x : FVec Ideal S128x1024 .f32) (w : FVec Ideal S1024x256 .bf16) (b : FVec Ideal S1x256 .f32)
    (r : Fin 128) (f : Fin 256) :
    kvH x w b (ix2 r f) = (∑ k : Fin 1024, x (ix2 r k) * w (ix2 k f)) + b (ix2 0 f) := by
  unfold kvH; pointwise

theorem zA_at (x : FVec Ideal S512x1024 .f32) (ot : FVec Ideal S1024x512 .bf16) (w : FVec Ideal S1024x1024 .bf16)
    (r : Fin 512) (k : Fin 1024) :
    zA x ot w (ix2 r k) = root2 * x (ix2 r k) + ∑ f : Fin 1024, ot (ix2 f r) * w (ix2 f k) := by
  unfold zA root2; pointwise

theorem pay1_at (a : FVec Ideal S512x1024 .f32) (b : FVec Ideal S1x1024 .f32) (r : Fin 512) (k : Fin 1024) :
    k0_pay1 a (k0_pay312 b) (ix2 r k) = a (ix2 r k) + b (ix2 0 k) := by
  unfold k0_pay1 k0_pay312; pointwise

theorem pay2_at (a : FVec Ideal S512x1024 .f32) (b g bb : FVec Ideal S1x1024 .f32) (r : Fin 512) (k : Fin 1024) :
    k0_pay2 a (k0_pay312 b) g bb (ix2 r k) = hat (fun k => a (ix2 r k) + b (ix2 0 k)) k * g (ix2 0 k) + bb (ix2 0 k) := by
  unfold k0_pay2 k0_pay1 k0_pay312; pointwise
  simp only [ofBits_1024, ofBits_eps]
  rfl

theorem colsOf_at (d : FVec Ideal S1024x512 .bf16) (b : Fin 4) (f : Fin 1024) (i : Fin 128) :
    colsOf d b (ix2 f i) = d (ix2 f ⟨128 * b.val + i.val, by omega⟩) := by
  unfold colsOf; pointwise

theorem proj_two {n : Nat} (x : Fin n → Fin 1024 → EReal) (wk wv : Fin 1024 → Fin 128 → EReal) (bk bv : Fin 128 → EReal)
    (r : Fin n) (f : Fin 256) :
    (∑ k, x r k * two (wk k) (wv k) f) + two bk bv f
      = two (fun f => (∑ k, x r k * wk k f) + bk f) (fun f => (∑ k, x r k * wv k f) + bv f) f := by
  unfold two; split_ifs <;> rfl

variable (m : (ℓ : Loc nD τ sig) → Buf (Elt Ideal) ℓ) (c : Dev nD) (t : Fin cfg0.N)

/-- The three projections of the program's arguments. -/
def pQ : Fin 16384 → Fin 1024 → EReal :=
  proj (fun ρ k => aX m c (ix2 ρ k)) (fun k f => aWq m c (ix2 k f)) fun f => aBq m c (ix1 f)
def pK : Fin 16384 → Fin 128 → EReal :=
  proj (fun ρ k => aX m c (ix2 ρ k)) (fun k f => aWk m c (ix2 k f)) fun f => aBk m c (ix1 f)
def pV : Fin 16384 → Fin 128 → EReal :=
  proj (fun ρ k => aX m c (ix2 ρ k)) (fun k f => aWv m c (ix2 k f)) fun f => aBv m c (ix1 f)
def pS : Fin 16 → EReal := fun h => aSink m c (ix1 h)

theorem q_val (f : Fin 1024) (r : Fin 512) :
    qB m c t (ix2 f r) = pQ m c ⟨512 * t.val + r.val, by have := lt32 t; omega⟩ f := by
  unfold qB pQ proj
  rw [qtT_at, bq_blk]
  simp only [wq_blk, x_blk]
  refine congrArg (· + _) (Finset.sum_congr rfl fun k _ => mul_comm _ _)

theorem kv_val (r : Fin 512) (f : Fin 256) :
    kvT (iblk m c 1 t) (iblk m c 5 t) (iblk m c 6 t) (ix2 r f)
      = two (pK m c ⟨512 * t.val + r.val, by have := lt32 t; omega⟩) (pV m c ⟨512 * t.val + r.val, by have := lt32 t; omega⟩) f := by
  rw [kvT_at, bkv_blk]
  simp only [wkv_blk, x_blk]
  exact proj_two (fun (r : Fin 512) k => aX m c (ix2 ⟨512 * t.val + r.val, by have := lt32 t; omega⟩ k)) _ _ _ _ r f

theorem prev_val (r : Fin 128) (f : Fin 256) :
    kvH (iblk m c 2 t) (iblk m c 5 t) (iblk m c 6 t) (ix2 r f)
      = two (pK m c ⟨128 * (4 * t.val - 1) + r.val, by have := lt32 t; omega⟩)
          (pV m c ⟨128 * (4 * t.val - 1) + r.val, by have := lt32 t; omega⟩) f := by
  rw [kvH_at, bkv_blk]
  simp only [wkv_blk, prev_blk]
  exact proj_two (fun (r : Fin 128) k => aX m c (ix2 ⟨128 * (4 * t.val - 1) + r.val, by have := lt32 t; omega⟩ k)) _ _ _ _ r f

/-- The block of queries number b of a tile. -/
def blkOf (b : Fin 4) : Fin 128 := ⟨4 * t.val + b.val, by have := lt32 t; omega⟩

theorem kk_val (j b : Fin 4) (r : Fin 256) (d : Fin 64) :
    kkB m c t j b (ix2 r d)
      = two (pK m c (krow (blkOf t b) r)) (pV m c (krow (blkOf t b) r)) ⟨64 * j.val + d.val, by omega⟩ := by
  have ht := lt32 t
  unfold kkB
  rw [kkOf_at]
  by_cases h : 128 * b.val + r.val < 128
  · rw [kvAt_lo _ _ _ _ h, prev_val]
    have e : (⟨128 * (4 * t.val - 1) + (128 * b.val + r.val), by omega⟩ : Fin 16384) = krow (blkOf t b) r := by
      refine Fin.ext ?_
      simp only [krow, blkOf]
      split_ifs <;> omega
    rw [e]
  · rw [kvAt_hi _ _ _ _ h, kv_val]
    have e : (⟨512 * t.val + (128 * b.val + r.val - 128), by omega⟩ : Fin 16384) = krow (blkOf t b) r := by
      refine Fin.ext ?_
      simp only [krow, blkOf]
      split_ifs <;> omega
    rw [e]

theorem key_val (g : Fin 2) (hh : Fin 8) (b : Fin 4) (r : Fin 256) (d : Fin 64) :
    kkB m c t (kslot g) b (ix2 r d) = pK m c (krow (blkOf t b) r) (kcol (hd g hh) d) := by
  rw [kk_val]
  unfold two
  rw [dif_pos (show 64 * (kslot g).val + d.val < 128 by simp only [kslot]; omega)]
  refine congrArg _ (Fin.ext ?_)
  simp only [kslot, kcol, hd]
  omega

theorem value_val (g : Fin 2) (hh : Fin 8) (b : Fin 4) (r : Fin 256) (d : Fin 64) :
    kkB m c t (vslot g) b (ix2 r d) = pV m c (krow (blkOf t b) r) (kcol (hd g hh) d) := by
  rw [kk_val]
  unfold two
  rw [dif_neg (show ¬ 64 * (vslot g).val + d.val < 128 by simp only [vslot]; omega)]
  refine congrArg _ (Fin.ext ?_)
  simp only [vslot, kcol, hd]
  omega

theorem query_val (g : Fin 2) (hh : Fin 8) (b : Fin 4) (i : Fin 128) (d : Fin 64) :
    colOf scM0_1 (colsOf (qB m c t)) b g (ix2 d ⟨128 * hh.val + i.val, by omega⟩)
      = pQ m c (qrow (blkOf t b) i) (qcol (hd g hh) d) := by
  have ht := lt32 t
  rw [colOf_at, colsOf_at, q_val]
  refine congr (congrArg _ (Fin.ext ?_)) (Fin.ext ?_)
  · simp only [qrow, blkOf]; omega
  · simp only [qcol, hd]

theorem hp_val : ∀ (t : Fin cfg0.N) (b : Fin 4),
    hpOf (grid0.coords t) b = if (blkOf t b).val = 0 then 0#1 else 1#1 := by
  decide +kernel

end Cert.Attn
-- ==== Proof.TileRes.lean ====
/-
  The banded attention's five results over their whole arrays.
-/
module

public import proofs.«01_k».proof.Proof.TileVal

@[expose] public section

set_option maxRecDepth 16384

noncomputable section

namespace Cert.Attn

open Cert.Kernel6Ideal Cert.Kernel6Ideal.Gen Idealize.ShloMosaic Idealize.ShloMosaic.TcCoe Cert.Rows Cert.Soft Cert.Plain

/-! ## The slopes -/

theorem sl_even (h : Fin 16) (n : ℕ) (hn : h.val = 2 * n) : sl h = (((Real.sqrt (2 ^ (2 * n + 1)))⁻¹ : ℝ) : EReal) := by
  unfold sl
  refine congrArg _ ?_
  rw [hn, Real.sqrt_eq_rpow, ← Real.rpow_natCast, ← Real.rpow_mul (by norm_num), ← Real.rpow_neg (by norm_num),
    Real.rpow_def_of_pos (by norm_num)]
  refine congrArg _ ?_
  push_cast
  ring

theorem sl_odd (h : Fin 16) (n : ℕ) (hn : h.val = 2 * n + 1) : sl h = ((((2 : ℝ) ^ (n + 1))⁻¹ : ℝ) : EReal) := by
  unfold sl
  refine congrArg _ ?_
  rw [hn, ← Real.rpow_natCast, ← Real.rpow_neg (by norm_num), Real.rpow_def_of_pos (by norm_num)]
  refine congrArg _ ?_
  push_cast
  ring

theorem named_slope (name : String) (b : BitVec 32) (x : ℝ) (h : κ name = some (x : EReal)) :
    Named.named (F := Ideal) (φ := .f32) κ name b = (x : EReal) :=
  IdealRules.named_const.ideal_named_scalar _ _ _ _ h

theorem word_slope (k : ℕ) (hk : k < 9) : Ideal.ofBits .f32 (BitVec.ofNat 32 (0x3F800000 - 0x800000 * k)) = ((((2 : ℝ) ^ k)⁻¹ : ℝ) : EReal) := by
  interval_cases k <;> · simp [Ideal.ofBits, Ideal.ieee, ← EReal.coe_mul]; norm_num [zpow_neg]

theorem slope_eq (h : Fin 16) : slope h = sl h := by
  fin_cases h
  · exact (named_slope _ _ _ rfl).trans ((sl_even 0 0 rfl).trans (by norm_num)).symm
  · exact (word_slope 1 (by norm_num)).trans (sl_odd 1 0 rfl).symm
  · exact (named_slope _ _ _ rfl).trans ((sl_even 2 1 rfl).trans (by norm_num)).symm
  · exact (word_slope 2 (by norm_num)).trans (sl_odd 3 1 rfl).symm
  · exact (named_slope _ _ _ rfl).trans ((sl_even 4 2 rfl).trans (by norm_num)).symm
  · exact (word_slope 3 (by norm_num)).trans (sl_odd 5 2 rfl).symm
  · exact (named_slope _ _ _ rfl).trans ((sl_even 6 3 rfl).trans (by norm_num)).symm
  · exact (word_slope 4 (by norm_num)).trans (sl_odd 7 3 rfl).symm
  · exact (named_slope _ _ _ rfl).trans ((sl_even 8 4 rfl).trans (by norm_num)).symm
  · exact (word_slope 5 (by norm_num)).trans (sl_odd 9 4 rfl).symm
  · exact (named_slope _ _ _ rfl).trans ((sl_even 10 5 rfl).trans (by norm_num)).symm
  · exact (word_slope 6 (by norm_num)).trans (sl_odd 11 5 rfl).symm
  · exact (named_slope _ _ _ rfl).trans ((sl_even 12 6 rfl).trans (by norm_num)).symm
  · exact (word_slope 7 (by norm_num)).trans (sl_odd 13 6 rfl).symm
  · exact (named_slope _ _ _ rfl).trans ((sl_even 14 7 rfl).trans (by norm_num)).symm
  · exact (word_slope 8 (by norm_num)).trans (sl_odd 15 7 rfl).symm

/-! ## The heads' outputs -/

variable (m : (ℓ : Loc nD τ sig) → Buf (Elt Ideal) ℓ) (c : Dev nD)

/-- What the softmax needs of the arguments. -/
structure Fins : Prop where
  x : ∀ ρ k, Fin' (aX m c (ix2 ρ k))
  wk : ∀ k f, Fin' (aWk m c (ix2 k f))
  bk : ∀ f, Fin' (aBk m c (ix1 f))
  wq : ∀ k f, Fin' (aWq m c (ix2 k f))
  bq : ∀ f, Fin' (aBq m c (ix1 f))
  sk : ∀ h, Fin' (aSink m c (ix1 h))

variable {m c}

theorem Fins.k (H : Fins m c) (ρ : Fin 16384) (f : Fin 128) : Fin' (pK m c ρ f) := fin_proj H.x H.wk H.bk ρ f
theorem Fins.q (H : Fins m c) (ρ : Fin 16384) (f : Fin 1024) : Fin' (pQ m c ρ f) := fin_proj H.x H.wq H.bq ρ f

variable (m c)

/-- The heads' outputs as mathematics on the program's arguments. -/
def pO : Fin 16384 → Fin 1024 → EReal := flat (att (pK m c) (pV m c) (pQ m c) (pS m c))

def pZ : Fin 16384 → Fin 1024 → EReal :=
  res (fun ρ k => aX m c (ix2 ρ k)) (pO m c) (fun f k => aWo m c (ix2 f k)) fun k => aBo m c (ix1 k)

def pY : Fin 16384 → Fin 1024 → EReal := Plain.norm (pZ m c) (fun k => aG m c (ix1 k)) fun k => aB m c (ix1 k)

variable (H : Fins m c) (t : Fin cfg0.N)
include H

theorem o_val (b : Fin 4) (g : Fin 2) (hh : Fin 8) (i : Fin 128) (e : Fin 64) :
    oB m c t b g (ix2 e ⟨128 * hh.val + i.val, by omega⟩)
      = att (pK m c) (pV m c) (pQ m c) (pS m c) (blkOf t b) i (hd g hh) e := by
  have hs : (fun j : Fin 256 => ∑ d : Fin 64, kkB m c t (kslot g) b (ix2 j d)
      * colOf scM0_1 (colsOf (qB m c t)) b g (ix2 d ⟨128 * hh.val + i.val, by omega⟩))
      = dotq (pK m c) (pQ m c) (blkOf t b) (hd g hh) i := by
    funext j
    unfold dotq
    refine Finset.sum_congr rfl fun d _ => ?_
    rw [key_val m c t g hh, query_val]
  unfold oB
  rw [oAll_at _ _ _ _ b ((blkOf t b).val = 0) (hp_val t b) g hh i e ?_ ?_ ?_, hs]
  · unfold att Plain.score pS
    refine Finset.sum_congr rfl fun j _ => ?_
    rw [value_val m c t g hh, slope_eq, sink_blk]
  · intro j
    rw [sAll_at]
    have := fin_dotq H.k H.q (blkOf t b) (hd g hh) i j
    rw [← hs] at this
    exact this
  · rw [slope_eq]; exact fin_coe _
  · rw [sink_blk]; exact H.sk _

theorem ot_val (f : Fin 1024) (r : Fin 512) :
    otOf scM0_2 (oB m c t) (ix2 f r) = pO m c ⟨512 * t.val + r.val, by have := lt32 t; omega⟩ f := by
  have ht := lt32 t
  have h1 : f = ⟨64 * (8 * (f.val / 512) + f.val / 64 % 8) + f.val % 64, by omega⟩ := Fin.ext (by simp only; omega)
  have h2 : r = ⟨128 * (r.val / 128) + r.val % 128, by omega⟩ := Fin.ext (by simp only; omega)
  have h := (otOf_at scM0_2 (oB m c t) ⟨f.val / 512, by omega⟩ ⟨f.val / 64 % 8, by omega⟩ ⟨f.val % 64, by omega⟩
    ⟨r.val / 128, by omega⟩ ⟨r.val % 128, by omega⟩).trans (o_val m c H t _ _ _ _ _)
  refine Eq.trans (congrArg _ (congr (congrArg _ h1) h2)) (h.trans ?_)
  unfold pO flat
  have e1 : blkOf t ⟨r.val / 128, by omega⟩ = ⟨(512 * t.val + r.val) / 128, by omega⟩ :=
    Fin.ext (by simp only [blkOf]; omega)
  have e2 : (⟨r.val % 128, by omega⟩ : Fin 128) = ⟨(512 * t.val + r.val) % 128, by omega⟩ := Fin.ext (by simp only; omega)
  have e3 : hd ⟨f.val / 512, by omega⟩ ⟨f.val / 64 % 8, by omega⟩ = ⟨f.val / 64, by omega⟩ :=
    Fin.ext (by simp only [hd]; omega)
  rw [e1, e2, e3]

theorem z_val (r : Fin 512) (k : Fin 1024) :
    zB m c t (ix2 r k) + (iblk m c 8 t : Vec Ideal S1x1024 .f32) (ix2 0 k)
      = pZ m c ⟨512 * t.val + r.val, by have := lt32 t; omega⟩ k := by
  unfold zB pZ res
  rw [zA_at, bo_blk, x_blk, add_assoc]
  simp only [ot_val m c H, wo_blk]

theorem y_val (r : Fin 512) (k : Fin 1024) :
    k0_pay2 (zB m c t) (k0_pay312 (iblk m c 8 t)) (iblk m c 9 t) (iblk m c 10 t) (ix2 r k)
      = pY m c ⟨512 * t.val + r.val, by have := lt32 t; omega⟩ k := by
  unfold pY Plain.norm
  rw [pay2_at, g_blk, b_blk]
  simp only [z_val m c H]

omit H

/-! ## The five arrays -/

/-- Keys and values side by side. -/
def pKV (ρ : Fin 16384) (f : Fin 256) : EReal := two (pK m c ρ) (pV m c ρ) f

theorem idx_cols (t : Fin cfg0.N) : (win0_11.index t 0 = 0 ∧ win0_11.index t 1 = t.val)
    ∧ win0_13.index t 0 = 0 ∧ win0_13.index t 1 = t.val := by
  revert t; decide +kernel

theorem idx_outs (t : Fin cfg0.N) : (win0_12.index t 0 = t.val ∧ win0_12.index t 1 = 0)
    ∧ (win0_14.index t 0 = t.val ∧ win0_14.index t 1 = 0) ∧ win0_15.index t 0 = t.val ∧ win0_15.index t 1 = 0 := by
  revert t; decide +kernel

theorem arr_q : (dats m 0 c).arrAt 11 cfg0.N = fun j : S1024x16384.Idx => pQ m c ⟨(j 1).val, (j 1).isLt⟩ ⟨(j 0).val, (j 0).isLt⟩ := by
  refine (dats m 0 c).arrAt_eq_of_covers 11 _ (by decide +kernel) fun t hf y => ?_
  blk_simp
  rw [after0_11, out_q]
  obtain ⟨e0, e1⟩ := (idx_cols t).1
  obtain ⟨a, b, rfl⟩ : ∃ a b, y = (ix2 a b : S1024x512.Idx) := ⟨y 0, y 1, eq_ix2 y⟩
  refine (q_val m c t a b).trans ?_
  refine congr (congrArg (pQ m c) (Fin.ext ?_)) (Fin.ext ?_)
  · show 512 * t.val + b.val = win0_11.index t 1 * 512 + b.val
    rw [e1]; omega
  · show a.val = win0_11.index t 0 * 1024 + a.val
    rw [e0]; omega

theorem arr_kv : (dats m 0 c).arrAt 12 cfg0.N = fun j : S16384x256.Idx => pKV m c ⟨(j 0).val, (j 0).isLt⟩ ⟨(j 1).val, (j 1).isLt⟩ := by
  refine (dats m 0 c).arrAt_eq_of_covers 12 _ (by decide +kernel) fun t hf y => ?_
  blk_simp
  rw [after0_12, out_kv]
  obtain ⟨e0, e1⟩ := (idx_outs t).1
  obtain ⟨a, b, rfl⟩ : ∃ a b, y = (ix2 a b : S512x256.Idx) := ⟨y 0, y 1, eq_ix2 y⟩
  refine (kv_val m c t a b).trans ?_
  refine congr (congrArg (pKV m c) (Fin.ext ?_)) (Fin.ext ?_)
  · show 512 * t.val + a.val = win0_12.index t 0 * 512 + a.val
    rw [e0]; omega
  · show b.val = win0_12.index t 1 * 256 + b.val
    rw [e1]; omega

theorem arr_ot (H : Fins m c) : (dats m 0 c).arrAt 13 cfg0.N = fun j : S1024x16384.Idx => pO m c ⟨(j 1).val, (j 1).isLt⟩ ⟨(j 0).val, (j 0).isLt⟩ := by
  refine (dats m 0 c).arrAt_eq_of_covers 13 _ (by decide +kernel) fun t hf y => ?_
  blk_simp
  rw [after0_13, out_ot]
  obtain ⟨e0, e1⟩ := (idx_cols t).2
  obtain ⟨a, b, rfl⟩ : ∃ a b, y = (ix2 a b : S1024x512.Idx) := ⟨y 0, y 1, eq_ix2 y⟩
  refine (ot_val m c H t a b).trans ?_
  refine congr (congrArg (pO m c) (Fin.ext ?_)) (Fin.ext ?_)
  · show 512 * t.val + b.val = win0_13.index t 1 * 512 + b.val
    rw [e1]; omega
  · show a.val = win0_13.index t 0 * 1024 + a.val
    rw [e0]; omega

theorem arr_z (H : Fins m c) : (dats m 0 c).arrAt 14 cfg0.N = fun j : S16384x1024.Idx => pZ m c ⟨(j 0).val, (j 0).isLt⟩ ⟨(j 1).val, (j 1).isLt⟩ := by
  refine (dats m 0 c).arrAt_eq_of_covers 14 _ (by decide +kernel) fun t hf y => ?_
  blk_simp
  rw [after0_14, out_z]
  obtain ⟨e0, e1⟩ := (idx_outs t).2.1
  obtain ⟨a, b, rfl⟩ : ∃ a b, y = (ix2 a b : S512x1024.Idx) := ⟨y 0, y 1, eq_ix2 y⟩
  refine ((pay1_at _ _ a b).trans (z_val m c H t a b)).trans ?_
  refine congr (congrArg (pZ m c) (Fin.ext ?_)) (Fin.ext ?_)
  · show 512 * t.val + a.val = win0_14.index t 0 * 512 + a.val
    rw [e0]; omega
  · show b.val = win0_14.index t 1 * 1024 + b.val
    rw [e1]; omega

theorem arr_y (H : Fins m c) : (dats m 0 c).arrAt 15 cfg0.N = fun j : S16384x1024.Idx => pY m c ⟨(j 0).val, (j 0).isLt⟩ ⟨(j 1).val, (j 1).isLt⟩ := by
  refine (dats m 0 c).arrAt_eq_of_covers 15 _ (by decide +kernel) fun t hf y => ?_
  blk_simp
  rw [after0_15, out_y]
  obtain ⟨e0, e1⟩ := (idx_outs t).2.2
  obtain ⟨a, b, rfl⟩ : ∃ a b, y = (ix2 a b : S512x1024.Idx) := ⟨y 0, y 1, eq_ix2 y⟩
  refine (y_val m c H t a b).trans ?_
  refine congr (congrArg (pY m c) (Fin.ext ?_)) (Fin.ext ?_)
  · show 512 * t.val + a.val = win0_15.index t 0 * 512 + a.val
    rw [e0]; omega
  · show b.val = win0_15.index t 1 * 1024 + b.val
    rw [e1]; omega

end Cert.Attn
-- ==== Proof.Attn.lean ====
/-
  The forward call of the attention: its results are the reference's, where the scores and the sinks are finite.
-/
module

public import proofs.«01_k».proof.Defs
public import proofs.«01_k».proof.Proof.AttnOut
public import proofs.«01_k».proof.Proof.TileRes
public import proofs.«01_k».proof.Proof.Gen.Reference6Ideal.Run
public import proofs.«01_k».proof.Proof.Gen.Pre_finite6

@[expose] public section

set_option maxRecDepth 16384

noncomputable section

namespace Cert.Attn

open Cert.Kernel6Ideal Cert.Kernel6Ideal.Gen Idealize.ShloMosaic Idealize.ShloMosaic.TcCoe Idealize.SL.Sem Cert.Rows Cert.Soft

variable (m : (ℓ : Loc nD τ sig) → Buf (Elt Ideal) ℓ) (c : Dev nD)

/-- The precondition's arguments are finite. -/
theorem fins (hp : Cert.Pre_Kernel6Ideal_finite6 m) : Fins m c := by
  obtain ⟨h0, h1, h2, h5, h6, h7⟩ := hp c
  refine ⟨fun ρ k => ?_, fun k f => ?_, fun f => ?_, fun k f => ?_, fun f => ?_, fun h => ?_⟩
  · have := congrFun h0 (ix2 ρ k); revert this; unfold Pre_finite6.fn; pointwise; exact fin_of_abs_lt
  · have := congrFun h1 (ix2 k f); revert this; unfold Pre_finite6.fn; pointwise; exact fin_of_abs_lt
  · have := congrFun h2 (ix1 f); revert this; unfold Pre_finite6.fn; pointwise; exact fin_of_abs_lt
  · have := congrFun h5 (ix2 k f); revert this; unfold Pre_finite6.fn; pointwise; exact fin_of_abs_lt
  · have := congrFun h6 (ix1 f); revert this; unfold Pre_finite6.fn; pointwise; exact fin_of_abs_lt
  · have := congrFun h7 (ix1 h); revert this; unfold Pre_finite6.fn; pointwise; exact fin_of_abs_lt

variable {m c}

theorem Fins.ok (H : Fins m c) : AttnRef.Ok (aX m c) (aWk m c) (aBk m c) (aWq m c) (aBq m c) (aSink m c) :=
  ⟨fun n i g hh j => banded_ne_top _ _ _ _ _ (Plain.fin_dotq H.k H.q _ _ _ _) (fin_coe _), H.sk⟩

variable (m c)

theorem ref_q : Cert.Reference6Ideal.Read.val_main_v110 (F := Ideal) (aX m c) (aWq m c) (aBq m c) = (dats m 0 c).arrAt 11 cfg0.N := by
  rw [arr_q]
  exact funext fun i => by
    obtain ⟨f, ρ, rfl⟩ : ∃ (f : Fin 1024) (ρ : Fin 16384), i = ix2 f ρ := ⟨i 0, i 1, eq_ix2 i⟩
    exact AttnRef.qt_at _ _ _ f ρ

theorem ref_kv : Cert.Reference6Ideal.Read.val_main_v112 (F := Ideal) (aX m c) (aWk m c) (aBk m c) (aWv m c) (aBv m c)
    = (dats m 0 c).arrAt 12 cfg0.N := by
  rw [arr_kv]
  exact funext fun i => by
    obtain ⟨ρ, f, rfl⟩ : ∃ (ρ : Fin 16384) (f : Fin 256), i = ix2 ρ f := ⟨i 0, i 1, eq_ix2 i⟩
    exact AttnRef.kv_at _ _ _ _ _ ρ f

variable (H : Fins m c)
include H

theorem ref_ot : Cert.Reference6Ideal.Read.val_main_v114 (F := Ideal) (aX m c) (aWk m c) (aBk m c) (aWv m c) (aBv m c) (aWq m c)
    (aBq m c) (aSink m c) = (dats m 0 c).arrAt 13 cfg0.N := by
  rw [arr_ot m c H]
  exact funext fun i => by
    obtain ⟨f, ρ, rfl⟩ : ∃ (f : Fin 1024) (ρ : Fin 16384), i = ix2 f ρ := ⟨i 0, i 1, eq_ix2 i⟩
    exact AttnRef.ot_at _ _ _ _ _ _ _ _ H.ok f ρ

theorem ref_z : Cert.Reference6Ideal.Read.val_main_v108 (F := Ideal) (aX m c) (aWk m c) (aBk m c) (aWv m c) (aBv m c) (aWq m c)
    (aBq m c) (aSink m c) (aWo m c) (aBo m c) = (dats m 0 c).arrAt 14 cfg0.N := by
  rw [arr_z m c H]
  exact funext fun i => by
    obtain ⟨ρ, k, rfl⟩ : ∃ (ρ : Fin 16384) (k : Fin 1024), i = ix2 ρ k := ⟨i 0, i 1, eq_ix2 i⟩
    exact AttnRef.z_at _ _ _ _ _ _ _ _ _ _ H.ok ρ k

theorem ref_y : Cert.Reference6Ideal.Read.val_main_v138 (F := Ideal) (aX m c) (aWk m c) (aBk m c) (aWv m c) (aBv m c) (aWq m c)
    (aBq m c) (aSink m c) (aWo m c) (aBo m c) (aG m c) (aB m c) = (dats m 0 c).arrAt 15 cfg0.N := by
  rw [arr_y m c H]
  exact funext fun i => by
    obtain ⟨ρ, k, rfl⟩ : ∃ (ρ : Fin 16384) (k : Fin 1024), i = ix2 ρ k := ⟨i 0, i 1, eq_ix2 i⟩
    exact AttnRef.y_at _ _ _ _ _ _ _ _ _ _ _ _ H.ok ρ k

omit H

/-! ## The claims -/

theorem preserves : Cert.preserves_Kernel6_Kernel6Ideal :=
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl⟩

theorem frame_reference : Cert.quiescent_Reference6Ideal := fun m ρ _ =>
  (θ_run _ _ _).mono (fun r h => ⟨fun c => (h c).2.2.2.2.2, sem_eq_zero_of_no_sems rfl r.2⟩) (Cert.Reference6Ideal.Value.run m ρ)

theorem algebraic : Cert.algebraic_Kernel6Ideal_Reference6Ideal_pre_finite6 := fun m ρ m' ρ' hp ha =>
  ⟨fun c => (dats m 0 c).arrAt 11 cfg0.N, fun c => (dats m 0 c).arrAt 12 cfg0.N, fun c => (dats m 0 c).arrAt 13 cfg0.N,
    fun c => (dats m 0 c).arrAt 14 cfg0.N, fun c => (dats m 0 c).arrAt 15 cfg0.N, Cert.Kernel6Ideal.Value.run_blocks m ρ,
    (θ_run _ _ _).mono (fun r h c => by
      obtain ⟨a0, a1, a2, a3, a4, a5, a6, a7, a8, a9, a10, a11⟩ := ha c
      have H := fins m c hp
      obtain ⟨h0, h1, h2, h3, h4, hk⟩ := h c
      exact ⟨(h0.trans (Cert.Reference6Ideal.Read.val_main_v110_eq _)).trans
        ((congr (congr (congrArg Cert.Reference6Ideal.Read.val_main_v110 a0) a5) a6).trans (ref_q m c)),
        (h1.trans (Cert.Reference6Ideal.Read.val_main_v112_eq _)).trans
        ((congr (congr (congr (congr (congrArg Cert.Reference6Ideal.Read.val_main_v112 a0) a1) a2) a3) a4).trans (ref_kv m c)),
        (h2.trans (Cert.Reference6Ideal.Read.val_main_v114_eq _)).trans
        ((congr (congr (congr (congr (congr (congr (congr (congrArg Cert.Reference6Ideal.Read.val_main_v114 a0) a1) a2) a3) a4) a5) a6) a7).trans (ref_ot m c H)),
        (h3.trans (Cert.Reference6Ideal.Read.val_main_v108_eq _)).trans
        ((congr (congr (congr (congr (congr (congr (congr (congr (congr (congrArg Cert.Reference6Ideal.Read.val_main_v108 a0) a1) a2) a3) a4) a5) a6) a7) a8) a9).trans (ref_z m c H)),
        (h4.trans (Cert.Reference6Ideal.Read.val_main_v138_eq _)).trans
        ((congr (congr (congr (congr (congr (congr (congr (congr (congr (congr (congr (congrArg Cert.Reference6Ideal.Read.val_main_v138 a0) a1) a2) a3) a4) a5) a6) a7) a8) a9) a10) a11).trans (ref_y m c H)), hk⟩)
      (Cert.Reference6Ideal.Value.run m' ρ')⟩

end Cert.Attn

end
-- ==== Proof.FeedRun.lean ====
/-
  The first feed-forward block: what a grid point leaves is what the last block leaves, without its loss; the blocks a
  point reads as entries of the arguments; and the arrays after the run.
-/
module

public import proofs.«01_k».proof.Proof.LossGrid
public import proofs.«01_k».proof.Proof.Gen.Kernel7Ideal.Value
public import Idealize.ShloMosaic.Lib.Pointwise
public import Idealize.ShloMosaic.Lib.ValueIdx
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Feed

open Cert.Kernel7Ideal Cert.Kernel7Ideal.Gen Cert.Kernel7Ideal.Value Idealize.ShloMosaic Idealize.ShloMosaic.TcCoe Cert.Rows
open Cert.Loss (cols rows stack canon_stack actP bmP hmP actP_at bmP_at hmP_at proj part zrow acc3 acc3_at last pay16_at rows_at col
  sum_cols root2 hz vec)

/-! ## One grid point -/

section Point

variable (x : Vec Ideal S512x1024 .f32) (wg wu : Vec Ideal S4x1x1024x704 .bf16) (wd : Vec Ideal S4x1x704x1024 .bf16)
  (g b : Vec Ideal S1x1024 .f32)

theorem act_out : (out0_6 x wg wu wd g b : S4x512x704.Idx → EReal) = stack (actP x wg) := by
  unfold out0_6 k0_pay40
  simp only [View.ld_unit_zero (S := S512x1024) hz]
  exact canon_stack (actP x wg)

theorem bm_out : (out0_7 x wg wu wd g b : S4x512x704.Idx → EReal) = stack (bmP x wg wu) := by
  unfold out0_7 k0_pay40
  simp only [View.ld_unit_zero (S := S512x1024) hz]
  exact canon_stack (bmP x wg wu)

theorem hm_out : (out0_8 x wg wu wd g b : S4x512x704.Idx → EReal) = stack (hmP x wg wu) := by
  unfold out0_8 k0_pay42 k0_pay40
  simp only [View.ld_unit_zero (S := S512x1024) hz]
  exact canon_stack (hmP x wg wu)

/-- The rows before they are normalized, and after. -/
def zB : Vec Ideal S512x1024 .f32 := k0_pay38 x (acc3 x wg wu wd) (last x wg wu : S512x704.Idx → EReal) (rows wd 3)
def yB : Vec Ideal S512x1024 .f32 := k0_pay39 x (acc3 x wg wu wd) (last x wg wu : S512x704.Idx → EReal) (rows wd 3) g b

theorem z_out : (out0_9 x wg wu wd g b : S512x1024.Idx → EReal) = zB x wg wu wd := by
  unfold out0_9
  rw [View.canon_unit_zero hz]
  simp only [k0_pay42, k0_pay41, k0_pay40, View.ld_unit_zero (S := S512x1024) hz]
  rfl

theorem y_out : (out0_10 x wg wu wd g b : S512x1024.Idx → EReal) = yB x wg wu wd g b := by
  unfold out0_10
  rw [View.canon_unit_zero hz]
  simp only [k0_pay42, k0_pay41, k0_pay40, View.ld_unit_zero (S := S512x1024) hz, View.ld_unit_zero (S := S1x1024) hz]
  rfl

theorem zB_at (r : Fin 512) (k : Fin 1024) : zB x wg wu wd (ix2 r k) = zrow x wg wu wd r k := by
  have h : ∀ f, last x wg wu (ix2 r f) = silu (proj x wg 3 r f) * proj x wu 3 r f := fun f => pay16_at x wg wu 3 r f
  unfold zB k0_pay38
  pointwise
  unfold zrow
  rw [acc3_at, Fin.sum_univ_four]
  simp only [h, rows_at]; rfl

theorem yB_at (r : Fin 512) (k : Fin 1024) :
    yB x wg wu wd g b (ix2 r k) = hat (zrow x wg wu wd r) k * g (ix2 0 k) + b (ix2 0 k) := by
  have h : ∀ k, k0_pay38 x (acc3 x wg wu wd) (last x wg wu : S512x704.Idx → EReal) (rows wd 3) (ix2 r k) = zrow x wg wu wd r k :=
    fun k => zB_at x wg wu wd r k
  unfold yB k0_pay39
  pointwise
  simp only [h, ofBits_1024, ofBits_eps]; rfl

end Point

/-! ## The blocks as entries of the arguments -/

variable (m : (ℓ : Loc nD τ sig) → Buf (Elt Ideal) ℓ) (c : Dev nD)

abbrev arr0 : S16384x1024.Idx → EReal := m ((c : Thread nD τ).loc main_arg0)
abbrev arr1 : S2x1024x2816.Idx → EReal := m ((c : Thread nD τ).loc main_arg1)
abbrev arr2 : S2x1024x2816.Idx → EReal := m ((c : Thread nD τ).loc main_arg2)
abbrev arr3 : S2x2816x1024.Idx → EReal := m ((c : Thread nD τ).loc main_arg3)
abbrev arr4 : S1024.Idx → EReal := m ((c : Thread nD τ).loc main_arg4)
abbrev arr5 : S1024.Idx → EReal := m ((c : Thread nD τ).loc main_arg5)

theorem wg_host (j : Fin 4) (d : Fin 2) (k : Fin 1024) (f : Fin 704) :
    (V m c main_v2 : S4x2x1024x704.Idx → EReal) (ix4 j d k f) = arr1 m c (ix3 d k (col j f)) := by
  unfold V; after_reads_at
  refine congrArg (arr1 m c) ?_
  unfold col
  idx_ext

theorem wu_host (j : Fin 4) (d : Fin 2) (k : Fin 1024) (f : Fin 704) :
    (V m c main_v5 : S4x2x1024x704.Idx → EReal) (ix4 j d k f) = arr2 m c (ix3 d k (col j f)) := by
  unfold V; after_reads_at
  refine congrArg (arr2 m c) ?_
  unfold col
  idx_ext

theorem wd_host (j : Fin 4) (d : Fin 2) (f : Fin 704) (k : Fin 1024) :
    (V m c main_v8 : S4x2x704x1024.Idx → EReal) (ix4 j d f k) = arr3 m c (ix3 d (col j f) k) := by
  unfold V; after_reads_at
  refine congrArg (arr3 m c) ?_
  unfold col
  idx_ext

theorem g_host (k : Fin 1024) : (V m c main_v9 : S1x1024.Idx → EReal) (ix2 0 k) = arr4 m c (ix1 k) := by
  unfold V; after_reads_at

theorem b_host (k : Fin 1024) : (V m c main_v10 : S1x1024.Idx → EReal) (ix2 0 k) = arr5 m c (ix1 k) := by
  unfold V; after_reads_at

theorem idx_x (t : Fin cfg0.N) : win0_0.index t 0 = t.val ∧ win0_0.index t 1 = 0 := by
  revert t; decide +kernel

theorem idx_vecs (t : Fin cfg0.N) : (win0_4.index t 0 = 0 ∧ win0_4.index t 1 = 0) ∧ win0_5.index t 0 = 0 ∧ win0_5.index t 1 = 0 := by
  revert t; decide +kernel

theorem idx_chunks (t : Fin cfg0.N) : (win0_1.index t 0 = 0 ∧ win0_1.index t 1 = 0 ∧ win0_1.index t 2 = 0 ∧ win0_1.index t 3 = 0)
    ∧ (win0_2.index t 0 = 0 ∧ win0_2.index t 1 = 0 ∧ win0_2.index t 2 = 0 ∧ win0_2.index t 3 = 0)
    ∧ win0_3.index t 0 = 0 ∧ win0_3.index t 1 = 0 ∧ win0_3.index t 2 = 0 ∧ win0_3.index t 3 = 0 := by
  revert t; decide +kernel

/-- A row's gate and up products, the row that is normalized, and the normalized row. -/
def gate (ρ : Fin 16384) (e : Fin 2816) : EReal := ∑ k : Fin 1024, arr0 m c (ix2 ρ k) * arr1 m c (ix3 0 k e)
def up (ρ : Fin 16384) (e : Fin 2816) : EReal := ∑ k : Fin 1024, arr0 m c (ix2 ρ k) * arr2 m c (ix3 0 k e)
def act (ρ : Fin 16384) (e : Fin 2816) : EReal := silu (gate m c ρ e)
def bm (ρ : Fin 16384) (e : Fin 2816) : EReal := up m c ρ e * dsilu (gate m c ρ e)
def hm (ρ : Fin 16384) (e : Fin 2816) : EReal := silu (gate m c ρ e) * up m c ρ e
def z (ρ : Fin 16384) (k : Fin 1024) : EReal :=
  root2 * arr0 m c (ix2 ρ k) + ∑ e : Fin 2816, silu (gate m c ρ e) * up m c ρ e * arr3 m c (ix3 0 e k)
def y (ρ : Fin 16384) (k : Fin 1024) : EReal := hat (z m c ρ) k * arr4 m c (ix1 k) + arr5 m c (ix1 k)

section Blocks

variable (t : Fin cfg0.N)

theorem wg_blk (j : Fin 4) (k : Fin 1024) (f : Fin 704) :
    (iblk m c 1 t : Vec Ideal S4x1x1024x704 .bf16) (ix4 j 0 k f) = arr1 m c (ix3 0 k (col j f)) := by
  have := idx_chunks t
  refine Eq.trans ?_ (wg_host m c j 0 k f)
  blk_ext [iblk, this]

theorem wu_blk (j : Fin 4) (k : Fin 1024) (f : Fin 704) :
    (iblk m c 2 t : Vec Ideal S4x1x1024x704 .bf16) (ix4 j 0 k f) = arr2 m c (ix3 0 k (col j f)) := by
  have := idx_chunks t
  refine Eq.trans ?_ (wu_host m c j 0 k f)
  blk_ext [iblk, this]

theorem wd_blk (j : Fin 4) (f : Fin 704) (k : Fin 1024) :
    (iblk m c 3 t : Vec Ideal S4x1x704x1024 .bf16) (ix4 j 0 f k) = arr3 m c (ix3 0 (col j f) k) := by
  have := idx_chunks t
  refine Eq.trans ?_ (wd_host m c j 0 f k)
  blk_ext [iblk, this]

theorem g_blk (k : Fin 1024) : (iblk m c 4 t : Vec Ideal S1x1024 .f32) (ix2 0 k) = arr4 m c (ix1 k) := by
  have := idx_vecs t
  refine Eq.trans ?_ (g_host m c k)
  blk_ext [iblk, this]

theorem b_blk (k : Fin 1024) : (iblk m c 5 t : Vec Ideal S1x1024 .f32) (ix2 0 k) = arr5 m c (ix1 k) := by
  have := idx_vecs t
  refine Eq.trans ?_ (b_host m c k)
  blk_ext [iblk, this]

variable (r : Fin 512) (h : t.val * 512 + r < 16384)

theorem x_blk (k : Fin 1024) : (iblk m c 0 t : Vec Ideal S512x1024 .f32) (ix2 r k) = arr0 m c (ix2 ⟨t.val * 512 + r, h⟩ k) := by
  have := idx_x t
  blk_ext [iblk, V, this]

theorem gate_row (j : Fin 4) (f : Fin 704) :
    proj (iblk m c 0 t) (iblk m c 1 t) j r f = gate m c ⟨t.val * 512 + r, h⟩ (col j f) :=
  Finset.sum_congr rfl fun k _ => congrArg₂ (· * ·) (x_blk m c t r h k) (wg_blk m c t j k f)

theorem up_row (j : Fin 4) (f : Fin 704) :
    proj (iblk m c 0 t) (iblk m c 2 t) j r f = up m c ⟨t.val * 512 + r, h⟩ (col j f) :=
  Finset.sum_congr rfl fun k _ => congrArg₂ (· * ·) (x_blk m c t r h k) (wu_blk m c t j k f)

theorem zrow_row : zrow (iblk m c 0 t) (iblk m c 1 t) (iblk m c 2 t) (iblk m c 3 t) r = z m c ⟨t.val * 512 + r, h⟩ := funext fun k => by
  unfold z
  rw [sum_cols]
  refine congrArg₂ (· + ·) (congrArg (root2 * ·) (x_blk m c t r h k)) (Finset.sum_congr rfl fun j _ => Finset.sum_congr rfl fun f _ => ?_)
  exact congrArg₂ (· * ·) (congrArg₂ (fun p q => silu p * q) (gate_row m c t r h j f) (up_row m c t r h j f)) (wd_blk m c t j f k)

theorem act_row (j : Fin 4) (f : Fin 704) : (out0_6 (iblk m c 0 t) (iblk m c 1 t) (iblk m c 2 t) (iblk m c 3 t) (iblk m c 4 t)
    (iblk m c 5 t) : S4x512x704.Idx → EReal) (ix3 j r f) = act m c ⟨t.val * 512 + r, h⟩ (col j f) := by
  rw [act_out]
  exact (actP_at _ _ j r f).trans (congrArg silu (gate_row m c t r h j f))

theorem bm_row (j : Fin 4) (f : Fin 704) : (out0_7 (iblk m c 0 t) (iblk m c 1 t) (iblk m c 2 t) (iblk m c 3 t) (iblk m c 4 t)
    (iblk m c 5 t) : S4x512x704.Idx → EReal) (ix3 j r f) = bm m c ⟨t.val * 512 + r, h⟩ (col j f) := by
  rw [bm_out]
  exact (bmP_at _ _ _ j r f).trans (congrArg₂ (fun p q => q * dsilu p) (gate_row m c t r h j f) (up_row m c t r h j f))

theorem hm_row (j : Fin 4) (f : Fin 704) : (out0_8 (iblk m c 0 t) (iblk m c 1 t) (iblk m c 2 t) (iblk m c 3 t) (iblk m c 4 t)
    (iblk m c 5 t) : S4x512x704.Idx → EReal) (ix3 j r f) = hm m c ⟨t.val * 512 + r, h⟩ (col j f) := by
  rw [hm_out]
  exact (hmP_at _ _ _ j r f).trans (congrArg₂ (fun p q => silu p * q) (gate_row m c t r h j f) (up_row m c t r h j f))

theorem z_row (k : Fin 1024) : (out0_9 (iblk m c 0 t) (iblk m c 1 t) (iblk m c 2 t) (iblk m c 3 t) (iblk m c 4 t)
    (iblk m c 5 t) : S512x1024.Idx → EReal) (ix2 r k) = z m c ⟨t.val * 512 + r, h⟩ k := by
  rw [z_out]
  exact (zB_at _ _ _ _ r k).trans (congrFun (zrow_row m c t r h) k)

theorem y_row (k : Fin 1024) : (out0_10 (iblk m c 0 t) (iblk m c 1 t) (iblk m c 2 t) (iblk m c 3 t) (iblk m c 4 t)
    (iblk m c 5 t) : S512x1024.Idx → EReal) (ix2 r k) = y m c ⟨t.val * 512 + r, h⟩ k := by
  rw [y_out]
  refine (yB_at _ _ _ _ _ _ r k).trans ?_
  rw [zrow_row m c t r h]
  exact congrArg₂ (fun p q => hat (z m c _) k * p + q) (g_blk m c t k) (b_blk m c t k)

end Blocks

/-! ## The arrays after the run -/

theorem entry_eq (h : Fin 16384 → Fin 2816 → EReal) {ρ ρ' : Fin 16384} {j j' : Fin 4} {f f' : Fin 704}
    (hj : j.val = j'.val) (hρ : ρ.val = ρ'.val) (hf : f.val = f'.val) : h ρ (col j f) = h ρ' (col j' f') := by
  rw [Fin.ext hj, Fin.ext hρ, Fin.ext hf]

def G6 : S4x16384x704.Idx → EReal := fun i => act m c ⟨(i 1).val, (i 1).isLt⟩ (col ⟨(i 0).val, (i 0).isLt⟩ ⟨(i 2).val, (i 2).isLt⟩)
def G7 : S4x16384x704.Idx → EReal := fun i => bm m c ⟨(i 1).val, (i 1).isLt⟩ (col ⟨(i 0).val, (i 0).isLt⟩ ⟨(i 2).val, (i 2).isLt⟩)
def G8 : S4x16384x704.Idx → EReal := fun i => hm m c ⟨(i 1).val, (i 1).isLt⟩ (col ⟨(i 0).val, (i 0).isLt⟩ ⟨(i 2).val, (i 2).isLt⟩)
def G9 : S16384x1024.Idx → EReal := fun i => z m c ⟨(i 0).val, (i 0).isLt⟩ ⟨(i 1).val, (i 1).isLt⟩
def G10 : S16384x1024.Idx → EReal := fun i => y m c ⟨(i 0).val, (i 0).isLt⟩ ⟨(i 1).val, (i 1).isLt⟩

theorem idx_out (t : Fin cfg0.N) : (win0_6.index t 0 = 0 ∧ win0_6.index t 1 = t.val ∧ win0_6.index t 2 = 0)
    ∧ (win0_7.index t 0 = 0 ∧ win0_7.index t 1 = t.val ∧ win0_7.index t 2 = 0)
    ∧ (win0_8.index t 0 = 0 ∧ win0_8.index t 1 = t.val ∧ win0_8.index t 2 = 0)
    ∧ (win0_9.index t 0 = t.val ∧ win0_9.index t 1 = 0) ∧ win0_10.index t 0 = t.val ∧ win0_10.index t 1 = 0 := by
  revert t; decide +kernel

theorem final6 : (dats m 0 c).arrAt 6 cfg0.N = G6 m c := by
  refine (dats m 0 c).arrAt_eq_of_covers 6 _ (by decide +kernel) fun t hf y => ?_
  show (dats m 0 c).after 6 t ((cfg0.win 6).xinj (grid0.coords t) y) = _
  have hN : t.val < 32 := lt_of_lt_of_eq t.isLt N_0
  obtain ⟨⟨e0, e1, e2⟩, -⟩ := idx_out t
  have hy0 : (y 0).val < 4 := (y 0).isLt
  have hy1 : (y 1).val < 512 := (y 1).isLt
  have hy2 : (y 2).val < 704 := (y 2).isLt
  have hb0 : (((cfg0.win 6).blk t).view.emb y 0).val = win0_6.index t 0 * 4 + 1 * (y 0).val := rfl
  have hb1 : (((cfg0.win 6).blk t).view.emb y 1).val = win0_6.index t 1 * 512 + 1 * (y 1).val := rfl
  have hb2 : (((cfg0.win 6).blk t).view.emb y 2).val = win0_6.index t 2 * 704 + 1 * (y 2).val := rfl
  have hy : (cfg0.win 6).xinj (grid0.coords t) y = ix3 ⟨(y 0).val, hy0⟩ ⟨(y 1).val, hy1⟩ ⟨(y 2).val, hy2⟩ := by idx_ext
  refine (congrArg ((dats m 0 c).after 6 t) hy).trans ?_
  refine (congrFun (after0_6 m c t) (ix3 ⟨(y 0).val, hy0⟩ ⟨(y 1).val, hy1⟩ ⟨(y 2).val, hy2⟩)).trans
    ((act_row m c t ⟨(y 1).val, hy1⟩ (by dsimp only; omega) ⟨(y 0).val, hy0⟩ ⟨(y 2).val, hy2⟩).trans ?_)
  exact entry_eq (act m c) (by rw [hb0, e0]; dsimp only; omega) (by rw [hb1, e1]; dsimp only; omega) (by rw [hb2, e2]; dsimp only; omega)

theorem final7 : (dats m 0 c).arrAt 7 cfg0.N = G7 m c := by
  refine (dats m 0 c).arrAt_eq_of_covers 7 _ (by decide +kernel) fun t hf y => ?_
  show (dats m 0 c).after 7 t ((cfg0.win 7).xinj (grid0.coords t) y) = _
  have hN : t.val < 32 := lt_of_lt_of_eq t.isLt N_0
  obtain ⟨-, ⟨e0, e1, e2⟩, -⟩ := idx_out t
  have hy0 : (y 0).val < 4 := (y 0).isLt
  have hy1 : (y 1).val < 512 := (y 1).isLt
  have hy2 : (y 2).val < 704 := (y 2).isLt
  have hb0 : (((cfg0.win 7).blk t).view.emb y 0).val = win0_7.index t 0 * 4 + 1 * (y 0).val := rfl
  have hb1 : (((cfg0.win 7).blk t).view.emb y 1).val = win0_7.index t 1 * 512 + 1 * (y 1).val := rfl
  have hb2 : (((cfg0.win 7).blk t).view.emb y 2).val = win0_7.index t 2 * 704 + 1 * (y 2).val := rfl
  have hy : (cfg0.win 7).xinj (grid0.coords t) y = ix3 ⟨(y 0).val, hy0⟩ ⟨(y 1).val, hy1⟩ ⟨(y 2).val, hy2⟩ := by idx_ext
  refine (congrArg ((dats m 0 c).after 7 t) hy).trans ?_
  refine (congrFun (after0_7 m c t) (ix3 ⟨(y 0).val, hy0⟩ ⟨(y 1).val, hy1⟩ ⟨(y 2).val, hy2⟩)).trans
    ((bm_row m c t ⟨(y 1).val, hy1⟩ (by dsimp only; omega) ⟨(y 0).val, hy0⟩ ⟨(y 2).val, hy2⟩).trans ?_)
  exact entry_eq (bm m c) (by rw [hb0, e0]; dsimp only; omega) (by rw [hb1, e1]; dsimp only; omega) (by rw [hb2, e2]; dsimp only; omega)

theorem final8 : (dats m 0 c).arrAt 8 cfg0.N = G8 m c := by
  refine (dats m 0 c).arrAt_eq_of_covers 8 _ (by decide +kernel) fun t hf y => ?_
  show (dats m 0 c).after 8 t ((cfg0.win 8).xinj (grid0.coords t) y) = _
  have hN : t.val < 32 := lt_of_lt_of_eq t.isLt N_0
  obtain ⟨-, -, ⟨e0, e1, e2⟩, -⟩ := idx_out t
  have hy0 : (y 0).val < 4 := (y 0).isLt
  have hy1 : (y 1).val < 512 := (y 1).isLt
  have hy2 : (y 2).val < 704 := (y 2).isLt
  have hb0 : (((cfg0.win 8).blk t).view.emb y 0).val = win0_8.index t 0 * 4 + 1 * (y 0).val := rfl
  have hb1 : (((cfg0.win 8).blk t).view.emb y 1).val = win0_8.index t 1 * 512 + 1 * (y 1).val := rfl
  have hb2 : (((cfg0.win 8).blk t).view.emb y 2).val = win0_8.index t 2 * 704 + 1 * (y 2).val := rfl
  have hy : (cfg0.win 8).xinj (grid0.coords t) y = ix3 ⟨(y 0).val, hy0⟩ ⟨(y 1).val, hy1⟩ ⟨(y 2).val, hy2⟩ := by idx_ext
  refine (congrArg ((dats m 0 c).after 8 t) hy).trans ?_
  refine (congrFun (after0_8 m c t) (ix3 ⟨(y 0).val, hy0⟩ ⟨(y 1).val, hy1⟩ ⟨(y 2).val, hy2⟩)).trans
    ((hm_row m c t ⟨(y 1).val, hy1⟩ (by dsimp only; omega) ⟨(y 0).val, hy0⟩ ⟨(y 2).val, hy2⟩).trans ?_)
  exact entry_eq (hm m c) (by rw [hb0, e0]; dsimp only; omega) (by rw [hb1, e1]; dsimp only; omega) (by rw [hb2, e2]; dsimp only; omega)

theorem final9 : (dats m 0 c).arrAt 9 cfg0.N = G9 m c := by
  refine (dats m 0 c).arrAt_eq_of_covers 9 _ (by decide +kernel) fun t hf y => ?_
  show (dats m 0 c).after 9 t ((cfg0.win 9).xinj (grid0.coords t) y) = _
  have hN : t.val < 32 := lt_of_lt_of_eq t.isLt N_0
  obtain ⟨-, -, -, ⟨e0, e1⟩, -⟩ := idx_out t
  have hy0 : (y 0).val < 512 := (y 0).isLt
  have hy1 : (y 1).val < 1024 := (y 1).isLt
  have hb0 : (((cfg0.win 9).blk t).view.emb y 0).val = win0_9.index t 0 * 512 + 1 * (y 0).val := rfl
  have hb1 : (((cfg0.win 9).blk t).view.emb y 1).val = win0_9.index t 1 * 1024 + 1 * (y 1).val := rfl
  have hy : (cfg0.win 9).xinj (grid0.coords t) y = ix2 ⟨(y 0).val, hy0⟩ ⟨(y 1).val, hy1⟩ := by idx_ext
  refine (congrArg ((dats m 0 c).after 9 t) hy).trans ?_
  refine (congrFun (after0_9 m c t) (ix2 ⟨(y 0).val, hy0⟩ ⟨(y 1).val, hy1⟩)).trans
    ((z_row m c t ⟨(y 0).val, hy0⟩ (by dsimp only; omega) ⟨(y 1).val, hy1⟩).trans ?_)
  exact congrArg₂ (Cert.Feed.z m c) (Fin.ext (by rw [hb0, e0]; dsimp only; omega)) (Fin.ext (by rw [hb1, e1]; dsimp only; omega))

theorem final10 : (dats m 0 c).arrAt 10 cfg0.N = G10 m c := by
  refine (dats m 0 c).arrAt_eq_of_covers 10 _ (by decide +kernel) fun t hf y => ?_
  show (dats m 0 c).after 10 t ((cfg0.win 10).xinj (grid0.coords t) y) = _
  have hN : t.val < 32 := lt_of_lt_of_eq t.isLt N_0
  obtain ⟨-, -, -, -, e0, e1⟩ := idx_out t
  have hy0 : (y 0).val < 512 := (y 0).isLt
  have hy1 : (y 1).val < 1024 := (y 1).isLt
  have hb0 : (((cfg0.win 10).blk t).view.emb y 0).val = win0_10.index t 0 * 512 + 1 * (y 0).val := rfl
  have hb1 : (((cfg0.win 10).blk t).view.emb y 1).val = win0_10.index t 1 * 1024 + 1 * (y 1).val := rfl
  have hy : (cfg0.win 10).xinj (grid0.coords t) y = ix2 ⟨(y 0).val, hy0⟩ ⟨(y 1).val, hy1⟩ := by idx_ext
  refine (congrArg ((dats m 0 c).after 10 t) hy).trans ?_
  refine (congrFun (after0_10 m c t) (ix2 ⟨(y 0).val, hy0⟩ ⟨(y 1).val, hy1⟩)).trans
    ((y_row m c t ⟨(y 0).val, hy0⟩ (by dsimp only; omega) ⟨(y 1).val, hy1⟩).trans ?_)
  exact congrArg₂ (Cert.Feed.y m c) (Fin.ext (by rw [hb0, e0]; dsimp only; omega)) (Fin.ext (by rw [hb1, e1]; dsimp only; omega))

end Cert.Feed

end
-- ==== Proof.Feed.lean ====
/-
  The first feed-forward block, forward: the reference's results entry by entry, and the claims.
-/
module

public import proofs.«01_k».proof.Defs
public import proofs.«01_k».proof.Proof.FeedRun
public import proofs.«01_k».proof.Proof.Gen.Pre_finite7
public import proofs.«01_k».proof.Proof.Gen.Reference7Ideal.Run
public import proofs.«01_k».proof.Proof.Gen.Reference7Ideal.Read
public import Idealize.ShloMosaic.Lib.Pointwise
public import Idealize.ShloMosaic.Lib.ValueIdx
public import Idealize.ShloMosaic.Adequacy

@[expose] public section

set_option maxRecDepth 16384

noncomputable section

namespace Cert.Feed

open Idealize.ShloMosaic Idealize.ShloMosaic.TcCoe Idealize.SL.Sem Cert.Rows

namespace Ref

open Cert.Reference7Ideal Cert.Reference7Ideal.Read

variable (x0 : S16384x1024.Idx → EReal) (x1 x2 : S2x1024x2816.Idx → EReal) (x3 : S2x2816x1024.Idx → EReal) (x4 x5 : S1024.Idx → EReal)

def gate (ρ : Fin 16384) (e : Fin 2816) : EReal := ∑ k : Fin 1024, x0 (ix2 ρ k) * x1 (ix3 0 k e)

def z (ρ : Fin 16384) (k : Fin 1024) : EReal :=
  Ideal.ofBits .f32 0x3FB504F3#32 * x0 (ix2 ρ k) + ∑ e : Fin 2816, silu (gate x0 x1 ρ e) * gate x0 x2 ρ e * x3 (ix3 0 e k)

theorem v2_at (ρ : Fin 16384) (e : Fin 2816) : val_main_v2 (F := Ideal) x0 x1 (ix2 ρ e) = gate x0 x1 ρ e := by
  unfold val_main_v2 val_main_v1 val_main_v0
  pointwise
  unfold gate
  refine Finset.sum_congr rfl fun k _ => congrArg (x0 (ix2 ρ k) * ·) (congrArg x1 ?_)
  idx_ext

theorem v5_at (ρ : Fin 16384) (e : Fin 2816) : val_main_v5 (F := Ideal) x0 x2 (ix2 ρ e) = gate x0 x2 ρ e := v2_at x0 x2 ρ e

theorem logistic_at (ρ : Fin 16384) (e : Fin 2816) :
    val_main_v6_2 (F := Ideal) x0 x1 (ix2 ρ e) = Ideal.logistic (gate x0 x1 ρ e) := by
  unfold val_main_v6_2 val_main_call0_v4 val_main_call0_v3 val_main_call0_v2 val_main_call0_v1 val_main_call0_v0
    val_main_call0_cst val_main_call0_cst_0
  pointwise
  rw [v2_at]; rfl

theorem v6_at (ρ : Fin 16384) (e : Fin 2816) : val_main_v6_0 (F := Ideal) x0 x1 (ix2 ρ e) = silu (gate x0 x1 ρ e) := by
  unfold val_main_v6_0
  pointwise
  rw [v2_at, logistic_at]; rfl

theorem v17_at (ρ : Fin 16384) (e : Fin 2816) : val_main_v17 (F := Ideal) x0 x1 x2 (ix2 ρ e)
    = gate x0 x2 ρ e * Ideal.logistic (gate x0 x1 ρ e)
      + gate x0 x1 ρ e * gate x0 x2 ρ e * (Ideal.logistic (gate x0 x1 ρ e) * (1 - Ideal.logistic (gate x0 x1 ρ e))) := by
  unfold val_main_v17 val_main_call1_v2 val_main_call1_v1 val_main_call1_v0 val_main_v6_1 val_main_call0_v7 val_main_call0_v6
    val_main_call0_cst_1
  pointwise
  rw [v2_at, v5_at, logistic_at]

theorem act_at (j : Fin 4) (ρ : Fin 16384) (f : Fin 704) (e : Fin 2816) (he : e.val = 704 * j.val + f.val) :
    val_main_v16 (F := Ideal) x0 x1 (ix3 j ρ f) = silu (gate x0 x1 ρ e) := by
  rw [← v6_at]
  unfold val_main_v16 val_main_v15 val_main_v14
  pointwise
  refine congrArg _ ?_
  idx_ext

theorem bm_at (j : Fin 4) (ρ : Fin 16384) (f : Fin 704) (e : Fin 2816) (he : e.val = 704 * j.val + f.val) :
    val_main_v20 (F := Ideal) x0 x1 x2 (ix3 j ρ f) = gate x0 x2 ρ e * Ideal.logistic (gate x0 x1 ρ e)
      + gate x0 x1 ρ e * gate x0 x2 ρ e * (Ideal.logistic (gate x0 x1 ρ e) * (1 - Ideal.logistic (gate x0 x1 ρ e))) := by
  rw [← v17_at]
  unfold val_main_v20 val_main_v19 val_main_v18
  pointwise
  refine congrArg _ ?_
  idx_ext

theorem hm_at (j : Fin 4) (ρ : Fin 16384) (f : Fin 704) (e : Fin 2816) (he : e.val = 704 * j.val + f.val) :
    val_main_v24 (F := Ideal) x0 x1 x2 (ix3 j ρ f) = silu (gate x0 x1 ρ e) * gate x0 x2 ρ e := by
  rw [← v6_at, ← v5_at]
  unfold val_main_v24 val_main_v23 val_main_v22 val_main_v21
  pointwise
  refine congr (congrArg _ (congrArg _ ?_)) (congrArg _ ?_)
  all_goals idx_ext

theorem z_at (ρ : Fin 16384) (k : Fin 1024) : val_main_v13 (F := Ideal) x0 x1 x2 x3 (ix2 ρ k) = z x0 x1 x2 x3 ρ k := by
  unfold val_main_v13 val_main_v12 val_main_v11 val_main_v10 val_main_v9 val_main_v8 val_main_v7 val_main_cst
  pointwise
  unfold z
  refine congrArg (_ + ·) (Finset.sum_congr rfl fun e _ => ?_)
  rw [v6_at, v5_at]
  try exact congrArg (_ * ·) (congrArg x3 (by idx_ext))

theorem v30_at (ρ : Fin 16384) (k : Fin 1024) : val_main_v30 (F := Ideal) x0 x1 x2 x3 (ix2 ρ k) = cen (z x0 x1 x2 x3 ρ) k := by
  unfold val_main_v30 val_main_v29 val_main_v28 val_main_v27 val_main_v26 val_main_v25 val_main_cst_1 val_main_cst_0
  pointwise
  simp only [z_at, ofBits_1024]; rfl

theorem v37_at (ρ : Fin 16384) (k : Fin 1024) : val_main_v37 (F := Ideal) x0 x1 x2 x3 (ix2 ρ k) = cen (z x0 x1 x2 x3 ρ) k :=
  v30_at x0 x1 x2 x3 ρ k

theorem v40_at (ρ : Fin 16384) : val_main_v40 (F := Ideal) x0 x1 x2 x3 (ix2 ρ 0) = rstd (z x0 x1 x2 x3 ρ) := by
  unfold val_main_v40 val_main_v39 val_main_v38 val_main_v35 val_main_v34 val_main_v33 val_main_v32 val_main_v31 val_main_cst_2
    val_main_cst_3 val_main_cst_4
  pointwise
  simp only [v30_at, ofBits_1024, ofBits_eps]; rfl

theorem y_at (ρ : Fin 16384) (k : Fin 1024) : val_main_v48 (F := Ideal) x0 x1 x2 x3 x4 x5 (ix2 ρ k)
    = hat (z x0 x1 x2 x3 ρ) k * x4 (ix1 k) + x5 (ix1 k) := by
  unfold val_main_v48 val_main_v47 val_main_v46 val_main_v45 val_main_v44 val_main_v43 val_main_v42 val_main_v41
  pointwise
  rw [v37_at, v40_at]; rfl

end Ref

/-! ## The results agree -/

section Agree

open Cert.Kernel7Ideal (nD τ sig)
open Cert.Reference7Ideal.Read
open Cert.Loss (col)

variable (m : (ℓ : Loc nD τ sig) → Buf (Elt Ideal) ℓ) (c : Dev nD)

theorem act_eq : val_main_v16 (F := Ideal) (arr0 m c) (arr1 m c) = G6 m c := funext fun i => by
  obtain ⟨j, ρ, f, rfl⟩ : ∃ (j : Fin 4) (ρ : Fin 16384) (f : Fin 704), i = ix3 j ρ f := ⟨i 0, i 1, i 2, eq_ix3 i⟩
  exact Ref.act_at (arr0 m c) (arr1 m c) j ρ f (col j f) rfl

theorem hm_eq : val_main_v24 (F := Ideal) (arr0 m c) (arr1 m c) (arr2 m c) = G8 m c := funext fun i => by
  obtain ⟨j, ρ, f, rfl⟩ : ∃ (j : Fin 4) (ρ : Fin 16384) (f : Fin 704), i = ix3 j ρ f := ⟨i 0, i 1, i 2, eq_ix3 i⟩
  exact Ref.hm_at (arr0 m c) (arr1 m c) (arr2 m c) j ρ f (col j f) rfl

theorem bm_eq (hu : ∀ ρ e, Fin' (up m c ρ e)) : val_main_v20 (F := Ideal) (arr0 m c) (arr1 m c) (arr2 m c) = G7 m c := funext fun i => by
  obtain ⟨j, ρ, f, rfl⟩ : ∃ (j : Fin 4) (ρ : Fin 16384) (f : Fin 704), i = ix3 j ρ f := ⟨i 0, i 1, i 2, eq_ix3 i⟩
  exact (Ref.bm_at (arr0 m c) (arr1 m c) (arr2 m c) j ρ f (col j f) rfl).trans (silu_vjp _ _ (hu ρ (col j f)))

theorem z_eq : val_main_v13 (F := Ideal) (arr0 m c) (arr1 m c) (arr2 m c) (arr3 m c) = G9 m c := funext fun i => by
  obtain ⟨ρ, k, rfl⟩ : ∃ (ρ : Fin 16384) (k : Fin 1024), i = ix2 ρ k := ⟨i 0, i 1, eq_ix2 i⟩
  exact Ref.z_at (arr0 m c) (arr1 m c) (arr2 m c) (arr3 m c) ρ k

theorem y_eq : val_main_v48 (F := Ideal) (arr0 m c) (arr1 m c) (arr2 m c) (arr3 m c) (arr4 m c) (arr5 m c) = G10 m c := funext fun i => by
  obtain ⟨ρ, k, rfl⟩ : ∃ (ρ : Fin 16384) (k : Fin 1024), i = ix2 ρ k := ⟨i 0, i 1, eq_ix2 i⟩
  exact Ref.y_at (arr0 m c) (arr1 m c) (arr2 m c) (arr3 m c) (arr4 m c) (arr5 m c) ρ k

end Agree

section Finite

variable {x0 : Kernel7Ideal.S16384x1024.Idx → EReal} {x1 x2 : Kernel7Ideal.S2x1024x2816.Idx → EReal}
  {x3 : Kernel7Ideal.S2x2816x1024.Idx → EReal} {x4 x5 : Kernel7Ideal.S1024.Idx → EReal}

theorem fin_arg0 (h : (Pre_finite7.fn (F := Ideal) x0 x1 x2 x3 x4 x5).1 = fun _ => 1#1) (ρ : Fin 16384) (k : Fin 1024) :
    Fin' (x0 (ix2 ρ k)) := by
  have := congrFun h (ix2 ρ k)
  revert this
  unfold Pre_finite7.fn
  pointwise
  exact fin_of_abs_lt

theorem fin_arg2 (h : (Pre_finite7.fn (F := Ideal) x0 x1 x2 x3 x4 x5).2 = fun _ => 1#1) (k : Fin 1024) (e : Fin 2816) :
    Fin' (x2 (ix3 0 k e)) := by
  have := congrFun h (ix3 0 k e)
  revert this
  unfold Pre_finite7.fn
  pointwise
  exact fin_of_abs_lt

end Finite

/-! ## The claims -/

theorem frame_reference : Cert.quiescent_Reference7Ideal := fun m ρ _ =>
  (θ_run _ _ _).mono (fun r h => ⟨fun c => (h c).2.2.2.2.2, sem_eq_zero_of_no_sems rfl r.2⟩) (Cert.Reference7Ideal.Value.run m ρ)

theorem algebraic : Cert.algebraic_Kernel7Ideal_Reference7Ideal_pre_finite7 := fun m ρ m' ρ' hp ha =>
  ⟨fun c => G6 m c, fun c => G7 m c, fun c => G8 m c, fun c => G9 m c, fun c => G10 m c,
    (θ_run _ _ _).mono (fun r h c => by
      obtain ⟨h0, h1, h2, h3, h4, hk⟩ := h c
      exact ⟨h0.trans (final6 m c), h1.trans (final7 m c), h2.trans (final8 m c), h3.trans (final9 m c), h4.trans (final10 m c), hk⟩)
      (Cert.Kernel7Ideal.Value.run_blocks m ρ),
    (θ_run _ _ _).mono (fun r h c => by
      obtain ⟨a0, a1, a2, a3, a4, a5⟩ := ha c
      obtain ⟨p0, p2⟩ := hp c
      have hu : ∀ ρ e, Fin' (up m c ρ e) := fun ρ e => fin_sum _ fun k _ => (fin_arg0 p0 ρ k).mul (fin_arg2 p2 k e)
      obtain ⟨h0, h1, h2, h3, h4, hk⟩ := h c
      exact ⟨(h0.trans (Cert.Reference7Ideal.Read.val_main_v16_eq _ _)).trans
          ((congr (congrArg Cert.Reference7Ideal.Read.val_main_v16 a0) a1).trans (act_eq m c)),
        (h1.trans (Cert.Reference7Ideal.Read.val_main_v20_eq _ _ _)).trans
          ((congr (congr (congrArg Cert.Reference7Ideal.Read.val_main_v20 a0) a1) a2).trans (bm_eq m c hu)),
        (h2.trans (Cert.Reference7Ideal.Read.val_main_v24_eq _ _ _)).trans
          ((congr (congr (congrArg Cert.Reference7Ideal.Read.val_main_v24 a0) a1) a2).trans (hm_eq m c)),
        (h3.trans (Cert.Reference7Ideal.Read.val_main_v13_eq _ _ _ _)).trans
          ((congr (congr (congr (congrArg Cert.Reference7Ideal.Read.val_main_v13 a0) a1) a2) a3).trans (z_eq m c)),
        (h4.trans (Cert.Reference7Ideal.Read.val_main_v48_eq _ _)).trans
          ((congr (congr (congr (congr (congr (congrArg Cert.Reference7Ideal.Read.val_main_v48 a0) a1) a2) a3) a4) a5).trans (y_eq m c)), hk⟩)
      (Cert.Reference7Ideal.Value.run m' ρ')⟩

end Cert.Feed

end
-- ==== Proof.Gate.lean ====
/-
  The pointwise layer and the gate, forward: the kernel's results are the reference's.
-/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pointwise
public import Idealize.ShloMosaic.Lib.ValueIdx
public import Idealize.ShloMosaic.Lib.Pipeline.ValueKit
public import Idealize.ShloMosaic.Lib.Pipeline.ReadBack
public import Idealize.ShloMosaic.Lib.StableHlo.ReadAt
public import Idealize.ShloMosaic.Adequacy

@[expose] public section

set_option maxRecDepth 16384

noncomputable section

namespace Cert.Gate

open Cert.Kernel8Ideal Cert.Kernel8Ideal.Gen Cert.Kernel8Ideal.Value Idealize.ShloMosaic Idealize.ShloMosaic.TcCoe Idealize.SL.Sem

/-- A column of the pointwise layer's result by its chunk, and the two halves of a gated column. -/
def colOf (s : Fin 4) (f : Fin 512) : Fin 2048 := ⟨512 * s.val + f.val, by omega⟩
def lo (j : Fin 1024) : Fin 2048 := ⟨j.val, by omega⟩
def hi (j : Fin 1024) : Fin 2048 := ⟨1024 + j.val, by omega⟩

/-! ## One grid point -/

section Point

variable (x : Vec Ideal S512x1024 .f32) (w : Vec Ideal S4x1024x512 .bf16) (b : Vec Ideal S1x2048 .f32)

theorem ld_x (r : Fin 512) (k : Fin 1024) : View.ld x r0_0 (ix2 r k) = x (ix2 r k) := by
  refine View.ld_unit_apply_of _ _ _ _ _ _ fun a => ?_
  fin_cases a
  · show r.val = 0 + r.val; omega
  · show k.val = 0 + k.val; omega

theorem ld_w (s : Fin 4) (h) (k : Fin 1024) (f : Fin 512) :
    View.ld w (Rect.unit (s := S4x1024x512) ![s.val, 0, 0] S1x1024x512.size h) (ix3 0 k f) = w (ix3 s k f) := by
  refine View.ld_unit_apply_of _ _ _ _ _ _ fun a => ?_
  fin_cases a
  · show s.val = s.val + 0; omega
  · show k.val = 0 + k.val; omega
  · show f.val = 0 + f.val; omega

theorem ld_b (s : Fin 4) (h) (f : Fin 512) :
    View.ld b (Rect.unit (s := S1x2048) ![0, 512 * s.val] S1x512.size h) (ix2 0 f) = b (ix2 0 (colOf s f)) := by
  refine View.ld_unit_apply_of _ _ _ _ _ _ fun a => ?_
  fin_cases a
  · rfl
  · rfl

/-- Entry `f` of chunk `s` of a row of the pointwise layer's result. -/
def part (s : Fin 4) (r : Fin 512) (f : Fin 512) : EReal :=
  (∑ k : Fin 1024, x (ix2 r k) * w (ix3 s k f)) + b (ix2 0 (colOf s f))

theorem pay6_at (u : Vec Ideal S512x1024 .f32) (v : Vec Ideal S1x1024x512 .bf16) (e : Vec Ideal S1x512 .f32) (r f : Fin 512) :
    k0_pay6 u v e (ix2 r f) = (∑ k : Fin 1024, u (ix2 r k) * v (ix3 0 k f)) + e (ix2 0 f) := by
  unfold k0_pay6 k0_pay5
  pointwise

theorem part_at (s : Fin 4) (h) (h') (r f : Fin 512) :
    k0_pay6 (View.ld x r0_0) (View.ld w (Rect.unit (s := S4x1024x512) ![s.val, 0, 0] S1x1024x512.size h))
      (View.ld b (Rect.unit (s := S1x2048) ![0, 512 * s.val] S1x512.size h')) (ix2 r f) = part x w b s r f := by
  rw [pay6_at]
  exact congrArg₂ (· + ·) (Finset.sum_congr rfl fun k _ => congrArg₂ (· * ·) (ld_x x r k) (ld_w w s h k f)) (ld_b b s h' f)

/-- What the two stores, one for each half of the columns, leave. -/
def halves {α : Type} (p : Fin 2 → Fin 512 → Fin 512 → α) : S512x1024.Idx → α := fun y =>
  p ⟨(y 1).val / 512, by have h1 : (y 1).val < 1024 := (y 1).isLt; omega⟩ ⟨(y 0).val, (y 0).isLt⟩
    ⟨(y 1).val % 512, by omega⟩

theorem piece_at (φ : EltTy) (q : Fin 2) (h) (v : Vec Ideal S512x512 φ) (p : Fin 2 → Fin 512 → Fin 512 → Elt Ideal φ)
    (e : ∀ r f, v (ix2 r f) = p q r f) (i : S512x512.Idx) :
    v i = halves p ((Rect.unit (s := S512x1024) ![0, 512 * q.val] S512x512.size h).emb i) := by
  obtain ⟨r, f, rfl⟩ : ∃ (r f : Fin 512), i = ix2 r f := ⟨i 0, i 1, eq_ix2 i⟩
  rw [e]
  unfold halves
  have e1 : ((Rect.unit (s := S512x1024) ![0, 512 * q.val] S512x512.size h).emb (ix2 r f) 1).val = 512 * q.val + 1 * f.val := rfl
  have e0 : ((Rect.unit (s := S512x1024) ![0, 512 * q.val] S512x512.size h).emb (ix2 r f) 0).val = 0 + 1 * r.val := rfl
  refine congr (congr (congrArg p (Fin.ext ?_)) (Fin.ext ?_)) (Fin.ext ?_)
  · show q.val = _ / 512; rw [e1]; omega
  · show r.val = _; rw [e0]; omega
  · show f.val = _ % 512; rw [e1]; omega

theorem canon_halves (φ : EltTy) (v0 v1 : Vec Ideal S512x512 φ) (p : Fin 2 → Fin 512 → Fin 512 → Elt Ideal φ)
    (h0 : ∀ r f, v0 (ix2 r f) = p 0 r f) (h1 : ∀ r f, v1 (ix2 r f) = p 1 r f)
    (cover : ∀ y : S512x1024.Idx, ∃ pc ∈ ([⟨r0_10, v1⟩, ⟨r0_5, v0⟩] : List (View.Piece (Elt Ideal) S512x1024 φ)), y ∈ pc.1.set) :
    View.canon ([⟨r0_10, v1⟩, ⟨r0_5, v0⟩] : List (View.Piece (Elt Ideal) S512x1024 φ)) = halves p := funext fun y => by
  have h : View.PiecesOf (halves p) ([⟨r0_10, v1⟩, ⟨r0_5, v0⟩] : List (View.Piece (Elt Ideal) S512x1024 φ)) :=
    ⟨piece_at φ 1 inb_S512x1024_S512x512_0_512 v1 p h1, piece_at φ 0 inb_S512x1024_S512x512_0_0 v0 p h0, trivial⟩
  exact View.canon_apply_of_pieces (halves p) _ h.mem y (cover y)

theorem a_out : (out0_3 x w b : S512x1024.Idx → EReal) = halves fun q r f => part x w b ⟨q.val, by omega⟩ r f :=
  canon_halves .bf16 _ _ _ (fun r f => part_at x w b 0 _ _ r f) (fun r f => part_at x w b 1 _ _ r f) (cover0_3 _ _)

theorem g_out : (out0_4 x w b : S512x1024.Idx → EReal) = halves fun q r f => part x w b ⟨2 + q.val, by omega⟩ r f :=
  canon_halves .bf16 _ _ _ (fun r f => part_at x w b 2 _ _ r f) (fun r f => part_at x w b 3 _ _ r f) (cover0_4 _ _)

theorem gate_at (p q : FVec Ideal S512x512 .f32) (r f : Fin 512) :
    mulf p (logistic q) (ix2 r f) = p (ix2 r f) * Ideal.logistic (q (ix2 r f)) := by
  pointwise

theorem u_out : (out0_5 x w b : S512x1024.Idx → EReal)
    = halves fun q r f => part x w b ⟨q.val, by omega⟩ r f * Ideal.logistic (part x w b ⟨2 + q.val, by omega⟩ r f) :=
  canon_halves .f32 _ _ _
    (fun r f => (gate_at _ _ r f).trans (congrArg₂ (fun p q => p * Ideal.logistic q) (part_at x w b 0 _ _ r f) (part_at x w b 2 _ _ r f)))
    (fun r f => (gate_at _ _ r f).trans (congrArg₂ (fun p q => p * Ideal.logistic q) (part_at x w b 1 _ _ r f) (part_at x w b 3 _ _ r f)))
    (cover0_5 _ _)

end Point

/-! ## The blocks as entries of the arguments -/

variable (m : (ℓ : Loc nD τ sig) → Buf (Elt Ideal) ℓ) (c : Dev nD)

abbrev arr0 : S16384x1024.Idx → EReal := m ((c : Thread nD τ).loc main_arg0)
abbrev arr1 : S1024x2048.Idx → EReal := m ((c : Thread nD τ).loc main_arg1)
abbrev arr2 : S2048.Idx → EReal := m ((c : Thread nD τ).loc main_arg2)

/-- The pointwise layer's result. -/
def pre (ρ : Fin 16384) (p : Fin 2048) : EReal := (∑ k : Fin 1024, arr0 m c (ix2 ρ k) * arr1 m c (ix2 k p)) + arr2 m c (ix1 p)

theorem w_host (s : Fin 4) (k : Fin 1024) (f : Fin 512) :
    (V m c main_v2 : S4x1024x512.Idx → EReal) (ix3 s k f) = arr1 m c (ix2 k (colOf s f)) := by
  unfold V; after_reads_at
  refine congrArg (arr1 m c) ?_
  unfold colOf
  idx_ext

theorem b_host (p : Fin 2048) : (V m c main_v3 : S1x2048.Idx → EReal) (ix2 0 p) = arr2 m c (ix1 p) := by
  unfold V; after_reads_at

theorem idx_in (t : Fin cfg0.N) : (win0_0.index t 0 = t.val ∧ win0_0.index t 1 = 0)
    ∧ (win0_1.index t 0 = 0 ∧ win0_1.index t 1 = 0 ∧ win0_1.index t 2 = 0) ∧ win0_2.index t 0 = 0 ∧ win0_2.index t 1 = 0 := by
  revert t; decide +kernel

section Blk
variable (t : Fin cfg0.N) (r : Fin 512) (h : t.val * 512 + r < 16384)

theorem x_blk (k : Fin 1024) : (iblk m c 0 t : Vec Ideal S512x1024 .f32) (ix2 r k) = arr0 m c (ix2 ⟨t.val * 512 + r, h⟩ k) := by
  have := idx_in t
  blk_ext [iblk, V, this]

theorem w_blk (s : Fin 4) (k : Fin 1024) (f : Fin 512) :
    (iblk m c 1 t : Vec Ideal S4x1024x512 .bf16) (ix3 s k f) = arr1 m c (ix2 k (colOf s f)) := by
  have := idx_in t
  refine Eq.trans ?_ (w_host m c s k f)
  blk_ext [iblk, this]

theorem b_blk (p : Fin 2048) : (iblk m c 2 t : Vec Ideal S1x2048 .f32) (ix2 0 p) = arr2 m c (ix1 p) := by
  have := idx_in t
  refine Eq.trans ?_ (b_host m c p)
  blk_ext [iblk, this]

theorem part_blk (s : Fin 4) (f : Fin 512) :
    part (iblk m c 0 t) (iblk m c 1 t) (iblk m c 2 t) s r f = pre m c ⟨t.val * 512 + r, h⟩ (colOf s f) :=
  congrArg₂ (· + ·) (Finset.sum_congr rfl fun k _ => congrArg₂ (· * ·) (x_blk m c t r h k) (w_blk m c t s k f)) (b_blk m c t _)

end Blk

/-! ## The arrays after the run -/

/-- The two halves of the pointwise layer's result, and the gated rows. -/
def aR (ρ : Fin 16384) (j : Fin 1024) : EReal := pre m c ρ (lo j)
def gR (ρ : Fin 16384) (j : Fin 1024) : EReal := pre m c ρ (hi j)
def uR (ρ : Fin 16384) (j : Fin 1024) : EReal := aR m c ρ j * Ideal.logistic (gR m c ρ j)

def G3 : S16384x1024.Idx → EReal := fun i => aR m c ⟨(i 0).val, (i 0).isLt⟩ ⟨(i 1).val, (i 1).isLt⟩
def G4 : S16384x1024.Idx → EReal := fun i => gR m c ⟨(i 0).val, (i 0).isLt⟩ ⟨(i 1).val, (i 1).isLt⟩
def G5 : S16384x1024.Idx → EReal := fun i => uR m c ⟨(i 0).val, (i 0).isLt⟩ ⟨(i 1).val, (i 1).isLt⟩

section Blocks
variable (t : Fin cfg0.N) (r : Fin 512) (j : Fin 1024) (h : t.val * 512 + r < 16384)

theorem lo_col (h0) (h1) : colOf ⟨j.val / 512, h0⟩ ⟨j.val % 512, h1⟩ = lo j := Fin.ext (by unfold colOf lo; dsimp only; omega)
theorem hi_col (h0) (h1) : colOf ⟨2 + j.val / 512, h0⟩ ⟨j.val % 512, h1⟩ = hi j := Fin.ext (by unfold colOf hi; dsimp only; omega)

theorem a_row : (out0_3 (iblk m c 0 t) (iblk m c 1 t) (iblk m c 2 t) : S512x1024.Idx → EReal) (ix2 r j) = aR m c ⟨t.val * 512 + r, h⟩ j := by
  rw [a_out]
  exact (part_blk m c t r h _ _).trans (congrArg (pre m c _) (lo_col j _ _))

theorem g_row : (out0_4 (iblk m c 0 t) (iblk m c 1 t) (iblk m c 2 t) : S512x1024.Idx → EReal) (ix2 r j) = gR m c ⟨t.val * 512 + r, h⟩ j := by
  rw [g_out]
  exact (part_blk m c t r h _ _).trans (congrArg (pre m c _) (hi_col j _ _))

theorem u_row : (out0_5 (iblk m c 0 t) (iblk m c 1 t) (iblk m c 2 t) : S512x1024.Idx → EReal) (ix2 r j) = uR m c ⟨t.val * 512 + r, h⟩ j := by
  rw [u_out]
  exact congrArg₂ (fun p q => p * Ideal.logistic q) ((part_blk m c t r h _ _).trans (congrArg (pre m c _) (lo_col j _ _)))
    ((part_blk m c t r h _ _).trans (congrArg (pre m c _) (hi_col j _ _)))

end Blocks

theorem idx_out (t : Fin cfg0.N) : (win0_3.index t 0 = t.val ∧ win0_3.index t 1 = 0)
    ∧ (win0_4.index t 0 = t.val ∧ win0_4.index t 1 = 0) ∧ win0_5.index t 0 = t.val ∧ win0_5.index t 1 = 0 := by
  revert t; decide +kernel

theorem final3 : (dats m 0 c).arrAt 3 cfg0.N = G3 m c := by
  refine (dats m 0 c).arrAt_eq_of_covers 3 _ (by decide +kernel) fun t hf y => ?_
  show (dats m 0 c).after 3 t ((cfg0.win 3).xinj (grid0.coords t) y) = _
  have hN : t.val < 32 := lt_of_lt_of_eq t.isLt N_0
  obtain ⟨⟨e0, e1⟩, -⟩ := idx_out t
  have hy0 : (y 0).val < 512 := (y 0).isLt
  have hy1 : (y 1).val < 1024 := (y 1).isLt
  have hb0 : (((cfg0.win 3).blk t).view.emb y 0).val = win0_3.index t 0 * 512 + 1 * (y 0).val := rfl
  have hb1 : (((cfg0.win 3).blk t).view.emb y 1).val = win0_3.index t 1 * 1024 + 1 * (y 1).val := rfl
  have hy : (cfg0.win 3).xinj (grid0.coords t) y = ix2 ⟨(y 0).val, hy0⟩ ⟨(y 1).val, hy1⟩ := by idx_ext
  refine (congrArg ((dats m 0 c).after 3 t) hy).trans ?_
  refine (congrFun (after0_3 m c t) (ix2 ⟨(y 0).val, hy0⟩ ⟨(y 1).val, hy1⟩)).trans
    ((a_row m c t ⟨(y 0).val, hy0⟩ ⟨(y 1).val, hy1⟩ (by dsimp only; omega)).trans ?_)
  exact congrArg₂ (aR m c) (Fin.ext (by rw [hb0, e0]; dsimp only; omega)) (Fin.ext (by rw [hb1, e1]; dsimp only; omega))

theorem final4 : (dats m 0 c).arrAt 4 cfg0.N = G4 m c := by
  refine (dats m 0 c).arrAt_eq_of_covers 4 _ (by decide +kernel) fun t hf y => ?_
  show (dats m 0 c).after 4 t ((cfg0.win 4).xinj (grid0.coords t) y) = _
  have hN : t.val < 32 := lt_of_lt_of_eq t.isLt N_0
  obtain ⟨-, ⟨e0, e1⟩, -⟩ := idx_out t
  have hy0 : (y 0).val < 512 := (y 0).isLt
  have hy1 : (y 1).val < 1024 := (y 1).isLt
  have hb0 : (((cfg0.win 4).blk t).view.emb y 0).val = win0_4.index t 0 * 512 + 1 * (y 0).val := rfl
  have hb1 : (((cfg0.win 4).blk t).view.emb y 1).val = win0_4.index t 1 * 1024 + 1 * (y 1).val := rfl
  have hy : (cfg0.win 4).xinj (grid0.coords t) y = ix2 ⟨(y 0).val, hy0⟩ ⟨(y 1).val, hy1⟩ := by idx_ext
  refine (congrArg ((dats m 0 c).after 4 t) hy).trans ?_
  refine (congrFun (after0_4 m c t) (ix2 ⟨(y 0).val, hy0⟩ ⟨(y 1).val, hy1⟩)).trans
    ((g_row m c t ⟨(y 0).val, hy0⟩ ⟨(y 1).val, hy1⟩ (by dsimp only; omega)).trans ?_)
  exact congrArg₂ (gR m c) (Fin.ext (by rw [hb0, e0]; dsimp only; omega)) (Fin.ext (by rw [hb1, e1]; dsimp only; omega))

theorem final5 : (dats m 0 c).arrAt 5 cfg0.N = G5 m c := by
  refine (dats m 0 c).arrAt_eq_of_covers 5 _ (by decide +kernel) fun t hf y => ?_
  show (dats m 0 c).after 5 t ((cfg0.win 5).xinj (grid0.coords t) y) = _
  have hN : t.val < 32 := lt_of_lt_of_eq t.isLt N_0
  obtain ⟨-, -, e0, e1⟩ := idx_out t
  have hy0 : (y 0).val < 512 := (y 0).isLt
  have hy1 : (y 1).val < 1024 := (y 1).isLt
  have hb0 : (((cfg0.win 5).blk t).view.emb y 0).val = win0_5.index t 0 * 512 + 1 * (y 0).val := rfl
  have hb1 : (((cfg0.win 5).blk t).view.emb y 1).val = win0_5.index t 1 * 1024 + 1 * (y 1).val := rfl
  have hy : (cfg0.win 5).xinj (grid0.coords t) y = ix2 ⟨(y 0).val, hy0⟩ ⟨(y 1).val, hy1⟩ := by idx_ext
  refine (congrArg ((dats m 0 c).after 5 t) hy).trans ?_
  refine (congrFun (after0_5 m c t) (ix2 ⟨(y 0).val, hy0⟩ ⟨(y 1).val, hy1⟩)).trans
    ((u_row m c t ⟨(y 0).val, hy0⟩ ⟨(y 1).val, hy1⟩ (by dsimp only; omega)).trans ?_)
  exact congrArg₂ (uR m c) (Fin.ext (by rw [hb0, e0]; dsimp only; omega)) (Fin.ext (by rw [hb1, e1]; dsimp only; omega))

/-! ## The reference -/

namespace Ref

open Cert.Reference8Ideal Cert.Reference8Ideal.Gen Cert.Reference8Ideal.Read

variable (x0 : Cert.Reference8Ideal.S16384x1024.Idx → EReal) (x1 : Cert.Reference8Ideal.S1024x2048.Idx → EReal) (x2 : Cert.Reference8Ideal.S2048.Idx → EReal)

def pre (ρ : Fin 16384) (p : Fin 2048) : EReal := (∑ k : Fin 1024, x0 (ix2 ρ k) * x1 (ix2 k p)) + x2 (ix1 p)

theorem v3_at (ρ : Fin 16384) (p : Fin 2048) : val_main_v3 (F := Ideal) x0 x1 x2 (ix2 ρ p) = pre x0 x1 x2 ρ p := by
  unfold val_main_v3 val_main_v2 val_main_v1 val_main_v0
  pointwise
  rfl

theorem v4_at (ρ : Fin 16384) (j : Fin 1024) : val_main_v4 (F := Ideal) x0 x1 x2 (ix2 ρ j) = pre x0 x1 x2 ρ (lo j) := by
  unfold val_main_v4
  pointwise
  exact v3_at x0 x1 x2 ρ (lo j)

theorem v5_at (ρ : Fin 16384) (j : Fin 1024) : val_main_v5 (F := Ideal) x0 x1 x2 (ix2 ρ j) = pre x0 x1 x2 ρ (hi j) := by
  unfold val_main_v5
  pointwise
  exact v3_at x0 x1 x2 ρ (hi j)

theorem v13_at (ρ : Fin 16384) (j : Fin 1024) : val_main_v13 (F := Ideal) x0 x1 x2 (ix2 ρ j) = Ideal.logistic (pre x0 x1 x2 ρ (hi j)) := by
  unfold val_main_v13 val_main_v12 val_main_v11 val_main_v10 val_main_v9 val_main_v8 val_main_cst val_main_cst_0
  pointwise
  rw [v5_at]
  rfl

theorem v14_at (ρ : Fin 16384) (j : Fin 1024) : val_main_v14 (F := Ideal) x0 x1 x2 (ix2 ρ j)
    = pre x0 x1 x2 ρ (lo j) * Ideal.logistic (pre x0 x1 x2 ρ (hi j)) := by
  unfold val_main_v14
  pointwise
  rw [v13_at, v4_at]

end Ref

/-! ## The claims -/

section Agree

open Cert.Reference8Ideal.Read

theorem a_eq : val_main_v6 (F := Ideal) (arr0 m c) (arr1 m c) (arr2 m c) = G3 m c := funext fun i => by
  obtain ⟨ρ, j, rfl⟩ : ∃ (ρ : Fin 16384) (j : Fin 1024), i = ix2 ρ j := ⟨i 0, i 1, eq_ix2 i⟩
  exact Ref.v4_at (arr0 m c) (arr1 m c) (arr2 m c) ρ j

theorem g_eq : val_main_v7 (F := Ideal) (arr0 m c) (arr1 m c) (arr2 m c) = G4 m c := funext fun i => by
  obtain ⟨ρ, j, rfl⟩ : ∃ (ρ : Fin 16384) (j : Fin 1024), i = ix2 ρ j := ⟨i 0, i 1, eq_ix2 i⟩
  exact Ref.v5_at (arr0 m c) (arr1 m c) (arr2 m c) ρ j

theorem u_eq : val_main_v14 (F := Ideal) (arr0 m c) (arr1 m c) (arr2 m c) = G5 m c := funext fun i => by
  obtain ⟨ρ, j, rfl⟩ : ∃ (ρ : Fin 16384) (j : Fin 1024), i = ix2 ρ j := ⟨i 0, i 1, eq_ix2 i⟩
  exact Ref.v14_at (arr0 m c) (arr1 m c) (arr2 m c) ρ j

end Agree

theorem frame_reference : Cert.quiescent_Reference8Ideal := fun m ρ _ =>
  (θ_run _ _ _).mono (fun r h => ⟨fun c => (h c).2.2.2, sem_eq_zero_of_no_sems rfl r.2⟩) (Cert.Reference8Ideal.Value.run m ρ)

theorem algebraic : Cert.algebraic_Kernel8Ideal_Reference8Ideal := fun m ρ m' ρ' _ ha =>
  ⟨fun c => G3 m c, fun c => G4 m c, fun c => G5 m c,
    (θ_run _ _ _).mono (fun r h c => by
      obtain ⟨h0, h1, h2, hk⟩ := h c
      exact ⟨h0.trans (final3 m c), h1.trans (final4 m c), h2.trans (final5 m c), hk⟩) (run_blocks m ρ),
    (θ_run _ _ _).mono (fun r h c => by
      obtain ⟨a0, a1, a2⟩ := ha c
      obtain ⟨h0, h1, h2, hk⟩ := h c
      exact ⟨(h0.trans (Cert.Reference8Ideal.Read.val_main_v6_eq _ _ _)).trans
          ((congr (congr (congrArg Cert.Reference8Ideal.Read.val_main_v6 a0) a1) a2).trans (a_eq m c)),
        (h1.trans (Cert.Reference8Ideal.Read.val_main_v7_eq _ _ _)).trans
          ((congr (congr (congrArg Cert.Reference8Ideal.Read.val_main_v7 a0) a1) a2).trans (g_eq m c)),
        (h2.trans (Cert.Reference8Ideal.Read.val_main_v14_eq _ _ _)).trans
          ((congr (congr (congrArg Cert.Reference8Ideal.Read.val_main_v14 a0) a1) a2).trans (u_eq m c)), hk⟩)
      (Cert.Reference8Ideal.Value.run m' ρ')⟩

end Cert.Gate

end
-- ==== Proof.TailLoop.lean ====
/-
  The forward convolution: what one trip of its loop writes.
-/
module

public import proofs.«01_k».proof.Proof.ConvLoop
public import proofs.«01_k».proof.Proof.Gen.Kernel9Ideal.Loops
public import Idealize.ShloMosaic.Lib.Pointwise
public import Idealize.ShloMosaic.Lib.ValueIdx

@[expose] public section

set_option maxRecDepth 16384

noncomputable section

namespace Cert.Tail

open Idealize.ShloMosaic Idealize.ShloMosaic.TcCoe Idealize.ShloMosaic.Tactic
open Cert.Kernel9Ideal Cert.Kernel9Ideal.Gen
open Cert.Conv (squeeze_at)

/-- A load of a box of weights, elementwise. -/
theorem load4 {m : Memref sig .tc .vmem S32x8x1024 .f32} {X : BufTy.Contents (Elt Ideal) m.view.ty} {W : ℕ → ℕ → ℕ → EReal}
    (hW : ∀ k b q, m.view.read (Elt Ideal) X (ix3 k b q) = W k.val b.val q.val) (off : Fin 3 → ℕ)
    (inb : ∀ a, off a + S1x8x256.size a ≤ S32x8x1024.size a) (b : Fin 8) (q : Fin 256) :
    View.readAt (Elt Ideal) m.view (Rect.unit (s := S32x8x1024) off S1x8x256.size inb).toLoadRect X (ix3 0 b q) = W (off 0) (off 1 + b.val) (off 2 + q.val) := by
  have h0 := inb 0; have h1 := inb 1; have h2 := inb 2
  simp at h0 h1 h2
  exact (View.ld_unit_apply_of (m.view.read (Elt Ideal) X) off _ inb _
    (ix3 ⟨off 0, by omega⟩ ⟨off 1 + b.val, by omega⟩ ⟨off 2 + q.val, by omega⟩) (by intro a; fin_cases a <;> rfl)).trans (hW _ _ _)

/-- A load of a piece of the bias, elementwise. -/
theorem load5 {m : Memref sig .tc .vmem S1x1024 .f32} {X : BufTy.Contents (Elt Ideal) m.view.ty} {B : ℕ → EReal}
    (hB : ∀ q, m.view.read (Elt Ideal) X (ix2 0 q) = B q.val) (off : Fin 2 → ℕ)
    (inb : ∀ a, off a + S1x256.size a ≤ S1x1024.size a) (q : Fin 256) :
    View.readAt (Elt Ideal) m.view (Rect.unit (s := S1x1024) off S1x256.size inb).toLoadRect X (ix2 0 q) = B (off 1 + q.val) := by
  have h0 := inb 0; have h1 := inb 1
  simp at h0 h1
  refine (View.ld_unit_apply_of (m.view.read (Elt Ideal) X) off _ inb _ (ix2 0 ⟨off 1 + q.val, by omega⟩) fun a => ?_).trans (hB _)
  fin_cases a
  · show 0 = off 0 + 0; omega
  · rfl

/-- A load of 64 shifted rows, elementwise. -/
theorem load16 {m : Memref sig .tc .vmem S7x544x1024 .f32} {X : BufTy.Contents (Elt Ideal) m.view.ty} {D : ℕ → ℕ → EReal}
    (hX : ∀ s e q, m.view.read (Elt Ideal) X (ix3 s e q) = D (s.val + 1 + e.val) q.val) (off : Fin 3 → ℕ) [co : ClosedOff off]
    (inb : ∀ a, off a + S1x64x256.size a ≤ S7x544x1024.size a) {R O : ℕ} (hR : co.form 1 + (co.form 0 + 1) = R) (hO : co.form 2 = O)
    (p : Fin 64) (q : Fin 256) :
    shapeCast S64x256 (View.readAt (Elt Ideal) m.view (Rect.unit (s := S7x544x1024) off S1x64x256.size inb).toLoadRect X) shapeCasts_S1x64x256_S64x256 (ix2 p q)
      = D (R + p.val) (O + q.val) := by
  rw [← hR, ← hO, ← co.eq]
  have h0 := inb 0; have h1 := inb 1; have h2 := inb 2
  simp at h0 h1 h2
  exact (squeeze_at _ p q).trans ((View.ld_unit_apply_of (m.view.read (Elt Ideal) X) off _ inb _
    (ix3 ⟨off 0, by omega⟩ ⟨off 1 + p.val, by omega⟩ ⟨off 2 + q.val, by omega⟩) (by intro a; fin_cases a <;> rfl)).trans ((hX _ _ _).trans (congrArg (D · _) (by dsimp only; omega))))

/-- A load of 64 rows of a buffer of rows, elementwise. -/
theorem load15 {m : Memref sig .tc .vmem S552x1024 .f32} {X : BufTy.Contents (Elt Ideal) m.view.ty} {D : ℕ → ℕ → EReal}
    (hX : ∀ e q, m.view.read (Elt Ideal) X (ix2 e q) = D e.val q.val) (off : Fin 2 → ℕ) [co : ClosedOff off]
    (inb : ∀ a, off a + S64x256.size a ≤ S552x1024.size a) {R O : ℕ} (hR : co.form 0 = R) (hO : co.form 1 = O)
    (p : Fin 64) (q : Fin 256) :
    View.readAt (Elt Ideal) m.view (Rect.unit (s := S552x1024) off S64x256.size inb).toLoadRect X (ix2 p q) = D (R + p.val) (O + q.val) := by
  rw [← hR, ← hO, ← co.eq]
  have h0 := inb 0; have h1 := inb 1
  simp at h0 h1
  exact (View.ld_unit_apply_of (m.view.read (Elt Ideal) X) off _ inb _
    (ix2 ⟨off 0 + p.val, by omega⟩ ⟨off 1 + q.val, by omega⟩) (by intro a; fin_cases a <;> rfl)).trans (hX _ _)

/-- The sum of the first `n` taps for the rows from `r` on, in the columns from `o` on: tap `k` takes the row 30 - k rows
    before, and the buffer's rows begin 32 before. -/
def Taps (W : ℕ → ℕ → ℕ → EReal) (D : ℕ → ℕ → EReal) (r o n : ℕ) (acc : FVec Ideal S8x8x256 .f32) : Prop :=
  ∀ (a : Fin 8) (b : Fin 8) (q : Fin 256),
    acc (ix3 a b q) = ∑ k ∈ Finset.range n, W k b.val (o + q.val) * D (r + (a.val * 8 + b.val) + (2 + k)) (o + q.val)

theorem taps_zero (W : ℕ → ℕ → ℕ → EReal) (D : ℕ → ℕ → EReal) (r o : ℕ) :
    Taps W D r o 0 (broadcast S8x8x256 (Scalar.ofBits (F := Ideal) .f32 0x00000000#32)) := by
  intro a b q
  rw [Finset.sum_range_zero]
  pointwise

/-- One more tap. -/
theorem taps_succ {W : ℕ → ℕ → ℕ → EReal} {D : ℕ → ℕ → EReal} {r o n : ℕ} {acc : FVec Ideal S8x8x256 .f32}
    {w : Vec Ideal S1x8x256 .f32} {x : Vec Ideal S64x256 .f32} (hacc : Taps W D r o n acc)
    (hw : ∀ (b : Fin 8) (q : Fin 256), w (ix3 0 b q) = W n b.val (o + q.val))
    (hx : ∀ (p : Fin 64) (q : Fin 256), x (ix2 p q) = D (r + (2 + n) + p.val) (o + q.val)) :
    Taps W D r o (n + 1) (addf acc (mulf (broadcastTo S8x8x256 (shapeCast S1x8x256 (shapeCast S8x256 w shapeCasts_S1x8x256_S8x256)
      shapeCasts_S8x256_S1x8x256) broadcasts_S1x8x256_S8x8x256) (shapeCast S8x8x256 x shapeCasts_S64x256_S8x8x256))) := by
  intro a b q
  rw [Finset.sum_range_succ, ← hacc a b q, ← hw b q]
  have := hx ⟨a.val * 8 + b.val, by omega⟩ q
  rw [show r + (a.val * 8 + b.val) + (2 + n) = r + (2 + n) + (a.val * 8 + b.val) by omega, ← this]
  pointwise

/-- A piece of 64 rows and 256 columns that holds the 31 taps and the bias. -/
theorem tile_at {W : ℕ → ℕ → ℕ → EReal} {D : ℕ → ℕ → EReal} {B : ℕ → EReal} {t o : ℕ} {off : Fin 2 → ℕ} (ho : off = ![64 * t, o])
    {acc : FVec Ideal S8x8x256 .f32} (h : Taps W D (64 * t) o 31 acc) {v : Vec Ideal S1x256 .f32}
    (hv : ∀ q : Fin 256, v (ix2 0 q) = B (o + q.val)) (r : Fin 512) (j : Fin 1024) :
    View.TileAt (Val := Elt Ideal) (S := S512x1024) (e := .f32) (ix2 r j) off S64x256.size (addf (shapeCast S64x256 acc shapeCasts_S8x8x256_S64x256)
      (broadcastTo S64x256 (shapeCast S1x256 v shapeCasts_S1x256_S1x256) broadcasts_S1x256_S64x256))
      ((∑ t ∈ Finset.range 31, W t (r.val % 8) j.val * D (r.val + (2 + t)) j.val) + B j.val) := by
  subst ho
  intro x hx
  obtain ⟨p, q, rfl⟩ : ∃ (p : Fin 64) (q : Fin 256), x = ix2 p q := ⟨x 0, x 1, by idx_ext⟩
  have h0 : r.val = 64 * t + p.val := hx 0
  have h1 : j.val = o + q.val := hx 1
  have hp := p.isLt
  have e := h ⟨p.val / 8, by omega⟩ ⟨p.val % 8, by omega⟩ q
  rw [show r.val % 8 = p.val % 8 by omega, h0, h1]
  simp only [show p.val / 8 * 8 + p.val % 8 = p.val by omega] at e
  rw [← e, ← hv q]
  pointwise

variable (𝒱 : Variants) (c : Dev nD) (bd : Option 𝒱.V) (i : grid0.Coords)
  (arg1 : Memref sig .tc .vmem S512x1024 .f32) (harg1 : arg1.IsWhole) (arg2 : Memref sig .tc .vmem S32x1024 .f32) (harg2 : arg2.IsWhole) (arg3 : Memref sig .tc .vmem S512x1024 .f32) (harg3 : arg3.IsWhole) (arg4 : Memref sig .tc .vmem S32x8x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S552x1024 .f32) (harg15 : arg15.IsWhole) (arg16 : Memref sig .tc .vmem S7x544x1024 .f32) (harg16 : arg16.IsWhole)
  (v25 : Vec Ideal S544x1024 .f32)

set_option maxHeartbeats 2000000 in
/-- What the pieces of one trip of the loop hold: the 31 taps of their rows and the bias. -/
theorem trip_at (X4 : BufTy.Contents (Elt Ideal) arg4.view.ty) (X5 : BufTy.Contents (Elt Ideal) arg5.view.ty)
    (X15 : BufTy.Contents (Elt Ideal) arg15.view.ty) (X16 : BufTy.Contents (Elt Ideal) arg16.view.ty)
    {W : ℕ → ℕ → ℕ → EReal} {B : ℕ → EReal} {D : ℕ → ℕ → EReal}
    (h4 : ∀ k b q, arg4.view.read (Elt Ideal) X4 (ix3 k b q) = W k.val b.val q.val)
    (h5 : ∀ q, arg5.view.read (Elt Ideal) X5 (ix2 0 q) = B q.val)
    (h15 : ∀ e q, arg15.view.read (Elt Ideal) X15 (ix2 e q) = D e.val q.val)
    (h16 : ∀ s e q, arg16.view.read (Elt Ideal) X16 (ix3 s e q) = D (s.val + 1 + e.val) q.val)
    (k : Fin k0_t1_loop.trips) (r : Fin 512) (j : Fin 1024) :
    View.AllAt (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v25 X4 X5 X15 X16 k) (ix2 r j)
      ((∑ t ∈ Finset.range 31, W t (r.val % 8) j.val * D (r.val + (2 + t)) j.val) + B j.val) := by
  unfold tripL_k0_t1 trip_k0_t1
  dsimp only
  refine View.allAt_cons_unit _ _ _ _ _ ?_ (View.allAt_cons_unit _ _ _ _ _ ?_ (View.allAt_cons_unit _ _ _ _ _ ?_
    (View.allAt_cons_unit _ _ _ _ _ ?_ (View.allAt_nil _ _))))
  all_goals
    simp only [trip_k0_t1.sl.r_1, trip_k0_t1.sl.r_2, trip_k0_t1.sl.r_3, trip_k0_t1.sl.r_4, trip_k0_t1.sl.r_5, trip_k0_t1.sl.r_6,
      trip_k0_t1.sl.r_7, trip_k0_t1.sl.r_8, trip_k0_t1.sl.r_9, trip_k0_t1.sl.r_10, trip_k0_t1.sl.r_11, trip_k0_t1.sl.r_12,
      trip_k0_t1.sl.r_13, trip_k0_t1.sl.r_14, trip_k0_t1.sl.r_15, trip_k0_t1.sl.r_16, trip_k0_t1.sl.r_17,
      trip_k0_t1.sl.r_18, trip_k0_t1.sl.r_19, trip_k0_t1.sl.r_20, trip_k0_t1.sl.r_21, trip_k0_t1.sl.r_22,
      trip_k0_t1.sl.r_23, trip_k0_t1.sl.r_24, trip_k0_t1.sl.r_25, trip_k0_t1.sl.r_26, trip_k0_t1.sl.r_27,
      trip_k0_t1.sl.r_28, trip_k0_t1.sl.r_29, trip_k0_t1.sl.r_30, trip_k0_t1.sl.r_31, trip_k0_t1.sl.r_32,
      trip_k0_t1.sl.r_33, trip_k0_t1.sl.r_34, trip_k0_t1.sl.r_35, trip_k0_t1.sl.r_36, trip_k0_t1.sl.r_37,
      trip_k0_t1.sl.r_38, trip_k0_t1.sl.r_39, trip_k0_t1.sl.r_40, trip_k0_t1.sl.r_41, trip_k0_t1.sl.r_42,
      trip_k0_t1.sl.r_43, trip_k0_t1.sl.r_44, trip_k0_t1.sl.r_45, trip_k0_t1.sl.r_46, trip_k0_t1.sl.r_47,
      trip_k0_t1.sl.r_48, trip_k0_t1.sl.r_49, trip_k0_t1.sl.r_50, trip_k0_t1.sl.r_51, trip_k0_t1.sl.r_52,
      trip_k0_t1.sl.r_53, trip_k0_t1.sl.r_54, trip_k0_t1.sl.r_55, trip_k0_t1.sl.r_56, trip_k0_t1.sl.r_57,
      trip_k0_t1.sl.r_58, trip_k0_t1.sl.r_59, trip_k0_t1.sl.r_60, trip_k0_t1.sl.r_61, trip_k0_t1.sl.r_62,
      trip_k0_t1.sl.r_63, trip_k0_t1.sl.r_64, trip_k0_t1.sl.r_65, k0_pay2, k0_pay3, k0_pay4, k0_pay5, k0_pay6, k0_pay7,
      k0_pay8, k0_pay9, k0_pay10, k0_pay11, k0_pay12, k0_pay13, k0_pay14, k0_pay15, k0_pay16, k0_pay17, k0_pay18,
      k0_pay19, k0_pay20, k0_pay21, k0_pay22, k0_pay23, k0_pay24, k0_pay25, k0_pay26, k0_pay27, k0_pay28, k0_pay29,
      k0_pay30, k0_pay31, k0_pay32, k0_pay33, k0_pay34, k0_pay35, k0_pay36, k0_pay37, k0_pay38, k0_pay39, k0_pay40,
      k0_pay41, k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61, k0_pay62,
      k0_pay63, k0_pay64, k0_pay65, k0_pay76]
  · refine tile_at (W := W) (D := D) (o := 768) (k0_off36_eq k) ?_ (fun q => (load5 h5 _ _ q).trans (by simp)) r j
    iterate 31
      refine taps_succ ?_ (fun b q => (load4 h4 _ _ b q).trans (by simp)) ?_
      rotate_left
      · first | exact load15 h15 _ _ rfl rfl | exact load16 h16 _ _ rfl rfl
    exact taps_zero _ _ _ _
  · refine tile_at (W := W) (D := D) (o := 512) (k0_off27_eq k) ?_ (fun q => (load5 h5 _ _ q).trans (by simp)) r j
    iterate 31
      refine taps_succ ?_ (fun b q => (load4 h4 _ _ b q).trans (by simp)) ?_
      rotate_left
      · first | exact load15 h15 _ _ rfl rfl | exact load16 h16 _ _ rfl rfl
    exact taps_zero _ _ _ _
  · refine tile_at (W := W) (D := D) (o := 256) (k0_off18_eq k) ?_ (fun q => (load5 h5 _ _ q).trans (by simp)) r j
    iterate 31
      refine taps_succ ?_ (fun b q => (load4 h4 _ _ b q).trans (by simp)) ?_
      rotate_left
      · first | exact load15 h15 _ _ rfl rfl | exact load16 h16 _ _ rfl rfl
    exact taps_zero _ _ _ _
  · refine tile_at (W := W) (D := D) (o := 0) (k0_off9_eq k) ?_ (fun q => (load5 h5 _ _ q).trans (by simp)) r j
    iterate 31
      refine taps_succ ?_ (fun b q => (load4 h4 _ _ b q).trans (by simp)) ?_
      rotate_left
      · first | exact load15 h15 _ _ rfl rfl | exact load16 h16 _ _ rfl rfl
    exact taps_zero _ _ _ _

end Cert.Tail
-- ==== Proof.TailLoops.lean ====
/-
  The forward convolution: what its loop leaves.
-/
module

public import proofs.«01_k».proof.Proof.TailLoop
public import proofs.«01_k».proof.Proof.ConvLoops

@[expose] public section

set_option maxRecDepth 16384

noncomputable section

namespace Cert.Tail

open Idealize.ShloMosaic Idealize.ShloMosaic.TcCoe Idealize.ShloMosaic.Tactic
open Cert.Kernel9Ideal Cert.Kernel9Ideal.Gen
open Cert.Conv (cov_tail cov_rows)

variable (𝒱 : Variants) (c : Dev nD) (bd : Option 𝒱.V) (i : grid0.Coords)
  (arg1 : Memref sig .tc .vmem S512x1024 .f32) (harg1 : arg1.IsWhole) (arg2 : Memref sig .tc .vmem S32x1024 .f32) (harg2 : arg2.IsWhole) (arg3 : Memref sig .tc .vmem S512x1024 .f32) (harg3 : arg3.IsWhole) (arg4 : Memref sig .tc .vmem S32x8x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S552x1024 .f32) (harg15 : arg15.IsWhole) (arg16 : Memref sig .tc .vmem S7x544x1024 .f32) (harg16 : arg16.IsWhole)
  (v25 : Vec Ideal S544x1024 .f32)

theorem trip_cover (X4 : BufTy.Contents (Elt Ideal) arg4.view.ty) (X5 : BufTy.Contents (Elt Ideal) arg5.view.ty)
    (X15 : BufTy.Contents (Elt Ideal) arg15.view.ty) (X16 : BufTy.Contents (Elt Ideal) arg16.view.ty)
    (k : Fin k0_t1_loop.trips) (r : Fin 512) (j : Fin 1024) (h0 : 64 * k.val ≤ r.val) (h1 : r.val < 64 * k.val + 64) :
    ∃ p ∈ tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v25 X4 X5 X15 X16 k, ix2 r j ∈ p.1.set := by
  unfold tripL_k0_t1 trip_k0_t1
  dsimp only
  have hj := j.isLt
  rcases Nat.lt_or_ge j.val 256 with h | h
  · iterate 3 refine cov_tail ?_
    exact cov_rows (k0_off9_eq k) h0 h1 (Nat.zero_le _) (by omega)
  rcases Nat.lt_or_ge j.val 512 with h' | h'
  · iterate 2 refine cov_tail ?_
    exact cov_rows (k0_off18_eq k) h0 h1 h (by omega)
  rcases Nat.lt_or_ge j.val 768 with h'' | h''
  · iterate 1 refine cov_tail ?_
    exact cov_rows (k0_off27_eq k) h0 h1 h' (by omega)
  · exact cov_rows (k0_off36_eq k) h0 h1 h'' (by omega)

/-- What the loop leaves. -/
theorem loop_at (X4 : BufTy.Contents (Elt Ideal) arg4.view.ty) (X5 : BufTy.Contents (Elt Ideal) arg5.view.ty)
    (X15 : BufTy.Contents (Elt Ideal) arg15.view.ty) (X16 : BufTy.Contents (Elt Ideal) arg16.view.ty)
    {W : ℕ → ℕ → ℕ → EReal} {B : ℕ → EReal} {D : ℕ → ℕ → EReal}
    (h4 : ∀ k b q, arg4.view.read (Elt Ideal) X4 (ix3 k b q) = W k.val b.val q.val)
    (h5 : ∀ q, arg5.view.read (Elt Ideal) X5 (ix2 0 q) = B q.val)
    (h15 : ∀ e q, arg15.view.read (Elt Ideal) X15 (ix2 e q) = D e.val q.val)
    (h16 : ∀ s e q, arg16.view.read (Elt Ideal) X16 (ix3 s e q) = D (s.val + 1 + e.val) q.val)
    (r : Fin 512) (j : Fin 1024) :
    View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v25 X4 X5 X15 X16 8) (ix2 r j)
      = (∑ t ∈ Finset.range 31, W t (r.val % 8) j.val * D (r.val + (2 + t)) j.val) + B j.val := by
  have ht : k0_t1_loop.trips = 8 := rfl
  have key : ∀ n, n ≤ 8 → View.AllAt (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v25 X4 X5 X15 X16 n) (ix2 r j) ((∑ t ∈ Finset.range 31, W t (r.val % 8) j.val * D (r.val + (2 + t)) j.val) + B j.val)
      ∧ (r.val < 64 * n → ∃ p ∈ pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v25 X4 X5 X15 X16 n, ix2 r j ∈ p.1.set) := by
    intro n
    induction n with
    | zero => exact fun _ => ⟨View.allAt_nil _ _, fun h => absurd h (by omega)⟩
    | succ n ih =>
      intro hn
      obtain ⟨ih1, ih2⟩ := ih (by omega)
      have hs := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v25 X4 X5 X15 X16 ⟨n, by rw [ht]; omega⟩
      simp only at hs
      rw [hs]
      constructor
      · intro p hp
        rcases List.mem_append.1 hp with hp | hp
        · exact trip_at 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v25 X4 X5 X15 X16 h4 h5 h15 h16 _ r j p hp
        · exact ih1 p hp
      · intro hr
        by_cases hlt : r.val < 64 * n
        · obtain ⟨p, hp, hy⟩ := ih2 hlt
          exact ⟨p, List.mem_append_right _ hp, hy⟩
        · obtain ⟨p, hp, hy⟩ := trip_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v25 X4 X5 X15 X16 ⟨n, by rw [ht]; omega⟩ r j (by dsimp only; omega) (by dsimp only; omega)
          exact ⟨p, List.mem_append_left _ hp, hy⟩
  exact View.canon_eq_of_allAt _ _ _ ((key 8 le_rfl).2 (by omega)) (key 8 le_rfl).1

end Cert.Tail
-- ==== Proof.TailBody.lean ====
/-
  The forward convolution: the rows a tile reads, and what it computes of them.
-/
module

public import proofs.«01_k».proof.Proof.TailLoops
public import proofs.«01_k».proof.Proof.ConvBody

@[expose] public section

set_option maxRecDepth 16384

noncomputable section

namespace Cert.Tail

open Idealize.ShloMosaic Idealize.ShloMosaic.TcCoe Idealize.ShloMosaic.Tactic
open Cert.Kernel9Ideal Cert.Kernel9Ideal.Gen
open Cert.Conv (at2 at3 at2_val at3_val cov_block all_block cov_plane all_plane)

/-- The rows a tile reads: the 32 that precede it (zero before the first tile), its own, zeros. -/
def ext (i : grid0.Coords) (x0 : Vec Ideal S512x1024 .f32) (x1 : Vec Ideal S32x1024 .f32) (e q : ℕ) : EReal :=
  if e < 32 then (if (i 0).val = 0 then 0 else at2 x1 e q) else at2 x0 (e - 32) q

/-- What is written into the buffer of those rows. -/
def L15 (i : grid0.Coords) (x0 : Vec Ideal S512x1024 .f32) (x1 : Vec Ideal S32x1024 .f32) : List (View.Piece (Elt Ideal) S552x1024 .f32) :=
  [⟨Rect.unit (s := S552x1024) ![544, 0] S8x1024.size inb_S552x1024_S8x1024_544_0, k0_pay68 (F := Ideal)⟩,
    ⟨Rect.unit (s := S552x1024) ![32, 0] S512x1024.size inb_S552x1024_S512x1024_32_0, k0_pay67 x0⟩,
    ⟨Rect.unit (s := S552x1024) ![0, 0] S32x1024.size inb_S552x1024_S32x1024_0_0, k0_pay66 i x1⟩]

/-- What is written into the buffer of the shifted copies. -/
def L16 (v15 : View sig .tc .vmem S552x1024 .f32) (i : grid0.Coords) (x0 : Vec Ideal S512x1024 .f32) (x1 : Vec Ideal S32x1024 .f32) :
    List (View.Piece (Elt Ideal) S7x544x1024 .f32) :=
  [⟨Rect.unit (s := S7x544x1024) ![6, 0, 0] S1x544x1024.size inb_S7x544x1024_S1x544x1024_6_0_0, k0_pay75 (v15.readCov (L15 i x0 x1) (Rect.unit (s := S552x1024) ![7, 0] S544x1024.size inb_S552x1024_S544x1024_7_0).toLoadRect)⟩,
    ⟨Rect.unit (s := S7x544x1024) ![5, 0, 0] S1x544x1024.size inb_S7x544x1024_S1x544x1024_5_0_0, k0_pay74 (v15.readCov (L15 i x0 x1) (Rect.unit (s := S552x1024) ![6, 0] S544x1024.size inb_S552x1024_S544x1024_6_0).toLoadRect)⟩,
    ⟨Rect.unit (s := S7x544x1024) ![4, 0, 0] S1x544x1024.size inb_S7x544x1024_S1x544x1024_4_0_0, k0_pay73 (v15.readCov (L15 i x0 x1) (Rect.unit (s := S552x1024) ![5, 0] S544x1024.size inb_S552x1024_S544x1024_5_0).toLoadRect)⟩,
    ⟨Rect.unit (s := S7x544x1024) ![3, 0, 0] S1x544x1024.size inb_S7x544x1024_S1x544x1024_3_0_0, k0_pay72 (v15.readCov (L15 i x0 x1) (Rect.unit (s := S552x1024) ![4, 0] S544x1024.size inb_S552x1024_S544x1024_4_0).toLoadRect)⟩,
    ⟨Rect.unit (s := S7x544x1024) ![2, 0, 0] S1x544x1024.size inb_S7x544x1024_S1x544x1024_2_0_0, k0_pay71 (v15.readCov (L15 i x0 x1) (Rect.unit (s := S552x1024) ![3, 0] S544x1024.size inb_S552x1024_S544x1024_3_0).toLoadRect)⟩,
    ⟨Rect.unit (s := S7x544x1024) ![1, 0, 0] S1x544x1024.size inb_S7x544x1024_S1x544x1024_1_0_0, k0_pay70 (v15.readCov (L15 i x0 x1) (Rect.unit (s := S552x1024) ![2, 0] S544x1024.size inb_S552x1024_S544x1024_2_0).toLoadRect)⟩,
    ⟨Rect.unit (s := S7x544x1024) ![0, 0, 0] S1x544x1024.size inb_S7x544x1024_S1x544x1024_0_0_0, k0_pay69 (v15.readCov (L15 i x0 x1) (Rect.unit (s := S552x1024) ![1, 0] S544x1024.size inb_S552x1024_S544x1024_1_0).toLoadRect)⟩]

theorem first_sel (n : ℕ) (hn : n < 32) : Scalar.cmpi .eq (BitVec.ofNat 32 n) 0#32 = if n = 0 then 1#1 else 0#1 :=
  (by decide : ∀ n : Fin 32, Scalar.cmpi .eq (BitVec.ofNat 32 n.val) 0#32 = if n.val = 0 then 1#1 else 0#1) ⟨n, hn⟩

theorem own_at (x0 : Vec Ideal S512x1024 .f32) (e : Fin 512) (q : Fin 1024) : k0_pay67 x0 (ix2 e q) = x0 (ix2 e q) := by
  unfold k0_pay67; pointwise

theorem before_at (i : grid0.Coords) (x1 : Vec Ideal S32x1024 .f32) (e : Fin 32) (q : Fin 1024) :
    k0_pay66 i x1 (ix2 e q) = if (i 0).val = 0 then 0 else x1 (ix2 e q) := by
  unfold k0_pay66
  dsimp only
  rw [first_sel _ (i 0).isLt, shapeCast_self, shapeCast_self]
  by_cases h : (i 0).val = 0
  · rw [if_pos h, if_pos h, ValueIdx.select_one]
    pointwise
  · rw [if_neg h, if_neg h, ValueIdx.select_zero]

theorem zero_at (e : Fin 8) (q : Fin 1024) : k0_pay68 (F := Ideal) (ix2 e q) = 0 := by
  unfold k0_pay68; pointwise

theorem canon_L15 (i : grid0.Coords) (x0 : Vec Ideal S512x1024 .f32) (x1 : Vec Ideal S32x1024 .f32) (e : Fin 552) (q : Fin 1024) :
    View.canon (L15 i x0 x1) (ix2 e q) = ext i x0 x1 e.val q.val := by
  have he : e.val < 544 + 8 := e.isLt
  refine View.canon_eq_of_allAt _ _ _ ?_ ?_
  · exact cov_block (n := 8) he fun h => cov_block (n := 512) (by omega) fun h => cov_block (n := 32) (by omega) fun h => absurd h (Nat.not_lt_zero _)
  · refine all_block (n := 8) ?_ (all_block (n := 512) ?_ (all_block (n := 32) ?_ (View.allAt_nil _ _)))
    · intro e' h0
      rw [zero_at]
      unfold ext at2
      rw [if_neg (by omega), dif_neg (by omega)]
    · intro e' h0
      rw [own_at]
      unfold ext
      rw [if_neg (show ¬ e.val < 32 by omega), show e.val - 32 = e'.val by omega, at2_val]
    · intro e' h0
      rw [before_at]
      unfold ext
      have := e'.isLt
      rw [if_pos (show e.val < 32 by omega), show e.val = e'.val by omega, at2_val]

/-- A shifted copy. -/
theorem shift_at (v15 : View sig .tc .vmem S552x1024 .f32) (i : grid0.Coords) (x0 : Vec Ideal S512x1024 .f32) (x1 : Vec Ideal S32x1024 .f32)
    (n : ℕ) (hn : n < 7) (inb : ∀ a, (![n + 1, 0] : Fin 2 → ℕ) a + S544x1024.size a ≤ S552x1024.size a) (e : Fin 544) (q : Fin 1024) :
    (v15.readCov (L15 i x0 x1) (Rect.unit (s := S552x1024) ![n + 1, 0] S544x1024.size inb).toLoadRect) (ix2 e q)
      = ext i x0 x1 (n + 1 + e.val) q.val := by
  rw [View.readCov_eq_canon']
  refine Eq.trans (congrArg (View.canon (L15 i x0 x1)) ?_) (canon_L15 i x0 x1 ⟨n + 1 + e.val, by have := e.isLt; omega⟩ q)
  funext a
  apply Fin.ext
  fin_cases a
  · show n + 1 + 1 * e.val = n + 1 + e.val; omega
  · show 0 + 1 * q.val = q.val; omega

theorem canon_L16 (v15 : View sig .tc .vmem S552x1024 .f32) (i : grid0.Coords) (x0 : Vec Ideal S512x1024 .f32) (x1 : Vec Ideal S32x1024 .f32)
    (s : Fin 7) (e : Fin 544) (q : Fin 1024) :
    View.canon (L16 v15 i x0 x1) (ix3 s e q) = ext i x0 x1 (s.val + 1 + e.val) q.val := by
  refine View.canon_eq_of_allAt _ _ _ ?_ ?_
  · unfold L16
    have h : s.val < 7 := s.isLt
    iterate 7 refine cov_plane h (fun h => ?_)
    exact absurd h (Nat.not_lt_zero _)
  · unfold L16
    simp only [k0_pay69, k0_pay70, k0_pay71, k0_pay72, k0_pay73, k0_pay74, k0_pay75]
    iterate 7
      refine all_plane (fun h => ?_) ?_
      · rw [h]; exact shift_at v15 i x0 x1 _ (by decide) _ e q
    exact View.allAt_nil _ _

/-- The convolution of a tile's rows: the sum over the taps and the bias. -/
def cOf (i : grid0.Coords) (x0 : Vec Ideal S512x1024 .f32) (x1 : Vec Ideal S32x1024 .f32) (x3 : Vec Ideal S32x8x1024 .f32) (x4 : Vec Ideal S1x1024 .f32) : Vec Ideal S512x1024 .f32 :=
  fun y => (∑ t ∈ Finset.range 31, at3 x3 t ((y 0).val % 8) (y 1).val * ext i x0 x1 ((y 0).val + (2 + t)) (y 1).val) + at2 x4 0 (y 1).val

theorem conv_eq (𝒱 : Variants) (c : Dev nD) (bd : Option 𝒱.V) (i : grid0.Coords)
    (arg1 : Memref sig .tc .vmem S512x1024 .f32) (harg1 : arg1.IsWhole) (arg2 : Memref sig .tc .vmem S32x1024 .f32) (harg2 : arg2.IsWhole) (arg3 : Memref sig .tc .vmem S512x1024 .f32) (harg3 : arg3.IsWhole) (arg4 : Memref sig .tc .vmem S32x8x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S552x1024 .f32) (harg15 : arg15.IsWhole) (arg16 : Memref sig .tc .vmem S7x544x1024 .f32) (harg16 : arg16.IsWhole)
    (v25 : Vec Ideal S544x1024 .f32) (x0 : Vec Ideal S512x1024 .f32) (x1 : Vec Ideal S32x1024 .f32) (x3 : Vec Ideal S32x8x1024 .f32) (x4 : Vec Ideal S1x1024 .f32) :
    View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v25 (harg4.unread x3) (harg5.unread x4)
      (arg15.view.writes (Elt Ideal) arg15.view.junk (L15 i x0 x1)) (arg16.view.writes (Elt Ideal) arg16.view.junk (L16 arg15.view i x0 x1))
      (Scf.trips k0_t1_loop.lb k0_t1_loop.ub k0_t1_loop.st))
      = cOf i x0 x1 x3 x4 := by
  funext y
  obtain ⟨r, j, rfl⟩ : ∃ (r : Fin 512) (j : Fin 1024), y = ix2 r j := ⟨y 0, y 1, by idx_ext⟩
  exact loop_at 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v25 _ _ _ _ (W := at3 x3) (B := at2 x4 0) (D := ext i x0 x1)
    (fun k b q => by rw [harg4.read_unread, at3_val])
    (fun q => by rw [harg5.read_unread]; exact (at2_val x4 0 q).symm)
    (fun e q => by rw [View.read_writes_junk_apply_eq_canon, canon_L15])
    (fun s e q => by rw [View.read_writes_junk_apply_eq_canon, canon_L16]) r j

end Cert.Tail
-- ==== Proof.TailPay.lean ====
/-
  The forward convolution: what follows it in a tile, entry by entry.
-/
module

public import proofs.«01_k».proof.Proof.Rows
public import proofs.«01_k».proof.Proof.Gen.Kernel9Ideal.Loops
public import Idealize.ShloMosaic.Lib.Pointwise
public import Idealize.ShloMosaic.Lib.ValueIdx

@[expose] public section

set_option maxRecDepth 16384

noncomputable section

namespace Cert.Tail

open Idealize.ShloMosaic Idealize.ShloMosaic.TcCoe Idealize.ShloMosaic.Tactic
open Cert.Kernel9Ideal Cert.Kernel9Ideal.Gen Cert.Rows

/-- A row of a tile, and a vector of weights. -/
def row (x : Vec Ideal S512x1024 .f32) (r : Fin 512) : Fin 1024 → EReal := fun k => x (ix2 r k)
def vec (x : Vec Ideal S1x1024 .f32) : Fin 1024 → EReal := fun k => x (ix2 0 k)

/-- A row, normalized, scaled and shifted. -/
def nrm (z g b : Fin 1024 → EReal) (k : Fin 1024) : EReal := hat z k * g k + b k

theorem y_at (v85 : FVec Ideal S512x1024 .f32) (v88 : FVec Ideal S1x1024 .f32) (v89 : Vec Ideal S1x1024 .f32) (r : Fin 512) (q : Fin 1024) :
    k0_pay1 v85 v88 v89 (ix2 r q) = nrm (row v85 r) (vec v88) (vec v89) q := by
  unfold k0_pay1
  pointwise
  simp only [ofBits_1024, ofBits_eps]
  rfl

theorem z_at (v47 : FVec Ideal S512x1024 .f32) (v49 : FVec Ideal S1x1024 .f32) (v50 : Vec Ideal S1x1024 .f32) (v75 : Vec Ideal S1024x1024 .bf16)
    (v78 : Vec Ideal S1x1024 .f32) (v82 : Vec Ideal S512x1024 .f32) (r : Fin 512) (q : Fin 1024) :
    k0_pay79 v47 v49 v50 v75 v78 v82 (ix2 r q) = Ideal.ofBits .f32 0x3FB504F3#32 * v82 (ix2 r q)
      + ((∑ k : Fin 1024, silu (nrm (row v47 r) (vec v49) (vec v50) k) * v75 (ix2 k q)) + v78 (ix2 0 q)) := by
  unfold k0_pay79
  pointwise
  simp only [ofBits_1024, ofBits_eps]
  rfl

theorem whole_at (x : Vec Ideal S512x1024 .f32) : k0_pay77 x = x := by
  unfold k0_pay77; exact shapeCast_self _ _

theorem scale_at (x : Vec Ideal S1x1024 .f32) : k0_pay78 x = x := by
  unfold k0_pay78; exact shapeCast_self _ _

theorem scale'_at (x : Vec Ideal S1x1024 .f32) : k0_pay80 x = x := by
  unfold k0_pay80; exact shapeCast_self _ _

end Cert.Tail
-- ==== Proof.TailRun.lean ====
/-
  The forward convolution: what a tile leaves.
-/
module

public import proofs.«01_k».proof.Proof.TailBody
public import proofs.«01_k».proof.Proof.TailPay
public import proofs.«01_k».proof.Proof.Gen.Kernel9Ideal.Frame
import Idealize.ShloMosaic.Lib.Pipeline.ValueKit
import Idealize.ShloMosaic.Lib.Pipeline.ReadBack

@[expose] public section

set_option maxRecDepth 16384

noncomputable section

namespace Cert.Tail

open Idealize.ShloMosaic Idealize.ShloMosaic.TcCoe Idealize.ShloMosaic.Tactic
open Cert.Kernel9Ideal Cert.Kernel9Ideal.Gen
open Cert.Conv (hz)

theorem readCov_whole (v : View sig .tc .vmem S512x1024 .f32) (L : List (View.Piece (Elt Ideal) S512x1024 .f32))
    (inb : ∀ d, (![0, 0] : Fin 2 → ℕ) d + S512x1024.size d ≤ S512x1024.size d) :
    v.readCov L (Rect.unit (s := S512x1024) ![0, 0] S512x1024.size inb).toLoadRect = View.canon L := by
  rw [View.readCov_eq_canon']
  funext y
  refine congrArg (View.canon L) ?_
  funext d
  apply Fin.ext
  fin_cases d
  · show 0 + 1 * (y 0).val = (y 0).val; omega
  · show 0 + 1 * (y 1).val = (y 1).val; omega

theorem z_congr {a b : Vec Ideal S512x1024 .f32} (h : a = b) (p q s : Vec Ideal S1x1024 .f32) (w : Vec Ideal S1024x1024 .bf16) (x : Vec Ideal S512x1024 .f32) :
    k0_pay79 a p q w s x = k0_pay79 b p q w s x := by rw [h]

theorem y_congr {a b : Vec Ideal S512x1024 .f32} (h : a = b) (p q : Vec Ideal S1x1024 .f32) : k0_pay1 a p q = k0_pay1 b p q := by rw [h]

section Words
variable (c : Dev nD) (i : grid0.Coords)
  (arg1 : Memref sig .tc .vmem S512x1024 .f32) (harg1 : arg1.IsWhole) (arg2 : Memref sig .tc .vmem S32x1024 .f32) (harg2 : arg2.IsWhole) (arg3 : Memref sig .tc .vmem S512x1024 .f32) (harg3 : arg3.IsWhole) (arg4 : Memref sig .tc .vmem S32x8x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S552x1024 .f32) (harg15 : arg15.IsWhole) (arg16 : Memref sig .tc .vmem S7x544x1024 .f32) (harg16 : arg16.IsWhole)
  (x0 : Vec Ideal S512x1024 .f32) (x1 : Vec Ideal S32x1024 .f32)

theorem rows_A : kernelRun0_A.sl.HS0_3 (F := Ideal) c i arg1 harg1 arg2 harg2 x0 x1 = L15 i x0 x1 := by
  unfold kernelRun0_A.sl.HS0_3 L15
  simp only [View.readAt_eq_ld, Memref.IsWhole.read_unread, View.ld_unit_zero (S := S32x1024) hz, View.ld_unit_zero (S := S512x1024) hz]

theorem shifts_A : kernelRun0_A.sl.HS1_7 (F := Ideal) c i arg1 harg1 arg2 harg2 arg15 x0 x1 = L16 arg15.view i x0 x1 := by
  unfold kernelRun0_A.sl.HS1_7 L16
  unfold kernelRun0_A.sl.v17 kernelRun0_A.sl.v21 kernelRun0_A.sl.v25 kernelRun0_A.sl.v29 kernelRun0_A.sl.v33 kernelRun0_A.sl.v37 kernelRun0_A.sl.v41
  rw [rows_A]

end Words

variable (m : (ℓ : Loc nD τ sig) → Buf (Elt Ideal) ℓ) (c : Dev nD) (t : Fin cfg0.N)

/-- The convolution of a tile's rows, and the residual sum. -/
def cT : Vec Ideal S512x1024 .f32 := cOf (grid0.coords t) (iblk m c 0 t) (iblk m c 1 t) (iblk m c 3 t) (iblk m c 4 t)
def zT : Vec Ideal S512x1024 .f32 := k0_pay79 (cT m c t) (iblk m c 5 t) (iblk m c 6 t) (iblk m c 7 t) (iblk m c 8 t) (iblk m c 2 t)

theorem outs_at : (outsAt0 m c t).1 = cT m c t ∧ (outsAt0 m c t).2.1 = zT m c t
    ∧ (outsAt0 m c t).2.2 = k0_pay1 (zT m c t) (iblk m c 9 t) (iblk m c 10 t) := by
  have hc := fun v25 => conv_eq Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) v25 (iblk m c 0 t) (iblk m c 1 t) (iblk m c 3 t) (iblk m c 4 t)
  unfold outsAt0
  dsimp only
  refine ⟨(View.read_writes_eq_canon _ _ _ (by intro y; apply cover0_A_11)).trans ?_,
    (View.read_writes_eq_canon _ _ _ (by intro y; apply cover0_A_12)).trans ?_,
    (View.read_writes_eq_canon _ _ _ (by intro y; apply cover0_A_13)).trans ?_⟩
  · unfold kernelRun0_A
    dsimp only
    simp only [rows_A, shifts_A]
    exact hc _
  · unfold kernelRun0_A
    dsimp only
    unfold kernelRun0_A.sl.r kernelRun0_A.sl.r_1
    rw [View.canon_unit_zero hz]
    simp only [rows_A, shifts_A, View.readAt_eq_ld, Memref.IsWhole.read_unread, View.ld_unit_zero (S := S512x1024) hz, View.ld_unit_zero (S := S1x1024) hz, View.ld_unit_zero (S := S1024x1024) hz, shapeCast_self]
    rw [readCov_whole, whole_at, scale_at]
    exact z_congr (hc _) _ _ _ _ _
  · unfold kernelRun0_A
    dsimp only
    unfold kernelRun0_A.sl.r_2 kernelRun0_A.sl.r_3 kernelRun0_A.sl.r_4 kernelRun0_A.sl.r kernelRun0_A.sl.r_1
    rw [View.canon_unit_zero hz]
    simp only [rows_A, shifts_A, View.readAt_eq_ld, Memref.IsWhole.read_unread, View.ld_unit_zero (S := S512x1024) hz, View.ld_unit_zero (S := S1x1024) hz, View.ld_unit_zero (S := S1024x1024) hz, shapeCast_self]
    rw [readCov_whole, whole_at, scale_at, scale'_at]
    exact y_congr (z_congr (hc _) _ _ _ _ _) _ _

end Cert.Tail
-- ==== Proof.TailHost.lean ====
/-
  The forward convolution: what the host prepares and the blocks of a tile.
-/
module

public import proofs.«01_k».proof.Proof.TailRun
import Idealize.ShloMosaic.Lib.StableHlo.ReadAt

@[expose] public section

set_option maxRecDepth 16384

noncomputable section

namespace Cert.Tail

open Idealize.ShloMosaic Idealize.ShloMosaic.TcCoe Idealize.ShloMosaic.Tactic
open Cert.Kernel9Ideal Cert.Kernel9Ideal.Gen
open Cert.Conv (at2 at2_val at3 at3_val)

variable (m : (ℓ : Loc nD τ sig) → Buf (Elt Ideal) ℓ) (c : Dev nD)

abbrev arr0 : S16384x1024.Idx → EReal := m ((c : Thread nD τ).loc main_arg0)
abbrev arr1 : S1024x2048.Idx → EReal := m ((c : Thread nD τ).loc main_arg1)
abbrev arr2 : S2048.Idx → EReal := m ((c : Thread nD τ).loc main_arg2)
abbrev arr3 : S31x1024.Idx → EReal := m ((c : Thread nD τ).loc main_arg3)
abbrev arr4 : S1024.Idx → EReal := m ((c : Thread nD τ).loc main_arg4)
abbrev arr5 : S1024.Idx → EReal := m ((c : Thread nD τ).loc main_arg5)
abbrev arr6 : S1024.Idx → EReal := m ((c : Thread nD τ).loc main_arg6)
abbrev arr7 : S1024x1024.Idx → EReal := m ((c : Thread nD τ).loc main_arg7)
abbrev arr8 : S1024.Idx → EReal := m ((c : Thread nD τ).loc main_arg8)
abbrev arr9 : S1024.Idx → EReal := m ((c : Thread nD τ).loc main_arg9)
abbrev arr10 : S1024.Idx → EReal := m ((c : Thread nD τ).loc main_arg10)

def lo (j : Fin 1024) : Fin 2048 := ⟨j.val, by omega⟩
def hi (j : Fin 1024) : Fin 2048 := ⟨1024 + j.val, by omega⟩

/-- The pointwise layer's result, and the gated rows. -/
def pre (ρ : Fin 16384) (p : Fin 2048) : EReal := (∑ k : Fin 1024, arr0 m c (ix2 ρ k) * arr1 m c (ix2 k p)) + arr2 m c (ix1 p)
def gated (ρ : Fin 16384) (j : Fin 1024) : EReal := pre m c ρ (lo j) * Ideal.logistic (pre m c ρ (hi j))

theorem u_host (ρ : Fin 16384) (j : Fin 1024) : (V m c main_v12 : S16384x1024.Idx → EReal) (ix2 ρ j) = gated m c ρ j := by
  unfold V; after_reads_at
  rfl

theorem taps_host (k : Fin 32) (b : Fin 8) (j : Fin 1024) (h : k.val < 31) :
    (V m c main_v15 : S32x8x1024.Idx → EReal) (ix3 k b j) = arr3 m c (ix2 ⟨k.val, h⟩ j) := by
  unfold V; after_reads_at
  exact dif_pos h

theorem w_host (k j : Fin 1024) : (V m c main_v19 : S1024x1024.Idx → EReal) (ix2 k j) = arr7 m c (ix2 k j) := by
  unfold V; after_reads_at

theorem b4_host (j : Fin 1024) : (V m c main_v16 : S1x1024.Idx → EReal) (ix2 0 j) = arr4 m c (ix1 j) := by
  unfold V; after_reads_at

theorem g5_host (j : Fin 1024) : (V m c main_v17 : S1x1024.Idx → EReal) (ix2 0 j) = arr5 m c (ix1 j) := by
  unfold V; after_reads_at

theorem h6_host (j : Fin 1024) : (V m c main_v18 : S1x1024.Idx → EReal) (ix2 0 j) = arr6 m c (ix1 j) := by
  unfold V; after_reads_at

theorem b8_host (j : Fin 1024) : (V m c main_v20 : S1x1024.Idx → EReal) (ix2 0 j) = arr8 m c (ix1 j) := by
  unfold V; after_reads_at

theorem g9_host (j : Fin 1024) : (V m c main_v21 : S1x1024.Idx → EReal) (ix2 0 j) = arr9 m c (ix1 j) := by
  unfold V; after_reads_at

theorem h10_host (j : Fin 1024) : (V m c main_v22 : S1x1024.Idx → EReal) (ix2 0 j) = arr10 m c (ix1 j) := by
  unfold V; after_reads_at

/-! ## The blocks -/

theorem idx_rows (t : Fin cfg0.N) : (grid0.coords t 0).val = t.val ∧ (win0_0.index t 0 = t.val ∧ win0_0.index t 1 = 0)
    ∧ win0_2.index t 0 = t.val ∧ win0_2.index t 1 = 0 := by
  revert t; decide +kernel

theorem idx_before (t : Fin cfg0.N) : win0_1.index t 1 = 0 ∧ (0 < t.val → win0_1.index t 0 = t.val * 16 - 1) := by
  revert t; decide +kernel

theorem idx_whole (t : Fin cfg0.N) : (win0_3.index t 0 = 0 ∧ win0_3.index t 1 = 0 ∧ win0_3.index t 2 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0)
    ∧ win0_10.index t 0 = 0 ∧ win0_10.index t 1 = 0 := by
  revert t; decide +kernel

section Blk
variable (t : Fin cfg0.N)

theorem x_blk (r : Fin 512) (j : Fin 1024) (h : t.val * 512 + r < 16384) :
    (iblk m c 2 t : Vec Ideal S512x1024 .f32) (ix2 r j) = arr0 m c (ix2 ⟨t.val * 512 + r, h⟩ j) := by
  have := idx_rows t
  blk_ext [iblk, V, this]

theorem u_blk (r : Fin 512) (j : Fin 1024) (h : t.val * 512 + r < 16384) :
    (iblk m c 0 t : Vec Ideal S512x1024 .f32) (ix2 r j) = gated m c ⟨t.val * 512 + r, h⟩ j := by
  have := idx_rows t
  refine Eq.trans ?_ (u_host m c _ j)
  blk_ext [iblk, this]

theorem n_blk (e : Fin 32) (j : Fin 1024) (ht : 0 < t.val) (h' : t.val * 512 + e - 32 < 16384) :
    (iblk m c 1 t : Vec Ideal S32x1024 .f32) (ix2 e j) = gated m c ⟨t.val * 512 + e - 32, h'⟩ j := by
  have h1 := (idx_before t).1
  have h0 := (idx_before t).2 ht
  refine Eq.trans ?_ (u_host m c _ j)
  blk_ext [iblk, h0, h1]

theorem taps_blk (k : Fin 32) (b : Fin 8) (j : Fin 1024) (hk : k.val < 31) :
    (iblk m c 3 t : Vec Ideal S32x8x1024 .f32) (ix3 k b j) = arr3 m c (ix2 ⟨k.val, hk⟩ j) := by
  have := idx_whole t
  refine Eq.trans ?_ (taps_host m c k b j hk)
  blk_ext [iblk, this]

theorem w_blk (k j : Fin 1024) : (iblk m c 7 t : Vec Ideal S1024x1024 .bf16) (ix2 k j) = arr7 m c (ix2 k j) := by
  have := idx_whole t
  refine Eq.trans ?_ (w_host m c k j)
  blk_ext [iblk, this]

theorem b4_blk (j : Fin 1024) : (iblk m c 4 t : Vec Ideal S1x1024 .f32) (ix2 0 j) = arr4 m c (ix1 j) := by
  have := idx_whole t
  refine Eq.trans ?_ (b4_host m c j)
  blk_ext [iblk, this]

theorem g5_blk (j : Fin 1024) : (iblk m c 5 t : Vec Ideal S1x1024 .f32) (ix2 0 j) = arr5 m c (ix1 j) := by
  have := idx_whole t
  refine Eq.trans ?_ (g5_host m c j)
  blk_ext [iblk, this]

theorem h6_blk (j : Fin 1024) : (iblk m c 6 t : Vec Ideal S1x1024 .f32) (ix2 0 j) = arr6 m c (ix1 j) := by
  have := idx_whole t
  refine Eq.trans ?_ (h6_host m c j)
  blk_ext [iblk, this]

theorem b8_blk (j : Fin 1024) : (iblk m c 8 t : Vec Ideal S1x1024 .f32) (ix2 0 j) = arr8 m c (ix1 j) := by
  have := idx_whole t
  refine Eq.trans ?_ (b8_host m c j)
  blk_ext [iblk, this]

theorem g9_blk (j : Fin 1024) : (iblk m c 9 t : Vec Ideal S1x1024 .f32) (ix2 0 j) = arr9 m c (ix1 j) := by
  have := idx_whole t
  refine Eq.trans ?_ (g9_host m c j)
  blk_ext [iblk, this]

theorem h10_blk (j : Fin 1024) : (iblk m c 10 t : Vec Ideal S1x1024 .f32) (ix2 0 j) = arr10 m c (ix1 j) := by
  have := idx_whole t
  refine Eq.trans ?_ (h10_host m c j)
  blk_ext [iblk, this]

/-! ## The rows of the three results -/

/-- A row of the gated rows after the thirty rows of zeros before them. -/
def late (e : ℕ) (j : Fin 1024) : EReal := if h : 30 ≤ e ∧ e - 30 < 16384 then gated m c ⟨e - 30, h.2⟩ j else 0

def cR (ρ : Fin 16384) (j : Fin 1024) : EReal := (∑ k ∈ Finset.range 31, at2 (arr3 m c) k j.val * late m c (ρ.val + k) j) + arr4 m c (ix1 j)
def zR (ρ : Fin 16384) (j : Fin 1024) : EReal := Ideal.ofBits .f32 0x3FB504F3#32 * arr0 m c (ix2 ρ j)
  + ((∑ k : Fin 1024, Cert.Rows.silu (nrm (cR m c ρ) (fun k => arr5 m c (ix1 k)) (fun k => arr6 m c (ix1 k)) k) * arr7 m c (ix2 k j)) + arr8 m c (ix1 j))
def yR (ρ : Fin 16384) (j : Fin 1024) : EReal := nrm (zR m c ρ) (fun k => arr9 m c (ix1 k)) (fun k => arr10 m c (ix1 k)) j

theorem ext_at (r : Fin 512) (j : Fin 1024) (k : ℕ) (hk : k < 31) (ρ : Fin 16384) (hρ : ρ.val = t.val * 512 + r.val) :
    ext (grid0.coords t) (iblk m c 0 t) (iblk m c 1 t) (r.val + (2 + k)) j.val = late m c (ρ.val + k) j := by
  have hc := (idx_rows t).1
  have hl : ρ.val < 16384 := ρ.isLt
  have hr : r.val < 512 := r.isLt
  unfold ext late
  by_cases h : r.val + (2 + k) < 32
  · rw [if_pos h]
    by_cases h0 : (grid0.coords t 0).val = 0
    · rw [if_pos h0, dif_neg (by omega)]
    · rw [if_neg h0, dif_pos (by omega)]
      refine (at2_val _ ⟨r.val + (2 + k), h⟩ j).trans ?_
      refine (n_blk m c t _ j (by omega) (by dsimp only; omega)).trans ?_
      exact congrArg (gated m c · j) (Fin.ext (by dsimp only; omega))
  · rw [if_neg h, dif_pos (by omega)]
    refine (at2_val _ ⟨r.val + (2 + k) - 32, by omega⟩ j).trans ?_
    refine (u_blk m c t _ j (by dsimp only; omega)).trans ?_
    exact congrArg (gated m c · j) (Fin.ext (by dsimp only; omega))

theorem c_row (r : Fin 512) (j : Fin 1024) (ρ : Fin 16384) (hρ : ρ.val = t.val * 512 + r.val) : cT m c t (ix2 r j) = cR m c ρ j := by
  unfold cT cOf cR
  refine congrArg₂ (· + ·) (Finset.sum_congr rfl fun k hk => ?_) ((at2_val (iblk m c 4 t : Vec Ideal S1x1024 .f32) 0 j).trans (b4_blk m c t j))
  have hk : k < 31 := Finset.mem_range.mp hk
  refine congrArg₂ (· * ·) ?_ (ext_at m c t r j k hk ρ hρ)
  refine (at3_val (iblk m c 3 t : Vec Ideal S32x8x1024 .f32) ⟨k, by omega⟩ ⟨r.val % 8, by omega⟩ j).trans ?_
  exact (taps_blk m c t _ _ j hk).trans (at2_val (arr3 m c) ⟨k, hk⟩ j).symm

theorem z_row (r : Fin 512) (j : Fin 1024) (ρ : Fin 16384) (hρ : ρ.val = t.val * 512 + r.val) : zT m c t (ix2 r j) = zR m c ρ j := by
  unfold zT zR
  rw [z_at]
  have e1 : row (cT m c t) r = cR m c ρ := funext fun k => c_row m c t r k ρ hρ
  have e2 : vec (iblk m c 5 t) = fun k => arr5 m c (ix1 k) := funext fun k => g5_blk m c t k
  have e3 : vec (iblk m c 6 t) = fun k => arr6 m c (ix1 k) := funext fun k => h6_blk m c t k
  rw [e1, e2, e3]
  refine congrArg₂ (· + ·) (congrArg (_ * ·) ((x_blk m c t r j (by rw [← hρ]; exact ρ.isLt)).trans ?_)) (congrArg₂ (· + ·) (Finset.sum_congr rfl fun k _ => congrArg (_ * ·) (w_blk m c t k j)) (b8_blk m c t j))
  exact congrArg (fun ρ => arr0 m c (ix2 ρ j)) (Fin.ext hρ.symm)

theorem y_row (r : Fin 512) (j : Fin 1024) (ρ : Fin 16384) (hρ : ρ.val = t.val * 512 + r.val) :
    k0_pay1 (zT m c t) (iblk m c 9 t) (iblk m c 10 t) (ix2 r j) = yR m c ρ j := by
  unfold yR
  rw [y_at]
  have e1 : row (zT m c t) r = zR m c ρ := funext fun k => z_row m c t r k ρ hρ
  have e2 : vec (iblk m c 9 t) = fun k => arr9 m c (ix1 k) := funext fun k => g9_blk m c t k
  have e3 : vec (iblk m c 10 t) = fun k => arr10 m c (ix1 k) := funext fun k => h10_blk m c t k
  rw [e1, e2, e3]

end Blk

end Cert.Tail
-- ==== Proof.TailRef.lean ====
/-
  The forward convolution: the stages of the reference, entry by entry.
-/
module

public import proofs.«01_k».proof.Proof.ConvRef
public import proofs.«01_k».proof.Proof.HeadRef
public import proofs.«01_k».proof.Proof.TailPay
public import proofs.«01_k».proof.Proof.Gen.Reference9Ideal.Read
import Idealize.ShloMosaic.Lib.Pointwise
import Idealize.ShloMosaic.Lib.ValueIdx

@[expose] public section

set_option maxRecDepth 16384

noncomputable section

namespace Cert.Tail.Ref

open Idealize.ShloMosaic Idealize.ShloMosaic.TcCoe Idealize.ShloMosaic.Tactic
open Cert.Reference9Ideal Cert.Reference9Ideal.Gen Cert.Reference9Ideal.Read
open Cert.Rows (silu hat)
open Cert.Conv (at2 at2_val)

variable (x0 : S16384x1024.Idx → EReal) (x1 : S1024x2048.Idx → EReal) (x2 : S2048.Idx → EReal) (x3 : S31x1024.Idx → EReal)
  (x4 x5 x6 x8 x9 x10 : S1024.Idx → EReal) (x7 : S1024x1024.Idx → EReal)

/-! ## The convolution -/

theorem v14_at (e : Fin 16414) (j : Fin 1024) : val_main_v14 (F := Ideal) x0 x1 x2 (ix2 e j) = Cert.Conv.Ref.late x0 x1 x2 e j :=
  Cert.Conv.Ref.v17_at x0 x1 x2 e j

/-- The product tap `k` gives. -/
def tap (k : Fin 31) : S16384x1024.Idx → EReal :=
  mulf (F := Ideal) (φ := .f32) (broadcastInDim S16384x1024 ![0, 1] bcast_S1x1024_S16384x1024_0_1 (broadcastInDim S1x1024 ![1] bcast_S1024_S1x1024_1
    (shapeCast S1024 (extractStridedSlice S1x1024 ![k.val, 0] x3 (Cert.Conv.Ref.row_fits k)) shapeCasts_S1x1024_S1024)))
    (extractStridedSlice S16384x1024 ![k.val, 0] (val_main_v14 (F := Ideal) x0 x1 x2) (Cert.Conv.Ref.rows_fit k))

theorem tap_at (k : Fin 31) (ρ : Fin 16384) (j : Fin 1024) :
    tap x0 x1 x2 x3 k (ix2 ρ j) = at2 x3 k.val j.val * Cert.Conv.Ref.late x0 x1 x2 (ρ.val + k.val) j := by
  have hk : k.val < 31 := k.isLt
  have hρ : ρ.val < 16384 := ρ.isLt
  rw [at2_val x3 k j]
  unfold tap
  pointwise
  refine congrArg (x3 (ix2 k j) * ·) ?_
  refine Eq.trans ?_ (v14_at x0 x1 x2 ⟨ρ.val + k.val, by omega⟩ j)
  refine congrArg (val_main_v14 (F := Ideal) x0 x1 x2) ?_
  idx_ext

/-- The taps added in the reference's order, from zero. -/
def taps (f : Fin 31 → S16384x1024.Idx → EReal) : (n : ℕ) → n ≤ 31 → S16384x1024.Idx → EReal
  | 0, _ => val_main_v21 (F := Ideal)
  | n + 1, h => addf (F := Ideal) (φ := .f32) (taps f n (Nat.le_of_succ_le h)) (f ⟨n, h⟩)

theorem taps_at (f : Fin 31 → S16384x1024.Idx → EReal) (g : ℕ → EReal) (ρ : Fin 16384) (j : Fin 1024) (hf : ∀ k : Fin 31, f k (ix2 ρ j) = g k.val) :
    ∀ n h, taps f n h (ix2 ρ j) = ∑ k ∈ Finset.range n, g k
  | 0, _ => by
    rw [Finset.sum_range_zero]
    unfold taps val_main_v21 val_main_cst_2
    pointwise
  | n + 1, h => by
    rw [Finset.sum_range_succ, ← taps_at f g ρ j hf n (Nat.le_of_succ_le h), ← hf ⟨n, h⟩]
    rfl

theorem v232_eq : val_main_v232 (F := Ideal) x0 x1 x2 x3 = taps (tap x0 x1 x2 x3) 31 (le_refl _) := rfl

def cR (ρ : Fin 16384) (j : Fin 1024) : EReal :=
  (∑ k ∈ Finset.range 31, at2 x3 k j.val * Cert.Conv.Ref.late x0 x1 x2 (ρ.val + k) j) + x4 (ix1 j)

theorem c_at (ρ : Fin 16384) (j : Fin 1024) : val_main_v235 (F := Ideal) x0 x1 x2 x3 x4 (ix2 ρ j) = cR x0 x1 x2 x3 x4 ρ j := by
  unfold val_main_v235 val_main_v234 val_main_v233
  pointwise
  rw [v232_eq]
  exact congrArg (· + x4 (ix1 j)) (taps_at _ (fun k => at2 x3 k j.val * Cert.Conv.Ref.late x0 x1 x2 (ρ.val + k) j) ρ j (fun k => tap_at x0 x1 x2 x3 k ρ j) 31 _)

/-! ## The normalizations -/

/-- The normalization both halves of the reference run, on any rows. -/
theorem norm_at (z : S16384x1024.Idx → EReal) (g b : S1024.Idx → EReal) (ρ : Fin 16384) (j : Fin 1024) :
    Cert.ReferenceIdeal.Read.val_main_v28 (F := Ideal) z g b (ix2 ρ j) = nrm (fun k => z (ix2 ρ k)) (fun k => g (ix1 k)) (fun k => b (ix1 k)) j :=
  Cert.Head.Ref.v28_at z g b ρ j

theorem v261_eq : val_main_v261 (F := Ideal) x0 x1 x2 x3 x4 x5 x6
    = Cert.ReferenceIdeal.Read.val_main_v28 (F := Ideal) (val_main_v235 (F := Ideal) x0 x1 x2 x3 x4) x5 x6 := rfl

theorem v261_at (ρ : Fin 16384) (j : Fin 1024) : val_main_v261 (F := Ideal) x0 x1 x2 x3 x4 x5 x6 (ix2 ρ j)
    = nrm (cR x0 x1 x2 x3 x4 ρ) (fun k => x5 (ix1 k)) (fun k => x6 (ix1 k)) j := by
  rw [v261_eq, norm_at]
  exact congrArg (fun z => nrm z _ _ j) (funext fun k => c_at x0 x1 x2 x3 x4 ρ k)

theorem v262_at (ρ : Fin 16384) (j : Fin 1024) : val_main_v262 (F := Ideal) x0 x1 x2 x3 x4 x5 x6 (ix2 ρ j)
    = silu (nrm (cR x0 x1 x2 x3 x4 ρ) (fun k => x5 (ix1 k)) (fun k => x6 (ix1 k)) j) := by
  unfold val_main_v262 val_main_call0_v5 val_main_call0_v4 val_main_call0_v3 val_main_call0_v2 val_main_call0_v1 val_main_call0_v0
    val_main_call0_cst val_main_call0_cst_0
  pointwise
  rw [v261_at]; rfl

def zR (ρ : Fin 16384) (j : Fin 1024) : EReal := Ideal.ofBits .f32 0x3FB504F3#32 * x0 (ix2 ρ j)
  + ((∑ k : Fin 1024, silu (nrm (cR x0 x1 x2 x3 x4 ρ) (fun k => x5 (ix1 k)) (fun k => x6 (ix1 k)) k) * x7 (ix2 k j)) + x8 (ix1 j))

theorem z_ref (ρ : Fin 16384) (j : Fin 1024) : val_main_v267 (F := Ideal) x0 x1 x2 x3 x4 x5 x6 x7 x8 (ix2 ρ j) = zR x0 x1 x2 x3 x4 x5 x6 x8 x7 ρ j := by
  unfold val_main_v267 val_main_v266 val_main_v265 val_main_v264 val_main_v263 val_main_v237 val_main_v236 val_main_cst_3 zR
  pointwise
  simp only [v262_at]

theorem v291_eq : val_main_v291 (F := Ideal) x0 x1 x2 x3 x4 x5 x6 x7 x8 x9 x10
    = Cert.ReferenceIdeal.Read.val_main_v28 (F := Ideal) (val_main_v267 (F := Ideal) x0 x1 x2 x3 x4 x5 x6 x7 x8) x9 x10 := rfl

theorem y_ref (ρ : Fin 16384) (j : Fin 1024) : val_main_v291 (F := Ideal) x0 x1 x2 x3 x4 x5 x6 x7 x8 x9 x10 (ix2 ρ j)
    = nrm (zR x0 x1 x2 x3 x4 x5 x6 x8 x7 ρ) (fun k => x9 (ix1 k)) (fun k => x10 (ix1 k)) j := by
  rw [v291_eq, norm_at]
  exact congrArg (fun z => nrm z _ _ j) (funext fun k => z_ref x0 x1 x2 x3 x4 x5 x6 x8 x7 ρ k)

end Cert.Tail.Ref
-- ==== Proof.Tail.lean ====
/-
  The forward convolution: its result arrays and the claims.
-/
module

public import proofs.«01_k».proof.Defs
public import proofs.«01_k».proof.Proof.TailHost
public import proofs.«01_k».proof.Proof.TailRef
public import proofs.«01_k».proof.Proof.Gen.Kernel9Ideal.Value
public import proofs.«01_k».proof.Proof.Gen.Reference9Ideal.Run
public import proofs.«01_k».proof.Proof.Gen.Reference9Ideal.Read
import Idealize.ShloMosaic.Adequacy

@[expose] public section

set_option maxRecDepth 16384

noncomputable section

namespace Cert.Tail

open Idealize.ShloMosaic Idealize.ShloMosaic.TcCoe Idealize.ShloMosaic.Tactic
open Cert.Kernel9Ideal Cert.Kernel9Ideal.Gen Cert.Kernel9Ideal.Value Idealize.SL.Sem

variable (m : (ℓ : Loc nD τ sig) → Buf (Elt Ideal) ℓ) (c : Dev nD)

theorem idx_out (t : Fin cfg0.N) : (win0_11.index t 0 = t.val ∧ win0_11.index t 1 = 0)
    ∧ (win0_12.index t 0 = t.val ∧ win0_12.index t 1 = 0) ∧ win0_13.index t 0 = t.val ∧ win0_13.index t 1 = 0 := by
  revert t; decide +kernel

def G11 : S16384x1024.Idx → EReal := fun i => cR m c ⟨(i 0).val, (i 0).isLt⟩ ⟨(i 1).val, (i 1).isLt⟩

theorem final11 : (dats m 0 c).arrAt 11 cfg0.N = G11 m c := by
  refine (dats m 0 c).arrAt_eq_of_covers 11 _ (by decide +kernel) fun t hf y => ?_
  show (dats m 0 c).after 11 t ((cfg0.win 11).xinj (grid0.coords t) y) = _
  have hN : t.val < 32 := lt_of_lt_of_eq t.isLt N_0
  obtain ⟨e0, e1⟩ := (idx_out t).1
  have hy0 : (y 0).val < 512 := (y 0).isLt
  have hy1 : (y 1).val < 1024 := (y 1).isLt
  have hb0 : (((cfg0.win 11).blk t).view.emb y 0).val = win0_11.index t 0 * 512 + 1 * (y 0).val := rfl
  have hb1 : (((cfg0.win 11).blk t).view.emb y 1).val = win0_11.index t 1 * 1024 + 1 * (y 1).val := rfl
  have hy : (cfg0.win 11).xinj (grid0.coords t) y = ix2 ⟨(y 0).val, hy0⟩ ⟨(y 1).val, hy1⟩ := by idx_ext
  refine (congrArg ((dats m 0 c).after 11 t) hy).trans ?_
  refine (congrFun ((after0_11 m c t).trans (outs_at m c t).1) (ix2 ⟨(y 0).val, hy0⟩ ⟨(y 1).val, hy1⟩)).trans
    ((c_row m c t ⟨(y 0).val, hy0⟩ ⟨(y 1).val, hy1⟩ ⟨t.val * 512 + (y 0).val, by omega⟩ rfl).trans ?_)
  exact congrArg₂ (cR m c) (Fin.ext (by rw [hb0, e0]; dsimp only; omega)) (Fin.ext (by rw [hb1, e1]; dsimp only; omega))

def G12 : S16384x1024.Idx → EReal := fun i => zR m c ⟨(i 0).val, (i 0).isLt⟩ ⟨(i 1).val, (i 1).isLt⟩

theorem final12 : (dats m 0 c).arrAt 12 cfg0.N = G12 m c := by
  refine (dats m 0 c).arrAt_eq_of_covers 12 _ (by decide +kernel) fun t hf y => ?_
  show (dats m 0 c).after 12 t ((cfg0.win 12).xinj (grid0.coords t) y) = _
  have hN : t.val < 32 := lt_of_lt_of_eq t.isLt N_0
  obtain ⟨e0, e1⟩ := (idx_out t).2.1
  have hy0 : (y 0).val < 512 := (y 0).isLt
  have hy1 : (y 1).val < 1024 := (y 1).isLt
  have hb0 : (((cfg0.win 12).blk t).view.emb y 0).val = win0_12.index t 0 * 512 + 1 * (y 0).val := rfl
  have hb1 : (((cfg0.win 12).blk t).view.emb y 1).val = win0_12.index t 1 * 1024 + 1 * (y 1).val := rfl
  have hy : (cfg0.win 12).xinj (grid0.coords t) y = ix2 ⟨(y 0).val, hy0⟩ ⟨(y 1).val, hy1⟩ := by idx_ext
  refine (congrArg ((dats m 0 c).after 12 t) hy).trans ?_
  refine (congrFun ((after0_12 m c t).trans (outs_at m c t).2.1) (ix2 ⟨(y 0).val, hy0⟩ ⟨(y 1).val, hy1⟩)).trans
    ((z_row m c t ⟨(y 0).val, hy0⟩ ⟨(y 1).val, hy1⟩ ⟨t.val * 512 + (y 0).val, by omega⟩ rfl).trans ?_)
  exact congrArg₂ (zR m c) (Fin.ext (by rw [hb0, e0]; dsimp only; omega)) (Fin.ext (by rw [hb1, e1]; dsimp only; omega))

def G13 : S16384x1024.Idx → EReal := fun i => yR m c ⟨(i 0).val, (i 0).isLt⟩ ⟨(i 1).val, (i 1).isLt⟩

theorem final13 : (dats m 0 c).arrAt 13 cfg0.N = G13 m c := by
  refine (dats m 0 c).arrAt_eq_of_covers 13 _ (by decide +kernel) fun t hf y => ?_
  show (dats m 0 c).after 13 t ((cfg0.win 13).xinj (grid0.coords t) y) = _
  have hN : t.val < 32 := lt_of_lt_of_eq t.isLt N_0
  obtain ⟨e0, e1⟩ := (idx_out t).2.2
  have hy0 : (y 0).val < 512 := (y 0).isLt
  have hy1 : (y 1).val < 1024 := (y 1).isLt
  have hb0 : (((cfg0.win 13).blk t).view.emb y 0).val = win0_13.index t 0 * 512 + 1 * (y 0).val := rfl
  have hb1 : (((cfg0.win 13).blk t).view.emb y 1).val = win0_13.index t 1 * 1024 + 1 * (y 1).val := rfl
  have hy : (cfg0.win 13).xinj (grid0.coords t) y = ix2 ⟨(y 0).val, hy0⟩ ⟨(y 1).val, hy1⟩ := by idx_ext
  refine (congrArg ((dats m 0 c).after 13 t) hy).trans ?_
  refine (congrFun ((after0_13 m c t).trans (outs_at m c t).2.2) (ix2 ⟨(y 0).val, hy0⟩ ⟨(y 1).val, hy1⟩)).trans
    ((y_row m c t ⟨(y 0).val, hy0⟩ ⟨(y 1).val, hy1⟩ ⟨t.val * 512 + (y 0).val, by omega⟩ rfl).trans ?_)
  exact congrArg₂ (yR m c) (Fin.ext (by rw [hb0, e0]; dsimp only; omega)) (Fin.ext (by rw [hb1, e1]; dsimp only; omega))

/-! ## Agreement -/

theorem c_eq : Cert.Reference9Ideal.Read.val_main_v235 (F := Ideal) (arr0 m c) (arr1 m c) (arr2 m c) (arr3 m c) (arr4 m c) = G11 m c := funext fun i => by
  obtain ⟨ρ, j, rfl⟩ : ∃ (ρ : Fin 16384) (j : Fin 1024), i = ix2 ρ j := ⟨i 0, i 1, eq_ix2 i⟩
  exact Ref.c_at (arr0 m c) (arr1 m c) (arr2 m c) (arr3 m c) (arr4 m c) ρ j

theorem z_eq : Cert.Reference9Ideal.Read.val_main_v267 (F := Ideal) (arr0 m c) (arr1 m c) (arr2 m c) (arr3 m c) (arr4 m c) (arr5 m c) (arr6 m c) (arr7 m c) (arr8 m c)
    = G12 m c := funext fun i => by
  obtain ⟨ρ, j, rfl⟩ : ∃ (ρ : Fin 16384) (j : Fin 1024), i = ix2 ρ j := ⟨i 0, i 1, eq_ix2 i⟩
  exact Ref.z_ref (arr0 m c) (arr1 m c) (arr2 m c) (arr3 m c) (arr4 m c) (arr5 m c) (arr6 m c) (arr8 m c) (arr7 m c) ρ j

theorem y_eq : Cert.Reference9Ideal.Read.val_main_v291 (F := Ideal) (arr0 m c) (arr1 m c) (arr2 m c) (arr3 m c) (arr4 m c) (arr5 m c) (arr6 m c) (arr7 m c) (arr8 m c)
    (arr9 m c) (arr10 m c) = G13 m c := funext fun i => by
  obtain ⟨ρ, j, rfl⟩ : ∃ (ρ : Fin 16384) (j : Fin 1024), i = ix2 ρ j := ⟨i 0, i 1, eq_ix2 i⟩
  exact Ref.y_ref (arr0 m c) (arr1 m c) (arr2 m c) (arr3 m c) (arr4 m c) (arr5 m c) (arr6 m c) (arr8 m c) (arr9 m c) (arr10 m c) (arr7 m c) ρ j

/-! ## The claims -/

theorem frame_reference : Cert.quiescent_Reference9Ideal := fun m ρ _ =>
  (θ_run _ _ _).mono (fun r h => ⟨fun c => (h c).2.2.2, sem_eq_zero_of_no_sems rfl r.2⟩) (Cert.Reference9Ideal.Value.run m ρ)

theorem algebraic : Cert.algebraic_Kernel9Ideal_Reference9Ideal := fun m ρ m' ρ' _ ha =>
  ⟨fun c => G11 m c, fun c => G12 m c, fun c => G13 m c,
    (θ_run _ _ _).mono (fun r h c => by
      obtain ⟨h0, h1, h2, hk⟩ := h c
      exact ⟨h0.trans (final11 m c), h1.trans (final12 m c), h2.trans (final13 m c), hk⟩) (run_blocks m ρ),
    (θ_run _ _ _).mono (fun r h c => by
      obtain ⟨a0, a1, a2, a3, a4, a5, a6, a7, a8, a9, a10⟩ := ha c
      obtain ⟨h0, h1, h2, hk⟩ := h c
      exact ⟨(h0.trans (Cert.Reference9Ideal.Read.val_main_v235_eq _)).trans
          ((congr (congr (congr (congr (congrArg Cert.Reference9Ideal.Read.val_main_v235 a0) a1) a2) a3) a4).trans (c_eq m c)),
        (h1.trans (Cert.Reference9Ideal.Read.val_main_v267_eq _)).trans
          ((congr (congr (congr (congr (congr (congr (congr (congr (congrArg Cert.Reference9Ideal.Read.val_main_v267 a0) a1) a2) a3) a4) a5) a6) a7) a8).trans (z_eq m c)),
        (h2.trans (Cert.Reference9Ideal.Read.val_main_v291_eq _)).trans
          ((congr (congr (congr (congr (congr (congr (congr (congr (congr (congr (congrArg Cert.Reference9Ideal.Read.val_main_v291 a0) a1) a2) a3) a4) a5) a6) a7) a8) a9) a10).trans (y_eq m c)), hk⟩)
      (Cert.Reference9Ideal.Value.run m' ρ')⟩

end Cert.Tail
-- ==== Proof.WeightTN.lean ====
/-
  The gradient of a weight whose columns lie in four chunks: a product accumulated over sixteen blocks of rows.
-/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pointwise
public import Idealize.ShloMosaic.Lib.ValueIdx
public import Idealize.ShloMosaic.Lib.Pipeline.ValueKit
import Idealize.ShloMosaic.Lib.StableHlo.ReadAt
import Idealize.ShloMosaic.Adequacy

@[expose] public section

set_option maxRecDepth 16384

noncomputable section

namespace Cert.WeightTN

open Idealize.ShloMosaic Idealize.ShloMosaic.TcCoe Idealize.ShloMosaic.Tactic
open Cert.Kernel10Ideal Cert.Kernel10Ideal.Gen Cert.Kernel10Ideal.Value Idealize.SL.Sem

/-! ## Four stores, one for each chunk -/

theorem hz : (![0, 0, 0] : Fin 3 → Nat) = fun _ => 0 := funext fun a => by fin_cases a <;> rfl

theorem inb_chunk (n : ℕ) (h : n < 4) (a : Fin 3) : (![n, 0, 0] : Fin 3 → ℕ) a + (![1, 1024, 704] : Fin 3 → ℕ) a ≤ S4x1024x704.size a := by
  fin_cases a
  · show n + 1 ≤ 4; omega
  · show 0 + 1024 ≤ 1024; omega
  · show 0 + 704 ≤ 704; omega

/-- One chunk of the array; `n` is a numeral at every use. -/
abbrev chunk (n : ℕ) (h : n < 4 := by decide) : Rect S4x1024x704 := Rect.unit ![n, 0, 0] ![1, 1024, 704] (inb_chunk n h)

theorem chunk_at {e : EltTy} (w : Vec Ideal S4x1024x704 e) (n : ℕ) (h : n < 4) (k : Fin 1024) (f : Fin 704) :
    (View.ld w (chunk n h) : Vec Ideal S1x1024x704 e) (ix3 0 k f) = w (ix3 ⟨n, h⟩ k f) := by
  refine View.ld_unit_apply_of _ _ _ _ _ _ fun a => ?_
  fin_cases a
  · show n = n + 0; omega
  · show k.val = 0 + k.val; omega
  · show f.val = 0 + f.val; omega

/-- A store of another chunk leaves an entry as it was. -/
theorem skip (n : ℕ) (hn : n < 4) (w : Vec Ideal S1x1024x704 .f32) (L : List (View.Piece (Elt Ideal) S4x1024x704 .f32)) (y : S4x1024x704.Idx)
    (h : (y 0).val ≠ n) : View.canon (⟨chunk n hn, w⟩ :: L) y = View.canon L y := by
  refine View.canon_cons_of_not_mem _ _ fun hm => h ?_
  have hm' : y ∈ (chunk n hn).set := hm
  have : n ≤ (y 0).val ∧ (y 0).val < n + 1 := (Rect.mem_set_unit.1 hm') 0
  omega

/-- The store of its own chunk gives an entry its value. -/
theorem hit (n : ℕ) (hn : n < 4) (w : Vec Ideal S1x1024x704 .f32) (L : List (View.Piece (Elt Ideal) S4x1024x704 .f32)) (k : Fin 1024)
    (f : Fin 704) : View.canon (⟨chunk n hn, w⟩ :: L) (ix3 ⟨n, hn⟩ k f) = w (ix3 0 k f) := by
  have hy : (ix3 ⟨n, hn⟩ k f : S4x1024x704.Idx) = (chunk n hn).emb (ix3 0 k f : S1x1024x704.Idx) := by
    funext a; apply Fin.ext
    fin_cases a
    · show n = n + 1 * 0; omega
    · show k.val = 0 + 1 * k.val; omega
    · show f.val = 0 + 1 * f.val; omega
  rw [hy]
  exact View.canon_cons_emb _ _ _ _

/-- What four stores, one for each chunk, leave. -/
theorem four (w : Fin 4 → Vec Ideal S1x1024x704 .f32) (L : List (View.Piece (Elt Ideal) S4x1024x704 .f32)) (j : Fin 4) (k : Fin 1024)
    (f : Fin 704) : View.canon (⟨chunk 3, w 3⟩ :: ⟨chunk 2, w 2⟩ :: ⟨chunk 1, w 1⟩ :: ⟨chunk 0, w 0⟩ :: L) (ix3 j k f) = w j (ix3 0 k f) := by
  fin_cases j
  · exact ((skip 3 _ _ _ _ (show 0 ≠ 3 by decide)).trans ((skip 2 _ _ _ _ (show 0 ≠ 2 by decide)).trans (skip 1 _ _ _ _ (show 0 ≠ 1 by decide)))).trans (hit 0 _ _ _ k f)
  · exact ((skip 3 _ _ _ _ (show 1 ≠ 3 by decide)).trans (skip 2 _ _ _ _ (show 1 ≠ 2 by decide))).trans (hit 1 _ _ _ k f)
  · exact (skip 3 _ _ _ _ (show 2 ≠ 3 by decide)).trans (hit 2 _ _ _ k f)
  · exact hit 3 _ _ _ k f

/-- A load of a chunk that none of the stores wrote. -/
theorem load_chunk (v : View sig .tc .vmem S4x1024x704 .f32) (L : List (View.Piece (Elt Ideal) S4x1024x704 .f32)) (X : Vec Ideal S4x1024x704 .f32)
    (n : ℕ) (hn : n < 4) (h : ∀ y : S4x1024x704.Idx, (y 0).val = n → View.canon L y = X y) :
    v.readCov L (chunk n hn).toLoadRect = View.ld X (chunk n hn) := by
  rw [View.readCov_eq_canon']
  refine funext fun x => h _ ?_
  have : (x 0).val < 1 := (x 0).isLt
  show n + 1 * (x 0).val = n
  omega

abbrev blank (X : Vec Ideal S4x1024x704 .f32) : View.Piece (Elt Ideal) S4x1024x704 .f32 :=
  ⟨Rect.unit ![0, 0, 0] S4x1024x704.size inb_S4x1024x704_S4x1024x704_0_0_0, X⟩

theorem blank_at (X : Vec Ideal S4x1024x704 .f32) (y : S4x1024x704.Idx) : View.canon [blank X] y = X y :=
  congrFun (View.canon_unit_zero (Val := Elt Ideal) (S := S4x1024x704) hz _ _) y

/-! ## One grid point -/

/-- The block a point writes for chunk `j`, over what the running sum held. -/
def blockP (x : Vec Ideal S1x1024x1024 .f32) (d : Vec Ideal S4x1024x704 .bf16) (a : Vec Ideal S4x1024x704 .f32) : Fin 4 → Vec Ideal S1x1024x704 .f32
  | 0 => k0_pay5 x (View.ld d (chunk 0)) (View.ld a (chunk 0))
  | 1 => k0_pay6 x (View.ld d (chunk 1)) (View.ld a (chunk 1))
  | 2 => k0_pay1 (k0_pay4 x) (k0_pay7 (View.ld d (chunk 2))) (View.ld a (chunk 2))
  | 3 => k0_pay2 (k0_pay4 x) (View.ld d (chunk 3)) (View.ld a (chunk 3))

theorem pay1_at (v : Vec Ideal S1024x1024 .bf16) (d : Vec Ideal S1024x704 .bf16) (a : Vec Ideal S1x1024x704 .f32) (k : Fin 1024) (f : Fin 704) :
    k0_pay1 v d a (ix3 0 k f) = a (ix3 0 k f) + ∑ r : Fin 1024, v (ix2 r k) * d (ix2 r f) := by
  unfold k0_pay1; pointwise

theorem pay2_at (v : Vec Ideal S1024x1024 .bf16) (d a) (k : Fin 1024) (f : Fin 704) :
    k0_pay2 (F := Ideal) v d a (ix3 0 k f) = a (ix3 0 k f) + ∑ r : Fin 1024, v (ix2 r k) * d (ix3 0 r f) := by
  unfold k0_pay2; pointwise

theorem pay4_at (x : Vec Ideal S1x1024x1024 .f32) (r k : Fin 1024) : k0_pay4 x (ix2 r k) = x (ix3 0 r k) := by
  unfold k0_pay4; pointwise

theorem pay5_at (x : Vec Ideal S1x1024x1024 .f32) (d a) (k : Fin 1024) (f : Fin 704) :
    k0_pay5 (F := Ideal) x d a (ix3 0 k f) = a (ix3 0 k f) + ∑ r : Fin 1024, x (ix3 0 r k) * d (ix3 0 r f) := by
  unfold k0_pay5 k0_pay4; pointwise

theorem pay6_at (x : Vec Ideal S1x1024x1024 .f32) (d a) (k : Fin 1024) (f : Fin 704) :
    k0_pay6 (F := Ideal) x d a (ix3 0 k f) = a (ix3 0 k f) + ∑ r : Fin 1024, x (ix3 0 r k) * d (ix3 0 r f) := by
  unfold k0_pay6 k0_pay4; pointwise

theorem pay7_at (d : Vec Ideal S1x1024x704 .bf16) (r : Fin 1024) (f : Fin 704) : k0_pay7 d (ix2 r f) = d (ix3 0 r f) := by
  unfold k0_pay7; pointwise

theorem loads (x : Vec Ideal S1x1024x1024 .f32) (d : Vec Ideal S4x1024x704 .bf16) (a : Vec Ideal S4x1024x704 .f32) (n : ℕ) (h : n < 4)
    (k : Fin 1024) (f : Fin 704) : ((View.ld a (chunk n h) : Vec Ideal S1x1024x704 .f32) (ix3 0 k f) : EReal)
      + ∑ r : Fin 1024, x (ix3 0 r k) * (View.ld d (chunk n h) : Vec Ideal S1x1024x704 .bf16) (ix3 0 r f)
      = a (ix3 ⟨n, h⟩ k f) + ∑ r : Fin 1024, x (ix3 0 r k) * d (ix3 ⟨n, h⟩ r f) :=
  congrArg₂ (fun a b : EReal => a + b) (chunk_at a n h k f)
    (Finset.sum_congr rfl fun r _ => congrArg (fun b : EReal => x (ix3 0 r k) * b) (chunk_at d n h r f))

theorem block_at (x : Vec Ideal S1x1024x1024 .f32) (d : Vec Ideal S4x1024x704 .bf16) (a : Vec Ideal S4x1024x704 .f32) (j : Fin 4) (k : Fin 1024)
    (f : Fin 704) : blockP x d a j (ix3 0 k f) = a (ix3 j k f) + ∑ r : Fin 1024, x (ix3 0 r k) * d (ix3 j r f) := by
  fin_cases j
  · exact (pay5_at _ _ _ k f).trans (loads x d a 0 _ k f)
  · exact (pay6_at _ _ _ k f).trans (loads x d a 1 _ k f)
  · refine (pay1_at _ _ _ k f).trans ?_
    simp only [pay4_at, pay7_at]
    exact loads x d a 2 _ k f
  · refine (pay2_at _ _ _ k f).trans ?_
    simp only [pay4_at]
    exact loads x d a 3 _ k f

theorem zero_at (y : S4x1024x704.Idx) : (k0_pay3 (F := Ideal)) y = 0 := by
  obtain ⟨j, k, f, rfl⟩ : ∃ (j : Fin 4) (k : Fin 1024) (f : Fin 704), y = ix3 j k f := ⟨y 0, y 1, y 2, eq_ix3 y⟩
  unfold k0_pay3; pointwise

section Point

variable (c : Dev nD) (i : grid0.Coords) (arg1 : Memref sig .tc .vmem S1x1024x1024 .f32) (harg1 : arg1.IsWhole) (arg2 : Memref sig .tc .vmem S4x1024x704 .bf16)
  (harg2 : arg2.IsWhole) (arg3 : Memref sig .tc .vmem S4x1024x704 .f32) (harg3 : arg3.IsWhole)
  (x0 : Vec Ideal S1x1024x1024 .f32) (x1 : Vec Ideal S4x1024x704 .bf16) (xo2 : Vec Ideal S4x1024x704 .f32) (j : Fin 4) (k : Fin 1024) (f : Fin 704)

theorem out_A (hc0 : cond0_0 i) : out0_A_2 c i arg1 harg1 arg2 harg2 arg3 harg3 hc0 x0 x1 (ix3 j k f) = blockP x0 x1 (k0_pay3 (F := Ideal)) j (ix3 0 k f) := by
  have e0 := load_chunk arg3.view [blank (k0_pay3 (F := Ideal))] _ 0 (by decide) fun y _ => blank_at _ y
  have e1 := fun w => load_chunk arg3.view [⟨chunk 0, w⟩, blank (k0_pay3 (F := Ideal))] _ 1 (by decide) fun y h =>
    (skip 0 _ _ _ y (by rw [h]; decide)).trans (blank_at _ y)
  have e2 := fun w w' => load_chunk arg3.view [⟨chunk 1, w⟩, ⟨chunk 0, w'⟩, blank (k0_pay3 (F := Ideal))] _ 2 (by decide) fun y h =>
    (skip 1 _ _ _ y (by rw [h]; decide)).trans ((skip 0 _ _ _ y (by rw [h]; decide)).trans (blank_at _ y))
  have e3 := fun w w' w'' => load_chunk arg3.view [⟨chunk 2, w⟩, ⟨chunk 1, w'⟩, ⟨chunk 0, w''⟩, blank (k0_pay3 (F := Ideal))] _ 3 (by decide) fun y h =>
    (skip 2 _ _ _ y (by rw [h]; decide)).trans ((skip 1 _ _ _ y (by rw [h]; decide)).trans ((skip 0 _ _ _ y (by rw [h]; decide)).trans (blank_at _ y)))
  unfold out0_A_2
  rw [View.read_writes_eq_canon _ _ _ (cover0_A_2 c i arg1 harg1 arg2 harg2 arg3 harg3 hc0 x0 x1)]
  unfold kernelRun0_A
  dsimp only
  sl_unfold_words
  simp only [View.readAt_eq_ld, harg1.read_unread, harg2.read_unread, harg3.read_unread, View.ld_unit_zero (S := S1x1024x1024) hz]
  rw [e3, e2, e1, e0]
  exact four (blockP x0 x1 (k0_pay3 (F := Ideal))) [blank (k0_pay3 (F := Ideal))] j k f

theorem out_B (hc0 : ¬cond0_0 i) : out0_B_2 c i arg1 harg1 arg2 harg2 arg3 harg3 hc0 x0 x1 xo2 (ix3 j k f) = blockP x0 x1 xo2 j (ix3 0 k f) := by
  unfold out0_B_2
  rw [View.read_writes_eq_canon _ _ _ (cover0_B_2 c i arg1 harg1 arg2 harg2 arg3 harg3 hc0 x0 x1 xo2)]
  unfold kernelRun0_B
  dsimp only
  sl_unfold_words
  simp only [View.readAt_eq_ld, harg1.read_unread, harg2.read_unread, harg3.read_unread, View.ld_unit_zero (S := S1x1024x1024) hz]
  exact four (blockP x0 x1 xo2) [] j k f

end Point

/-! ## The blocks and the running sum -/

variable (m : (ℓ : Loc nD τ sig) → Buf (Elt Ideal) ℓ) (c : Dev nD)

abbrev arr0 : S16384x1024.Idx → EReal := m ((c : Thread nD τ).loc main_arg0)
abbrev arr1 : S16384x2816.Idx → EReal := m ((c : Thread nD τ).loc main_arg1)

def col (j : Fin 4) (f : Fin 704) : Fin 2816 := ⟨704 * j.val + f.val, by omega⟩

/-- What row `ρ` adds to an entry of the gradient; nothing past the last row. -/
def term (k : Fin 1024) (e : Fin 2816) (ρ : ℕ) : EReal :=
  if h : ρ < 16384 then arr0 m c (ix2 ⟨ρ, h⟩ k) * arr1 m c (ix2 ⟨ρ, h⟩ e) else 0

theorem x_host (ρ : Fin 16384) (k : Fin 1024) : (V m c main_v3 : S1x16384x1024.Idx → EReal) (ix3 0 ρ k) = arr0 m c (ix2 ρ k) := by
  unfold V; after_reads_at

theorem d_host (j : Fin 4) (ρ : Fin 16384) (f : Fin 704) : (V m c main_v2 : S4x16384x704.Idx → EReal) (ix3 j ρ f) = arr1 m c (ix2 ρ (col j f)) := by
  unfold V; after_reads_at
  refine congrArg (arr1 m c) ?_
  unfold col
  idx_ext

theorem idx_in (t : Fin cfg0.N) : (win0_0.index t 0 = 0 ∧ win0_0.index t 1 = t.val ∧ win0_0.index t 2 = 0)
    ∧ win0_1.index t 0 = 0 ∧ win0_1.index t 1 = t.val ∧ win0_1.index t 2 = 0 := by
  revert t; decide +kernel

theorem x_blk (t : Fin cfg0.N) (r k : Fin 1024) (h : t.val * 1024 + r.val < 16384) :
    (iblk m c 0 t : Vec Ideal S1x1024x1024 .f32) (ix3 0 r k) = arr0 m c (ix2 ⟨t.val * 1024 + r.val, h⟩ k) := by
  have := idx_in t
  refine Eq.trans ?_ (x_host m c ⟨t.val * 1024 + r.val, h⟩ k)
  blk_ext [iblk, this]

theorem d_blk (t : Fin cfg0.N) (j : Fin 4) (r : Fin 1024) (f : Fin 704) (h : t.val * 1024 + r.val < 16384) :
    (iblk m c 1 t : Vec Ideal S4x1024x704 .bf16) (ix3 j r f) = arr1 m c (ix2 ⟨t.val * 1024 + r.val, h⟩ (col j f)) := by
  have := idx_in t
  refine Eq.trans ?_ (d_host m c j ⟨t.val * 1024 + r.val, h⟩ f)
  blk_ext [iblk, this]

theorem step_at (n : ℕ) (hn : n < cfg0.N) (a : Vec Ideal S4x1024x704 .f32) (j : Fin 4) (k : Fin 1024) (f : Fin 704) :
    blockP (iblk m c 0 ⟨n, hn⟩) (iblk m c 1 ⟨n, hn⟩) a j (ix3 0 k f)
      = a (ix3 j k f) + ∑ r ∈ Finset.range 1024, term m c k (col j f) (n * 1024 + r) := by
  have hN : n < 16 := lt_of_lt_of_eq hn N_0
  refine (block_at _ _ a j k f).trans (congrArg (a (ix3 j k f) + ·) ?_)
  rw [← Fin.sum_univ_eq_sum_range (fun r => term m c k (col j f) (n * 1024 + r)) 1024]
  refine Finset.sum_congr rfl fun r _ => ?_
  have h : n * 1024 + r.val < 16384 := by omega
  have ht : term m c k (col j f) (n * 1024 + r.val) = arr0 m c (ix2 ⟨n * 1024 + r.val, h⟩ k) * arr1 m c (ix2 ⟨n * 1024 + r.val, h⟩ (col j f)) :=
    dif_pos h
  rw [ht]
  exact congrArg₂ (fun a b : EReal => a * b) (x_blk m c ⟨n, hn⟩ r k h) (d_blk m c ⟨n, hn⟩ j r f h)

/-- What the running sum holds after point `n`. -/
theorem acc_at (j : Fin 4) (k : Fin 1024) (f : Fin 704) : ∀ (n : ℕ) (hn : n < cfg0.N), outsAt0 m c n hn (ix3 j k f)
    = ∑ s ∈ Finset.range (n + 1), ∑ r ∈ Finset.range 1024, term m c k (col j f) (s * 1024 + r)
  | 0, hn => by
    rw [outsAt0_A m c ⟨0, hn⟩ rfl, out_A, step_at, zero_at, zero_add, Finset.sum_range_one]
  | n + 1, hn => by
    have hN : n + 1 < 16 := lt_of_lt_of_eq hn N_0
    rw [outsAt0_B m c ⟨n + 1, hn⟩ (by dsimp only; omega), out_B, step_at, Finset.sum_range_succ _ (n + 1)]
    exact congrArg (· + _) (acc_at j k f n (Nat.lt_of_succ_lt hn))

/-! ## The array after the run -/

def G (m : (ℓ : Loc nD τ sig) → Buf (Elt Ideal) ℓ) (c : Dev nD) : S4x1024x704.Idx → EReal := fun i =>
  ∑ ρ : Fin 16384, arr0 m c (ix2 ρ ⟨(i 1).val, (i 1).isLt⟩) * arr1 m c (ix2 ρ (col ⟨(i 0).val, (i 0).isLt⟩ ⟨(i 2).val, (i 2).isLt⟩))

theorem total (j : Fin 4) (k : Fin 1024) (f : Fin 704) :
    ∑ s ∈ Finset.range 16, ∑ r ∈ Finset.range 1024, term m c k (col j f) (s * 1024 + r) = G m c (ix3 j k f) := by
  have h : ∀ N, N = 16 * 1024 → ∑ s ∈ Finset.range 16, ∑ r ∈ Finset.range 1024, term m c k (col j f) (s * 1024 + r)
      = ∑ ρ : Fin N, term m c k (col j f) ρ := by
    rintro _ rfl
    rw [Finset.sum_range_range_mul_add 16 1024, Fin.sum_univ_eq_sum_range (term m c k (col j f))]
  exact (h 16384 rfl).trans (Finset.sum_congr rfl fun ρ _ => dif_pos ρ.isLt)

theorem idx_out (t : Fin cfg0.N) : win0_2.index t 0 = 0 ∧ win0_2.index t 1 = 0 ∧ win0_2.index t 2 = 0 := by
  revert t; decide +kernel

theorem final2 : (dats m 0 c).arrAt 2 cfg0.N = G m c := by
  refine (dats m 0 c).arrAt_eq_of_covers 2 _ (by decide +kernel) fun t hf y => ?_
  show (dats m 0 c).after 2 t ((cfg0.win 2).xinj (grid0.coords t) y) = _
  have hN : t.val < 16 := lt_of_lt_of_eq t.isLt N_0
  have hm : t.val % 16 = 15 := (flush0_2 t).mp hf
  have ht : t.val = 15 := by omega
  obtain ⟨e0, e1, e2⟩ := idx_out t
  have hy0 : (y 0).val < 4 := (y 0).isLt
  have hy1 : (y 1).val < 1024 := (y 1).isLt
  have hy2 : (y 2).val < 704 := (y 2).isLt
  have hb0 : (((cfg0.win 2).blk t).view.emb y 0).val = win0_2.index t 0 * 4 + 1 * (y 0).val := rfl
  have hb1 : (((cfg0.win 2).blk t).view.emb y 1).val = win0_2.index t 1 * 1024 + 1 * (y 1).val := rfl
  have hb2 : (((cfg0.win 2).blk t).view.emb y 2).val = win0_2.index t 2 * 704 + 1 * (y 2).val := rfl
  have hy : (cfg0.win 2).xinj (grid0.coords t) y = ix3 ⟨(y 0).val, hy0⟩ ⟨(y 1).val, hy1⟩ ⟨(y 2).val, hy2⟩ := by idx_ext
  have hi : (((cfg0.win 2).blk t).view.emb y : S4x1024x704.Idx) = ix3 ⟨(y 0).val, hy0⟩ ⟨(y 1).val, hy1⟩ ⟨(y 2).val, hy2⟩ := by
    funext a; apply Fin.ext
    match a with
    | ⟨0, _⟩ => exact hb0.trans (by show _ = (y 0).val; rw [e0]; omega)
    | ⟨1, _⟩ => exact hb1.trans (by show _ = (y 1).val; rw [e1]; omega)
    | ⟨2, _⟩ => exact hb2.trans (by show _ = (y 2).val; rw [e2]; omega)
  refine (congrArg ((dats m 0 c).after 2 t) hy).trans ?_
  refine (congrFun (after0_2 m c t) (ix3 ⟨(y 0).val, hy0⟩ ⟨(y 1).val, hy1⟩ ⟨(y 2).val, hy2⟩)).trans ?_
  refine (acc_at m c _ _ _ t.val t.isLt).trans ?_
  rw [ht]
  exact (total m c ⟨(y 0).val, hy0⟩ ⟨(y 1).val, hy1⟩ ⟨(y 2).val, hy2⟩).trans (congrArg (G m c) hi.symm)

theorem ref_at (x0 : S16384x1024.Idx → EReal) (x1 : S16384x2816.Idx → EReal) (j : Fin 4) (k : Fin 1024) (f : Fin 704) :
    Cert.Reference10Ideal.Read.val_main_v5 (F := Ideal) x0 x1 (ix3 j k f) = ∑ ρ : Fin 16384, x0 (ix2 ρ k) * x1 (ix2 ρ (col j f)) := by
  unfold Cert.Reference10Ideal.Read.val_main_v5 Cert.Reference10Ideal.Read.val_main_v4 Cert.Reference10Ideal.Read.val_main_v3 Cert.Reference10Ideal.Read.val_main_v2
  pointwise
  refine Finset.sum_congr rfl fun ρ _ => (mul_comm _ _).trans (congrArg₂ (fun a b : EReal => a * b) (congrArg x0 ?_) (congrArg x1 ?_))
  · idx_ext
  · unfold col
    idx_ext

theorem out_eq : Cert.Reference10Ideal.Read.val_main_v5 (F := Ideal) (arr0 m c) (arr1 m c) = G m c := funext fun i => by
  obtain ⟨j, k, f, rfl⟩ : ∃ (j : Fin 4) (k : Fin 1024) (f : Fin 704), i = ix3 j k f := ⟨i 0, i 1, i 2, eq_ix3 i⟩
  exact ref_at (arr0 m c) (arr1 m c) j k f

/-! ## The claims -/

theorem frame_reference : Cert.quiescent_Reference10Ideal := fun m ρ _ =>
  (θ_run _ _ _).mono (fun r h => ⟨fun c => (h c).2, sem_eq_zero_of_no_sems rfl r.2⟩) (Cert.Reference10Ideal.Value.run m ρ)

theorem algebraic : Cert.algebraic_Kernel10Ideal_Reference10Ideal := fun m ρ m' ρ' _ ha =>
  ⟨fun c => G m c,
    (θ_run _ _ _).mono (fun r h c => by
      obtain ⟨h0, hk⟩ := h c
      exact ⟨h0.trans (final2 m c), hk⟩) (run_blocks m ρ),
    (θ_run _ _ _).mono (fun r h c => by
      obtain ⟨a0, a1⟩ := ha c
      obtain ⟨h0, hk⟩ := h c
      exact ⟨(h0.trans (Cert.Reference10Ideal.Read.val_main_v5_eq _ _)).trans
          ((congr (congrArg Cert.Reference10Ideal.Read.val_main_v5 a0) a1).trans (out_eq m c)), hk⟩)
      (Cert.Reference10Ideal.Value.run m' ρ')⟩

end Cert.WeightTN
-- ==== Proof.WeightNN.lean ====
/-
  The gradient of a weight from rows that arrive already transposed: a product accumulated over sixteen blocks of rows.
-/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pointwise
public import Idealize.ShloMosaic.Lib.ValueIdx
public import Idealize.ShloMosaic.Lib.Pipeline.ValueKit
import Idealize.ShloMosaic.Lib.StableHlo.ReadAt
import Idealize.ShloMosaic.Adequacy

@[expose] public section

set_option maxRecDepth 16384

noncomputable section

namespace Cert.WeightNN

open Idealize.ShloMosaic Idealize.ShloMosaic.TcCoe Idealize.ShloMosaic.Tactic
open Cert.Kernel11Ideal Cert.Kernel11Ideal.Gen Cert.Kernel11Ideal.Value Idealize.SL.Sem

theorem pay1_at (k j : Fin 1024) : (k0_pay1 (F := Ideal)) (ix2 k j) = 0 := by
  unfold k0_pay1; pointwise

theorem pay2_at (a : Vec Ideal S1024x1024 .f32) (o : Vec Ideal S1024x1024 .bf16) (d : Vec Ideal S1024x1024 .f32) (k j : Fin 1024) :
    k0_pay2 a o d (ix2 k j) = a (ix2 k j) + ∑ r : Fin 1024, o (ix2 k r) * d (ix2 r j) := by
  unfold k0_pay2; pointwise

variable (m : (ℓ : Loc nD τ sig) → Buf (Elt Ideal) ℓ) (c : Dev nD)

abbrev arr0 : S16384x1024.Idx → EReal := m ((c : Thread nD τ).loc main_arg0)
abbrev arr1 : S16384x1024.Idx → EReal := m ((c : Thread nD τ).loc main_arg1)

/-- What row `ρ` adds to an entry of the gradient; nothing past the last row. -/
def term (k j : Fin 1024) (ρ : ℕ) : EReal :=
  if h : ρ < 16384 then arr0 m c (ix2 ⟨ρ, h⟩ k) * arr1 m c (ix2 ⟨ρ, h⟩ j) else 0

theorem o_host (k : Fin 1024) (ρ : Fin 16384) : (V m c main_v1 : S1024x16384.Idx → EReal) (ix2 k ρ) = arr0 m c (ix2 ρ k) := by
  unfold V; after_reads_at

theorem idx_in (t : Fin cfg0.N) : (win0_0.index t 0 = 0 ∧ win0_0.index t 1 = t.val) ∧ win0_1.index t 0 = t.val ∧ win0_1.index t 1 = 0 := by
  revert t; decide +kernel

theorem o_blk (t : Fin cfg0.N) (k r : Fin 1024) (h : t.val * 1024 + r.val < 16384) :
    (iblk m c 0 t : Vec Ideal S1024x1024 .bf16) (ix2 k r) = arr0 m c (ix2 ⟨t.val * 1024 + r.val, h⟩ k) := by
  have := idx_in t
  refine Eq.trans ?_ (o_host m c k ⟨t.val * 1024 + r.val, h⟩)
  blk_ext [iblk, this]

theorem d_blk (t : Fin cfg0.N) (r j : Fin 1024) (h : t.val * 1024 + r.val < 16384) :
    (iblk m c 1 t : Vec Ideal S1024x1024 .f32) (ix2 r j) = arr1 m c (ix2 ⟨t.val * 1024 + r.val, h⟩ j) := by
  have := idx_in t
  blk_ext [iblk, V, this]

theorem step_at (n : ℕ) (hn : n < cfg0.N) (a : Vec Ideal S1024x1024 .f32) (k j : Fin 1024) :
    step2 m c n hn a (ix2 k j) = a (ix2 k j) + ∑ r ∈ Finset.range 1024, term m c k j (n * 1024 + r) := by
  have hN : n < 16 := lt_of_lt_of_eq hn N_0
  refine (pay2_at a _ _ k j).trans (congrArg (a (ix2 k j) + ·) ?_)
  rw [← Fin.sum_univ_eq_sum_range (fun r => term m c k j (n * 1024 + r)) 1024]
  refine Finset.sum_congr rfl fun r _ => ?_
  have h : n * 1024 + r.val < 16384 := by omega
  have ht : term m c k j (n * 1024 + r.val) = arr0 m c (ix2 ⟨n * 1024 + r.val, h⟩ k) * arr1 m c (ix2 ⟨n * 1024 + r.val, h⟩ j) := dif_pos h
  rw [ht]
  exact congrArg₂ (fun a b : EReal => a * b) (o_blk m c ⟨n, hn⟩ k r h) (d_blk m c ⟨n, hn⟩ r j h)

/-- What the running sum holds after `e` further points. -/
theorem acc_at (k j : Fin 1024) (b : ℕ) (hb : b = 0) : ∀ (e : ℕ) (h : b + e < cfg0.N),
    Pipeline.accAt (reset2 m c) (step2 m c) b e h (ix2 k j) = ∑ s ∈ Finset.range (e + 1), ∑ r ∈ Finset.range 1024, term m c k j (s * 1024 + r)
  | 0, h => by
    subst hb
    rw [Pipeline.accAt_zero, Finset.sum_range_one]
    exact (step_at m c 0 h _ k j).trans (by rw [pay1_at, zero_add])
  | e + 1, h => by
    rw [Pipeline.accAt_succ, step_at, acc_at k j b hb e, Finset.sum_range_succ _ (e + 1), hb, Nat.zero_add]

def G (m : (ℓ : Loc nD τ sig) → Buf (Elt Ideal) ℓ) (c : Dev nD) (k j : Fin 1024) : EReal :=
  ∑ ρ : Fin 16384, arr0 m c (ix2 ρ k) * arr1 m c (ix2 ρ j)

theorem total (k j : Fin 1024) : ∑ s ∈ Finset.range 16, ∑ r ∈ Finset.range 1024, term m c k j (s * 1024 + r) = G m c k j := by
  have h : ∀ N, N = 16 * 1024 → ∑ s ∈ Finset.range 16, ∑ r ∈ Finset.range 1024, term m c k j (s * 1024 + r) = ∑ ρ : Fin N, term m c k j ρ := by
    rintro _ rfl
    rw [Finset.sum_range_range_mul_add 16 1024, Fin.sum_univ_eq_sum_range (term m c k j)]
  exact (h 16384 rfl).trans (Finset.sum_congr rfl fun ρ _ => dif_pos ρ.isLt)

theorem out_at (k j : Fin 1024) : (G2 m c : S1024x1024.Idx → EReal) (ix2 k j) = G m c k j := by
  have hr : run2Of (ix2 k j) = 0 := by
    show 1 * (k.val / 1024 - 0) + 1 * (j.val / 1024 - 0) = 0
    omega
  have hl : loc2Of (ix2 k j) = ix2 k j := by
    funext a; apply Fin.ext
    match a with
    | ⟨0, _⟩ => exact Nat.mod_eq_of_lt k.isLt
    | ⟨1, _⟩ => exact Nat.mod_eq_of_lt j.isLt
  have hb : 16 * run2Of (ix2 k j) = 0 := by rw [hr]
  unfold G2
  rw [hl, dif_pos (show 16 * run2Of (ix2 k j) + 15 < cfg0.N by rw [hb, show cfg0.N = 16 from N_0]; omega), acc_at m c k j _ hb]
  exact total m c k j

theorem ref_at (x0 x1 : S16384x1024.Idx → EReal) (k j : Fin 1024) :
    Cert.Reference11Ideal.Read.val_main_v3 (F := Ideal) x0 x1 (ix2 k j) = ∑ ρ : Fin 16384, x0 (ix2 ρ k) * x1 (ix2 ρ j) := by
  unfold Cert.Reference11Ideal.Read.val_main_v3 Cert.Reference11Ideal.Read.val_main_v2
  pointwise
  exact Finset.sum_congr rfl fun ρ _ => mul_comm _ _

theorem out_eq : Cert.Reference11Ideal.Read.val_main_v3 (F := Ideal) (arr0 m c) (arr1 m c) = G2 m c := funext fun i => by
  obtain ⟨k, j, rfl⟩ : ∃ (k j : Fin 1024), i = ix2 k j := ⟨i 0, i 1, eq_ix2 i⟩
  exact (ref_at (arr0 m c) (arr1 m c) k j).trans (out_at m c k j).symm

/-! ## The claims -/

theorem frame_reference : Cert.quiescent_Reference11Ideal := fun m ρ _ =>
  (θ_run _ _ _).mono (fun r h => ⟨fun c => (h c).2, sem_eq_zero_of_no_sems rfl r.2⟩) (Cert.Reference11Ideal.Value.run m ρ)

theorem algebraic : Cert.algebraic_Kernel11Ideal_Reference11Ideal := fun m ρ m' ρ' _ ha =>
  ⟨fun c => G2 m c,
    (θ_run _ _ _).mono (fun r h c => h c) (Cert.Kernel11Ideal.Value.run m ρ),
    (θ_run _ _ _).mono (fun r h c => by
      obtain ⟨a0, a1⟩ := ha c
      obtain ⟨h0, hk⟩ := h c
      exact ⟨(h0.trans (Cert.Reference11Ideal.Read.val_main_v3_eq _ _)).trans
          ((congr (congrArg Cert.Reference11Ideal.Read.val_main_v3 a0) a1).trans (out_eq m c)), hk⟩)
      (Cert.Reference11Ideal.Value.run m' ρ')⟩

end Cert.WeightNN
-- ==== Proof.Adam.lean ====
/-
  The optimiser's step on two weights: every entry is the same formula of four entries in both programs.
-/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pointwise
public import Idealize.ShloMosaic.Lib.ValueIdx
import Idealize.ShloMosaic.Adequacy

@[expose] public section

set_option maxRecDepth 16384

noncomputable section

namespace Cert.Adam

open Idealize.ShloMosaic Idealize.ShloMosaic.TcCoe Idealize.ShloMosaic.Tactic
open Cert.Kernel12Ideal Cert.Kernel12Ideal.Gen Cert.Kernel12Ideal.Value Idealize.SL.Sem

section Entries

open Cert.Reference12Ideal.Read

/-! ## The first weight: change, first moment, second moment -/

variable (w g p q : Cert.Reference12Ideal.S1024x512.Idx → EReal)

theorem moment1 : val_main_v4 (F := Ideal) g p = G9 (F := Ideal) g p := funext fun i => by
  obtain ⟨a, b, rfl⟩ : ∃ (a : Fin 1024) (b : Fin 512), i = ix2 a b := ⟨i 0, i 1, eq_ix2 i⟩
  rfl

theorem moment2 : val_main_v10 (F := Ideal) g q = G10 (F := Ideal) g q := funext fun i => by
  obtain ⟨a, b, rfl⟩ : ∃ (a : Fin 1024) (b : Fin 512), i = ix2 a b := ⟨i 0, i 1, eq_ix2 i⟩
  rfl

theorem change : val_main_v23 (F := Ideal) w g p q = G8 (F := Ideal) g p q w := funext fun i => by
  obtain ⟨a, b, rfl⟩ : ∃ (a : Fin 1024) (b : Fin 512), i = ix2 a b := ⟨i 0, i 1, eq_ix2 i⟩
  rfl

/-! ## The second weight -/

variable (w' g' p' q' : Cert.Reference12Ideal.S256x1024.Idx → EReal)

theorem moment1' : val_main_v28 (F := Ideal) g' p' = G12 (F := Ideal) g' p' := funext fun i => by
  obtain ⟨a, b, rfl⟩ : ∃ (a : Fin 256) (b : Fin 1024), i = ix2 a b := ⟨i 0, i 1, eq_ix2 i⟩
  rfl

theorem moment2' : val_main_v34 (F := Ideal) g' q' = G13 (F := Ideal) g' q' := funext fun i => by
  obtain ⟨a, b, rfl⟩ : ∃ (a : Fin 256) (b : Fin 1024), i = ix2 a b := ⟨i 0, i 1, eq_ix2 i⟩
  rfl

theorem change' : val_main_v47 (F := Ideal) w' g' p' q' = G11 (F := Ideal) g' p' q' w' := funext fun i => by
  obtain ⟨a, b, rfl⟩ : ∃ (a : Fin 256) (b : Fin 1024), i = ix2 a b := ⟨i 0, i 1, eq_ix2 i⟩
  rfl

end Entries

/-! ## The claims -/

theorem frame_reference : Cert.quiescent_Reference12Ideal := fun m ρ _ =>
  (θ_run _ _ _).mono (fun r h => ⟨fun c => (h c).2.2.2.2.2.2, sem_eq_zero_of_no_sems rfl r.2⟩) (Cert.Reference12Ideal.Value.run m ρ)

open Cert.Reference12Ideal.Read in
theorem algebraic : Cert.algebraic_Kernel12Ideal_Reference12Ideal := fun m ρ m' ρ' _ ha =>
  ⟨_, _, _, _, _, _, run m ρ,
    (θ_run _ _ _).mono (fun r h c => by
      obtain ⟨a0, a1, a2, a3, a4, a5, a6, a7⟩ := ha c
      obtain ⟨h0, h1, h2, h3, h4, h5, hk⟩ := h c
      exact ⟨(h0.trans (val_main_v23_eq _ _ _ _)).trans ((congr (congr (congr (congrArg val_main_v23 a0) a1) a2) a3).trans (change _ _ _ _)),
        (h1.trans (val_main_v4_eq _ _)).trans ((congr (congrArg val_main_v4 a1) a2).trans (moment1 _ _)),
        (h2.trans (val_main_v10_eq _ _)).trans ((congr (congrArg val_main_v10 a1) a3).trans (moment2 _ _)),
        (h3.trans (val_main_v47_eq _ _ _ _)).trans ((congr (congr (congr (congrArg val_main_v47 a4) a5) a6) a7).trans (change' _ _ _ _)),
        (h4.trans (val_main_v28_eq _ _)).trans ((congr (congrArg val_main_v28 a5) a6).trans (moment1' _ _)),
        (h5.trans (val_main_v34_eq _ _)).trans ((congr (congrArg val_main_v34 a5) a7).trans (moment2' _ _)), hk⟩)
      (Cert.Reference12Ideal.Value.run m' ρ')⟩

end Cert.Adam

end
-- ==== Proof.PairSums.lean ====
/-
  The sum of a core's own half of each gradient with the half that its pair sent: the core's number picks the half.
-/
module

public import proofs.«01_k».proof.Defs
public import proofs.«01_k».proof.Proof.Gen.Kernel13.Frame
public import proofs.«01_k».proof.Proof.Gen.Kernel13Ideal.Frame
public import proofs.«01_k».proof.Proof.Gen.Pre_core13
public import proofs.«01_k».proof.Proof.Gen.Reference13Ideal.Run
public import proofs.«01_k».proof.Proof.Gen.Reference13Ideal.Read
public import Idealize.ShloMosaic.Lib.Pointwise
public import Idealize.ShloMosaic.Lib.ValueIdx
public import Idealize.ShloMosaic.Lib.Pipeline.ValueKit
import Idealize.ShloMosaic.Lib.StableHlo.Predicate
import Idealize.ShloMosaic.Adequacy

@[expose] public section

set_option maxRecDepth 16384

noncomputable section

namespace Cert.PairSums

open Idealize.ShloMosaic Idealize.ShloMosaic.TcCoe Idealize.ShloMosaic.Tactic Idealize.SL.Sem

/-! ## The core's number is nought or one -/

theorem word_cases (v : BitVec 32) (h : IntOp.andi (IntOp.cmpi .sge v 0#32) (IntOp.cmpi .sle v 1#32) = 1#1) : v = 0#32 ∨ v = 1#32 := by
  have andi_one (a b : BitVec 1) : IntOp.andi a b = 1#1 → a = 1#1 ∧ b = 1#1 := by revert a b; decide
  have ofBool_one (b : Bool) : BitVec.ofBool b = 1#1 → b = true := by revert b; decide
  obtain ⟨h0, h1⟩ := andi_one _ _ h
  rw [WordCmp.cmpi_sge_eq] at h0
  rw [WordCmp.cmpi_sle_eq] at h1
  have h0 := of_decide_eq_true (ofBool_one _ h0)
  have h1 := of_decide_eq_true (ofBool_one _ h1)
  have e0 : (0#32).toInt = 0 := rfl
  have e1 : (1#32).toInt = 1 := rfl
  rw [e0] at h0
  rw [e1] at h1
  rcases (show v.toInt = 0 ∨ v.toInt = 1 by omega) with h | h
  · exact .inl (BitVec.eq_of_toInt_eq h)
  · exact .inr (BitVec.eq_of_toInt_eq h)

section Bits
open Cert.Kernel13 Cert.Kernel13.Gen

/-- The table that holds the one word `v`. -/
def one (v : BitVec 32) : pre0.Contents (Elt Bits) := fun | ⟨0, _⟩ => fun _ => v | ⟨_ + 1, h⟩ => absurd h (by simp)

theorem ok_one : ok0 (one 0#32) ∧ ok0 (one 1#32) := by constructor <;> decide +kernel

theorem ok (m : (ℓ : Loc nD τ sig) → Buf (Elt Bits) ℓ) (h : Cert.Pre_Kernel13 m) : Ok (F := Bits) m := by
  have e : tbl m = one ((m (((0 : Dev nD) : Thread nD τ).loc main_arg0) : S1.Idx → BitVec 32) (ix1 0)) := by
    funext j x
    match j with
    | ⟨0, _⟩ => exact congrArg (m (((0 : Dev nD) : Thread nD τ).loc main_arg0) : S1.Idx → BitVec 32) (by funext a; fin_cases a; exact Subsingleton.elim (α := Fin 1) _ _)
  rw [Ok, e]
  rcases word_cases _ (congrFun (h 0) (ix1 0)) with h | h
  · rw [h]; exact ok_one.1
  · rw [h]; exact ok_one.2

end Bits

open Cert.Kernel13Ideal Cert.Kernel13Ideal.Gen

variable (m : (ℓ : Loc nD τ sig) → Buf (Elt Ideal) ℓ) (c : Dev nD)

/-- The core's number. -/
def word : BitVec 32 := (m (((0 : Dev nD) : Thread nD τ).loc main_arg0) : S1.Idx → BitVec 32) (ix1 0)

def oneI (v : BitVec 32) : pre0.Contents (Elt Ideal) := fun | ⟨0, _⟩ => fun _ => v | ⟨_ + 1, h⟩ => absurd h (by simp)

theorem ok_oneI : ok0 (oneI 0#32) ∧ ok0 (oneI 1#32) := by constructor <;> decide +kernel

theorem tbl_eq : tbl m = oneI (word m) := by
  funext j x
  match j with
  | ⟨0, _⟩ => exact congrArg (m (((0 : Dev nD) : Thread nD τ).loc main_arg0) : S1.Idx → BitVec 32) (by funext a; fin_cases a; exact Subsingleton.elim (α := Fin 1) _ _)

theorem word_eq (h : Cert.Pre_Kernel13Ideal m) : word m = 0#32 ∨ word m = 1#32 := word_cases _ (congrFun (h 0) (ix1 0))

theorem okI (h : Cert.Pre_Kernel13Ideal m) : Ok (F := Ideal) m := by
  rw [Ok, tbl_eq]
  rcases word_eq m h with h | h
  · rw [h]; exact ok_oneI.1
  · rw [h]; exact ok_oneI.2

/-! ## Where the blocks lie -/

variable (hO : Ok m)

theorem coords_at (t : Fin grid0.N) : (BitVec.ofNat 32 (grid0.coords t 0).val).toNat = t.val / 4 ∧ (BitVec.ofNat 32 (grid0.coords t 1).val).toNat = t.val % 4 := by
  revert t; decide +kernel

theorem read_word (m : (ℓ : Loc nD τ sig) → Buf (Elt Ideal) ℓ) : ((tbl m).at 0 (Rect.unit (s := S1) ![0] S1.size inb_S1_S1_0) numel1_S1 : BitVec 32) = word m := by
  rw [tbl_eq]; rfl

theorem own_index (t : Fin (cfgM m hO).N) : cc0_transform_0 inb_S1_S1_0 numel1_S1 (tbl m) (grid0.coords t) = ![t.val / 4, (word m).toNat, t.val % 4, 0] := by
  unfold cc0_transform_0
  rw [read_word]
  dsimp only
  rw [(coords_at t).1, (coords_at t).2]
  rfl

theorem moved (t : Fin grid0.N) : cc0_transform_3 (grid0.coords t) = ![t.val / 4, t.val % 4, 0] := by
  unfold cc0_transform_3
  dsimp only
  rw [(coords_at t).1, (coords_at t).2]
  rfl

theorem moved' (t : Fin grid0.N) : cc0_transform_5 (grid0.coords t) = ![t.val / 4, t.val % 4, 0] := moved t

/-! ## What a point writes -/

theorem pay1_at (a : Vec Ideal S1x1x128x704 .f32) (b : Vec Ideal S1x128x704 .f32) (r : Fin 128) (j : Fin 704) :
    k0_pay1 a b (ix3 0 r j) = a (ix4 0 0 r j) + b (ix3 0 r j) := by
  unfold k0_pay1; pointwise

theorem pay2_at (a : Vec Ideal S1x1x128x704 .f32) (b : Vec Ideal S1x128x704 .f32) (r : Fin 128) (j : Fin 704) :
    k0_pay2 a b (ix3 0 r j) = a (ix4 0 0 r j) + b (ix3 0 r j) := by
  unfold k0_pay2; pointwise

theorem pay3_at (a : Vec Ideal S1x1x88x1024 .f32) (b : Vec Ideal S1x88x1024 .f32) (r : Fin 88) (j : Fin 1024) :
    k0_pay3 a b (ix3 0 r j) = a (ix4 0 0 r j) + b (ix3 0 r j) := by
  unfold k0_pay3; pointwise

theorem hz3 : (![0, 0, 0] : Fin 3 → Nat) = fun _ => 0 := funext fun a => by fin_cases a <;> rfl
theorem hz4 : (![0, 0, 0, 0] : Fin 4 → Nat) = fun _ => 0 := funext fun a => by fin_cases a <;> rfl

section Point

variable (i : grid0.Coords) {a0 : Memref sig .tc .vmem S1x1x128x704 .f32} (h0 : a0.IsWhole) {a1 : Memref sig .tc .vmem S1x1x128x704 .f32} (h1 : a1.IsWhole) {a2 : Memref sig .tc .vmem S1x1x88x1024 .f32} (h2 : a2.IsWhole)
   {a3 : Memref sig .tc .vmem S1x128x704 .f32} (h3 : a3.IsWhole) {a4 : Memref sig .tc .vmem S1x128x704 .f32} (h4 : a4.IsWhole) {a5 : Memref sig .tc .vmem S1x88x1024 .f32} (h5 : a5.IsWhole)
   {a6 : Memref sig .tc .vmem S1x128x704 .f32} (h6 : a6.IsWhole) {a7 : Memref sig .tc .vmem S1x128x704 .f32} (h7 : a7.IsWhole) {a8 : Memref sig .tc .vmem S1x88x1024 .f32} (h8 : a8.IsWhole)
  (x0 : Vec Ideal S1x1x128x704 .f32) (x1 : Vec Ideal S1x1x128x704 .f32) (x2 : Vec Ideal S1x1x88x1024 .f32) (x3 : Vec Ideal S1x128x704 .f32) (x4 : Vec Ideal S1x128x704 .f32) (x5 : Vec Ideal S1x88x1024 .f32) (v : TbBuf0 (F := Ideal) c tbM0_0)

theorem out6 : out0_A_6 c i _ h0 _ h1 _ h2 _ h3 _ h4 _ h5 _ h6 _ h7 _ h8 x0 x1 x2 x3 x4 x5 v = k0_pay1 x0 x3 := by
  unfold out0_A_6
  rw [View.read_writes_eq_canon _ _ _ (cover0_A_6 c i _ h0 _ h1 _ h2 _ h3 _ h4 _ h5 _ h6 _ h7 _ h8 x0 x1 x2 x3 x4 x5 v)]
  unfold kernelRun0_A
  dsimp only
  rw [View.canon_unit_zero hz3]
  simp only [View.readAt_eq_ld, h0.read_unread, h3.read_unread, View.ld_unit_zero (S := S1x1x128x704) hz4, View.ld_unit_zero (S := S1x128x704) hz3, shapeCast_self]

theorem out7 : out0_A_7 c i _ h0 _ h1 _ h2 _ h3 _ h4 _ h5 _ h6 _ h7 _ h8 x0 x1 x2 x3 x4 x5 v = k0_pay2 x1 x4 := by
  unfold out0_A_7
  rw [View.read_writes_eq_canon _ _ _ (cover0_A_7 c i _ h0 _ h1 _ h2 _ h3 _ h4 _ h5 _ h6 _ h7 _ h8 x0 x1 x2 x3 x4 x5 v)]
  unfold kernelRun0_A
  dsimp only
  rw [View.canon_unit_zero hz3]
  simp only [View.readAt_eq_ld, h1.read_unread, h4.read_unread, View.ld_unit_zero (S := S1x1x128x704) hz4, View.ld_unit_zero (S := S1x128x704) hz3, shapeCast_self]

theorem out8 : out0_A_8 c i _ h0 _ h1 _ h2 _ h3 _ h4 _ h5 _ h6 _ h7 _ h8 x0 x1 x2 x3 x4 x5 v = k0_pay3 x2 x5 := by
  unfold out0_A_8
  rw [View.read_writes_eq_canon _ _ _ (cover0_A_8 c i _ h0 _ h1 _ h2 _ h3 _ h4 _ h5 _ h6 _ h7 _ h8 x0 x1 x2 x3 x4 x5 v)]
  unfold kernelRun0_A
  dsimp only
  rw [View.canon_unit_zero hz3]
  simp only [View.readAt_eq_ld, h2.read_unread, h5.read_unread, View.ld_unit_zero (S := S1x1x88x1024) hz4, View.ld_unit_zero (S := S1x88x1024) hz3, shapeCast_self]

end Point

theorem after6 (t : Fin (cfgM m hO).N) : (outsAt0 m hO c t).1 = k0_pay1 (iblk m hO c 0 t) (iblk m hO c 3 t) := by
  have h := out6 c (grid0.coords t) (hs0_0 m hO t) (hs0_1 m hO t) (hs0_2 m hO t) (hs0_3 m hO t) (hs0_4 m hO t) (hs0_5 m hO t) (hs0_6 m hO t) (hs0_7 m hO t) (hs0_8 m hO t) (iblk m hO c 0 t) (iblk m hO c 1 t) (iblk m hO c 2 t) (iblk m hO c 3 t) (iblk m hO c 4 t) (iblk m hO c 5 t) (tbl m 0)
  unfold outsAt0
  dsimp only
  exact h

theorem after7 (t : Fin (cfgM m hO).N) : (outsAt0 m hO c t).2.1 = k0_pay2 (iblk m hO c 1 t) (iblk m hO c 4 t) := by
  have h := out7 c (grid0.coords t) (hs0_0 m hO t) (hs0_1 m hO t) (hs0_2 m hO t) (hs0_3 m hO t) (hs0_4 m hO t) (hs0_5 m hO t) (hs0_6 m hO t) (hs0_7 m hO t) (hs0_8 m hO t) (iblk m hO c 0 t) (iblk m hO c 1 t) (iblk m hO c 2 t) (iblk m hO c 3 t) (iblk m hO c 4 t) (iblk m hO c 5 t) (tbl m 0)
  unfold outsAt0
  dsimp only
  exact h

theorem after8 (t : Fin (cfgM m hO).N) : (outsAt0 m hO c t).2.2 = k0_pay3 (iblk m hO c 2 t) (iblk m hO c 5 t) := by
  have h := out8 c (grid0.coords t) (hs0_0 m hO t) (hs0_1 m hO t) (hs0_2 m hO t) (hs0_3 m hO t) (hs0_4 m hO t) (hs0_5 m hO t) (hs0_6 m hO t) (hs0_7 m hO t) (hs0_8 m hO t) (iblk m hO c 0 t) (iblk m hO c 1 t) (iblk m hO c 2 t) (iblk m hO c 3 t) (iblk m hO c 4 t) (iblk m hO c 5 t) (tbl m 0)
  unfold outsAt0
  dsimp only
  exact h

/-! ## The sums, entry by entry -/

/-- Own half `k` of an array, and the half that came. -/
def S (k : Fin 2) {a b : ℕ} (p : (⟨4, ![4, 2, a, b]⟩ : Shape).Idx → EReal) (g : (⟨3, ![4, a, b]⟩ : Shape).Idx → EReal) : (⟨3, ![4, a, b]⟩ : Shape).Idx → EReal :=
  fun i => p (ix4 (i 0) k (i 1) (i 2)) + g i

variable (k : Fin 2) (hk : (word m).toNat = k.val)

theorem covers6 : ((cfgM m hO).win 6).Covers := of_decide_eq_true (by sl_kernel_rfl)
theorem covers7 : ((cfgM m hO).win 7).Covers := of_decide_eq_true (by sl_kernel_rfl)
theorem covers8 : ((cfgM m hO).win 8).Covers := of_decide_eq_true (by sl_kernel_rfl)

theorem own_index1 (t : Fin (cfgM m hO).N) : cc0_transform_1 inb_S1_S1_0 numel1_S1 (tbl m) (grid0.coords t) = ![t.val / 4, (word m).toNat, t.val % 4, 0] := own_index m hO t

theorem own_index2 (t : Fin (cfgM m hO).N) : cc0_transform_2 inb_S1_S1_0 numel1_S1 (tbl m) (grid0.coords t) = ![t.val / 4, (word m).toNat, t.val % 4, 0] := own_index m hO t

theorem place4_128 (t n : ℕ) (k : Fin 2) (hn : n = k.val) (h4 : t / 4 < 4) (r : Fin 128) (hr : t % 4 * 128 + r.val < 512) (j : Fin 704) (a : Fin 4) :
    (![t / 4, n, t % 4, 0] : Fin 4 → ℕ) a * S1x1x128x704.size a + 1 * ((ix4 0 0 r j : S1x1x128x704.Idx) a).val
      = ((ix4 ⟨t / 4, h4⟩ k ⟨t % 4 * 128 + r.val, hr⟩ j : S4x2x512x704.Idx) a).val := by
  match a with
  | ⟨0, _⟩ => show t / 4 * 1 + 1 * 0 = t / 4; omega
  | ⟨1, _⟩ => show n * 1 + 1 * 0 = k.val; omega
  | ⟨2, _⟩ => show t % 4 * 128 + 1 * r.val = t % 4 * 128 + r.val; omega
  | ⟨3, _⟩ => show 0 * 704 + 1 * j.val = j.val; omega

theorem place3_128 (t : ℕ) (h4 : t / 4 < 4) (r : Fin 128) (hr : t % 4 * 128 + r.val < 512) (j : Fin 704) (a : Fin 3) :
    (![t / 4, t % 4, 0] : Fin 3 → ℕ) a * S1x128x704.size a + 1 * ((ix3 0 r j : S1x128x704.Idx) a).val
      = ((ix3 ⟨t / 4, h4⟩ ⟨t % 4 * 128 + r.val, hr⟩ j : S4x512x704.Idx) a).val := by
  match a with
  | ⟨0, _⟩ => show t / 4 * 1 + 1 * 0 = t / 4; omega
  | ⟨1, _⟩ => show t % 4 * 128 + 1 * r.val = t % 4 * 128 + r.val; omega
  | ⟨2, _⟩ => show 0 * 704 + 1 * j.val = j.val; omega

theorem place4_88 (t n : ℕ) (k : Fin 2) (hn : n = k.val) (h4 : t / 4 < 4) (r : Fin 88) (hr : t % 4 * 88 + r.val < 352) (j : Fin 1024) (a : Fin 4) :
    (![t / 4, n, t % 4, 0] : Fin 4 → ℕ) a * S1x1x88x1024.size a + 1 * ((ix4 0 0 r j : S1x1x88x1024.Idx) a).val
      = ((ix4 ⟨t / 4, h4⟩ k ⟨t % 4 * 88 + r.val, hr⟩ j : S4x2x352x1024.Idx) a).val := by
  match a with
  | ⟨0, _⟩ => show t / 4 * 1 + 1 * 0 = t / 4; omega
  | ⟨1, _⟩ => show n * 1 + 1 * 0 = k.val; omega
  | ⟨2, _⟩ => show t % 4 * 88 + 1 * r.val = t % 4 * 88 + r.val; omega
  | ⟨3, _⟩ => show 0 * 1024 + 1 * j.val = j.val; omega

theorem place3_88 (t : ℕ) (h4 : t / 4 < 4) (r : Fin 88) (hr : t % 4 * 88 + r.val < 352) (j : Fin 1024) (a : Fin 3) :
    (![t / 4, t % 4, 0] : Fin 3 → ℕ) a * S1x88x1024.size a + 1 * ((ix3 0 r j : S1x88x1024.Idx) a).val
      = ((ix3 ⟨t / 4, h4⟩ ⟨t % 4 * 88 + r.val, hr⟩ j : S4x352x1024.Idx) a).val := by
  match a with
  | ⟨0, _⟩ => show t / 4 * 1 + 1 * 0 = t / 4; omega
  | ⟨1, _⟩ => show t % 4 * 88 + 1 * r.val = t % 4 * 88 + r.val; omega
  | ⟨2, _⟩ => show 0 * 1024 + 1 * j.val = j.val; omega

include hk in
theorem own0 (t : Fin (cfgM m hO).N) (h4 : t.val / 4 < 4) (r : Fin 128) (hr : t.val % 4 * 128 + r.val < 512) (j : Fin 704) :
    iblk m hO c 0 t (ix4 0 0 r j : S1x1x128x704.Idx) = (m ((c : Thread nD τ).loc main_arg1)) (ix4 ⟨t.val / 4, h4⟩ k ⟨t.val % 4 * 128 + r.val, hr⟩ j) := by
  show (m ((c : Thread nD τ).loc main_arg1)) ((((cfgM m hO).win 0).blk t).view.emb (ix4 0 0 r j : S1x1x128x704.Idx)) = _
  refine congrArg (m ((c : Thread nD τ).loc main_arg1)) (funext fun a => Fin.ext ?_)
  have e : ((((cfgM m hO).win 0).blk t).view.emb (ix4 0 0 r j : S1x1x128x704.Idx) a).val
      = cc0_transform_0 inb_S1_S1_0 numel1_S1 (tbl m) (grid0.coords t) a * S1x1x128x704.size a + 1 * ((ix4 0 0 r j : S1x1x128x704.Idx) a).val := rfl
  rw [e, own_index m hO t]
  exact place4_128 t.val _ k hk h4 r hr j a

theorem came3 (t : Fin (cfgM m hO).N) (h4 : t.val / 4 < 4) (r : Fin 128) (hr : t.val % 4 * 128 + r.val < 512) (j : Fin 704) :
    iblk m hO c 3 t (ix3 0 r j : S1x128x704.Idx) = (m ((c : Thread nD τ).loc main_arg4)) (ix3 ⟨t.val / 4, h4⟩ ⟨t.val % 4 * 128 + r.val, hr⟩ j) := by
  show (m ((c : Thread nD τ).loc main_arg4)) ((((cfgM m hO).win 3).blk t).view.emb (ix3 0 r j : S1x128x704.Idx)) = _
  refine congrArg (m ((c : Thread nD τ).loc main_arg4)) (funext fun a => Fin.ext ?_)
  have e : ((((cfgM m hO).win 3).blk t).view.emb (ix3 0 r j : S1x128x704.Idx) a).val
      = cc0_transform_3 (grid0.coords t) a * S1x128x704.size a + 1 * ((ix3 0 r j : S1x128x704.Idx) a).val := rfl
  rw [e, show cc0_transform_3 (grid0.coords t) = ![t.val / 4, t.val % 4, 0] from moved t]
  exact place3_128 t.val h4 r hr j a

include hk in
theorem final6 : (dats m hO 0 c).arrAt 6 (cfgM m hO).N = S k (m ((c : Thread nD τ).loc main_arg1)) (m ((c : Thread nD τ).loc main_arg4)) := by
  refine (dats m hO 0 c).arrAt_eq_of_covers 6 _ (covers6 m hO) fun t hf y => ?_
  have hN : t.val < 16 := lt_of_lt_of_eq t.isLt N_0
  have h4 : t.val / 4 < 4 := by omega
  obtain ⟨z, r, j, rfl⟩ : ∃ (z : Fin 1) (r : Fin 128) (j : Fin 704), y = (ix3 z r j : (⟨3, ![1, 128, 704]⟩ : Shape).Idx) := ⟨_, _, _, eq_ix3 (n0 := 1) (n1 := 128) (n2 := 704) y⟩
  obtain rfl : z = 0 := Subsingleton.elim _ _
  have hr : t.val % 4 * 128 + r.val < 512 := by omega
  have he : (((cfgM m hO).win 6).blk t).view.emb (ix3 0 r j : S1x128x704.Idx) = (ix3 ⟨t.val / 4, h4⟩ ⟨t.val % 4 * 128 + r.val, hr⟩ j : S4x512x704.Idx) := by
    funext a
    refine Fin.ext ?_
    have e : ((((cfgM m hO).win 6).blk t).view.emb (ix3 0 r j : S1x128x704.Idx) a).val
        = cc0_transform_6 (grid0.coords t) a * S1x128x704.size a + 1 * ((ix3 0 r j : S1x128x704.Idx) a).val := rfl
    rw [e, show cc0_transform_6 (grid0.coords t) = ![t.val / 4, t.val % 4, 0] from moved t]
    exact place3_128 t.val h4 r hr j a
  have hy : ((cfgM m hO).win 6).xinj (grid0.coords t) (ix3 0 r j : S1x128x704.Idx) = (ix3 0 r j : S1x128x704.Idx) := rfl
  refine (congrArg ((dats m hO 0 c).after 6 t) hy).trans ((congrFun ((after0_6 m hO c t).trans (after6 m c hO t)) (ix3 0 r j : S1x128x704.Idx)).trans ?_)
  refine ((pay1_at _ _ _ _).trans ?_).trans (congrArg (S k (m ((c : Thread nD τ).loc main_arg1)) (m ((c : Thread nD τ).loc main_arg4))) he).symm
  exact congrArg₂ (fun a b : EReal => a + b) (own0 m c hO k hk t h4 r hr j) (came3 m c hO t h4 r hr j)

include hk in
theorem own1 (t : Fin (cfgM m hO).N) (h4 : t.val / 4 < 4) (r : Fin 128) (hr : t.val % 4 * 128 + r.val < 512) (j : Fin 704) :
    iblk m hO c 1 t (ix4 0 0 r j : S1x1x128x704.Idx) = (m ((c : Thread nD τ).loc main_arg2)) (ix4 ⟨t.val / 4, h4⟩ k ⟨t.val % 4 * 128 + r.val, hr⟩ j) := by
  show (m ((c : Thread nD τ).loc main_arg2)) ((((cfgM m hO).win 1).blk t).view.emb (ix4 0 0 r j : S1x1x128x704.Idx)) = _
  refine congrArg (m ((c : Thread nD τ).loc main_arg2)) (funext fun a => Fin.ext ?_)
  have e : ((((cfgM m hO).win 1).blk t).view.emb (ix4 0 0 r j : S1x1x128x704.Idx) a).val
      = cc0_transform_1 inb_S1_S1_0 numel1_S1 (tbl m) (grid0.coords t) a * S1x1x128x704.size a + 1 * ((ix4 0 0 r j : S1x1x128x704.Idx) a).val := rfl
  rw [e, own_index1 m hO t]
  exact place4_128 t.val _ k hk h4 r hr j a

theorem came4 (t : Fin (cfgM m hO).N) (h4 : t.val / 4 < 4) (r : Fin 128) (hr : t.val % 4 * 128 + r.val < 512) (j : Fin 704) :
    iblk m hO c 4 t (ix3 0 r j : S1x128x704.Idx) = (m ((c : Thread nD τ).loc main_arg5)) (ix3 ⟨t.val / 4, h4⟩ ⟨t.val % 4 * 128 + r.val, hr⟩ j) := by
  show (m ((c : Thread nD τ).loc main_arg5)) ((((cfgM m hO).win 4).blk t).view.emb (ix3 0 r j : S1x128x704.Idx)) = _
  refine congrArg (m ((c : Thread nD τ).loc main_arg5)) (funext fun a => Fin.ext ?_)
  have e : ((((cfgM m hO).win 4).blk t).view.emb (ix3 0 r j : S1x128x704.Idx) a).val
      = cc0_transform_4 (grid0.coords t) a * S1x128x704.size a + 1 * ((ix3 0 r j : S1x128x704.Idx) a).val := rfl
  rw [e, show cc0_transform_4 (grid0.coords t) = ![t.val / 4, t.val % 4, 0] from moved t]
  exact place3_128 t.val h4 r hr j a

include hk in
theorem final7 : (dats m hO 0 c).arrAt 7 (cfgM m hO).N = S k (m ((c : Thread nD τ).loc main_arg2)) (m ((c : Thread nD τ).loc main_arg5)) := by
  refine (dats m hO 0 c).arrAt_eq_of_covers 7 _ (covers7 m hO) fun t hf y => ?_
  have hN : t.val < 16 := lt_of_lt_of_eq t.isLt N_0
  have h4 : t.val / 4 < 4 := by omega
  obtain ⟨z, r, j, rfl⟩ : ∃ (z : Fin 1) (r : Fin 128) (j : Fin 704), y = (ix3 z r j : (⟨3, ![1, 128, 704]⟩ : Shape).Idx) := ⟨_, _, _, eq_ix3 (n0 := 1) (n1 := 128) (n2 := 704) y⟩
  obtain rfl : z = 0 := Subsingleton.elim _ _
  have hr : t.val % 4 * 128 + r.val < 512 := by omega
  have he : (((cfgM m hO).win 7).blk t).view.emb (ix3 0 r j : S1x128x704.Idx) = (ix3 ⟨t.val / 4, h4⟩ ⟨t.val % 4 * 128 + r.val, hr⟩ j : S4x512x704.Idx) := by
    funext a
    refine Fin.ext ?_
    have e : ((((cfgM m hO).win 7).blk t).view.emb (ix3 0 r j : S1x128x704.Idx) a).val
        = cc0_transform_7 (grid0.coords t) a * S1x128x704.size a + 1 * ((ix3 0 r j : S1x128x704.Idx) a).val := rfl
    rw [e, show cc0_transform_7 (grid0.coords t) = ![t.val / 4, t.val % 4, 0] from moved t]
    exact place3_128 t.val h4 r hr j a
  have hy : ((cfgM m hO).win 7).xinj (grid0.coords t) (ix3 0 r j : S1x128x704.Idx) = (ix3 0 r j : S1x128x704.Idx) := rfl
  refine (congrArg ((dats m hO 0 c).after 7 t) hy).trans ((congrFun ((after0_7 m hO c t).trans (after7 m c hO t)) (ix3 0 r j : S1x128x704.Idx)).trans ?_)
  refine ((pay2_at _ _ _ _).trans ?_).trans (congrArg (S k (m ((c : Thread nD τ).loc main_arg2)) (m ((c : Thread nD τ).loc main_arg5))) he).symm
  exact congrArg₂ (fun a b : EReal => a + b) (own1 m c hO k hk t h4 r hr j) (came4 m c hO t h4 r hr j)

include hk in
theorem own2 (t : Fin (cfgM m hO).N) (h4 : t.val / 4 < 4) (r : Fin 88) (hr : t.val % 4 * 88 + r.val < 352) (j : Fin 1024) :
    iblk m hO c 2 t (ix4 0 0 r j : S1x1x88x1024.Idx) = (m ((c : Thread nD τ).loc main_arg3)) (ix4 ⟨t.val / 4, h4⟩ k ⟨t.val % 4 * 88 + r.val, hr⟩ j) := by
  show (m ((c : Thread nD τ).loc main_arg3)) ((((cfgM m hO).win 2).blk t).view.emb (ix4 0 0 r j : S1x1x88x1024.Idx)) = _
  refine congrArg (m ((c : Thread nD τ).loc main_arg3)) (funext fun a => Fin.ext ?_)
  have e : ((((cfgM m hO).win 2).blk t).view.emb (ix4 0 0 r j : S1x1x88x1024.Idx) a).val
      = cc0_transform_2 inb_S1_S1_0 numel1_S1 (tbl m) (grid0.coords t) a * S1x1x88x1024.size a + 1 * ((ix4 0 0 r j : S1x1x88x1024.Idx) a).val := rfl
  rw [e, own_index2 m hO t]
  exact place4_88 t.val _ k hk h4 r hr j a

theorem came5 (t : Fin (cfgM m hO).N) (h4 : t.val / 4 < 4) (r : Fin 88) (hr : t.val % 4 * 88 + r.val < 352) (j : Fin 1024) :
    iblk m hO c 5 t (ix3 0 r j : S1x88x1024.Idx) = (m ((c : Thread nD τ).loc main_arg6)) (ix3 ⟨t.val / 4, h4⟩ ⟨t.val % 4 * 88 + r.val, hr⟩ j) := by
  show (m ((c : Thread nD τ).loc main_arg6)) ((((cfgM m hO).win 5).blk t).view.emb (ix3 0 r j : S1x88x1024.Idx)) = _
  refine congrArg (m ((c : Thread nD τ).loc main_arg6)) (funext fun a => Fin.ext ?_)
  have e : ((((cfgM m hO).win 5).blk t).view.emb (ix3 0 r j : S1x88x1024.Idx) a).val
      = cc0_transform_5 (grid0.coords t) a * S1x88x1024.size a + 1 * ((ix3 0 r j : S1x88x1024.Idx) a).val := rfl
  rw [e, show cc0_transform_5 (grid0.coords t) = ![t.val / 4, t.val % 4, 0] from moved t]
  exact place3_88 t.val h4 r hr j a

include hk in
theorem final8 : (dats m hO 0 c).arrAt 8 (cfgM m hO).N = S k (m ((c : Thread nD τ).loc main_arg3)) (m ((c : Thread nD τ).loc main_arg6)) := by
  refine (dats m hO 0 c).arrAt_eq_of_covers 8 _ (covers8 m hO) fun t hf y => ?_
  have hN : t.val < 16 := lt_of_lt_of_eq t.isLt N_0
  have h4 : t.val / 4 < 4 := by omega
  obtain ⟨z, r, j, rfl⟩ : ∃ (z : Fin 1) (r : Fin 88) (j : Fin 1024), y = (ix3 z r j : (⟨3, ![1, 88, 1024]⟩ : Shape).Idx) := ⟨_, _, _, eq_ix3 (n0 := 1) (n1 := 88) (n2 := 1024) y⟩
  obtain rfl : z = 0 := Subsingleton.elim _ _
  have hr : t.val % 4 * 88 + r.val < 352 := by omega
  have he : (((cfgM m hO).win 8).blk t).view.emb (ix3 0 r j : S1x88x1024.Idx) = (ix3 ⟨t.val / 4, h4⟩ ⟨t.val % 4 * 88 + r.val, hr⟩ j : S4x352x1024.Idx) := by
    funext a
    refine Fin.ext ?_
    have e : ((((cfgM m hO).win 8).blk t).view.emb (ix3 0 r j : S1x88x1024.Idx) a).val
        = cc0_transform_8 (grid0.coords t) a * S1x88x1024.size a + 1 * ((ix3 0 r j : S1x88x1024.Idx) a).val := rfl
    rw [e, show cc0_transform_8 (grid0.coords t) = ![t.val / 4, t.val % 4, 0] from moved t]
    exact place3_88 t.val h4 r hr j a
  have hy : ((cfgM m hO).win 8).xinj (grid0.coords t) (ix3 0 r j : S1x88x1024.Idx) = (ix3 0 r j : S1x88x1024.Idx) := rfl
  refine (congrArg ((dats m hO 0 c).after 8 t) hy).trans ((congrFun ((after0_8 m hO c t).trans (after8 m c hO t)) (ix3 0 r j : S1x88x1024.Idx)).trans ?_)
  refine ((pay3_at _ _ _ _).trans ?_).trans (congrArg (S k (m ((c : Thread nD τ).loc main_arg3)) (m ((c : Thread nD τ).loc main_arg6))) he).symm
  exact congrArg₂ (fun a b : EReal => a + b) (own2 m c hO k hk t h4 r hr j) (came5 m c hO t h4 r hr j)

/-! ## The reference -/

section Reference
open Cert.Reference13Ideal.Read

theorem ref7 (k : Fin 2) (x0 : Vec Ideal S1 .i32) (p : Vec Ideal S4x2x512x704 .f32) (g : Vec Ideal S4x512x704 .f32) (h : x0 (ix1 0) = BitVec.ofNat 32 k.val) :
    val_main_v7 (F := Ideal) x0 p g = S k p g := by
  funext i
  obtain ⟨a, b, e, rfl⟩ : ∃ (a : Fin 4) (b : Fin 512) (e : Fin 704), i = ix3 a b e := ⟨i 0, i 1, i 2, eq_ix3 i⟩
  show _ = p (ix4 a k b e) + g (ix3 a b e)
  unfold val_main_v7 val_main_v6 val_main_v5 val_main_v4 val_main_v3 val_main_v2 val_main_v1 val_main_c val_main_v0
  pointwise
  rw [h]
  match k with
  | ⟨0, _⟩ => rfl
  | ⟨1, _⟩ => rfl

theorem ref15 (k : Fin 2) (x0 : Vec Ideal S1 .i32) (p : Vec Ideal S4x2x512x704 .f32) (g : Vec Ideal S4x512x704 .f32) (h : x0 (ix1 0) = BitVec.ofNat 32 k.val) :
    val_main_v15 (F := Ideal) x0 p g = S k p g := by
  funext i
  obtain ⟨a, b, e, rfl⟩ : ∃ (a : Fin 4) (b : Fin 512) (e : Fin 704), i = ix3 a b e := ⟨i 0, i 1, i 2, eq_ix3 i⟩
  show _ = p (ix4 a k b e) + g (ix3 a b e)
  unfold val_main_v15 val_main_v14 val_main_v13 val_main_v12 val_main_v11 val_main_v10 val_main_v9 val_main_c_0 val_main_v8
  pointwise
  rw [h]
  match k with
  | ⟨0, _⟩ => rfl
  | ⟨1, _⟩ => rfl

theorem ref23 (k : Fin 2) (x0 : Vec Ideal S1 .i32) (p : Vec Ideal S4x2x352x1024 .f32) (g : Vec Ideal S4x352x1024 .f32) (h : x0 (ix1 0) = BitVec.ofNat 32 k.val) :
    val_main_v23 (F := Ideal) x0 p g = S k p g := by
  funext i
  obtain ⟨a, b, e, rfl⟩ : ∃ (a : Fin 4) (b : Fin 352) (e : Fin 1024), i = ix3 a b e := ⟨i 0, i 1, i 2, eq_ix3 i⟩
  show _ = p (ix4 a k b e) + g (ix3 a b e)
  unfold val_main_v23 val_main_v22 val_main_v21 val_main_v20 val_main_v19 val_main_v18 val_main_v17 val_main_c_1 val_main_v16
  pointwise
  rw [h]
  match k with
  | ⟨0, _⟩ => rfl
  | ⟨1, _⟩ => rfl

end Reference

/-! ## The claims -/

theorem frame_reference : Cert.quiescent_Reference13Ideal := fun m ρ _ =>
  (θ_run _ _ _).mono (fun r h => ⟨fun c => (h c).2.2.2, sem_eq_zero_of_no_sems rfl r.2⟩) (Cert.Reference13Ideal.Value.run m ρ)

theorem run (m : (ℓ : Loc nD τ sig) → Buf (Elt Ideal) ℓ) (ρ : Dev nD → PrngReg) (hO : Ok m) (k : Fin 2) (hk : (word m).toNat = k.val) :
    θ_run defs (onTc (τ := τ) (main (F := Ideal))) ⟨m, fun _ => 0, ρ⟩ (fun r => ∀ c : Dev nD,
      (r.2.mem ((c : Thread nD τ).loc main_v0_0) = S k (m ((c : Thread nD τ).loc main_arg1)) (m ((c : Thread nD τ).loc main_arg4))
      ∧ r.2.mem ((c : Thread nD τ).loc main_v0_1) = S k (m ((c : Thread nD τ).loc main_arg2)) (m ((c : Thread nD τ).loc main_arg5))
      ∧ r.2.mem ((c : Thread nD τ).loc main_v0_2) = S k (m ((c : Thread nD τ).loc main_arg3)) (m ((c : Thread nD τ).loc main_arg6)))) :=
  (θ_run defs _ _).mono (fun r h c => ⟨((h c).1 6).trans (final6 m c hO k hk), ((h c).1 7).trans (final7 m c hO k hk),
    ((h c).1 8).trans (final8 m c hO k hk)⟩) (run_main m ρ hO)

theorem half (h : Cert.Pre_Kernel13Ideal m) : ∃ k : Fin 2, word m = BitVec.ofNat 32 k.val ∧ (word m).toNat = k.val := by
  rcases word_eq m h with h | h
  · exact ⟨0, h, by rw [h]; rfl⟩
  · exact ⟨1, h, by rw [h]; rfl⟩

open Cert.Reference13Ideal.Read in
theorem algebraic : Cert.algebraic_Kernel13Ideal_Reference13Ideal := fun m ρ m' ρ' hp ha => by
  obtain ⟨k, hw, hk⟩ := half m hp
  refine ⟨fun c => S k (m ((c : Thread nD τ).loc main_arg1)) (m ((c : Thread nD τ).loc main_arg4)),
    fun c => S k (m ((c : Thread nD τ).loc main_arg2)) (m ((c : Thread nD τ).loc main_arg5)),
    fun c => S k (m ((c : Thread nD τ).loc main_arg3)) (m ((c : Thread nD τ).loc main_arg6)), ?_, ?_⟩
  · exact (θ_run defs _ _).mono (fun r h c => ⟨(h.1 c).1, (h.1 c).2.1, (h.1 c).2.2, h.2 c⟩)
      (θ_run_and (run m ρ (okI m hp) k hk) (unchanged m ρ (okI m hp)))
  · refine (θ_run _ _ _).mono (fun r h c => ?_) (Cert.Reference13Ideal.Value.run m' ρ')
    obtain ⟨a0, a1, a2, a3, a4, a5, a6⟩ := ha c
    obtain ⟨h0, h1, h2, hr⟩ := h c
    have hc : c = (0 : Dev nD) := Subsingleton.elim (α := Fin 1) _ _
    have hw' : (m ((c : Thread nD τ).loc main_arg0) : Vec Ideal S1 .i32) (ix1 0) = BitVec.ofNat 32 k.val := by rw [hc]; exact hw
    exact ⟨(h0.trans (val_main_v7_eq _ _ _)).trans ((congr (congr (congrArg val_main_v7 a0) a1) a4).trans (ref7 k _ _ _ hw')),
      (h1.trans (val_main_v15_eq _ _ _)).trans ((congr (congr (congrArg val_main_v15 a0) a2) a5).trans (ref15 k _ _ _ hw')),
      (h2.trans (val_main_v23_eq _ _ _)).trans ((congr (congr (congrArg val_main_v23 a0) a3) a6).trans (ref23 k _ _ _ hw')), hr⟩

end Cert.PairSums

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Head
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite3
public import proofs.«01_k».proof.Proof.Gen.Kernel3Ideal.Value
public import proofs.«01_k».proof.Proof.Gen.Reference3Ideal.Run
public import proofs.«01_k».proof.Proof.Gen.Reference3Ideal.Read
public import proofs.«01_k».proof.Proof.Loss
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Pre_finite4
public import proofs.«01_k».proof.Proof.Gen.Kernel4Ideal.Value
public import proofs.«01_k».proof.Proof.Gen.Reference4Ideal.Run
public import proofs.«01_k».proof.Proof.Gen.Reference4Ideal.Read
public import proofs.«01_k».proof.Proof.Layer
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Conv
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Pre_finite6
public import proofs.«01_k».proof.Proof.Gen.Kernel6Ideal.Value
public import proofs.«01_k».proof.Proof.Gen.Reference6Ideal.Run
public import proofs.«01_k».proof.Proof.Gen.Reference6Ideal.Read
public import proofs.«01_k».proof.Proof.Attn
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Pre_finite7
public import proofs.«01_k».proof.Proof.Gen.Kernel7Ideal.Value
public import proofs.«01_k».proof.Proof.Gen.Reference7Ideal.Run
public import proofs.«01_k».proof.Proof.Gen.Reference7Ideal.Read
public import proofs.«01_k».proof.Proof.Feed
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.Gate
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.Tail
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Reference10Ideal.Read
public import proofs.«01_k».proof.Proof.WeightTN
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.Gen.Reference11Ideal.Read
public import proofs.«01_k».proof.Proof.WeightNN
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.Gen.Reference12Ideal.Read
public import proofs.«01_k».proof.Proof.Adam
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Pre_core13
public import proofs.«01_k».proof.Proof.Gen.Reference13Ideal.Run
public import proofs.«01_k».proof.Proof.Gen.Reference13Ideal.Read
public import proofs.«01_k».proof.Proof.PairSums
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Pre_finite.Gen.facts, Cert.Pre_finite3.Gen.facts, Cert.Pre_finite4.Gen.facts, Cert.Pre_finite6.Gen.facts, Cert.Pre_finite7.Gen.facts, Cert.Pre_core13.Gen.facts,
    fun m ρ _ => Cert.Kernel.Gen.frame m ρ,
    fun m ρ _ => Cert.KernelIdeal.Gen.frame m ρ,
    fun m ρ _ => Cert.KernelIdeal.Gen.frame m ρ,
    Cert.Head.frame_reference,
    fun m ρ _ => Cert.Head.frame_reference m ρ trivial,
    fun m ρ _ => Cert.Kernel3.Gen.frame m ρ,
    fun m ρ _ => Cert.Kernel3Ideal.Gen.frame m ρ,
    fun m ρ _ => Cert.Kernel3Ideal.Gen.frame m ρ,
    Cert.Loss.frame_reference,
    fun m ρ _ => Cert.Loss.frame_reference m ρ trivial,
    fun m ρ _ => Cert.Kernel4.Gen.frame m ρ,
    fun m ρ _ => Cert.Kernel4Ideal.Gen.frame m ρ,
    fun m ρ _ => Cert.Kernel4Ideal.Gen.frame m ρ,
    Cert.Layer.frame_reference,
    fun m ρ _ => Cert.Layer.frame_reference m ρ trivial,
    fun m ρ _ => Cert.Kernel5.Gen.frame m ρ,
    fun m ρ _ => Cert.Kernel5Ideal.Gen.frame m ρ,
    Cert.Conv.frame_reference,
    fun m ρ _ => Cert.Kernel6.Gen.frame m ρ,
    fun m ρ _ => Cert.Kernel6Ideal.Gen.frame m ρ,
    fun m ρ _ => Cert.Kernel6Ideal.Gen.frame m ρ,
    Cert.Attn.frame_reference,
    fun m ρ _ => Cert.Attn.frame_reference m ρ trivial,
    fun m ρ _ => Cert.Kernel7.Gen.frame m ρ,
    fun m ρ _ => Cert.Kernel7Ideal.Gen.frame m ρ,
    fun m ρ _ => Cert.Kernel7Ideal.Gen.frame m ρ,
    Cert.Feed.frame_reference,
    fun m ρ _ => Cert.Feed.frame_reference m ρ trivial,
    fun m ρ _ => Cert.Kernel8.Gen.frame m ρ,
    fun m ρ _ => Cert.Kernel8Ideal.Gen.frame m ρ,
    Cert.Gate.frame_reference,
    fun m ρ _ => Cert.Kernel9.Gen.frame m ρ,
    fun m ρ _ => Cert.Kernel9Ideal.Gen.frame m ρ,
    Cert.Tail.frame_reference,
    fun m ρ _ => Cert.Kernel10.Gen.frame m ρ,
    fun m ρ _ => Cert.Kernel10Ideal.Gen.frame m ρ,
    Cert.WeightTN.frame_reference,
    fun m ρ _ => Cert.Kernel11.Gen.frame m ρ,
    fun m ρ _ => Cert.Kernel11Ideal.Gen.frame m ρ,
    Cert.WeightNN.frame_reference,
    fun m ρ _ => Cert.Kernel12.Gen.frame m ρ,
    fun m ρ _ => Cert.Kernel12Ideal.Gen.frame m ρ,
    Cert.Adam.frame_reference,
    fun m ρ h => Cert.Kernel13.Gen.frame m ρ (Cert.PairSums.ok m h),
    fun m ρ h => Cert.Kernel13Ideal.Gen.frame m ρ (Cert.PairSums.okI m h),
    Cert.PairSums.frame_reference,
    fun m ρ _ => Cert.PairSums.frame_reference m ρ trivial,
    trivial,
    Cert.Head.algebraic,
    trivial,
    Cert.Loss.algebraic,
    trivial,
    Cert.Layer.algebraic,
    trivial,
    Cert.Conv.algebraic,
    Cert.Attn.preserves,
    Cert.Attn.algebraic,
    trivial,
    Cert.Feed.algebraic,
    trivial,
    Cert.Gate.algebraic,
    trivial,
    Cert.Tail.algebraic,
    trivial,
    Cert.WeightTN.algebraic,
    trivial,
    Cert.WeightNN.algebraic,
    trivial,
    Cert.Adam.algebraic,
    trivial,
    Cert.PairSums.algebraic⟩

end Cert.Proof

end
